-- ==== Defs.lean ====
def Pre_AttnGate (m : (ℓ : Loc Cert.AttnGate.nD Cert.AttnGate.τ Cert.AttnGate.sig) → Buf (Elt Bits) ℓ) : Prop :=
  True

def Pre_AttnGateIdeal (m : (ℓ : Loc Cert.AttnGateIdeal.nD Cert.AttnGateIdeal.τ Cert.AttnGateIdeal.sig) → Buf (Elt Ideal) ℓ) : Prop :=
  True

def Pre_AttnGateIdeal_attn_gate_finite [hPre_attn_gate_finite : Cert.Pre_attn_gate_finite.Facts] (m : (ℓ : Loc Cert.AttnGateIdeal.nD Cert.AttnGateIdeal.τ Cert.AttnGateIdeal.sig) → Buf (Elt Ideal) ℓ) : Prop :=
  ∀ c : Dev Cert.AttnGateIdeal.nD,
    (Cert.Pre_attn_gate_finite.fn (F := Ideal) (m ((c.tc : Thread Cert.AttnGateIdeal.nD Cert.AttnGateIdeal.τ).loc Cert.AttnGateIdeal.main_arg0)) (m ((c.tc : Thread Cert.AttnGateIdeal.nD Cert.AttnGateIdeal.τ).loc Cert.AttnGateIdeal.main_arg1)) (m ((c.tc : Thread Cert.AttnGateIdeal.nD Cert.AttnGateIdeal.τ).loc Cert.AttnGateIdeal.main_arg2)) (m ((c.tc : Thread Cert.AttnGateIdeal.nD Cert.AttnGateIdeal.τ).loc Cert.AttnGateIdeal.main_arg3))) = (fun _ => 1#1)

def Pre_AttnGateRefIdeal (m : (ℓ : Loc Cert.AttnGateRefIdeal.nD Cert.AttnGateRefIdeal.τ Cert.AttnGateRefIdeal.sig) → Buf (Elt Ideal) ℓ) : Prop :=
  True

def Pre_AttnGateRefIdeal_attn_gate_finite [hPre_attn_gate_finite : Cert.Pre_attn_gate_finite.Facts] (m : (ℓ : Loc Cert.AttnGateRefIdeal.nD Cert.AttnGateRefIdeal.τ Cert.AttnGateRefIdeal.sig) → Buf (Elt Ideal) ℓ) : Prop :=
  ∀ c : Dev Cert.AttnGateRefIdeal.nD,
    (Cert.Pre_attn_gate_finite.fn (F := Ideal) (m ((c.tc : Thread Cert.AttnGateRefIdeal.nD Cert.AttnGateRefIdeal.τ).loc Cert.AttnGateRefIdeal.main_arg0)) (m ((c.tc : Thread Cert.AttnGateRefIdeal.nD Cert.AttnGateRefIdeal.τ).loc Cert.AttnGateRefIdeal.main_arg1)) (m ((c.tc : Thread Cert.AttnGateRefIdeal.nD Cert.AttnGateRefIdeal.τ).loc Cert.AttnGateRefIdeal.main_arg2)) (m ((c.tc : Thread Cert.AttnGateRefIdeal.nD Cert.AttnGateRefIdeal.τ).loc Cert.AttnGateRefIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def quiescent_AttnGate [hAttnGate : Cert.AttnGate.Facts] : Prop :=
  ∀ (m : (ℓ : Loc Cert.AttnGate.nD Cert.AttnGate.τ Cert.AttnGate.sig) → Buf (Elt Bits) ℓ) (g : Dev Cert.AttnGate.nD → PrngReg), Pre_AttnGate m →
    θ_run (Cert.AttnGate.defs (F := Bits)) (onTc (τ := Cert.AttnGate.τ) (Cert.AttnGate.main (F := Bits))) ⟨m, fun _ => 0, g⟩ (fun r => (∀ c : Dev Cert.AttnGate.nD,
      r.2.mem ((c.tc : Thread Cert.AttnGate.nD Cert.AttnGate.τ).loc Cert.AttnGate.main_arg0) = m ((c.tc : Thread Cert.AttnGate.nD Cert.AttnGate.τ).loc Cert.AttnGate.main_arg0)
      ∧ r.2.mem ((c.tc : Thread Cert.AttnGate.nD Cert.AttnGate.τ).loc Cert.AttnGate.main_arg1) = m ((c.tc : Thread Cert.AttnGate.nD Cert.AttnGate.τ).loc Cert.AttnGate.main_arg1)
      ∧ r.2.mem ((c.tc : Thread Cert.AttnGate.nD Cert.AttnGate.τ).loc Cert.AttnGate.main_arg2) = m ((c.tc : Thread Cert.AttnGate.nD Cert.AttnGate.τ).loc Cert.AttnGate.main_arg2)
      ∧ r.2.mem ((c.tc : Thread Cert.AttnGate.nD Cert.AttnGate.τ).loc Cert.AttnGate.main_arg3) = m ((c.tc : Thread Cert.AttnGate.nD Cert.AttnGate.τ).loc Cert.AttnGate.main_arg3))
      ∧ r.2.sem = fun _ => 0)

def quiescent_AttnGateIdeal [hAttnGateIdeal : Cert.AttnGateIdeal.Facts] : Prop :=
  ∀ (m : (ℓ : Loc Cert.AttnGateIdeal.nD Cert.AttnGateIdeal.τ Cert.AttnGateIdeal.sig) → Buf (Elt Ideal) ℓ) (g : Dev Cert.AttnGateIdeal.nD → PrngReg), Pre_AttnGateIdeal m →
    θ_run (Cert.AttnGateIdeal.defs (F := Ideal)) (onTc (τ := Cert.AttnGateIdeal.τ) (Cert.AttnGateIdeal.main (F := Ideal))) ⟨m, fun _ => 0, g⟩ (fun r => (∀ c : Dev Cert.AttnGateIdeal.nD,
      r.2.mem ((c.tc : Thread Cert.AttnGateIdeal.nD Cert.AttnGateIdeal.τ).loc Cert.AttnGateIdeal.main_arg0) = m ((c.tc : Thread Cert.AttnGateIdeal.nD Cert.AttnGateIdeal.τ).loc Cert.AttnGateIdeal.main_arg0)
      ∧ r.2.mem ((c.tc : Thread Cert.AttnGateIdeal.nD Cert.AttnGateIdeal.τ).loc Cert.AttnGateIdeal.main_arg1) = m ((c.tc : Thread Cert.AttnGateIdeal.nD Cert.AttnGateIdeal.τ).loc Cert.AttnGateIdeal.main_arg1)
      ∧ r.2.mem ((c.tc : Thread Cert.AttnGateIdeal.nD Cert.AttnGateIdeal.τ).loc Cert.AttnGateIdeal.main_arg2) = m ((c.tc : Thread Cert.AttnGateIdeal.nD Cert.AttnGateIdeal.τ).loc Cert.AttnGateIdeal.main_arg2)
      ∧ r.2.mem ((c.tc : Thread Cert.AttnGateIdeal.nD Cert.AttnGateIdeal.τ).loc Cert.AttnGateIdeal.main_arg3) = m ((c.tc : Thread Cert.AttnGateIdeal.nD Cert.AttnGateIdeal.τ).loc Cert.AttnGateIdeal.main_arg3))
      ∧ r.2.sem = fun _ => 0)

def quiescent_AttnGateIdeal_pre_attn_gate_finite [hAttnGateIdeal : Cert.AttnGateIdeal.Facts] [hPre_attn_gate_finite : Cert.Pre_attn_gate_finite.Facts] : Prop :=
  ∀ (m : (ℓ : Loc Cert.AttnGateIdeal.nD Cert.AttnGateIdeal.τ Cert.AttnGateIdeal.sig) → Buf (Elt Ideal) ℓ) (g : Dev Cert.AttnGateIdeal.nD → PrngReg), Pre_AttnGateIdeal_attn_gate_finite m →
    θ_run (Cert.AttnGateIdeal.defs (F := Ideal)) (onTc (τ := Cert.AttnGateIdeal.τ) (Cert.AttnGateIdeal.main (F := Ideal))) ⟨m, fun _ => 0, g⟩ (fun r => (∀ c : Dev Cert.AttnGateIdeal.nD,
      r.2.mem ((c.tc : Thread Cert.AttnGateIdeal.nD Cert.AttnGateIdeal.τ).loc Cert.AttnGateIdeal.main_arg0) = m ((c.tc : Thread Cert.AttnGateIdeal.nD Cert.AttnGateIdeal.τ).loc Cert.AttnGateIdeal.main_arg0)
      ∧ r.2.mem ((c.tc : Thread Cert.AttnGateIdeal.nD Cert.AttnGateIdeal.τ).loc Cert.AttnGateIdeal.main_arg1) = m ((c.tc : Thread Cert.AttnGateIdeal.nD Cert.AttnGateIdeal.τ).loc Cert.AttnGateIdeal.main_arg1)
      ∧ r.2.mem ((c.tc : Thread Cert.AttnGateIdeal.nD Cert.AttnGateIdeal.τ).loc Cert.AttnGateIdeal.main_arg2) = m ((c.tc : Thread Cert.AttnGateIdeal.nD Cert.AttnGateIdeal.τ).loc Cert.AttnGateIdeal.main_arg2)
      ∧ r.2.mem ((c.tc : Thread Cert.AttnGateIdeal.nD Cert.AttnGateIdeal.τ).loc Cert.AttnGateIdeal.main_arg3) = m ((c.tc : Thread Cert.AttnGateIdeal.nD Cert.AttnGateIdeal.τ).loc Cert.AttnGateIdeal.main_arg3))
      ∧ r.2.sem = fun _ => 0)

def quiescent_AttnGateRefIdeal [hAttnGateRefIdeal : Cert.AttnGateRefIdeal.Facts] : Prop :=
  ∀ (m : (ℓ : Loc Cert.AttnGateRefIdeal.nD Cert.AttnGateRefIdeal.τ Cert.AttnGateRefIdeal.sig) → Buf (Elt Ideal) ℓ) (g : Dev Cert.AttnGateRefIdeal.nD → PrngReg), Pre_AttnGateRefIdeal m →
    θ_run (Cert.AttnGateRefIdeal.defs (F := Ideal)) (onTc (τ := Cert.AttnGateRefIdeal.τ) (Cert.AttnGateRefIdeal.main (F := Ideal))) ⟨m, fun _ => 0, g⟩ (fun r => (∀ c : Dev Cert.AttnGateRefIdeal.nD,
      r.2.mem ((c.tc : Thread Cert.AttnGateRefIdeal.nD Cert.AttnGateRefIdeal.τ).loc Cert.AttnGateRefIdeal.main_arg0) = m ((c.tc : Thread Cert.AttnGateRefIdeal.nD Cert.AttnGateRefIdeal.τ).loc Cert.AttnGateRefIdeal.main_arg0)
      ∧ r.2.mem ((c.tc : Thread Cert.AttnGateRefIdeal.nD Cert.AttnGateRefIdeal.τ).loc Cert.AttnGateRefIdeal.main_arg1) = m ((c.tc : Thread Cert.AttnGateRefIdeal.nD Cert.AttnGateRefIdeal.τ).loc Cert.AttnGateRefIdeal.main_arg1)
      ∧ r.2.mem ((c.tc : Thread Cert.AttnGateRefIdeal.nD Cert.AttnGateRefIdeal.τ).loc Cert.AttnGateRefIdeal.main_arg2) = m ((c.tc : Thread Cert.AttnGateRefIdeal.nD Cert.AttnGateRefIdeal.τ).loc Cert.AttnGateRefIdeal.main_arg2)
      ∧ r.2.mem ((c.tc : Thread Cert.AttnGateRefIdeal.nD Cert.AttnGateRefIdeal.τ).loc Cert.AttnGateRefIdeal.main_arg3) = m ((c.tc : Thread Cert.AttnGateRefIdeal.nD Cert.AttnGateRefIdeal.τ).loc Cert.AttnGateRefIdeal.main_arg3))
      ∧ r.2.sem = fun _ => 0)

def quiescent_AttnGateRefIdeal_pre_attn_gate_finite [hAttnGateRefIdeal : Cert.AttnGateRefIdeal.Facts] [hPre_attn_gate_finite : Cert.Pre_attn_gate_finite.Facts] : Prop :=
  ∀ (m : (ℓ : Loc Cert.AttnGateRefIdeal.nD Cert.AttnGateRefIdeal.τ Cert.AttnGateRefIdeal.sig) → Buf (Elt Ideal) ℓ) (g : Dev Cert.AttnGateRefIdeal.nD → PrngReg), Pre_AttnGateRefIdeal_attn_gate_finite m →
    θ_run (Cert.AttnGateRefIdeal.defs (F := Ideal)) (onTc (τ := Cert.AttnGateRefIdeal.τ) (Cert.AttnGateRefIdeal.main (F := Ideal))) ⟨m, fun _ => 0, g⟩ (fun r => (∀ c : Dev Cert.AttnGateRefIdeal.nD,
      r.2.mem ((c.tc : Thread Cert.AttnGateRefIdeal.nD Cert.AttnGateRefIdeal.τ).loc Cert.AttnGateRefIdeal.main_arg0) = m ((c.tc : Thread Cert.AttnGateRefIdeal.nD Cert.AttnGateRefIdeal.τ).loc Cert.AttnGateRefIdeal.main_arg0)
      ∧ r.2.mem ((c.tc : Thread Cert.AttnGateRefIdeal.nD Cert.AttnGateRefIdeal.τ).loc Cert.AttnGateRefIdeal.main_arg1) = m ((c.tc : Thread Cert.AttnGateRefIdeal.nD Cert.AttnGateRefIdeal.τ).loc Cert.AttnGateRefIdeal.main_arg1)
      ∧ r.2.mem ((c.tc : Thread Cert.AttnGateRefIdeal.nD Cert.AttnGateRefIdeal.τ).loc Cert.AttnGateRefIdeal.main_arg2) = m ((c.tc : Thread Cert.AttnGateRefIdeal.nD Cert.AttnGateRefIdeal.τ).loc Cert.AttnGateRefIdeal.main_arg2)
      ∧ r.2.mem ((c.tc : Thread Cert.AttnGateRefIdeal.nD Cert.AttnGateRefIdeal.τ).loc Cert.AttnGateRefIdeal.main_arg3) = m ((c.tc : Thread Cert.AttnGateRefIdeal.nD Cert.AttnGateRefIdeal.τ).loc Cert.AttnGateRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def preserves_AttnGate_AttnGateIdeal : Prop :=
  True

def algebraic_AttnGateIdeal_AttnGateRefIdeal_pre_attn_gate_finite [hAttnGateIdeal : Cert.AttnGateIdeal.Facts] [hAttnGateRefIdeal : Cert.AttnGateRefIdeal.Facts] [hPre_attn_gate_finite : Cert.Pre_attn_gate_finite.Facts] : Prop :=
  ∀ (m : (ℓ : Loc Cert.AttnGateIdeal.nD Cert.AttnGateIdeal.τ Cert.AttnGateIdeal.sig) → Buf (Elt Ideal) ℓ) (g : Dev Cert.AttnGateIdeal.nD → PrngReg)
    (m' : (ℓ : Loc Cert.AttnGateRefIdeal.nD Cert.AttnGateRefIdeal.τ Cert.AttnGateRefIdeal.sig) → Buf (Elt Ideal) ℓ) (g' : Dev Cert.AttnGateRefIdeal.nD → PrngReg), Pre_AttnGateIdeal_attn_gate_finite m →
    (∀ c : Dev Cert.AttnGateIdeal.nD,
      m' ((c.tc : Thread Cert.AttnGateRefIdeal.nD Cert.AttnGateRefIdeal.τ).loc Cert.AttnGateRefIdeal.main_arg0) = m ((c.tc : Thread Cert.AttnGateIdeal.nD Cert.AttnGateIdeal.τ).loc Cert.AttnGateIdeal.main_arg0)
      ∧ m' ((c.tc : Thread Cert.AttnGateRefIdeal.nD Cert.AttnGateRefIdeal.τ).loc Cert.AttnGateRefIdeal.main_arg1) = m ((c.tc : Thread Cert.AttnGateIdeal.nD Cert.AttnGateIdeal.τ).loc Cert.AttnGateIdeal.main_arg1)
      ∧ m' ((c.tc : Thread Cert.AttnGateRefIdeal.nD Cert.AttnGateRefIdeal.τ).loc Cert.AttnGateRefIdeal.main_arg2) = m ((c.tc : Thread Cert.AttnGateIdeal.nD Cert.AttnGateIdeal.τ).loc Cert.AttnGateIdeal.main_arg2)
      ∧ m' ((c.tc : Thread Cert.AttnGateRefIdeal.nD Cert.AttnGateRefIdeal.τ).loc Cert.AttnGateRefIdeal.main_arg3) = m ((c.tc : Thread Cert.AttnGateIdeal.nD Cert.AttnGateIdeal.τ).loc Cert.AttnGateIdeal.main_arg3)) →
    ∃ (v0 : (c : Dev Cert.AttnGateIdeal.nD) → Buf (Elt Ideal) ((c.tc : Thread Cert.AttnGateIdeal.nD Cert.AttnGateIdeal.τ).loc Cert.AttnGateIdeal.main_v6_0)) (v1 : (c : Dev Cert.AttnGateIdeal.nD) → Buf (Elt Ideal) ((c.tc : Thread Cert.AttnGateIdeal.nD Cert.AttnGateIdeal.τ).loc Cert.AttnGateIdeal.main_v6_1)),
      θ_run (Cert.AttnGateIdeal.defs (F := Ideal)) (onTc (τ := Cert.AttnGateIdeal.τ) (Cert.AttnGateIdeal.main (F := Ideal))) ⟨m, fun _ => 0, g⟩ (fun r => ∀ c : Dev Cert.AttnGateIdeal.nD,
          r.2.mem ((c.tc : Thread Cert.AttnGateIdeal.nD Cert.AttnGateIdeal.τ).loc Cert.AttnGateIdeal.main_v6_0) = v0 c
          ∧ r.2.mem ((c.tc : Thread Cert.AttnGateIdeal.nD Cert.AttnGateIdeal.τ).loc Cert.AttnGateIdeal.main_v6_1) = v1 c
          ∧ r.2.mem ((c.tc : Thread Cert.AttnGateIdeal.nD Cert.AttnGateIdeal.τ).loc Cert.AttnGateIdeal.main_arg0) = m ((c.tc : Thread Cert.AttnGateIdeal.nD Cert.AttnGateIdeal.τ).loc Cert.AttnGateIdeal.main_arg0)
          ∧ r.2.mem ((c.tc : Thread Cert.AttnGateIdeal.nD Cert.AttnGateIdeal.τ).loc Cert.AttnGateIdeal.main_arg1) = m ((c.tc : Thread Cert.AttnGateIdeal.nD Cert.AttnGateIdeal.τ).loc Cert.AttnGateIdeal.main_arg1)
          ∧ r.2.mem ((c.tc : Thread Cert.AttnGateIdeal.nD Cert.AttnGateIdeal.τ).loc Cert.AttnGateIdeal.main_arg2) = m ((c.tc : Thread Cert.AttnGateIdeal.nD Cert.AttnGateIdeal.τ).loc Cert.AttnGateIdeal.main_arg2)
          ∧ r.2.mem ((c.tc : Thread Cert.AttnGateIdeal.nD Cert.AttnGateIdeal.τ).loc Cert.AttnGateIdeal.main_arg3) = m ((c.tc : Thread Cert.AttnGateIdeal.nD Cert.AttnGateIdeal.τ).loc Cert.AttnGateIdeal.main_arg3))
      ∧ θ_run (Cert.AttnGateRefIdeal.defs (F := Ideal)) (onTc (τ := Cert.AttnGateRefIdeal.τ) (Cert.AttnGateRefIdeal.main (F := Ideal))) ⟨m', fun _ => 0, g'⟩ (fun r => ∀ c : Dev Cert.AttnGateRefIdeal.nD,
          r.2.mem ((c.tc : Thread Cert.AttnGateRefIdeal.nD Cert.AttnGateRefIdeal.τ).loc Cert.AttnGateRefIdeal.main_v14) = v0 c
          ∧ r.2.mem ((c.tc : Thread Cert.AttnGateRefIdeal.nD Cert.AttnGateRefIdeal.τ).loc Cert.AttnGateRefIdeal.main_v15) = v1 c
          ∧ r.2.mem ((c.tc : Thread Cert.AttnGateRefIdeal.nD Cert.AttnGateRefIdeal.τ).loc Cert.AttnGateRefIdeal.main_arg0) = m' ((c.tc : Thread Cert.AttnGateRefIdeal.nD Cert.AttnGateRefIdeal.τ).loc Cert.AttnGateRefIdeal.main_arg0)
          ∧ r.2.mem ((c.tc : Thread Cert.AttnGateRefIdeal.nD Cert.AttnGateRefIdeal.τ).loc Cert.AttnGateRefIdeal.main_arg1) = m' ((c.tc : Thread Cert.AttnGateRefIdeal.nD Cert.AttnGateRefIdeal.τ).loc Cert.AttnGateRefIdeal.main_arg1)
          ∧ r.2.mem ((c.tc : Thread Cert.AttnGateRefIdeal.nD Cert.AttnGateRefIdeal.τ).loc Cert.AttnGateRefIdeal.main_arg2) = m' ((c.tc : Thread Cert.AttnGateRefIdeal.nD Cert.AttnGateRefIdeal.τ).loc Cert.AttnGateRefIdeal.main_arg2)
          ∧ r.2.mem ((c.tc : Thread Cert.AttnGateRefIdeal.nD Cert.AttnGateRefIdeal.τ).loc Cert.AttnGateRefIdeal.main_arg3) = m' ((c.tc : Thread Cert.AttnGateRefIdeal.nD Cert.AttnGateRefIdeal.τ).loc Cert.AttnGateRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)) (v2 : (c : Dev Cert.MergeIdeal.nD) → Buf (Elt Ideal) ((c.tc : Thread Cert.MergeIdeal.nD Cert.MergeIdeal.τ).loc Cert.MergeIdeal.main_v10_2)) (v3 : (c : Dev Cert.MergeIdeal.nD) → Buf (Elt Ideal) ((c.tc : Thread Cert.MergeIdeal.nD Cert.MergeIdeal.τ).loc Cert.MergeIdeal.main_v10_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_v10_2) = v2 c
          ∧ r.2.mem ((c.tc : Thread Cert.MergeIdeal.nD Cert.MergeIdeal.τ).loc Cert.MergeIdeal.main_v10_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_v46) = v1 c
          ∧ r.2.mem ((c.tc : Thread Cert.MergeRefIdeal.nD Cert.MergeRefIdeal.τ).loc Cert.MergeRefIdeal.main_v47) = v2 c
          ∧ r.2.mem ((c.tc : Thread Cert.MergeRefIdeal.nD Cert.MergeRefIdeal.τ).loc Cert.MergeRefIdeal.main_v48) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v16_0)) (v1 : (c : Dev Cert.NormIdeal.nD) → Buf (Elt Ideal) ((c.tc : Thread Cert.NormIdeal.nD Cert.NormIdeal.τ).loc Cert.NormIdeal.main_v16_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v16_0) = v0 c
          ∧ r.2.mem ((c.tc : Thread Cert.NormIdeal.nD Cert.NormIdeal.τ).loc Cert.NormIdeal.main_v16_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v7_0)) (v1 : (c : Dev Cert.PoolIdeal.nD) → Buf (Elt Ideal) ((c.tc : Thread Cert.PoolIdeal.nD Cert.PoolIdeal.τ).loc Cert.PoolIdeal.main_v7_1)) (v2 : (c : Dev Cert.PoolIdeal.nD) → Buf (Elt Ideal) ((c.tc : Thread Cert.PoolIdeal.nD Cert.PoolIdeal.τ).loc Cert.PoolIdeal.main_v7_2)) (v3 : (c : Dev Cert.PoolIdeal.nD) → Buf (Elt Ideal) ((c.tc : Thread Cert.PoolIdeal.nD Cert.PoolIdeal.τ).loc Cert.PoolIdeal.main_v7_3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v7_0) = v0 c
          ∧ r.2.mem ((c.tc : Thread Cert.PoolIdeal.nD Cert.PoolIdeal.τ).loc Cert.PoolIdeal.main_v7_1) = v1 c
          ∧ r.2.mem ((c.tc : Thread Cert.PoolIdeal.nD Cert.PoolIdeal.τ).loc Cert.PoolIdeal.main_v7_2) = v2 c
          ∧ r.2.mem ((c.tc : Thread Cert.PoolIdeal.nD Cert.PoolIdeal.τ).loc Cert.PoolIdeal.main_v7_3) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v152) = v0 c
          ∧ r.2.mem ((c.tc : Thread Cert.PoolRefIdeal.nD Cert.PoolRefIdeal.τ).loc Cert.PoolRefIdeal.main_v153) = v1 c
          ∧ r.2.mem ((c.tc : Thread Cert.PoolRefIdeal.nD Cert.PoolRefIdeal.τ).loc Cert.PoolRefIdeal.main_v100) = v2 c
          ∧ r.2.mem ((c.tc : Thread Cert.PoolRefIdeal.nD Cert.PoolRefIdeal.τ).loc Cert.PoolRefIdeal.main_v154) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_Attn_AttnIdeal : Prop :=
  IdealRules.named_const.Statement Cert.AttnIdeal.κ "zero_weight" .f32 0x42DC0000#32 ⊤

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v93_0)) (v1 : (c : Dev Cert.AttnIdeal.nD) → Buf (Elt Ideal) ((c.tc : Thread Cert.AttnIdeal.nD Cert.AttnIdeal.τ).loc Cert.AttnIdeal.main_v93_1)) (v2 : (c : Dev Cert.AttnIdeal.nD) → Buf (Elt Ideal) ((c.tc : Thread Cert.AttnIdeal.nD Cert.AttnIdeal.τ).loc Cert.AttnIdeal.main_v93_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v93_0) = v0 c
          ∧ r.2.mem ((c.tc : Thread Cert.AttnIdeal.nD Cert.AttnIdeal.τ).loc Cert.AttnIdeal.main_v93_1) = v1 c
          ∧ r.2.mem ((c.tc : Thread Cert.AttnIdeal.nD Cert.AttnIdeal.τ).loc Cert.AttnIdeal.main_v93_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v56) = v0 c
          ∧ r.2.mem ((c.tc : Thread Cert.AttnRefIdeal.nD Cert.AttnRefIdeal.τ).loc Cert.AttnRefIdeal.main_v57) = v1 c
          ∧ r.2.mem ((c.tc : Thread Cert.AttnRefIdeal.nD Cert.AttnRefIdeal.τ).loc Cert.AttnRefIdeal.main_v58) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_v23) = v1 c
          ∧ r.2.mem ((c.tc : Thread Cert.InProjRefIdeal.nD Cert.InProjRefIdeal.τ).loc Cert.InProjRefIdeal.main_v24) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v9)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v9) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v26) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v5)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v5) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v80) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def Claim : Prop :=
  ∃ (hAttnGate : Cert.AttnGate.Facts) (hAttnGateIdeal : Cert.AttnGateIdeal.Facts) (hAttnGateRefIdeal : Cert.AttnGateRefIdeal.Facts) (hMerge : Cert.Merge.Facts) (hMergeIdeal : Cert.MergeIdeal.Facts) (hMergeRefIdeal : Cert.MergeRefIdeal.Facts) (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hPool : Cert.Pool.Facts) (hPoolIdeal : Cert.PoolIdeal.Facts) (hPoolRefIdeal : Cert.PoolRefIdeal.Facts) (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMergeFwd : Cert.MergeFwd.Facts) (hMergeFwdIdeal : Cert.MergeFwdIdeal.Facts) (hMergeFwdRefIdeal : Cert.MergeFwdRefIdeal.Facts) (hPoolFwd : Cert.PoolFwd.Facts) (hPoolFwdIdeal : Cert.PoolFwdIdeal.Facts) (hPoolFwdRefIdeal : Cert.PoolFwdRefIdeal.Facts) (hPre_attn_gate_finite : Cert.Pre_attn_gate_finite.Facts) (hPre_loss_finite : Cert.Pre_loss_finite.Facts) (hPre_norm_finite : Cert.Pre_norm_finite.Facts) (hPre_pool_finite : Cert.Pre_pool_finite.Facts) (hPre_attn_finite : Cert.Pre_attn_finite.Facts) (hPre_pool_fwd_finite : Cert.Pre_pool_fwd_finite.Facts),
    quiescent_AttnGate (hAttnGate := hAttnGate)
    ∧ quiescent_AttnGateIdeal (hAttnGateIdeal := hAttnGateIdeal)
    ∧ quiescent_AttnGateIdeal_pre_attn_gate_finite (hAttnGateIdeal := hAttnGateIdeal) (hPre_attn_gate_finite := hPre_attn_gate_finite)
    ∧ quiescent_AttnGateRefIdeal (hAttnGateRefIdeal := hAttnGateRefIdeal)
    ∧ quiescent_AttnGateRefIdeal_pre_attn_gate_finite (hAttnGateRefIdeal := hAttnGateRefIdeal) (hPre_attn_gate_finite := hPre_attn_gate_finite)
    ∧ quiescent_Merge (hMerge := hMerge)
    ∧ quiescent_MergeIdeal (hMergeIdeal := hMergeIdeal)
    ∧ quiescent_MergeRefIdeal (hMergeRefIdeal := hMergeRefIdeal)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_InProj (hInProj := hInProj)
    ∧ quiescent_InProjIdeal (hInProjIdeal := hInProjIdeal)
    ∧ quiescent_InProjRefIdeal (hInProjRefIdeal := hInProjRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ preserves_AttnGate_AttnGateIdeal
    ∧ algebraic_AttnGateIdeal_AttnGateRefIdeal_pre_attn_gate_finite (hAttnGateIdeal := hAttnGateIdeal) (hAttnGateRefIdeal := hAttnGateRefIdeal) (hPre_attn_gate_finite := hPre_attn_gate_finite)
    ∧ preserves_Merge_MergeIdeal
    ∧ algebraic_MergeIdeal_MergeRefIdeal (hMergeIdeal := hMergeIdeal) (hMergeRefIdeal := hMergeRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_InProj_InProjIdeal
    ∧ algebraic_InProjIdeal_InProjRefIdeal (hInProjIdeal := hInProjIdeal) (hInProjRefIdeal := hInProjRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
-- ==== Pre_attn_finite.lean ====
abbrev S8192x5120 : Shape := ⟨2, ![8192, 5120]⟩
abbrev S8192x512 : Shape := ⟨2, ![8192, 512]⟩
abbrev S8192x1536 : Shape := ⟨2, ![8192, 1536]⟩
abbrev S_ : Shape := ⟨0, ![]⟩

class Facts : Prop where
  slices_S8192x5120_S8192x1536_0_1024 : S8192x5120.Slices ![0, 1024] S8192x1536
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x5120 .f32) (main_arg1 : FVec F S8192x512 .f32) : IVec S_ 1 :=
  let main_v0 : FVec F S8192x1536 .f32 := (extractStridedSlice S8192x1536 ![0, 1024] · slices_S8192x5120_S8192x1536_0_1024) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x512 .f32 := Host.absf main_arg1
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v4 main_v8
  main_v9
-- ==== Pre_attn_gate_finite.lean ====
abbrev S8192x512 : Shape := ⟨2, ![8192, 512]⟩
abbrev S8192x5120 : Shape := ⟨2, ![8192, 5120]⟩
abbrev S512x1024 : Shape := ⟨2, ![512, 1024]⟩
abbrev S8192x1024 : Shape := ⟨2, ![8192, 1024]⟩
abbrev S8192x2048 : Shape := ⟨2, ![8192, 2048]⟩
abbrev S_ : Shape := ⟨0, ![]⟩

class Facts : Prop where
  slices_S8192x5120_S8192x512_0_0 : S8192x5120.Slices ![0, 0] S8192x512
  slices_S8192x5120_S8192x512_0_512 : S8192x5120.Slices ![0, 512] S8192x512
  slices_S8192x5120_S8192x512_0_1024 : S8192x5120.Slices ![0, 1024] S8192x512
  slices_S8192x5120_S8192x512_0_1536 : S8192x5120.Slices ![0, 1536] S8192x512
  slices_S8192x5120_S8192x512_0_2048 : S8192x5120.Slices ![0, 2048] S8192x512
  slices_S8192x5120_S8192x512_0_2560 : S8192x5120.Slices ![0, 2560] S8192x512
  slices_S8192x5120_S8192x2048_0_3072 : S8192x5120.Slices ![0, 3072] S8192x2048
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg3 : FVec F S8192x1024 .f32) (main_v15 : IVec S_ 1) (main_v18 : IVec S512x1024 1) : IVec S_ 1 :=
  let main_c_3 : IVec S_ 1 := constantI S_ 1 1#1
  let main_v19 : IVec S_ 1 := (fun x v => Host.reduce IntOp.andi x v reducesTo_S512x1024_S_d0_1 h_S_) main_v18 main_c_3
  let main_v20 : FVec F S8192x1024 .f32 := Host.absf main_arg3
  let main_cst_4 : FVec F S_ .f32 := constant S_ .f32 0x7F800000#32
  let main_v21 : FVec F S8192x1024 .f32 := broadcastInDim S8192x1024 ![] bcast_S_S8192x1024 main_cst_4
  let main_v22 : IVec S8192x1024 1 := cmpf .olt main_v20 main_v21
  let main_c_5 : IVec S_ 1 := constantI S_ 1 1#1
  let main_v23 : IVec S_ 1 := (fun x v => Host.reduce IntOp.andi x v reducesTo_S8192x1024_S_d0_1 h_S_) main_v22 main_c_5
  let main_v24 : IVec S_ 1 := andi main_v19 main_v23
  let main_v25 : IVec S_ 1 := andi main_v15 main_v24
  main_v25

def fn {F : FTy → Type} [FloatOps F] (main_arg0 : FVec F S8192x512 .f32) (main_arg1 : FVec F S8192x5120 .f32) (main_arg2 : FVec F S512x1024 .f32) (main_arg3 : FVec F S8192x1024 .f32) : IVec S_ 1 :=
  let main_v0 : FVec F S8192x512 .f32 := (extractStridedSlice S8192x512 ![0, 0] · slices_S8192x5120_S8192x512_0_0) main_arg1
  let main_v1 : FVec F S8192x512 .f32 := (extractStridedSlice S8192x512 ![0, 512] · slices_S8192x5120_S8192x512_0_512) main_arg1
  let main_v2 : FVec F S8192x512 .f32 := (extractStridedSlice S8192x512 ![0, 1024] · slices_S8192x5120_S8192x512_0_1024) main_arg1
  let main_v3 : FVec F S8192x512 .f32 := (extractStridedSlice S8192x512 ![0, 1536] · slices_S8192x5120_S8192x512_0_1536) main_arg1
  let main_v4 : FVec F S8192x512 .f32 := (extractStridedSlice S8192x512 ![0, 2048] · slices_S8192x5120_S8192x512_0_2048) main_arg1
  let main_v5 : FVec F S8192x512 .f32 := (extractStridedSlice S8192x512 ![0, 2560] · slices_S8192x5120_S8192x512_0_2560) main_arg1
  let main_v6 : FVec F S8192x2048 .f32 := (extractStridedSlice S8192x2048 ![0, 3072] · slices_S8192x5120_S8192x2048_0_3072) main_arg1
  let main_v7 : FVec F S8192x512 .f32 := Host.absf main_arg0
  let main_cst : FVec F S_ .f32 := constant S_ .f32 0x7F800000#32
  let main_v8 : FVec F S8192x512 .f32 := broadcastInDim S8192x512 ![] bcast_S_S8192x512 main_cst
  let main_v9 : IVec S8192x512 1 := cmpf .olt main_v7 main_v8
  let main_c : IVec S_ 1 := constantI S_ 1 1#1
  let main_v10 : IVec S_ 1 := (fun x v => Host.reduce IntOp.andi x v reducesTo_S8192x512_S_d0_1 h_S_) main_v9 main_c
  let main_v11 : FVec F S8192x512 .f32 := Host.absf main_v5
  let main_cst_0 : FVec F S_ .f32 := constant S_ .f32 0x7F800000#32
  let main_v12 : FVec F S8192x512 .f32 := broadcastInDim S8192x512 ![] bcast_S_S8192x512 main_cst_0
  let main_v13 : IVec S8192x512 1 := cmpf .olt main_v11 main_v12
  let main_c_1 : IVec S_ 1 := constantI S_ 1 1#1
  let main_v14 : IVec S_ 1 := (fun x v => Host.reduce IntOp.andi x v reducesTo_S8192x512_S_d0_1 h_S_) main_v13 main_c_1
  let main_v15 : IVec S_ 1 := andi main_v10 main_v14
  let main_v16 : FVec F S512x1024 .f32 := Host.absf main_arg2
  let main_cst_2 : FVec F S_ .f32 := constant S_ .f32 0x7F800000#32
  let main_v17 : FVec F S512x1024 .f32 := broadcastInDim S512x1024 ![] bcast_S_S512x1024 main_cst_2
  let main_v18 : IVec S512x1024 1 := cmpf .olt main_v16 main_v17
  fn_part1 (F := F) main_arg3 main_v15 main_v18
-- ==== Pre_loss_finite.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : FVec F S8192x1024 .f32 := Host.absf main_arg4
  let main_cst_6 : FVec F S_ .f32 := constant S_ .f32 0x7F800000#32
  let main_v18 : FVec F S8192x1024 .f32 := broadcastInDim S8192x1024 ![] bcast_S_S8192x1024 main_cst_6
  let main_v19 : IVec S8192x1024 1 := cmpf .olt main_v17 main_v18
  let main_c_7 : IVec S_ 1 := constantI S_ 1 1#1
  let main_v20 : IVec S_ 1 := (fun x v => Host.reduce IntOp.andi x v reducesTo_S8192x1024_S_d0_1 h_S_) main_v19 main_c_7
  let main_v21 : IVec S_ 1 := andi main_v16 main_v20
  let main_v22 : IVec S_ 1 := andi main_v12 main_v21
  let main_v23 : IVec S_ 1 := andi main_v8 main_v22
  main_v23

def fn {F : FTy → Type} [FloatOps F] (main_arg0 : FVec F S8192x1024 .f32) (main_arg1 : FVec F S1024x1024 .f32) (main_arg2 : FVec F S8192x1024 .f32) (main_arg3 : FVec F S1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_v8 main_v12 main_v15 main_c_5
-- ==== Pre_norm_finite.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5120 : S_.BroadcastsInDim S1024x5120 (![] : Fin 0 → Fin S1024x5120.rank)
  reducesTo_S1024x5120_S_d0_1 : S1024x5120.ReducesTo [0, 1] S_
  bcast_S_S8192x5120 : S_.BroadcastsInDim S8192x5120 (![] : Fin 0 → Fin S8192x5120.rank)
  reducesTo_S8192x5120_S_d0_1 : S8192x5120.ReducesTo [0, 1] S_

variable [Facts]

def fn_part1 {F : FTy → Type} [FloatOps F] (main_v8 : IVec S_ 1) (main_v12 : IVec S_ 1) (main_v15 : IVec S8192x5120 1) (main_c_5 : IVec S_ 1) : IVec S_ 1 :=
  let main_v16 : IVec S_ 1 := (fun x v => Host.reduce IntOp.andi x v reducesTo_S8192x5120_S_d0_1 h_S_) main_v15 main_c_5
  let main_v17 : IVec S_ 1 := andi main_v12 main_v16
  let main_v18 : IVec S_ 1 := andi main_v8 main_v17
  main_v18

def fn {F : FTy → Type} [FloatOps F] (main_arg0 : FVec F S8192x1024 .f32) (main_arg1 : FVec F S1024 .f32) (main_arg2 : FVec F S1024x5120 .f32) (main_arg3 : FVec F S8192x5120 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5120 .f32 := Host.absf main_arg2
  let main_cst_2 : FVec F S_ .f32 := constant S_ .f32 0x7F800000#32
  let main_v10 : FVec F S1024x5120 .f32 := broadcastInDim S1024x5120 ![] bcast_S_S1024x5120 main_cst_2
  let main_v11 : IVec S1024x5120 1 := cmpf .olt main_v9 main_v10
  let main_c_3 : IVec S_ 1 := constantI S_ 1 1#1
  let main_v12 : IVec S_ 1 := (fun x v => Host.reduce IntOp.andi x v reducesTo_S1024x5120_S_d0_1 h_S_) main_v11 main_c_3
  let main_v13 : FVec F S8192x5120 .f32 := Host.absf main_arg3
  let main_cst_4 : FVec F S_ .f32 := constant S_ .f32 0x7F800000#32
  let main_v14 : FVec F S8192x5120 .f32 := broadcastInDim S8192x5120 ![] bcast_S_S8192x5120 main_cst_4
  let main_v15 : IVec S8192x5120 1 := cmpf .olt main_v13 main_v14
  let main_c_5 : IVec S_ 1 := constantI S_ 1 1#1
  fn_part1 (F := F) main_v8 main_v12 main_v15 main_c_5
-- ==== Pre_pool_finite.lean ====
abbrev S8192x5120 : Shape := ⟨2, ![8192, 5120]⟩
abbrev S4x128x128 : Shape := ⟨3, ![4, 128, 128]⟩
abbrev S512 : Shape := ⟨1, ![512]⟩
abbrev S512x1024 : Shape := ⟨2, ![512, 1024]⟩
abbrev S8192x1024 : Shape := ⟨2, ![8192, 1024]⟩
abbrev S8192x512 : Shape := ⟨2, ![8192, 512]⟩
abbrev S8192x2048 : Shape := ⟨2, ![8192, 2048]⟩
abbrev S_ : Shape := ⟨0, ![]⟩

class Facts : Prop where
  slices_S8192x5120_S8192x512_0_0 : S8192x5120.Slices ![0, 0] S8192x512
  slices_S8192x5120_S8192x512_0_512 : S8192x5120.Slices ![0, 512] S8192x512
  slices_S8192x5120_S8192x512_0_1024 : S8192x5120.Slices ![0, 1024] S8192x512
  slices_S8192x5120_S8192x512_0_1536 : S8192x5120.Slices ![0, 1536] S8192x512
  slices_S8192x5120_S8192x512_0_2048 : S8192x5120.Slices ![0, 2048] S8192x512
  slices_S8192x5120_S8192x512_0_2560 : S8192x5120.Slices ![0, 2560] S8192x512
  slices_S8192x5120_S8192x2048_0_3072 : S8192x5120.Slices ![0, 3072] S8192x2048
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg2 : FVec F S512 .f32) (main_arg3 : FVec F S512x1024 .f32) (main_arg4 : FVec F S8192x1024 .f32) (main_v15 : IVec S_ 1) (main_v18 : IVec S4x128x128 1) : IVec S_ 1 :=
  let main_c_3 : IVec S_ 1 := constantI S_ 1 1#1
  let main_v19 : IVec S_ 1 := (fun x v => Host.reduce IntOp.andi x v reducesTo_S4x128x128_S_d0_1_2 h_S_) main_v18 main_c_3
  let main_v20 : FVec F S512 .f32 := Host.absf main_arg2
  let main_cst_4 : FVec F S_ .f32 := constant S_ .f32 0x7F800000#32
  let main_v21 : FVec F S512 .f32 := broadcastInDim S512 ![] bcast_S_S512 main_cst_4
  let main_v22 : IVec S512 1 := cmpf .olt main_v20 main_v21
  let main_c_5 : IVec S_ 1 := constantI S_ 1 1#1
  let main_v23 : IVec S_ 1 := (fun x v => Host.reduce IntOp.andi x v reducesTo_S512_S_d0 h_S_) main_v22 main_c_5
  let main_v24 : IVec S_ 1 := andi main_v19 main_v23
  let main_v25 : FVec F S512x1024 .f32 := Host.absf main_arg3
  let main_cst_6 : FVec F S_ .f32 := constant S_ .f32 0x7F800000#32
  let main_v26 : FVec F S512x1024 .f32 := broadcastInDim S512x1024 ![] bcast_S_S512x1024 main_cst_6
  let main_v27 : IVec S512x1024 1 := cmpf .olt main_v25 main_v26
  let main_c_7 : IVec S_ 1 := constantI S_ 1 1#1
  let main_v28 : IVec S_ 1 := (fun x v => Host.reduce IntOp.andi x v reducesTo_S512x1024_S_d0_1 h_S_) main_v27 main_c_7
  let main_v29 : FVec F S8192x1024 .f32 := Host.absf main_arg4
  let main_cst_8 : FVec F S_ .f32 := constant S_ .f32 0x7F800000#32
  let main_v30 : FVec F S8192x1024 .f32 := broadcastInDim S8192x1024 ![] bcast_S_S8192x1024 main_cst_8
  let main_v31 : IVec S8192x1024 1 := cmpf .olt main_v29 main_v30
  let main_c_9 : IVec S_ 1 := constantI S_ 1 1#1
  let main_v32 : IVec S_ 1 := (fun x v => Host.reduce IntOp.andi x v reducesTo_S8192x1024_S_d0_1 h_S_) main_v31 main_c_9
  let main_v33 : IVec S_ 1 := andi main_v28 main_v32
  let main_v34 : IVec S_ 1 := andi main_v24 main_v33
  let main_v35 : IVec S_ 1 := andi main_v15 main_v34
  main_v35

def fn {F : FTy → Type} [FloatOps F] (main_arg0 : FVec F S8192x5120 .f32) (main_arg1 : FVec F S4x128x128 .f32) (main_arg2 : FVec F S512 .f32) (main_arg3 : FVec F S512x1024 .f32) (main_arg4 : FVec F S8192x1024 .f32) : IVec S_ 1 :=
  let main_v0 : FVec F S8192x512 .f32 := (extractStridedSlice S8192x512 ![0, 0] · slices_S8192x5120_S8192x512_0_0) main_arg0
  let main_v1 : FVec F S8192x512 .f32 := (extractStridedSlice S8192x512 ![0, 512] · slices_S8192x5120_S8192x512_0_512) main_arg0
  let main_v2 : FVec F S8192x512 .f32 := (extractStridedSlice S8192x512 ![0, 1024] · slices_S8192x5120_S8192x512_0_1024) main_arg0
  let main_v3 : FVec F S8192x512 .f32 := (extractStridedSlice S8192x512 ![0, 1536] · slices_S8192x5120_S8192x512_0_1536) main_arg0
  let main_v4 : FVec F S8192x512 .f32 := (extractStridedSlice S8192x512 ![0, 2048] · slices_S8192x5120_S8192x512_0_2048) main_arg0
  let main_v5 : FVec F S8192x512 .f32 := (extractStridedSlice S8192x512 ![0, 2560] · slices_S8192x5120_S8192x512_0_2560) main_arg0
  let main_v6 : FVec F S8192x2048 .f32 := (extractStridedSlice S8192x2048 ![0, 3072] · slices_S8192x5120_S8192x2048_0_3072) main_arg0
  let main_v7 : FVec F S8192x512 .f32 := Host.absf main_v0
  let main_cst : FVec F S_ .f32 := constant S_ .f32 0x7F800000#32
  let main_v8 : FVec F S8192x512 .f32 := broadcastInDim S8192x512 ![] bcast_S_S8192x512 main_cst
  let main_v9 : IVec S8192x512 1 := cmpf .olt main_v7 main_v8
  let main_c : IVec S_ 1 := constantI S_ 1 1#1
  let main_v10 : IVec S_ 1 := (fun x v => Host.reduce IntOp.andi x v reducesTo_S8192x512_S_d0_1 h_S_) main_v9 main_c
  let main_v11 : FVec F S8192x512 .f32 := Host.absf main_v1
  let main_cst_0 : FVec F S_ .f32 := constant S_ .f32 0x7F800000#32
  let main_v12 : FVec F S8192x512 .f32 := broadcastInDim S8192x512 ![] bcast_S_S8192x512 main_cst_0
  let main_v13 : IVec S8192x512 1 := cmpf .olt main_v11 main_v12
  let main_c_1 : IVec S_ 1 := constantI S_ 1 1#1
  let main_v14 : IVec S_ 1 := (fun x v => Host.reduce IntOp.andi x v reducesTo_S8192x512_S_d0_1 h_S_) main_v13 main_c_1
  let main_v15 : IVec S_ 1 := andi main_v10 main_v14
  let main_v16 : FVec F S4x128x128 .f32 := Host.absf main_arg1
  let main_cst_2 : FVec F S_ .f32 := constant S_ .f32 0x7F800000#32
  let main_v17 : FVec F S4x128x128 .f32 := broadcastInDim S4x128x128 ![] bcast_S_S4x128x128 main_cst_2
  let main_v18 : IVec S4x128x128 1 := cmpf .olt main_v16 main_v17
  fn_part1 (F := F) main_arg2 main_arg3 main_arg4 main_v15 main_v18
-- ==== Pre_pool_fwd_finite.lean ====
abbrev S8192x5120 : Shape := ⟨2, ![8192, 5120]⟩
abbrev S4x128x128 : Shape := ⟨3, ![4, 128, 128]⟩
abbrev S512 : Shape := ⟨1, ![512]⟩
abbrev S8192x512 : Shape := ⟨2, ![8192, 512]⟩
abbrev S8192x2048 : Shape := ⟨2, ![8192, 2048]⟩
abbrev S_ : Shape := ⟨0, ![]⟩

class Facts : Prop where
  slices_S8192x5120_S8192x512_0_0 : S8192x5120.Slices ![0, 0] S8192x512
  slices_S8192x5120_S8192x512_0_512 : S8192x5120.Slices ![0, 512] S8192x512
  slices_S8192x5120_S8192x512_0_1024 : S8192x5120.Slices ![0, 1024] S8192x512
  slices_S8192x5120_S8192x512_0_1536 : S8192x5120.Slices ![0, 1536] S8192x512
  slices_S8192x5120_S8192x512_0_2048 : S8192x5120.Slices ![0, 2048] S8192x512
  slices_S8192x5120_S8192x512_0_2560 : S8192x5120.Slices ![0, 2560] S8192x512
  slices_S8192x5120_S8192x2048_0_3072 : S8192x5120.Slices ![0, 3072] S8192x2048
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x5120 .f32) (main_arg1 : FVec F S4x128x128 .f32) (main_arg2 : FVec F S512 .f32) : IVec S_ 1 :=
  let main_v0 : FVec F S8192x512 .f32 := (extractStridedSlice S8192x512 ![0, 0] · slices_S8192x5120_S8192x512_0_0) main_arg0
  let main_v1 : FVec F S8192x512 .f32 := (extractStridedSlice S8192x512 ![0, 512] · slices_S8192x5120_S8192x512_0_512) main_arg0
  let main_v2 : FVec F S8192x512 .f32 := (extractStridedSlice S8192x512 ![0, 1024] · slices_S8192x5120_S8192x512_0_1024) main_arg0
  let main_v3 : FVec F S8192x512 .f32 := (extractStridedSlice S8192x512 ![0, 1536] · slices_S8192x5120_S8192x512_0_1536) main_arg0
  let main_v4 : FVec F S8192x512 .f32 := (extractStridedSlice S8192x512 ![0, 2048] · slices_S8192x5120_S8192x512_0_2048) main_arg0
  let main_v5 : FVec F S8192x512 .f32 := (extractStridedSlice S8192x512 ![0, 2560] · slices_S8192x5120_S8192x512_0_2560) main_arg0
  let main_v6 : FVec F S8192x2048 .f32 := (extractStridedSlice S8192x2048 ![0, 3072] · slices_S8192x5120_S8192x2048_0_3072) main_arg0
  let main_v7 : FVec F S8192x512 .f32 := Host.absf main_v0
  let main_cst : FVec F S_ .f32 := constant S_ .f32 0x7F800000#32
  let main_v8 : FVec F S8192x512 .f32 := broadcastInDim S8192x512 ![] bcast_S_S8192x512 main_cst
  let main_v9 : IVec S8192x512 1 := cmpf .olt main_v7 main_v8
  let main_c : IVec S_ 1 := constantI S_ 1 1#1
  let main_v10 : IVec S_ 1 := (fun x v => Host.reduce IntOp.andi x v reducesTo_S8192x512_S_d0_1 h_S_) main_v9 main_c
  main_v10
-- ==== AttnGate.lean ====
abbrev S8192x512 : Shape := ⟨2, ![8192, 512]⟩
abbrev S8192x5120 : Shape := ⟨2, ![8192, 5120]⟩
abbrev S512x1024 : Shape := ⟨2, ![512, 1024]⟩
abbrev S8192x1024 : Shape := ⟨2, ![8192, 1024]⟩
abbrev S8192x2048 : Shape := ⟨2, ![8192, 2048]⟩
abbrev S8192x3584 : Shape := ⟨2, ![8192, 3584]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S512x1024, .f32⟩
  | .hbm, ⟨3, _⟩ => ⟨S8192x1024, .f32⟩
  | .hbm, ⟨4, _⟩ => ⟨S8192x1024, .bf16⟩
  | .hbm, ⟨5, _⟩ => ⟨S512x1024, .bf16⟩
  | .hbm, ⟨6, _⟩ => ⟨S8192x1024, .f32⟩
  | .hbm, ⟨7, _⟩ => ⟨S8192x2048, .f32⟩
  | .hbm, ⟨8, _⟩ => ⟨S8192x512, .f32⟩
  | .hbm, ⟨9, _⟩ => ⟨S8192x3584, .f32⟩
  | .hbm, ⟨10, _⟩ => ⟨S8192x512, .bf16⟩
  | .hbm, ⟨11, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnGateRefIdeal.lean ====
abbrev S8192x512 : Shape := ⟨2, ![8192, 512]⟩
abbrev S8192x5120 : Shape := ⟨2, ![8192, 5120]⟩
abbrev S512x1024 : Shape := ⟨2, ![512, 1024]⟩
abbrev S8192x1024 : Shape := ⟨2, ![8192, 1024]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S512x1024, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x2048, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1024, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .bf16⟩
  | .hbm, ⟨34, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Merge.lean ====
abbrev S8192x512 : Shape := ⟨2, ![8192, 512]⟩
abbrev S8192x5120 : Shape := ⟨2, ![8192, 5120]⟩
abbrev S2048 : Shape := ⟨1, ![2048]⟩
abbrev S512x1024 : Shape := ⟨2, ![512, 1024]⟩
abbrev S1024x1024 : Shape := ⟨2, ![1024, 1024]⟩
abbrev S8192x1024 : Shape := ⟨2, ![8192, 1024]⟩
abbrev S8192x2048 : Shape := ⟨2, ![8192, 2048]⟩
abbrev S8192x3584 : Shape := ⟨2, ![8192, 3584]⟩
abbrev S1x2048 : Shape := ⟨2, ![1, 2048]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 22
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S1024x1024, .bf16⟩
  | .hbm, ⟨9, _⟩ => ⟨S8192x512, .bf16⟩
  | .hbm, ⟨10, _⟩ => ⟨S8192x512, .bf16⟩
  | .hbm, ⟨11, _⟩ => ⟨S512x1024, .bf16⟩
  | .hbm, ⟨12, _⟩ => ⟨S512x1024, .bf16⟩
  | .hbm, ⟨13, _⟩ => ⟨S8192x1024, .f32⟩
  | .hbm, ⟨14, _⟩ => ⟨S8192x2048, .f32⟩
  | .hbm, ⟨15, _⟩ => ⟨S8192x512, .f32⟩
  | .hbm, ⟨16, _⟩ => ⟨S8192x3584, .f32⟩
  | .hbm, ⟨17, _⟩ => ⟨S1x2048, .f32⟩
  | .hbm, ⟨18, _⟩ => ⟨S8192x1024, .bf16⟩
  | .hbm, ⟨19, _⟩ => ⟨S8192x1024, .bf16⟩
  | .hbm, ⟨20, _⟩ => ⟨S8192x2048, .bf16⟩
  | .hbm, ⟨21, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x2048, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeRefIdeal.lean ====
abbrev S8192x512 : Shape := ⟨2, ![8192, 512]⟩
abbrev S8192x5120 : Shape := ⟨2, ![8192, 5120]⟩
abbrev S2048 : Shape := ⟨1, ![2048]⟩
abbrev S512x1024 : Shape := ⟨2, ![512, 1024]⟩
abbrev S1024x1024 : Shape := ⟨2, ![1024, 1024]⟩
abbrev S8192x1024 : Shape := ⟨2, ![8192, 1024]⟩
abbrev S8192x2048 : Shape := ⟨2, ![8192, 2048]⟩
abbrev S1x2048 : Shape := ⟨2, ![1, 2048]⟩
abbrev S_ : Shape := ⟨0, ![]⟩
abbrev S8192x2x1024 : Shape := ⟨3, ![8192, 2, 1024]⟩
abbrev S8192x1x1024 : Shape := ⟨3, ![8192, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1x1024, .f32⟩
  | .hbm, ⟨45, _⟩ => ⟨S_, .f32⟩
  | .hbm, ⟨46, _⟩ => ⟨S8192x2x1024, .f32⟩
  | .hbm, ⟨47, _⟩ => ⟨S8192x1024, .f32⟩
  | .hbm, ⟨48, _⟩ => ⟨S8192x1024, .f32⟩
  | .hbm, ⟨49, _⟩ => ⟨S8192x1x1024, .f32⟩
  | .hbm, ⟨50, _⟩ => ⟨S_, .f32⟩
  | .hbm, ⟨51, _⟩ => ⟨S8192x2x1024, .f32⟩
  | .hbm, ⟨52, _⟩ => ⟨S8192x2x1024, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S_, .f32⟩
  | .hbm, ⟨59, _⟩ => ⟨S2048, .f32⟩
  | .hbm, ⟨60, _⟩ => ⟨S8192x1024, .bf16⟩
  | .hbm, ⟨61, _⟩ => ⟨S8192x1024, .bf16⟩
  | .hbm, ⟨62, _⟩ => ⟨S8192x2048, .bf16⟩
  | .hbm, ⟨63, _⟩ => ⟨S1x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Loss.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S8192x512 : Shape := ⟨2, ![8192, 512]⟩
abbrev S8192x2048 : Shape := ⟨2, ![8192, 2048]⟩
abbrev S1x1024 : Shape := ⟨2, ![1, 1024]⟩
abbrev S512x512 : Shape := ⟨2, ![512, 512]⟩
abbrev S512x2048 : Shape := ⟨2, ![512, 2048]⟩
abbrev S512x1024 : Shape := ⟨2, ![512, 1024]⟩
abbrev S1024x512 : Shape := ⟨2, ![1024, 512]⟩
abbrev S1024x2048 : Shape := ⟨2, ![1024, 2048]⟩
abbrev S512 : Shape := ⟨1, ![512]⟩
abbrev S512x1 : Shape := ⟨2, ![512, 1]⟩

abbrev nBuf : Space → Nat
  | .hbm => 23
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x5120, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x2048, .f32⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .bf16⟩
  | .hbm, ⟨16, _⟩ => ⟨S8192x512, .bf16⟩
  | .hbm, ⟨17, _⟩ => ⟨S8192x512, .bf16⟩
  | .hbm, ⟨18, _⟩ => ⟨S8192x2048, .bf16⟩
  | .hbm, ⟨19, _⟩ => ⟨S1024x5120, .bf16⟩
  | .hbm, ⟨20, _⟩ => ⟨S1x1024, .f32⟩
  | .hbm, ⟨21, _⟩ => ⟨S8192x1024, .f32⟩
  | .hbm, ⟨22, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S1024x5120, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormRefIdeal.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x5120, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5120, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Pool.lean ====
abbrev S8192x5120 : Shape := ⟨2, ![8192, 5120]⟩
abbrev S4x128x128 : Shape := ⟨3, ![4, 128, 128]⟩
abbrev S512 : Shape := ⟨1, ![512]⟩
abbrev S512x1024 : Shape := ⟨2, ![512, 1024]⟩
abbrev S8192x1024 : Shape := ⟨2, ![8192, 1024]⟩
abbrev S8192x2048 : Shape := ⟨2, ![8192, 2048]⟩
abbrev S8192x512 : Shape := ⟨2, ![8192, 512]⟩
abbrev S8192x3584 : Shape := ⟨2, ![8192, 3584]⟩
abbrev S1x512 : Shape := ⟨2, ![1, 512]⟩
abbrev S512x512 : Shape := ⟨2, ![512, 512]⟩
abbrev S16x512 : Shape := ⟨2, ![16, 512]⟩
abbrev S512x1 : Shape := ⟨2, ![512, 1]⟩
abbrev S528x512 : Shape := ⟨2, ![528, 512]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 16
  | .vmem => 18
  | .smem => 0
  | _ => 0

abbrev bufTy : (tb : Table) → Fin (tcTables nBuf tb) → BufTy
  | .hbm, ⟨0, _⟩ => ⟨S8192x5120, .f32⟩
  | .hbm, ⟨1, _⟩ => ⟨S4x128x128, .f32⟩
  | .hbm, ⟨2, _⟩ => ⟨S512, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x512, .f32⟩
  | .hbm, ⟨8, _⟩ => ⟨S8192x3584, .f32⟩
  | .hbm, ⟨9, _⟩ => ⟨S8192x1024, .bf16⟩
  | .hbm, ⟨10, _⟩ => ⟨S512x1024, .bf16⟩
  | .hbm, ⟨11, _⟩ => ⟨S1x512, .f32⟩
  | .hbm, ⟨12, _⟩ => ⟨S8192x512, .bf16⟩
  | .hbm, ⟨13, _⟩ => ⟨S8192x512, .bf16⟩
  | .hbm, ⟨14, _⟩ => ⟨S4x128x128, .f32⟩
  | .hbm, ⟨15, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S4x128x128, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S4x128x128, .f32⟩
  | .local _ .vmem, ⟨16, _⟩ => ⟨S1x512, .f32⟩
  | .local _ .vmem, ⟨17, _⟩ => ⟨S16x512, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PoolRefIdeal.lean ====
abbrev S8192x5120 : Shape := ⟨2, ![8192, 5120]⟩
abbrev S4x128x128 : Shape := ⟨3, ![4, 128, 128]⟩
abbrev S512 : Shape := ⟨1, ![512]⟩
abbrev S512x1024 : Shape := ⟨2, ![512, 1024]⟩
abbrev S8192x1024 : Shape := ⟨2, ![8192, 1024]⟩
abbrev S8192x512 : Shape := ⟨2, ![8192, 512]⟩
abbrev S8192x2048 : Shape := ⟨2, ![8192, 2048]⟩
abbrev S8192x4x128 : Shape := ⟨3, ![8192, 4, 128]⟩
abbrev S_ : Shape := ⟨0, ![]⟩
abbrev S8192 : Shape := ⟨1, ![8192]⟩
abbrev S8192x1x128 : Shape := ⟨3, ![8192, 1, 128]⟩
abbrev S8192x128 : Shape := ⟨2, ![8192, 128]⟩
abbrev S2x128 : Shape := ⟨2, ![2, 128]⟩
abbrev S8194x128 : Shape := ⟨2, ![8194, 128]⟩
abbrev S8192x1 : Shape := ⟨2, ![8192, 1]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x128x8192 : Shape := ⟨3, ![4, 128, 8192]⟩
abbrev S1x512 : Shape := ⟨2, ![1, 512]⟩
abbrev S4x8192x128 : Shape := ⟨3, ![4, 8192, 128]⟩

abbrev nBuf : Space → Nat
  | .hbm => 205
  | .vmem => 0
  | .smem => 0
  | _ => 0

abbrev hbmTy0_0 (i : Nat) : BufTy := match i % 128 with
  | 0 => ⟨S8192x5120, .f32⟩
  | 1 => ⟨S4x128x128, .f32⟩
  | 2 => ⟨S512, .f32⟩
  | 3 => ⟨S512x1024, .f32⟩
  | 4 => ⟨S8192x1024, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x2048, .f32⟩
  | 12 => ⟨S8192x4x128, .f32⟩
  | 13 => ⟨S_, .f32⟩
  | 14 => ⟨S_, .f32⟩
  | 15 => ⟨S8192x4x128, .f32⟩
  | 16 => ⟨S8192, .i32⟩
  | 17 => ⟨S8192x1x128, .f32⟩
  | 18 => ⟨S8192x128, .f32⟩
  | 19 => ⟨S_, .f32⟩
  | 20 => ⟨S2x128, .f32⟩
  | 21 => ⟨S8194x128, .f32⟩
  | 22 => ⟨S_, .f32⟩
  | 23 => ⟨S2x128, .f32⟩
  | 24 => ⟨S8192x128, .f32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .f32⟩
  | 32 => ⟨S8192x1, .f32⟩
  | 33 => ⟨S8192x128, .f32⟩
  | 34 => ⟨S8192x128, .f32⟩
  | 35 => ⟨S8192x128, .f32⟩
  | 36 => ⟨S8192x1x128, .f32⟩
  | 37 => ⟨S8192x128, .f32⟩
  | 38 => ⟨S_, .f32⟩
  | 39 => ⟨S4x128, .f32⟩
  | 40 => ⟨S8196x128, .f32⟩
  | 41 => ⟨S_, .f32⟩
  | 42 => ⟨S4x128, .f32⟩
  | 43 => ⟨S8192x128, .f32⟩
  | 44 => ⟨S_, .i32⟩
  | 45 => ⟨S8192, .i32⟩
  | 46 => ⟨S8192, .i32⟩
  | 47 => ⟨S_, .i32⟩
  | 48 => ⟨S8192, .i32⟩
  | 49 => ⟨S8192, .i32⟩
  | 50 => ⟨S8192, .f32⟩
  | 51 => ⟨S8192x1, .f32⟩
  | 52 => ⟨S8192x128, .f32⟩
  | 53 => ⟨S8192x128, .f32⟩
  | 54 => ⟨S8192x128, .f32⟩
  | 55 => ⟨S8192x1x128, .f32⟩
  | 56 => ⟨S8192x128, .f32⟩
  | 57 => ⟨S_, .f32⟩
  | 58 => ⟨S8x128, .f32⟩
  | 59 => ⟨S8200x128, .f32⟩
  | 60 => ⟨S_, .f32⟩
  | 61 => ⟨S8x128, .f32⟩
  | 62 => ⟨S8192x128, .f32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .f32⟩
  | 70 => ⟨S8192x1, .f32⟩
  | 71 => ⟨S8192x128, .f32⟩
  | 72 => ⟨S8192x128, .f32⟩
  | 73 => ⟨S8192x128, .f32⟩
  | 74 => ⟨S8192x1x128, .f32⟩
  | 75 => ⟨S8192x128, .f32⟩
  | 76 => ⟨S_, .f32⟩
  | 77 => ⟨S16x128, .f32⟩
  | 78 => ⟨S8208x128, .f32⟩
  | 79 => ⟨S_, .f32⟩
  | 80 => ⟨S16x128, .f32⟩
  | 81 => ⟨S8192x128, .f32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .f32⟩
  | 89 => ⟨S8192x1, .f32⟩
  | 90 => ⟨S8192x128, .f32⟩
  | 91 => ⟨S8192x128, .f32⟩
  | 92 => ⟨S8192x128, .f32⟩
  | 93 => ⟨S8192x1x128, .f32⟩
  | 94 => ⟨S8192x1x128, .f32⟩
  | 95 => ⟨S8192x1x128, .f32⟩
  | 96 => ⟨S8192x1x128, .f32⟩
  | 97 => ⟨S8192x4x128, .f32⟩
  | 98 => ⟨S8192x4x128, .f32⟩
  | 99 => ⟨S4x128x8192, .f32⟩
  | 100 => ⟨S8192x4x128, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S_, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x1024, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x5120, .f32⟩

abbrev hbmTy0_1 (i : Nat) : BufTy := match i % 128 with
  | 0 => ⟨S_, .f32⟩
  | 1 => ⟨S512, .f32⟩
  | 2 => ⟨S1x512, .f32⟩
  | 3 => ⟨S8192x512, .f32⟩
  | 4 => ⟨S8192x512, .f32⟩
  | 5 => ⟨S_, .f32⟩
  | 6 => ⟨S512, .f32⟩
  | 7 => ⟨S8192x4x128, .f32⟩
  | 8 => ⟨S4x128x8192, .f32⟩
  | 9 => ⟨S4x8192x128, .f32⟩
  | 10 => ⟨S8192x4x128, .f32⟩
  | 11 => ⟨S4x128x128, .f32⟩
  | 12 => ⟨S4x128x128, .f32⟩
  | 13 => ⟨S8192x4x128, .f32⟩
  | 14 => ⟨S8192x1x128, .f32⟩
  | 15 => ⟨S8192x128, .f32⟩
  | 16 => ⟨S8192x1x128, .f32⟩
  | 17 => ⟨S8192x128, .f32⟩
  | 18 => ⟨S8192x1x128, .f32⟩
  | 19 => ⟨S8192x128, .f32⟩
  | 20 => ⟨S8192x1x128, .f32⟩
  | 21 => ⟨S8192x128, .f32⟩
  | 22 => ⟨S8192x128, .f32⟩
  | 23 => ⟨S8192x128, .f32⟩
  | 24 => ⟨S8192x128, .f32⟩
  | 25 => ⟨S_, .f32⟩
  | 26 => ⟨S8208x128, .f32⟩
  | 27 => ⟨S16x128, .f32⟩
  | 28 => ⟨S8192x128, .f32⟩
  | 29 => ⟨S8192x128, .f32⟩
  | 30 => ⟨S8192x1x128, .f32⟩
  | 31 => ⟨S_, .f32⟩
  | 32 => ⟨S8192x4x128, .f32⟩
  | 33 => ⟨S8192x128, .f32⟩
  | 34 => ⟨S8192x128, .f32⟩
  | 35 => ⟨S8192x128, .f32⟩
  | 36 => ⟨S_, .f32⟩
  | 37 => ⟨S8200x128, .f32⟩
  | 38 => ⟨S8x128, .f32⟩
  | 39 => ⟨S8192x128, .f32⟩
  | 40 => ⟨S8192x128, .f32⟩
  | 41 => ⟨S8192x1x128, .f32⟩
  | 42 => ⟨S_, .f32⟩
  | 43 => ⟨S8192x4x128, .f32⟩
  | 44 => ⟨S8192x4x128, .f32⟩
  | 45 => ⟨S8192x128, .f32⟩
  | 46 => ⟨S8192x128, .f32⟩
  | 47 => ⟨S8192x128, .f32⟩
  | 48 => ⟨S_, .f32⟩
  | 49 => ⟨S8196x128, .f32⟩
  | 50 => ⟨S4x128, .f32⟩
  | 51 => ⟨S8192x128, .f32⟩
  | 52 => ⟨S8192x128, .f32⟩
  | 53 => ⟨S8192x1x128, .f32⟩
  | 54 => ⟨S_, .f32⟩
  | 55 => ⟨S8192x4x128, .f32⟩
  | 56 => ⟨S8192x4x128, .f32⟩
  | 57 => ⟨S8192x128, .f32⟩
  | 58 => ⟨S8192x128, .f32⟩
  | 59 => ⟨S8192x128, .f32⟩
  | 60 => ⟨S_, .f32⟩
  | 61 => ⟨S8194x128, .f32⟩
  | 62 => ⟨S2x128, .f32⟩
  | 63 => ⟨S8192x128, .f32⟩
  | 64 => ⟨S8192x128, .f32⟩
  | 65 => ⟨S8192x1x128, .f32⟩
  | 66 => ⟨S_, .f32⟩
  | 67 => ⟨S8192x4x128, .f32⟩
  | 68 => ⟨S8192x4x128, .f32⟩
  | 69 => ⟨S_, .f32⟩
  | 70 => ⟨S_, .f32⟩
  | 71 => ⟨S8192x4x128, .f32⟩
  | 72 => ⟨S8192x4x128, .f32⟩
  | 73 => ⟨S8192x512, .f32⟩
  | 74 => ⟨S8192x512, .bf16⟩
  | 75 => ⟨S8192x512, .bf16⟩
  | 76 => ⟨S1x512, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_cst : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_c_12 : Ref sig .tc := ⟨.hbm, 82, rfl⟩
abbrev main_v61 : Ref sig .tc := ⟨.hbm, 83, rfl⟩
abbrev main_v62 : Ref sig .tc := ⟨.hbm, 84, rfl⟩
abbrev main_c_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_v82_2 : Ref sig .tc := ⟨.hbm, 112, rfl⟩
abbrev main_call1_cst_1 : Ref sig .tc := ⟨.hbm, 113, rfl⟩
abbrev main_call1_v6 : Ref sig .tc := ⟨.hbm, 114, rfl⟩
abbrev main_call1_v7 : Ref sig .tc := ⟨.hbm, 115, rfl⟩
abbrev main_v82_1 : Ref sig .tc := ⟨.hbm, 116, rfl⟩
abbrev main_v82_0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v88 : Ref sig .tc := ⟨.hbm, 126, rfl⟩
abbrev main_v89 : Ref sig .tc := ⟨.hbm, 127, rfl⟩
abbrev main_cst_14 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_15 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_16 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_17 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_18 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_19 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_20 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_21 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_22 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_23 : Ref sig .tc := ⟨.hbm, 194, rfl⟩
abbrev main_v147 : Ref sig .tc := ⟨.hbm, 195, rfl⟩
abbrev main_v148 : Ref sig .tc := ⟨.hbm, 196, rfl⟩
abbrev main_call3_call0_cst : Ref sig .tc := ⟨.hbm, 197, rfl⟩
abbrev main_call3_call0_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩

abbrev nD : Nat := 1
abbrev τ : Topo := Topo.v7x

variable {F : FTy → Type} [FloatOps F]
-- ==== Attn.lean ====
abbrev S8192x5120 : Shape := ⟨2, ![8192, 5120]⟩
abbrev S8192x512 : Shape := ⟨2, ![8192, 512]⟩
abbrev S8192x2048 : Shape := ⟨2, ![8192, 2048]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S32x32 : Shape := ⟨2, ![32, 32]⟩
abbrev S1x32x1x32x1 : Shape := ⟨5, ![1, 32, 1, 32, 1]⟩
abbrev S8x32x256x32x256 : Shape := ⟨5, ![8, 32, 256, 32, 256]⟩
abbrev S8x32x256x32 : Shape := ⟨4, ![8, 32, 256, 32]⟩
abbrev S1x32x1x32 : Shape := ⟨4, ![1, 32, 1, 32]⟩
abbrev S8192x8 : Shape := ⟨2, ![8192, 8]⟩
abbrev S32x256x8 : Shape := ⟨3, ![32, 256, 8]⟩
abbrev S32x8 : Shape := ⟨2, ![32, 8]⟩
abbrev S1x8192x8 : Shape := ⟨3, ![1, 8192, 8]⟩
abbrev S1x8 : Shape := ⟨2, ![1, 8]⟩
abbrev S8x32 : Shape := ⟨2, ![8, 32]⟩
abbrev S8x32x256x95 : Shape := ⟨4, ![8, 32, 256, 95]⟩
abbrev S8x32x1x1 : Shape := ⟨4, ![8, 32, 1, 1]⟩
abbrev S8x32x256x1 : Shape := ⟨4, ![8, 32, 256, 1]⟩
abbrev S8x32x256x128 : Shape := ⟨4, ![8, 32, 256, 128]⟩
abbrev S8192x1536 : Shape := ⟨2, ![8192, 1536]⟩
abbrev S8x32x256x256 : Shape := ⟨4, ![8, 32, 256, 256]⟩
abbrev S8x32x256x512 : Shape := ⟨4, ![8, 32, 256, 512]⟩
abbrev S256x128 : Shape := ⟨2, ![256, 128]⟩
abbrev S8192x128 : Shape := ⟨2, ![8192, 128]⟩
abbrev S2x1x256x128 : Shape := ⟨4, ![2, 1, 256, 128]⟩
abbrev S2x1x256x512 : Shape := ⟨4, ![2, 1, 256, 512]⟩
abbrev S32x128x256 : Shape := ⟨3, ![32, 128, 256]⟩
abbrev S2x8192x128 : Shape := ⟨3, ![2, 8192, 128]⟩
abbrev S2x256x256 : Shape := ⟨3, ![2, 256, 256]⟩
abbrev S1x128 : Shape := ⟨2, ![1, 128]⟩
abbrev S128x256 : Shape := ⟨2, ![128, 256]⟩
abbrev S1x128x256 : Shape := ⟨3, ![1, 128, 256]⟩
abbrev S1x256x128 : Shape := ⟨3, ![1, 256, 128]⟩
abbrev S256x256 : Shape := ⟨2, ![256, 256]⟩
abbrev S1x1x256x128 : Shape := ⟨4, ![1, 1, 256, 128]⟩
abbrev S128 : Shape := ⟨1, ![128]⟩
abbrev S1 : Shape := ⟨1, ![1]⟩
abbrev S1x1 : Shape := ⟨2, ![1, 1]⟩
abbrev S1x1x128 : Shape := ⟨3, ![1, 1, 128]⟩
abbrev S1x1x1 : Shape := ⟨3, ![1, 1, 1]⟩
abbrev S1x256x256 : Shape := ⟨3, ![1, 256, 256]⟩
abbrev S256 : Shape := ⟨1, ![256]⟩
abbrev S256x1 : Shape := ⟨2, ![256, 1]⟩
abbrev S1x1x256x256 : Shape := ⟨4, ![1, 1, 256, 256]⟩

abbrev nBuf : Space → Nat
  | .hbm => 179
  | .vmem => 37
  | .smem => 0
  | _ => 0

abbrev hbmTy0_0 (i : Nat) : BufTy := match i % 128 with
  | 0 => ⟨S8192x5120, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x2048, .f32⟩
  | 9 => ⟨S8192x8x64, .f32⟩
  | 10 => ⟨S8192x8x64, .f32⟩
  | 11 => ⟨S8x8192x8192, .f32⟩
  | 12 => ⟨S_, .f32⟩
  | 13 => ⟨S8x8192x8192, .f32⟩
  | 14 => ⟨S8x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S1x8192x8192, .i1⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .i1⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .f32⟩
  | 43 => ⟨S8x8192x8192, .f32⟩
  | 44 => ⟨S8x8192x8192, .f32⟩
  | 45 => ⟨S8x8192x8192, .i1⟩
  | 46 => ⟨S8x8192x8192, .f32⟩
  | 47 => ⟨S8x8192x8192, .f32⟩
  | 48 => ⟨S8x8192x8192, .f32⟩
  | 49 => ⟨S8x8192x8192, .f32⟩
  | 50 => ⟨S8x8192x8192, .f32⟩
  | 51 => ⟨S8x8192x8192, .f32⟩
  | 52 => ⟨S8x8192x8192, .f32⟩
  | 53 => ⟨S8x8192x8192, .f32⟩
  | 54 => ⟨S8x8192x8192, .f32⟩
  | 55 => ⟨S_, .f32⟩
  | 56 => ⟨S_, .f32⟩
  | 57 => ⟨S8x8192x8192, .i1⟩
  | 58 => ⟨S8x8192x8192, .f32⟩
  | 59 => ⟨S8x8192x8192, .f32⟩
  | 60 => ⟨S_, .f32⟩
  | 61 => ⟨S_, .f32⟩
  | 62 => ⟨S8x8192x8192, .f32⟩
  | 63 => ⟨S8x8192x8192, .f32⟩
  | 64 => ⟨S8x8192x8192, .f32⟩
  | 65 => ⟨S8x8192x8192, .f32⟩
  | 66 => ⟨S_, .f32⟩
  | 67 => ⟨S_, .f32⟩
  | 68 => ⟨S8x8192x8192, .i1⟩
  | 69 => ⟨S8x8192x8192, .f32⟩
  | 70 => ⟨S8x8192x8192, .f32⟩
  | 71 => ⟨S32x32, .i32⟩
  | 72 => ⟨S32x32, .i32⟩
  | 73 => ⟨S32x32, .i1⟩
  | 74 => ⟨S1x32x1x32x1, .i1⟩
  | 75 => ⟨S_, .i32⟩
  | 76 => ⟨S32x32, .i32⟩
  | 77 => ⟨S32x32, .i32⟩
  | 78 => ⟨S32x32, .i1⟩
  | 79 => ⟨S1x32x1x32x1, .i1⟩
  | 80 => ⟨S8192, .i32⟩
  | 81 => ⟨S1x8192, .i32⟩
  | 82 => ⟨S8192x1, .i32⟩
  | 83 => ⟨S8192x8192, .i32⟩
  | 84 => ⟨S8192x8192, .i32⟩
  | 85 => ⟨S8192x8192, .i1⟩
  | 86 => ⟨S1x8192x8192, .i1⟩
  | 87 => ⟨S8x8192x8192, .f32⟩
  | 88 => ⟨S8x8192x8192, .f32⟩
  | 89 => ⟨S_, .f32⟩
  | 90 => ⟨S8x8192x8192, .f32⟩
  | 91 => ⟨S8x8192x8192, .f32⟩
  | 92 => ⟨S_, .f32⟩
  | 93 => ⟨S8x8192x8192, .f32⟩
  | 94 => ⟨S8x8192x8192, .f32⟩
  | 95 => ⟨S_, .f32⟩
  | 96 => ⟨S_, .f32⟩
  | 97 => ⟨S8x8192x8192, .i1⟩
  | 98 => ⟨S8x8192x8192, .f32⟩
  | 99 => ⟨S8x8192x8192, .f32⟩
  | 100 => ⟨S8x32x256x32x256, .f32⟩
  | 101 => ⟨S_, .f32⟩
  | 102 => ⟨S8x32x256x32, .f32⟩
  | 103 => ⟨S8x32x256x32, .f32⟩
  | 104 => ⟨S_, .f32⟩
  | 105 => ⟨S_, .f32⟩
  | 106 => ⟨S8x32x256x32, .f32⟩
  | 107 => ⟨S8x32x256x32, .f32⟩
  | 108 => ⟨S32x32, .i1⟩
  | 109 => ⟨S1x32x1x32, .i1⟩
  | 110 => ⟨S_, .f32⟩
  | 111 => ⟨S_, .f32⟩
  | 112 => ⟨S8x32x256x32, .i1⟩
  | 113 => ⟨S8x32x256x32, .f32⟩
  | 114 => ⟨S8x32x256x32, .f32⟩
  | 115 => ⟨S_, .f32⟩
  | 116 => ⟨S8192x8x64, .f32⟩
  | 117 => ⟨S8192x8x64, .f32⟩
  | 118 => ⟨S8192x8x64, .f32⟩
  | 119 => ⟨S_, .f32⟩
  | 120 => ⟨S8192x8, .f32⟩
  | 121 => ⟨S32x256x8, .f32⟩
  | 122 => ⟨S_, .f32⟩
  | 123 => ⟨S32x8, .f32⟩
  | 124 => ⟨S8192x8x64, .f32⟩
  | 125 => ⟨S_, .f32⟩
  | 126 => ⟨S8192x8, .f32⟩
  | 127 => ⟨S1x8192x8, .f32⟩
  | _ => ⟨S8192x5120, .f32⟩

abbrev hbmTy0_1 (i : Nat) : BufTy := match i % 128 with
  | 0 => ⟨S_, .f32⟩
  | 1 => ⟨S1x8, .f32⟩
  | 2 => ⟨S32x8, .f32⟩
  | 3 => ⟨S32x8, .f32⟩
  | 4 => ⟨S32x8, .f32⟩
  | 5 => ⟨S8x32, .f32⟩
  | 6 => ⟨S_, .f32⟩
  | 7 => ⟨S8x32x256x95, .f32⟩
  | 8 => ⟨S8x32x1x1, .f32⟩
  | 9 => ⟨S8x32x256x1, .f32⟩
  | 10 => ⟨S8x32x256x128, .f32⟩
  | 11 => ⟨S8192x1536, .f32⟩
  | 12 => ⟨S8192x1536, .bf16⟩
  | 13 => ⟨S8192x512, .bf16⟩
  | 14 => ⟨S8x32x256x32x256, .f32⟩
  | 15 => ⟨S_, .f32⟩
  | 16 => ⟨S_, .f32⟩
  | 17 => ⟨S8x32x256x32x256, .i1⟩
  | 18 => ⟨S8x32x256x32x256, .f32⟩
  | 19 => ⟨S8x32x256x32x256, .f32⟩
  | 20 => ⟨S_, .f32⟩
  | 21 => ⟨S8x32x256x256, .f32⟩
  | 22 => ⟨S8x32x256x32x256, .f32⟩
  | 23 => ⟨S_, .f32⟩
  | 24 => ⟨S_, .f32⟩
  | 25 => ⟨S8x32x256x32x256, .i1⟩
  | 26 => ⟨S8x32x256x32x256, .f32⟩
  | 27 => ⟨S8x32x256x32x256, .f32⟩
  | 28 => ⟨S_, .f32⟩
  | 29 => ⟨S8x32x256x256, .f32⟩
  | 30 => ⟨S8x32x256x512, .f32⟩
  | 31 => ⟨S8x32x256x32x256, .f32⟩
  | 32 => ⟨S_, .f32⟩
  | 33 => ⟨S_, .f32⟩
  | 34 => ⟨S8x32x256x32x256, .i1⟩
  | 35 => ⟨S8x32x256x32x256, .f32⟩
  | 36 => ⟨S8x32x256x32x256, .f32⟩
  | 37 => ⟨S_, .f32⟩
  | 38 => ⟨S8x32x256x256, .f32⟩
  | 39 => ⟨S8x32x256x32x256, .f32⟩
  | 40 => ⟨S_, .f32⟩
  | 41 => ⟨S_, .f32⟩
  | 42 => ⟨S8x32x256x32x256, .i1⟩
  | 43 => ⟨S8x32x256x32x256, .f32⟩
  | 44 => ⟨S8x32x256x32x256, .f32⟩
  | 45 => ⟨S_, .f32⟩
  | 46 => ⟨S8x32x256x256, .f32⟩
  | 47 => ⟨S8x32x256x512, .f32⟩
  | 48 => ⟨S8192x512, .bf16⟩
  | 49 => ⟨S8192x512, .bf16⟩
  | 50 => ⟨S8192x512, .bf16⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S2x1x256x128, .f32⟩
  | .local _ .vmem, ⟨9, _⟩ => ⟨S2x1x256x128, .f32⟩
  | .local _ .vmem, ⟨10, _⟩ => ⟨S2x1x256x512, .f32⟩
  | .local _ .vmem, ⟨11, _⟩ => ⟨S2x1x256x512, .f32⟩
  | .local _ .vmem, ⟨12, _⟩ => ⟨S2x1x256x512, .f32⟩
  | .local _ .vmem, ⟨13, _⟩ => ⟨S2x1x256x512, .f32⟩
  | .local _ .vmem, ⟨14, _⟩ => ⟨S256x128, .bf16⟩
  | .local _ .vmem, ⟨15, _⟩ => ⟨S256x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .bf16⟩
  | .local _ .vmem, ⟨20, _⟩ => ⟨S32x128x256, .bf16⟩
  | .local _ .vmem, ⟨21, _⟩ => ⟨S32x128x256, .bf16⟩
  | .local _ .vmem, ⟨22, _⟩ => ⟨S2x8192x128, .bf16⟩
  | .local _ .vmem, ⟨23, _⟩ => ⟨S32x128x256, .f32⟩
  | .local _ .vmem, ⟨24, _⟩ => ⟨S32x128x256, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S2x256x256, .f32⟩
  | .local _ .vmem, ⟨30, _⟩ => ⟨S2x256x256, .f32⟩
  | .local _ .vmem, ⟨31, _⟩ => ⟨S2x256x256, .f32⟩
  | .local _ .vmem, ⟨32, _⟩ => ⟨S2x256x256, .f32⟩
  | .local _ .vmem, ⟨33, _⟩ => ⟨S2x256x256, .bf16⟩
  | .local _ .vmem, ⟨34, _⟩ => ⟨S2x256x256, .bf16⟩
  | .local _ .vmem, ⟨35, _⟩ => ⟨S2x256x256, .bf16⟩
  | .local _ .vmem, ⟨36, _⟩ => ⟨S2x256x256, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v21 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v22 : Ref sig .tc := ⟨.hbm, 59, rfl⟩
abbrev main_call3_cst : Ref sig .tc := ⟨.hbm, 60, rfl⟩
abbrev main_call3_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_c : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_2 : Ref sig .tc := ⟨.hbm, 89, rfl⟩
abbrev main_v45 : Ref sig .tc := ⟨.hbm, 90, rfl⟩
abbrev main_v46 : Ref sig .tc := ⟨.hbm, 91, rfl⟩
abbrev main_cst_3 : Ref sig .tc := ⟨.hbm, 92, rfl⟩
abbrev main_v47 : Ref sig .tc := ⟨.hbm, 93, rfl⟩
abbrev main_v48 : Ref sig .tc := ⟨.hbm, 94, rfl⟩
abbrev main_cst_4 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v49 : Ref sig .tc := ⟨.hbm, 99, rfl⟩
abbrev main_v50 : Ref sig .tc := ⟨.hbm, 100, rfl⟩
abbrev main_cst_5 : Ref sig .tc := ⟨.hbm, 101, rfl⟩
abbrev main_v51 : Ref sig .tc := ⟨.hbm, 102, rfl⟩
abbrev main_v52 : Ref sig .tc := ⟨.hbm, 103, rfl⟩
abbrev main_call6_cst : Ref sig .tc := ⟨.hbm, 104, rfl⟩
abbrev main_call6_v0 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_6 : Ref sig .tc := ⟨.hbm, 110, rfl⟩
abbrev main_call7_v0 : Ref sig .tc := ⟨.hbm, 111, rfl⟩
abbrev main_call7_v1 : Ref sig .tc := ⟨.hbm, 112, rfl⟩
abbrev main_call7_v2 : Ref sig .tc := ⟨.hbm, 113, rfl⟩
abbrev main_v57 : Ref sig .tc := ⟨.hbm, 114, rfl⟩
abbrev main_cst_7 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_8 : Ref sig .tc := ⟨.hbm, 119, rfl⟩
abbrev main_v61 : Ref sig .tc := ⟨.hbm, 120, rfl⟩
abbrev main_v62 : Ref sig .tc := ⟨.hbm, 121, rfl⟩
abbrev main_cst_9 : Ref sig .tc := ⟨.hbm, 122, rfl⟩
abbrev main_v63 : Ref sig .tc := ⟨.hbm, 123, rfl⟩
abbrev main_v64 : Ref sig .tc := ⟨.hbm, 124, rfl⟩
abbrev main_cst_10 : Ref sig .tc := ⟨.hbm, 125, rfl⟩
abbrev main_v65 : Ref sig .tc := ⟨.hbm, 126, rfl⟩
abbrev main_v66 : Ref sig .tc := ⟨.hbm, 127, rfl⟩
abbrev main_cst_11 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_12 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_13 : Ref sig .tc := ⟨.hbm, 143, rfl⟩
abbrev main_call8_v0 : Ref sig .tc := ⟨.hbm, 144, rfl⟩
abbrev main_call8_v1 : Ref sig .tc := ⟨.hbm, 145, rfl⟩
abbrev main_call8_v2 : Ref sig .tc := ⟨.hbm, 146, rfl⟩
abbrev main_v80 : Ref sig .tc := ⟨.hbm, 147, rfl⟩
abbrev main_cst_14 : Ref sig .tc := ⟨.hbm, 148, rfl⟩
abbrev main_v81 : Ref sig .tc := ⟨.hbm, 149, rfl⟩
abbrev main_v82 : Ref sig .tc := ⟨.hbm, 150, rfl⟩
abbrev main_cst_15 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_v83 : Ref sig .tc := ⟨.hbm, 155, rfl⟩
abbrev main_cst_16 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_cst_17 : Ref sig .tc := ⟨.hbm, 160, rfl⟩
abbrev main_call10_v0 : Ref sig .tc := ⟨.hbm, 161, rfl⟩
abbrev main_call10_v1 : Ref sig .tc := ⟨.hbm, 162, rfl⟩
abbrev main_call10_v2 : Ref sig .tc := ⟨.hbm, 163, rfl⟩
abbrev main_v87 : Ref sig .tc := ⟨.hbm, 164, rfl⟩
abbrev main_cst_18 : Ref sig .tc := ⟨.hbm, 165, rfl⟩
abbrev main_v88 : Ref sig .tc := ⟨.hbm, 166, rfl⟩
abbrev main_v89 : Ref sig .tc := ⟨.hbm, 167, rfl⟩
abbrev main_cst_19 : Ref sig .tc := ⟨.hbm, 168, rfl⟩
abbrev main_call11_v0 : Ref sig .tc := ⟨.hbm, 169, rfl⟩
abbrev main_call11_v1 : Ref sig .tc := ⟨.hbm, 170, rfl⟩
abbrev main_call11_v2 : Ref sig .tc := ⟨.hbm, 171, rfl⟩
abbrev main_v90 : Ref sig .tc := ⟨.hbm, 172, rfl⟩
abbrev main_cst_20 : Ref sig .tc := ⟨.hbm, 173, rfl⟩
abbrev main_v91 : Ref sig .tc := ⟨.hbm, 174, rfl⟩
abbrev main_v92 : Ref sig .tc := ⟨.hbm, 175, rfl⟩
abbrev main_v93_0 : Ref sig .tc := ⟨.hbm, 176, rfl⟩
abbrev main_v93_1 : Ref sig .tc := ⟨.hbm, 177, rfl⟩
abbrev main_v93_2 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_scratch13 : Ref sig .tc := ⟨.vmem, 33, rfl⟩
abbrev cc0_scratch14 : Ref sig .tc := ⟨.vmem, 34, rfl⟩
abbrev cc0_scratch15 : Ref sig .tc := ⟨.vmem, 35, rfl⟩
abbrev cc0_scratch16 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_87 : BitVec 32 := 0#32
  let c32_i32 : BitVec 32 := 32#32
  let v198 : BitVec 32 := Scalar.addi c0_i32_87 c32_i32
  let c1_i32_88 : BitVec 32 := 1#32
  ⟨c0_i32_87, v198, c1_i32_88⟩
def k0_mult1 (k0_t1 : Fin k0_t1_loop.trips) : BitVec 32 :=
  let c0_i32_87 : BitVec 32 := 0#32
  let c1_i32_88 : BitVec 32 := 1#32
  let arg29 : BitVec 32 := Scf.iv c0_i32_87 c1_i32_88 k0_t1
  let c256_i32 : BitVec 32 := 256#32
  let v208 : BitVec 32 := Scalar.muli arg29 c256_i32
  v208
def k0_off1 (k0_t1 : Fin k0_t1_loop.trips) : Fin 2 → Nat :=
  let c0_i32_87 : BitVec 32 := 0#32
  let c1_i32_88 : BitVec 32 := 1#32
  let arg29 : BitVec 32 := Scf.iv c0_i32_87 c1_i32_88 k0_t1
  let c256_i32 : BitVec 32 := 256#32
  let v208 : BitVec 32 := Scalar.muli arg29 c256_i32
  let v209 : BitVec 32 := v208
  let v210 : Index := Scalar.indexCast v209
  let c0_102 : Index := 0#32
  ![v210.toNat, 0]
def k0_off2 (k0_t1 : Fin k0_t1_loop.trips) : Fin 3 → Nat :=
  let c0_i32_87 : BitVec 32 := 0#32
  let c1_i32_88 : BitVec 32 := 1#32
  let arg29 : BitVec 32 := Scf.iv c0_i32_87 c1_i32_88 k0_t1
  let v216 : Index := Scalar.indexCast arg29
  let c0_103 : Index := 0#32
  let c0_104 : Index := 0#32
  ![v216.toNat, 0, 0]
def k0_off3 (k0_t1 : Fin k0_t1_loop.trips) : Fin 3 → Nat :=
  let c0_106 : Index := 0#32
  let c0_i32_87 : BitVec 32 := 0#32
  let c1_i32_88 : BitVec 32 := 1#32
  let arg29 : BitVec 32 := Scf.iv c0_i32_87 c1_i32_88 k0_t1
  let c256_i32 : BitVec 32 := 256#32
  let v208 : BitVec 32 := Scalar.muli arg29 c256_i32
  let v209 : BitVec 32 := v208
  let v224 : Index := Scalar.indexCast v209
  let c0_107 : Index := 0#32
  ![0, v224.toNat, 0]
def k0_off4 (k0_t1 : Fin k0_t1_loop.trips) : Fin 3 → Nat :=
  let c1_109 : Index := 1#32
  let c0_i32_87 : BitVec 32 := 0#32
  let c1_i32_88 : BitVec 32 := 1#32
  let arg29 : BitVec 32 := Scf.iv c0_i32_87 c1_i32_88 k0_t1
  let c256_i32 : BitVec 32 := 256#32
  let v208 : BitVec 32 := Scalar.muli arg29 c256_i32
  let v209 : BitVec 32 := v208
  let v232 : Index := Scalar.indexCast v209
  let c0_110 : Index := 0#32
  ![1, v232.toNat, 0]
@[reducible] def k0_t2_loop : Scf.Loop 32 :=
  let c0_i32_90 : BitVec 32 := 0#32
  let c32_i32_91 : BitVec 32 := 32#32
  let v199 : BitVec 32 := Scalar.addi c0_i32_90 c32_i32_91
  let c1_i32_92 : BitVec 32 := 1#32
  ⟨c0_i32_90, v199, c1_i32_92⟩
def k0_mult2 (k0_t2 : Fin k0_t2_loop.trips) : BitVec 32 :=
  let c0_i32_90 : BitVec 32 := 0#32
  let c1_i32_92 : BitVec 32 := 1#32
  let arg29 : BitVec 32 := Scf.iv c0_i32_90 c1_i32_92 k0_t2
  let c256_i32 : BitVec 32 := 256#32
  let v208 : BitVec 32 := Scalar.muli arg29 c256_i32
  v208
def k0_off5 (k0_t2 : Fin k0_t2_loop.trips) : Fin 2 → Nat :=
  let c0_i32_90 : BitVec 32 := 0#32
  let c1_i32_92 : BitVec 32 := 1#32
  let arg29 : BitVec 32 := Scf.iv c0_i32_90 c1_i32_92 k0_t2
  let c256_i32 : BitVec 32 := 256#32
  let v208 : BitVec 32 := Scalar.muli arg29 c256_i32
  let v209 : BitVec 32 := v208
  let v210 : Index := Scalar.indexCast v209
  let c0_102 : Index := 0#32
  ![v210.toNat, 0]
def k0_off6 (k0_t2 : Fin k0_t2_loop.trips) : Fin 3 → Nat :=
  let c0_i32_90 : BitVec 32 := 0#32
  let c1_i32_92 : BitVec 32 := 1#32
  let arg29 : BitVec 32 := Scf.iv c0_i32_90 c1_i32_92 k0_t2
  let v216 : Index := Scalar.indexCast arg29
  let c0_103 : Index := 0#32
  let c0_104 : Index := 0#32
  ![v216.toNat, 0, 0]
def k0_off7 (v118 : BitVec 32) : Fin 3 → Nat :=
  let v209 : Index := Scalar.indexCast v118
  let c0_101 : Index := 0#32
  let c0_102 : Index := 0#32
  ![v209.toNat, 0, 0]
def k0_cond2 (i : grid0.Coords) (v118 : BitVec 32) : BitVec 1 :=
  let arg1 : BitVec 32 := BitVec.ofNat 32 (i 1).val
  let v119 : BitVec 32 := Scalar.subi arg1 v118
  let c2_i32 : BitVec 32 := 2#32
  let v120 : BitVec 1 := Scalar.cmpi .sge v119 c2_i32
  let v121 : BitVec 32 := Scalar.extui v120
  let c0_i32_41 : BitVec 32 := 0#32
  let v122 : BitVec 1 := Scalar.cmpi .ne v121 c0_i32_41
  v122

@[reducible] def k0_t3_loop (i : grid0.Coords) (v118 : BitVec 32) : Scf.Loop 32 :=
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_53 : BitVec 32 := 1#32
  ⟨c0_i32_51, v146, c1_i32_53⟩
def k0_off8 (i : grid0.Coords) (v118 : BitVec 32) (k0_t3 : Fin (k0_t3_loop i v118).trips) : Fin 3 → Nat :=
  let c2_i32_85 : BitVec 32 := 2#32
  let c0_i32_51 : BitVec 32 := 0#32
  let c1_i32_53 : BitVec 32 := 1#32
  let arg29 : BitVec 32 := Scf.iv c0_i32_51 c1_i32_53 k0_t3
  let v193 : BitVec 32 := Scalar.muli c2_i32_85 arg29
  let v194 : BitVec 32 := Scalar.addi v118 v193
  let c1_i32_86 : BitVec 32 := 1#32
  let v195 : BitVec 32 := Scalar.addi v194 c1_i32_86
  let v196 : Index := Scalar.indexCast v195
  let c0_87 : Index := 0#32
  let c0_88 : Index := 0#32
  ![v196.toNat, 0, 0]
def k0_mult3 (i : grid0.Coords) (v118 : BitVec 32) (k0_t3 : Fin (k0_t3_loop i v118).trips) : BitVec 32 :=
  let c2_i32_85 : BitVec 32 := 2#32
  let c0_i32_51 : BitVec 32 := 0#32
  let c1_i32_53 : BitVec 32 := 1#32
  let arg29 : BitVec 32 := Scf.iv c0_i32_51 c1_i32_53 k0_t3
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  v221
def k0_off9 (i : grid0.Coords) (v118 : BitVec 32) (k0_t3 : Fin (k0_t3_loop i v118).trips) : Fin 3 → Nat :=
  let c0_114 : Index := 0#32
  let c2_i32_85 : BitVec 32 := 2#32
  let c0_i32_51 : BitVec 32 := 0#32
  let c1_i32_53 : BitVec 32 := 1#32
  let arg29 : BitVec 32 := Scf.iv c0_i32_51 c1_i32_53 k0_t3
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  let v222 : BitVec 32 := v221
  let v226 : Index := Scalar.indexCast v222
  let c0_115 : Index := 0#32
  ![0, v226.toNat, 0]
def k0_off10 (i : grid0.Coords) (v118 : BitVec 32) (k0_t3 : Fin (k0_t3_loop i v118).trips) : Fin 3 → Nat :=
  let c1_129 : Index := 1#32
  let c2_i32_85 : BitVec 32 := 2#32
  let c0_i32_51 : BitVec 32 := 0#32
  let c1_i32_53 : BitVec 32 := 1#32
  let arg29 : BitVec 32 := Scf.iv c0_i32_51 c1_i32_53 k0_t3
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  let v222 : BitVec 32 := v221
  let v241 : Index := Scalar.indexCast v222
  let c0_130 : Index := 0#32
  ![1, v241.toNat, 0]
def k0_off11 (i : grid0.Coords) (v118 : BitVec 32) (k0_t3 : Fin (k0_t3_loop i v118).trips) : Fin 3 → Nat :=
  let c2_i32_85 : BitVec 32 := 2#32
  let c0_i32_51 : BitVec 32 := 0#32
  let c1_i32_53 : BitVec 32 := 1#32
  let arg29 : BitVec 32 := Scf.iv c0_i32_51 c1_i32_53 k0_t3
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let v253 : Index := Scalar.indexCast v220
  let c0_139 : Index := 0#32
  let c0_140 : Index := 0#32
  ![v253.toNat, 0, 0]
def k0_off12 (i : grid0.Coords) (v118 : BitVec 32) (k0_t3 : Fin (k0_t3_loop i v118).trips) : Fin 3 → Nat :=
  let c2_i32_207 : BitVec 32 := 2#32
  let c0_i32_51 : BitVec 32 := 0#32
  let c1_i32_53 : BitVec 32 := 1#32
  let arg29 : BitVec 32 := Scf.iv c0_i32_51 c1_i32_53 k0_t3
  let v388 : BitVec 32 := Scalar.muli c2_i32_207 arg29
  let c1_i32_208 : BitVec 32 := 1#32
  let v389 : BitVec 32 := Scalar.addi v388 c1_i32_208
  let v390 : BitVec 32 := Scalar.addi v118 v389
  let c1_i32_209 : BitVec 32 := 1#32
  let v391 : BitVec 32 := Scalar.addi v390 c1_i32_209
  let v392 : Index := Scalar.indexCast v391
  let c0_210 : Index := 0#32
  let c0_211 : Index := 0#32
  ![v392.toNat, 0, 0]
def k0_mult4 (i : grid0.Coords) (v118 : BitVec 32) (k0_t3 : Fin (k0_t3_loop i v118).trips) : BitVec 32 :=
  let c2_i32_207 : BitVec 32 := 2#32
  let c0_i32_51 : BitVec 32 := 0#32
  let c1_i32_53 : BitVec 32 := 1#32
  let arg29 : BitVec 32 := Scf.iv c0_i32_51 c1_i32_53 k0_t3
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let c256_i32_232 : BitVec 32 := 256#32
  let v417 : BitVec 32 := Scalar.muli v416 c256_i32_232
  v417
def k0_off13 (i : grid0.Coords) (v118 : BitVec 32) (k0_t3 : Fin (k0_t3_loop i v118).trips) : Fin 3 → Nat :=
  let c0_238 : Index := 0#32
  let c2_i32_207 : BitVec 32 := 2#32
  let c0_i32_51 : BitVec 32 := 0#32
  let c1_i32_53 : BitVec 32 := 1#32
  let arg29 : BitVec 32 := Scf.iv c0_i32_51 c1_i32_53 k0_t3
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let c256_i32_232 : BitVec 32 := 256#32
  let v417 : BitVec 32 := Scalar.muli v416 c256_i32_232
  let v418 : BitVec 32 := v417
  let v422 : Index := Scalar.indexCast v418
  let c0_239 : Index := 0#32
  ![0, v422.toNat, 0]
def k0_off14 (i : grid0.Coords) (v118 : BitVec 32) (k0_t3 : Fin (k0_t3_loop i v118).trips) : Fin 3 → Nat :=
  let c1_253 : Index := 1#32
  let c2_i32_207 : BitVec 32 := 2#32
  let c0_i32_51 : BitVec 32 := 0#32
  let c1_i32_53 : BitVec 32 := 1#32
  let arg29 : BitVec 32 := Scf.iv c0_i32_51 c1_i32_53 k0_t3
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let c256_i32_232 : BitVec 32 := 256#32
  let v417 : BitVec 32 := Scalar.muli v416 c256_i32_232
  let v418 : BitVec 32 := v417
  let v437 : Index := Scalar.indexCast v418
  let c0_254 : Index := 0#32
  ![1, v437.toNat, 0]
def k0_off15 (i : grid0.Coords) (v118 : BitVec 32) (k0_t3 : Fin (k0_t3_loop i v118).trips) : Fin 3 → Nat :=
  let c2_i32_207 : BitVec 32 := 2#32
  let c0_i32_51 : BitVec 32 := 0#32
  let c1_i32_53 : BitVec 32 := 1#32
  let arg29 : BitVec 32 := Scf.iv c0_i32_51 c1_i32_53 k0_t3
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let v449 : Index := Scalar.indexCast v416
  let c0_263 : Index := 0#32
  let c0_264 : Index := 0#32
  ![v449.toNat, 0, 0]
@[reducible] def k0_t4_loop (i : grid0.Coords) (v118 : BitVec 32) : Scf.Loop 32 :=
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let v143 : BitVec 32 := Scalar.addi c0_i32_51 v142
  let c1_i32_54 : BitVec 32 := 1#32
  ⟨v146, v143, c1_i32_54⟩
def k0_off16 (i : grid0.Coords) (v118 : BitVec 32) (k0_t4 : Fin (k0_t4_loop i v118).trips) : Fin 3 → Nat :=
  let c2_i32_85 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v193 : BitVec 32 := Scalar.muli c2_i32_85 arg29
  let v194 : BitVec 32 := Scalar.addi v118 v193
  let c1_i32_86 : BitVec 32 := 1#32
  let v195 : BitVec 32 := Scalar.addi v194 c1_i32_86
  let v196 : Index := Scalar.indexCast v195
  let c0_87 : Index := 0#32
  let c0_88 : Index := 0#32
  ![v196.toNat, 0, 0]
def k0_mult5 (i : grid0.Coords) (v118 : BitVec 32) (k0_t4 : Fin (k0_t4_loop i v118).trips) : BitVec 32 :=
  let c2_i32_85 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  v221
def k0_off17 (i : grid0.Coords) (v118 : BitVec 32) (k0_t4 : Fin (k0_t4_loop i v118).trips) : Fin 3 → Nat :=
  let c0_114 : Index := 0#32
  let c2_i32_85 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  let v222 : BitVec 32 := v221
  let v226 : Index := Scalar.indexCast v222
  let c0_115 : Index := 0#32
  ![0, v226.toNat, 0]
def k0_off18 (i : grid0.Coords) (v118 : BitVec 32) (k0_t4 : Fin (k0_t4_loop i v118).trips) : Fin 3 → Nat :=
  let c1_129 : Index := 1#32
  let c2_i32_85 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  let v222 : BitVec 32 := v221
  let v241 : Index := Scalar.indexCast v222
  let c0_130 : Index := 0#32
  ![1, v241.toNat, 0]
def k0_off19 (i : grid0.Coords) (v118 : BitVec 32) (k0_t4 : Fin (k0_t4_loop i v118).trips) : Fin 3 → Nat :=
  let c2_i32_85 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v193 : BitVec 32 := Scalar.muli c2_i32_85 arg29
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let v253 : Index := Scalar.indexCast v220
  let c0_139 : Index := 0#32
  let c0_140 : Index := 0#32
  ![v253.toNat, 0, 0]
def k0_off20 (i : grid0.Coords) (v118 : BitVec 32) (k0_t4 : Fin (k0_t4_loop i v118).trips) : Fin 3 → Nat :=
  let c2_i32_207 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v388 : BitVec 32 := Scalar.muli c2_i32_207 arg29
  let c1_i32_208 : BitVec 32 := 1#32
  let v389 : BitVec 32 := Scalar.addi v388 c1_i32_208
  let v390 : BitVec 32 := Scalar.addi v118 v389
  let c1_i32_209 : BitVec 32 := 1#32
  let v391 : BitVec 32 := Scalar.addi v390 c1_i32_209
  let v392 : Index := Scalar.indexCast v391
  let c0_210 : Index := 0#32
  let c0_211 : Index := 0#32
  ![v392.toNat, 0, 0]
def k0_mult6 (i : grid0.Coords) (v118 : BitVec 32) (k0_t4 : Fin (k0_t4_loop i v118).trips) : BitVec 32 :=
  let c2_i32_207 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let c256_i32_232 : BitVec 32 := 256#32
  let v417 : BitVec 32 := Scalar.muli v416 c256_i32_232
  v417
def k0_off21 (i : grid0.Coords) (v118 : BitVec 32) (k0_t4 : Fin (k0_t4_loop i v118).trips) : Fin 3 → Nat :=
  let c0_238 : Index := 0#32
  let c2_i32_207 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let c256_i32_232 : BitVec 32 := 256#32
  let v417 : BitVec 32 := Scalar.muli v416 c256_i32_232
  let v418 : BitVec 32 := v417
  let v422 : Index := Scalar.indexCast v418
  let c0_239 : Index := 0#32
  ![0, v422.toNat, 0]
def k0_off22 (i : grid0.Coords) (v118 : BitVec 32) (k0_t4 : Fin (k0_t4_loop i v118).trips) : Fin 3 → Nat :=
  let c1_253 : Index := 1#32
  let c2_i32_207 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let c256_i32_232 : BitVec 32 := 256#32
  let v417 : BitVec 32 := Scalar.muli v416 c256_i32_232
  let v418 : BitVec 32 := v417
  let v437 : Index := Scalar.indexCast v418
  let c0_254 : Index := 0#32
  ![1, v437.toNat, 0]
def k0_off23 (i : grid0.Coords) (v118 : BitVec 32) (k0_t4 : Fin (k0_t4_loop i v118).trips) : Fin 3 → Nat :=
  let c2_i32_207 : BitVec 32 := 2#32
  let c0_i32_51 : BitVec 32 := 0#32
  let arg1 : BitVec 32 := BitVec.ofNat 32 (i 1).val
  let v119 : BitVec 32 := Scalar.subi arg1 v118
  let c1_i32 : BitVec 32 := 1#32
  let v123 : BitVec 32 := Scalar.subi v119 c1_i32
  let c0_i32_42 : BitVec 32 := 0#32
  let v124 : BitVec 32 := Scalar.maxsi v123 c0_i32_42
  let c0_i32_44 : BitVec 32 := 0#32
  let v126 : BitVec 1 := Scalar.cmpi .sgt v124 c0_i32_44
  let v127 : BitVec 32 := Scalar.extui v126
  let c0_i32_45 : BitVec 32 := 0#32
  let v128 : BitVec 1 := Scalar.cmpi .slt v124 c0_i32_45
  let v129 : BitVec 32 := Scalar.extui v128
  let v130 : BitVec 32 := Scalar.subi v127 v129
  let c2_i32_43 : BitVec 32 := 2#32
  let c0_i32_46 : BitVec 32 := 0#32
  let v131 : BitVec 1 := Scalar.cmpi .sgt c2_i32_43 c0_i32_46
  let v132 : BitVec 32 := Scalar.extui v131
  let c0_i32_47 : BitVec 32 := 0#32
  let v133 : BitVec 1 := Scalar.cmpi .slt c2_i32_43 c0_i32_47
  let v134 : BitVec 32 := Scalar.extui v133
  let v135 : BitVec 32 := Scalar.subi v132 v134
  let v136 : BitVec 1 := Scalar.cmpi .ne v130 v135
  let v137 : BitVec 32 := Scalar.remsi v124 c2_i32_43
  let c0_i32_48 : BitVec 32 := 0#32
  let v138 : BitVec 1 := Scalar.cmpi .ne v137 c0_i32_48
  let v139 : BitVec 1 := Scalar.andi v136 v138
  let v125 : BitVec 32 := Scalar.divsi v124 c2_i32_43
  let c1_i32_49 : BitVec 32 := 1#32
  let v140 : BitVec 32 := Scalar.subi v125 c1_i32_49
  let v141 : BitVec 32 := Scalar.select v139 v140 v125
  let v142 : BitVec 32 := Scalar.subi v141 c0_i32_51
  let c1_i32_52 : BitVec 32 := 1#32
  let v144 : BitVec 32 := Scalar.divsi v142 c1_i32_52
  let v145 : BitVec 32 := Scalar.muli v144 c1_i32_52
  let v146 : BitVec 32 := Scalar.addi c0_i32_51 v145
  let c1_i32_54 : BitVec 32 := 1#32
  let arg29 : BitVec 32 := Scf.iv v146 c1_i32_54 k0_t4
  let v388 : BitVec 32 := Scalar.muli c2_i32_207 arg29
  let c1_i32_208 : BitVec 32 := 1#32
  let v389 : BitVec 32 := Scalar.addi v388 c1_i32_208
  let c1_i32_230 : BitVec 32 := 1#32
  let v414 : BitVec 32 := Scalar.subi v389 c1_i32_230
  let c0_i32_231 : BitVec 32 := 0#32
  let v415 : BitVec 32 := Scalar.maxsi v414 c0_i32_231
  let v416 : BitVec 32 := Scalar.addi v118 v415
  let v449 : Index := Scalar.indexCast v416
  let c0_263 : Index := 0#32
  let c0_264 : Index := 0#32
  ![v449.toNat, 0, 0]
def k0_off24 (i : grid0.Coords) : Fin 3 → Nat :=
  let arg1 : BitVec 32 := BitVec.ofNat 32 (i 1).val
  let v193 : Index := Scalar.indexCast arg1
  let c0_85 : Index := 0#32
  let c0_86 : Index := 0#32
  ![v193.toNat, 0, 0]
def k0_mult7 (i : grid0.Coords) : BitVec 32 :=
  let arg1 : BitVec 32 := BitVec.ofNat 32 (i 1).val
  let c256_i32 : BitVec 32 := 256#32
  let v260 : BitVec 32 := Scalar.muli arg1 c256_i32
  v260
def k0_off25 (i : grid0.Coords) : Fin 3 → Nat :=
  let c0_143 : Index := 0#32
  let arg1 : BitVec 32 := BitVec.ofNat 32 (i 1).val
  let c256_i32 : BitVec 32 := 256#32
  let v260 : BitVec 32 := Scalar.muli arg1 c256_i32
  let v261 : BitVec 32 := v260
  let v265 : Index := Scalar.indexCast v261
  let c0_144 : Index := 0#32
  ![0, v265.toNat, 0]
def k0_off26 (i : grid0.Coords) : Fin 3 → Nat :=
  let c1_158 : Index := 1#32
  let arg1 : BitVec 32 := BitVec.ofNat 32 (i 1).val
  let c256_i32 : BitVec 32 := 256#32
  let v260 : BitVec 32 := Scalar.muli arg1 c256_i32
  let v261 : BitVec 32 := v260
  let v280 : Index := Scalar.indexCast v261
  let c0_159 : Index := 0#32
  ![1, v280.toNat, 0]
def k0_off27 (i : grid0.Coords) : Fin 3 → Nat :=
  let arg1 : BitVec 32 := BitVec.ofNat 32 (i 1).val
  let c1_i32_85 : BitVec 32 := 1#32
  let v193 : BitVec 32 := Scalar.subi arg1 c1_i32_85
  let v194 : Index := Scalar.indexCast v193
  let c0_86 : Index := 0#32
  let c0_87 : Index := 0#32
  ![v194.toNat, 0, 0]
def k0_cond4 (i : grid0.Coords) (v118 : BitVec 32) : BitVec 1 :=
  let arg1 : BitVec 32 := BitVec.ofNat 32 (i 1).val
  let v119 : BitVec 32 := Scalar.subi arg1 v118
  let c1_i32_57 : BitVec 32 := 1#32
  let v150 : BitVec 1 := Scalar.cmpi .eq v119 c1_i32_57
  let v151 : BitVec 32 := Scalar.extui v150
  let c0_i32_58 : BitVec 32 := 0#32
  let v152 : BitVec 1 := Scalar.cmpi .ne v151 c0_i32_58
  v152

def k0_off28 (i : grid0.Coords) : Fin 3 → Nat :=
  let arg1 : BitVec 32 := BitVec.ofNat 32 (i 1).val
  let v205 : Index := Scalar.indexCast arg1
  let c0_96 : Index := 0#32
  let c0_97 : Index := 0#32
  ![v205.toNat, 0, 0]
def k0_mult8 (i : grid0.Coords) : BitVec 32 :=
  let arg1 : BitVec 32 := BitVec.ofNat 32 (i 1).val
  let c1_i32_185 : BitVec 32 := 1#32
  let v320 : BitVec 32 := Scalar.subi arg1 c1_i32_185
  let c256_i32 : BitVec 32 := 256#32
  let v321 : BitVec 32 := Scalar.muli v320 c256_i32
  v321
def k0_off29 (i : grid0.Coords) : Fin 3 → Nat :=
  let c0_191 : Index := 0#32
  let arg1 : BitVec 32 := BitVec.ofNat 32 (i 1).val
  let c1_i32_185 : BitVec 32 := 1#32
  let v320 : BitVec 32 := Scalar.subi arg1 c1_i32_185
  let c256_i32 : BitVec 32 := 256#32
  let v321 : BitVec 32 := Scalar.muli v320 c256_i32
  let v322 : BitVec 32 := v321
  let v326 : Index := Scalar.indexCast v322
  let c0_192 : Index := 0#32
  ![0, v326.toNat, 0]
def k0_off30 (i : grid0.Coords) : Fin 3 → Nat :=
  let c1_206 : Index := 1#32
  let arg1 : BitVec 32 := BitVec.ofNat 32 (i 1).val
  let c1_i32_185 : BitVec 32 := 1#32
  let v320 : BitVec 32 := Scalar.subi arg1 c1_i32_185
  let c256_i32 : BitVec 32 := 256#32
  let v321 : BitVec 32 := Scalar.muli v320 c256_i32
  let v322 : BitVec 32 := v321
  let v341 : Index := Scalar.indexCast v322
  let c0_207 : Index := 0#32
  ![1, v341.toNat, 0]
def k0_mult9 (i : grid0.Coords) : BitVec 32 :=
  let arg1 : BitVec 32 := BitVec.ofNat 32 (i 1).val
  let c256_i32_224 : BitVec 32 := 256#32
  let v371 : BitVec 32 := Scalar.muli arg1 c256_i32_224
  v371
def k0_off31 (i : grid0.Coords) : Fin 3 → Nat :=
  let c0_230 : Index := 0#32
  let arg1 : BitVec 32 := BitVec.ofNat 32 (i 1).val
  let c256_i32_224 : BitVec 32 := 256#32
  let v371 : BitVec 32 := Scalar.muli arg1 c256_i32_224
  let v372 : BitVec 32 := v371
  let v376 : Index := Scalar.indexCast v372
  let c0_231 : Index := 0#32
  ![0, v376.toNat, 0]
def k0_off32 (i : grid0.Coords) : Fin 3 → Nat :=
  let c1_245 : Index := 1#32
  let arg1 : BitVec 32 := BitVec.ofNat 32 (i 1).val
  let c256_i32_224 : BitVec 32 := 256#32
  let v371 : BitVec 32 := Scalar.muli arg1 c256_i32_224
  let v372 : BitVec 32 := v371
  let v391 : Index := Scalar.indexCast v372
  let c0_246 : Index := 0#32
  ![1, v391.toNat, 0]
def k0_mult10 (i : grid0.Coords) : BitVec 32 :=
  let arg1 : BitVec 32 := BitVec.ofNat 32 (i 1).val
  let c2_i32_85 : BitVec 32 := 2#32
  let v193 : BitVec 32 := Scalar.subi arg1 c2_i32_85
  let c256_i32 : BitVec 32 := 256#32
  let v194 : BitVec 32 := Scalar.muli v193 c256_i32
  v194
def k0_off33 (i : grid0.Coords) (c2_i32_85 : BitVec 32) : Fin 3 → Nat :=
  let c0_91 : Index := 0#32
  let arg1 : BitVec 32 := BitVec.ofNat 32 (i 1).val
  let v193 : BitVec 32 := Scalar.subi arg1 c2_i32_85
  let c256_i32 : BitVec 32 := 256#32
  let v194 : BitVec 32 := Scalar.muli v193 c256_i32
  let v195 : BitVec 32 := v194
  let v199 : Index := Scalar.indexCast v195
  let c0_92 : Index := 0#32
  ![0, v199.toNat, 0]
def k0_cond5 (i : grid0.Coords) (v118 : BitVec 32) : BitVec 1 :=
  let arg1 : BitVec 32 := BitVec.ofNat 32 (i 1).val
  let v119 : BitVec 32 := Scalar.subi arg1 v118
  let c1_i32_59 : BitVec 32 := 1#32
  let v153 : BitVec 1 := Scalar.cmpi .sgt v119 c1_i32_59
  let c2_i32_60 : BitVec 32 := 2#32
  let c0_i32_61 : BitVec 32 := 0#32
  let v154 : BitVec 1 := Scalar.cmpi .eq c2_i32_60 c0_i32_61
  let c1_i32_62 : BitVec 32 := 1#32
  let v155 : BitVec 32 := Scalar.select v154 c1_i32_62 c2_i32_60
  let v156 : BitVec 32 := Scalar.remsi v119 v155
  let c0_i32_64 : BitVec 32 := 0#32
  let v158 : BitVec 1 := Scalar.cmpi .slt v156 c0_i32_64
  let c0_i32_65 : BitVec 32 := 0#32
  let v159 : BitVec 1 := Scalar.cmpi .slt v155 c0_i32_65
  let v160 : BitVec 1 := Scalar.xori v158 v159
  let c0_i32_63 : BitVec 32 := 0#32
  let v157 : BitVec 1 := Scalar.cmpi .ne v156 c0_i32_63
  let v161 : BitVec 1 := Scalar.andi v160 v157
  let v162 : BitVec 32 := Scalar.addi v156 v155
  let v163 : BitVec 32 := Scalar.select v161 v162 v156
  let c1_i32_66 : BitVec 32 := 1#32
  let v164 : BitVec 1 := Scalar.cmpi .eq v163 c1_i32_66
  let v165 : BitVec 1 := Scalar.andi v153 v164
  let v166 : BitVec 32 := Scalar.extui v165
  let c0_i32_67 : BitVec 32 := 0#32
  let v167 : BitVec 1 := Scalar.cmpi .ne v166 c0_i32_67
  v167

def k0_off34 (i : grid0.Coords) (c2_i32_85 : BitVec 32) : Fin 3 → Nat :=
  let c1_106 : Index := 1#32
  let arg1 : BitVec 32 := BitVec.ofNat 32 (i 1).val
  let v193 : BitVec 32 := Scalar.subi arg1 c2_i32_85
  let c256_i32 : BitVec 32 := 256#32
  let v194 : BitVec 32 := Scalar.muli v193 c256_i32
  let v195 : BitVec 32 := v194
  let v214 : Index := Scalar.indexCast v195
  let c0_107 : Index := 0#32
  ![1, v214.toNat, 0]
def k0_off35 (i : grid0.Coords) (c2_i32_85 : BitVec 32) : Fin 3 → Nat :=
  let arg1 : BitVec 32 := BitVec.ofNat 32 (i 1).val
  let v193 : BitVec 32 := Scalar.subi arg1 c2_i32_85
  let v226 : Index := Scalar.indexCast v193
  let c0_116 : Index := 0#32
  let c0_117 : Index := 0#32
  ![v226.toNat, 0, 0]
def k0_off36 (i : grid0.Coords) : Fin 3 → Nat :=
  let arg1 : BitVec 32 := BitVec.ofNat 32 (i 1).val
  let v256 : Index := Scalar.indexCast arg1
  let c0_135 : Index := 0#32
  let c0_136 : Index := 0#32
  ![v256.toNat, 0, 0]
def k0_mult11 (i : grid0.Coords) : BitVec 32 :=
  let arg1 : BitVec 32 := BitVec.ofNat 32 (i 1).val
  let c1_i32_224 : BitVec 32 := 1#32
  let v371 : BitVec 32 := Scalar.subi arg1 c1_i32_224
  let c256_i32_225 : BitVec 32 := 256#32
  let v372 : BitVec 32 := Scalar.muli v371 c256_i32_225
  v372
def k0_mult12 (i : grid0.Coords) : BitVec 32 :=
  let arg1 : BitVec 32 := BitVec.ofNat 32 (i 1).val
  let c256_i32_264 : BitVec 32 := 256#32
  let v422 : BitVec 32 := Scalar.muli arg1 c256_i32_264
  v422
def k0_off37 (i : grid0.Coords) : Fin 3 → Nat :=
  let c0_270 : Index := 0#32
  let arg1 : BitVec 32 := BitVec.ofNat 32 (i 1).val
  let c256_i32_264 : BitVec 32 := 256#32
  let v422 : BitVec 32 := Scalar.muli arg1 c256_i32_264
  let v423 : BitVec 32 := v422
  let v427 : Index := Scalar.indexCast v423
  let c0_271 : Index := 0#32
  ![0, v427.toNat, 0]
def k0_off38 (i : grid0.Coords) : Fin 3 → Nat :=
  let c1_285 : Index := 1#32
  let arg1 : BitVec 32 := BitVec.ofNat 32 (i 1).val
  let c256_i32_264 : BitVec 32 := 256#32
  let v422 : BitVec 32 := Scalar.muli arg1 c256_i32_264
  let v423 : BitVec 32 := v422
  let v442 : Index := Scalar.indexCast v423
  let c0_286 : Index := 0#32
  ![1, v442.toNat, 0]
def k0_off39 (i : grid0.Coords) (v118 : BitVec 32) : Fin 3 → Nat :=
  let arg1 : BitVec 32 := BitVec.ofNat 32 (i 1).val
  let v119 : BitVec 32 := Scalar.subi arg1 v118
  let c2_i32_85 : BitVec 32 := 2#32
  let v193 : BitVec 32 := Scalar.subi v119 c2_i32_85
  let v194 : BitVec 32 := Scalar.addi v118 v193
  let c1_i32_86 : BitVec 32 := 1#32
  let v195 : BitVec 32 := Scalar.addi v194 c1_i32_86
  let v196 : Index := Scalar.indexCast v195
  let c0_87 : Index := 0#32
  let c0_88 : Index := 0#32
  ![v196.toNat, 0, 0]
def k0_cond6 (i : grid0.Coords) (v118 : BitVec 32) : BitVec 1 :=
  let arg1 : BitVec 32 := BitVec.ofNat 32 (i 1).val
  let v119 : BitVec 32 := Scalar.subi arg1 v118
  let c0_i32_68 : BitVec 32 := 0#32
  let v168 : BitVec 1 := Scalar.cmpi .sgt v119 c0_i32_68
  let c2_i32_69 : BitVec 32 := 2#32
  let c0_i32_70 : BitVec 32 := 0#32
  let v169 : BitVec 1 := Scalar.cmpi .eq c2_i32_69 c0_i32_70
  let c1_i32_71 : BitVec 32 := 1#32
  let v170 : BitVec 32 := Scalar.select v169 c1_i32_71 c2_i32_69
  let v171 : BitVec 32 := Scalar.remsi v119 v170
  let c0_i32_73 : BitVec 32 := 0#32
  let v173 : BitVec 1 := Scalar.cmpi .slt v171 c0_i32_73
  let c0_i32_74 : BitVec 32 := 0#32
  let v174 : BitVec 1 := Scalar.cmpi .slt v170 c0_i32_74
  let v175 : BitVec 1 := Scalar.xori v173 v174
  let c0_i32_72 : BitVec 32 := 0#32
  let v172 : BitVec 1 := Scalar.cmpi .ne v171 c0_i32_72
  let v176 : BitVec 1 := Scalar.andi v175 v172
  let v177 : BitVec 32 := Scalar.addi v171 v170
  let v178 : BitVec 32 := Scalar.select v176 v177 v171
  let c0_i32_75 : BitVec 32 := 0#32
  let v179 : BitVec 1 := Scalar.cmpi .eq v178 c0_i32_75
  let v180 : BitVec 1 := Scalar.andi v168 v179
  let v181 : BitVec 32 := Scalar.extui v180
  let c0_i32_76 : BitVec 32 := 0#32
  let v182 : BitVec 1 := Scalar.cmpi .ne v181 c0_i32_76
  v182

def k0_mult13 (i : grid0.Coords) (v118 : BitVec 32) : BitVec 32 :=
  let arg1 : BitVec 32 := BitVec.ofNat 32 (i 1).val
  let v119 : BitVec 32 := Scalar.subi arg1 v118
  let c2_i32_85 : BitVec 32 := 2#32
  let v193 : BitVec 32 := Scalar.subi v119 c2_i32_85
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  v221
def k0_off40 (i : grid0.Coords) (v118 : BitVec 32) : Fin 3 → Nat :=
  let c0_114 : Index := 0#32
  let arg1 : BitVec 32 := BitVec.ofNat 32 (i 1).val
  let v119 : BitVec 32 := Scalar.subi arg1 v118
  let c2_i32_85 : BitVec 32 := 2#32
  let v193 : BitVec 32 := Scalar.subi v119 c2_i32_85
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  let v222 : BitVec 32 := v221
  let v226 : Index := Scalar.indexCast v222
  let c0_115 : Index := 0#32
  ![0, v226.toNat, 0]
def k0_off41 (i : grid0.Coords) (v118 : BitVec 32) : Fin 3 → Nat :=
  let c1_129 : Index := 1#32
  let arg1 : BitVec 32 := BitVec.ofNat 32 (i 1).val
  let v119 : BitVec 32 := Scalar.subi arg1 v118
  let c2_i32_85 : BitVec 32 := 2#32
  let v193 : BitVec 32 := Scalar.subi v119 c2_i32_85
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let c256_i32 : BitVec 32 := 256#32
  let v221 : BitVec 32 := Scalar.muli v220 c256_i32
  let v222 : BitVec 32 := v221
  let v241 : Index := Scalar.indexCast v222
  let c0_130 : Index := 0#32
  ![1, v241.toNat, 0]
def k0_off42 (i : grid0.Coords) (v118 : BitVec 32) : Fin 3 → Nat :=
  let arg1 : BitVec 32 := BitVec.ofNat 32 (i 1).val
  let v119 : BitVec 32 := Scalar.subi arg1 v118
  let c2_i32_85 : BitVec 32 := 2#32
  let v193 : BitVec 32 := Scalar.subi v119 c2_i32_85
  let c1_i32_107 : BitVec 32 := 1#32
  let v218 : BitVec 32 := Scalar.subi v193 c1_i32_107
  let c0_i32_108 : BitVec 32 := 0#32
  let v219 : BitVec 32 := Scalar.maxsi v218 c0_i32_108
  let v220 : BitVec 32 := Scalar.addi v118 v219
  let v253 : Index := Scalar.indexCast v220
  let c0_139 : Index := 0#32
  let c0_140 : Index := 0#32
  ![v253.toNat, 0, 0]
def k0_mult14 (i : grid0.Coords) : BitVec 32 :=
  let arg1 : BitVec 32 := BitVec.ofNat 32 (i 1).val
  let c2_i32_207 : BitVec 32 := 2#32
  let v388 : BitVec 32 := Scalar.subi arg1 c2_i32_207
  let c256_i32_208 : BitVec 32 := 256#32
  let v389 : BitVec 32 := Scalar.muli v388 c256_i32_208
  v389
def k0_off43 (i : grid0.Coords) (c2_i32_207 : BitVec 32) : Fin 3 → Nat :=
  let c0_214 : Index := 0#32
  let arg1 : BitVec 32 := BitVec.ofNat 32 (i 1).val
  let v388 : BitVec 32 := Scalar.subi arg1 c2_i32_207
  let c256_i32_208 : BitVec 32 := 256#32
  let v389 : BitVec 32 := Scalar.muli v388 c256_i32_208
  let v390 : BitVec 32 := v389
  let v394 : Index := Scalar.indexCast v390
  let c0_215 : Index := 0#32
  ![0, v394.toNat, 0]
def k0_off44 (i : grid0.Coords) (c2_i32_207 : BitVec 32) : Fin 3 → Nat :=
  let c1_229 : Index := 1#32
  let arg1 : BitVec 32 := BitVec.ofNat 32 (i 1).val
  let v388 : BitVec 32 := Scalar.subi arg1 c2_i32_207
  let c256_i32_208 : BitVec 32 := 256#32
  let v389 : BitVec 32 := Scalar.muli v388 c256_i32_208
  let v390 : BitVec 32 := v389
  let v409 : Index := Scalar.indexCast v390
  let c0_230 : Index := 0#32
  ![1, v409.toNat, 0]
def k0_off45 (i : grid0.Coords) (c2_i32_207 : BitVec 32) : Fin 3 → Nat :=
  let arg1 : BitVec 32 := BitVec.ofNat 32 (i 1).val
  let v388 : BitVec 32 := Scalar.subi arg1 c2_i32_207
  let v421 : Index := Scalar.indexCast v388
  let c0_239 : Index := 0#32
  let c0_240 : Index := 0#32
  ![v421.toNat, 0, 0]

def k0_chk1_0 (i : grid0.Coords) (v118 : BitVec 32) : Prop :=
  (∀ (k0_h2 : k0_cond2 i v118 = 1#1), ∀ a, (k0_off7 v118) a + S1x128x256.size a ≤ S32x128x256.size a) ∧
  ((k0_t3_loop i v118).OK) ∧
  (∀ k0_t3 : Fin (k0_t3_loop i v118).trips, ∀ a, (k0_off8 i v118 k0_t3) a + S1x128x256.size a ≤ S32x128x256.size a) ∧
  (∀ k0_t3 : Fin (k0_t3_loop i v118).trips, 256 ∣ (k0_mult3 i v118 k0_t3).toNat) ∧
  (∀ k0_t3 : Fin (k0_t3_loop i v118).trips, ∀ a, (k0_off9 i v118 k0_t3) a + S1x256x128.size a ≤ S2x8192x128.size a) ∧
  (∀ k0_t3 : Fin (k0_t3_loop i v118).trips, ∀ a, (k0_off10 i v118 k0_t3) a + S1x256x128.size a ≤ S2x8192x128.size a) ∧
  (∀ k0_t3 : Fin (k0_t3_loop i v118).trips, ∀ a, (k0_off11 i v118 k0_t3) a + S1x128x256.size a ≤ S32x128x256.size a) ∧
  (∀ k0_t3 : Fin (k0_t3_loop i v118).trips, ∀ a, (k0_off12 i v118 k0_t3) a + S1x128x256.size a ≤ S32x128x256.size a) ∧
  (∀ k0_t3 : Fin (k0_t3_loop i v118).trips, 256 ∣ (k0_mult4 i v118 k0_t3).toNat) ∧
  (∀ k0_t3 : Fin (k0_t3_loop i v118).trips, ∀ a, (k0_off13 i v118 k0_t3) a + S1x256x128.size a ≤ S2x8192x128.size a) ∧
  (∀ k0_t3 : Fin (k0_t3_loop i v118).trips, ∀ a, (k0_off14 i v118 k0_t3) a + S1x256x128.size a ≤ S2x8192x128.size a) ∧
  (∀ k0_t3 : Fin (k0_t3_loop i v118).trips, ∀ a, (k0_off15 i v118 k0_t3) a + S1x128x256.size a ≤ S32x128x256.size a) ∧
  ((k0_t4_loop i v118).OK) ∧
  (∀ k0_t4 : Fin (k0_t4_loop i v118).trips, ∀ a, (k0_off16 i v118 k0_t4) a + S1x128x256.size a ≤ S32x128x256.size a) ∧
  (∀ k0_t4 : Fin (k0_t4_loop i v118).trips, 256 ∣ (k0_mult5 i v118 k0_t4).toNat) ∧
  (∀ k0_t4 : Fin (k0_t4_loop i v118).trips, ∀ a, (k0_off17 i v118 k0_t4) a + S1x256x128.size a ≤ S2x8192x128.size a) ∧
  (∀ k0_t4 : Fin (k0_t4_loop i v118).trips, ∀ a, (k0_off18 i v118 k0_t4) a + S1x256x128.size a ≤ S2x8192x128.size a) ∧
  (∀ k0_t4 : Fin (k0_t4_loop i v118).trips, ∀ a, (k0_off19 i v118 k0_t4) a + S1x128x256.size a ≤ S32x128x256.size a) ∧
  (∀ k0_t4 : Fin (k0_t4_loop i v118).trips, ∀ a, (k0_off20 i v118 k0_t4) a + S1x128x256.size a ≤ S32x128x256.size a) ∧
  (∀ k0_t4 : Fin (k0_t4_loop i v118).trips, 256 ∣ (k0_mult6 i v118 k0_t4).toNat) ∧
  (∀ k0_t4 : Fin (k0_t4_loop i v118).trips, ∀ a, (k0_off21 i v118 k0_t4) a + S1x256x128.size a ≤ S2x8192x128.size a) ∧
  (∀ k0_t4 : Fin (k0_t4_loop i v118).trips, ∀ a, (k0_off22 i v118 k0_t4) a + S1x256x128.size a ≤ S2x8192x128.size a) ∧
  (∀ k0_t4 : Fin (k0_t4_loop i v118).trips, ∀ a, (k0_off23 i v118 k0_t4) a + S1x128x256.size a ≤ S32x128x256.size a) ∧
  (∀ (k0_h4 : k0_cond4 i v118 = 1#1), ∀ a, (k0_off27 i) a + S1x128x256.size a ≤ S32x128x256.size a) ∧
  (∀ (k0_h4 : k0_cond4 i v118 = 1#1), ∀ a, (k0_off29 i) a + S1x256x128.size a ≤ S2x8192x128.size a) ∧
  (∀ (k0_h4 : k0_cond4 i v118 = 1#1), ∀ a, (k0_off30 i) a + S1x256x128.size a ≤ S2x8192x128.size a) ∧
  (∀ (k0_h5 : k0_cond5 i v118 = 1#1), ∀ (r : Fin 2), ∀ a, (k0_off33 i (BitVec.ofNat 32 (1 + r.val))) a + S1x256x128.size a ≤ S2x8192x128.size a) ∧
  (∀ (k0_h5 : k0_cond5 i v118 = 1#1), ∀ (r : Fin 2), ∀ a, (k0_off34 i (BitVec.ofNat 32 (1 + r.val))) a + S1x256x128.size a ≤ S2x8192x128.size a) ∧
  (∀ (k0_h5 : k0_cond5 i v118 = 1#1), ∀ (r : Fin 2), ∀ a, (k0_off35 i (BitVec.ofNat 32 (1 + r.val))) a + S1x128x256.size a ≤ S32x128x256.size a) ∧
  (∀ (k0_h6 : k0_cond6 i v118 = 1#1), ∀ a, (k0_off39 i v118) a + S1x128x256.size a ≤ S32x128x256.size a) ∧
  (∀ (k0_h6 : k0_cond6 i v118 = 1#1), 256 ∣ (k0_mult13 i v118).toNat) ∧
  (∀ (k0_h6 : k0_cond6 i v118 = 1#1), ∀ a, (k0_off40 i v118) a + S1x256x128.size a ≤ S2x8192x128.size a)
def k0_chk1_1 (i : grid0.Coords) (v118 : BitVec 32) : Prop :=
  (∀ (k0_h6 : k0_cond6 i v118 = 1#1), ∀ a, (k0_off41 i v118) a + S1x256x128.size a ≤ S2x8192x128.size a) ∧
  (∀ (k0_h6 : k0_cond6 i v118 = 1#1), ∀ a, (k0_off42 i v118) a + S1x128x256.size a ≤ S32x128x256.size a) ∧
  (∀ (k0_h6 : k0_cond6 i v118 = 1#1), ∀ (r : Fin 2), ∀ a, (k0_off43 i (BitVec.ofNat 32 (1 + r.val))) a + S1x256x128.size a ≤ S2x8192x128.size a) ∧
  (∀ (k0_h6 : k0_cond6 i v118 = 1#1), ∀ (r : Fin 2), ∀ a, (k0_off44 i (BitVec.ofNat 32 (1 + r.val))) a + S1x256x128.size a ≤ S2x8192x128.size a) ∧
  (∀ (k0_h6 : k0_cond6 i v118 = 1#1), ∀ (r : Fin 2), ∀ a, (k0_off45 i (BitVec.ofNat 32 (1 + r.val))) a + S1x128x256.size a ≤ S32x128x256.size a)
def k0_chk1 (i : grid0.Coords) (v118 : BitVec 32) : Prop :=
  k0_chk1_0 i v118 ∧
  k0_chk1_1 i v118
theorem k0_off7_inb : ∀ (i : grid0.Coords) (v118 : BitVec 32) (k0_hw1 : k0_chk1 i v118), ∀ (k0_h2 : k0_cond2 i v118 = 1#1), ∀ a, (k0_off7 v118) a + S1x128x256.size a ≤ S32x128x256.size a := fun i v118 k0_hw1 k0_h2 => k0_hw1.1.1 k0_h2
theorem k0_t3_ok : ∀ (i : grid0.Coords) (v118 : BitVec 32) (k0_hw1 : k0_chk1 i v118), (k0_t3_loop i v118).OK := fun i v118 k0_hw1 => k0_hw1.1.2.1
theorem k0_off8_inb : ∀ (i : grid0.Coords) (v118 : BitVec 32) (k0_hw1 : k0_chk1 i v118) (k0_t3 : Fin (k0_t3_loop i v118).trips), ∀ a, (k0_off8 i v118 k0_t3) a + S1x128x256.size a ≤ S32x128x256.size a := fun i v118 k0_hw1 k0_t3 => k0_hw1.1.2.2.1 k0_t3
theorem k0_mult3_dvd : ∀ (i : grid0.Coords) (v118 : BitVec 32) (k0_hw1 : k0_chk1 i v118) (k0_t3 : Fin (k0_t3_loop i v118).trips), 256 ∣ (k0_mult3 i v118 k0_t3).toNat := fun i v118 k0_hw1 k0_t3 => k0_hw1.1.2.2.2.1 k0_t3
theorem k0_off9_inb : ∀ (i : grid0.Coords) (v118 : BitVec 32) (k0_hw1 : k0_chk1 i v118) (k0_t3 : Fin (k0_t3_loop i v118).trips), ∀ a, (k0_off9 i v118 k0_t3) a + S1x256x128.size a ≤ S2x8192x128.size a := fun i v118 k0_hw1 k0_t3 => k0_hw1.1.2.2.2.2.1 k0_t3
theorem k0_off10_inb : ∀ (i : grid0.Coords) (v118 : BitVec 32) (k0_hw1 : k0_chk1 i v118) (k0_t3 : Fin (k0_t3_loop i v118).trips), ∀ a, (k0_off10 i v118 k0_t3) a + S1x256x128.size a ≤ S2x8192x128.size a := fun i v118 k0_hw1 k0_t3 => k0_hw1.1.2.2.2.2.2.1 k0_t3
theorem k0_off11_inb : ∀ (i : grid0.Coords) (v118 : BitVec 32) (k0_hw1 : k0_chk1 i v118) (k0_t3 : Fin (k0_t3_loop i v118).trips), ∀ a, (k0_off11 i v118 k0_t3) a + S1x128x256.size a ≤ S32x128x256.size a := fun i v118 k0_hw1 k0_t3 => k0_hw1.1.2.2.2.2.2.2.1 k0_t3
theorem k0_off12_inb : ∀ (i : grid0.Coords) (v118 : BitVec 32) (k0_hw1 : k0_chk1 i v118) (k0_t3 : Fin (k0_t3_loop i v118).trips), ∀ a, (k0_off12 i v118 k0_t3) a + S1x128x256.size a ≤ S32x128x256.size a := fun i v118 k0_hw1 k0_t3 => k0_hw1.1.2.2.2.2.2.2.2.1 k0_t3
theorem k0_mult4_dvd : ∀ (i : grid0.Coords) (v118 : BitVec 32) (k0_hw1 : k0_chk1 i v118) (k0_t3 : Fin (k0_t3_loop i v118).trips), 256 ∣ (k0_mult4 i v118 k0_t3).toNat := fun i v118 k0_hw1 k0_t3 => k0_hw1.1.2.2.2.2.2.2.2.2.1 k0_t3
theorem k0_off13_inb : ∀ (i : grid0.Coords) (v118 : BitVec 32) (k0_hw1 : k0_chk1 i v118) (k0_t3 : Fin (k0_t3_loop i v118).trips), ∀ a, (k0_off13 i v118 k0_t3) a + S1x256x128.size a ≤ S2x8192x128.size a := fun i v118 k0_hw1 k0_t3 => k0_hw1.1.2.2.2.2.2.2.2.2.2.1 k0_t3
theorem k0_off14_inb : ∀ (i : grid0.Coords) (v118 : BitVec 32) (k0_hw1 : k0_chk1 i v118) (k0_t3 : Fin (k0_t3_loop i v118).trips), ∀ a, (k0_off14 i v118 k0_t3) a + S1x256x128.size a ≤ S2x8192x128.size a := fun i v118 k0_hw1 k0_t3 => k0_hw1.1.2.2.2.2.2.2.2.2.2.2.1 k0_t3
theorem k0_off15_inb : ∀ (i : grid0.Coords) (v118 : BitVec 32) (k0_hw1 : k0_chk1 i v118) (k0_t3 : Fin (k0_t3_loop i v118).trips), ∀ a, (k0_off15 i v118 k0_t3) a + S1x128x256.size a ≤ S32x128x256.size a := fun i v118 k0_hw1 k0_t3 => k0_hw1.1.2.2.2.2.2.2.2.2.2.2.2.1 k0_t3
theorem k0_t4_ok : ∀ (i : grid0.Coords) (v118 : BitVec 32) (k0_hw1 : k0_chk1 i v118), (k0_t4_loop i v118).OK := fun i v118 k0_hw1 => k0_hw1.1.2.2.2.2.2.2.2.2.2.2.2.2.1
theorem k0_off16_inb : ∀ (i : grid0.Coords) (v118 : BitVec 32) (k0_hw1 : k0_chk1 i v118) (k0_t4 : Fin (k0_t4_loop i v118).trips), ∀ a, (k0_off16 i v118 k0_t4) a + S1x128x256.size a ≤ S32x128x256.size a := fun i v118 k0_hw1 k0_t4 => k0_hw1.1.2.2.2.2.2.2.2.2.2.2.2.2.2.1 k0_t4
theorem k0_mult5_dvd : ∀ (i : grid0.Coords) (v118 : BitVec 32) (k0_hw1 : k0_chk1 i v118) (k0_t4 : Fin (k0_t4_loop i v118).trips), 256 ∣ (k0_mult5 i v118 k0_t4).toNat := fun i v118 k0_hw1 k0_t4 => k0_hw1.1.2.2.2.2.2.2.2.2.2.2.2.2.2.2.1 k0_t4
theorem k0_off17_inb : ∀ (i : grid0.Coords) (v118 : BitVec 32) (k0_hw1 : k0_chk1 i v118) (k0_t4 : Fin (k0_t4_loop i v118).trips), ∀ a, (k0_off17 i v118 k0_t4) a + S1x256x128.size a ≤ S2x8192x128.size a := fun i v118 k0_hw1 k0_t4 => k0_hw1.1.2.2.2.2.2.2.2.2.2.2.2.2.2.2.2.1 k0_t4
theorem k0_off18_inb : ∀ (i : grid0.Coords) (v118 : BitVec 32) (k0_hw1 : k0_chk1 i v118) (k0_t4 : Fin (k0_t4_loop i v118).trips), ∀ a, (k0_off18 i v118 k0_t4) a + S1x256x128.size a ≤ S2x8192x128.size a := fun i v118 k0_hw1 k0_t4 => k0_hw1.1.2.2.2.2.2.2.2.2.2.2.2.2.2.2.2.2.1 k0_t4
theorem k0_off19_inb : ∀ (i : grid0.Coords) (v118 : BitVec 32) (k0_hw1 : k0_chk1 i v118) (k0_t4 : Fin (k0_t4_loop i v118).trips), ∀ a, (k0_off19 i v118 k0_t4) a + S1x128x256.size a ≤ S32x128x256.size a := fun i v118 k0_hw1 k0_t4 => k0_hw1.1.2.2.2.2.2.2.2.2.2.2.2.2.2.2.2.2.2.1 k0_t4
theorem k0_off20_inb : ∀ (i : grid0.Coords) (v118 : BitVec 32) (k0_hw1 : k0_chk1 i v118) (k0_t4 : Fin (k0_t4_loop i v118).trips), ∀ a, (k0_off20 i v118 k0_t4) a + S1x128x256.size a ≤ S32x128x256.size a := fun i v118 k0_hw1 k0_t4 => k0_hw1.1.2.2.2.2.2.2.2.2.2.2.2.2.2.2.2.2.2.2.1 k0_t4
theorem k0_mult6_dvd : ∀ (i : grid0.Coords) (v118 : BitVec 32) (k0_hw1 : k0_chk1 i v118) (k0_t4 : Fin (k0_t4_loop i v118).trips), 256 ∣ (k0_mult6 i v118 k0_t4).toNat := fun i v118 k0_hw1 k0_t4 => k0_hw1.1.2.2.2.2.2.2.2.2.2.2.2.2.2.2.2.2.2.2.2.1 k0_t4
theorem k0_off21_inb : ∀ (i : grid0.Coords) (v118 : BitVec 32) (k0_hw1 : k0_chk1 i v118) (k0_t4 : Fin (k0_t4_loop i v118).trips), ∀ a, (k0_off21 i v118 k0_t4) a + S1x256x128.size a ≤ S2x8192x128.size a := fun i v118 k0_hw1 k0_t4 => k0_hw1.1.2.2.2.2.2.2.2.2.2.2.2.2.2.2.2.2.2.2.2.2.1 k0_t4
theorem k0_off22_inb : ∀ (i : grid0.Coords) (v118 : BitVec 32) (k0_hw1 : k0_chk1 i v118) (k0_t4 : Fin (k0_t4_loop i v118).trips), ∀ a, (k0_off22 i v118 k0_t4) a + S1x256x128.size a ≤ S2x8192x128.size a := fun i v118 k0_hw1 k0_t4 => k0_hw1.1.2.2.2.2.2.2.2.2.2.2.2.2.2.2.2.2.2.2.2.2.2.1 k0_t4
theorem k0_off23_inb : ∀ (i : grid0.Coords) (v118 : BitVec 32) (k0_hw1 : k0_chk1 i v118) (k0_t4 : Fin (k0_t4_loop i v118).trips), ∀ a, (k0_off23 i v118 k0_t4) a + S1x128x256.size a ≤ S32x128x256.size a := fun i v118 k0_hw1 k0_t4 => k0_hw1.1.2.2.2.2.2.2.2.2.2.2.2.2.2.2.2.2.2.2.2.2.2.2.1 k0_t4
theorem k0_off27_inb : ∀ (i : grid0.Coords) (v118 : BitVec 32) (k0_hw1 : k0_chk1 i v118), ∀ (k0_h4 : k0_cond4 i v118 = 1#1), ∀ a, (k0_off27 i) a + S1x128x256.size a ≤ S32x128x256.size a := fun i v118 k0_hw1 k0_h4 => k0_hw1.1.2.2.2.2.2.2.2.2.2.2.2.2.2.2.2.2.2.2.2.2.2.2.2.1 k0_h4
theorem k0_off29_inb : ∀ (i : grid0.Coords) (v118 : BitVec 32) (k0_hw1 : k0_chk1 i v118), ∀ (k0_h4 : k0_cond4 i v118 = 1#1), ∀ a, (k0_off29 i) a + S1x256x128.size a ≤ S2x8192x128.size a := fun i v118 k0_hw1 k0_h4 => k0_hw1.1.2.2.2.2.2.2.2.2.2.2.2.2.2.2.2.2.2.2.2.2.2.2.2.2.1 k0_h4
theorem k0_off30_inb : ∀ (i : grid0.Coords) (v118 : BitVec 32) (k0_hw1 : k0_chk1 i v118), ∀ (k0_h4 : k0_cond4 i v118 = 1#1), ∀ a, (k0_off30 i) a + S1x256x128.size a ≤ S2x8192x128.size a := fun i v118 k0_hw1 k0_h4 => k0_hw1.1.2.2.2.2.2.2.2.2.2.2.2.2.2.2.2.2.2.2.2.2.2.2.2.2.2.1 k0_h4
theorem k0_off33_inb : ∀ (i : grid0.Coords) (v118 : BitVec 32) (k0_hw1 : k0_chk1 i v118), ∀ (k0_h5 : k0_cond5 i v118 = 1#1), ∀ (r : Fin 2), ∀ a, (k0_off33 i (BitVec.ofNat 32 (1 + r.val))) a + S1x256x128.size a ≤ S2x8192x128.size a := fun i v118 k0_hw1 k0_h5 r => k0_hw1.1.2.2.2.2.2.2.2.2.2.2.2.2.2.2.2.2.2.2.2.2.2.2.2.2.2.2.1 k0_h5 r
theorem k0_off34_inb : ∀ (i : grid0.Coords) (v118 : BitVec 32) (k0_hw1 : k0_chk1 i v118), ∀ (k0_h5 : k0_cond5 i v118 = 1#1), ∀ (r : Fin 2), ∀ a, (k0_off34 i (BitVec.ofNat 32 (1 + r.val))) a + S1x256x128.size a ≤ S2x8192x128.size a := fun i v118 k0_hw1 k0_h5 r => k0_hw1.1.2.2.2.2.2.2.2.2.2.2.2.2.2.2.2.2.2.2.2.2.2.2.2.2.2.2.2.1 k0_h5 r
theorem k0_off35_inb : ∀ (i : grid0.Coords) (v118 : BitVec 32) (k0_hw1 : k0_chk1 i v118), ∀ (k0_h5 : k0_cond5 i v118 = 1#1), ∀ (r : Fin 2), ∀ a, (k0_off35 i (BitVec.ofNat 32 (1 + r.val))) a + S1x128x256.size a ≤ S32x128x256.size a := fun i v118 k0_hw1 k0_h5 r => k0_hw1.1.2.2.2.2.2.2.2.2.2.2.2.2.2.2.2.2.2.2.2.2.2.2.2.2.2.2.2.2.1 k0_h5 r
theorem k0_off39_inb : ∀ (i : grid0.Coords) (v118 : BitVec 32) (k0_hw1 : k0_chk1 i v118), ∀ (k0_h6 : k0_cond6 i v118 = 1#1), ∀ a, (k0_off39 i v118) a + S1x128x256.size a ≤ S32x128x256.size a := fun i v118 k0_hw1 k0_h6 => k0_hw1.1.2.2.2.2.2.2.2.2.2.2.2.2.2.2.2.2.2.2.2.2.2.2.2.2.2.2.2.2.2.1 k0_h6
theorem k0_mult13_dvd : ∀ (i : grid0.Coords) (v118 : BitVec 32) (k0_hw1 : k0_chk1 i v118), ∀ (k0_h6 : k0_cond6 i v118 = 1#1), 256 ∣ (k0_mult13 i v118).toNat := fun i v118 k0_hw1 k0_h6 => k0_hw1.1.2.2.2.2.2.2.2.2.2.2.2.2.2.2.2.2.2.2.2.2.2.2.2.2.2.2.2.2.2.2.1 k0_h6
theorem k0_off40_inb : ∀ (i : grid0.Coords) (v118 : BitVec 32) (k0_hw1 : k0_chk1 i v118), ∀ (k0_h6 : k0_cond6 i v118 = 1#1), ∀ a, (k0_off40 i v118) a + S1x256x128.size a ≤ S2x8192x128.size a := fun i v118 k0_hw1 k0_h6 => k0_hw1.1.2.2.2.2.2.2.2.2.2.2.2.2.2.2.2.2.2.2.2.2.2.2.2.2.2.2.2.2.2.2.2 k0_h6
theorem k0_off41_inb : ∀ (i : grid0.Coords) (v118 : BitVec 32) (k0_hw1 : k0_chk1 i v118), ∀ (k0_h6 : k0_cond6 i v118 = 1#1), ∀ a, (k0_off41 i v118) a + S1x256x128.size a ≤ S2x8192x128.size a := fun i v118 k0_hw1 k0_h6 => k0_hw1.2.1 k0_h6
theorem k0_off42_inb : ∀ (i : grid0.Coords) (v118 : BitVec 32) (k0_hw1 : k0_chk1 i v118), ∀ (k0_h6 : k0_cond6 i v118 = 1#1), ∀ a, (k0_off42 i v118) a + S1x128x256.size a ≤ S32x128x256.size a := fun i v118 k0_hw1 k0_h6 => k0_hw1.2.2.1 k0_h6
theorem k0_off43_inb : ∀ (i : grid0.Coords) (v118 : BitVec 32) (k0_hw1 : k0_chk1 i v118), ∀ (k0_h6 : k0_cond6 i v118 = 1#1), ∀ (r : Fin 2), ∀ a, (k0_off43 i (BitVec.ofNat 32 (1 + r.val))) a + S1x256x128.size a ≤ S2x8192x128.size a := fun i v118 k0_hw1 k0_h6 r => k0_hw1.2.2.2.1 k0_h6 r
theorem k0_off44_inb : ∀ (i : grid0.Coords) (v118 : BitVec 32) (k0_hw1 : k0_chk1 i v118), ∀ (k0_h6 : k0_cond6 i v118 = 1#1), ∀ (r : Fin 2), ∀ a, (k0_off44 i (BitVec.ofNat 32 (1 + r.val))) a + S1x256x128.size a ≤ S2x8192x128.size a := fun i v118 k0_hw1 k0_h6 r => k0_hw1.2.2.2.2.1 k0_h6 r
theorem k0_off45_inb : ∀ (i : grid0.Coords) (v118 : BitVec 32) (k0_hw1 : k0_chk1 i v118), ∀ (k0_h6 : k0_cond6 i v118 = 1#1), ∀ (r : Fin 2), ∀ a, (k0_off45 i (BitVec.ofNat 32 (1 + r.val))) a + S1x128x256.size a ≤ S32x128x256.size a := fun i v118 k0_hw1 k0_h6 r => k0_hw1.2.2.2.2.2 k0_h6 r

def k0_off46 (i : grid0.Coords) : Fin 3 → Nat :=
  let arg1 : BitVec 32 := BitVec.ofNat 32 (i 1).val
  let v451 : Index := Scalar.indexCast arg1
  let c0_258 : Index := 0#32
  let c0_259 : Index := 0#32
  ![v451.toNat, 0, 0]
def k0_mult15 (i : grid0.Coords) : BitVec 32 :=
  let arg1 : BitVec 32 := BitVec.ofNat 32 (i 1).val
  let c1_i32_347 : BitVec 32 := 1#32
  let v566 : BitVec 32 := Scalar.subi arg1 c1_i32_347
  let c256_i32_348 : BitVec 32 := 256#32
  let v567 : BitVec 32 := Scalar.muli v566 c256_i32_348
  v567
def k0_mult16 (i : grid0.Coords) : BitVec 32 :=
  let arg1 : BitVec 32 := BitVec.ofNat 32 (i 1).val
  let c256_i32_387 : BitVec 32 := 256#32
  let v617 : BitVec 32 := Scalar.muli arg1 c256_i32_387
  v617
def k0_off47 (i : grid0.Coords) : Fin 3 → Nat :=
  let c0_393 : Index := 0#32
  let arg1 : BitVec 32 := BitVec.ofNat 32 (i 1).val
  let c256_i32_387 : BitVec 32 := 256#32
  let v617 : BitVec 32 := Scalar.muli arg1 c256_i32_387
  let v618 : BitVec 32 := v617
  let v622 : Index := Scalar.indexCast v618
  let c0_394 : Index := 0#32
  ![0, v622.toNat, 0]
def k0_off48 (i : grid0.Coords) : Fin 3 → Nat :=
  let c1_408 : Index := 1#32
  let arg1 : BitVec 32 := BitVec.ofNat 32 (i 1).val
  let c256_i32_387 : BitVec 32 := 256#32
  let v617 : BitVec 32 := Scalar.muli arg1 c256_i32_387
  let v618 : BitVec 32 := v617
  let v637 : Index := Scalar.indexCast v618
  let c0_409 : Index := 0#32
  ![1, v637.toNat, 0]
def k0_cond7 (i : grid0.Coords) : BitVec 1 :=
  let arg1 : BitVec 32 := BitVec.ofNat 32 (i 1).val
  let c31_i32 : BitVec 32 := 31#32
  let v190 : BitVec 1 := Scalar.cmpi .eq arg1 c31_i32
  let v191 : BitVec 32 := Scalar.extui v190
  let c0_i32_84 : BitVec 32 := 0#32
  let v192 : BitVec 1 := Scalar.cmpi .ne v191 c0_i32_84
  v192

@[reducible] def k0_t5_loop : Scf.Loop 32 :=
  let c0_i32_85 : BitVec 32 := 0#32
  let c32_i32 : BitVec 32 := 32#32
  let v193 : BitVec 32 := Scalar.addi c0_i32_85 c32_i32
  let c1_i32_86 : BitVec 32 := 1#32
  ⟨c0_i32_85, v193, c1_i32_86⟩
def k0_mult17 (k0_t5 : Fin k0_t5_loop.trips) : BitVec 32 :=
  let c0_i32_85 : BitVec 32 := 0#32
  let c1_i32_86 : BitVec 32 := 1#32
  let arg29 : BitVec 32 := Scf.iv c0_i32_85 c1_i32_86 k0_t5
  let c256_i32 : BitVec 32 := 256#32
  let v194 : BitVec 32 := Scalar.muli arg29 c256_i32
  v194
def k0_off49 (k0_t5 : Fin k0_t5_loop.trips) : Fin 3 → Nat :=
  let c0_i32_85 : BitVec 32 := 0#32
  let c1_i32_86 : BitVec 32 := 1#32
  let arg29 : BitVec 32 := Scf.iv c0_i32_85 c1_i32_86 k0_t5
  let v196 : Index := Scalar.indexCast arg29
  let c0_88 : Index := 0#32
  let c0_89 : Index := 0#32
  ![v196.toNat, 0, 0]
def k0_off50 (k0_t5 : Fin k0_t5_loop.trips) : Fin 2 → Nat :=
  let c0_i32_85 : BitVec 32 := 0#32
  let c1_i32_86 : BitVec 32 := 1#32
  let arg29 : BitVec 32 := Scf.iv c0_i32_85 c1_i32_86 k0_t5
  let c256_i32 : BitVec 32 := 256#32
  let v194 : BitVec 32 := Scalar.muli arg29 c256_i32
  let v195 : BitVec 32 := v194
  let v201 : Index := Scalar.indexCast v195
  let c0_90 : Index := 0#32
  ![v201.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnIdeal.lean ====
variable {F : FTy → Type} [FloatOps F] [Named F]
def κ : String → Option EReal := fun
  | "zero_weight" => some ⊤
  | _ => none
-- ==== AttnRefIdeal.lean ====
abbrev S8192x5120 : Shape := ⟨2, ![8192, 5120]⟩
abbrev S8192x512 : Shape := ⟨2, ![8192, 512]⟩
abbrev S8192x2048 : Shape := ⟨2, ![8192, 2048]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x8192x64 : Shape := ⟨3, ![8, 8192, 64]⟩

abbrev nBuf : Space → Nat
  | .hbm => 181
  | .vmem => 0
  | .smem => 0
  | _ => 0

abbrev hbmTy0_0 (i : Nat) : BufTy := match i % 128 with
  | 0 => ⟨S8192x5120, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x2048, .f32⟩
  | 9 => ⟨S8192x8x64, .f32⟩
  | 10 => ⟨S8192x8x64, .f32⟩
  | 11 => ⟨S8x8192x8192, .f32⟩
  | 12 => ⟨S_, .f32⟩
  | 13 => ⟨S8x8192x8192, .f32⟩
  | 14 => ⟨S8x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S1x8192x8192, .i1⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .i1⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .i1⟩
  | 40 => ⟨S_, .f32⟩
  | 41 => ⟨S8x8192x8192, .f32⟩
  | 42 => ⟨S8x8192x8192, .f32⟩
  | 43 => ⟨S_, .f32⟩
  | 44 => ⟨S8x8192x8192, .f32⟩
  | 45 => ⟨S8x8192x8192, .i1⟩
  | 46 => ⟨S_, .f32⟩
  | 47 => ⟨S8x8192x8192, .f32⟩
  | 48 => ⟨S8x8192x8192, .f32⟩
  | 49 => ⟨S8x8192x8192, .f32⟩
  | 50 => ⟨S8x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x8192x8192, .f32⟩
  | 59 => ⟨S8x8192x8192, .i1⟩
  | 60 => ⟨S_, .f32⟩
  | 61 => ⟨S8x8192x8192, .f32⟩
  | 62 => ⟨S8x8192x8192, .f32⟩
  | 63 => ⟨S8x8192x8192, .f32⟩
  | 64 => ⟨S8x8192x8192, .f32⟩
  | 65 => ⟨S8x8192x8192, .f32⟩
  | 66 => ⟨S_, .f32⟩
  | 67 => ⟨S8x8192x8192, .f32⟩
  | 68 => ⟨S8x8192x8192, .f32⟩
  | 69 => ⟨S8x8192x8192, .f32⟩
  | 70 => ⟨S8x8192x8192, .f32⟩
  | 71 => ⟨S8x8192x8192, .f32⟩
  | 72 => ⟨S_, .f32⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .i1⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .f32⟩
  | 85 => ⟨S8x8192x8192, .f32⟩
  | 86 => ⟨S_, .f32⟩
  | 87 => ⟨S8x8192x8192, .f32⟩
  | 88 => ⟨S8x8192x8192, .i1⟩
  | 89 => ⟨S_, .f32⟩
  | 90 => ⟨S8x8192x8192, .f32⟩
  | 91 => ⟨S8x8192x8192, .f32⟩
  | 92 => ⟨S_, .f32⟩
  | 93 => ⟨S8x8192x8192, .f32⟩
  | 94 => ⟨S8x8192x8192, .i1⟩
  | 95 => ⟨S_, .f32⟩
  | 96 => ⟨S8x8192x8192, .f32⟩
  | 97 => ⟨S8x8192x8192, .f32⟩
  | 98 => ⟨S8x8192x8192, .f32⟩
  | 99 => ⟨S8x8192x8192, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S8x8192x8192, .f32⟩
  | 108 => ⟨S8x8192x8192, .i1⟩
  | 109 => ⟨S_, .f32⟩
  | 110 => ⟨S8x8192x8192, .f32⟩
  | 111 => ⟨S8x8192x8192, .f32⟩
  | 112 => ⟨S8x8192x8192, .f32⟩
  | 113 => ⟨S8x8192x8192, .f32⟩
  | 114 => ⟨S8x8192x8192, .f32⟩
  | 115 => ⟨S_, .f32⟩
  | 116 => ⟨S8x8192x8192, .f32⟩
  | 117 => ⟨S8x8192x8192, .f32⟩
  | 118 => ⟨S8x8192x8192, .f32⟩
  | 119 => ⟨S_, .f32⟩
  | 120 => ⟨S_, .f32⟩
  | 121 => ⟨S8x8192x8192, .i1⟩
  | 122 => ⟨S8x8192x8192, .f32⟩
  | 123 => ⟨S8x8192x8192, .f32⟩
  | 124 => ⟨S_, .f32⟩
  | 125 => ⟨S8x8192x8192, .f32⟩
  | 126 => ⟨S_, .f32⟩
  | 127 => ⟨S_, .f32⟩
  | _ => ⟨S8192x5120, .f32⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S8x8192x8192, .f32⟩
  | 4 => ⟨S_, .f32⟩
  | 5 => ⟨S_, .f32⟩
  | 6 => ⟨S8x8192x8192, .i1⟩
  | 7 => ⟨S8x8192x8192, .f32⟩
  | 8 => ⟨S8x8192x8192, .f32⟩
  | 9 => ⟨S_, .f32⟩
  | 10 => ⟨S8x8192x8192, .f32⟩
  | 11 => ⟨S8192x8x64, .f32⟩
  | 12 => ⟨S8x64x8192, .f32⟩
  | 13 => ⟨S8192x8x64, .f32⟩
  | 14 => ⟨S8192x512, .f32⟩
  | 15 => ⟨S8192x8x64, .f32⟩
  | 16 => ⟨S8x64x8192, .f32⟩
  | 17 => ⟨S8x8192x8192, .f32⟩
  | 18 => ⟨S8x64x8192, .f32⟩
  | 19 => ⟨S8192x8x64, .f32⟩
  | 20 => ⟨S8192x512, .f32⟩
  | 21 => ⟨S_, .f32⟩
  | 22 => ⟨S8x8192x8192, .f32⟩
  | 23 => ⟨S8x8192x8192, .f32⟩
  | 24 => ⟨S8x8192x8192, .f32⟩
  | 25 => ⟨S8x8192x8192, .f32⟩
  | 26 => ⟨S_, .f32⟩
  | 27 => ⟨S_, .f32⟩
  | 28 => ⟨S8x8192x8192, .f32⟩
  | 29 => ⟨S8x8192x8192, .f32⟩
  | 30 => ⟨S_, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S_, .f32⟩
  | 42 => ⟨S8x8192x8192, .f32⟩
  | 43 => ⟨S8x8192x8192, .f32⟩
  | 44 => ⟨S8x8192x64, .f32⟩
  | 45 => ⟨S8192x8x64, .f32⟩
  | 46 => ⟨S8x8192x64, .f32⟩
  | 47 => ⟨S8192x8x64, .f32⟩
  | 48 => ⟨S8192x512, .f32⟩
  | 49 => ⟨S8192x512, .f32⟩
  | 50 => ⟨S8192x512, .bf16⟩
  | 51 => ⟨S8192x512, .bf16⟩
  | 52 => ⟨S8192x512, .bf16⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_call6_cst : Ref sig .tc := ⟨.hbm, 154, rfl⟩
abbrev main_call6_v0 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_call8_v0 : Ref sig .tc := ⟨.hbm, 161, rfl⟩
abbrev main_call8_v1 : Ref sig .tc := ⟨.hbm, 162, rfl⟩
abbrev main_v44 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x5120 : Shape := ⟨2, ![1024, 5120]⟩
abbrev S1x1024 : Shape := ⟨2, ![1, 1024]⟩
abbrev S8192x3584 : Shape := ⟨2, ![8192, 3584]⟩
abbrev S8192x1536 : Shape := ⟨2, ![8192, 1536]⟩
abbrev S512x1024 : Shape := ⟨2, ![512, 1024]⟩
abbrev S512x3584 : Shape := ⟨2, ![512, 3584]⟩
abbrev S512x1536 : Shape := ⟨2, ![512, 1536]⟩
abbrev S512 : Shape := ⟨1, ![512]⟩
abbrev S512x1 : Shape := ⟨2, ![512, 1]⟩
abbrev S1024x1024 : Shape := ⟨2, ![1024, 1024]⟩
abbrev S1024x1536 : Shape := ⟨2, ![1024, 1536]⟩
abbrev S1024x2048 : Shape := ⟨2, ![1024, 2048]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S1x1024, .f32⟩
  | .hbm, ⟨4, _⟩ => ⟨S1024x5120, .bf16⟩
  | .hbm, ⟨5, _⟩ => ⟨S8192x3584, .f32⟩
  | .hbm, ⟨6, _⟩ => ⟨S8192x1536, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x3584, .f32⟩
  | .local _ .vmem, ⟨5, _⟩ => ⟨S512x3584, .f32⟩
  | .local _ .vmem, ⟨6, _⟩ => ⟨S512x1536, .bf16⟩
  | .local _ .vmem, ⟨7, _⟩ => ⟨S512x1536, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S8192x1024 : Shape := ⟨2, ![8192, 1024]⟩
abbrev S1024 : Shape := ⟨1, ![1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5120 : Shape := ⟨2, ![8192, 5120]⟩
abbrev S8192x512 : Shape := ⟨2, ![8192, 512]⟩
abbrev S8192x2048 : Shape := ⟨2, ![8192, 2048]⟩
abbrev S8192x3584 : Shape := ⟨2, ![8192, 3584]⟩
abbrev S8192x1536 : Shape := ⟨2, ![8192, 1536]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5120, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x2048, .f32⟩
  | .hbm, ⟨27, _⟩ => ⟨S8192x3584, .f32⟩
  | .hbm, ⟨28, _⟩ => ⟨S8192x1536, .f32⟩
  | .hbm, ⟨29, _⟩ => ⟨S8192x1536, .bf16⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== MergeFwd.lean ====
abbrev S8192x512 : Shape := ⟨2, ![8192, 512]⟩
abbrev S8192x5120 : Shape := ⟨2, ![8192, 5120]⟩
abbrev S2048 : Shape := ⟨1, ![2048]⟩
abbrev S512x1024 : Shape := ⟨2, ![512, 1024]⟩
abbrev S8192x1024 : Shape := ⟨2, ![8192, 1024]⟩
abbrev S8192x2048 : Shape := ⟨2, ![8192, 2048]⟩
abbrev S8192x3584 : Shape := ⟨2, ![8192, 3584]⟩
abbrev S1x2048 : Shape := ⟨2, ![1, 2048]⟩
abbrev S512x512 : Shape := ⟨2, ![512, 512]⟩
abbrev S1x1024 : Shape := ⟨2, ![1, 1024]⟩

abbrev nBuf : Space → Nat
  | .hbm => 16
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S2048, .f32⟩
  | .hbm, ⟨4, _⟩ => ⟨S512x1024, .f32⟩
  | .hbm, ⟨5, _⟩ => ⟨S512x1024, .f32⟩
  | .hbm, ⟨6, _⟩ => ⟨S8192x512, .bf16⟩
  | .hbm, ⟨7, _⟩ => ⟨S8192x512, .bf16⟩
  | .hbm, ⟨8, _⟩ => ⟨S512x1024, .bf16⟩
  | .hbm, ⟨9, _⟩ => ⟨S512x1024, .bf16⟩
  | .hbm, ⟨10, _⟩ => ⟨S8192x1024, .f32⟩
  | .hbm, ⟨11, _⟩ => ⟨S8192x2048, .f32⟩
  | .hbm, ⟨12, _⟩ => ⟨S8192x512, .f32⟩
  | .hbm, ⟨13, _⟩ => ⟨S8192x3584, .f32⟩
  | .hbm, ⟨14, _⟩ => ⟨S1x2048, .f32⟩
  | .hbm, ⟨15, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x2048, .f32⟩
  | .local _ .vmem, ⟨11, _⟩ => ⟨S512x1024, .bf16⟩
  | .local _ .vmem, ⟨12, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeFwdRefIdeal.lean ====
abbrev S8192x512 : Shape := ⟨2, ![8192, 512]⟩
abbrev S8192x5120 : Shape := ⟨2, ![8192, 5120]⟩
abbrev S2048 : Shape := ⟨1, ![2048]⟩
abbrev S512x1024 : Shape := ⟨2, ![512, 1024]⟩
abbrev S8192x2048 : Shape := ⟨2, ![8192, 2048]⟩
abbrev S1x2048 : Shape := ⟨2, ![1, 2048]⟩
abbrev S_ : Shape := ⟨0, ![]⟩
abbrev S8192x2x1024 : Shape := ⟨3, ![8192, 2, 1024]⟩
abbrev S8192x1x1024 : Shape := ⟨3, ![8192, 1, 1024]⟩
abbrev S8192x1024 : Shape := ⟨2, ![8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .f32⟩
  | .hbm, ⟨3, _⟩ => ⟨S2048, .f32⟩
  | .hbm, ⟨4, _⟩ => ⟨S512x1024, .f32⟩
  | .hbm, ⟨5, _⟩ => ⟨S512x1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== PoolFwd.lean ====
abbrev S8192x5120 : Shape := ⟨2, ![8192, 5120]⟩
abbrev S4x128x128 : Shape := ⟨3, ![4, 128, 128]⟩
abbrev S512 : Shape := ⟨1, ![512]⟩
abbrev S8192x1024 : Shape := ⟨2, ![8192, 1024]⟩
abbrev S8192x2048 : Shape := ⟨2, ![8192, 2048]⟩
abbrev S8192x512 : Shape := ⟨2, ![8192, 512]⟩
abbrev S8192x3584 : Shape := ⟨2, ![8192, 3584]⟩
abbrev S1x512 : Shape := ⟨2, ![1, 512]⟩
abbrev S512x512 : Shape := ⟨2, ![512, 512]⟩
abbrev S16x512 : Shape := ⟨2, ![16, 512]⟩
abbrev S512x1 : Shape := ⟨2, ![512, 1]⟩
abbrev S528x512 : Shape := ⟨2, ![528, 512]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 9
  | .vmem => 9
  | .smem => 0
  | _ => 0

abbrev bufTy : (tb : Table) → Fin (tcTables nBuf tb) → BufTy
  | .hbm, ⟨0, _⟩ => ⟨S8192x5120, .f32⟩
  | .hbm, ⟨1, _⟩ => ⟨S4x128x128, .f32⟩
  | .hbm, ⟨2, _⟩ => ⟨S512, .f32⟩
  | .hbm, ⟨3, _⟩ => ⟨S8192x1024, .f32⟩
  | .hbm, ⟨4, _⟩ => ⟨S8192x2048, .f32⟩
  | .hbm, ⟨5, _⟩ => ⟨S8192x512, .f32⟩
  | .hbm, ⟨6, _⟩ => ⟨S8192x3584, .f32⟩
  | .hbm, ⟨7, _⟩ => ⟨S1x512, .f32⟩
  | .hbm, ⟨8, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S16x512, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S8192x5120 : Shape := ⟨2, ![8192, 5120]⟩
abbrev S4x128x128 : Shape := ⟨3, ![4, 128, 128]⟩
abbrev S512 : Shape := ⟨1, ![512]⟩
abbrev S8192x512 : Shape := ⟨2, ![8192, 512]⟩
abbrev S8192x2048 : Shape := ⟨2, ![8192, 2048]⟩
abbrev S8192x4x128 : Shape := ⟨3, ![8192, 4, 128]⟩
abbrev S_ : Shape := ⟨0, ![]⟩
abbrev S8192 : Shape := ⟨1, ![8192]⟩
abbrev S8192x1x128 : Shape := ⟨3, ![8192, 1, 128]⟩
abbrev S8192x128 : Shape := ⟨2, ![8192, 128]⟩
abbrev S2x128 : Shape := ⟨2, ![2, 128]⟩
abbrev S8194x128 : Shape := ⟨2, ![8194, 128]⟩
abbrev S8192x1 : Shape := ⟨2, ![8192, 1]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x128x8192 : Shape := ⟨3, ![4, 128, 8192]⟩
abbrev S1x512 : Shape := ⟨2, ![1, 512]⟩

abbrev nBuf : Space → Nat
  | .hbm => 106
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x2048, .f32⟩
  | .hbm, ⟨10, _⟩ => ⟨S8192x4x128, .f32⟩
  | .hbm, ⟨11, _⟩ => ⟨S_, .f32⟩
  | .hbm, ⟨12, _⟩ => ⟨S_, .f32⟩
  | .hbm, ⟨13, _⟩ => ⟨S8192x4x128, .f32⟩
  | .hbm, ⟨14, _⟩ => ⟨S8192, .i32⟩
  | .hbm, ⟨15, _⟩ => ⟨S8192x1x128, .f32⟩
  | .hbm, ⟨16, _⟩ => ⟨S8192x128, .f32⟩
  | .hbm, ⟨17, _⟩ => ⟨S_, .f32⟩
  | .hbm, ⟨18, _⟩ => ⟨S2x128, .f32⟩
  | .hbm, ⟨19, _⟩ => ⟨S8194x128, .f32⟩
  | .hbm, ⟨20, _⟩ => ⟨S8192x128, .f32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .f32⟩
  | .hbm, ⟨28, _⟩ => ⟨S8192x1, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x1x128, .f32⟩
  | .hbm, ⟨33, _⟩ => ⟨S8192x128, .f32⟩
  | .hbm, ⟨34, _⟩ => ⟨S_, .f32⟩
  | .hbm, ⟨35, _⟩ => ⟨S4x128, .f32⟩
  | .hbm, ⟨36, _⟩ => ⟨S8196x128, .f32⟩
  | .hbm, ⟨37, _⟩ => ⟨S8192x128, .f32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .f32⟩
  | .hbm, ⟨45, _⟩ => ⟨S8192x1, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x1x128, .f32⟩
  | .hbm, ⟨50, _⟩ => ⟨S8192x128, .f32⟩
  | .hbm, ⟨51, _⟩ => ⟨S_, .f32⟩
  | .hbm, ⟨52, _⟩ => ⟨S8x128, .f32⟩
  | .hbm, ⟨53, _⟩ => ⟨S8200x128, .f32⟩
  | .hbm, ⟨54, _⟩ => ⟨S8192x128, .f32⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .f32⟩
  | .hbm, ⟨62, _⟩ => ⟨S8192x1, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x1x128, .f32⟩
  | .hbm, ⟨67, _⟩ => ⟨S8192x128, .f32⟩
  | .hbm, ⟨68, _⟩ => ⟨S_, .f32⟩
  | .hbm, ⟨69, _⟩ => ⟨S16x128, .f32⟩
  | .hbm, ⟨70, _⟩ => ⟨S8208x128, .f32⟩
  | .hbm, ⟨71, _⟩ => ⟨S8192x128, .f32⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .f32⟩
  | .hbm, ⟨79, _⟩ => ⟨S8192x1, .f32⟩
  | .hbm, ⟨80, _⟩ => ⟨S8192x128, .f32⟩
  | .hbm, ⟨81, _⟩ => ⟨S8192x128, .f32⟩
  | .hbm, ⟨82, _⟩ => ⟨S8192x128, .f32⟩
  | .hbm, ⟨83, _⟩ => ⟨S8192x1x128, .f32⟩
  | .hbm, ⟨84, _⟩ => ⟨S8192x1x128, .f32⟩
  | .hbm, ⟨85, _⟩ => ⟨S8192x1x128, .f32⟩
  | .hbm, ⟨86, _⟩ => ⟨S8192x1x128, .f32⟩
  | .hbm, ⟨87, _⟩ => ⟨S8192x4x128, .f32⟩
  | .hbm, ⟨88, _⟩ => ⟨S8192x4x128, .f32⟩
  | .hbm, ⟨89, _⟩ => ⟨S4x128x8192, .f32⟩
  | .hbm, ⟨90, _⟩ => ⟨S8192x4x128, .f32⟩
  | .hbm, ⟨91, _⟩ => ⟨S8192x512, .f32⟩
  | .hbm, ⟨92, _⟩ => ⟨S1x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S_, .f32⟩
  | .hbm, ⟨98, _⟩ => ⟨S8192x512, .f32⟩
  | .hbm, ⟨99, _⟩ => ⟨S8192x512, .f32⟩
  | .hbm, ⟨100, _⟩ => ⟨S_, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x512, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_cst : Ref sig .tc := ⟨.hbm, 11, rfl⟩
abbrev main_call0_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_c_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Proof.Reals.lean ====
/-
  Real numbers among the extended reals: what the value proofs use of finite arguments. `IsReal x` says that `x` is a real
  number; sums and products of real numbers are real, and an equation between terms of real numbers is proved in `ℝ`.
-/
module

public import Idealize.ShloMosaic.PureOps
public import Idealize.ShloMosaic.PureOps.Ideal
public import Idealize.ShloMosaic.Lib.ReduceAll
public import Idealize.ShloMosaic.Lib.IdealHost

@[expose] public section

noncomputable section

namespace Cert.Reals

open Idealize.ShloMosaic

/-- `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers, taken among the extended reals, is their sum in `ℝ`. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))

/-- A real factor goes into a finite sum of real numbers. -/
theorem mul_sum_real {ι : Type*} (s : Finset ι) {a : EReal} {f : ι → EReal} (ha : IsReal a) (hf : ∀ i, IsReal (f i)) :
    a * ∑ i ∈ s, f i = ∑ i ∈ s, a * f i := by
  obtain ⟨b, rfl⟩ := ha
  choose g hg using hf
  obtain rfl : f = fun i => (g i : EReal) := funext hg
  simp only [← EReal.coe_mul, ← coe_sum, Finset.mul_sum]

/-- Division by a real number that is not zero. -/
theorem div_coe_coe (x y : ℝ) (h : y ≠ 0) : Ideal.div (x : EReal) (y : EReal) = ((x / y : ℝ) : EReal) := by
  rw [Ideal.div_coe h, ← EReal.coe_mul, mul_one_div]

/-- `|x| < +∞`, as a finite-argument precondition states it, says that `x` is a real number. -/
theorem isReal_of_abs_lt {x : EReal} (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | coe r => exact ⟨r, rfl⟩
  | bot => simp [Ideal.cmp] at h
  | top => simp [Ideal.cmp] at h

/-- `jnp.all(jnp.abs(x) < jnp.inf)` as it is printed: every element is a real number. -/
theorem all_isReal {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (h : Host.reduce IntOp.andi (cmpf .olt (Host.absf x) (broadcastInDim s ![] hb (constant (⟨0, ![]⟩ : Shape) .f32 0x7F800000#32)))
      (constantI (⟨0, ![]⟩ : Shape) 1 1#1) hr hu j = 1#1) (i : s.Idx) : IsReal (x i) := by
  haveI : Subsingleton (⟨0, ![]⟩ : Shape).Idx := ⟨fun a b => funext fun k => k.elim0⟩
  exact isReal_of_abs_lt (Host.reduce_andi_all _ _ hr hu j h i)

/-- The conjunction of two printed truth values is true only when both are. -/
theorem andi_split {s : Shape} {a b : IVec s 1} {j : s.Idx} (h : andi a b j = 1#1) : a j = 1#1 ∧ b j = 1#1 :=
  IntOp.andi_eq_one.1 h

end Cert.Reals

end
-- ==== Proof.AttnGateValue.lean ====
/-
  The attention gate's backward call at the extended reals: what each output array holds after the run is the
  reference's term of the arguments.
-/
module

public import proofs.«01_k».proof.Defs
public import proofs.«01_k».proof.Proof.Gen.AttnGateIdeal.Value
public import proofs.«01_k».proof.Proof.Gen.AttnGateRefIdeal.Run
public import proofs.«01_k».proof.Proof.Gen.Pre_attn_gate_finite
public import proofs.«01_k».proof.Proof.Reals
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AttnGateIdeal.Value

open Cert.AttnGateIdeal Cert.AttnGateIdeal.Gen Cert.Reals

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![t.val, 6] ∧ win0_4.index t = ![t.val, 0] ∧ win0_5.index t = ![t.val, 0] :=
  (by decide +kernel : ∀ t : Fin grid0.N, _)

theorem point_lt (t : Fin cfg0.N) : t.val < 16 := lt_of_lt_of_eq t.isLt N_0

/-! ## The results as functions of the arguments -/

/-- The gradient `Σ_c da[i, c] · w[k, c]` of the gated attention output, which both results share. -/
def dgated (W : FVec Ideal S512x1024 .f32) (da : FVec Ideal S8192x1024 .f32) (i : Fin 8192) (k : Fin 512) : EReal :=
  ∑ c : Fin 1024, da (ix2 i c) * W (ix2 k c)

/-- The gate's argument `z`: columns 2560 to 3071 of the projection. -/
def gateArg (proj : FVec Ideal S8192x5120 .f32) (i : Fin 8192) (k : Fin 512) : EReal := proj (ix2 i ⟨2560 + k.val, by omega⟩)

/-- The gradient of the attention output. -/
def doOut (proj : FVec Ideal S8192x5120 .f32) (W : FVec Ideal S512x1024 .f32) (da : FVec Ideal S8192x1024 .f32) (i : Fin 8192)
    (k : Fin 512) : EReal :=
  dgated W da i k * (gateArg proj i k * Ideal.div 1 (1 + Ideal.exp (-gateArg proj i k)))

/-- The gradient of the gate's argument, as the kernel writes it. -/
def dzOut (attn : FVec Ideal S8192x512 .f32) (proj : FVec Ideal S8192x5120 .f32) (W : FVec Ideal S512x1024 .f32)
    (da : FVec Ideal S8192x1024 .f32) (i : Fin 8192) (k : Fin 512) : EReal :=
  dgated W da i k * attn (ix2 i k) * (Ideal.div 1 (1 + Ideal.exp (-gateArg proj i k)) *
    (1 + gateArg proj i k * (1 - Ideal.div 1 (1 + Ideal.exp (-gateArg proj i k)))))

/-- The first result's array. -/
def doArr (proj : FVec Ideal S8192x5120 .f32) (W : FVec Ideal S512x1024 .f32) (da : FVec Ideal S8192x1024 .f32) :
    FVec Ideal S8192x512 .bf16 := fun i => doOut proj W da (i 0) (i 1)

/-- The second result's array. -/
def dzArr (attn : FVec Ideal S8192x512 .f32) (proj : FVec Ideal S8192x5120 .f32) (W : FVec Ideal S512x1024 .f32)
    (da : FVec Ideal S8192x1024 .f32) : FVec Ideal S8192x512 .bf16 := fun i => dzOut attn proj W da (i 0) (i 1)

/-! ## The kernel -/

theorem pay4_apply (Z : FVec Ideal S512x512 .f32) (D W : FVec Ideal S512x1024 .bf16) (r k : Fin 512) :
    k0_pay4 Z D W (ix2 r k) = (∑ c : Fin 1024, D (ix2 r c) * W (ix2 k c)) *
      (Z (ix2 r k) * Ideal.div 1 (1 + Ideal.exp (-Z (ix2 r k)))) := by
  pointwise [k0_pay4, k0_pay3, k0_pay2, k0_pay1, zero_sub]

theorem pay5_apply (Z : FVec Ideal S512x512 .f32) (D W : FVec Ideal S512x1024 .bf16) (A : FVec Ideal S512x512 .f32) (r k : Fin 512) :
    k0_pay5 Z D W A (ix2 r k) = (∑ c : Fin 1024, D (ix2 r c) * W (ix2 k c)) * A (ix2 r k) *
      (Ideal.div 1 (1 + Ideal.exp (-Z (ix2 r k))) * (1 + Z (ix2 r k) * (1 - Ideal.div 1 (1 + Ideal.exp (-Z (ix2 r k)))))) := by
  pointwise [k0_pay5, k0_pay3, k0_pay2, k0_pay1, zero_sub]

theorem blk0 (c : Dev nD) (t : Fin cfg0.N) (r : Fin 512) (k : Fin 1024) (R : Fin 8192) (h : R.val = t.val * 512 + r.val) :
    iblk m c 0 t (ix2 r k) = m ((c : Thread nD τ).loc main_arg3) (ix2 R k) := by
  blk_simp [iblk, idx t]
  entry_read
  pointwise
  blk_ext [idx t]

theorem blk1 (c : Dev nD) (t : Fin cfg0.N) (r : Fin 512) (k : Fin 1024) :
    iblk m c 1 t (ix2 r k) = m ((c : Thread nD τ).loc main_arg2) (ix2 r k) := by
  blk_simp [iblk, idx t]
  entry_read
  pointwise
  blk_ext [idx t]

theorem blk2 (c : Dev nD) (t : Fin cfg0.N) (r : Fin 512) (k : Fin 512) (R : Fin 8192) (h : R.val = t.val * 512 + r.val) :
    iblk m c 2 t (ix2 r k) = m ((c : Thread nD τ).loc main_arg0) (ix2 R k) := by
  blk_ext [iblk, V, idx t]

/-- The kernel's own order of the projection's columns: the gate of the attention stands last. -/
theorem V_v5 (c : Dev nD) (i : Fin 8192) (k : Fin 512) : V m c main_v5 (ix2 i ⟨3072 + k.val, by omega⟩)
    = m ((c : Thread nD τ).loc main_arg1) (ix2 i ⟨2560 + k.val, by omega⟩) := by
  unfold V hostOps0
  after_reads_at
  rw [dif_neg (by omega), dif_neg (by omega)]
  after_reads_simp
  pointwise
  blk_ext

theorem blk3 (c : Dev nD) (t : Fin cfg0.N) (r : Fin 512) (k : Fin 512) (R : Fin 8192) (h : R.val = t.val * 512 + r.val) :
    iblk m c 3 t (ix2 r k) = gateArg (m ((c : Thread nD τ).loc main_arg1)) R k := by
  have e : ((cfg0.win 3).blk t).view.emb (ix2 r k) = ix2 R ⟨3072 + k.val, by omega⟩ := by
    blk_ext [idx t]
  refine Eq.trans ?_ (V_v5 m c R k)
  exact congrArg (V m c main_v5) e

theorem point4 (c : Dev nD) (t : Fin cfg0.N) (r k : Fin 512) (R : Fin 8192) (h : R.val = t.val * 512 + r.val) :
    k0_pay4 (iblk m c 3 t) (iblk m c 0 t) (iblk m c 1 t) (ix2 r k)
      = doOut (m ((c : Thread nD τ).loc main_arg1)) (m ((c : Thread nD τ).loc main_arg2)) (m ((c : Thread nD τ).loc main_arg3)) R k := by
  rw [pay4_apply, blk3 m c t r k R h]
  unfold doOut dgated
  congr 1
  exact Finset.sum_congr rfl fun x _ => by rw [blk0 m c t r x R h, blk1 m c t k x]

theorem point5 (c : Dev nD) (t : Fin cfg0.N) (r k : Fin 512) (R : Fin 8192) (h : R.val = t.val * 512 + r.val) :
    k0_pay5 (iblk m c 3 t) (iblk m c 0 t) (iblk m c 1 t) (iblk m c 2 t) (ix2 r k)
      = dzOut (m ((c : Thread nD τ).loc main_arg0)) (m ((c : Thread nD τ).loc main_arg1)) (m ((c : Thread nD τ).loc main_arg2))
        (m ((c : Thread nD τ).loc main_arg3)) R k := by
  rw [pay5_apply, blk3 m c t r k R h, blk2 m c t r k R h]
  unfold dzOut dgated
  congr 2
  exact Finset.sum_congr rfl fun x _ => by rw [blk0 m c t r x R h, blk1 m c t k x]

theorem final4 (c : Dev nD) : (dats m 0 c).arrAt 4 cfg0.N
    = doArr (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  refine (point4 m c t y0 y1 ⟨t.val * 512 + y0.val, by have := point_lt t; omega⟩ rfl).trans ?_
  refine congrArg (doArr _ _ _) (a₁ := ix2 _ _) ?_
  blk_ext [idx t]

theorem final5 (c : Dev nD) : (dats m 0 c).arrAt 5 cfg0.N
    = dzArr (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  frame_out
  idx_vars y
  refine (point5 m c t y0 y1 ⟨t.val * 512 + y0.val, by have := point_lt t; omega⟩ rfl).trans ?_
  refine congrArg (dzArr _ _ _ _) (a₁ := ix2 _ _) ?_
  blk_ext [idx t]

end Cert.AttnGateIdeal.Value

end
-- ==== Proof.AttnGateClaims.lean ====
/-
  The claims of the attention gate's backward call: frames, the idealization's ledger, and the value claim.
-/
module

public import proofs.«01_k».proof.Proof.AttnGateValue
public import proofs.«01_k».proof.Proof.Gen.AttnGate.Frame

@[expose] public section

set_option maxRecDepth 16384

noncomputable section

open Idealize.ShloMosaic Idealize.ShloMosaic.TcCoe Idealize.SL.Sem

namespace Cert.Proof.AttnGate

open Cert.Reals Cert.AttnGateIdeal.Value

/-- What the precondition says of the arguments. -/
theorem finite_of_pre (x : FVec Ideal Cert.AttnGateIdeal.S8192x512 .f32) (p : FVec Ideal Cert.AttnGateIdeal.S8192x5120 .f32)
    (w : FVec Ideal Cert.AttnGateIdeal.S512x1024 .f32) (d : FVec Ideal Cert.AttnGateIdeal.S8192x1024 .f32)
    (h : Cert.Pre_attn_gate_finite.fn (F := Ideal) x p w d = fun _ => 1#1) :
    (∀ i, IsReal (x i)) ∧ (∀ i k, IsReal (gateArg p i k)) ∧ (∀ i, IsReal (w i)) ∧ ∀ i, IsReal (d i) := by
  have h0 := congrFun h ix0
  obtain ⟨h1, h2⟩ := andi_split h0
  obtain ⟨h3, h4⟩ := andi_split h1
  obtain ⟨h5, h6⟩ := andi_split h2
  refine ⟨all_isReal x _ _ _ _ h3, fun i k => ?_, all_isReal w _ _ _ _ h5, all_isReal d _ _ _ _ h6⟩
  have e := all_isReal _ _ _ _ _ h4 (ix2 i k)
  have e' : gateArg p i k = extractStridedSlice Cert.Pre_attn_gate_finite.S8192x512 ![0, 2560] p
      Cert.Pre_attn_gate_finite.Facts.slices_S8192x5120_S8192x512_0_2560 (ix2 i k) := by
    unfold gateArg; pointwise
  rw [e']; exact e

/-- Over real numbers the product rule's two terms are the kernel's one product. -/
theorem dz_algebra {t a z : EReal} (ht : IsReal t) (ha : IsReal a) (hz : IsReal z) :
    a * t * Ideal.div 1 (1 + Ideal.exp (-z)) + z * (a * t) * (Ideal.div 1 (1 + Ideal.exp (-z)) * (1 - Ideal.div 1 (1 + Ideal.exp (-z))))
      = t * a * (Ideal.div 1 (1 + Ideal.exp (-z)) * (1 + z * (1 - Ideal.div 1 (1 + Ideal.exp (-z))))) := by
  obtain ⟨t, rfl⟩ := ht; obtain ⟨a, rfl⟩ := ha; obtain ⟨z, rfl⟩ := hz
  have hs : Ideal.div 1 (1 + Ideal.exp (-(z : EReal))) = ((1 / (1 + Real.exp (-z)) : ℝ) : EReal) := by
    rw [← EReal.coe_neg, Ideal.exp_coe, ← EReal.coe_one, ← EReal.coe_add,
      div_coe_coe _ _ (by positivity)]
  rw [hs]
  generalize 1 / (1 + Real.exp (-z)) = s
  norm_cast
  ring

theorem frame_p : Cert.quiescent_AttnGate := fun m ρ _ => Cert.AttnGate.Gen.frame m ρ
theorem frame_pi : Cert.quiescent_AttnGateIdeal := fun m ρ _ => Cert.AttnGateIdeal.Gen.frame m ρ
theorem frame_pi_pre : Cert.quiescent_AttnGateIdeal_pre_attn_gate_finite := fun m ρ _ => Cert.AttnGateIdeal.Gen.frame m ρ
theorem frame_ri : Cert.quiescent_AttnGateRefIdeal := fun m ρ _ =>
  (θ_run Cert.AttnGateRefIdeal.defs _ _).mono (fun r h => ⟨fun c => (h c).2.2,
      Idealize.ShloMosaic.sem_eq_zero_of_no_sems (by decide) r.2⟩)
    (Cert.AttnGateRefIdeal.Value.run (F := Ideal) m ρ)
theorem frame_ri_pre : Cert.quiescent_AttnGateRefIdeal_pre_attn_gate_finite := fun m ρ _ => frame_ri m ρ trivial

theorem preserves : Cert.preserves_AttnGate_AttnGateIdeal := trivial

theorem algebraic : Cert.algebraic_AttnGateIdeal_AttnGateRefIdeal_pre_attn_gate_finite := by
  pair_intro
  · run_from Cert.AttnGateIdeal.Value.run_blocks m g
  · run_from Cert.AttnGateRefIdeal.Value.run m' g'
    · refine Eq.trans ?_ (final4 m c).symm
      generalize m (c.tc.loc Cert.AttnGateIdeal.main_arg1) = p
      generalize m (c.tc.loc Cert.AttnGateIdeal.main_arg2) = w
      generalize m (c.tc.loc Cert.AttnGateIdeal.main_arg3) = d
      funext i
      idx_vars i
      pointwise [doArr, doOut, dgated, gateArg]
    · refine Eq.trans ?_ (final5 m c).symm
      obtain ⟨hx, hz, hw, hd⟩ := finite_of_pre _ _ _ _ (hpre c)
      revert hx hz hw hd
      generalize m (c.tc.loc Cert.AttnGateIdeal.main_arg0) = x
      generalize m (c.tc.loc Cert.AttnGateIdeal.main_arg1) = p
      generalize m (c.tc.loc Cert.AttnGateIdeal.main_arg2) = w
      generalize m (c.tc.loc Cert.AttnGateIdeal.main_arg3) = d
      intro hx hz hw hd
      funext i
      idx_vars i
      have ht : IsReal (dgated w d i0 i1) := isReal_sum _ fun k _ => (hd _).mul (hw _)
      have := dz_algebra ht (hx (ix2 i0 i1)) (hz i0 i1)
      pointwise [dzArr, dzOut]
      exact this

end Cert.Proof.AttnGate

end
-- ==== Proof.MergeValue.lean ====
/-
  The gated merge's backward call at the extended reals: what each output array holds after the run is the reference's
  term of the arguments.
-/
module

public import proofs.«01_k».proof.Defs
public import proofs.«01_k».proof.Proof.Gen.MergeIdeal.Value
public import proofs.«01_k».proof.Proof.Gen.MergeRefIdeal.Run
public import proofs.«01_k».proof.Proof.Reals
public import Idealize.ShloMosaic.Lib.Pipeline.ValueKit
public import Idealize.ShloMosaic.Lib.Pipeline.ReadBack
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Reals

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 1]
    ∧ win0_7.index t = ![t.val, 2] ∧ win0_8.index t = ![0, 0] ∧ win0_9.index t = ![t.val, 0] ∧ win0_10.index t = ![t.val, 0]
    ∧ win0_11.index t = ![t.val, 0] ∧ win0_12.index t = ![0, 0] :=
  (by decide +kernel : ∀ t : Fin grid0.N, _)

theorem point_lt (t : Fin cfg0.N) : t.val < 16 := lt_of_lt_of_eq t.isLt N_0

/-! ## The results as functions of the arguments -/

/-- The gradient `Σ_c dx[i, c] · w_out[k, c]` of the merged branches. -/
def dmerged (wo : FVec Ideal S1024x1024 .f32) (dx : FVec Ideal S8192x1024 .f32) (i : Fin 8192) (k : Fin 1024) : EReal :=
  ∑ c : Fin 1024, dx (ix2 i c) * wo (ix2 k c)

/-- A branch's up-projection `Σ_c y[i, c] · w[c, k]`. -/
def up (y : FVec Ideal S8192x512 .f32) (w : FVec Ideal S512x1024 .f32) (i : Fin 8192) (k : Fin 1024) : EReal :=
  ∑ c : Fin 512, y (ix2 i c) * w (ix2 c k)

/-- The sigmoid as both programs write it. -/
def sigm (x : EReal) : EReal := Ideal.div 1 (1 + Ideal.exp (-x))

/-- The gates: columns 3072 to 5119 of the projection, plus the bias. -/
def gate (proj : FVec Ideal S8192x5120 .f32) (b : FVec Ideal S2048 .f32) (i : Fin 8192) (j : Fin 2048) : EReal :=
  sigm (proj (ix2 i ⟨3072 + j.val, by omega⟩) + b (ix1 j))

/-- The gradient of a branch, whose gate is column `o + k` of the gates. -/
def branchArr (o : ℕ) (ho : o ≤ 1024) (proj : FVec Ideal S8192x5120 .f32) (b : FVec Ideal S2048 .f32)
    (wo : FVec Ideal S1024x1024 .f32) (dx : FVec Ideal S8192x1024 .f32) : FVec Ideal S8192x1024 .bf16 :=
  fun i => dmerged wo dx (i 0) (i 1) * gate proj b (i 0) ⟨o + (i 1).val, by have : (i 1).val < 1024 := (i 1).isLt; omega⟩

/-- The gradient of the gates' arguments. -/
def dgl (yp ya : FVec Ideal S8192x512 .f32) (proj : FVec Ideal S8192x5120 .f32) (b : FVec Ideal S2048 .f32)
    (wp wa : FVec Ideal S512x1024 .f32) (wo : FVec Ideal S1024x1024 .f32) (dx : FVec Ideal S8192x1024 .f32) (i : Fin 8192)
    (j : Fin 2048) : EReal :=
  (if h : j.val < 1024 then dmerged wo dx i ⟨j.val, h⟩ * up yp wp i ⟨j.val, h⟩
    else dmerged wo dx i ⟨j.val - 1024, by omega⟩ * up ya wa i ⟨j.val - 1024, by omega⟩) *
    (gate proj b i j * (1 - gate proj b i j))

/-- The third result's array. -/
def dglArr (yp ya : FVec Ideal S8192x512 .f32) (proj : FVec Ideal S8192x5120 .f32) (b : FVec Ideal S2048 .f32)
    (wp wa : FVec Ideal S512x1024 .f32) (wo : FVec Ideal S1024x1024 .f32) (dx : FVec Ideal S8192x1024 .f32) :
    FVec Ideal S8192x2048 .bf16 := fun i => dgl yp ya proj b wp wa wo dx (i 0) (i 1)

/-- The fourth result's array: the gradients of the biases, sums over the rows. -/
def dbArr (yp ya : FVec Ideal S8192x512 .f32) (proj : FVec Ideal S8192x5120 .f32) (b : FVec Ideal S2048 .f32)
    (wp wa : FVec Ideal S512x1024 .f32) (wo : FVec Ideal S1024x1024 .f32) (dx : FVec Ideal S8192x1024 .f32) :
    FVec Ideal S1x2048 .f32 := fun i => ∑ r : Fin 8192, dgl yp ya proj b wp wa wo dx r (i 1)

/-! ## The body's values -/

theorem pay3_apply (D : FVec Ideal S512x1024 .f32) (W : FVec Ideal S1024x1024 .bf16) (r : Fin 512) (k : Fin 1024) :
    k0_pay3 (F := Ideal) D W (ix2 r k) = ∑ c : Fin 1024, D (ix2 r c) * W (ix2 k c) := by
  pointwise [k0_pay3]

theorem pay4_apply (Y : FVec Ideal S512x512 .bf16) (W : FVec Ideal S512x1024 .bf16) (r : Fin 512) (k : Fin 1024) :
    k0_pay4 (F := Ideal) Y W (ix2 r k) = ∑ c : Fin 512, Y (ix2 r c) * W (ix2 c k) := by
  pointwise [k0_pay4]

theorem pay5_apply (Y : FVec Ideal S512x512 .bf16) (W : FVec Ideal S512x1024 .bf16) (r : Fin 512) (k : Fin 1024) :
    k0_pay5 (F := Ideal) Y W (ix2 r k) = ∑ c : Fin 512, Y (ix2 r c) * W (ix2 c k) := by
  pointwise [k0_pay5]

theorem gate0_apply (Z : FVec Ideal S512x1024 .f32) (B : FVec Ideal S1x2048 .f32) (r : Fin 512) (k : Fin 1024) :
    k0_pay9 (F := Ideal) (k0_pay8 (F := Ideal) Z B) (FloatOps.ofBits (F := Ideal) FTy.f32 1065353216#32) (ix2 r k) = sigm (Z (ix2 r k) + B (ix2 0 ⟨k.val, by omega⟩)) := by
  pointwise [k0_pay9, k0_pay8, k0_pay7, sigm, zero_sub]

theorem gate1_apply (Z : FVec Ideal S512x1024 .f32) (B : FVec Ideal S1x2048 .f32) (r : Fin 512) (k : Fin 1024) :
    k0_pay10 (F := Ideal) (k0_pay6 (F := Ideal) Z) (k0_pay7 (F := Ideal) B) (ix2 r k) = sigm (Z (ix2 r k) + B (ix2 0 ⟨1024 + k.val, by omega⟩)) := by
  pointwise [k0_pay10, k0_pay7, k0_pay6, sigm, zero_sub]

theorem pay11_apply (v7 v31 : FVec Ideal S512x1024 .f32) (c : Ideal .f32) (i : S512x1024.Idx) :
    k0_pay11 (F := Ideal) v7 v31 c i = v7 i * k0_pay9 (F := Ideal) v31 c i := rfl

theorem pay12_apply (v7 v21 : FVec Ideal S512x1024 .f32) (v23 : FVec Ideal S1x2048 .f32) (i : S512x1024.Idx) :
    k0_pay12 (F := Ideal) v7 v21 v23 i = v7 i * k0_pay10 (F := Ideal) v21 v23 i := rfl

theorem pay13_apply (v7 v12 v31 : FVec Ideal S512x1024 .f32) (c : Ideal .f32) (r : Fin 512) (k : Fin 1024) :
    k0_pay13 (F := Ideal) v7 v12 v31 c (ix2 r k) = v7 (ix2 r k) * v12 (ix2 r k) * (k0_pay9 (F := Ideal) v31 c (ix2 r k) * (1 - k0_pay9 (F := Ideal) v31 c (ix2 r k))) := by
  pointwise [k0_pay13]

theorem pay14_apply (v7 v17 v21 : FVec Ideal S512x1024 .f32) (v23 : FVec Ideal S1x2048 .f32) (r : Fin 512) (k : Fin 1024) :
    k0_pay14 (F := Ideal) v7 v17 v21 v23 (ix2 r k)
      = v7 (ix2 r k) * v17 (ix2 r k) * (k0_pay10 (F := Ideal) v21 v23 (ix2 r k) * (1 - k0_pay10 (F := Ideal) v21 v23 (ix2 r k))) := by
  pointwise [k0_pay14]

theorem pay1_apply (G : FVec Ideal S512x1024 .f32) (A : FVec Ideal S1x1024 .f32) (k : Fin 1024) :
    k0_pay1 (F := Ideal) G A (ix2 0 k) = A (ix2 0 k) + ∑ r : Fin 512, G (ix2 r k) := by
  pointwise [k0_pay1]

theorem pay17_apply (v7 v12 v31 : FVec Ideal S512x1024 .f32) (c : Ideal .f32) (A : FVec Ideal S1x1024 .f32) (k : Fin 1024) :
    k0_pay17 (F := Ideal) v7 v12 v31 c A (ix2 0 k) = A (ix2 0 k) + ∑ r : Fin 512, k0_pay13 (F := Ideal) v7 v12 v31 c (ix2 r k) := by
  pointwise [k0_pay17]

/-! ## The blocks -/

theorem blk0 (c : Dev nD) (t : Fin cfg0.N) (r : Fin 512) (k : Fin 1024) (R : Fin 8192) (h : R.val = t.val * 512 + r.val) :
    iblk m c 0 t (ix2 r k) = m ((c : Thread nD τ).loc main_arg7) (ix2 R k) := by
  blk_ext [iblk, V, idx t]

theorem blk1 (c : Dev nD) (t : Fin cfg0.N) (r : Fin 1024) (k : Fin 1024) :
    iblk m c 1 t (ix2 r k) = m ((c : Thread nD τ).loc main_arg6) (ix2 r k) := by
  blk_simp [iblk, idx t]; entry_read; pointwise; blk_ext [idx t]

theorem blk2 (c : Dev nD) (t : Fin cfg0.N) (r : Fin 512) (k : Fin 512) (R : Fin 8192) (h : R.val = t.val * 512 + r.val) :
    iblk m c 2 t (ix2 r k) = m ((c : Thread nD τ).loc main_arg0) (ix2 R k) := by
  blk_simp [iblk, idx t]; entry_read; pointwise; blk_ext [idx t]

theorem blk3 (c : Dev nD) (t : Fin cfg0.N) (r : Fin 512) (k : Fin 512) (R : Fin 8192) (h : R.val = t.val * 512 + r.val) :
    iblk m c 3 t (ix2 r k) = m ((c : Thread nD τ).loc main_arg1) (ix2 R k) := by
  blk_simp [iblk, idx t]; entry_read; pointwise; blk_ext [idx t]

theorem blk4 (c : Dev nD) (t : Fin cfg0.N) (r : Fin 512) (k : Fin 1024) :
    iblk m c 4 t (ix2 r k) = m ((c : Thread nD τ).loc main_arg4) (ix2 r k) := by
  blk_simp [iblk, idx t]; entry_read; pointwise; blk_ext [idx t]

theorem blk5 (c : Dev nD) (t : Fin cfg0.N) (r : Fin 512) (k : Fin 1024) :
    iblk m c 5 t (ix2 r k) = m ((c : Thread nD τ).loc main_arg5) (ix2 r k) := by
  blk_simp [iblk, idx t]; entry_read; pointwise; blk_ext [idx t]

theorem blk8 (c : Dev nD) (t : Fin cfg0.N) (k : Fin 2048) :
    iblk m c 8 t (ix2 0 k) = m ((c : Thread nD τ).loc main_arg3) (ix1 k) := by
  blk_simp [iblk, idx t]; entry_read; pointwise; blk_ext [idx t]

/-- The kernel's own order of the projection's columns: the branches' gates stand second. -/
theorem V_v8 (c : Dev nD) (i : Fin 8192) (k : Fin 2048) : V m c main_v8 (ix2 i ⟨1024 + k.val, by omega⟩)
    = m ((c : Thread nD τ).loc main_arg2) (ix2 i ⟨3072 + k.val, by omega⟩) := by
  unfold V hostOps0
  after_reads_at
  after_reads_simp
  pointwise
  blk_ext

theorem blk6 (c : Dev nD) (t : Fin cfg0.N) (r : Fin 512) (k : Fin 1024) (R : Fin 8192) (h : R.val = t.val * 512 + r.val) :
    X0_6 m c t (ix2 r k) = m ((c : Thread nD τ).loc main_arg2) (ix2 R ⟨3072 + k.val, by omega⟩) := by
  unfold X0_6 Pipeline.Window.fill
  rw [dif_pos (moved0_6 t _)]
  refine Eq.trans (congrArg (V m c main_v8) (?_ : _ = ix2 R ⟨1024 + k.val, by omega⟩)) (V_v8 m c R ⟨k.val, by omega⟩)
  blk_ext [idx t]

theorem blk7 (c : Dev nD) (t : Fin cfg0.N) (r : Fin 512) (k : Fin 1024) (R : Fin 8192) (h : R.val = t.val * 512 + r.val) :
    X0_7 m c t (ix2 r k) = m ((c : Thread nD τ).loc main_arg2) (ix2 R ⟨4096 + k.val, by omega⟩) := by
  unfold X0_7 Pipeline.Window.fill
  rw [dif_pos (moved0_7 t _)]
  refine Eq.trans (congrArg (V m c main_v8) (?_ : _ = ix2 R ⟨1024 + (1024 + k.val), by omega⟩)) ((V_v8 m c R ⟨1024 + k.val, by omega⟩).trans ?_)
  · blk_ext [idx t]
  · congr 2; ext; simp; omega

/-! ## What a point leaves -/

theorem dm_point (c : Dev nD) (t : Fin cfg0.N) (r : Fin 512) (k : Fin 1024) (R : Fin 8192) (h : R.val = t.val * 512 + r.val) :
    k0_pay3 (iblk m c 0 t) (iblk m c 1 t) (ix2 r k)
      = dmerged (m ((c : Thread nD τ).loc main_arg6)) (m ((c : Thread nD τ).loc main_arg7)) R k := by
  rw [pay3_apply]
  unfold dmerged
  exact Finset.sum_congr rfl fun x _ => by rw [blk0 m c t r x R h, blk1 m c t k x]

theorem pool_point (c : Dev nD) (t : Fin cfg0.N) (r : Fin 512) (k : Fin 1024) (R : Fin 8192) (h : R.val = t.val * 512 + r.val) :
    k0_pay4 (iblk m c 2 t) (iblk m c 4 t) (ix2 r k)
      = up (m ((c : Thread nD τ).loc main_arg0)) (m ((c : Thread nD τ).loc main_arg4)) R k := by
  rw [pay4_apply]
  unfold up
  exact Finset.sum_congr rfl fun x _ => by rw [blk2 m c t r x R h, blk4 m c t x k]

theorem attn_point (c : Dev nD) (t : Fin cfg0.N) (r : Fin 512) (k : Fin 1024) (R : Fin 8192) (h : R.val = t.val * 512 + r.val) :
    k0_pay5 (iblk m c 3 t) (iblk m c 5 t) (ix2 r k)
      = up (m ((c : Thread nD τ).loc main_arg1)) (m ((c : Thread nD τ).loc main_arg5)) R k := by
  rw [pay5_apply]
  unfold up
  exact Finset.sum_congr rfl fun x _ => by rw [blk3 m c t r x R h, blk5 m c t x k]

theorem gate0_point (c : Dev nD) (t : Fin cfg0.N) (r : Fin 512) (k : Fin 1024) (R : Fin 8192) (h : R.val = t.val * 512 + r.val) :
    k0_pay9 (k0_pay8 (X0_6 m c t) (iblk m c 8 t)) (FloatOps.ofBits (F := Ideal) FTy.f32 1065353216#32) (ix2 r k)
      = gate (m ((c : Thread nD τ).loc main_arg2)) (m ((c : Thread nD τ).loc main_arg3)) R ⟨k.val, by omega⟩ := by
  rw [gate0_apply, blk6 m c t r k R h, blk8 m c t]
  rfl

theorem gate1_point (c : Dev nD) (t : Fin cfg0.N) (r : Fin 512) (k : Fin 1024) (R : Fin 8192) (h : R.val = t.val * 512 + r.val) :
    k0_pay10 (k0_pay6 (X0_7 m c t)) (k0_pay7 (iblk m c 8 t)) (ix2 r k)
      = gate (m ((c : Thread nD τ).loc main_arg2)) (m ((c : Thread nD τ).loc main_arg3)) R ⟨1024 + k.val, by omega⟩ := by
  rw [gate1_apply, blk7 m c t r k R h, blk8 m c t]
  unfold gate
  congr 4
  apply Fin.ext; simp only; omega

/-- The gradient of the gates' arguments at device `c`'s arguments. -/
def dglAt (c : Dev nD) : Fin 8192 → Fin 2048 → EReal :=
  dgl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem dgl0_point (c : Dev nD) (t : Fin cfg0.N) (r : Fin 512) (k : Fin 1024) (R : Fin 8192) (h : R.val = t.val * 512 + r.val) :
    k0_pay13 (k0_pay3 (iblk m c 0 t) (iblk m c 1 t)) (k0_pay4 (iblk m c 2 t) (iblk m c 4 t)) (k0_pay8 (X0_6 m c t) (iblk m c 8 t))
      (FloatOps.ofBits (F := Ideal) FTy.f32 1065353216#32) (ix2 r k) = dglAt m c R ⟨k.val, by omega⟩ := by
  rw [pay13_apply, dm_point m c t r k R h, pool_point m c t r k R h, gate0_point m c t r k R h]
  unfold dglAt dgl
  rw [dif_pos (show (⟨k.val, by omega⟩ : Fin 2048).val < 1024 from k.isLt)]

theorem dgl1_point (c : Dev nD) (t : Fin cfg0.N) (r : Fin 512) (k : Fin 1024) (R : Fin 8192) (h : R.val = t.val * 512 + r.val) :
    k0_pay14 (k0_pay3 (iblk m c 0 t) (iblk m c 1 t)) (k0_pay5 (iblk m c 3 t) (iblk m c 5 t)) (k0_pay6 (X0_7 m c t))
      (k0_pay7 (iblk m c 8 t)) (ix2 r k) = dglAt m c R ⟨1024 + k.val, by omega⟩ := by
  rw [pay14_apply, dm_point m c t r k R h, attn_point m c t r k R h, gate1_point m c t r k R h]
  unfold dglAt dgl
  rw [dif_neg (show ¬ (⟨1024 + k.val, by omega⟩ : Fin 2048).val < 1024 by simp only; omega)]
  congr 3 <;> (apply Fin.ext; simp only; omega)

/-- Row `r` of point `t`'s block, as a row of the array. -/
def row (t : Fin cfg0.N) (r : Fin 512) : Fin 8192 := ⟨t.val * 512 + r.val, by have := point_lt t; omega⟩

theorem outs9 (c : Dev nD) (t : Fin cfg0.N) (r : Fin 512) (k : Fin 1024) : (outsAt0 m c t.val t.isLt).1 (ix2 r k)
    = branchArr 0 (by omega) (m ((c : Thread nD τ).loc main_arg2)) (m ((c : Thread nD τ).loc main_arg3))
      (m ((c : Thread nD τ).loc main_arg6)) (m ((c : Thread nD τ).loc main_arg7)) (ix2 (row t r) k) := by
  have key : k0_pay11 (k0_pay3 (iblk m c 0 t) (iblk m c 1 t)) (k0_pay8 (X0_6 m c t) (iblk m c 8 t))
      (FloatOps.ofBits (F := Ideal) FTy.f32 1065353216#32) (ix2 r k) = branchArr 0 (by omega) (m ((c : Thread nD τ).loc main_arg2))
      (m ((c : Thread nD τ).loc main_arg3)) (m ((c : Thread nD τ).loc main_arg6)) (m ((c : Thread nD τ).loc main_arg7)) (ix2 (row t r) k) := by
    rw [pay11_apply, dm_point m c t r k (row t r) rfl, gate0_point m c t r k (row t r) rfl]
    unfold branchArr
    congr 2
    apply Fin.ext; simp
  by_cases h : t.val % 16 = 0
  · rw [outsAt0_A m c t h]; frame_out; exact key
  · rw [outsAt0_B m c t h]; frame_out; exact key

theorem outs10 (c : Dev nD) (t : Fin cfg0.N) (r : Fin 512) (k : Fin 1024) : (outsAt0 m c t.val t.isLt).2.1 (ix2 r k)
    = branchArr 1024 (by omega) (m ((c : Thread nD τ).loc main_arg2)) (m ((c : Thread nD τ).loc main_arg3))
      (m ((c : Thread nD τ).loc main_arg6)) (m ((c : Thread nD τ).loc main_arg7)) (ix2 (row t r) k) := by
  have key : k0_pay12 (k0_pay3 (iblk m c 0 t) (iblk m c 1 t)) (k0_pay6 (X0_7 m c t)) (k0_pay7 (iblk m c 8 t)) (ix2 r k)
      = branchArr 1024 (by omega) (m ((c : Thread nD τ).loc main_arg2))
      (m ((c : Thread nD τ).loc main_arg3)) (m ((c : Thread nD τ).loc main_arg6)) (m ((c : Thread nD τ).loc main_arg7)) (ix2 (row t r) k) := by
    rw [pay12_apply, dm_point m c t r k (row t r) rfl, gate1_point m c t r k (row t r) rfl]
    rfl
  by_cases h : t.val % 16 = 0
  · rw [outsAt0_A m c t h]; frame_out; exact key
  · rw [outsAt0_B m c t h]; frame_out; exact key

theorem outs11 (c : Dev nD) (t : Fin cfg0.N) (y : S512x2048.Idx) : (outsAt0 m c t.val t.isLt).2.2.1 y
    = dglAt m c (row t (y 0)) (y 1) := by
  by_cases h : t.val % 16 = 0
  · rw [outsAt0_A m c t h]; frame_out
    canon_tiles x hx
    · idx_vars x
      refine (dgl1_point m c t x0 x1 (row t (y 0)) (by simp only [row, hx0])).trans ?_
      congr 1; apply Fin.ext; rw [hx1]
    · idx_vars x
      refine (dgl0_point m c t x0 x1 (row t (y 0)) (by simp only [row, hx0])).trans ?_
      congr 1; apply Fin.ext; rw [hx1]
  · rw [outsAt0_B m c t h]; frame_out
    canon_tiles x hx
    · idx_vars x
      refine (dgl1_point m c t x0 x1 (row t (y 0)) (by simp only [row, hx0])).trans ?_
      congr 1; apply Fin.ext; rw [hx1]
    · idx_vars x
      refine (dgl0_point m c t x0 x1 (row t (y 0)) (by simp only [row, hx0])).trans ?_
      congr 1; apply Fin.ext; rw [hx1]

/-- The two stores of the biases' block: each adds its half's column sums to what the buffer held. -/
theorem db_pieces (c : Dev nD) (t : Fin cfg0.N) (A0 A1 : FVec Ideal S1x1024 .f32) (P : FVec Ideal S1x2048 .f32)
    (h0 : ∀ k : Fin 1024, A0 (ix2 0 k) = P (ix2 0 ⟨k.val, by omega⟩))
    (h1 : ∀ k : Fin 1024, A1 (ix2 0 k) = P (ix2 0 ⟨1024 + k.val, by omega⟩)) :
    View.PiecesOf (Val := Elt Ideal) (e := .f32) (s := S1x2048) (fun y => P y + ∑ r : Fin 512, dglAt m c (row t r) (y 1))
      [⟨Rect.unit (s := S1x2048) ![0, 1024] ![1, 1024] inb_S1x2048_S1x1024_0_1024, k0_pay1
        (k0_pay14 (k0_pay3 (iblk m c 0 t) (iblk m c 1 t)) (k0_pay5 (iblk m c 3 t) (iblk m c 5 t)) (k0_pay6 (X0_7 m c t))
          (k0_pay7 (iblk m c 8 t))) A1⟩,
      ⟨Rect.unit (s := S1x2048) ![0, 0] ![1, 1024] inb_S1x2048_S1x1024_0_0, k0_pay17 (k0_pay3 (iblk m c 0 t) (iblk m c 1 t))
        (k0_pay4 (iblk m c 2 t) (iblk m c 4 t)) (k0_pay8 (X0_6 m c t) (iblk m c 8 t))
        (FloatOps.ofBits (F := Ideal) FTy.f32 1065353216#32) A0⟩] := by
  refine ⟨fun x => ?_, fun x => ?_, trivial⟩
  · obtain ⟨k, rfl⟩ : ∃ k : Fin 1024, x = ix2 0 k := ⟨x 1, by idx_vars x; rw [Subsingleton.elim x0 0]⟩
    refine (pay1_apply _ _ k).trans ?_
    have e : (Rect.unit (s := S1x2048) ![0, 1024] ![1, 1024] inb_S1x2048_S1x1024_0_1024).emb (ix2 0 k) = ix2 0 ⟨1024 + k.val, by omega⟩ := by
      blk_ext
    rw [e, h1 k]
    congr 1
    exact Finset.sum_congr rfl fun r _ => dgl1_point m c t r k (row t r) rfl
  · obtain ⟨k, rfl⟩ : ∃ k : Fin 1024, x = ix2 0 k := ⟨x 1, by idx_vars x; rw [Subsingleton.elim x0 0]⟩
    refine (pay17_apply _ _ _ _ _ k).trans ?_
    have e : (Rect.unit (s := S1x2048) ![0, 0] ![1, 1024] inb_S1x2048_S1x1024_0_0).emb (ix2 0 k) = ix2 0 ⟨k.val, by omega⟩ := by
      blk_ext
    rw [e, h0 k]
    congr 1
    exact Finset.sum_congr rfl fun r _ => dgl0_point m c t r k (row t r) rfl

theorem db_cover (p1 : (Rect.unit (s := S1x2048) ![0, 1024] ![1, 1024] inb_S1x2048_S1x1024_0_1024).shape.Idx → Elt Ideal .f32)
    (p0 : (Rect.unit (s := S1x2048) ![0, 0] ![1, 1024] inb_S1x2048_S1x1024_0_0).shape.Idx → Elt Ideal .f32) (y : S1x2048.Idx) :
    ∃ p ∈ ([⟨Rect.unit (s := S1x2048) ![0, 1024] ![1, 1024] inb_S1x2048_S1x1024_0_1024, p1⟩,
      ⟨Rect.unit (s := S1x2048) ![0, 0] ![1, 1024] inb_S1x2048_S1x1024_0_0, p0⟩] : List (View.Piece (Elt Ideal) S1x2048 .f32)),
      y ∈ p.1.set :=
  View.cover_of_tiledL (s := S1x2048) _ S1x1024.size (by sl_kernel_rfl) y

theorem outs12_A (c : Dev nD) (t : Fin cfg0.N) (h : t.val % 16 = 0) (y : S1x2048.Idx) : (outsAt0 m c t.val t.isLt).2.2.2 y
    = 0 + ∑ r : Fin 512, dglAt m c (row t r) (y 1) := by
  rw [outsAt0_A m c t h]; frame_out
  refine (View.canon_append_of_piecesOf _ [_] _ (db_pieces m c t _ _ (fun _ => 0) ?_ ?_) y (db_cover _ _ y))
  · intro k
    rw [View.readCov_fill _ _ _ _ _ (by decide)]
    pointwise [k0_pay2]
  · intro k
    rw [View.readCov_skip _ _ _ _ _ (by decide), View.readCov_fill _ _ _ _ _ (by decide)]
    pointwise [k0_pay2]

theorem outs12_B (c : Dev nD) (t : Fin cfg0.N) (h : ¬ t.val % 16 = 0) (y : S1x2048.Idx) : (outsAt0 m c t.val t.isLt).2.2.2 y
    = (outsAt0 m c (t.val - 1) (Nat.lt_of_le_of_lt (Nat.sub_le _ _) t.isLt)).2.2.2 y + ∑ r : Fin 512, dglAt m c (row t r) (y 1) := by
  rw [outsAt0_B m c t h]; frame_out
  refine (View.canon_append_of_piecesOf _ [] _ (db_pieces m c t _ _ (outsAt0 m c (t.val - 1) (Nat.lt_of_le_of_lt (Nat.sub_le _ _) t.isLt)).2.2.2 ?_ ?_) y (db_cover _ _ y))
  · intro k
    refine congrArg (outsAt0 m c (t.val - 1) (Nat.lt_of_le_of_lt (Nat.sub_le _ _) t.isLt)).2.2.2 (?_ : (Rect.unit (s := S1x2048) ![0, 0] ![1, 1024] inb_S1x2048_S1x1024_0_0).emb (ix2 0 k) = ix2 0 ⟨k.val, by omega⟩)
    blk_ext
  · intro k
    refine congrArg (outsAt0 m c (t.val - 1) (Nat.lt_of_le_of_lt (Nat.sub_le _ _) t.isLt)).2.2.2 (?_ : (Rect.unit (s := S1x2048) ![0, 1024] ![1, 1024] inb_S1x2048_S1x1024_0_1024).emb (ix2 0 k) = ix2 0 ⟨1024 + k.val, by omega⟩)
    blk_ext

/-! ## The arrays after the run -/

theorem final9 (c : Dev nD) : (dats m 0 c).arrAt 9 cfg0.N
    = branchArr 0 (by omega) (m ((c : Thread nD τ).loc main_arg2)) (m ((c : Thread nD τ).loc main_arg3))
      (m ((c : Thread nD τ).loc main_arg6)) (m ((c : Thread nD τ).loc main_arg7)) := by
  refine (dats m 0 c).arrAt_eq_of_covers 9 _ (by decide +kernel) fun t _ y => ?_
  blk_simp
  rw [after0_9]
  idx_vars y
  refine (outs9 m c t y0 y1).trans ?_
  refine congrArg (branchArr _ _ _ _ _ _) (a₁ := ix2 _ _) ?_
  blk_ext [idx t, row]

theorem final10 (c : Dev nD) : (dats m 0 c).arrAt 10 cfg0.N
    = branchArr 1024 (by omega) (m ((c : Thread nD τ).loc main_arg2)) (m ((c : Thread nD τ).loc main_arg3))
      (m ((c : Thread nD τ).loc main_arg6)) (m ((c : Thread nD τ).loc main_arg7)) := by
  refine (dats m 0 c).arrAt_eq_of_covers 10 _ (by decide +kernel) fun t _ y => ?_
  blk_simp
  rw [after0_10]
  idx_vars y
  refine (outs10 m c t y0 y1).trans ?_
  refine congrArg (branchArr _ _ _ _ _ _) (a₁ := ix2 _ _) ?_
  blk_ext [idx t, row]

theorem final11 (c : Dev nD) : (dats m 0 c).arrAt 11 cfg0.N
    = dglArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  idx_vars y
  refine (outs11 m c t _).trans ?_
  refine Eq.trans ?_ (congrArg (dglArr _ _ _ _ _ _ _ _) (a₁ := ix2 (row t y0) y1) ?_)
  · rfl
  · blk_ext [idx t, row]

theorem final12 (c : Dev nD) : (dats m 0 c).arrAt 12 cfg0.N
    = dbArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 12 t0_15 (by decide +kernel) _ fun j => ?_
  blk_simp
  rw [after0_12, Pipeline.eq_sum_fin_of_reset_step_apply_last (fun n h => (outsAt0 m c n h).2.2.2) 16 (fun _ => 0)
    (fun t y => ∑ r : Fin 512, dglAt m c (row t r) (y 1)) (fun t h j => outs12_A m c t h j) (fun t h j => outs12_B m c t h j)
    (le_of_eq N_0) t0_15 rfl j, zero_add]
  refine Fin.sum_mul_add_congr (fun s k hl => ?_) (congrArg (· * 512) N_0.symm)
  rfl

end Cert.MergeIdeal.Value

end
-- ==== Proof.MergeClaims.lean ====
/-
  The claims of the gated merge's backward call: frames, the idealization's ledger, and the value claim.
-/
module

public import proofs.«01_k».proof.Proof.MergeValue
public import proofs.«01_k».proof.Proof.Gen.Merge.Frame

@[expose] public section

set_option maxRecDepth 16384

noncomputable section

open Idealize.ShloMosaic Idealize.ShloMosaic.TcCoe Idealize.SL.Sem

namespace Cert.Proof.Merge

open Cert.Reals Cert.MergeIdeal.Value

/-- The two halves of a row, each padded with zeros to the whole row's length and added, are the row. -/
theorem halves (a b : Fin 1024 → EReal) (j : Fin 2048) :
    ((if h : (1 ≤ j.val / 1024 ∧ j.val / 1024 - 1 < 1) ∧ j.val % 1024 < 1024 then a ⟨j.val % 1024, h.2⟩ else 0)
        + if h : j.val / 1024 < 1 ∧ j.val % 1024 < 1024 then b ⟨j.val % 1024, h.2⟩ else 0)
      = if h : j.val < 1024 then b ⟨j.val, h⟩ else a ⟨j.val - 1024, by omega⟩ := by
  by_cases h : j.val < 1024
  · rw [dif_neg (by omega), dif_pos (by omega), dif_pos h, zero_add]
    exact congrArg b (Fin.ext (by simp only; omega))
  · rw [dif_pos (by omega), dif_neg (by omega), dif_neg h, add_zero]
    exact congrArg a (Fin.ext (by simp only; omega))

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2.2.2.2,
      Idealize.ShloMosaic.sem_eq_zero_of_no_sems (by decide) r.2⟩)
    (Cert.MergeRefIdeal.Value.run (F := Ideal) m ρ)

theorem preserves : Cert.preserves_Merge_MergeIdeal := trivial

theorem algebraic : Cert.algebraic_MergeIdeal_MergeRefIdeal := by
  pair_intro
  · run_from Cert.MergeIdeal.Value.run_blocks m g
  · run_from Cert.MergeRefIdeal.Value.run m' g'
    · refine Eq.trans ?_ (final9 m c).symm
      generalize m (c.tc.loc Cert.MergeIdeal.main_arg0) = yp
      generalize m (c.tc.loc Cert.MergeIdeal.main_arg1) = ya
      generalize m (c.tc.loc Cert.MergeIdeal.main_arg2) = p
      generalize m (c.tc.loc Cert.MergeIdeal.main_arg3) = b
      generalize m (c.tc.loc Cert.MergeIdeal.main_arg4) = wp
      generalize m (c.tc.loc Cert.MergeIdeal.main_arg5) = wa
      generalize m (c.tc.loc Cert.MergeIdeal.main_arg6) = wo
      generalize m (c.tc.loc Cert.MergeIdeal.main_arg7) = dx
      funext i
      idx_vars i
      pointwise [branchArr, dmerged, gate, sigm]
      exact mul_comm _ _
    · refine Eq.trans ?_ (final10 m c).symm
      generalize m (c.tc.loc Cert.MergeIdeal.main_arg0) = yp
      generalize m (c.tc.loc Cert.MergeIdeal.main_arg1) = ya
      generalize m (c.tc.loc Cert.MergeIdeal.main_arg2) = p
      generalize m (c.tc.loc Cert.MergeIdeal.main_arg3) = b
      generalize m (c.tc.loc Cert.MergeIdeal.main_arg4) = wp
      generalize m (c.tc.loc Cert.MergeIdeal.main_arg5) = wa
      generalize m (c.tc.loc Cert.MergeIdeal.main_arg6) = wo
      generalize m (c.tc.loc Cert.MergeIdeal.main_arg7) = dx
      funext i
      idx_vars i
      pointwise [branchArr, dmerged, gate, sigm]
      exact mul_comm _ _
    · refine Eq.trans ?_ (final11 m c).symm
      generalize m (c.tc.loc Cert.MergeIdeal.main_arg0) = yp
      generalize m (c.tc.loc Cert.MergeIdeal.main_arg1) = ya
      generalize m (c.tc.loc Cert.MergeIdeal.main_arg2) = p
      generalize m (c.tc.loc Cert.MergeIdeal.main_arg3) = b
      generalize m (c.tc.loc Cert.MergeIdeal.main_arg4) = wp
      generalize m (c.tc.loc Cert.MergeIdeal.main_arg5) = wa
      generalize m (c.tc.loc Cert.MergeIdeal.main_arg6) = wo
      generalize m (c.tc.loc Cert.MergeIdeal.main_arg7) = dx
      funext i
      idx_vars i
      pointwise [dglArr, dgl, dmerged, gate, sigm, up]
      exact congrArg (· * _) (halves (fun k => dmerged wo dx i0 k * up ya wa i0 k) (fun k => dmerged wo dx i0 k * up yp wp i0 k) i1)
    · refine Eq.trans ?_ (final12 m c).symm
      generalize m (c.tc.loc Cert.MergeIdeal.main_arg0) = yp
      generalize m (c.tc.loc Cert.MergeIdeal.main_arg1) = ya
      generalize m (c.tc.loc Cert.MergeIdeal.main_arg2) = p
      generalize m (c.tc.loc Cert.MergeIdeal.main_arg3) = b
      generalize m (c.tc.loc Cert.MergeIdeal.main_arg4) = wp
      generalize m (c.tc.loc Cert.MergeIdeal.main_arg5) = wa
      generalize m (c.tc.loc Cert.MergeIdeal.main_arg6) = wo
      generalize m (c.tc.loc Cert.MergeIdeal.main_arg7) = dx
      funext i
      idx_vars i
      pointwise [dbArr, dgl, dmerged, gate, sigm, up]
      refine (Fintype.sum_unique _).trans (Finset.sum_congr rfl fun r _ => ?_)
      exact congrArg (· * _) (halves (fun k => dmerged wo dx r k * up ya wa r k) (fun k => dmerged wo dx r k * up yp wp r k) i1)

end Cert.Proof.Merge

end
-- ==== Proof.RmsNorm.lean ====
/-
  The root-mean-square norm of a row of 1024 numbers and its derivative, over the extended reals: the constants of the
  programs, and the equality of the kernel's closed form with the chain rule's terms.
-/
module

public import proofs.«01_k».proof.Proof.Reals

@[expose] public section

noncomputable section

namespace Cert.Reals

open Idealize.ShloMosaic

/-- The constants 1024, 10⁻⁶ (as rounded), ½, 2, −½ and 1/1024 of the programs. -/
def cD : EReal := Ideal.ofBits .f32 1149239296#32
@[inherit_doc cD] def cEps : EReal := Ideal.ofBits .f32 897988541#32
@[inherit_doc cD] def cHalf : EReal := Ideal.ofBits .f32 1056964608#32
@[inherit_doc cD] def cTwo : EReal := Ideal.ofBits .f32 1073741824#32
@[inherit_doc cD] def cNegHalf : EReal := Ideal.ofBits .f32 3204448256#32
@[inherit_doc cD] def cInvD : EReal := Ideal.ofBits .f32 981467136#32

theorem cD_eq : cD = ((1024 : ℝ) : EReal) := by unfold cD; simp [Ideal.ofBits, Ideal.ieee]; rw [← EReal.coe_mul]; norm_num
theorem cHalf_eq : cHalf = ((1 / 2 : ℝ) : EReal) := by unfold cHalf; simp [Ideal.ofBits, Ideal.ieee]; rw [← EReal.coe_mul]; norm_num
theorem cTwo_eq : cTwo = ((2 : ℝ) : EReal) := by unfold cTwo; simp [Ideal.ofBits, Ideal.ieee]; rw [← EReal.coe_mul]; norm_num
theorem cNegHalf_eq : cNegHalf = ((-(1 / 2) : ℝ) : EReal) := by unfold cNegHalf; simp [Ideal.ofBits, Ideal.ieee]; rw [← EReal.coe_mul]; norm_num
theorem cInvD_eq : cInvD = ((1 / 1024 : ℝ) : EReal) := by unfold cInvD; simp [Ideal.ofBits, Ideal.ieee]; rw [← EReal.coe_mul]; norm_num
theorem cEps_eq : ∃ e : ℝ, 0 < e ∧ cEps = (e : EReal) := by
  refine ⟨8796093 / 2 ^ 43, by norm_num, ?_⟩
  unfold cEps; simp [Ideal.ofBits, Ideal.ieee]; rw [← EReal.coe_mul]; norm_num

/-- The reciprocal root of a row's mean square, plus the small constant. -/
def rms (y : Fin 1024 → EReal) : EReal := Ideal.rsqrt (Ideal.div (∑ k, y k * y k) cD + cEps)

/-- A row of real numbers has a positive mean square plus constant, and the reciprocal root is real. -/
theorem rms_real (y : Fin 1024 → ℝ) : ∃ s : ℝ, 0 < s ∧
    Ideal.div (∑ k, (y k : EReal) * (y k : EReal)) cD + cEps = (s : EReal) ∧
    rms (fun k => (y k : EReal)) = ((√s)⁻¹ : ℝ) := by
  obtain ⟨e, he, hE⟩ := cEps_eq
  have h : Ideal.div (∑ k, (y k : EReal) * (y k : EReal)) cD + cEps = (((∑ k, y k * y k) / 1024 + e : ℝ) : EReal) := by
    have : (∑ k, (y k : EReal) * (y k : EReal)) = ((∑ k, y k * y k : ℝ) : EReal) := by
      rw [coe_sum]; exact Finset.sum_congr rfl fun k _ => (EReal.coe_mul _ _).symm
    rw [this, cD_eq, div_coe_coe _ _ (by norm_num), hE, EReal.coe_add]
  have hp : 0 < (∑ k, y k * y k) / 1024 + e := by
    have : 0 ≤ ∑ k, y k * y k := Finset.sum_nonneg fun k _ => mul_self_nonneg _
    positivity
  refine ⟨_, hp, h, ?_⟩
  unfold rms
  rw [h, Ideal.rsqrt_coe, if_neg (not_lt.2 hp.le), if_neg hp.ne']

theorem isReal_rms {y : Fin 1024 → EReal} (hy : ∀ k, IsReal (y k)) : IsReal (rms y) := by
  choose z hz using hy
  obtain rfl : y = fun k => (z k : EReal) := funext hz
  obtain ⟨s, -, -, h⟩ := rms_real z
  exact ⟨_, h⟩

/-- The chain rule's two terms for a norm's row: through the product, and through the reciprocal root. -/
def rmsRule (y dh : Fin 1024 → EReal) (k : Fin 1024) : EReal :=
  dh k * rms y + y k * (∑ _ : Fin 1, Ideal.div ((∑ j, y j * dh j) *
    (cNegHalf * Ideal.div (rms y) (Ideal.div (∑ k, y k * y k) cD + cEps))) cD)
  + (∑ _ : Fin 1, Ideal.div ((∑ j, y j * dh j) *
    (cNegHalf * Ideal.div (rms y) (Ideal.div (∑ k, y k * y k) cD + cEps))) cD) * y k

/-- The kernel's closed form of the same. -/
def rmsBack (y dh : Fin 1024 → EReal) (k : Fin 1024) : EReal :=
  rms y * (dh k - y k * rms y * Ideal.div (∑ j, dh j * (y j * rms y)) cD)

theorem rmsRule_eq {y dh : Fin 1024 → EReal} (hy : ∀ k, IsReal (y k)) (hd : ∀ k, IsReal (dh k)) (k : Fin 1024) :
    rmsRule y dh k = rmsBack y dh k := by
  choose z hz using hy
  choose d hd using hd
  obtain rfl : y = fun k => (z k : EReal) := funext hz
  obtain rfl : dh = fun k => (d k : EReal) := funext hd
  obtain ⟨s, hs, h1, h2⟩ := rms_real z
  have hq : √s * √s = s := Real.mul_self_sqrt hs.le
  have hq0 : √s ≠ 0 := (Real.sqrt_pos.2 hs).ne'
  have e1 : (∑ j, (z j : EReal) * (d j : EReal)) = ((∑ j, z j * d j : ℝ) : EReal) := by
    rw [coe_sum]; exact Finset.sum_congr rfl fun k _ => (EReal.coe_mul _ _).symm
  have e2 : (∑ j, (d j : EReal) * ((z j : EReal) * ((√s)⁻¹ : ℝ))) = (((∑ j, z j * d j) * (√s)⁻¹ : ℝ) : EReal) := by
    rw [Finset.sum_mul, coe_sum]
    exact Finset.sum_congr rfl fun k _ => by rw [← EReal.coe_mul, ← EReal.coe_mul]; exact congrArg _ (by ring)
  unfold rmsRule rmsBack
  rw [Fintype.sum_unique, h1, h2, e1]
  simp only [h2, e2]
  have e3 : ((∑ j, z j * d j : ℝ) : EReal) * (((-(1 / 2) : ℝ) : EReal) * (((√s)⁻¹ / s : ℝ) : EReal))
      = (((∑ j, z j * d j) * (-(1 / 2) * ((√s)⁻¹ / s)) : ℝ) : EReal) := by push_cast; rfl
  rw [cNegHalf_eq, cD_eq, div_coe_coe _ _ hs.ne', e3, div_coe_coe _ _ (by norm_num), div_coe_coe _ _ (by norm_num)]
  generalize (∑ j, z j * d j) = T
  generalize hD : (1024 : ℝ) = D
  have hD0 : D ≠ 0 := by rw [← hD]; norm_num
  clear hD e1 e2 e3 h1 h2
  norm_cast
  generalize √s = q at hq hq0 ⊢
  subst hq
  field_simp
  ring

theorem isReal_rmsBack {y dh : Fin 1024 → EReal} (hy : ∀ k, IsReal (y k)) (hd : ∀ k, IsReal (dh k)) (k : Fin 1024) :
    IsReal (rmsBack y dh k) := by
  have hr := isReal_rms hy
  obtain ⟨a, ha⟩ := isReal_sum Finset.univ fun j _ => (hd j).mul ((hy j).mul hr)
  refine hr.mul ((hd k).sub (((hy k).mul hr).mul ?_))
  rw [ha, cD_eq, div_coe_coe _ _ (by norm_num)]
  exact ⟨_, rfl⟩

end Cert.Reals

end
-- ==== Proof.LossValue.lean ====
/-
  The output projection with the final norm and loss, forward and backward in one call, at the extended reals: what each
  output array holds after the run, as a term of the arguments.
-/
module

public import proofs.«01_k».proof.Defs
public import proofs.«01_k».proof.Proof.Gen.LossIdeal.Value
public import proofs.«01_k».proof.Proof.Gen.LossRefIdeal.Run
public import proofs.«01_k».proof.Proof.Gen.Pre_loss_finite
public import proofs.«01_k».proof.Proof.RmsNorm
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen Cert.Reals

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

theorem point_lt (t : Fin cfg0.N) : t.val < 16 := lt_of_lt_of_eq t.isLt N_0

/-! ## The results as functions of the arguments -/

/-- The residual stream `x + merged · w_out`. -/
def xv (me : FVec Ideal S8192x1024 .f32) (w : FVec Ideal S1024x1024 .f32) (x : FVec Ideal S8192x1024 .f32) (i : Fin 8192)
    (k : Fin 1024) : EReal := x (ix2 i k) + ∑ c : Fin 1024, me (ix2 i c) * w (ix2 c k)

variable (me : FVec Ideal S8192x1024 .f32) (w : FVec Ideal S1024x1024 .f32) (x : FVec Ideal S8192x1024 .f32)
  (g : FVec Ideal S1024 .f32) (ta : FVec Ideal S8192x1024 .f32)

/-- The normed row against its target. -/
def dOut (i : Fin 8192) (k : Fin 1024) : EReal := xv me w x i k * rms (xv me w x i) * g (ix1 k) - ta (ix2 i k)

/-- The first result's array: the gradient of the residual stream. -/
def dxArr : FVec Ideal S8192x1024 .f32 := fun j =>
  rmsBack (xv me w x (j 0)) (fun k => dOut me w x g ta (j 0) k * cInvD * g (ix1 k)) (j 1)

/-- The second result's array: the gradient of the norm's weights. -/
def dgArr : FVec Ideal S1x1024 .f32 := fun j =>
  ∑ i : Fin 8192, dOut me w x g ta i (j 1) * cInvD * (xv me w x i (j 1) * rms (xv me w x i))

/-- Half a row's mean square: what the row adds to the loss. -/
def meanSq (i : Fin 8192) : EReal := Ideal.div (∑ k : Fin 1024, dOut me w x g ta i k * dOut me w x g ta i k) cD

/-! ## The body's values -/

section Pay

variable (v3 v24 : FVec Ideal S512x1024 .f32) (v4 : FVec Ideal S512x1024 .bf16) (v6 : FVec Ideal S1024x1024 .bf16) (v10 : FVec Ideal S1x1024 .f32)

theorem pay7_apply (r : Fin 512) (k : Fin 1024) :
    k0_pay7 (F := Ideal) v3 v4 v6 (ix2 r k) = v3 (ix2 r k) + ∑ c : Fin 1024, v4 (ix2 r c) * v6 (ix2 c k) := by
  pointwise [k0_pay7]

theorem pay9_apply (r : Fin 512) :
    k0_pay9 (F := Ideal) v3 v4 v6 (ix2 r 0) = rms fun k => k0_pay7 (F := Ideal) v3 v4 v6 (ix2 r k) := by
  pointwise [k0_pay9, rms, cD, cEps]

theorem pay10_apply (r : Fin 512) (k : Fin 1024) : k0_pay10 (F := Ideal) v3 v4 v6 (ix2 r k)
    = k0_pay7 (F := Ideal) v3 v4 v6 (ix2 r k) * k0_pay9 (F := Ideal) v3 v4 v6 (ix2 r 0) := by
  pointwise [k0_pay10]

theorem pay11_apply (r : Fin 512) (k : Fin 1024) : k0_pay11 (F := Ideal) v3 v4 v6 v10 v24 (ix2 r k)
    = k0_pay10 (F := Ideal) v3 v4 v6 (ix2 r k) * v10 (ix2 0 k) - v24 (ix2 r k) := by
  pointwise [k0_pay11, k0_pay8]

theorem pay13_apply : k0_pay13 (F := Ideal) v3 v4 v6 v10 v24 (ix2 0 0) = ∑ r : Fin 512,
    Ideal.div (∑ k : Fin 1024, k0_pay11 (F := Ideal) v3 v4 v6 v10 v24 (ix2 r k) * k0_pay11 (F := Ideal) v3 v4 v6 v10 v24 (ix2 r k)) cD := by
  pointwise [k0_pay13, cD]

theorem pay4_apply (v11 : FVec Ideal S1x1024 .f32) (v19 : FVec Ideal S512x1 .f32) (v21 v25 : FVec Ideal S512x1024 .f32) (r : Fin 512) (k : Fin 1024) :
    k0_pay4 (F := Ideal) v11 v19 v21 v25 (ix2 r k) = v19 (ix2 r 0) * (v25 (ix2 r k) * cInvD * v11 (ix2 0 k)
      - v21 (ix2 r k) * Ideal.div (∑ j : Fin 1024, v25 (ix2 r j) * cInvD * v11 (ix2 0 j) * v21 (ix2 r j)) cD) := by
  pointwise [k0_pay4, k0_pay2, cInvD, cD]

theorem pay3_apply (v21 v25 : FVec Ideal S512x1024 .f32) (a : FVec Ideal S1x1024 .f32) (k : Fin 1024) :
    k0_pay3 (F := Ideal) v21 v25 a (ix2 0 k) = a (ix2 0 k) + ∑ r : Fin 512, v25 (ix2 r k) * cInvD * v21 (ix2 r k) := by
  pointwise [k0_pay3, k0_pay2, cInvD]

theorem pay1_apply (a : FVec Ideal S8x128 .f32) (s : FVec Ideal S1x1 .f32) (p : Fin 8) (q : Fin 128) :
    k0_pay1 (F := Ideal) (k0_pay12 (F := Ideal) a) s (k0_pay14 (F := Ideal)) (ix2 p q) = a (ix2 p q) + cHalf * s (ix2 0 0) := by
  pointwise [k0_pay1, k0_pay12, k0_pay14, cHalf]

end Pay

/-! ## The blocks -/

theorem blk0 (c : Dev nD) (t : Fin cfg0.N) (r : Fin 512) (k : Fin 1024) (R : Fin 8192) (h : R.val = t.val * 512 + r.val) :
    iblk m c 0 t (ix2 r k) = m ((c : Thread nD τ).loc main_arg0) (ix2 R k) := by
  blk_simp [iblk, idx t]; entry_read; pointwise; blk_ext [idx t]

theorem blk1 (c : Dev nD) (t : Fin cfg0.N) (r : Fin 1024) (k : Fin 1024) :
    iblk m c 1 t (ix2 r k) = m ((c : Thread nD τ).loc main_arg1) (ix2 r k) := by
  blk_simp [iblk, idx t]; entry_read; pointwise; blk_ext [idx t]

theorem blk2 (c : Dev nD) (t : Fin cfg0.N) (r : Fin 512) (k : Fin 1024) (R : Fin 8192) (h : R.val = t.val * 512 + r.val) :
    iblk m c 2 t (ix2 r k) = m ((c : Thread nD τ).loc main_arg2) (ix2 R k) := by
  blk_ext [iblk, V, idx t]

theorem blk3 (c : Dev nD) (t : Fin cfg0.N) (k : Fin 1024) :
    iblk m c 3 t (ix2 0 k) = m ((c : Thread nD τ).loc main_arg3) (ix1 k) := by
  blk_simp [iblk, idx t]; entry_read; pointwise; blk_ext [idx t]

theorem blk4 (c : Dev nD) (t : Fin cfg0.N) (r : Fin 512) (k : Fin 1024) (R : Fin 8192) (h : R.val = t.val * 512 + r.val) :
    iblk m c 4 t (ix2 r k) = m ((c : Thread nD τ).loc main_arg4) (ix2 R k) := by
  blk_ext [iblk, V, idx t]

/-! ## What a point leaves -/

/-- Row `r` of point `t`'s block, as a row of the array. -/
def row (t : Fin cfg0.N) (r : Fin 512) : Fin 8192 := ⟨t.val * 512 + r.val, by have := point_lt t; omega⟩

theorem xv_point (c : Dev nD) (t : Fin cfg0.N) (r : Fin 512) (k : Fin 1024) :
    k0_pay7 (iblk m c 2 t) (iblk m c 0 t) (iblk m c 1 t) (ix2 r k) = xv (m ((c : Thread nD τ).loc main_arg0)) (m ((c : Thread nD τ).loc main_arg1)) (m ((c : Thread nD τ).loc main_arg2)) (row t r) k := by
  rw [pay7_apply, blk2 m c t r k (row t r) rfl]
  unfold xv
  exact congrArg _ (Finset.sum_congr rfl fun j _ => by rw [blk0 m c t r j (row t r) rfl, blk1 m c t j k])

theorem rms_point (c : Dev nD) (t : Fin cfg0.N) (r : Fin 512) :
    k0_pay9 (iblk m c 2 t) (iblk m c 0 t) (iblk m c 1 t) (ix2 r 0) = rms (xv (m ((c : Thread nD τ).loc main_arg0)) (m ((c : Thread nD τ).loc main_arg1)) (m ((c : Thread nD τ).loc main_arg2)) (row t r)) := by
  rw [pay9_apply]
  exact congrArg rms (funext fun k => xv_point m c t r k)

theorem xh_point (c : Dev nD) (t : Fin cfg0.N) (r : Fin 512) (k : Fin 1024) :
    k0_pay10 (iblk m c 2 t) (iblk m c 0 t) (iblk m c 1 t) (ix2 r k)
      = xv (m ((c : Thread nD τ).loc main_arg0)) (m ((c : Thread nD τ).loc main_arg1)) (m ((c : Thread nD τ).loc main_arg2)) (row t r) k * rms (xv (m ((c : Thread nD τ).loc main_arg0)) (m ((c : Thread nD τ).loc main_arg1)) (m ((c : Thread nD τ).loc main_arg2)) (row t r)) := by
  rw [pay10_apply, xv_point, rms_point]

theorem d_point (c : Dev nD) (t : Fin cfg0.N) (r : Fin 512) (k : Fin 1024) :
    k0_pay11 (iblk m c 2 t) (iblk m c 0 t) (iblk m c 1 t) (iblk m c 3 t) (iblk m c 4 t) (ix2 r k)
      = dOut (m ((c : Thread nD τ).loc main_arg0)) (m ((c : Thread nD τ).loc main_arg1)) (m ((c : Thread nD τ).loc main_arg2)) (m ((c : Thread nD τ).loc main_arg3)) (m ((c : Thread nD τ).loc main_arg4)) (row t r) k := by
  rw [pay11_apply, xh_point, blk3 m c t k, blk4 m c t r k (row t r) rfl]
  rfl

theorem outs5 (c : Dev nD) (t : Fin cfg0.N) (r : Fin 512) (k : Fin 1024) : (outsAt0 m c t.val t.isLt).1 (ix2 r k)
    = dxArr (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) k) := by
  have key : k0_pay4 (k0_pay8 (iblk m c 3 t)) (k0_pay9 (iblk m c 2 t) (iblk m c 0 t) (iblk m c 1 t))
      (k0_pay10 (iblk m c 2 t) (iblk m c 0 t) (iblk m c 1 t))
      (k0_pay11 (iblk m c 2 t) (iblk m c 0 t) (iblk m c 1 t) (iblk m c 3 t) (iblk m c 4 t)) (ix2 r k)
      = dxArr (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) k) := by
    have e8 : ∀ j : Fin 1024, k0_pay8 (F := Ideal) (iblk m c 3 t) (ix2 0 j) = m ((c : Thread nD τ).loc main_arg3) (ix1 j) := fun j => by
      rw [← blk3 m c t j]; pointwise [k0_pay8]
    rw [pay4_apply]
    simp only [e8, rms_point, xh_point, d_point]
    rfl
  by_cases h : t.val % 16 = 0
  · rw [outsAt0_A m c t h]; frame_out; exact key
  · rw [outsAt0_B m c t h]; frame_out; exact key

/-- What a point adds to the gradient of the norm's weights. -/
def dgPart (c : Dev nD) (t : Fin cfg0.N) (k : Fin 1024) : EReal := ∑ r : Fin 512,
  dOut (m ((c : Thread nD τ).loc main_arg0)) (m ((c : Thread nD τ).loc main_arg1)) (m ((c : Thread nD τ).loc main_arg2)) (m ((c : Thread nD τ).loc main_arg3)) (m ((c : Thread nD τ).loc main_arg4)) (row t r) k * cInvD * (xv (m ((c : Thread nD τ).loc main_arg0)) (m ((c : Thread nD τ).loc main_arg1)) (m ((c : Thread nD τ).loc main_arg2)) (row t r) k * rms (xv (m ((c : Thread nD τ).loc main_arg0)) (m ((c : Thread nD τ).loc main_arg1)) (m ((c : Thread nD τ).loc main_arg2)) (row t r)))

theorem dg_step (c : Dev nD) (t : Fin cfg0.N) (a : FVec Ideal S1x1024 .f32) (k : Fin 1024) :
    k0_pay3 (k0_pay10 (iblk m c 2 t) (iblk m c 0 t) (iblk m c 1 t))
      (k0_pay11 (iblk m c 2 t) (iblk m c 0 t) (iblk m c 1 t) (iblk m c 3 t) (iblk m c 4 t)) a (ix2 0 k)
      = a (ix2 0 k) + dgPart m c t k := by
  rw [pay3_apply]
  simp only [xh_point, d_point]
  rfl

theorem outs6_A (c : Dev nD) (t : Fin cfg0.N) (h : t.val % 16 = 0) (j : S1x1024.Idx) :
    (outsAt0 m c t.val t.isLt).2.1 j = 0 + dgPart m c t (j 1) := by
  rw [outsAt0_A m c t h]; frame_out
  idx_vars j
  obtain rfl : j0 = 0 := Subsingleton.elim _ _
  refine (dg_step m c t _ j1).trans ?_
  pointwise [k0_pay5]

theorem outs6_B (c : Dev nD) (t : Fin cfg0.N) (h : ¬ t.val % 16 = 0) (j : S1x1024.Idx) :
    (outsAt0 m c t.val t.isLt).2.1 j = (outsAt0 m c (t.val - 1) (lt_of_le_of_lt (Nat.sub_le _ _) t.isLt)).2.1 j + dgPart m c t (j 1) := by
  rw [outsAt0_B m c t h]; frame_out
  idx_vars j
  obtain rfl : j0 = 0 := Subsingleton.elim _ _
  exact dg_step m c t _ j1

/-- What a point adds to the loss. -/
def lossPart (c : Dev nD) (t : Fin cfg0.N) : EReal := cHalf * ∑ r : Fin 512,
  meanSq (m ((c : Thread nD τ).loc main_arg0)) (m ((c : Thread nD τ).loc main_arg1)) (m ((c : Thread nD τ).loc main_arg2)) (m ((c : Thread nD τ).loc main_arg3)) (m ((c : Thread nD τ).loc main_arg4)) (row t r)

theorem loss_step (c : Dev nD) (t : Fin cfg0.N) (a : FVec Ideal S8x128 .f32) (p : Fin 8) (q : Fin 128) :
    k0_pay1 (k0_pay12 a) (k0_pay13 (iblk m c 2 t) (iblk m c 0 t) (iblk m c 1 t) (iblk m c 3 t) (iblk m c 4 t)) (k0_pay14 (F := Ideal)) (ix2 p q)
      = a (ix2 p q) + lossPart m c t := by
  rw [pay1_apply, pay13_apply]
  simp only [d_point]
  rfl

theorem outs7_A (c : Dev nD) (t : Fin cfg0.N) (h : t.val % 16 = 0) (j : S8x128.Idx) :
    (outsAt0 m c t.val t.isLt).2.2 j = 0 + lossPart m c t := by
  rw [outsAt0_A m c t h]; frame_out
  idx_vars j
  refine (loss_step m c t _ j0 j1).trans ?_
  pointwise [k0_pay6]

theorem outs7_B (c : Dev nD) (t : Fin cfg0.N) (h : ¬ t.val % 16 = 0) (j : S8x128.Idx) :
    (outsAt0 m c t.val t.isLt).2.2 j = (outsAt0 m c (t.val - 1) (lt_of_le_of_lt (Nat.sub_le _ _) t.isLt)).2.2 j + lossPart m c t := by
  rw [outsAt0_B m c t h]; frame_out
  idx_vars j
  exact loss_step m c t _ j0 j1

/-! ## The arrays after the run -/

theorem final5 (c : Dev nD) : (dats m 0 c).arrAt 5 cfg0.N
    = dxArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  refine (outs5 m c t y0 y1).trans ?_
  refine congrArg (dxArr _ _ _ _ _) (a₁ := ix2 _ _) ?_
  blk_ext [idx t, row]

theorem final6 (c : Dev nD) : (dats m 0 c).arrAt 6 cfg0.N
    = dgArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun t y => dgPart m c t (y 1)) (fun t h j => outs6_A m c t h j) (fun t h j => outs6_B m c t h j)
    (le_of_eq N_0) t0_15 rfl j, zero_add]
  refine Fin.sum_mul_add_congr (fun s k hl => ?_) (congrArg (· * 512) N_0.symm)
  rfl

/-- The loss before it is spread over the tile: the kernel's order, point by point. -/
def lossAt (c : Dev nD) : EReal := ∑ t : Fin cfg0.N, lossPart m c t

theorem final7 (c : Dev nD) : (dats m 0 c).arrAt 7 cfg0.N = fun _ : S8x128.Idx => lossAt m c := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun t y => lossPart m c t) (fun t h j => outs7_A m c t h j) (fun t h j => outs7_B m c t h j)
    (le_of_eq N_0) t0_15 rfl j, zero_add]
  rfl

end Cert.LossIdeal.Value

end
-- ==== Proof.LossClaims.lean ====
/-
  The claims of the output projection with the final norm and loss: frames, the idealization's ledger, and the value claim.
-/
module

public import proofs.«01_k».proof.Proof.LossValue
public import proofs.«01_k».proof.Proof.Gen.Loss.Frame

@[expose] public section

set_option maxRecDepth 16384

noncomputable section

open Idealize.ShloMosaic Idealize.ShloMosaic.TcCoe Idealize.SL.Sem

namespace Cert.Proof.Loss

open Cert.Reals Cert.LossIdeal Cert.LossIdeal.Value

/-- What the precondition says of the arguments. -/
theorem finite_of_pre (me : FVec Ideal S8192x1024 .f32) (w : FVec Ideal S1024x1024 .f32) (x : FVec Ideal S8192x1024 .f32)
    (g : FVec Ideal S1024 .f32) (ta : FVec Ideal S8192x1024 .f32)
    (h : Cert.Pre_loss_finite.fn (F := Ideal) me w x g ta = fun _ => 1#1) :
    (∀ i, IsReal (me i)) ∧ (∀ i, IsReal (w i)) ∧ (∀ i, IsReal (x i)) ∧ (∀ i, IsReal (g i)) ∧ ∀ i, IsReal (ta i) := by
  have h0 := congrFun h ix0
  obtain ⟨h1, h2⟩ := andi_split h0
  obtain ⟨h3, h4⟩ := andi_split h1
  obtain ⟨h5, h6⟩ := andi_split h2
  obtain ⟨h7, h8⟩ := andi_split h6
  exact ⟨all_isReal me _ _ _ _ h3, all_isReal w _ _ _ _ h4, all_isReal x _ _ _ _ h5, all_isReal g _ _ _ _ h7, all_isReal ta _ _ _ _ h8⟩

section Real

variable {me : FVec Ideal S8192x1024 .f32} {w : FVec Ideal S1024x1024 .f32} {x : FVec Ideal S8192x1024 .f32}
  {g : FVec Ideal S1024 .f32} {ta : FVec Ideal S8192x1024 .f32}

theorem isReal_xv (hme : ∀ i, IsReal (me i)) (hw : ∀ i, IsReal (w i)) (hx : ∀ i, IsReal (x i)) (i : Fin 8192) (k : Fin 1024) :
    IsReal (xv me w x i k) := (hx _).add (isReal_sum _ fun j _ => (hme _).mul (hw _))

theorem isReal_dOut (hme : ∀ i, IsReal (me i)) (hw : ∀ i, IsReal (w i)) (hx : ∀ i, IsReal (x i)) (hg : ∀ i, IsReal (g i))
    (ht : ∀ i, IsReal (ta i)) (i : Fin 8192) (k : Fin 1024) : IsReal (dOut me w x g ta i k) :=
  (((isReal_xv hme hw hx i k).mul (isReal_rms (isReal_xv hme hw hx i))).mul (hg _)).sub (ht _)

theorem isReal_meanSq (hme : ∀ i, IsReal (me i)) (hw : ∀ i, IsReal (w i)) (hx : ∀ i, IsReal (x i)) (hg : ∀ i, IsReal (g i))
    (ht : ∀ i, IsReal (ta i)) (i : Fin 8192) : IsReal (meanSq me w x g ta i) := by
  obtain ⟨a, ha⟩ := isReal_sum Finset.univ fun k _ => (isReal_dOut hme hw hx hg ht i k).mul (isReal_dOut hme hw hx hg ht i k)
  unfold meanSq
  rw [ha, cD_eq, div_coe_coe _ _ (by norm_num)]
  exact ⟨_, rfl⟩

end Real

/-- The derivative of half the mean square, `½ · (1/1024) · 2 · d`, is `d / 1024`. -/
theorem loss_rule {d : EReal} (hd : IsReal d) : Ideal.div cHalf cD * (cTwo * d) = d * cInvD := by
  obtain ⟨d, rfl⟩ := hd
  rw [cHalf_eq, cD_eq, cTwo_eq, cInvD_eq, div_coe_coe _ _ (by norm_num), ← EReal.coe_mul, ← EReal.coe_mul, ← EReal.coe_mul]
  exact congrArg _ (by ring)

theorem frame_p : Cert.quiescent_Loss := fun m ρ _ => Cert.Loss.Gen.frame m ρ
theorem frame_pi : Cert.quiescent_LossIdeal := fun m ρ _ => Cert.LossIdeal.Gen.frame m ρ
theorem frame_pi_pre : Cert.quiescent_LossIdeal_pre_loss_finite := fun m ρ _ => Cert.LossIdeal.Gen.frame m ρ
theorem frame_ri : Cert.quiescent_LossRefIdeal := fun m ρ _ =>
  (θ_run Cert.LossRefIdeal.defs _ _).mono (fun r h => ⟨fun c => (h c).2.2.2,
      Idealize.ShloMosaic.sem_eq_zero_of_no_sems (by decide) r.2⟩)
    (Cert.LossRefIdeal.Value.run (F := Ideal) m ρ)
theorem frame_ri_pre : Cert.quiescent_LossRefIdeal_pre_loss_finite := fun m ρ _ => frame_ri m ρ trivial

theorem preserves : Cert.preserves_Loss_LossIdeal := trivial

theorem algebraic : Cert.algebraic_LossIdeal_LossRefIdeal_pre_loss_finite := by
  pair_intro
  · run_from Cert.LossIdeal.Value.run_blocks m g
  · run_from Cert.LossRefIdeal.Value.run m' g'
    · refine Eq.trans ?_ (final5 m c).symm
      obtain ⟨hme, hw, hx, hg, ht⟩ := finite_of_pre _ _ _ _ _ (hpre c)
      unfold Cert.LossRefIdeal.Value.res_main_v52
      simp only [hagree]
      revert hme hw hx hg ht
      generalize m (c.tc.loc Cert.LossIdeal.main_arg0) = me
      generalize m (c.tc.loc Cert.LossIdeal.main_arg1) = w
      generalize m (c.tc.loc Cert.LossIdeal.main_arg2) = x
      generalize m (c.tc.loc Cert.LossIdeal.main_arg3) = g
      generalize m (c.tc.loc Cert.LossIdeal.main_arg4) = ta
      intro hme hw hx hg ht
      funext i
      idx_vars i
      have hy := isReal_xv hme hw hx i0
      have hd := isReal_dOut hme hw hx hg ht i0
      have e : ∀ k, dOut me w x g ta i0 k * cInvD * g (ix1 k) = Ideal.div cHalf cD * (cTwo * dOut me w x g ta i0 k) * g (ix1 k) :=
        fun k => by rw [loss_rule (hd k)]
      have key : rmsRule (xv me w x i0) (fun k => dOut me w x g ta i0 k * cInvD * g (ix1 k)) i1 = dxArr me w x g ta (ix2 i0 i1) :=
        rmsRule_eq hy (fun k => ((hd k).mul ⟨_, cInvD_eq⟩).mul (hg _)) i1
      refine Eq.trans ?_ key
      simp only [e]
      pointwise [rmsRule, dOut, xv, rms, cHalf, cD, cTwo, cEps, cNegHalf]
    · refine Eq.trans ?_ (final6 m c).symm
      obtain ⟨hme, hw, hx, hg, ht⟩ := finite_of_pre _ _ _ _ _ (hpre c)
      revert hme hw hx hg ht
      generalize m (c.tc.loc Cert.LossIdeal.main_arg0) = me
      generalize m (c.tc.loc Cert.LossIdeal.main_arg1) = w
      generalize m (c.tc.loc Cert.LossIdeal.main_arg2) = x
      generalize m (c.tc.loc Cert.LossIdeal.main_arg3) = g
      generalize m (c.tc.loc Cert.LossIdeal.main_arg4) = ta
      intro hme hw hx hg ht
      funext i
      idx_vars i
      have key : ∑ _ : Fin 1, ∑ r : Fin 8192, xv me w x r i1 * rms (xv me w x r) * (Ideal.div cHalf cD * (cTwo * dOut me w x g ta r i1))
          = dgArr me w x g ta (ix2 i0 i1) := by
        refine (Fintype.sum_unique _).trans (Finset.sum_congr rfl fun r _ => ?_)
        rw [loss_rule (isReal_dOut hme hw hx hg ht r i1)]
        exact mul_comm _ _
      refine Eq.trans ?_ key
      pointwise [dOut, xv, rms, cHalf, cD, cTwo, cEps]
    · refine Eq.trans ?_ (final7 m c).symm
      obtain ⟨hme, hw, hx, hg, ht⟩ := finite_of_pre _ _ _ _ _ (hpre c)
      unfold lossAt lossPart
      revert hme hw hx hg ht
      generalize m (c.tc.loc Cert.LossIdeal.main_arg0) = me
      generalize m (c.tc.loc Cert.LossIdeal.main_arg1) = w
      generalize m (c.tc.loc Cert.LossIdeal.main_arg2) = x
      generalize m (c.tc.loc Cert.LossIdeal.main_arg3) = g
      generalize m (c.tc.loc Cert.LossIdeal.main_arg4) = ta
      intro hme hw hx hg ht
      funext i
      idx_vars i
      have hm := isReal_meanSq hme hw hx hg ht
      have key : cHalf * ∑ r : Fin 8192, meanSq me w x g ta r
          = ∑ t : Fin cfg0.N, cHalf * ∑ r : Fin 512, meanSq me w x g ta (row t r) := by
        simp only [mul_sum_real _ ⟨_, cHalf_eq⟩ hm, mul_sum_real _ ⟨_, cHalf_eq⟩ fun r => hm (row _ r)]
        exact (Fin.sum_mul_add_congr (fun s k hl => rfl) (congrArg (· * 512) Cert.LossIdeal.Gen.N_0.symm)).symm
      refine Eq.trans ?_ key
      pointwise [meanSq, dOut, xv, rms, cHalf, cD, cEps]

end Cert.Proof.Loss

end
-- ==== Proof.NormValue.lean ====
/-
  The gradient through the input projection and the layer's norm at the extended reals: what each output array holds after
  the run, as a term of the arguments.
-/
module

public import proofs.«01_k».proof.Defs
public import proofs.«01_k».proof.Proof.Gen.NormIdeal.Value
public import proofs.«01_k».proof.Proof.Gen.NormRefIdeal.Run
public import proofs.«01_k».proof.Proof.Gen.Pre_norm_finite
public import proofs.«01_k».proof.Proof.RmsNorm
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen Cert.Reals

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![0, 0] ∧ win0_10.index t = ![t.val, 0]
    ∧ win0_11.index t = ![t.val, 0] ∧ win0_12.index t = ![0, 0] :=
  (by decide +kernel : ∀ t : Fin grid0.N, _)

theorem point_lt (t : Fin cfg0.N) : t.val < 16 := lt_of_lt_of_eq t.isLt N_0

/-! ## The results as functions of the arguments -/

variable (x : FVec Ideal S8192x1024 .f32) (g : FVec Ideal S1024 .f32) (w : FVec Ideal S1024x5120 .f32)
  (dp : FVec Ideal S8192x5120 .f32) (dx : FVec Ideal S8192x1024 .f32)

/-- The gradient of the normed row: the projection's gradient against the projection's weights. -/
def dh (i : Fin 8192) (k : Fin 1024) : EReal := ∑ e : Fin 5120, dp (ix2 i e) * w (ix2 k e)

/-- A row of the residual stream. -/
def xr (i : Fin 8192) (k : Fin 1024) : EReal := x (ix2 i k)

/-- The first result's array: the residual stream's gradient, the part that passes by plus the part through the norm. -/
def dxArr : FVec Ideal S8192x1024 .f32 := fun j =>
  dx j + rmsBack (xr x (j 0)) (fun k => dh w dp (j 0) k * g (ix1 k)) (j 1)

/-- The second result's array: the gradient of the norm's weights. -/
def dgArr : FVec Ideal S1x1024 .f32 := fun j => ∑ i : Fin 8192, dh w dp i (j 1) * (xr x i (j 1) * rms (xr x i))

/-! ## The body's values -/

theorem sum_split {n : ℕ} (a b : ℕ) (h : n = a + b) (f : Fin n → EReal) :
    ∑ e, f e = ∑ j : Fin a, f ⟨j.val, by omega⟩ + ∑ j : Fin b, f ⟨a + j.val, by omega⟩ := by
  subst h
  exact Fin.sum_univ_add f

/-- The seven groups of columns, one after another, are all the columns. -/
theorem sum_segments (f : Fin 5120 → EReal) : ∑ e, f e
    = ∑ j : Fin 512, f ⟨0 + j.val, by omega⟩ + ∑ j : Fin 512, f ⟨512 + j.val, by omega⟩ + ∑ j : Fin 512, f ⟨1024 + j.val, by omega⟩
      + ∑ j : Fin 512, f ⟨1536 + j.val, by omega⟩ + ∑ j : Fin 512, f ⟨2048 + j.val, by omega⟩
      + ∑ j : Fin 512, f ⟨2560 + j.val, by omega⟩ + ∑ j : Fin 2048, f ⟨3072 + j.val, by omega⟩ := by
  rw [sum_split 3072 2048 rfl, sum_split 2560 512 rfl, sum_split 2048 512 rfl, sum_split 1536 512 rfl, sum_split 1024 512 rfl,
    sum_split 512 512 rfl]
  simp only [zero_add]

section Pay

variable (s0 s1 s2 s3 s4 s5 : FVec Ideal S512x512 .bf16) (s6 : FVec Ideal S512x2048 .bf16)
  (w0 w1 w2 w3 w4 w5 : FVec Ideal S1024x512 .bf16) (w6 : FVec Ideal S1024x2048 .bf16) (r : Fin 512) (k : Fin 1024)

theorem pay5_apply : k0_pay5 (F := Ideal) (k0_pay3 s0 w0 s1 w1 s2 w2 s3 w3) (k0_pay4 s4 w4) s5 w5 s6 w6 (ix2 r k)
    = ∑ j : Fin 512, s0 (ix2 r j) * w0 (ix2 k j) + ∑ j : Fin 512, s1 (ix2 r j) * w1 (ix2 k j) + ∑ j : Fin 512, s2 (ix2 r j) * w2 (ix2 k j)
      + ∑ j : Fin 512, s3 (ix2 r j) * w3 (ix2 k j) + ∑ j : Fin 512, s4 (ix2 r j) * w4 (ix2 k j)
      + ∑ j : Fin 512, s5 (ix2 r j) * w5 (ix2 k j) + ∑ j : Fin 2048, s6 (ix2 r j) * w6 (ix2 k j) := by
  pointwise [k0_pay5, k0_pay4, k0_pay3]

theorem pay6_apply (v : FVec Ideal S512x1024 .f32) : k0_pay6 (F := Ideal) v (ix2 r 0) = rms fun k => v (ix2 r k) := by
  pointwise [k0_pay6, rms, cD, cEps]

theorem pay7_apply (v : FVec Ideal S512x1024 .f32) : k0_pay7 (F := Ideal) v (ix2 r k) = v (ix2 r k) * k0_pay6 (F := Ideal) v (ix2 r 0) := by
  pointwise [k0_pay7]

theorem pay9_apply (v25 v30 : FVec Ideal S512x1024 .f32) (v62 : FVec Ideal S1x1024 .f32) :
    k0_pay9 (F := Ideal) v25 v30 s5 w5 s6 w6 v62 (ix2 r k) = k0_pay5 (F := Ideal) v25 v30 s5 w5 s6 w6 (ix2 r k) * v62 (ix2 0 k) := by
  pointwise [k0_pay9]

theorem pay8_apply (v25 v30 v44 : FVec Ideal S512x1024 .f32) (a : FVec Ideal S1x1024 .f32) :
    k0_pay8 (F := Ideal) v25 v30 s5 w5 s6 w6 v44 a (ix2 0 k) = a (ix2 0 k)
      + ∑ r : Fin 512, k0_pay5 (F := Ideal) v25 v30 s5 w5 s6 w6 (ix2 r k) * k0_pay7 (F := Ideal) v44 (ix2 r k) := by
  pointwise [k0_pay8]

theorem pay1_apply (v52 : FVec Ideal S512x1 .f32) (v54 v65 v66 : FVec Ideal S512x1024 .f32) :
    k0_pay1 (F := Ideal) v52 v54 v65 v66 (ix2 r k) = v66 (ix2 r k) + v52 (ix2 r 0) * (v65 (ix2 r k)
      - v54 (ix2 r k) * Ideal.div (∑ j : Fin 1024, v65 (ix2 r j) * v54 (ix2 r j)) cD) := by
  pointwise [k0_pay1, cD]

end Pay

/-! ## The blocks -/

/-- Row `r` of point `t`'s block, as a row of the array. -/
def row (t : Fin cfg0.N) (r : Fin 512) : Fin 8192 := ⟨t.val * 512 + r.val, by have := point_lt t; omega⟩

section Blocks

variable (c : Dev nD) (t : Fin cfg0.N) (r : Fin 512)

theorem blk0 (j : Fin 512) : iblk m c 0 t (ix2 r j) = (m ((c : Thread nD τ).loc main_arg3)) (ix2 (row t r) ⟨0 + j.val, by omega⟩) := by
  blk_simp [iblk, idx t]; entry_read; pointwise; blk_ext [idx t, row]

theorem blk1 (j : Fin 512) : iblk m c 1 t (ix2 r j) = (m ((c : Thread nD τ).loc main_arg3)) (ix2 (row t r) ⟨512 + j.val, by omega⟩) := by
  blk_simp [iblk, idx t]; entry_read; pointwise; blk_ext [idx t, row]

theorem blk2 (j : Fin 512) : iblk m c 2 t (ix2 r j) = (m ((c : Thread nD τ).loc main_arg3)) (ix2 (row t r) ⟨1024 + j.val, by omega⟩) := by
  blk_simp [iblk, idx t]; entry_read; pointwise; blk_ext [idx t, row]

theorem blk3 (j : Fin 512) : iblk m c 3 t (ix2 r j) = (m ((c : Thread nD τ).loc main_arg3)) (ix2 (row t r) ⟨1536 + j.val, by omega⟩) := by
  blk_simp [iblk, idx t]; entry_read; pointwise; blk_ext [idx t, row]

theorem blk4 (j : Fin 512) : iblk m c 4 t (ix2 r j) = (m ((c : Thread nD τ).loc main_arg3)) (ix2 (row t r) ⟨2048 + j.val, by omega⟩) := by
  blk_simp [iblk, idx t]; entry_read; pointwise; blk_ext [idx t, row]

theorem blk5 (j : Fin 512) : iblk m c 5 t (ix2 r j) = (m ((c : Thread nD τ).loc main_arg3)) (ix2 (row t r) ⟨2560 + j.val, by omega⟩) := by
  blk_simp [iblk, idx t]; entry_read; pointwise; blk_ext [idx t, row]

theorem blk6 (j : Fin 2048) : iblk m c 6 t (ix2 r j) = (m ((c : Thread nD τ).loc main_arg3)) (ix2 (row t r) ⟨3072 + j.val, by omega⟩) := by
  blk_simp [iblk, idx t]; entry_read; pointwise; blk_ext [idx t, row]

theorem blk7 (k : Fin 1024) (e : Fin 5120) : iblk m c 7 t (ix2 k e) = (m ((c : Thread nD τ).loc main_arg2)) (ix2 k e) := by
  blk_simp [iblk, idx t]; entry_read; pointwise; blk_ext [idx t]

/-- A group of the weights' columns, as the body loads it. -/
theorem wcols (o n : ℕ) (h : o + n ≤ 5120) (hb : ∀ a, (![0, o] : Fin 2 → ℕ) a + (![1024, n] : Fin 2 → ℕ) a ≤ S1024x5120.size a)
    (k : Fin 1024) (j : Fin n) : View.ld (iblk m c 7 t) (Rect.unit (s := S1024x5120) ![0, o] ![1024, n] hb) (ix2 k j)
      = (m ((c : Thread nD τ).loc main_arg2)) (ix2 k ⟨o + j.val, by omega⟩) := by
  refine Eq.trans (congrArg (iblk m c 7 t) (?_ : (Rect.unit (s := S1024x5120) ![0, o] ![1024, n] hb).emb (ix2 k j) = ix2 k ⟨o + j.val, by omega⟩)) (blk7 m c t k _)
  blk_ext

theorem blk8 (k : Fin 1024) : iblk m c 8 t (ix2 r k) = xr (m ((c : Thread nD τ).loc main_arg0)) (row t r) k := by
  unfold xr; blk_ext [iblk, V, idx t, row]

theorem blk9 (k : Fin 1024) : iblk m c 9 t (ix2 0 k) = (m ((c : Thread nD τ).loc main_arg1)) (ix1 k) := by
  blk_simp [iblk, idx t]; entry_read; pointwise; blk_ext [idx t]

theorem blk10 (k : Fin 1024) : iblk m c 10 t (ix2 r k) = (m ((c : Thread nD τ).loc main_arg4)) (ix2 (row t r) k) := by
  blk_ext [iblk, V, idx t, row]

end Blocks

/-! ## What a point leaves -/

theorem dh_point (c : Dev nD) (t : Fin cfg0.N) (r : Fin 512) (k : Fin 1024) : k0_pay5 (k0_pay3 (iblk m c 0 t) (View.ld (iblk m c 7 t) (Rect.unit (s := S1024x5120) ![0, 0] ![1024, 512] inb_S1024x5120_S1024x512_0_0)) (iblk m c 1 t) (View.ld (iblk m c 7 t) (Rect.unit (s := S1024x5120) ![0, 512] ![1024, 512] inb_S1024x5120_S1024x512_0_512)) (iblk m c 2 t) (View.ld (iblk m c 7 t) (Rect.unit (s := S1024x5120) ![0, 1024] ![1024, 512] inb_S1024x5120_S1024x512_0_1024)) (iblk m c 3 t) (View.ld (iblk m c 7 t) (Rect.unit (s := S1024x5120) ![0, 1536] ![1024, 512] inb_S1024x5120_S1024x512_0_1536)))
    (k0_pay4 (iblk m c 4 t) (View.ld (iblk m c 7 t) (Rect.unit (s := S1024x5120) ![0, 2048] ![1024, 512] inb_S1024x5120_S1024x512_0_2048))) (iblk m c 5 t) (View.ld (iblk m c 7 t) (Rect.unit (s := S1024x5120) ![0, 2560] ![1024, 512] inb_S1024x5120_S1024x512_0_2560)) (iblk m c 6 t) (View.ld (iblk m c 7 t) (Rect.unit (s := S1024x5120) ![0, 3072] ![1024, 2048] inb_S1024x5120_S1024x2048_0_3072)) (ix2 r k)
    = dh (m ((c : Thread nD τ).loc main_arg2)) (m ((c : Thread nD τ).loc main_arg3)) (row t r) k := by
  rw [pay5_apply]
  unfold dh
  rw [sum_segments]
  refine congr (congrArg _ (congr (congrArg _ (congr (congrArg _ (congr (congrArg _ (congr (congrArg _ (congr (congrArg _ ?_) ?_)) ?_)) ?_)) ?_)) ?_)) ?_
  · exact Finset.sum_congr rfl fun j _ => congr (congrArg _ (blk0 m c t r j)) (wcols m c t 0 512 (by omega) _ k j)
  · exact Finset.sum_congr rfl fun j _ => congr (congrArg _ (blk1 m c t r j)) (wcols m c t 512 512 (by omega) _ k j)
  · exact Finset.sum_congr rfl fun j _ => congr (congrArg _ (blk2 m c t r j)) (wcols m c t 1024 512 (by omega) _ k j)
  · exact Finset.sum_congr rfl fun j _ => congr (congrArg _ (blk3 m c t r j)) (wcols m c t 1536 512 (by omega) _ k j)
  · exact Finset.sum_congr rfl fun j _ => congr (congrArg _ (blk4 m c t r j)) (wcols m c t 2048 512 (by omega) _ k j)
  · exact Finset.sum_congr rfl fun j _ => congr (congrArg _ (blk5 m c t r j)) (wcols m c t 2560 512 (by omega) _ k j)
  · exact Finset.sum_congr rfl fun j _ => congr (congrArg _ (blk6 m c t r j)) (wcols m c t 3072 2048 (by omega) _ k j)

theorem rms_point (c : Dev nD) (t : Fin cfg0.N) (r : Fin 512) : k0_pay6 (iblk m c 8 t) (ix2 r 0) = rms (xr (m ((c : Thread nD τ).loc main_arg0)) (row t r)) := by
  rw [pay6_apply]
  exact congrArg rms (funext fun k => blk8 m c t r k)

theorem xh_point (c : Dev nD) (t : Fin cfg0.N) (r : Fin 512) (k : Fin 1024) :
    k0_pay7 (iblk m c 8 t) (ix2 r k) = xr (m ((c : Thread nD τ).loc main_arg0)) (row t r) k * rms (xr (m ((c : Thread nD τ).loc main_arg0)) (row t r)) := by
  rw [pay7_apply, rms_point, blk8]

theorem outs11 (c : Dev nD) (t : Fin cfg0.N) (r : Fin 512) (k : Fin 1024) : (outsAt0 m c t.val t.isLt).1 (ix2 r k)
    = dxArr (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) k) := by
  have key : k0_pay1 (k0_pay6 (iblk m c 8 t)) (k0_pay7 (iblk m c 8 t)) (k0_pay9 (k0_pay3 (iblk m c 0 t) (View.ld (iblk m c 7 t) (Rect.unit (s := S1024x5120) ![0, 0] ![1024, 512] inb_S1024x5120_S1024x512_0_0)) (iblk m c 1 t) (View.ld (iblk m c 7 t) (Rect.unit (s := S1024x5120) ![0, 512] ![1024, 512] inb_S1024x5120_S1024x512_0_512)) (iblk m c 2 t) (View.ld (iblk m c 7 t) (Rect.unit (s := S1024x5120) ![0, 1024] ![1024, 512] inb_S1024x5120_S1024x512_0_1024)) (iblk m c 3 t) (View.ld (iblk m c 7 t) (Rect.unit (s := S1024x5120) ![0, 1536] ![1024, 512] inb_S1024x5120_S1024x512_0_1536)))
      (k0_pay4 (iblk m c 4 t) (View.ld (iblk m c 7 t) (Rect.unit (s := S1024x5120) ![0, 2048] ![1024, 512] inb_S1024x5120_S1024x512_0_2048))) (iblk m c 5 t) (View.ld (iblk m c 7 t) (Rect.unit (s := S1024x5120) ![0, 2560] ![1024, 512] inb_S1024x5120_S1024x512_0_2560)) (iblk m c 6 t) (View.ld (iblk m c 7 t) (Rect.unit (s := S1024x5120) ![0, 3072] ![1024, 2048] inb_S1024x5120_S1024x2048_0_3072)) (iblk m c 9 t)) (iblk m c 10 t) (ix2 r k)
      = dxArr (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) k) := by
    rw [pay1_apply]
    simp only [pay9_apply, dh_point, rms_point, xh_point, blk9, blk10]
    rfl
  by_cases h : t.val % 16 = 0
  · rw [outsAt0_A m c t h]; frame_out; exact key
  · rw [outsAt0_B m c t h]; frame_out; exact key

/-- What a point adds to the gradient of the norm's weights. -/
def dgPart (c : Dev nD) (t : Fin cfg0.N) (k : Fin 1024) : EReal := ∑ r : Fin 512,
  dh (m ((c : Thread nD τ).loc main_arg2)) (m ((c : Thread nD τ).loc main_arg3)) (row t r) k * (xr (m ((c : Thread nD τ).loc main_arg0)) (row t r) k * rms (xr (m ((c : Thread nD τ).loc main_arg0)) (row t r)))

theorem dg_step (c : Dev nD) (t : Fin cfg0.N) (a : FVec Ideal S1x1024 .f32) (k : Fin 1024) :
    k0_pay8 (k0_pay3 (iblk m c 0 t) (View.ld (iblk m c 7 t) (Rect.unit (s := S1024x5120) ![0, 0] ![1024, 512] inb_S1024x5120_S1024x512_0_0)) (iblk m c 1 t) (View.ld (iblk m c 7 t) (Rect.unit (s := S1024x5120) ![0, 512] ![1024, 512] inb_S1024x5120_S1024x512_0_512)) (iblk m c 2 t) (View.ld (iblk m c 7 t) (Rect.unit (s := S1024x5120) ![0, 1024] ![1024, 512] inb_S1024x5120_S1024x512_0_1024)) (iblk m c 3 t) (View.ld (iblk m c 7 t) (Rect.unit (s := S1024x5120) ![0, 1536] ![1024, 512] inb_S1024x5120_S1024x512_0_1536)))
      (k0_pay4 (iblk m c 4 t) (View.ld (iblk m c 7 t) (Rect.unit (s := S1024x5120) ![0, 2048] ![1024, 512] inb_S1024x5120_S1024x512_0_2048))) (iblk m c 5 t) (View.ld (iblk m c 7 t) (Rect.unit (s := S1024x5120) ![0, 2560] ![1024, 512] inb_S1024x5120_S1024x512_0_2560)) (iblk m c 6 t) (View.ld (iblk m c 7 t) (Rect.unit (s := S1024x5120) ![0, 3072] ![1024, 2048] inb_S1024x5120_S1024x2048_0_3072)) (iblk m c 8 t) a (ix2 0 k) = a (ix2 0 k) + dgPart m c t k := by
  rw [pay8_apply]
  simp only [xh_point, dh_point]
  rfl

theorem outs12_A (c : Dev nD) (t : Fin cfg0.N) (h : t.val % 16 = 0) (j : S1x1024.Idx) :
    (outsAt0 m c t.val t.isLt).2 j = 0 + dgPart m c t (j 1) := by
  rw [outsAt0_A m c t h]; frame_out
  idx_vars j
  obtain rfl : j0 = 0 := Subsingleton.elim _ _
  refine (dg_step m c t _ j1).trans ?_
  pointwise [k0_pay2]

theorem outs12_B (c : Dev nD) (t : Fin cfg0.N) (h : ¬ t.val % 16 = 0) (j : S1x1024.Idx) :
    (outsAt0 m c t.val t.isLt).2 j = (outsAt0 m c (t.val - 1) (lt_of_le_of_lt (Nat.sub_le _ _) t.isLt)).2 j + dgPart m c t (j 1) := by
  rw [outsAt0_B m c t h]; frame_out
  idx_vars j
  obtain rfl : j0 = 0 := Subsingleton.elim _ _
  exact dg_step m c t _ j1

/-! ## The arrays after the run -/

theorem final11 (c : Dev nD) : (dats m 0 c).arrAt 11 cfg0.N = dxArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t _ y => ?_
  blk_simp
  rw [after0_11]
  idx_vars y
  refine (outs11 m c t y0 y1).trans ?_
  refine congrArg (dxArr _ _ _ _ _) (a₁ := ix2 _ _) ?_
  blk_ext [idx t, row]

theorem final12 (c : Dev nD) : (dats m 0 c).arrAt 12 cfg0.N = dgArr (m ((c : Thread nD τ).loc main_arg0)) (m ((c : Thread nD τ).loc main_arg2)) (m ((c : Thread nD τ).loc main_arg3)) := by
  refine (dats m 0 c).arrAt_eq_of_after_last 12 t0_15 (by decide +kernel) _ fun j => ?_
  blk_simp
  rw [after0_12, Pipeline.eq_sum_fin_of_reset_step_apply_last (fun n h => (outsAt0 m c n h).2) 16 (fun _ => 0)
    (fun t y => dgPart m c t (y 1)) (fun t h j => outs12_A m c t h j) (fun t h j => outs12_B m c t h j)
    (le_of_eq N_0) t0_15 rfl j, zero_add]
  refine Fin.sum_mul_add_congr (fun s k hl => ?_) (congrArg (· * 512) N_0.symm)
  rfl

end Cert.NormIdeal.Value

end
-- ==== Proof.NormClaims.lean ====
/-
  The claims of the layer's norm: frames, the idealization's ledger, and the value claim.
-/
module

public import proofs.«01_k».proof.Proof.NormValue
public import proofs.«01_k».proof.Proof.Gen.Norm.Frame

@[expose] public section

set_option maxRecDepth 16384

noncomputable section

open Idealize.ShloMosaic Idealize.ShloMosaic.TcCoe Idealize.SL.Sem

namespace Cert.Proof.Norm

open Cert.Reals Cert.NormIdeal Cert.NormIdeal.Value

/-- What the precondition says of the arguments. -/
theorem finite_of_pre (x : FVec Ideal S8192x1024 .f32) (g : FVec Ideal S1024 .f32) (w : FVec Ideal S1024x5120 .f32)
    (dp : FVec Ideal S8192x5120 .f32) (dx : FVec Ideal S8192x1024 .f32)
    (h : Cert.Pre_norm_finite.fn (F := Ideal) x g w dp dx = fun _ => 1#1) :
    (∀ i, IsReal (x i)) ∧ (∀ i, IsReal (g i)) ∧ (∀ i, IsReal (w i)) ∧ ∀ i, IsReal (dp i) := by
  have h0 := congrFun h ix0
  obtain ⟨h1, h2⟩ := andi_split h0
  obtain ⟨h3, h4⟩ := andi_split h1
  obtain ⟨h5, h6⟩ := andi_split h2
  exact ⟨all_isReal x _ _ _ _ h3, all_isReal g _ _ _ _ h4, all_isReal w _ _ _ _ h5, all_isReal dp _ _ _ _ h6⟩

/-- The chain rule's form of the first result. -/
theorem dx_rule (x : FVec Ideal S8192x1024 .f32) (g : FVec Ideal S1024 .f32) (w : FVec Ideal S1024x5120 .f32)
    (dp : FVec Ideal S8192x5120 .f32) (dx : FVec Ideal S8192x1024 .f32)
    (hx : ∀ i, IsReal (x i)) (hg : ∀ i, IsReal (g i)) (hw : ∀ i, IsReal (w i)) (hp : ∀ i, IsReal (dp i)) (i : Fin 8192) (k : Fin 1024) :
    dx (ix2 i k) + rmsRule (xr x i) (fun k => dh w dp i k * g (ix1 k)) k = dxArr x g w dp dx (ix2 i k) :=
  congrArg _ (rmsRule_eq (fun k => hx _) (fun k => (isReal_sum _ fun e _ => (hp _).mul (hw _)).mul (hg _)) k)

theorem frame_p : Cert.quiescent_Norm := fun m ρ _ => Cert.Norm.Gen.frame m ρ
theorem frame_pi : Cert.quiescent_NormIdeal := fun m ρ _ => Cert.NormIdeal.Gen.frame m ρ
theorem frame_pi_pre : Cert.quiescent_NormIdeal_pre_norm_finite := fun m ρ _ => Cert.NormIdeal.Gen.frame m ρ
theorem frame_ri : Cert.quiescent_NormRefIdeal := fun m ρ _ =>
  (θ_run Cert.NormRefIdeal.defs _ _).mono (fun r h => ⟨fun c => (h c).2.2,
      Idealize.ShloMosaic.sem_eq_zero_of_no_sems (by decide) r.2⟩)
    (Cert.NormRefIdeal.Value.run (F := Ideal) m ρ)
theorem frame_ri_pre : Cert.quiescent_NormRefIdeal_pre_norm_finite := fun m ρ _ => frame_ri m ρ trivial

theorem preserves : Cert.preserves_Norm_NormIdeal := trivial

theorem algebraic : Cert.algebraic_NormIdeal_NormRefIdeal_pre_norm_finite := by
  pair_intro
  · run_from Cert.NormIdeal.Value.run_blocks m g
  · run_from Cert.NormRefIdeal.Value.run m' g'
    · refine Eq.trans ?_ (final11 m c).symm
      obtain ⟨hx, hg, hw, hp⟩ := finite_of_pre _ _ _ _ _ (hpre c)
      unfold Cert.NormRefIdeal.Value.res_main_v38
      simp only [hagree]
      revert hx hg hw hp
      generalize m (c.tc.loc Cert.NormIdeal.main_arg0) = x
      generalize m (c.tc.loc Cert.NormIdeal.main_arg1) = g
      generalize m (c.tc.loc Cert.NormIdeal.main_arg2) = w
      generalize m (c.tc.loc Cert.NormIdeal.main_arg3) = dp
      generalize m (c.tc.loc Cert.NormIdeal.main_arg4) = dx
      intro hx hg hw hp
      funext i
      idx_vars i
      refine Eq.trans ?_ (dx_rule x g w dp dx hx hg hw hp i0 i1)
      pointwise [rmsRule, xr, dh, rms, cD, cEps, cNegHalf, ← add_assoc]
    · refine Eq.trans ?_ (final12 m c).symm
      obtain ⟨hx, hg, hw, hp⟩ := finite_of_pre _ _ _ _ _ (hpre c)
      revert hx hg hw hp
      generalize m (c.tc.loc Cert.NormIdeal.main_arg0) = x
      generalize m (c.tc.loc Cert.NormIdeal.main_arg1) = g
      generalize m (c.tc.loc Cert.NormIdeal.main_arg2) = w
      generalize m (c.tc.loc Cert.NormIdeal.main_arg3) = dp
      generalize m (c.tc.loc Cert.NormIdeal.main_arg4) = dx
      intro hx hg hw hp
      funext i
      idx_vars i
      have key : ∑ _ : Fin 1, ∑ r : Fin 8192, xr x r i1 * rms (xr x r) * dh w dp r i1 = dgArr x w dp (ix2 i0 i1) :=
        (Fintype.sum_unique _).trans (Finset.sum_congr rfl fun r _ => mul_comm _ _)
      refine Eq.trans ?_ key
      pointwise [xr, dh, rms, cD, cEps]

end Cert.Proof.Norm

end
-- ==== Proof.Window.lean ====
/-
  Sums over windows of a sequence: a window's sum by doubling, as a kernel builds it from rotations; as a difference of two
  running sums, as the plain form of a moving average takes it; and jnp's running sums down the first of three axes, read at
  an entry.
-/
module

public import proofs.«01_k».proof.Proof.Reals
public import Idealize.ShloMosaic.Lib.Pointwise

@[expose] public section

noncomputable section

namespace Cert.Reals

open Idealize.ShloMosaic

/-- The sum of the `n` values that end at `a` (positions below zero counted as position zero). -/
def back (n : ℕ) (f : ℕ → EReal) (a : ℕ) : EReal := ∑ s ∈ Finset.range n, f (a - s)

/-- The sum of the `n` values that start at `a`. -/
def ahead (n : ℕ) (f : ℕ → EReal) (a : ℕ) : EReal := ∑ s ∈ Finset.range n, f (a + s)

/-- The sum of the `n` values that end at `a`, of which those below position zero count as zero. -/
def window (n : ℕ) (f : ℕ → EReal) (a : ℕ) : EReal := ∑ s ∈ Finset.range n, if s ≤ a then f (a - s) else 0

theorem back_one (f : ℕ → EReal) (a : ℕ) : back 1 f a = f a := by simp [back]

theorem ahead_one (f : ℕ → EReal) (a : ℕ) : ahead 1 f a = f a := by simp [ahead]

/-- Two windows side by side are one of twice the length. -/
theorem back_double (n : ℕ) (f : ℕ → EReal) (a : ℕ) : back n f a + back n f (a - n) = back (n + n) f a := by
  unfold back
  rw [Finset.sum_range_add]
  simp only [Nat.sub_sub]

theorem ahead_double (n : ℕ) (f : ℕ → EReal) (a : ℕ) : ahead n f a + ahead n f (a + n) = ahead (n + n) f a := by
  unfold ahead
  rw [Finset.sum_range_add]
  simp only [Nat.add_assoc]

/-- A window's sum is the difference of two running sums, of real numbers. -/
theorem window_eq_sub (n : ℕ) (f : ℕ → EReal) (hf : ∀ i, IsReal (f i)) (a : ℕ) :
    ∑ i ∈ Finset.range (a + 1), f i - ∑ i ∈ Finset.range (a + 1 - n), f i = window n f a := by
  choose g hg using hf
  obtain rfl : f = fun i => (g i : EReal) := funext hg
  have key : ∀ n, ∑ i ∈ Finset.range (a + 1), g i - ∑ i ∈ Finset.range (a + 1 - n), g i
      = ∑ s ∈ Finset.range n, if s ≤ a then g (a - s) else 0 := by
    intro n
    induction n with
    | zero => simp
    | succ n ih =>
      refine Eq.trans ?_ (Finset.sum_range_succ _ n).symm
      rw [← ih]
      by_cases h : n ≤ a
      · rw [if_pos h, show a + 1 - n = (a - n) + 1 by omega, Finset.sum_range_succ g (a - n), show a + 1 - (n + 1) = a - n by omega]
        ring
      · rw [if_neg h, show a + 1 - n = 0 by omega, show a + 1 - (n + 1) = 0 by omega]
        ring
  unfold window
  rw [← coe_sum, ← coe_sum, ← EReal.coe_sub, key, coe_sum]
  refine Finset.sum_congr rfl fun s _ => ?_
  split_ifs
  · rfl
  · rfl

/-- The running sum from `r` to the end of the differences between a sequence and itself `n` further on, where the sequence
    is zero from `N`: the sum of the `n` values that start at `r`. -/
theorem sum_sub_eq_ahead (n N : ℕ) (f : ℕ → EReal) (hf : ∀ i, IsReal (f i)) (h0 : ∀ i, N ≤ i → f i = 0) (r : ℕ) (hr : r ≤ N) :
    ∑ i ∈ Finset.range (N - r), (f (r + i) - f (r + i + n)) = ahead n f r := by
  choose g hg using hf
  obtain rfl : f = fun i => (g i : EReal) := funext hg
  have h1 : ∀ i, N ≤ i → g i = 0 := fun i h => EReal.coe_eq_zero.1 (h0 i h)
  have key : ∀ n, ∑ i ∈ Finset.range (N - r), (g (r + i) - g (r + i + n)) = ∑ s ∈ Finset.range n, g (r + s) := by
    intro n
    induction n with
    | zero => simp
    | succ n ih =>
      rw [Finset.sum_range_succ, ← ih]
      have e : ∑ i ∈ Finset.range (N - r), (g (r + i + n) - g (r + (i + 1) + n)) = g (r + n) := by
        rw [Finset.sum_range_sub' (fun i => g (r + i + n))]
        simp only [Nat.add_zero]
        rw [h1 (r + (N - r) + n) (by omega), sub_zero]
      rw [← e, ← Finset.sum_add_distrib]
      refine Finset.sum_congr rfl fun i _ => ?_
      rw [show r + i + (n + 1) = r + (i + 1) + n by omega]
      ring
  unfold ahead
  simp only [← EReal.coe_sub, ← coe_sum, key]

theorem isReal_window (n : ℕ) (f : ℕ → EReal) (hf : ∀ i, IsReal (f i)) (a : ℕ) : IsReal (window n f a) := by
  refine isReal_sum _ fun s _ => ?_
  split_ifs
  · exact hf _
  · exact isReal_zero

/-! ## Running sums as they are printed -/

theorem foldl_add {ι : Type*} (f : ι → EReal) (l : List ι) (v : EReal) :
    l.foldl (fun r n => r + f n) v = v + (l.map f).sum := by
  induction l generalizing v with
  | nil => simp
  | cons a l ih => simp only [List.foldl_cons, List.map_cons, List.sum_cons, ih, add_assoc]

/-- A float window sum over windows that are long in the first of three axes and one entry in the others. -/
theorem windows3 {N A B lo hi : ℕ} (x : FVec Ideal ⟨3, ![N, A, B]⟩ .f32) (init : FVec Ideal ⟨0, ![]⟩ .f32)
    (h : (⟨3, ![N, A, B]⟩ : Shape).ReduceWindows ![N, 1, 1] ![1, 1, 1] ![lo, 0, 0] ![hi, 0, 0] ⟨3, ![N, A, B]⟩)
    (hu : 0 < (⟨0, ![]⟩ : Shape).numel) (hi0 : init (Shape.Idx.first hu) = 0) (r : Fin N) (k : Fin A) (l : Fin B) :
    Host.reduceWindowAdd ![N, 1, 1] ![1, 1, 1] ![lo, 0, 0] ![hi, 0, 0] x init h hu (ix3 r k l)
      = ∑ w : Fin N, if hw : lo ≤ r.val + w.val ∧ r.val + w.val - lo < N then x (ix3 ⟨r.val + w.val - lo, hw.2⟩ k l) else 0 := by
  have e : Host.reduceWindowAdd ![N, 1, 1] ![1, 1, 1] ![lo, 0, 0] ![hi, 0, 0] x init h hu (ix3 r k l)
      = Host.reduceWindow (· + ·) ![N, 1, 1] ![1, 1, 1] ![lo, 0, 0] ![hi, 0, 0] x init h hu (ix3 r k l) := rfl
  rw [e]
  unfold Host.reduceWindow
  simp only [hi0]
  rw [foldl_add, zero_add, ← Fin.sum_univ_def]
  let F : (⟨3, ![N, 1, 1]⟩ : Shape).Idx → EReal := fun w =>
    if hin : ∀ a : Fin 3, (![lo, 0, 0] : Fin 3 → ℕ) a ≤ (ix3 r k l a).val * (![1, 1, 1] : Fin 3 → ℕ) a + (w a).val
        ∧ (ix3 r k l a).val * (![1, 1, 1] : Fin 3 → ℕ) a + (w a).val - (![lo, 0, 0] : Fin 3 → ℕ) a < (![N, A, B] : Fin 3 → ℕ) a
      then x (fun a => ⟨_, (hin a).2⟩) else 0
  refine (Equiv.sum_comp (⟨3, ![N, 1, 1]⟩ : Shape).rowMajor.symm F).trans ?_
  rw [sum_idx3]
  refine Finset.sum_congr rfl fun w _ => ?_
  rw [Fintype.sum_unique, Fintype.sum_unique]
  by_cases hw : lo ≤ r.val + w.val ∧ r.val + w.val - lo < N
  · rw [dif_pos hw]
    have hin : ∀ a : Fin 3, (![lo, 0, 0] : Fin 3 → ℕ) a ≤ (ix3 r k l a).val * (![1, 1, 1] : Fin 3 → ℕ) a + (ix3 w (0 : Fin 1) (0 : Fin 1) a).val
        ∧ (ix3 r k l a).val * (![1, 1, 1] : Fin 3 → ℕ) a + (ix3 w (0 : Fin 1) (0 : Fin 1) a).val - (![lo, 0, 0] : Fin 3 → ℕ) a < (![N, A, B] : Fin 3 → ℕ) a := by
      intro a
      fin_cases a
      · simpa using hw
      · simp
      · simp
    refine (dif_pos hin).trans (congrArg x ?_)
    funext a
    fin_cases a
    · exact Fin.ext (by simp)
    · exact Fin.ext (by simp)
    · exact Fin.ext (by simp)
  · rw [dif_neg hw]
    exact dif_neg fun hin => hw (by simpa using hin 0)

/-- jnp's running sum down the first axis. -/
theorem cumsum3 {M A B : ℕ} (x : FVec Ideal ⟨3, ![M + 1, A, B]⟩ .f32) (init : FVec Ideal ⟨0, ![]⟩ .f32)
    (h : (⟨3, ![M + 1, A, B]⟩ : Shape).ReduceWindows ![M + 1, 1, 1] ![1, 1, 1] ![M, 0, 0] ![0, 0, 0] ⟨3, ![M + 1, A, B]⟩)
    (hu : 0 < (⟨0, ![]⟩ : Shape).numel) (hi0 : init (Shape.Idx.first hu) = 0) (f : ℕ → EReal) (k : Fin A) (l : Fin B)
    (hf : ∀ i : Fin (M + 1), x (ix3 i k l) = f i.val) (r : Fin (M + 1)) :
    Host.reduceWindowAdd ![M + 1, 1, 1] ![1, 1, 1] ![M, 0, 0] ![0, 0, 0] x init h hu (ix3 r k l)
      = ∑ i ∈ Finset.range (r.val + 1), f i := by
  rw [windows3 x init h hu hi0]
  have e : ∀ w : Fin (M + 1), (if hw : M ≤ r.val + w.val ∧ r.val + w.val - M < M + 1 then x (ix3 ⟨r.val + w.val - M, hw.2⟩ k l) else 0)
      = if M ≤ r.val + w.val then f (r.val + w.val - M) else 0 := by
    intro w
    by_cases hw : M ≤ r.val + w.val
    · rw [dif_pos ⟨hw, by omega⟩, if_pos hw, hf]
    · rw [dif_neg (fun h => hw h.1), if_neg hw]
  rw [Finset.sum_congr rfl fun w _ => e w, Fin.sum_univ_eq_sum_range (fun w => if M ≤ r.val + w then f (r.val + w - M) else 0),
    ← Finset.sum_filter]
  refine Finset.sum_nbij' (fun w => r.val + w - M) (fun i => i + M - r.val) ?_ ?_ ?_ ?_ ?_
  · intro w hw; simp only [Finset.mem_filter, Finset.mem_range] at hw ⊢; omega
  · intro i hi; simp only [Finset.mem_filter, Finset.mem_range] at hi ⊢; have := r.isLt; omega
  · intro w hw; simp only [Finset.mem_filter, Finset.mem_range] at hw ⊢; omega
  · intro i hi; simp only [Finset.mem_range] at hi ⊢; have := r.isLt; omega
  · intro w hw; rfl

/-- jnp's running sum down the first axis, from its end. -/
theorem revsum3 {M A B : ℕ} (x : FVec Ideal ⟨3, ![M + 1, A, B]⟩ .f32) (init : FVec Ideal ⟨0, ![]⟩ .f32)
    (h : (⟨3, ![M + 1, A, B]⟩ : Shape).ReduceWindows ![M + 1, 1, 1] ![1, 1, 1] ![0, 0, 0] ![M, 0, 0] ⟨3, ![M + 1, A, B]⟩)
    (hu : 0 < (⟨0, ![]⟩ : Shape).numel) (hi0 : init (Shape.Idx.first hu) = 0) (f : ℕ → EReal) (k : Fin A) (l : Fin B)
    (hf : ∀ i : Fin (M + 1), x (ix3 i k l) = f i.val) (r : Fin (M + 1)) :
    Host.reduceWindowAdd ![M + 1, 1, 1] ![1, 1, 1] ![0, 0, 0] ![M, 0, 0] x init h hu (ix3 r k l)
      = ∑ i ∈ Finset.range (M + 1 - r.val), f (r.val + i) := by
  rw [windows3 x init h hu hi0]
  have e : ∀ w : Fin (M + 1), (if hw : 0 ≤ r.val + w.val ∧ r.val + w.val - 0 < M + 1 then x (ix3 ⟨r.val + w.val - 0, hw.2⟩ k l) else 0)
      = if w.val < M + 1 - r.val then f (r.val + w.val) else 0 := by
    intro w
    by_cases hw : w.val < M + 1 - r.val
    · rw [dif_pos ⟨Nat.zero_le _, by omega⟩, if_pos hw, hf]; rfl
    · rw [dif_neg (fun h => hw (by omega)), if_neg hw]
  rw [Finset.sum_congr rfl fun w _ => e w, Fin.sum_univ_eq_sum_range (fun w => if w < M + 1 - r.val then f (r.val + w) else 0),
    ← Finset.sum_filter]
  refine Finset.sum_congr ?_ fun _ _ => rfl
  ext i
  simp only [Finset.mem_filter, Finset.mem_range]
  omega

end Cert.Reals

end
-- ==== Proof.PoolValue.lean ====
/-
  The pooling branch's backward call at the extended reals: what each output array holds after the run is a function of
  the arguments, a row's window sums among them.
-/
module

public import proofs.«01_k».proof.Defs
public import proofs.«01_k».proof.Proof.Gen.PoolIdeal.Value
public import proofs.«01_k».proof.Proof.Gen.PoolRefIdeal.Run
public import proofs.«01_k».proof.Proof.Gen.Pre_pool_finite
public import proofs.«01_k».proof.Proof.Window
public import Idealize.ShloMosaic.Lib.Pipeline.ValueKit
public import Idealize.ShloMosaic.Lib.Pipeline.ReadBack
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PoolIdeal.Value

open Cert.PoolIdeal Cert.PoolIdeal.Gen Cert.Reals

variable (m : (ℓ : Loc nD τ sig) → Buf (Elt Ideal) ℓ)

/-- The windows' block indices at every grid point: the grid goes from the last rows to the first. -/
theorem idx : ∀ t : Fin cfg0.N, win0_0.index t = ![15 - t.val, 0] ∧ win0_1.index t = ![(15 - t.val) * 32 - 1, 0]
    ∧ win0_2.index t = ![15 - t.val, 1] ∧ win0_3.index t = ![15 - t.val, 0] ∧ win0_4.index t = ![0, 0]
    ∧ win0_5.index t = ![0, 0, 0] ∧ win0_6.index t = ![0, 0] ∧ win0_7.index t = ![15 - t.val, 0]
    ∧ win0_8.index t = ![15 - t.val, 0] ∧ win0_9.index t = ![0, 0, 0] ∧ win0_10.index t = ![0, 0] :=
  (by decide +kernel : ∀ t : Fin grid0.N, _)

theorem coord : ∀ t : Fin cfg0.N, ((grid0.coords t) 0).val = t.val := (by decide +kernel : ∀ t : Fin grid0.N, _)

theorem point_lt (t : Fin cfg0.N) : t.val < 16 := lt_of_lt_of_eq t.isLt N_0

/-! ## The results as functions of the arguments -/

/-- Column `k` of group `g` among the four groups' columns. -/
def col (g : Fin 4) (k : Fin 128) : Fin 512 := ⟨128 * g.val + k.val, by omega⟩

/-- The group of a column, and its place in the group. -/
def grp (j : Fin 512) : Fin 4 := ⟨j.val / 128, by omega⟩
def lane (j : Fin 512) : Fin 128 := ⟨j.val % 128, by omega⟩

theorem col_grp_lane (j : Fin 512) : col (grp j) (lane j) = j := Fin.ext (Nat.div_add_mod j.val 128)
theorem grp_col (g : Fin 4) (k : Fin 128) : grp (col g k) = g := Fin.ext (by show (128 * g.val + k.val) / 128 = g.val; omega)
theorem lane_col (g : Fin 4) (k : Fin 128) : lane (col g k) = k := Fin.ext (by show (128 * g.val + k.val) % 128 = k.val; omega)

/-- The four groups' window lengths: 2, 4, 8, 16. -/
def wlen (g : Fin 4) : ℕ := 2 ^ (g.val + 1)

/-- How many rows a window that ends at row `n` has, as a float: the lesser of `n + 1` and the window's length. -/
def cnt (g : Fin 4) (n : Fin 8192) : EReal :=
  FloatOps.sitofp (F := Ideal) .f32 (IntOp.minsi (BitVec.ofNat 32 (n.val + 1)) (BitVec.ofNat 32 (wlen g)))

/-- A column of the values that are pooled, zero from row 8192. -/
def vals (proj : FVec Ideal S8192x5120 .f32) (g : Fin 4) (k : Fin 128) (n : ℕ) : EReal :=
  if h : n < 8192 then proj (ix2 ⟨n, h⟩ ⟨128 * g.val + k.val, by omega⟩) else 0

/-- The mean over the window that ends at row `n`, less the row's own value. -/
def pooled (proj : FVec Ideal S8192x5120 .f32) (n : Fin 8192) (g : Fin 4) (k : Fin 128) : EReal :=
  Ideal.div (window (wlen g) (vals proj g k) n.val) (cnt g n) - proj (ix2 n ⟨128 * g.val + k.val, by omega⟩)

/-- The pooled values through the group's map. -/
def mixed (proj : FVec Ideal S8192x5120 .f32) (pw : FVec Ideal S4x128x128 .f32) (n : Fin 8192) (g : Fin 4) (k : Fin 128) : EReal :=
  ∑ l : Fin 128, pooled proj n g l * pw (ix3 g l k)

/-- The gradient of the branch's value. -/
def dyv (wpu : FVec Ideal S512x1024 .f32) (dp : FVec Ideal S8192x1024 .f32) (n : Fin 8192) (j : Fin 512) : EReal :=
  ∑ d : Fin 1024, dp (ix2 n d) * wpu (ix2 j d)

/-- The branch's gate's argument. -/
def zz (proj : FVec Ideal S8192x5120 .f32) (n : Fin 8192) (j : Fin 512) : EReal := proj (ix2 n ⟨512 + j.val, by omega⟩)

/-- The sigmoid as both programs write it. -/
def sigm (x : EReal) : EReal := Ideal.div 1 (1 + Ideal.exp (-x))

/-- The gradient of the scaled pooled values. -/
def dmp (proj : FVec Ideal S8192x5120 .f32) (wpu : FVec Ideal S512x1024 .f32) (dp : FVec Ideal S8192x1024 .f32) (n : Fin 8192)
    (g : Fin 4) (k : Fin 128) : EReal := dyv wpu dp n (col g k) * (zz proj n (col g k) * sigm (zz proj n (col g k)))

def dmixed (proj : FVec Ideal S8192x5120 .f32) (sc : FVec Ideal S512 .f32) (wpu : FVec Ideal S512x1024 .f32)
    (dp : FVec Ideal S8192x1024 .f32) (n : Fin 8192) (g : Fin 4) (k : Fin 128) : EReal :=
  dmp proj wpu dp n g k * sc (ix1 (col g k))

/-- The gradient of the pooled values. -/
def dpool (proj : FVec Ideal S8192x5120 .f32) (pw : FVec Ideal S4x128x128 .f32) (sc : FVec Ideal S512 .f32)
    (wpu : FVec Ideal S512x1024 .f32) (dp : FVec Ideal S8192x1024 .f32) (n : Fin 8192) (g : Fin 4) (k : Fin 128) : EReal :=
  ∑ l : Fin 128, dmixed proj sc wpu dp n g l * pw (ix3 g k l)

/-- The gradient of a window's sum, zero from row 8192. -/
def dsum (proj : FVec Ideal S8192x5120 .f32) (pw : FVec Ideal S4x128x128 .f32) (sc : FVec Ideal S512 .f32)
    (wpu : FVec Ideal S512x1024 .f32) (dp : FVec Ideal S8192x1024 .f32) (g : Fin 4) (k : Fin 128) (n : ℕ) : EReal :=
  if h : n < 8192 then Ideal.div (dpool proj pw sc wpu dp ⟨n, h⟩ g k) (cnt g ⟨n, h⟩) else 0

/-- The gradient of the values that are pooled: the windows that a row is in are those that end at it and after it. -/
def du (proj : FVec Ideal S8192x5120 .f32) (pw : FVec Ideal S4x128x128 .f32) (sc : FVec Ideal S512 .f32)
    (wpu : FVec Ideal S512x1024 .f32) (dp : FVec Ideal S8192x1024 .f32) (n : Fin 8192) (g : Fin 4) (k : Fin 128) : EReal :=
  ahead (wlen g) (dsum proj pw sc wpu dp g k) n.val - dpool proj pw sc wpu dp n g k

/-- The gradient of the gate's argument. -/
def dz (proj : FVec Ideal S8192x5120 .f32) (pw : FVec Ideal S4x128x128 .f32) (sc : FVec Ideal S512 .f32)
    (wpu : FVec Ideal S512x1024 .f32) (dp : FVec Ideal S8192x1024 .f32) (n : Fin 8192) (g : Fin 4) (k : Fin 128) : EReal :=
  dyv wpu dp n (col g k) * (mixed proj pw n g k * sc (ix1 (col g k)))
    * (sigm (zz proj n (col g k)) * (1 + zz proj n (col g k) * (1 - sigm (zz proj n (col g k)))))

/-- The four results' arrays. -/
def duArr (proj : FVec Ideal S8192x5120 .f32) (pw : FVec Ideal S4x128x128 .f32) (sc : FVec Ideal S512 .f32)
    (wpu : FVec Ideal S512x1024 .f32) (dp : FVec Ideal S8192x1024 .f32) : FVec Ideal S8192x512 .bf16 :=
  fun i => du proj pw sc wpu dp (i 0) (grp (i 1)) (lane (i 1))

def dzArr (proj : FVec Ideal S8192x5120 .f32) (pw : FVec Ideal S4x128x128 .f32) (sc : FVec Ideal S512 .f32)
    (wpu : FVec Ideal S512x1024 .f32) (dp : FVec Ideal S8192x1024 .f32) : FVec Ideal S8192x512 .bf16 :=
  fun i => dz proj pw sc wpu dp (i 0) (grp (i 1)) (lane (i 1))

def dpwArr (proj : FVec Ideal S8192x5120 .f32) (sc : FVec Ideal S512 .f32) (wpu : FVec Ideal S512x1024 .f32)
    (dp : FVec Ideal S8192x1024 .f32) : FVec Ideal S4x128x128 .f32 :=
  fun i => ∑ n : Fin 8192, pooled proj n (i 0) (i 1) * dmixed proj sc wpu dp n (i 0) (i 2)

def dscArr (proj : FVec Ideal S8192x5120 .f32) (pw : FVec Ideal S4x128x128 .f32) (wpu : FVec Ideal S512x1024 .f32)
    (dp : FVec Ideal S8192x1024 .f32) : FVec Ideal S1x512 .f32 :=
  fun i => ∑ n : Fin 8192, dmp proj wpu dp n (grp (i 1)) (lane (i 1)) * mixed proj pw n (grp (i 1)) (lane (i 1))

/-! ## The blocks -/

/-- Row `r` of point `t`'s block, as a row of the array. -/
def row (t : Fin cfg0.N) (r : Fin 512) : Fin 8192 := ⟨(15 - t.val) * 512 + r.val, by have := point_lt t; omega⟩

section Blocks

variable (c : Dev nD) (t : Fin cfg0.N) (r : Fin 512)

/-- The kernel's own order of the projection's columns: the pooling branch's come first. -/
theorem V_v3 (i : Fin 8192) (k : Fin 1024) : V m c main_v3 (ix2 i ⟨k.val, by omega⟩)
    = m ((c : Thread nD τ).loc main_arg0) (ix2 i ⟨k.val, by omega⟩) := by
  unfold V hostOps0
  after_reads_at
  after_reads_simp
  pointwise
  blk_ext

theorem blk0 (g : Fin 4) (k : Fin 128) : iblk m c 0 t (ix2 r (col g k)) = vals (m ((c : Thread nD τ).loc main_arg0)) g k (row t r).val := by
  unfold vals
  rw [dif_pos (row t r).isLt]
  refine Eq.trans (congrArg (V m c main_v3) (?_ : _ = ix2 (row t r) ⟨128 * g.val + k.val, by omega⟩)) (V_v3 m c _ ⟨128 * g.val + k.val, by omega⟩)
  blk_ext [idx t, row, col]

theorem blk1 (h : 0 < 15 - t.val) (r : Fin 16) (g : Fin 4) (k : Fin 128) :
    iblk m c 1 t (ix2 r (col g k)) = vals (m ((c : Thread nD τ).loc main_arg0)) g k ((15 - t.val) * 512 + r.val - 16) := by
  unfold vals
  rw [dif_pos (by have := point_lt t; omega)]
  refine Eq.trans (congrArg (V m c main_v3) (?_ : _ = ix2 ⟨(15 - t.val) * 512 + r.val - 16, by have := point_lt t; omega⟩ ⟨128 * g.val + k.val, by omega⟩))
    (V_v3 m c _ ⟨128 * g.val + k.val, by omega⟩)
  blk_ext [idx t, row, col]

theorem blk2 (j : Fin 512) : iblk m c 2 t (ix2 r j) = zz (m ((c : Thread nD τ).loc main_arg0)) (row t r) j := by
  unfold zz
  refine Eq.trans (congrArg (V m c main_v3) (?_ : _ = ix2 (row t r) ⟨512 + j.val, by omega⟩)) (V_v3 m c _ ⟨512 + j.val, by omega⟩)
  blk_ext [idx t, row]

theorem blk3 (d : Fin 1024) : iblk m c 3 t (ix2 r d) = (m ((c : Thread nD τ).loc main_arg4)) (ix2 (row t r) d) := by
  blk_simp [iblk, idx t]; entry_read; pointwise; blk_ext [idx t, row]

theorem blk4 (j : Fin 512) (d : Fin 1024) : iblk m c 4 t (ix2 j d) = (m ((c : Thread nD τ).loc main_arg3)) (ix2 j d) := by
  blk_simp [iblk, idx t]; entry_read; pointwise; blk_ext [idx t]

theorem blk5 (g : Fin 4) (k l : Fin 128) : iblk m c 5 t (ix3 g k l) = (m ((c : Thread nD τ).loc main_arg1)) (ix3 g k l) := by
  blk_ext [iblk, V, idx t]

theorem blk6 (j : Fin 512) : iblk m c 6 t (ix2 0 j) = (m ((c : Thread nD τ).loc main_arg2)) (ix1 j) := by
  blk_simp [iblk, idx t]; entry_read; pointwise; blk_ext [idx t]

end Blocks

/-! ## The window sums of a block -/

/-- An array of 528 rows and itself turned by some rows, added: the step by which both windows' sums double. -/
def rotAdd (s : BitVec 32) (v : FVec Ideal S528x512 .f32) : FVec Ideal S528x512 .f32 :=
  addf v (dynamicRotate 0 s none v rotates_S528x512_d0)

theorem rotAdd_apply (s : BitVec 32) (v : FVec Ideal S528x512 .f32) (x : Fin 528) (j : Fin 512) :
    rotAdd s v (ix2 x j) = v (ix2 x j) + v (ix2 ⟨(x.val + 528 - s.toNat % 528) % 528, Nat.mod_lt _ (by omega)⟩ j) := by
  pointwise [rotAdd]

theorem rotAdd_back (s : BitVec 32) (n : ℕ) (hs : s.toNat = n) (hn : n < 528) (h0 : 0 < n) (v : FVec Ideal S528x512 .f32) (X : ℕ → EReal)
    (j : Fin 512) (h : ∀ x : Fin 528, n ≤ x.val + 1 → v (ix2 x j) = back n X x.val) (x : Fin 528) (hx : n + n ≤ x.val + 1) :
    rotAdd s v (ix2 x j) = back (n + n) X x.val := by
  have hx' := x.isLt
  rw [rotAdd_apply, ← back_double, h x (by omega), h ⟨_, _⟩ (by show n ≤ (x.val + 528 - s.toNat % 528) % 528 + 1; omega)]
  refine congrArg (back n X x.val + back n X ·) ?_
  show (x.val + 528 - s.toNat % 528) % 528 = x.val - n
  omega

theorem rotAdd_ahead (s : BitVec 32) (n : ℕ) (hs : s.toNat + n = 528) (h0 : 0 < n) (v : FVec Ideal S528x512 .f32) (X : ℕ → EReal)
    (j : Fin 512) (h : ∀ x : Fin 528, x.val + n ≤ 528 → v (ix2 x j) = ahead n X x.val) (x : Fin 528) (hx : x.val + (n + n) ≤ 528) :
    rotAdd s v (ix2 x j) = ahead (n + n) X x.val := by
  have hx' := x.isLt
  rw [rotAdd_apply, ← ahead_double, h x (by omega), h ⟨_, _⟩ (by show (x.val + 528 - s.toNat % 528) % 528 + n ≤ 528; omega)]
  refine congrArg (ahead n X x.val + ahead n X ·) ?_
  show (x.val + 528 - s.toNat % 528) % 528 = x.val + n
  omega

theorem rb_pos : ∀ t < 16, Scalar.cmpi .sgt (Scalar.subi 15#32 (BitVec.ofNat 32 t)) 0#32 = if t < 15 then 1#1 else 0#1 := by
  decide

/-- The rows a block has above it: the last of the block before, or zeros at the array's first. -/
theorem pay9_at (i : grid0.Coords) (v4 : FVec Ideal S512x512 .f32) (v11 : FVec Ideal S16x512 .f32) (X : ℕ → EReal) (j : Fin 512)
    (hi : (i 0).val < 16) (h4 : ∀ r : Fin 512, v4 (ix2 r j) = X (16 + r.val))
    (h11 : ∀ r : Fin 16, (if (i 0).val < 15 then v11 (ix2 r j) else 0) = X r.val) (x : Fin 528) (hx : 2 ≤ x.val + 1) :
    k0_pay9 (F := Ideal) i v4 v11 (ix2 x j) = back 2 X x.val := by
  have hX : ∀ (y : ℕ) (hy : y < 528), (if h : y < 16 then Scalar.select (Scalar.cmpi CmpIPredicate.sgt (Scalar.subi (15#32) (BitVec.ofNat 32 (i 0).val)) 0#32)
          (v11 (ix2 ⟨y, h⟩ j)) (0 : EReal) else v4 (ix2 ⟨y - 16, by omega⟩ j)) = X y := by
    intro y hy
    rw [rb_pos _ hi]
    split_ifs with h h2
    · rw [← h11 ⟨y, h⟩, if_pos h2]; rfl
    · rw [← h11 ⟨y, h⟩, if_neg h2]; rfl
    · rw [h4]; exact congrArg X (by show 16 + (y - 16) = y; omega)
  pointwise [k0_pay9, k0_pay7]
  rw [hX _ x.isLt, hX _ (Nat.mod_lt _ (by omega)), show (x.val + 528 - 1) % 528 = x.val - 1 by omega]
  simp [back, Finset.sum_range_succ]

theorem pay10_eq (i : grid0.Coords) (v4 : FVec Ideal S512x512 .f32) (v11 : FVec Ideal S16x512 .f32) :
    k0_pay10 (F := Ideal) i v4 v11 = rotAdd 2#32 (k0_pay9 i v4 v11) := rfl
theorem pay11_eq (i : grid0.Coords) (v4 : FVec Ideal S512x512 .f32) (v11 : FVec Ideal S16x512 .f32) :
    k0_pay11 (F := Ideal) i v4 v11 = rotAdd 4#32 (k0_pay10 i v4 v11) := rfl
theorem pay12_eq (i : grid0.Coords) (v4 : FVec Ideal S512x512 .f32) (v11 : FVec Ideal S16x512 .f32) :
    k0_pay12 (F := Ideal) i v4 v11 = rotAdd 8#32 (k0_pay11 i v4 v11) := rfl

/-! ## The four groups' columns -/

theorem col0 (k : Fin 128) (h : k.val < 512) : (⟨k.val, h⟩ : Fin 512) = col 0 k := Fin.ext (by simp [col])
theorem col1 (k : Fin 128) (h : 128 + k.val < 512) : (⟨128 + k.val, h⟩ : Fin 512) = col 1 k := Fin.ext (by simp [col])
theorem col2 (k : Fin 128) (h : 256 + k.val < 512) : (⟨256 + k.val, h⟩ : Fin 512) = col 2 k := Fin.ext (by simp [col])
theorem col3 (k : Fin 128) (h : 384 + k.val < 512) : (⟨384 + k.val, h⟩ : Fin 512) = col 3 k := Fin.ext (by simp [col])

/-- Four blocks of 128 columns side by side, read at a column of one of them. -/
theorem side {f : Fin 4 → Fin 128 → EReal} {a b c d : Fin 128 → EReal} (ha : ∀ k, a k = f 0 k) (hb : ∀ k, b k = f 1 k) (hc : ∀ k, c k = f 2 k)
    (hd : ∀ k, d k = f 3 k) (g : Fin 4) (k : Fin 128) :
    (if h : (col g k).val < 128 then a ⟨(col g k).val, h⟩ else if h : (col g k).val - 128 < 128 then b ⟨(col g k).val - 128, h⟩
      else if h : (col g k).val - 128 - 128 < 128 then c ⟨(col g k).val - 128 - 128, h⟩
      else d ⟨(col g k).val - 128 - 128 - 128, by have := (col g k).isLt; omega⟩) = f g k := by
  have hk := k.isLt
  rcases (by decide +revert : g = 0 ∨ g = 1 ∨ g = 2 ∨ g = 3) with rfl | rfl | rfl | rfl
  · have e : (col 0 k).val = k.val := by simp [col]
    exact (dif_pos (e ▸ hk)).trans ((ha _).trans (congrArg (f 0) (Fin.ext e)))
  · have e : (col 1 k).val = 128 + k.val := by simp [col]
    exact (dif_neg (by omega)).trans ((dif_pos (by omega)).trans ((hb _).trans (congrArg (f 1) (Fin.ext (by show (col 1 k).val - 128 = k.val; omega)))))
  · have e : (col 2 k).val = 256 + k.val := by simp [col]
    exact (dif_neg (by omega)).trans ((dif_neg (by omega)).trans ((dif_pos (by omega)).trans ((hc _).trans
      (congrArg (f 2) (Fin.ext (by show (col 2 k).val - 128 - 128 = k.val; omega))))))
  · have e : (col 3 k).val = 384 + k.val := by simp [col]
    exact (dif_neg (by omega)).trans ((dif_neg (by omega)).trans ((dif_neg (by omega)).trans ((hd _).trans
      (congrArg (f 3) (Fin.ext (by show (col 3 k).val - 128 - 128 - 128 = k.val; omega))))))

theorem pay26_at (P : Fin 4 → Fin 128 → EReal) (W : Fin 4 → Fin 128 → Fin 128 → EReal) (r : Fin 512) {v63 : FVec Ideal S512x128 .f32}
    {v72 v75 : FVec Ideal S128x128 .bf16} {v77 v79 : FVec Ideal S512x128 .f32} {v80 : FVec Ideal S512x128 .bf16}
    (h63 : ∀ k, v63 (ix2 r k) = P 3 k) (h72 : ∀ l k, v72 (ix2 l k) = W 2 l k) (h75 : ∀ l k, v75 (ix2 l k) = W 3 l k)
    (h77 : ∀ k, v77 (ix2 r k) = ∑ l, P 0 l * W 0 l k) (h79 : ∀ k, v79 (ix2 r k) = ∑ l, P 1 l * W 1 l k)
    (h80 : ∀ k, v80 (ix2 r k) = P 2 k) (g : Fin 4) (k : Fin 128) :
    k0_pay26 (F := Ideal) v63 v72 v75 v77 v79 v80 (constant S512x128 .f32 0x00000000#32) (ix2 r (col g k)) = ∑ l, P g l * W g l k := by
  pointwise [k0_pay26]
  exact side (f := fun g k => ∑ l, P g l * W g l k) (a := fun k => v77 (ix2 r k)) (b := fun k => v79 (ix2 r k))
    (c := fun k => ∑ l, v80 (ix2 r l) * v72 (ix2 l k)) (d := fun k => ∑ l, v63 (ix2 r l) * v75 (ix2 l k)) h77 h79
    (fun k => by simp only [h80, h72]) (fun k => by simp only [h63, h75]) g k

theorem pay1_at (f : Fin 4 → Fin 128 → EReal) (r : Fin 512) {a b c d : FVec Ideal S512x128 .f32} {v w : IVec S512x1 32}
    (ha : ∀ k, a (ix2 r k) = f 0 k) (hb : ∀ k, b (ix2 r k) = f 1 k) (hc : ∀ k, c (ix2 r k) = f 2 k)
    (hd : ∀ k, Ideal.div (d (ix2 r k)) (FloatOps.sitofp (F := Ideal) .f32 (IntOp.minsi (v (ix2 r 0)) (w (ix2 r 0)))) = f 3 k) (g : Fin 4) (k : Fin 128) :
    k0_pay1 (F := Ideal) a b c d v w (ix2 r (col g k)) = f g k := by
  pointwise [k0_pay1]
  exact side (f := f) (a := fun k => a (ix2 r k)) (b := fun k => b (ix2 r k)) (c := fun k => c (ix2 r k))
    (d := fun k => Ideal.div (d (ix2 r k)) (FloatOps.sitofp (F := Ideal) .f32 (IntOp.minsi (v (ix2 r 0)) (w (ix2 r 0))))) ha hb hc hd g k

theorem pay2_eq (a b c d e f g : FVec Ideal S512x128 .f32) (v11 : FVec Ideal S16x512 .f32)  (v w : IVec S512x1 32) (A : FVec Ideal S528x512 .f32)
   (hA : concatenate S528x512 0 [⟨S512x512, k0_pay1 b d f g v w⟩, ⟨S16x512, v11⟩] concatenates_S512x512_S16x512_S528x512_d0 = A) :
   k0_pay2 (F := Ideal) a b c d e f g v w v11 = truncf .bf16 (concatenate S512x512 1 [
     ⟨S512x128, subf (extractStridedSlice S512x128 ![0, 0] (rotAdd 527#32 A) slices_S528x512_o0_0_S512x128) a⟩,
     ⟨S512x128, subf (extractStridedSlice S512x128 ![0, 128] (rotAdd 526#32 (rotAdd 527#32 A)) slices_S528x512_o0_128_S512x128) c⟩,
     ⟨S512x128, subf (extractStridedSlice S512x128 ![0, 256] (rotAdd 524#32 (rotAdd 526#32 (rotAdd 527#32 A))) slices_S528x512_o0_256_S512x128) e⟩,
     ⟨S512x128, subf (extractStridedSlice S512x128 ![0, 384] (rotAdd 520#32 (rotAdd 524#32 (rotAdd 526#32 (rotAdd 527#32 A)))) slices_S528x512_o0_384_S512x128) g⟩]
     concatenates_S512x128_S512x128_S512x128_S512x128_S512x512_d1) bitsLt_bf16_f32 := by subst hA; rfl

/-- The gradient of the values that are pooled: the sums of the rows from a row on, less the row's own. -/
theorem pay2_at (X : Fin 4 → Fin 128 → ℕ → EReal) (q : Fin 4 → Fin 128 → EReal) {a b c d e f z : FVec Ideal S512x128 .f32} {v11 : FVec Ideal S16x512 .f32}
    {v w : IVec S512x1 32} (r : Fin 512) (h1 : ∀ (x : Fin 512) g k, k0_pay1 b d f z v w (ix2 x (col g k)) = X g k x.val)
    (h11 : ∀ (x : Fin 16) g k, v11 (ix2 x (col g k)) = X g k (512 + x.val))
    (ha : ∀ k, a (ix2 r k) = q 0 k) (hc : ∀ k, c (ix2 r k) = q 1 k) (he : ∀ k, e (ix2 r k) = q 2 k) (hz : ∀ k, z (ix2 r k) = q 3 k)
    (g : Fin 4) (k : Fin 128) :
    k0_pay2 (F := Ideal) a b c d e f z v w v11 (ix2 r (col g k)) = ahead (wlen g) (X g k) r.val - q g k := by
  obtain ⟨A, hA⟩ : ∃ A, concatenate S528x512 0 [⟨S512x512, k0_pay1 b d f z v w⟩, ⟨S16x512, v11⟩] concatenates_S512x512_S16x512_S528x512_d0 = A := ⟨_, rfl⟩
  have hr := r.isLt
  have hX : ∀ (x : Fin 528) g k, A (ix2 x (col g k)) = X g k x.val := by
    intro x g k
    rw [← hA]
    pointwise
    by_cases h : x.val < 512
    · exact (dif_pos h).trans (h1 ⟨x.val, h⟩ g k)
    · exact (dif_neg h).trans ((h11 ⟨x.val - 512, by omega⟩ g k).trans (congrArg (X g k) (by show 512 + (x.val - 512) = x.val; omega)))
  have s1 : ∀ g k (x : Fin 528), x.val + 2 ≤ 528 → rotAdd 527#32 A (ix2 x (col g k)) = ahead 2 (X g k) x.val := fun g k =>
    rotAdd_ahead _ 1 rfl (by omega) A _ _ fun x _ => by rw [hX, ahead_one]
  have s2 : ∀ g k (x : Fin 528), x.val + 4 ≤ 528 → rotAdd 526#32 (rotAdd 527#32 A) (ix2 x (col g k)) = ahead 4 (X g k) x.val := fun g k =>
    rotAdd_ahead _ 2 rfl (by omega) _ _ _ (s1 g k)
  have s3 : ∀ g k (x : Fin 528), x.val + 8 ≤ 528 → rotAdd 524#32 (rotAdd 526#32 (rotAdd 527#32 A)) (ix2 x (col g k)) = ahead 8 (X g k) x.val := fun g k =>
    rotAdd_ahead _ 4 rfl (by omega) _ _ _ (s2 g k)
  have s4 : ∀ g k (x : Fin 528), x.val + 16 ≤ 528 → rotAdd 520#32 (rotAdd 524#32 (rotAdd 526#32 (rotAdd 527#32 A))) (ix2 x (col g k)) = ahead 16 (X g k) x.val :=
    fun g k => rotAdd_ahead _ 8 rfl (by omega) _ _ _ (s3 g k)
  rw [pay2_eq _ _ _ _ _ _ _ _ _ _ _ hA]
  pointwise
  refine (congrArg (fun x => x) ?_ : _).trans (side (f := fun g k => ahead (wlen g) (X g k) r.val - q g k)
    (a := fun k => rotAdd 527#32 A (ix2 ⟨r.val, by omega⟩ ⟨k.val, by omega⟩) - a (ix2 r k))
    (b := fun k => rotAdd 526#32 (rotAdd 527#32 A) (ix2 ⟨r.val, by omega⟩ ⟨128 + k.val, by omega⟩) - c (ix2 r k))
    (c := fun k => rotAdd 524#32 (rotAdd 526#32 (rotAdd 527#32 A)) (ix2 ⟨r.val, by omega⟩ ⟨256 + k.val, by omega⟩) - e (ix2 r k))
    (d := fun k => rotAdd 520#32 (rotAdd 524#32 (rotAdd 526#32 (rotAdd 527#32 A))) (ix2 ⟨r.val, by omega⟩ ⟨384 + k.val, by omega⟩) - z (ix2 r k))
    (fun k => by rw [ha, col0, s1 _ _ _ (by show r.val + 2 ≤ 528; omega)]; rfl)
    (fun k => by rw [hc, col1, s2 _ _ _ (by show r.val + 4 ≤ 528; omega)]; rfl)
    (fun k => by rw [he, col2, s3 _ _ _ (by show r.val + 8 ≤ 528; omega)]; rfl)
    (fun k => by rw [hz, col3, s4 _ _ _ (by show r.val + 16 ≤ 528; omega)]; rfl) g k)
  rfl

/-- The row's number plus one, as the body computes it. -/
theorem rowno (t r : ℕ) (ht : t < 16) (hr : r < 512) :
    IntOp.addi (IntOp.addi (Scalar.muli (Scalar.subi 15#32 (BitVec.ofNat 32 t)) 512#32) (BitVec.ofNat 32 r)) 1#32 = BitVec.ofNat 32 ((15 - t) * 512 + r + 1) := by
  refine BitVec.eq_of_toNat_eq ?_
  simp [IntOp.addi, Scalar.muli, Scalar.subi, IntOp.muli, IntOp.subi, BitVec.toNat_add, BitVec.toNat_mul, BitVec.toNat_sub]
  omega

/-! ## A point's values -/

section Point

variable (c : Dev nD) (t : Fin cfg0.N) (r : Fin 512)

/-- The arguments. -/
abbrev aProj : FVec Ideal S8192x5120 .f32 := m ((c : Thread nD τ).loc main_arg0)
abbrev aPw : FVec Ideal S4x128x128 .f32 := m ((c : Thread nD τ).loc main_arg1)
abbrev aSc : FVec Ideal S512 .f32 := m ((c : Thread nD τ).loc main_arg2)
abbrev aWpu : FVec Ideal S512x1024 .f32 := m ((c : Thread nD τ).loc main_arg3)
abbrev aDp : FVec Ideal S8192x1024 .f32 := m ((c : Thread nD τ).loc main_arg4)

/-- The values that are pooled from sixteen rows above the block on, zero above the array. -/
def ext (g : Fin 4) (k : Fin 128) (x : ℕ) : EReal :=
  if (15 - t.val) * 512 + x < 16 then 0 else vals (aProj m c) g k ((15 - t.val) * 512 + x - 16)

theorem back_ext (n : ℕ) (hn : n ≤ 16) (g : Fin 4) (k : Fin 128) :
    back n (ext m c t g k) (16 + r.val) = window n (vals (aProj m c) g k) (row t r).val := by
  unfold back window
  refine Finset.sum_congr rfl fun s hs => ?_
  have hs := Finset.mem_range.mp hs
  unfold ext row
  by_cases h : s ≤ (15 - t.val) * 512 + r.val
  · rw [if_neg (by omega), if_pos h]
    exact congrArg _ (by show (15 - t.val) * 512 + (16 + r.val - s) - 16 = (15 - t.val) * 512 + r.val - s; omega)
  · rw [if_pos (by omega), if_neg h]

theorem pay9_pt (g : Fin 4) (k : Fin 128) (x : Fin 528) (hx : 2 ≤ x.val + 1) :
    k0_pay9 (F := Ideal) (grid0.coords t) (iblk m c 0 t) (iblk m c 1 t) (ix2 x (col g k)) = back 2 (ext m c t g k) x.val := by
  have ht := point_lt t
  refine pay9_at _ _ _ _ _ (by rw [coord]; exact ht) (fun r => ?_) (fun r => ?_) x hx
  · rw [blk0]; unfold ext
    rw [if_neg (by omega)]
    exact congrArg _ (by unfold row; show (15 - t.val) * 512 + r.val = _; omega)
  · rw [coord]; unfold ext
    split_ifs with h h2 h2
    · omega
    · exact blk1 m c t (by omega) r g k
    · rfl
    · omega

theorem pay10_pt (g : Fin 4) (k : Fin 128) (x : Fin 528) (hx : 4 ≤ x.val + 1) :
    k0_pay10 (F := Ideal) (grid0.coords t) (iblk m c 0 t) (iblk m c 1 t) (ix2 x (col g k)) = back 4 (ext m c t g k) x.val := by
  rw [pay10_eq]; exact rotAdd_back _ 2 rfl (by omega) (by omega) _ _ _ (pay9_pt m c t g k) x hx

theorem pay11_pt (g : Fin 4) (k : Fin 128) (x : Fin 528) (hx : 8 ≤ x.val + 1) :
    k0_pay11 (F := Ideal) (grid0.coords t) (iblk m c 0 t) (iblk m c 1 t) (ix2 x (col g k)) = back 8 (ext m c t g k) x.val := by
  rw [pay11_eq]; exact rotAdd_back _ 4 rfl (by omega) (by omega) _ _ _ (pay10_pt m c t g k) x hx

theorem pay12_pt (g : Fin 4) (k : Fin 128) (x : Fin 528) (hx : 16 ≤ x.val + 1) :
    k0_pay12 (F := Ideal) (grid0.coords t) (iblk m c 0 t) (iblk m c 1 t) (ix2 x (col g k)) = back 16 (ext m c t g k) x.val := by
  rw [pay12_eq]; exact rotAdd_back _ 8 rfl (by omega) (by omega) _ _ _ (pay11_pt m c t g k) x hx

theorem vals_row (g : Fin 4) (k : Fin 128) (n : Fin 8192) : vals (aProj m c) g k n.val = aProj m c (ix2 n ⟨128 * g.val + k.val, by omega⟩) := dif_pos n.isLt

theorem pool0 (k : Fin 128) : k0_pay13 (F := Ideal) (grid0.coords t) (iblk m c 0 t) (iblk m c 1 t) (ix2 r k) = pooled (aProj m c) (row t r) 0 k := by
  pointwise [k0_pay13, k0_pay8, k0_pay7]
  rw [coord, rowno _ _ (point_lt t) r.isLt, col0, blk0, pay9_pt _ _ _ _ _ _ (by show 2 ≤ 16 + r.val + 1; omega), back_ext _ _ _ _ _ (by omega), vals_row]
  rfl

theorem pool1 (k : Fin 128) : k0_pay16 (F := Ideal) (k0_pay7 (iblk m c 0 t)) (k0_pay14 (grid0.coords t)) (k0_pay15 (grid0.coords t) (iblk m c 0 t) (iblk m c 1 t)) (ix2 r k)
    = pooled (aProj m c) (row t r) 1 k := by
  pointwise [k0_pay16, k0_pay15, k0_pay14, k0_pay8, k0_pay7]
  rw [coord, rowno _ _ (point_lt t) r.isLt, col1, blk0, pay10_pt _ _ _ _ _ _ (by show 4 ≤ 16 + r.val + 1; omega), back_ext _ _ _ _ _ (by omega), vals_row]
  rfl

theorem pool2 (k : Fin 128) : k0_pay17 (F := Ideal) (k0_pay7 (iblk m c 0 t)) (k0_pay8 (grid0.coords t)) (k0_pay11 (grid0.coords t) (iblk m c 0 t) (iblk m c 1 t)) (ix2 r k)
    = pooled (aProj m c) (row t r) 2 k := by
  pointwise [k0_pay17, k0_pay8, k0_pay7]
  rw [coord, rowno _ _ (point_lt t) r.isLt, col2, blk0, pay11_pt _ _ _ _ _ _ (by show 8 ≤ 16 + r.val + 1; omega), back_ext _ _ _ _ _ (by omega), vals_row]
  rfl

theorem pool3 (k : Fin 128) : k0_pay18 (F := Ideal) (k0_pay7 (iblk m c 0 t)) (k0_pay8 (grid0.coords t)) (k0_pay12 (grid0.coords t) (iblk m c 0 t) (iblk m c 1 t)) (ix2 r k)
    = pooled (aProj m c) (row t r) 3 k := by
  pointwise [k0_pay18, k0_pay8, k0_pay7]
  rw [coord, rowno _ _ (point_lt t) r.isLt, col3, blk0, pay12_pt _ _ _ _ _ _ (by show 16 ≤ 16 + r.val + 1; omega), back_ext _ _ _ _ _ (by omega), vals_row]
  rfl

/-- The sigmoid, the gate's value, and the gradient of the branch's value. -/
theorem pay29_pt (j : Fin 512) : k0_pay29 (F := Ideal) (iblk m c 2 t) (ix2 r j) = sigm (zz (aProj m c) (row t r) j) := by
  pointwise [k0_pay29, k0_pay28]
  rw [blk2]; unfold sigm
  simp

theorem pay30_pt (j : Fin 512) : k0_pay30 (F := Ideal) (iblk m c 3 t) (iblk m c 4 t) (ix2 r j) = dyv (aWpu m c) (aDp m c) (row t r) j := by
  pointwise [k0_pay30]
  exact Finset.sum_congr rfl fun d _ => by rw [blk3, blk4]

theorem pay31_pt (g : Fin 4) (k : Fin 128) : k0_pay31 (F := Ideal) (iblk m c 2 t) (iblk m c 3 t) (iblk m c 4 t) (ix2 r (col g k))
    = dmp (aProj m c) (aWpu m c) (aDp m c) (row t r) g k := by
  pointwise [k0_pay31, k0_pay28]
  rw [pay30_pt, pay29_pt, blk2]; rfl

theorem pay36_pt (g : Fin 4) (k : Fin 128) :
    k0_pay36 (F := Ideal) (k0_pay27 (iblk m c 6 t)) (k0_pay31 (iblk m c 2 t) (iblk m c 3 t) (iblk m c 4 t)) (ix2 r (col g k))
      = dmixed (aProj m c) (aSc m c) (aWpu m c) (aDp m c) (row t r) g k := by
  pointwise [k0_pay36, k0_pay27]
  rw [pay31_pt, blk6]; rfl

theorem pw0 (l k : Fin 128) : k0_pay19 (F := Ideal) (View.ld (iblk m c 5 t) (Rect.unit ![0, 0, 0] ![1, 128, 128] inb_S4x128x128_S1x128x128_0_0_0)) (ix2 l k)
    = aPw m c (ix3 0 l k) := by
  pointwise [k0_pay19]; exact blk5 m c t 0 l k
theorem pw1 (l k : Fin 128) : k0_pay20 (F := Ideal) (View.ld (iblk m c 5 t) (Rect.unit ![1, 0, 0] ![1, 128, 128] inb_S4x128x128_S1x128x128_1_0_0)) (ix2 l k)
    = aPw m c (ix3 1 l k) := by
  pointwise [k0_pay20]; exact blk5 m c t 1 l k
theorem pw2 (l k : Fin 128) : k0_pay21 (F := Ideal) (View.ld (iblk m c 5 t) (Rect.unit ![2, 0, 0] ![1, 128, 128] inb_S4x128x128_S1x128x128_2_0_0)) (ix2 l k)
    = aPw m c (ix3 2 l k) := by
  pointwise [k0_pay21]; exact blk5 m c t 2 l k
theorem pw3 (l k : Fin 128) : k0_pay22 (F := Ideal) (View.ld (iblk m c 5 t) (Rect.unit ![3, 0, 0] ![1, 128, 128] inb_S4x128x128_S1x128x128_3_0_0)) (ix2 l k)
    = aPw m c (ix3 3 l k) := by
  pointwise [k0_pay22]; exact blk5 m c t 3 l k

/-- The pooled values through the groups' maps, as the body forms them. -/
theorem mixed_pt (g : Fin 4) (k : Fin 128) : k0_pay26 (F := Ideal)
      (k0_pay18 (k0_pay7 (iblk m c 0 t)) (k0_pay8 (grid0.coords t)) (k0_pay12 (grid0.coords t) (iblk m c 0 t) (iblk m c 1 t)))
      (k0_pay21 (View.ld (iblk m c 5 t) (Rect.unit ![2, 0, 0] ![1, 128, 128] inb_S4x128x128_S1x128x128_2_0_0)))
      (k0_pay22 (View.ld (iblk m c 5 t) (Rect.unit ![3, 0, 0] ![1, 128, 128] inb_S4x128x128_S1x128x128_3_0_0)))
      (k0_pay23 (k0_pay13 (grid0.coords t) (iblk m c 0 t) (iblk m c 1 t))
        (View.ld (iblk m c 5 t) (Rect.unit ![0, 0, 0] ![1, 128, 128] inb_S4x128x128_S1x128x128_0_0_0)))
      (k0_pay24 (k0_pay7 (iblk m c 0 t)) (k0_pay14 (grid0.coords t)) (k0_pay15 (grid0.coords t) (iblk m c 0 t) (iblk m c 1 t))
        (View.ld (iblk m c 5 t) (Rect.unit ![1, 0, 0] ![1, 128, 128] inb_S4x128x128_S1x128x128_1_0_0)))
      (k0_pay25 (k0_pay7 (iblk m c 0 t)) (k0_pay8 (grid0.coords t)) (k0_pay11 (grid0.coords t) (iblk m c 0 t) (iblk m c 1 t)))
      (constant S512x128 FTy.f32 0#32) (ix2 r (col g k)) = mixed (aProj m c) (aPw m c) (row t r) g k := by
  refine pay26_at (fun g l => pooled (aProj m c) (row t r) g l) (fun g l k => aPw m c (ix3 g l k)) r (pool3 m c t r) (pw2 m c t) (pw3 m c t)
    (fun k => ?_) (fun k => ?_) (fun k => ?_) g k
  · pointwise [k0_pay23]
    exact Finset.sum_congr rfl fun l _ => by rw [pool0, pw0]
  · pointwise [k0_pay24]
    exact Finset.sum_congr rfl fun l _ => by rw [pool1, pw1]
  · pointwise [k0_pay25]
    exact pool2 m c t r k

/-- The gradient of the pooled values, group by group. -/
theorem dpool0 (k : Fin 128) : k0_pay38 (F := Ideal) (k0_pay19 (View.ld (iblk m c 5 t) (Rect.unit ![0, 0, 0] ![1, 128, 128] inb_S4x128x128_S1x128x128_0_0_0)))
      (k0_pay27 (iblk m c 6 t)) (k0_pay31 (iblk m c 2 t) (iblk m c 3 t) (iblk m c 4 t)) (ix2 r k)
    = dpool (aProj m c) (aPw m c) (aSc m c) (aWpu m c) (aDp m c) (row t r) 0 k := by
  pointwise [k0_pay38]
  exact Finset.sum_congr rfl fun l _ => by rw [col0, pay36_pt, pw0]
theorem dpool1 (k : Fin 128) : k0_pay41 (F := Ideal) (k0_pay20 (View.ld (iblk m c 5 t) (Rect.unit ![1, 0, 0] ![1, 128, 128] inb_S4x128x128_S1x128x128_1_0_0)))
      (k0_pay27 (iblk m c 6 t)) (k0_pay31 (iblk m c 2 t) (iblk m c 3 t) (iblk m c 4 t)) (ix2 r k)
    = dpool (aProj m c) (aPw m c) (aSc m c) (aWpu m c) (aDp m c) (row t r) 1 k := by
  pointwise [k0_pay41]
  exact Finset.sum_congr rfl fun l _ => by rw [col1, pay36_pt, pw1]
theorem dpool2 (k : Fin 128) : k0_pay45 (F := Ideal) (k0_pay21 (View.ld (iblk m c 5 t) (Rect.unit ![2, 0, 0] ![1, 128, 128] inb_S4x128x128_S1x128x128_2_0_0)))
      (k0_pay36 (k0_pay27 (iblk m c 6 t)) (k0_pay31 (iblk m c 2 t) (iblk m c 3 t) (iblk m c 4 t))) (ix2 r k)
    = dpool (aProj m c) (aPw m c) (aSc m c) (aWpu m c) (aDp m c) (row t r) 2 k := by
  pointwise [k0_pay45]
  exact Finset.sum_congr rfl fun l _ => by rw [col2, pay36_pt, pw2]
theorem dpool3 (k : Fin 128) : k0_pay48 (F := Ideal) (k0_pay22 (View.ld (iblk m c 5 t) (Rect.unit ![3, 0, 0] ![1, 128, 128] inb_S4x128x128_S1x128x128_3_0_0)))
      (k0_pay36 (k0_pay27 (iblk m c 6 t)) (k0_pay31 (iblk m c 2 t) (iblk m c 3 t) (iblk m c 4 t))) (ix2 r k)
    = dpool (aProj m c) (aPw m c) (aSc m c) (aWpu m c) (aDp m c) (row t r) 3 k := by
  pointwise [k0_pay48]
  exact Finset.sum_congr rfl fun l _ => by rw [col3, pay36_pt, pw3]

theorem dsum_row (g : Fin 4) (k : Fin 128) (n : Fin 8192) : dsum (aProj m c) (aPw m c) (aSc m c) (aWpu m c) (aDp m c) g k n.val
    = Ideal.div (dpool (aProj m c) (aPw m c) (aSc m c) (aWpu m c) (aDp m c) n g k) (cnt g n) := dif_pos n.isLt

theorem dsum_out (g : Fin 4) (k : Fin 128) (n : ℕ) (h : 8192 ≤ n) : dsum (aProj m c) (aPw m c) (aSc m c) (aWpu m c) (aDp m c) g k n = 0 := dif_neg (by omega)

/-- The gradient of the windows' sums, as the body forms it. -/
theorem dsum_pt (g : Fin 4) (k : Fin 128) : k0_pay1 (F := Ideal)
      (k0_pay39 (k0_pay8 (grid0.coords t)) (k0_pay19 (View.ld (iblk m c 5 t) (Rect.unit ![0, 0, 0] ![1, 128, 128] inb_S4x128x128_S1x128x128_0_0_0)))
        (k0_pay27 (iblk m c 6 t)) (k0_pay31 (iblk m c 2 t) (iblk m c 3 t) (iblk m c 4 t)))
      (k0_pay43 (k0_pay41 (k0_pay20 (View.ld (iblk m c 5 t) (Rect.unit ![1, 0, 0] ![1, 128, 128] inb_S4x128x128_S1x128x128_1_0_0)))
        (k0_pay27 (iblk m c 6 t)) (k0_pay31 (iblk m c 2 t) (iblk m c 3 t) (iblk m c 4 t))) (k0_pay42 (k0_pay8 (grid0.coords t))))
      (k0_pay46 (k0_pay8 (grid0.coords t)) (k0_pay21 (View.ld (iblk m c 5 t) (Rect.unit ![2, 0, 0] ![1, 128, 128] inb_S4x128x128_S1x128x128_2_0_0)))
        (k0_pay36 (k0_pay27 (iblk m c 6 t)) (k0_pay31 (iblk m c 2 t) (iblk m c 3 t) (iblk m c 4 t))))
      (k0_pay48 (k0_pay22 (View.ld (iblk m c 5 t) (Rect.unit ![3, 0, 0] ![1, 128, 128] inb_S4x128x128_S1x128x128_3_0_0)))
        (k0_pay36 (k0_pay27 (iblk m c 6 t)) (k0_pay31 (iblk m c 2 t) (iblk m c 3 t) (iblk m c 4 t))))
      (k0_pay49 (k0_pay8 (grid0.coords t))) k0_pay50 (ix2 r (col g k))
    = dsum (aProj m c) (aPw m c) (aSc m c) (aWpu m c) (aDp m c) g k (row t r).val := by
  have ht := point_lt t
  refine pay1_at (fun g k => dsum (aProj m c) (aPw m c) (aSc m c) (aWpu m c) (aDp m c) g k (row t r).val) r
    (fun k => ?_) (fun k => ?_) (fun k => ?_) (fun k => ?_) g k
  · pointwise [k0_pay39, k0_pay8]
    rw [coord, rowno _ _ ht r.isLt, dpool0, dsum_row]; rfl
  · pointwise [k0_pay43, k0_pay42, k0_pay8]
    rw [coord, rowno _ _ ht r.isLt, dpool1, dsum_row]; rfl
  · pointwise [k0_pay46, k0_pay8]
    rw [coord, rowno _ _ ht r.isLt, dpool2, dsum_row]; rfl
  · pointwise [k0_pay49, k0_pay50, k0_pay8]
    rw [coord, rowno _ _ ht r.isLt, dpool3, dsum_row]; rfl

/-! ## What a point leaves -/

/-- The rows that a point leaves for the next: the first sixteen of its block. -/
theorem halo_pt (x : Fin 16) (g : Fin 4) (k : Fin 128) : (outsAt0 m c t.val t.isLt).2.2.2.2 (ix2 x (col g k))
    = dsum (aProj m c) (aPw m c) (aSc m c) (aWpu m c) (aDp m c) g k ((15 - t.val) * 512 + x.val) := by
  by_cases h : t.val % 16 = 0
  · rw [outsAt0_A m c t h]; frame_out
    pointwise [k0_pay3]
    exact dsum_pt m c t ⟨x.val, by omega⟩ g k
  · rw [outsAt0_B m c t h]; frame_out
    pointwise [k0_pay3]
    exact dsum_pt m c t ⟨x.val, by omega⟩ g k

theorem outs7 (g : Fin 4) (k : Fin 128) : (outsAt0 m c t.val t.isLt).1 (ix2 r (col g k))
    = du (aProj m c) (aPw m c) (aSc m c) (aWpu m c) (aDp m c) (row t r) g k := by
  have ht := point_lt t
  have e : ahead (wlen g) (fun x => dsum (aProj m c) (aPw m c) (aSc m c) (aWpu m c) (aDp m c) g k ((15 - t.val) * 512 + x)) r.val
      = ahead (wlen g) (dsum (aProj m c) (aPw m c) (aSc m c) (aWpu m c) (aDp m c) g k) (row t r).val :=
    Finset.sum_congr rfl fun s _ => congrArg _ (by show (15 - t.val) * 512 + (r.val + s) = (15 - t.val) * 512 + r.val + s; omega)
  unfold du; rw [← e]
  by_cases h : t.val % 16 = 0
  · rw [outsAt0_A m c t h]; frame_out
    refine pay2_at (fun g k x => dsum (aProj m c) (aPw m c) (aSc m c) (aWpu m c) (aDp m c) g k ((15 - t.val) * 512 + x))
      (fun g k => dpool (aProj m c) (aPw m c) (aSc m c) (aWpu m c) (aDp m c) (row t r) g k) r (fun x g k => dsum_pt m c t x g k)
      (fun x g k => ?_) (dpool0 m c t r) (dpool1 m c t r) (dpool2 m c t r) (dpool3 m c t r) g k
    pointwise [k0_pay4]
    exact (dsum_out m c g k _ (by have h' := h; omega)).symm
  · rw [outsAt0_B m c t h]; frame_out
    refine pay2_at (fun g k x => dsum (aProj m c) (aPw m c) (aSc m c) (aWpu m c) (aDp m c) g k ((15 - t.val) * 512 + x))
      (fun g k => dpool (aProj m c) (aPw m c) (aSc m c) (aWpu m c) (aDp m c) (row t r) g k) r (fun x g k => dsum_pt m c t x g k)
      (fun x g k => ?_) (dpool0 m c t r) (dpool1 m c t r) (dpool2 m c t r) (dpool3 m c t r) g k
    rw [read_unread_whole]
    refine (halo_pt m c ⟨t.val - 1, Nat.lt_of_le_of_lt (Nat.sub_le _ _) t.isLt⟩ x g k).trans (congrArg _ ?_)
    show (15 - (t.val - 1)) * 512 + x.val = (15 - t.val) * 512 + (512 + x.val)
    omega

theorem pay32_pt (g : Fin 4) (k : Fin 128) {v63 : FVec Ideal S512x128 .f32}
    {v72 v75 : FVec Ideal S128x128 .bf16} {v77 v79 : FVec Ideal S512x128 .f32} {v80 : FVec Ideal S512x128 .bf16}
    (h : k0_pay26 (F := Ideal) v63 v72 v75 v77 v79 v80 (constant S512x128 .f32 0x00000000#32) (ix2 r (col g k)) = mixed (aProj m c) (aPw m c) (row t r) g k) :
    k0_pay32 (F := Ideal) v63 v72 v75 v77 v79 v80 (constant S512x128 .f32 0x00000000#32) (iblk m c 6 t) (iblk m c 2 t) (iblk m c 3 t) (iblk m c 4 t) (ix2 r (col g k))
      = dz (aProj m c) (aPw m c) (aSc m c) (aWpu m c) (aDp m c) (row t r) g k := by
  pointwise [k0_pay32, k0_pay27, k0_pay28]
  rw [h, pay30_pt, pay29_pt, blk2, blk6]
  unfold dz
  simp

theorem outs8 (g : Fin 4) (k : Fin 128) : (outsAt0 m c t.val t.isLt).2.1 (ix2 r (col g k))
    = dz (aProj m c) (aPw m c) (aSc m c) (aWpu m c) (aDp m c) (row t r) g k := by
  by_cases h : t.val % 16 = 0
  · rw [outsAt0_A m c t h]; frame_out
    exact pay32_pt m c t r g k (mixed_pt m c t r g k)
  · rw [outsAt0_B m c t h]; frame_out
    exact pay32_pt m c t r g k (mixed_pt m c t r g k)

theorem pay35_pt (A : FVec Ideal S1x512 .f32) (g : Fin 4) (k : Fin 128) {v63 : FVec Ideal S512x128 .f32}
    {v72 v75 : FVec Ideal S128x128 .bf16} {v77 v79 : FVec Ideal S512x128 .f32} {v80 : FVec Ideal S512x128 .bf16}
    (h : ∀ r, k0_pay26 (F := Ideal) v63 v72 v75 v77 v79 v80 (constant S512x128 .f32 0x00000000#32) (ix2 r (col g k)) = mixed (aProj m c) (aPw m c) (row t r) g k) :
    k0_pay35 (F := Ideal) (k0_pay33 A) (k0_pay34 v63 v72 v75 v77 v79 v80 (constant S512x128 .f32 0x00000000#32) (iblk m c 2 t) (iblk m c 3 t) (iblk m c 4 t)) (ix2 0 (col g k))
      = A (ix2 0 (col g k)) + ∑ r : Fin 512, dmp (aProj m c) (aWpu m c) (aDp m c) (row t r) g k * mixed (aProj m c) (aPw m c) (row t r) g k := by
  pointwise [k0_pay35, k0_pay33, k0_pay34]
  exact congrArg _ (Finset.sum_congr rfl fun r _ => by rw [h, pay31_pt])

theorem outs10_A (h : t.val % 16 = 0) (y : S1x512.Idx) : (outsAt0 m c t.val t.isLt).2.2.2.1 y
    = 0 + ∑ r : Fin 512, dmp (aProj m c) (aWpu m c) (aDp m c) (row t r) (grp (y 1)) (lane (y 1)) * mixed (aProj m c) (aPw m c) (row t r) (grp (y 1)) (lane (y 1)) := by
  idx_vars y
  obtain rfl : y0 = 0 := Subsingleton.elim _ _
  show _ = 0 + ∑ r : Fin 512, dmp (aProj m c) (aWpu m c) (aDp m c) (row t r) (grp y1) (lane y1) * mixed (aProj m c) (aPw m c) (row t r) (grp y1) (lane y1)
  obtain ⟨g, k, rfl⟩ : ∃ g k, y1 = col g k := ⟨_, _, (col_grp_lane y1).symm⟩
  rw [grp_col, lane_col]
  rw [outsAt0_A m c t h]; frame_out
  refine (pay35_pt m c t _ g k fun r => mixed_pt m c t r g k).trans (congrArg (· + _) ?_)
  pointwise [k0_pay6]

theorem outs10_B (h : ¬ t.val % 16 = 0) (y : S1x512.Idx) : (outsAt0 m c t.val t.isLt).2.2.2.1 y
    = (outsAt0 m c (t.val - 1) (Nat.lt_of_le_of_lt (Nat.sub_le _ _) t.isLt)).2.2.2.1 y
      + ∑ r : Fin 512, dmp (aProj m c) (aWpu m c) (aDp m c) (row t r) (grp (y 1)) (lane (y 1)) * mixed (aProj m c) (aPw m c) (row t r) (grp (y 1)) (lane (y 1)) := by
  idx_vars y
  obtain rfl : y0 = 0 := Subsingleton.elim _ _
  show _ = _ + ∑ r : Fin 512, dmp (aProj m c) (aWpu m c) (aDp m c) (row t r) (grp y1) (lane y1) * mixed (aProj m c) (aPw m c) (row t r) (grp y1) (lane y1)
  obtain ⟨g, k, rfl⟩ : ∃ g k, y1 = col g k := ⟨_, _, (col_grp_lane y1).symm⟩
  rw [grp_col, lane_col]
  rw [outsAt0_B m c t h]; frame_out
  exact pay35_pt m c t _ g k fun r => mixed_pt m c t r g k

end Point

theorem pay37_apply (P : FVec Ideal S512x128 .f32) (s : FVec Ideal S1x512 .f32) (d : FVec Ideal S512x512 .f32) (A : FVec Ideal S1x128x128 .f32) (l k : Fin 128) :
    k0_pay37 (F := Ideal) P s d A (ix3 0 l k) = A (ix3 0 l k) + ∑ r : Fin 512, P (ix2 r l) * k0_pay36 s d (ix2 r (col 0 k)) := by
  pointwise [k0_pay37]; simp only [col0]

theorem pay40_apply (P : FVec Ideal S512x128 .f32) (s : FVec Ideal S1x512 .f32) (d : FVec Ideal S512x512 .f32) (A : FVec Ideal S1x128x128 .f32) (l k : Fin 128) :
    k0_pay40 (F := Ideal) P s d A (ix3 0 l k) = A (ix3 0 l k) + ∑ r : Fin 512, P (ix2 r l) * k0_pay36 s d (ix2 r (col 1 k)) := by
  pointwise [k0_pay40]; simp only [col1]

theorem pay44_apply (P : FVec Ideal S512x128 .f32) (d : FVec Ideal S512x512 .bf16) (A : FVec Ideal S1x128x128 .f32) (l k : Fin 128) :
    k0_pay44 (F := Ideal) P d A (ix3 0 l k) = A (ix3 0 l k) + ∑ r : Fin 512, P (ix2 r l) * d (ix2 r (col 2 k)) := by
  pointwise [k0_pay44]; simp only [col2]

theorem pay47_apply (P : FVec Ideal S512x128 .f32) (d : FVec Ideal S512x512 .bf16) (A : FVec Ideal S1x128x128 .f32) (l k : Fin 128) :
    k0_pay47 (F := Ideal) P d A (ix3 0 l k) = A (ix3 0 l k) + ∑ r : Fin 512, P (ix2 r l) * d (ix2 r (col 3 k)) := by
  pointwise [k0_pay47]; simp only [col3]

section Maps

variable (c : Dev nD) (t : Fin cfg0.N)

/-- What a point adds to the gradient of the groups' maps. -/
def dpwPart (y : S4x128x128.Idx) : EReal :=
  ∑ r : Fin 512, pooled (aProj m c) (row t r) (y 0) (y 1) * dmixed (aProj m c) (aSc m c) (aWpu m c) (aDp m c) (row t r) (y 0) (y 2)

/-- The four stores of the maps' block: each adds its group's part to what the buffer held. -/
theorem dpw_pieces (A0 A1 A2 A3 : FVec Ideal S1x128x128 .f32) (P : FVec Ideal S4x128x128 .f32)
    (h0 : ∀ l k, A0 (ix3 0 l k) = P (ix3 0 l k)) (h1 : ∀ l k, A1 (ix3 0 l k) = P (ix3 1 l k))
    (h2 : ∀ l k, A2 (ix3 0 l k) = P (ix3 2 l k)) (h3 : ∀ l k, A3 (ix3 0 l k) = P (ix3 3 l k)) :
    View.PiecesOf (Val := Elt Ideal) (e := .f32) (s := S4x128x128) (fun y => P y + dpwPart m c t y)
      [⟨Rect.unit (s := S4x128x128) ![3, 0, 0] ![1, 128, 128] inb_S4x128x128_S1x128x128_3_0_0, k0_pay47 (k0_pay18 (k0_pay7 (iblk m c 0 t)) (k0_pay8 (grid0.coords t)) (k0_pay12 (grid0.coords t) (iblk m c 0 t) (iblk m c 1 t)))
        (k0_pay36 (k0_pay27 (iblk m c 6 t)) (k0_pay31 (iblk m c 2 t) (iblk m c 3 t) (iblk m c 4 t))) A3⟩,
      ⟨Rect.unit (s := S4x128x128) ![2, 0, 0] ![1, 128, 128] inb_S4x128x128_S1x128x128_2_0_0, k0_pay44 (k0_pay17 (k0_pay7 (iblk m c 0 t)) (k0_pay8 (grid0.coords t)) (k0_pay11 (grid0.coords t) (iblk m c 0 t) (iblk m c 1 t)))
        (k0_pay36 (k0_pay27 (iblk m c 6 t)) (k0_pay31 (iblk m c 2 t) (iblk m c 3 t) (iblk m c 4 t))) A2⟩,
      ⟨Rect.unit (s := S4x128x128) ![1, 0, 0] ![1, 128, 128] inb_S4x128x128_S1x128x128_1_0_0, k0_pay40 (k0_pay16 (k0_pay7 (iblk m c 0 t)) (k0_pay14 (grid0.coords t)) (k0_pay15 (grid0.coords t) (iblk m c 0 t) (iblk m c 1 t)))
        (k0_pay27 (iblk m c 6 t)) (k0_pay31 (iblk m c 2 t) (iblk m c 3 t) (iblk m c 4 t)) A1⟩,
      ⟨Rect.unit (s := S4x128x128) ![0, 0, 0] ![1, 128, 128] inb_S4x128x128_S1x128x128_0_0_0, k0_pay37 (k0_pay13 (grid0.coords t) (iblk m c 0 t) (iblk m c 1 t)) (k0_pay27 (iblk m c 6 t))
        (k0_pay31 (iblk m c 2 t) (iblk m c 3 t) (iblk m c 4 t)) A0⟩] := by
  refine ⟨fun x => ?_, fun x => ?_, fun x => ?_, fun x => ?_, trivial⟩
  · obtain ⟨l, k, rfl⟩ : ∃ l k : Fin 128, x = ix3 0 l k := ⟨x 1, x 2, by idx_vars x; rw [Subsingleton.elim x0 0]⟩
    have e : (Rect.unit (s := S4x128x128) ![3, 0, 0] ![1, 128, 128] inb_S4x128x128_S1x128x128_3_0_0).emb (ix3 0 l k) = ix3 3 l k := by
      blk_ext
    rw [e]
    refine (pay47_apply _ _ _ l k).trans ?_
    rw [h3]
    exact congrArg _ (Finset.sum_congr rfl fun r _ => by rw [pay36_pt, pool3]; rfl)
  · obtain ⟨l, k, rfl⟩ : ∃ l k : Fin 128, x = ix3 0 l k := ⟨x 1, x 2, by idx_vars x; rw [Subsingleton.elim x0 0]⟩
    have e : (Rect.unit (s := S4x128x128) ![2, 0, 0] ![1, 128, 128] inb_S4x128x128_S1x128x128_2_0_0).emb (ix3 0 l k) = ix3 2 l k := by
      blk_ext
    rw [e]
    refine (pay44_apply _ _ _ l k).trans ?_
    rw [h2]
    exact congrArg _ (Finset.sum_congr rfl fun r _ => by rw [pay36_pt, pool2]; rfl)
  · obtain ⟨l, k, rfl⟩ : ∃ l k : Fin 128, x = ix3 0 l k := ⟨x 1, x 2, by idx_vars x; rw [Subsingleton.elim x0 0]⟩
    have e : (Rect.unit (s := S4x128x128) ![1, 0, 0] ![1, 128, 128] inb_S4x128x128_S1x128x128_1_0_0).emb (ix3 0 l k) = ix3 1 l k := by
      blk_ext
    rw [e]
    refine (pay40_apply _ _ _ _ l k).trans ?_
    rw [h1]
    exact congrArg _ (Finset.sum_congr rfl fun r _ => by rw [pay36_pt, pool1]; rfl)
  · obtain ⟨l, k, rfl⟩ : ∃ l k : Fin 128, x = ix3 0 l k := ⟨x 1, x 2, by idx_vars x; rw [Subsingleton.elim x0 0]⟩
    have e : (Rect.unit (s := S4x128x128) ![0, 0, 0] ![1, 128, 128] inb_S4x128x128_S1x128x128_0_0_0).emb (ix3 0 l k) = ix3 0 l k := by
      blk_ext
    rw [e]
    refine (pay37_apply _ _ _ _ l k).trans ?_
    rw [h0]
    exact congrArg _ (Finset.sum_congr rfl fun r _ => by rw [pay36_pt, pool0]; rfl)

theorem dpw_cover (p3 : (Rect.unit (s := S4x128x128) ![3, 0, 0] ![1, 128, 128] inb_S4x128x128_S1x128x128_3_0_0).shape.Idx → Elt Ideal .f32)
    (p2 : (Rect.unit (s := S4x128x128) ![2, 0, 0] ![1, 128, 128] inb_S4x128x128_S1x128x128_2_0_0).shape.Idx → Elt Ideal .f32)
    (p1 : (Rect.unit (s := S4x128x128) ![1, 0, 0] ![1, 128, 128] inb_S4x128x128_S1x128x128_1_0_0).shape.Idx → Elt Ideal .f32)
    (p0 : (Rect.unit (s := S4x128x128) ![0, 0, 0] ![1, 128, 128] inb_S4x128x128_S1x128x128_0_0_0).shape.Idx → Elt Ideal .f32) (y : S4x128x128.Idx) :
    ∃ p ∈ ([⟨Rect.unit (s := S4x128x128) ![3, 0, 0] ![1, 128, 128] inb_S4x128x128_S1x128x128_3_0_0, p3⟩,
      ⟨Rect.unit (s := S4x128x128) ![2, 0, 0] ![1, 128, 128] inb_S4x128x128_S1x128x128_2_0_0, p2⟩,
      ⟨Rect.unit (s := S4x128x128) ![1, 0, 0] ![1, 128, 128] inb_S4x128x128_S1x128x128_1_0_0, p1⟩,
      ⟨Rect.unit (s := S4x128x128) ![0, 0, 0] ![1, 128, 128] inb_S4x128x128_S1x128x128_0_0_0, p0⟩] : List (View.Piece (Elt Ideal) S4x128x128 .f32)),
      y ∈ p.1.set :=
  View.cover_of_tiledL (s := S4x128x128) _ S1x128x128.size (by sl_kernel_rfl) y

theorem outs9_A (h : t.val % 16 = 0) (y : S4x128x128.Idx) : (outsAt0 m c t.val t.isLt).2.2.1 y = 0 + dpwPart m c t y := by
  rw [outsAt0_A m c t h]; frame_out
  refine (View.canon_append_of_piecesOf _ [_] _ (dpw_pieces m c t _ _ _ _ (fun _ => 0) ?_ ?_ ?_ ?_) y (dpw_cover _ _ _ _ y))
  · intro l k
    rw [View.readCov_fill _ _ _ _ _ (by decide)]
    pointwise [k0_pay5]
  · intro l k
    rw [View.readCov_skip _ _ _ _ _ (by decide), View.readCov_fill _ _ _ _ _ (by decide)]
    pointwise [k0_pay5]
  · intro l k
    rw [View.readCov_skip _ _ _ _ _ (by decide), View.readCov_skip _ _ _ _ _ (by decide), View.readCov_fill _ _ _ _ _ (by decide)]
    pointwise [k0_pay5]
  · intro l k
    rw [View.readCov_skip _ _ _ _ _ (by decide), View.readCov_skip _ _ _ _ _ (by decide), View.readCov_skip _ _ _ _ _ (by decide), View.readCov_fill _ _ _ _ _ (by decide)]
    pointwise [k0_pay5]

theorem outs9_B (h : ¬ t.val % 16 = 0) (y : S4x128x128.Idx) : (outsAt0 m c t.val t.isLt).2.2.1 y
    = (outsAt0 m c (t.val - 1) (Nat.lt_of_le_of_lt (Nat.sub_le _ _) t.isLt)).2.2.1 y + dpwPart m c t y := by
  rw [outsAt0_B m c t h]; frame_out
  refine (View.canon_append_of_piecesOf _ [] _ (dpw_pieces m c t _ _ _ _ (outsAt0 m c (t.val - 1) (Nat.lt_of_le_of_lt (Nat.sub_le _ _) t.isLt)).2.2.1 ?_ ?_ ?_ ?_) y (dpw_cover _ _ _ _ y))
  · intro l k
    refine congrArg (outsAt0 m c (t.val - 1) (Nat.lt_of_le_of_lt (Nat.sub_le _ _) t.isLt)).2.2.1 (?_ : (Rect.unit (s := S4x128x128) ![0, 0, 0] ![1, 128, 128] inb_S4x128x128_S1x128x128_0_0_0).emb (ix3 0 l k) = ix3 0 l k)
    blk_ext
  · intro l k
    refine congrArg (outsAt0 m c (t.val - 1) (Nat.lt_of_le_of_lt (Nat.sub_le _ _) t.isLt)).2.2.1 (?_ : (Rect.unit (s := S4x128x128) ![1, 0, 0] ![1, 128, 128] inb_S4x128x128_S1x128x128_1_0_0).emb (ix3 0 l k) = ix3 1 l k)
    blk_ext
  · intro l k
    refine congrArg (outsAt0 m c (t.val - 1) (Nat.lt_of_le_of_lt (Nat.sub_le _ _) t.isLt)).2.2.1 (?_ : (Rect.unit (s := S4x128x128) ![2, 0, 0] ![1, 128, 128] inb_S4x128x128_S1x128x128_2_0_0).emb (ix3 0 l k) = ix3 2 l k)
    blk_ext
  · intro l k
    refine congrArg (outsAt0 m c (t.val - 1) (Nat.lt_of_le_of_lt (Nat.sub_le _ _) t.isLt)).2.2.1 (?_ : (Rect.unit (s := S4x128x128) ![3, 0, 0] ![1, 128, 128] inb_S4x128x128_S1x128x128_3_0_0).emb (ix3 0 l k) = ix3 3 l k)
    blk_ext

end Maps

/-! ## The arrays after the run -/

/-- The points go over the rows from the last block to the first, each row once. -/
theorem sum_rows (f : Fin 8192 → EReal) : ∑ t : Fin cfg0.N, ∑ r : Fin 512, f (row t r) = ∑ n : Fin 8192, f n := by
  refine (Equiv.sum_comp Fin.revPerm (fun t => ∑ r : Fin 512, f (row t r))).symm.trans ?_
  refine Fin.sum_mul_add_congr (fun s k hl => ?_) (congrArg (· * 512) N_0.symm)
  refine congrArg f (Fin.ext ?_)
  show (15 - (cfg0.N - (s.val + 1))) * 512 + k.val = s.val * 512 + k.val
  have h := point_lt s
  have e : cfg0.N - (s.val + 1) = 16 - (s.val + 1) := congrArg (· - (s.val + 1)) N_0
  rw [e]; omega

section Final

variable (c : Dev nD)

theorem final7 : (dats m 0 c).arrAt 7 cfg0.N = duArr (aProj m c) (aPw m c) (aSc m c) (aWpu m c) (aDp m c) := by
  refine (dats m 0 c).arrAt_eq_of_covers 7 _ (by decide +kernel) fun t _ y => ?_
  blk_simp
  rw [after0_7]
  idx_vars y
  obtain ⟨g, k, rfl⟩ : ∃ g k, y1 = col g k := ⟨_, _, (col_grp_lane y1).symm⟩
  refine (outs7 m c t y0 g k).trans ?_
  refine Eq.trans ?_ (congrArg (duArr _ _ _ _ _) (a₁ := ix2 (row t y0) (col g k)) ?_)
  · show _ = du _ _ _ _ _ (row t y0) (grp (col g k)) (lane (col g k))
    rw [grp_col, lane_col]
  · blk_ext [idx t, row]

theorem final8 : (dats m 0 c).arrAt 8 cfg0.N = dzArr (aProj m c) (aPw m c) (aSc m c) (aWpu m c) (aDp m c) := by
  refine (dats m 0 c).arrAt_eq_of_covers 8 _ (by decide +kernel) fun t _ y => ?_
  blk_simp
  rw [after0_8]
  idx_vars y
  obtain ⟨g, k, rfl⟩ : ∃ g k, y1 = col g k := ⟨_, _, (col_grp_lane y1).symm⟩
  refine (outs8 m c t y0 g k).trans ?_
  refine Eq.trans ?_ (congrArg (dzArr _ _ _ _ _) (a₁ := ix2 (row t y0) (col g k)) ?_)
  · show _ = dz _ _ _ _ _ (row t y0) (grp (col g k)) (lane (col g k))
    rw [grp_col, lane_col]
  · blk_ext [idx t, row]

theorem final9 : (dats m 0 c).arrAt 9 cfg0.N = dpwArr (aProj m c) (aSc m c) (aWpu m c) (aDp m c) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun t y => dpwPart m c t y) (fun t h j => outs9_A m c t h j) (fun t h j => outs9_B m c t h j)
    (le_of_eq N_0) t0_15 rfl j, zero_add]
  exact sum_rows (fun n => pooled (aProj m c) n (j 0) (j 1) * dmixed (aProj m c) (aSc m c) (aWpu m c) (aDp m c) n (j 0) (j 2))

theorem final10 : (dats m 0 c).arrAt 10 cfg0.N = dscArr (aProj m c) (aPw m c) (aWpu m c) (aDp m c) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0)
    (fun t y => ∑ r : Fin 512, dmp (aProj m c) (aWpu m c) (aDp m c) (row t r) (grp (y 1)) (lane (y 1)) * mixed (aProj m c) (aPw m c) (row t r) (grp (y 1)) (lane (y 1)))
    (fun t h j => outs10_A m c t h j) (fun t h j => outs10_B m c t h j)
    (le_of_eq N_0) t0_15 rfl j, zero_add]
  exact sum_rows (fun n => dmp (aProj m c) (aWpu m c) (aDp m c) n (grp (j 1)) (lane (j 1)) * mixed (aProj m c) (aPw m c) n (grp (j 1)) (lane (j 1)))

end Final

end Cert.PoolIdeal.Value

end
-- ==== Proof.PoolRef.lean ====
/-
  The pooling branch's reference at the extended reals: what its results hold at an index, and that these are the functions
  that the backward call's arrays hold.
-/
module

public import proofs.«01_k».proof.Proof.PoolValue
public import proofs.«01_k».proof.Proof.Gen.PoolRefIdeal.Run

@[expose] public section

set_option maxRecDepth 16384

noncomputable section

open Idealize.ShloMosaic Idealize.ShloMosaic.TcCoe Idealize.SL.Sem

namespace Cert.PoolRefIdeal.Value

open Cert.PoolRefIdeal Cert.PoolRefIdeal.Gen Cert.Reals
open Cert.PoolIdeal.Value (vals cnt pooled mixed dyv zz sigm dmp dmixed dpool dsum du dz col grp lane wlen)

/-! ## Real numbers -/

theorem cnt_real (g : Fin 4) (n : Fin 8192) : ∃ q : ℝ, q ≠ 0 ∧ cnt g n = (q : EReal) := by
  have hw : ∀ g : Fin 4, 0 < (BitVec.ofNat 32 (wlen g)).toInt := by decide
  have hn : 0 < (BitVec.ofNat 32 (n.val + 1)).toInt := by
    have := n.isLt
    rw [BitVec.toInt_eq_toNat_of_lt (by rw [BitVec.toNat_ofNat]; omega), BitVec.toNat_ofNat]
    omega
  refine ⟨((IntOp.minsi (BitVec.ofNat 32 (n.val + 1)) (BitVec.ofNat 32 (wlen g))).toInt : ℝ), ?_, rfl⟩
  unfold IntOp.minsi
  split_ifs
  · exact_mod_cast ne_of_gt hn
  · exact_mod_cast ne_of_gt (hw g)

theorem div_cnt {x : EReal} (hx : IsReal x) (g : Fin 4) (n : Fin 8192) : IsReal (Ideal.div x (cnt g n)) := by
  obtain ⟨q, hq, e⟩ := cnt_real g n
  obtain ⟨r, rfl⟩ := hx
  rw [e, div_coe_coe _ _ hq]
  exact isReal_coe _

variable (V0 : Valuation τ sig (Elt Ideal))

abbrev bProj : FVec Ideal S8192x5120 .f32 := V0 (Proc.devRef .tc main_arg0)
abbrev bPw : FVec Ideal S4x128x128 .f32 := V0 (Proc.devRef .tc main_arg1)
abbrev bSc : FVec Ideal S512 .f32 := V0 (Proc.devRef .tc main_arg2)
abbrev bWpu : FVec Ideal S512x1024 .f32 := V0 (Proc.devRef .tc main_arg3)
abbrev bDp : FVec Ideal S8192x1024 .f32 := V0 (Proc.devRef .tc main_arg4)

theorem win (w : ℕ) {f : ℕ → EReal} (hf : ∀ i, IsReal (f i)) (n : ℕ) :
    (∑ i ∈ Finset.range (n + 1), f i - if n < w then 0 else ∑ i ∈ Finset.range (n - w + 1), f i) = window w f n := by
  rw [← window_eq_sub w f hf n]
  split_ifs with h
  · rw [Nat.sub_eq_zero_of_le (by omega : n + 1 ≤ w)]; simp
  · rw [show n - w + 1 = n + 1 - w by omega]

theorem mixed_sum {a b c : Fin 128 → EReal} (h : ∀ l, b l = c l) : ∑ l, a l * b l = ∑ l, c l * a l :=
  Finset.sum_congr rfl fun l _ => by rw [h, mul_comm]

/-- The value that is pooled: row `n`, channel `j`. -/
def uu (proj : FVec Ideal S8192x5120 .f32) (n : Fin 8192) (j : Fin 512) : EReal := proj (ix2 n ⟨j.val, by omega⟩)

theorem v7_at (n : Fin 8192) (g : Fin 4) (k : Fin 128) : res_main_v7 V0 (ix3 n g k) = bProj V0 (ix2 n ⟨128 * g.val + k.val, by omega⟩) := by
  have e : g.val * 128 + k.val = 128 * g.val + k.val := by omega
  unfold res_main_v7
  pointwise
  exact congrArg (fun j => bProj V0 (ix2 n j)) (Fin.ext e)

theorem vals_in (n : Fin 8192) (g : Fin 4) (k : Fin 128) : vals (bProj V0) g k n.val = bProj V0 (ix2 n ⟨128 * g.val + k.val, by omega⟩) := by
  unfold vals
  rw [dif_pos n.isLt]

theorem v8_at (n : Fin 8192) (g : Fin 4) (k : Fin 128) : res_main_v8 V0 (ix3 n g k) = ∑ i ∈ Finset.range (n.val + 1), vals (bProj V0) g k i := by
  unfold res_main_v8
  refine cumsum3 (M := 8191) _ _ _ _ ?_ _ _ _ (fun i => ?_) n
  · pointwise
  · exact (v7_at V0 i g k).trans (vals_in V0 i g k).symm

variable (hp : ∀ n g k, IsReal (vals (bProj V0) g k n))

include hp

theorem pooled_at (n : Fin 8192) (g : Fin 4) (k : Fin 128) : res_main_v75 V0 (ix3 n g k) = pooled (bProj V0) n g k := by
  unfold pooled
  rw [← win _ (fun i => hp i g k) n.val, ← v7_at V0 n g k]
  unfold res_main_v75 cnt
  simp only [IntOp.addi, BitVec.ofNat_add]
  rcases (by decide +revert : g = 0 ∨ g = 1 ∨ g = 2 ∨ g = 3) with rfl | rfl | rfl | rfl
  · unfold res_main_v11 res_main_v21 res_main_v9
    pointwise [v8_at, IntOp.addi, wlen]
    rfl
  · unfold res_main_v26 res_main_v36 res_main_v9
    pointwise [v8_at, IntOp.addi, wlen]
    rfl
  · unfold res_main_v41 res_main_v51 res_main_v9
    pointwise [v8_at, IntOp.addi, wlen]
    rfl
  · unfold res_main_v56 res_main_v66 res_main_v9
    pointwise [v8_at, IntOp.addi, wlen]
    rfl

theorem v78_at (n : Fin 8192) (g : Fin 4) (k : Fin 128) : res_main_v78 V0 (ix2 n (col g k)) = mixed (bProj V0) (bPw V0) n g k := by
  have e1 : (⟨(col g k).val / 128, by omega⟩ : Fin 4) = g := Cert.PoolIdeal.Value.grp_col g k
  have e2 : (⟨(col g k).val % 128, by omega⟩ : Fin 128) = k := Cert.PoolIdeal.Value.lane_col g k
  unfold res_main_v78 mixed
  pointwise
  rw [e1, e2]
  exact mixed_sum fun l => pooled_at V0 hp n g l

omit hp

theorem v85_at (n : Fin 8192) (j : Fin 512) : res_main_v85 V0 (ix2 n j) = dyv (bWpu V0) (bDp V0) n j := by
  unfold res_main_v85 dyv
  pointwise

theorem v1_at (n : Fin 8192) (j : Fin 512) : res_main_v1 V0 (ix2 n j) = zz (bProj V0) n j := by
  unfold res_main_v1 zz
  pointwise

theorem v822_at (n : Fin 8192) (j : Fin 512) : res_main_v82_2 V0 (ix2 n j) = Cert.PoolIdeal.Value.sigm (zz (bProj V0) n j) := by
  unfold res_main_v82_2 Cert.PoolIdeal.Value.sigm
  pointwise [v1_at V0]

theorem v87_at (n : Fin 8192) (g : Fin 4) (k : Fin 128) : res_main_v87 V0 (ix2 n (col g k)) = dmp (bProj V0) (bWpu V0) (bDp V0) n g k := by
  unfold res_main_v87 res_main_v82_0 dmp
  pointwise [v1_at V0, v85_at V0, v822_at V0]

theorem v96_at (n : Fin 8192) (g : Fin 4) (k : Fin 128) : res_main_v96 V0 (ix3 g k n) = dmixed (bProj V0) (bSc V0) (bWpu V0) (bDp V0) n g k := by
  have e : (⟨g.val * 128 + k.val, by omega⟩ : Fin 512) = col g k := Fin.ext (by show g.val * 128 + k.val = 128 * g.val + k.val; omega)
  unfold res_main_v96 res_main_v79 dmixed
  pointwise
  rw [e, v87_at V0]

theorem v98_at (n : Fin 8192) (g : Fin 4) (k : Fin 128) :
    res_main_v98 V0 (ix3 n g k) = dpool (bProj V0) (bPw V0) (bSc V0) (bWpu V0) (bDp V0) n g k := by
  unfold res_main_v98 dpool
  pointwise [v96_at V0]

theorem cnt_at (n : Fin 8192) (g : Fin 4) : FloatOps.sitofp (F := Ideal) FTy.f32 (IntOp.minsi (IntOp.addi (BitVec.ofNat 32 n.val) 1#32) (BitVec.ofNat 32 (wlen g))) = cnt g n := by
  unfold cnt
  simp only [IntOp.addi, BitVec.ofNat_add]

abbrev dsumV := dsum (bProj V0) (bPw V0) (bSc V0) (bWpu V0) (bDp V0)

theorem dsum_at (n : Fin 8192) (g : Fin 4) (k : Fin 128) :
    Ideal.div (dpool (bProj V0) (bPw V0) (bSc V0) (bWpu V0) (bDp V0) n g k) (cnt g n) = dsumV V0 g k n.val := by
  unfold dsumV dsum
  rw [dif_pos n.isLt]

theorem dsum_past (g : Fin 4) (k : Fin 128) (n : ℕ) (h : 8192 ≤ n) : dsumV V0 g k n = 0 := by
  unfold dsumV dsum
  exact dif_neg (by omega)

theorem v140_at (n : Fin 8192) (k : Fin 128) : res_main_v140 V0 (ix2 n k) = dsumV V0 0 k n.val := by
  unfold res_main_v140 res_main_v21 res_main_v9
  pointwise [v98_at V0]
  exact (congrArg (Ideal.div _) (cnt_at n 0)).trans (dsum_at V0 n 0 k)

theorem v142_at (n : Fin 8192) (k : Fin 128) : res_main_v142 V0 (ix2 ⟨2 + n.val, by omega⟩ k) = - dsumV V0 0 k (n.val + 2) := by
  unfold res_main_v142
  by_cases hn : n.val + 2 < 8192
  · pointwise [v140_at V0]
    split_ifs with h
    · exact congrArg (fun i => - dsumV V0 0 k i) (Nat.add_comm _ _)
    · exact absurd (Fin.forall_fin_two.2 ⟨⟨Nat.zero_le _, Nat.mod_one _, by show (2 + n.val - 0) / 1 < 8192; omega⟩, ⟨Nat.zero_le _, Nat.mod_one _, by show (k.val - 0) / 1 < 128; omega⟩⟩) h
  · rw [dsum_past V0 0 k _ (by omega), neg_zero]
    pointwise [v140_at V0]
    split_ifs with h
    · exact absurd (show (2 + n.val - 0) / 1 < 8192 from (h 0).2.2) (by omega)
    · rfl

theorem v130_at (n : Fin 8192) (k : Fin 128) : res_main_v130 V0 (ix2 n k) = dsumV V0 1 k n.val := by
  unfold res_main_v130 res_main_v36 res_main_v9
  pointwise [v98_at V0]
  exact (congrArg (Ideal.div _) (cnt_at n 1)).trans (dsum_at V0 n 1 k)

theorem v132_at (n : Fin 8192) (k : Fin 128) : res_main_v132 V0 (ix2 ⟨4 + n.val, by omega⟩ k) = - dsumV V0 1 k (n.val + 4) := by
  unfold res_main_v132
  by_cases hn : n.val + 4 < 8192
  · pointwise [v130_at V0]
    split_ifs with h
    · exact congrArg (fun i => - dsumV V0 1 k i) (Nat.add_comm _ _)
    · exact absurd (Fin.forall_fin_two.2 ⟨⟨Nat.zero_le _, Nat.mod_one _, by show (4 + n.val - 0) / 1 < 8192; omega⟩, ⟨Nat.zero_le _, Nat.mod_one _, by show (k.val - 0) / 1 < 128; omega⟩⟩) h
  · rw [dsum_past V0 1 k _ (by omega), neg_zero]
    pointwise [v130_at V0]
    split_ifs with h
    · exact absurd (show (4 + n.val - 0) / 1 < 8192 from (h 0).2.2) (by omega)
    · rfl

theorem v120_at (n : Fin 8192) (k : Fin 128) : res_main_v120 V0 (ix2 n k) = dsumV V0 2 k n.val := by
  unfold res_main_v120 res_main_v51 res_main_v9
  pointwise [v98_at V0]
  exact (congrArg (Ideal.div _) (cnt_at n 2)).trans (dsum_at V0 n 2 k)

theorem v122_at (n : Fin 8192) (k : Fin 128) : res_main_v122 V0 (ix2 ⟨8 + n.val, by omega⟩ k) = - dsumV V0 2 k (n.val + 8) := by
  unfold res_main_v122
  by_cases hn : n.val + 8 < 8192
  · pointwise [v120_at V0]
    split_ifs with h
    · exact congrArg (fun i => - dsumV V0 2 k i) (Nat.add_comm _ _)
    · exact absurd (Fin.forall_fin_two.2 ⟨⟨Nat.zero_le _, Nat.mod_one _, by show (8 + n.val - 0) / 1 < 8192; omega⟩, ⟨Nat.zero_le _, Nat.mod_one _, by show (k.val - 0) / 1 < 128; omega⟩⟩) h
  · rw [dsum_past V0 2 k _ (by omega), neg_zero]
    pointwise [v120_at V0]
    split_ifs with h
    · exact absurd (show (8 + n.val - 0) / 1 < 8192 from (h 0).2.2) (by omega)
    · rfl

theorem v111_at (n : Fin 8192) (k : Fin 128) : res_main_v111 V0 (ix2 n k) = dsumV V0 3 k n.val := by
  unfold res_main_v111 res_main_v66 res_main_v9
  pointwise [v98_at V0]
  exact (congrArg (Ideal.div _) (cnt_at n 3)).trans (dsum_at V0 n 3 k)

theorem v113_at (n : Fin 8192) (k : Fin 128) : res_main_v113 V0 (ix2 ⟨16 + n.val, by omega⟩ k) = - dsumV V0 3 k (n.val + 16) := by
  unfold res_main_v113
  by_cases hn : n.val + 16 < 8192
  · pointwise [v111_at V0]
    split_ifs with h
    · exact congrArg (fun i => - dsumV V0 3 k i) (Nat.add_comm _ _)
    · exact absurd (Fin.forall_fin_two.2 ⟨⟨Nat.zero_le _, Nat.mod_one _, by show (16 + n.val - 0) / 1 < 8192; omega⟩, ⟨Nat.zero_le _, Nat.mod_one _, by show (k.val - 0) / 1 < 128; omega⟩⟩) h
  · rw [dsum_past V0 3 k _ (by omega), neg_zero]
    pointwise [v111_at V0]
    split_ifs with h
    · exact absurd (show (16 + n.val - 0) / 1 < 8192 from (h 0).2.2) (by omega)
    · rfl

/-- What the running sum from the end is taken of. -/
def ends : FVec Ideal S8192x4x128 .f32 :=
  addf (addf (addf (pad S8192x4x128 ![0, 3, 0] ![0, 0, 0] ![0, 0, 0] (broadcastInDim S8192x1x128 ![0, 2] bcast_S8192x128_S8192x1x128_0_2 (addf (res_main_v111 V0) (extractStridedSlice S8192x128 ![16, 0] (res_main_v113 V0) slices_S8208x128_S8192x128_16_0))) (constant S_ .f32 0x00000000#32) pads_S8192x1x128_S8192x4x128_000_300_000 h_S_) (pad S8192x4x128 ![0, 2, 0] ![0, 1, 0] ![0, 0, 0] (broadcastInDim S8192x1x128 ![0, 2] bcast_S8192x128_S8192x1x128_0_2 (addf (res_main_v120 V0) (extractStridedSlice S8192x128 ![8, 0] (res_main_v122 V0) slices_S8200x128_S8192x128_8_0))) (constant S_ .f32 0x00000000#32) pads_S8192x1x128_S8192x4x128_000_210_000 h_S_)) (pad S8192x4x128 ![0, 1, 0] ![0, 2, 0] ![0, 0, 0] (broadcastInDim S8192x1x128 ![0, 2] bcast_S8192x128_S8192x1x128_0_2 (addf (res_main_v130 V0) (extractStridedSlice S8192x128 ![4, 0] (res_main_v132 V0) slices_S8196x128_S8192x128_4_0))) (constant S_ .f32 0x00000000#32) pads_S8192x1x128_S8192x4x128_000_120_000 h_S_)) (pad S8192x4x128 ![0, 0, 0] ![0, 3, 0] ![0, 0, 0] (broadcastInDim S8192x1x128 ![0, 2] bcast_S8192x128_S8192x1x128_0_2 (addf (res_main_v140 V0) (extractStridedSlice S8192x128 ![2, 0] (res_main_v142 V0) slices_S8194x128_S8192x128_2_0))) (constant S_ .f32 0x00000000#32) pads_S8192x1x128_S8192x4x128_000_030_000 h_S_)

theorem ends_at (n : Fin 8192) (g : Fin 4) (k : Fin 128) : ends V0 (ix3 n g k) = dsumV V0 g k n.val + - dsumV V0 g k (n.val + wlen g) := by
  unfold ends
  rcases (by decide +revert : g = 0 ∨ g = 1 ∨ g = 2 ∨ g = 3) with rfl | rfl | rfl | rfl
  · pointwise [v111_at V0, v120_at V0, v130_at V0, v140_at V0]
    exact congrArg _ (v142_at V0 n k)
  · pointwise [v111_at V0, v120_at V0, v130_at V0, v140_at V0]
    exact congrArg _ (v132_at V0 n k)
  · pointwise [v111_at V0, v120_at V0, v130_at V0, v140_at V0]
    exact congrArg _ (v122_at V0 n k)
  · pointwise [v111_at V0, v120_at V0, v130_at V0, v140_at V0]
    exact congrArg _ (v113_at V0 n k)

variable (h0 : ∀ (n : Fin 8192) (j : Fin 512), IsReal (uu (bProj V0) n j)) (hz : ∀ n j, IsReal (zz (bProj V0) n j)) (h1 : ∀ i, IsReal (bPw V0 i)) (h2 : ∀ i, IsReal (bSc V0 i))
  (h3 : ∀ i, IsReal (bWpu V0 i)) (h4 : ∀ i, IsReal (bDp V0 i))

include h0 in
theorem vals_real (n : ℕ) (g : Fin 4) (k : Fin 128) : IsReal (vals (bProj V0) g k n) := by
  unfold vals
  split_ifs with h
  · exact h0 ⟨n, h⟩ (col g k)
  · exact isReal_zero

include h3 h4 in
theorem dyv_real (n : Fin 8192) (j : Fin 512) : IsReal (dyv (bWpu V0) (bDp V0) n j) :=
  isReal_sum _ fun d _ => (h4 _).mul (h3 _)

include hz in
theorem sigm_real (n : Fin 8192) (j : Fin 512) : IsReal (Cert.PoolIdeal.Value.sigm (zz (bProj V0) n j)) := by
  obtain ⟨z, e⟩ := hz n j
  unfold Cert.PoolIdeal.Value.sigm
  rw [e, ← EReal.coe_neg, Ideal.exp_coe, ← EReal.coe_one, ← EReal.coe_add, div_coe_coe _ _ (by positivity)]
  exact isReal_coe _

include h0 h1 in
theorem mixed_real (n : Fin 8192) (g : Fin 4) (k : Fin 128) : IsReal (mixed (bProj V0) (bPw V0) n g k) :=
  isReal_sum _ fun l _ => ((div_cnt (isReal_window _ _ (fun i => vals_real V0 h0 i g l) _) g n).sub
    (by rw [← vals_in V0 n g l]; exact vals_real V0 h0 n g l)).mul (h1 _)

include hz h1 h2 h3 h4 in
theorem dpool_real (n : Fin 8192) (g : Fin 4) (k : Fin 128) : IsReal (dpool (bProj V0) (bPw V0) (bSc V0) (bWpu V0) (bDp V0) n g k) :=
  isReal_sum _ fun l _ => (((dyv_real V0 h3 h4 n _).mul ((hz n _).mul (sigm_real V0 hz n _))).mul (h2 _)).mul (h1 _)

include hz h1 h2 h3 h4 in
theorem dsum_real (g : Fin 4) (k : Fin 128) (n : ℕ) : IsReal (dsumV V0 g k n) := by
  unfold dsumV dsum
  split_ifs with h
  · exact div_cnt (dpool_real V0 hz h1 h2 h3 h4 _ g k) g ⟨n, h⟩
  · exact isReal_zero

include hz h1 h2 h3 h4 in
theorem res7 : truncf .bf16 (shapeCast _ (addf (Host.negf (res_main_v98 V0)) (Host.reduceWindowAdd ![8192, 1, 1] ![1, 1, 1] ![0, 0, 0] ![8191, 0, 0] (ends V0) (broadcastInDim S_ ![] bcast_S_S_ (constant S_ .f32 0x00000000#32)) reduceWindows_S8192x4x128_S8192x4x128_w8192s1p0_8191_w1s1p0_0_w1s1p0_0 h_S_)) shapeCasts_S8192x4x128_S8192x512) bitsLt_bf16_f32 = Cert.PoolIdeal.Value.duArr (bProj V0) (bPw V0) (bSc V0) (bWpu V0) (bDp V0) := by
  have rs : ∀ (n : Fin 8192) (g : Fin 4) (k : Fin 128), Host.reduceWindowAdd ![8192, 1, 1] ![1, 1, 1] ![0, 0, 0] ![8191, 0, 0] (ends V0) (broadcastInDim S_ ![] bcast_S_S_ (constant S_ .f32 0x00000000#32)) reduceWindows_S8192x4x128_S8192x4x128_w8192s1p0_8191_w1s1p0_0_w1s1p0_0 h_S_ (ix3 n g k)
      = ahead (wlen g) (dsumV V0 g k) n.val := fun n g k => by
    refine (revsum3 (M := 8191) _ _ _ _ ?_ (fun i => dsumV V0 g k i - dsumV V0 g k (i + wlen g)) _ _ (fun i => ?_) n).trans
      (sum_sub_eq_ahead (wlen g) 8192 (dsumV V0 g k) (fun i => dsum_real V0 hz h1 h2 h3 h4 g k i) (fun i hi => dsum_past V0 g k i hi) n.val n.isLt.le)
    · pointwise
    · exact (ends_at V0 i g k).trans (sub_eq_add_neg _ _).symm
  funext i
  idx_vars i
  have key : ∀ n g k, Neg.neg (α := EReal) (res_main_v98 V0 (ix3 n g k)) + ahead (wlen g) (dsumV V0 g k) n.val = du (bProj V0) (bPw V0) (bSc V0) (bWpu V0) (bDp V0) n g k := fun n g k => by
    rw [v98_at V0 n g k, add_comm, ← sub_eq_add_neg]
    rfl
  refine Eq.trans ?_ (key i0 (grp i1) (lane i1))
  rw [← rs]
  generalize Host.reduceWindowAdd ![8192, 1, 1] ![1, 1, 1] ![0, 0, 0] ![8191, 0, 0] (ends V0) _ _ _ = R
  pointwise
  rfl

theorem dz_alg {a b z q : EReal} (ha : IsReal a) (hb : IsReal b) (hz : IsReal z) (hq : IsReal q) :
    (b * a) * q + (z * (b * a)) * (q * (1 - q)) = a * b * (q * (1 + z * (1 - q))) := by
  obtain ⟨a, rfl⟩ := ha; obtain ⟨b, rfl⟩ := hb; obtain ⟨z, rfl⟩ := hz; obtain ⟨q, rfl⟩ := hq
  simp only [← EReal.coe_one, ← EReal.coe_mul, ← EReal.coe_sub, ← EReal.coe_add]
  exact congrArg _ (by ring)

include h0 hz h1 h2 h3 h4 in
theorem res8 : truncf .bf16 (addf (mulf (res_main_v86 V0) (res_main_v82_2 V0)) (mulf (mulf (res_main_v1 V0) (res_main_v86 V0)) (mulf (res_main_v82_2 V0) (subf (broadcastInDim S8192x512 ![] bcast_S_S8192x512 (constant S_ .f32 0x3F800000#32)) (res_main_v82_2 V0))))) bitsLt_bf16_f32 = Cert.PoolIdeal.Value.dzArr (bProj V0) (bPw V0) (bSc V0) (bWpu V0) (bDp V0) := by
  funext i
  idx_vars i
  obtain ⟨g, k, rfl⟩ : ∃ g k, i1 = col g k := ⟨grp i1, lane i1, (Cert.PoolIdeal.Value.col_grp_lane i1).symm⟩
  have a := dyv_real V0 h3 h4 i0 (col g k)
  have b := (mixed_real V0 h0 h1 i0 g k).mul (h2 (ix1 (col g k)))
  refine Eq.trans ?_ ((dz_alg a b (hz i0 (col g k)) (sigm_real V0 hz i0 (col g k))).trans ?_)
  · unfold res_main_v86 res_main_v81 res_main_v79
    pointwise [v78_at V0 (vals_real V0 h0), v85_at V0, v1_at V0, v822_at V0]
  · show _ = dz _ _ _ _ _ i0 (grp (col g k)) (lane (col g k))
    rw [Cert.PoolIdeal.Value.grp_col, Cert.PoolIdeal.Value.lane_col]
    rfl

include h0 in
theorem res9 : transpose S4x128x128 [0, 2, 1] (Host.dotGeneral (F := Ideal) (φ₁ := .f32) (φ₂ := .f32) dot_S4x128x8192_S8192x4x128_S4x128x128_2_0_1_2_0_1 none (res_main_v96 V0) (res_main_v75 V0)) transposes_S4x128x128_S4x128x128_0_2_1 = Cert.PoolIdeal.Value.dpwArr (bProj V0) (bSc V0) (bWpu V0) (bDp V0) := by
  funext i
  idx_vars i
  refine Eq.trans ?_ (Finset.sum_congr rfl fun n _ => mul_comm _ _)
  pointwise [v96_at V0, pooled_at V0 (vals_real V0 h0)]

include h0 in
theorem res10 : shapeCast _ (Host.reduceAdd (shapeCast _ (Host.reduceAdd (mulf (res_main_v78 V0) (res_main_v87 V0)) (constant S_ .f32 0x00000000#32) reducesTo_S8192x512_S512_d0 h_S_) shapeCasts_S512_S1x512) (constant S_ .f32 0x00000000#32) reducesTo_S1x512_S512_d0 h_S_) shapeCasts_S512_S1x512 = Cert.PoolIdeal.Value.dscArr (bProj V0) (bPw V0) (bWpu V0) (bDp V0) := by
  funext i
  idx_vars i
  obtain ⟨g, k, rfl⟩ : ∃ g k, i1 = col g k := ⟨grp i1, lane i1, (Cert.PoolIdeal.Value.col_grp_lane i1).symm⟩
  have key : ∑ _ : Fin 1, ∑ n : Fin 8192, mixed (bProj V0) (bPw V0) n g k * dmp (bProj V0) (bWpu V0) (bDp V0) n g k
      = Cert.PoolIdeal.Value.dscArr (bProj V0) (bPw V0) (bWpu V0) (bDp V0) (ix2 i0 (col g k)) := by
    show _ = ∑ n : Fin 8192, dmp _ _ _ n (grp (col g k)) (lane (col g k)) * mixed _ _ n (grp (col g k)) (lane (col g k))
    rw [Cert.PoolIdeal.Value.grp_col, Cert.PoolIdeal.Value.lane_col]
    exact (Fintype.sum_unique _).trans (Finset.sum_congr rfl fun r _ => mul_comm _ _)
  refine Eq.trans ?_ key
  pointwise [v78_at V0 (vals_real V0 h0), v87_at V0]

end Cert.PoolRefIdeal.Value

end
-- ==== Proof.PoolClaims.lean ====
/-
  The claims of the pooling branch's backward call: frames, the idealization's ledger, and the value claim.
-/
module

public import proofs.«01_k».proof.Proof.PoolRef
public import proofs.«01_k».proof.Proof.Gen.Pool.Frame

@[expose] public section

set_option maxRecDepth 16384

noncomputable section

open Idealize.ShloMosaic Idealize.ShloMosaic.TcCoe Idealize.SL.Sem

namespace Cert.Proof.Pool

open Cert.Reals Cert.PoolIdeal Cert.PoolIdeal.Value

/-- What the precondition says of the arguments. -/
theorem finite_of_pre (x : FVec Ideal S8192x5120 .f32) (pw : FVec Ideal S4x128x128 .f32) (sc : FVec Ideal S512 .f32)
    (w : FVec Ideal S512x1024 .f32) (dp : FVec Ideal S8192x1024 .f32)
    (h : Cert.Pre_pool_finite.fn (F := Ideal) x pw sc w dp = fun _ => 1#1) :
    (∀ (n : Fin 8192) (j : Fin 512), IsReal (PoolRefIdeal.Value.uu x n j)) ∧ (∀ n j, IsReal (zz x n j)) ∧ (∀ i, IsReal (pw i))
      ∧ (∀ i, IsReal (sc i)) ∧ (∀ i, IsReal (w i)) ∧ ∀ i, IsReal (dp i) := by
  have h0 := congrFun h ix0
  obtain ⟨h1, h2⟩ := andi_split h0
  obtain ⟨h3, h4⟩ := andi_split h1
  obtain ⟨h5, h6⟩ := andi_split h2
  obtain ⟨h9, h10⟩ := andi_split h5
  obtain ⟨h11, h12⟩ := andi_split h6
  refine ⟨fun n j => ?_, fun n j => ?_, all_isReal pw _ _ _ _ h9, all_isReal sc _ _ _ _ h10, all_isReal w _ _ _ _ h11, all_isReal dp _ _ _ _ h12⟩
  · have e := all_isReal _ _ _ _ _ h3 (ix2 n j)
    revert e
    pointwise
    intro e
    exact e
  · have e := all_isReal _ _ _ _ _ h4 (ix2 n j)
    revert e
    pointwise
    intro e
    exact e

theorem frame_p : Cert.quiescent_Pool := fun m ρ _ => Cert.Pool.Gen.frame m ρ
theorem frame_pi : Cert.quiescent_PoolIdeal := fun m ρ _ => Cert.PoolIdeal.Gen.frame m ρ
theorem frame_pi_pre : Cert.quiescent_PoolIdeal_pre_pool_finite := fun m ρ _ => Cert.PoolIdeal.Gen.frame m ρ
theorem frame_ri : Cert.quiescent_PoolRefIdeal := fun m ρ _ =>
  (θ_run Cert.PoolRefIdeal.defs _ _).mono (fun r h => ⟨fun c => (h c).2.2.2.2,
      Idealize.ShloMosaic.sem_eq_zero_of_no_sems (by decide) r.2⟩)
    (Cert.PoolRefIdeal.Value.run (F := Ideal) m ρ)
theorem frame_ri_pre : Cert.quiescent_PoolRefIdeal_pre_pool_finite := fun m ρ _ => frame_ri m ρ trivial

theorem preserves : Cert.preserves_Pool_PoolIdeal := trivial

/-- The reference's arguments are the call's, and finite. -/
theorem facts (m : (ℓ : Loc nD τ sig) → Buf (Elt Ideal) ℓ) (m' : (ℓ : Loc PoolRefIdeal.nD PoolRefIdeal.τ PoolRefIdeal.sig) → Buf (Elt Ideal) ℓ)
    (hpre : Pre_PoolIdeal_pool_finite m)
    (hagree : ∀ c : Dev nD, m' (c.tc.loc PoolRefIdeal.main_arg0) = m (c.tc.loc main_arg0) ∧ m' (c.tc.loc PoolRefIdeal.main_arg1) = m (c.tc.loc main_arg1)
      ∧ m' (c.tc.loc PoolRefIdeal.main_arg2) = m (c.tc.loc main_arg2) ∧ m' (c.tc.loc PoolRefIdeal.main_arg3) = m (c.tc.loc main_arg3)
      ∧ m' (c.tc.loc PoolRefIdeal.main_arg4) = m (c.tc.loc main_arg4)) (c : Dev nD) :
    let V0 : Valuation PoolRefIdeal.τ PoolRefIdeal.sig (Elt Ideal) := StableHlo.launchContents m' c
    PoolRefIdeal.Value.bProj V0 = aProj m c ∧ PoolRefIdeal.Value.bPw V0 = aPw m c ∧ PoolRefIdeal.Value.bSc V0 = aSc m c
      ∧ PoolRefIdeal.Value.bWpu V0 = aWpu m c ∧ PoolRefIdeal.Value.bDp V0 = aDp m c
      ∧ (∀ (n : Fin 8192) (j : Fin 512), IsReal (PoolRefIdeal.Value.uu (PoolRefIdeal.Value.bProj V0) n j))
      ∧ (∀ n j, IsReal (zz (PoolRefIdeal.Value.bProj V0) n j)) ∧ (∀ i, IsReal (PoolRefIdeal.Value.bPw V0 i))
      ∧ (∀ i, IsReal (PoolRefIdeal.Value.bSc V0 i)) ∧ (∀ i, IsReal (PoolRefIdeal.Value.bWpu V0 i)) ∧ ∀ i, IsReal (PoolRefIdeal.Value.bDp V0 i) := by
  intro V0
  have e0 : PoolRefIdeal.Value.bProj V0 = aProj m c := (hagree c).1
  have e1 : PoolRefIdeal.Value.bPw V0 = aPw m c := (hagree c).2.1
  have e2 : PoolRefIdeal.Value.bSc V0 = aSc m c := (hagree c).2.2.1
  have e3 : PoolRefIdeal.Value.bWpu V0 = aWpu m c := (hagree c).2.2.2.1
  have e4 : PoolRefIdeal.Value.bDp V0 = aDp m c := (hagree c).2.2.2.2
  refine ⟨e0, e1, e2, e3, e4, ?_⟩
  rw [e0, e1, e2, e3, e4]
  exact finite_of_pre _ _ _ _ _ (hpre c)

theorem algebraic : Cert.algebraic_PoolIdeal_PoolRefIdeal_pre_pool_finite := by
  pair_intro
  · run_from Cert.PoolIdeal.Value.run_blocks m g
  · run_from Cert.PoolRefIdeal.Value.run m' g'
    · obtain ⟨e0, e1, e2, e3, e4, h0, hz, h1, h2, h3, h4⟩ := facts m m' hpre hagree c
      rw [final7, ← e0, ← e1, ← e2, ← e3, ← e4]
      exact PoolRefIdeal.Value.res7 (StableHlo.launchContents m' c) hz h1 h2 h3 h4
    · obtain ⟨e0, e1, e2, e3, e4, h0, hz, h1, h2, h3, h4⟩ := facts m m' hpre hagree c
      rw [final8, ← e0, ← e1, ← e2, ← e3, ← e4]
      exact PoolRefIdeal.Value.res8 (StableHlo.launchContents m' c) h0 hz h1 h2 h3 h4
    · obtain ⟨e0, e1, e2, e3, e4, h0, hz, h1, h2, h3, h4⟩ := facts m m' hpre hagree c
      rw [final9, ← e0, ← e2, ← e3, ← e4]
      exact PoolRefIdeal.Value.res9 (StableHlo.launchContents m' c) h0
    · obtain ⟨e0, e1, e2, e3, e4, h0, hz, h1, h2, h3, h4⟩ := facts m m' hpre hagree c
      rw [final10, ← e0, ← e1, ← e3, ← e4]
      exact PoolRefIdeal.Value.res10 (StableHlo.launchContents m' c) h0

end Cert.Proof.Pool

end
-- ==== Proof.BufferText.lean ====
/-
  A small language of buffer programs: loads and stores of rectangles of named buffers, counted loops and
  conditionals. A text of the language is a kernel program, and it is a function on the buffers' contents; the
  theorem here says that the program does to the buffers it owns what the function does to the contents.
-/
module

public import Idealize.ShloMosaic.Lib.Pipeline.FrameBody
public import Idealize.ShloMosaic.Lib.Tactic
public import Idealize.ShloMosaic.Lib.Scf

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.BufferText

/-! ## Overwriting a rectangle -/

/-- The contents `X` with the rectangle `r` overwritten by `w`. -/
def put {s : Shape} {A : Type} (r : Rect s) (w : r.shape.Idx → A) (X : s.Idx → A) : s.Idx → A := fun y =>
  open Classical in if h : ∃ x, r.emb x = y then w h.choose else X y

theorem put_emb {s : Shape} {A : Type} (r : Rect s) (w : r.shape.Idx → A) (X : s.Idx → A) (x : r.shape.Idx) :
    put r w X (r.emb x) = w x := by
  have h : ∃ x', r.emb x' = r.emb x := ⟨x, rfl⟩
  unfold put
  rw [dif_pos h]
  exact congrArg w (r.emb.injective h.choose_spec)

theorem put_of_not {s : Shape} {A : Type} (r : Rect s) (w : r.shape.Idx → A) (X : s.Idx → A) (y : s.Idx)
    (h : ∀ x, r.emb x ≠ y) : put r w X y = X y := by
  unfold put
  rw [dif_neg fun ⟨x, hx⟩ => h x hx]

section

variable {nD : Nat} {τ : Topo} {sig : RefSig} {Val : EltTy → Type} {Λ : Labels}
variable {K : Type} {sh : K → Shape} {el : K → EltTy}

/-- What each buffer holds. -/
abbrev St (Val : EltTy → Type) (sh : K → Shape) (el : K → EltTy) : Type := (k : K) → (sh k).Idx → Val (el k)

/-- A text: loads, stores, loops and conditionals over the buffers `R`. -/
inductive C (Val : EltTy → Type) (R : (k : K) → Memref sig .tc .vmem (sh k) (el k)) : Type → Type 1
  | ret {α : Type} (a : α) : C Val R α
  | ld {α : Type} (k : K) (r : Rect (sh k)) (h : (R k).view.LoadsAt r.toLoadRect)
      (c : (r.shape.Idx → Val (el k)) → C Val R α) : C Val R α
  | st {α : Type} (k : K) (r : Rect (sh k)) (w : r.shape.Idx → Val (el k))
      (h : ((R k).access r).Stores Finset.univ) (c : C Val R α) : C Val R α
  | loop {α : Type} (L : Scf.Loop 32) (ok : L.OK) (b : Fin L.trips → C Val R PUnit) (c : C Val R α) : C Val R α
  | cond {α : Type} (P : Prop) (d : Decidable P) (b : P → C Val R PUnit) (c : C Val R α) : C Val R α

variable {R : (k : K) → Memref sig .tc .vmem (sh k) (el k)}

namespace C

def bind {α β : Type} : C Val R α → (α → C Val R β) → C Val R β
  | .ret a, f => f a
  | .ld k r h c, f => .ld k r h fun x => bind (c x) f
  | .st k r w h c, f => .st k r w h (bind c f)
  | .loop L ok b c, f => .loop L ok b (bind c f)
  | .cond P d b c, f => .cond P d b (bind c f)

instance : Monad (C Val R) where
  pure := .ret
  bind := bind

/-- The program a text is, and then `k`. -/
def run {α β : Type} : C Val R α → (α → Prog (TpuEff nD τ sig Val Λ .tc) β) → Prog (TpuEff nD τ sig Val Λ .tc) β
  | .ret a, k => k a
  | .ld b r h c, k => .op (.load (R b) r.toLoadRect h) fun x => run (c x) k
  | .st b r w h c, k => .op (.store (R b) r w Finset.univ h (.inl rfl)) fun _ => run c k
  | .loop L ok b c, k => Scf.Loop.for L ok ⟨⟩ (fun t _ => run (b t) .ret) >>= fun _ => run c k
  | .cond P d b c, k => if h : P then run (b h) fun _ => run c k else run c k

/-- The program a text is. -/
abbrev toProg {α : Type} (p : C Val R α) : Prog (TpuEff nD τ sig Val Λ .tc) α := run p .ret

theorem run_bind {α β γ : Type} (p : C Val R α) (k : α → Prog (TpuEff nD τ sig Val Λ .tc) β)
    (f : β → Prog (TpuEff nD τ sig Val Λ .tc) γ) : (p.run k >>= f) = p.run fun a => k a >>= f := by
  induction p generalizing β γ with
  | ret a => rfl
  | ld b r h c ih => exact congrArg (Prog.op _) (funext fun x => ih x k f)
  | st b r w h c ih => exact congrArg (Prog.op _) (funext fun _ => ih k f)
  | loop L ok b c _ ih =>
    show (_ >>= _) >>= _ = _
    rw [bind_assoc]
    exact congrArg _ (funext fun _ => ih k f)
  | cond P d b c ihb ih =>
    unfold run
    by_cases hP : P
    · rw [dif_pos hP, dif_pos hP, ihb hP]
      exact congrArg _ (funext fun _ => ih k f)
    · rw [dif_neg hP, dif_neg hP]; exact ih k f

variable [DecidableEq K]

/-- The function on contents a text is. -/
def den {α : Type} : C Val R α → St Val sh el → α × St Val sh el
  | .ret a, X => (a, X)
  | .ld k r h c, X => den (c fun x => X k (r.emb x)) X
  | .st k r w h c, X => den c (Function.update X k (put r w (X k)))
  | .loop L ok b c, X => den c ((List.finRange L.trips).foldl (fun X t => (den (b t) X).2) X)
  | .cond P d b c, X => den c (if h : P then (den (b h) X).2 else X)

theorem den_bind {α β : Type} (p : C Val R α) (f : α → C Val R β) (X : St Val sh el) :
    den (p >>= f) X = den (f (den p X).1) (den p X).2 := by
  show den (bind p f) X = _
  induction p generalizing X with
  | ret a => rfl
  | ld k r h c ih => exact ih _ f _
  | st k r w h c ih => exact ih f _
  | loop L ok b c _ ih => exact ih f _
  | cond P d b c _ ih => exact ih f _

end C

/-! ## Soundness -/

variable {Ix : Type} [DecidableEq Ix] {Name : Type} [DecidableEq Name] {U : Type} [URA U] {Lvl : Type} [Preorder Lvl]

local notation "𝕄" => MT nD τ sig Ix Val Name U Lvl

/-- The core owns every buffer whole, at the contents `X`. -/
def Own [Fintype K] (c : Dev nD) (R : (k : K) → Memref sig .tc .vmem (sh k) (el k)) (X : St Val sh el) : sProp 𝕄 :=
  bigSep Finset.univ fun k : K => owns (c : Thread nD τ) (R k) fullShare (X k)

variable [DecidableEq K] [Fintype K]

theorem split_univ (Φ : K → sProp 𝕄) (k : K) :
    bigSep Finset.univ Φ = iprop(Φ k ∗ bigSep (Finset.univ.erase k) Φ) := bigSep_univ_split k

/-- One buffer out of all of them, and back at other contents. -/
theorem own_split (c : Dev nD) (R : (k : K) → Memref sig .tc .vmem (sh k) (el k)) (X : St Val sh el) (k : K) :
    (Own c R X : sProp 𝕄) ⊢ iprop(owns (c : Thread nD τ) (R k) fullShare (X k)
      ∗ (∀ Y, owns (c : Thread nD τ) (R k) fullShare Y -∗ Own c R (Function.update X k Y))) := by
  unfold Own
  rw [split_univ _ k]
  iintro ⟨H, HR⟩
  isplitl [H]; · iexact H
  iintro %Y HY
  rw [split_univ _ k, Function.update_self]
  isplitl [HY]; · iexact HY
  rw [bigSep_congr (s := Finset.univ.erase k) (Φ := fun k' : K => owns (c : Thread nD τ) (R k') fullShare (Function.update X k Y k'))
    (Ψ := fun k' : K => owns (c : Thread nD τ) (R k') fullShare (X k'))
    fun k' hk => by rw [Function.update_of_ne (Finset.ne_of_mem_erase hk)]]
  iexact HR

variable {defs : Defs nD τ sig Val Λ} (𝒱 : Variants) (c : Dev nD) (bd : Option 𝒱.V) (E : Set Name)

theorem own_load {α : Type} (X : St Val sh el) (k : K) (r : Rect (sh k)) (h : (R k).view.LoadsAt r.toLoadRect)
    (f : (r.shape.Idx → Val (el k)) → Prog (TpuEff nD τ sig Val Λ .tc) α) (Q : α → sProp 𝕄) :
    (Own c R X : sProp 𝕄) ⊢ iprop((Own c R X -∗ wp frame (wpE defs 𝒱 c bd) E (f fun x => X k (r.emb x)) Q)
      -∗ wp frame (wpE defs 𝒱 c bd) E (.op (.load (R k) r.toLoadRect h) f) Q) := by
  refine (own_split c R X k).trans ?_
  rw [owns]
  iintro ⟨⟨%g, %hg, Hg⟩, HB⟩ HK
  iapply (wp_load (defs := defs) 𝒱 (c : Thread nD τ) bd E (r := r.toLoadRect) (hl := h) (S := (R k).view.set) (f := g)
    (View.setOn_subset_set _ _)) $$ Hg
  iintro Hg
  have e : (R k).view.readAt Val r.toLoadRect g = fun x => X k (r.emb x) := by
    funext x; rw [View.readAt_apply, hg]; rfl
  rw [e]
  iapply HK
  have e2 : Own (nD := nD) (τ := τ) (Ix := Ix) (Name := Name) (U := U) (Lvl := Lvl) c R X = Own c R (Function.update X k (X k)) := by
    rw [Function.update_eq_self]
  rw [e2]
  iapply HB
  rw [owns]
  iexists g
  isplitr; · ipureintro; exact hg
  iexact Hg

theorem own_store {α : Type} (X : St Val sh el) (k : K) (r : Rect (sh k)) (w : r.shape.Idx → Val (el k))
    (h : ((R k).access r).Stores Finset.univ)
    (f : PUnit → Prog (TpuEff nD τ sig Val Λ .tc) α) (Q : α → sProp 𝕄) :
    (Own c R X : sProp 𝕄)
      ⊢ iprop((Own c R (Function.update X k (put r w (X k))) -∗ wp frame (wpE defs 𝒱 c bd) E (f ⟨⟩) Q)
      -∗ wp frame (wpE defs 𝒱 c bd) E (.op (.store (R k) r w Finset.univ h (.inl rfl)) f) Q) := by
  refine (own_split c R X k).trans ?_
  rw [owns]
  iintro ⟨⟨%g, %hg, Hg⟩, HB⟩ HK
  iapply (wp_store (defs := defs) 𝒱 (c : Thread nD τ) bd E (m := R k) (r := r) (w := w) (Mk := Finset.univ) (hx := h) (hm := .inl rfl)
    (S := (R k).view.set) (f := g) (View.set_slice_subset _ _)) $$ Hg
  iintro Hg
  iapply HK
  iapply HB
  rw [owns]
  iexists ((R k).access r).write Val g w Finset.univ
  isplitr
  · ipureintro
    funext y
    by_cases hy : ∃ x, r.emb x = y
    · obtain ⟨x, rfl⟩ := hy
      rw [put_emb]
      exact View.read_slice_write_emb r g w (Finset.mem_univ x)
    · have hy' : ∀ x, r.emb x ≠ y := fun x hx => hy ⟨x, hx⟩
      rw [put_of_not _ _ _ _ hy', ← hg]
      exact View.read_slice_write_of_not_mem r g w Finset.univ fun hm => by
        obtain ⟨x, -, hx⟩ := Finset.mem_map.mp hm
        exact hy' x hx
  iexact Hg

/-- The program a text is does to the owned buffers what the text's function does to their contents. -/
theorem sound {α β : Type} (p : C Val R α) (X : St Val sh el) (k : α → Prog (TpuEff nD τ sig Val Λ .tc) β) (Q : β → sProp 𝕄) :
    (Own c R X : sProp 𝕄) ⊢ iprop((Own c R (p.den X).2 -∗ wp frame (wpE defs 𝒱 c bd) E (k (p.den X).1) Q)
      -∗ wp frame (wpE defs 𝒱 c bd) E (p.run (Λ := Λ) (nD := nD) (τ := τ) k) Q) := by
  induction p generalizing X β with
  | ret a =>
    iintro H HQ
    rw [C.run, C.den]
    iapply HQ; iexact H
  | ld b r h f ih =>
    iintro H HQ
    rw [C.run]
    iapply (own_load 𝒱 c bd E X b r h _ Q) $$ H
    iintro H
    iapply (ih _ X k Q) $$ H
    iexact HQ
  | st b r w h f ih =>
    iintro H HQ
    rw [C.run]
    iapply (own_store 𝒱 c bd E X b r w h _ Q) $$ H
    iintro H
    iapply (ih _ k Q) $$ H
    iexact HQ
  | loop L ok b f ihb ih =>
    iintro H HQ
    rw [C.run]
    iapply (Scf.wp_for_bind (M := 𝕄) frame (wpE defs 𝒱 c bd) E L.lb L.ub L.st ok ⟨⟩ (fun t _ => C.run (b t) .ret)
      (fun n _ => Own c R (((List.finRange L.trips).take n).foldl (fun X t => ((b t).den X).2) X)) ?_) $$ [H]
    · intro t _
      have e : (List.finRange L.trips).take (t.val + 1) = (List.finRange L.trips).take t.val ++ [t] := by
        rw [List.take_succ, List.getElem?_eq_getElem (by simp)]; simp
      dsimp only
      rw [e, List.foldl_append]
      iintro H
      iapply (ihb t _ _ _) $$ H
      iintro H
      rw [wp_ret]
      imodintro
      iexact H
    · iexact H
    · iintro %_ H
      have e : (List.finRange L.trips).take (Scf.trips L.lb L.ub L.st) = List.finRange L.trips := by
        apply List.take_of_length_le; simp
      dsimp only
      rw [e]
      iapply (ih _ k Q) $$ H
      iexact HQ
  | cond P d b f ihb ih =>
    iintro H HQ
    rw [C.run]
    by_cases hP : P
    · rw [dif_pos hP]
      iapply (ihb hP X _ Q) $$ H
      iintro H
      rw [C.den, dif_pos hP]
      iapply (ih _ k Q) $$ H
      iexact HQ
    · rw [dif_neg hP]
      rw [C.den, dif_neg hP]
      iapply (ih _ k Q) $$ H
      iexact HQ

end

end Cert.BufferText
-- ==== Proof.AttnText.lean ====
/-
  The attention's backward call as a text over its buffers: the phases of a step — a block's products, its elementwise
  part, its gradients — and the printed program's loop bodies and branches as those phases, one after the other.
-/
module

public import proofs.«01_k».proof.Defs
public import proofs.«01_k».proof.Proof.Gen.AttnIdeal.Frame
public import proofs.«01_k».proof.Proof.BufferText

@[expose] public section

set_option maxRecDepth 16384

noncomputable section

open Idealize.ShloMosaic Idealize.ShloMosaic.TcCoe Idealize.SL.Sem

namespace Cert.AttnIdeal.Text

open Cert.AttnIdeal Cert.AttnIdeal.Gen Cert.BufferText

/-- The call's buffers: the windows' staging buffers and the scratch. A pair of heads shares a grid point; a
    `Bool` names the head. -/
inductive Fld
  /-- a row block's queries, incoming gradients, and the queries' gradients -/
  | row (n : Fin 3)
  /-- the pair's keys, values, and their gradients -/
  | all (n : Fin 4)
  | car
  /-- the forward call's kept weights, and kept logistic values -/
  | kept (b : Bool)
  /-- the transposed keys, values -/
  | b16 (v : Bool)
  | km
  /-- the transposed keys' and values' gradients -/
  | b32 (v : Bool)
  /-- the carry `f`, and the queries' gradients, of a head -/
  | acc (g : Bool) (a : Bool)
  /-- the logits, and the weights' gradients, of a head -/
  | s32 (w : Bool) (a : Bool)
  /-- the logits' gradients, and the weights, of a head -/
  | s16 (w : Bool) (a : Bool)
  deriving DecidableEq, Fintype

@[reducible] def sh : Fld → Shape
  | .row _ => S256x128
  | .all _ => S8192x128
  | .car => S2x1x256x128
  | .kept _ => S2x1x256x512
  | .b16 _ => S32x128x256
  | .km => S2x8192x128
  | .b32 _ => S32x128x256
  | .acc _ _ => S256x128
  | .s32 _ _ => S2x256x256
  | .s16 _ _ => S2x256x256

@[reducible] def el : Fld → EltTy
  | .row _ => .bf16
  | .all _ => .bf16
  | .car => .f32
  | .kept _ => .f32
  | .b16 _ => .bf16
  | .km => .bf16
  | .b32 _ => .f32
  | .acc _ _ => .f32
  | .s32 _ _ => .f32
  | .s16 _ _ => .bf16

/-- The buffers. -/
abbrev Refs : Type := (k : Fld) → Memref sig .tc .vmem (sh k) (el k)

variable {F : FTy → Type} [FloatOps F] [Named F]
variable {R : Refs} (hR : ∀ k, (R k).IsWhole)

/-- A text of the call. -/
abbrev P (F : FTy → Type) (R : Refs) (α : Type) : Type 1 := C (Val := Elt F) R α

/-! ## One buffer read, one buffer written -/

theorem slotInb : ∀ (s : Fin 2) (a : Fin 3), (![s.val, 0, 0] : Fin 3 → Nat) a + S1x256x256.size a ≤ S2x256x256.size a := by
  decide

theorem slotPacked : ∀ s : Fin 2, (Rect.unit (s := S2x256x256) ![s.val, 0, 0] S1x256x256.size (slotInb s)).PackedRows (EltTy.packing .bf16)
  | 0 => packedbf16_S2x256x256_S1x256x256_0_0_0
  | 1 => packedbf16_S2x256x256_S1x256x256_1_0_0

def get32 (w a : Bool) (s : Fin 2) : P F R (FVec F S256x256 .f32) :=
  .ld (.s32 w a) (Rect.unit (s := S2x256x256) ![s.val, 0, 0] S1x256x256.size (slotInb s)) (View.loadsAt_vmem h_S1x256x256) fun x =>
  .ret (shapeCast S256x256 x shapeCasts_S1x256x256_S256x256)

def set32 (w a : Bool) (s : Fin 2) (x : FVec F S256x256 .f32) : P F R PUnit :=
  .ld (.s32 w a) (Rect.unit (s := S2x256x256) ![s.val, 0, 0] S1x256x256.size (slotInb s)) (View.loadsAt_vmem h_S1x256x256) fun _ =>
  .st (.s32 w a) (Rect.unit (s := S2x256x256) ![s.val, 0, 0] S1x256x256.size (slotInb s))
    (shapeCast S1x256x256 x shapeCasts_S256x256_S1x256x256) (View.stores_vmem_bits_univ h_S1x256x256 rfl) (.ret ⟨⟩)

def get16 (w a : Bool) (s : Fin 2) : P F R (FVec F S256x256 .bf16) :=
  .ld (.s16 w a) (Rect.unit (s := S2x256x256) ![s.val, 0, 0] S1x256x256.size (slotInb s)) (View.loadsAt_vmem h_S1x256x256) fun x =>
  .ret (shapeCast S256x256 x shapeCasts_S1x256x256_S256x256)

def set16 (w a : Bool) (s : Fin 2) (x : FVec F S256x256 .bf16) : P F R PUnit :=
  .ld (.s16 w a) (Rect.unit (s := S2x256x256) ![s.val, 0, 0] S1x256x256.size (slotInb s)) (View.loadsAt_vmem h_S1x256x256) fun _ =>
  .st (.s16 w a) (Rect.unit (s := S2x256x256) ![s.val, 0, 0] S1x256x256.size (slotInb s))
    (shapeCast S1x256x256 x shapeCasts_S256x256_S1x256x256)
    (View.stores_vmem h_S1x256x256 ((hR (.s16 w a)).storeExact_slice rfl _ (slotPacked s)) (fun _ => rfl)) (.ret ⟨⟩)

def getAcc (g a : Bool) : P F R (FVec F S256x128 .f32) :=
  .ld (.acc g a) (Rect.unit (s := S256x128) ![0, 0] S256x128.size inb_S256x128_S256x128_0_0) (View.loadsAt_vmem h_S256x128) fun x =>
  .ret x

def setAcc (g a : Bool) (x : FVec F S256x128 .f32) : P F R PUnit :=
  .ld (.acc g a) (Rect.unit (s := S256x128) ![0, 0] S256x128.size inb_S256x128_S256x128_0_0) (View.loadsAt_vmem h_S256x128) fun _ =>
  .st (.acc g a) (Rect.unit (s := S256x128) ![0, 0] S256x128.size inb_S256x128_S256x128_0_0)
    (shapeCast S256x128 x shapeCasts_S256x128_S256x128) (View.stores_vmem_bits_univ h_S256x128 rfl) (.ret ⟨⟩)

/-- A block of the transposed keys or values lies in its buffer. -/
abbrev InB (o : Fin 3 → Nat) : Prop := ∀ a, o a + S1x128x256.size a ≤ S32x128x256.size a
/-- A block of a head's keys lies in its buffer. -/
abbrev InK (o : Fin 3 → Nat) : Prop := ∀ a, o a + S1x256x128.size a ≤ S2x8192x128.size a

def getB16 (v : Bool) (o : Fin 3 → Nat) (ho : InB o) : P F R (FVec F S128x256 .bf16) :=
  .ld (.b16 v) (Rect.unit (s := S32x128x256) o S1x128x256.size ho) (View.loadsAt_vmem h_S1x128x256) fun x =>
  .ret (shapeCast S128x256 x shapeCasts_S1x128x256_S128x256)

def addB32 (v : Bool) (o : Fin 3 → Nat) (ho : InB o) (y : FVec F S128x256 .f32) : P F R PUnit :=
  .ld (.b32 v) (Rect.unit (s := S32x128x256) o S1x128x256.size ho) (View.loadsAt_vmem h_S1x128x256) fun x =>
  .ld (.b32 v) (Rect.unit (s := S32x128x256) o S1x128x256.size ho) (View.loadsAt_vmem h_S1x128x256) fun _ =>
  .st (.b32 v) (Rect.unit (s := S32x128x256) o S1x128x256.size ho)
    (shapeCast S1x128x256 (addf (shapeCast S128x256 x shapeCasts_S1x128x256_S128x256) y) shapeCasts_S128x256_S1x128x256)
    (View.stores_vmem_bits_univ h_S1x128x256 rfl) (.ret ⟨⟩)

def getKm (o : Fin 3 → Nat) (ho : InK o) : P F R (FVec F S256x128 .bf16) :=
  .ld .km (Rect.unit (s := S2x8192x128) o S1x256x128.size ho) (View.loadsAt_vmem h_S1x256x128) fun x =>
  .ret (shapeCast S256x128 x shapeCasts_S1x256x128_S256x128)

theorem carInb : ∀ (a : Bool) (d : Fin 4), (![a.toNat, 0, 0, 0] : Fin 4 → Nat) d + S1x1x256x128.size d ≤ S2x1x256x128.size d := by
  decide

def getCar (a : Bool) : P F R (FVec F S256x128 .f32) :=
  .ld .car (Rect.unit (s := S2x1x256x128) ![a.toNat, 0, 0, 0] S1x1x256x128.size (carInb a)) (View.loadsAt_vmem h_S1x1x256x128) fun x =>
  .ret (shapeCast S256x128 x shapeCasts_S1x1x256x128_S256x128)

theorem keptInb : ∀ (a d : Bool) (k : Fin 4),
    (![a.toNat, 0, 0, d.toNat * 256] : Fin 4 → Nat) k + S1x1x256x256.size k ≤ S2x1x256x512.size k := by
  decide

/-- The forward call's kept block: the diagonal one (`d`), or the one before it. -/
def getKept (b a d : Bool) : P F R (FVec F S256x256 .f32) :=
  .ld (.kept b) (Rect.unit (s := S2x1x256x512) ![a.toNat, 0, 0, d.toNat * 256] S1x1x256x256.size (keptInb a d))
    (View.loadsAt_vmem h_S1x1x256x256) fun x =>
  .ret (shapeCast S256x256 x shapeCasts_S1x1x256x256_S256x256)

/-! ## The phases -/

/-- What a grid point computes once: the scaled, masked queries and incoming gradients, transposed too, the
    lanes, rows, columns, and the inclusive prefix sum's matrix. -/
structure Vals (F : FTy → Type) where
  q : Bool → FVec F S256x128 .bf16
  o : Bool → FVec F S256x128 .bf16
  qT : Bool → FVec F S128x256 .bf16
  oT : Bool → FVec F S128x256 .bf16
  lane : IVec S1x128 32
  row : IVec S256x256 32
  col : IVec S256x256 32
  pre : FVec F S256x256 .bf16

variable (V : Vals F)

abbrev z256 : FVec F S256x256 .f32 := constant S256x256 .f32 0x00000000#32
abbrev zT : FVec F S128x256 .f32 := constant S128x256 .f32 0x00000000#32
abbrev zq : FVec F S256x128 .f32 := constant S256x128 .f32 0x00000000#32

abbrev dotQ (l : FVec F S256x128 .bf16) (r : FVec F S128x256 .bf16) : FVec F S256x256 .f32 :=
  matmul dot_S256x128_S128x256_S256x256_1_0_0_1_n_n none l r z256
abbrev dotP (l r : FVec F S256x256 .bf16) : FVec F S256x256 .f32 :=
  matmul dot_S256x256_S256x256_S256x256_1_0_0_1_n_n none l r z256
abbrev dotT (l : FVec F S128x256 .bf16) (r : FVec F S256x256 .bf16) : FVec F S128x256 .f32 :=
  matmul dot_S128x256_S256x256_S128x256_1_0_0_1_n_n none l r zT
abbrev dotG (l : FVec F S256x256 .bf16) (r : FVec F S256x128 .bf16) : FVec F S256x128 .f32 :=
  matmul dot_S256x256_S256x128_S256x128_1_0_0_1_n_n none l r zq
abbrev t16 (x : FVec F S256x256 .f32) : FVec F S256x256 .bf16 := truncf .bf16 x bitsLt_bf16_f32

/-- A block's logits and weights' gradients, of both heads. -/
def products (o : Fin 3 → Nat) (ho : InB o) (s : Fin 2) : P F R PUnit := do
  let k ← getB16 false o ho
  let v ← getB16 true o ho
  set32 false false s (dotQ (V.q false) k)
  set32 true false s (dotQ (V.o false) v)
  set32 false true s (dotQ (V.q true) k)
  set32 true true s (dotQ (V.o true) v)

/-- A block's part of the gradients, of one head: the queries' gradient added to, the keys' and values' parts. -/
def gradHead (a : Bool) (ok : Fin 3 → Nat) (hk : InK ok) (s : Fin 2) : P F R (FVec F S128x256 .f32 × FVec F S128x256 .f32) := do
  let d ← get16 false a s
  let g ← getAcc true a
  let k ← getKm ok hk
  setAcc true a (addf g (dotG d k))
  let w ← get16 true a s
  return (dotT (V.qT a) d, dotT (V.oT a) w)

/-- A block's part of the gradients. -/
def gradients (o : Fin 3 → Nat) (ho : InB o) (k0 k1 : Fin 3 → Nat) (h0 : InK k0) (h1 : InK k1) (s : Fin 2) : P F R PUnit := do
  let x ← gradHead V false k0 h0 s
  let y ← gradHead V true k1 h1 s
  addB32 false o ho (addf x.1 y.1)
  addB32 true o ho (addf x.2 y.2)

/-- max(l, 0) + log(1 + exp(−|l|)) -/
def softplus (l : FVec F S256x256 .f32) : FVec F S256x256 .f32 :=
  addf (maximumf l (broadcast S256x256 (Scalar.ofBits .f32 0x00000000#32)))
    (log (addf (broadcast S256x256 (Scalar.ofBits .f32 0x3F800000#32))
      (exp (subf (broadcast S256x256 (Scalar.ofBits .f32 0x00000000#32)) (absf l)))))

/-- The suffix sum's matrix. -/
def suf : FVec F S256x256 .bf16 := t16 (sitofp .f32 (extui 32 (cmpi .sge V.row V.col) natLt_1_32))

/-- The carry of a row at a block. -/
def carry (j : BitVec 32) (c : FVec F S256x128 .f32) : FVec F S256x256 .f32 :=
  broadcastTo S256x256 (shapeCast S256x1 (multiReduction .add [1] S256
    (select (broadcastTo S256x128 (shapeCast S1x128 (cmpi .eq V.lane (broadcast S1x128 j)) shapeCasts_S1x128_S1x128) broadcasts_S1x128_S256x128)
      c (broadcast S256x128 (Scalar.ofBits .f32 0x00000000#32)))
    0x00000000#32 reduces_S256x128_S256 (.inl rfl) rfl) shapeCasts_S256_S256x1) broadcasts_S256x1_S256x256

/-- A block's weights from its logits, one head: returns e = w · dw and the logistic values. -/
def weights (a : Bool) (j : BitVec 32) (s : Fin 2) (sp inc : FVec F S256x256 .f32) :
    P F R (FVec F S256x256 .f32 × FVec F S256x256 .f32) := do
  let l ← get32 false a s
  let c ← getCar a
  let w := exp (subf (subf l inc) (carry V j c))
  set16 hR true a s (t16 w)
  let dw ← get32 true a s
  return (mulf w dw, exp (subf l sp))

abbrev wide (f : FVec F S256x128 .f32) : FVec F S256x256 .f32 :=
  concatenate S256x256 1 [⟨S256x128, f⟩, ⟨S256x128, f⟩] concatenates_S256x128_S256x128_S256x256_d1

abbrev last (p : FVec F S256x256 .f32) : FVec F S256x128 .f32 :=
  broadcastTo S256x128 (extractStridedSlice S256x1 ![0, 255] p slices_S256x256_o0_255_S256x1) broadcasts_S256x1_S256x128

/-- A block's logits' gradients, one head, and the carry moved on. -/
def logits (a : Bool) (s : Fin 2) (e b p : FVec F S256x256 .f32) : P F R PUnit := do
  let f ← getAcc false a
  set16 hR false a s (t16 (subf e (mulf b (addf p (wide f)))))
  setAcc false a (addf f (last p))

/-- A block's elementwise part. -/
def elementwise (j : BitVec 32) (s : Fin 2) : P F R PUnit := do
  let l0 ← get32 false false s
  let l1 ← get32 false true s
  let x ← weights hR V false j s (softplus l0) (dotP (t16 (softplus l0)) (suf V))
  let y ← weights hR V true j s (softplus l1) (dotP (t16 (softplus l1)) (suf V))
  logits hR false s x.1 x.2 (dotP (t16 x.1) V.pre)
  logits hR true s y.1 y.2 (dotP (t16 y.1) V.pre)

/-- A block's weights' gradients alone, for a block whose weights the forward call kept. -/
def productsKept (o : Fin 3 → Nat) (ho : InB o) (s : Fin 2) : P F R PUnit := do
  let v ← getB16 true o ho
  set32 true false s (dotQ (V.o false) v)
  set32 true true s (dotQ (V.o true) v)

/-- The kept weights, one head: returns e = w · dw. -/
def weightsKept (a d : Bool) (s : Fin 2) : P F R (FVec F S256x256 .f32) := do
  let w ← getKept false a d
  set16 hR true a s (t16 w)
  let dw ← get32 true a s
  return mulf w dw

/-- The kept block on the diagonal alone. -/
def keptOne (o : Fin 3 → Nat) (ho : InB o) : P F R PUnit := do
  productsKept V o ho 0
  let e0 ← weightsKept hR false true 0
  let e1 ← weightsKept hR true true 0
  let f0 ← getAcc false false
  let b0 ← getKept true false true
  set16 hR false false 0 (t16 (subf e0 (mulf b0 (addf (dotP (t16 e0) V.pre) (wide f0)))))
  setAcc false false (addf f0 (last (dotP (t16 e0) V.pre)))
  let f1 ← getAcc false true
  let b1 ← getKept true true true
  set16 hR false true 0 (t16 (subf e1 (mulf b1 (addf (dotP (t16 e1) V.pre) (wide f1)))))
  setAcc false true (addf f1 (last (dotP (t16 e1) V.pre)))

/-- Both kept blocks' logits' gradients, one head. -/
def logitsKept (a : Bool) (s s' : Fin 2) (e e' : FVec F S256x256 .f32) : P F R PUnit := do
  let f ← getAcc false a
  let b ← getKept true a false
  set16 hR false a s (t16 (subf e (mulf b (addf (dotP (t16 e) V.pre) (wide f)))))
  let b' ← getKept true a true
  set16 hR false a s' (t16 (subf e' (mulf b' (addf (dotP (t16 e') V.pre) (wide (addf f (last (dotP (t16 e) V.pre))))))))
  setAcc false a (addf (addf f (last (dotP (t16 e) V.pre))) (last (dotP (t16 e') V.pre)))

/-- The two kept blocks: the one before the diagonal in slot `s`, the diagonal one in slot `s'`. -/
def keptTwo (o o' : Fin 3 → Nat) (ho : InB o) (ho' : InB o') (s s' : Fin 2) : P F R PUnit := do
  productsKept V o ho s
  productsKept V o' ho' s'
  let e0 ← weightsKept hR false false s
  let e1 ← weightsKept hR true false s
  let e0' ← weightsKept hR false true s'
  let e1' ← weightsKept hR true true s'
  logitsKept hR V false s s' e0 e0'
  logitsKept hR V true s s' e1 e1'

/-! ## The branches -/

variable (i : grid0.Coords) (t : BitVec 32) (h : k0_chk1 i t)

/-- Slot 1 cleared, and the first block's products. -/
def start (h2 : k0_cond2 i t = 1#1) : P F R PUnit := do
  set16 hR false false 1 (broadcast S256x256 (Scalar.ofBits .bf16 0x0000#16))
  set16 hR true false 1 (broadcast S256x256 (Scalar.ofBits .bf16 0x0000#16))
  set16 hR false true 1 (broadcast S256x256 (Scalar.ofBits .bf16 0x0000#16))
  set16 hR true true 1 (broadcast S256x256 (Scalar.ofBits .bf16 0x0000#16))
  products V (k0_off7 t) (k0_off7_inb i t h h2) 0

def twoSteps (k : Fin (k0_t3_loop i t).trips) : P F R PUnit := do
  products V (k0_off8 i t k) (k0_off8_inb i t h k) 1
  gradients V (k0_off11 i t k) (k0_off11_inb i t h k) (k0_off9 i t k) (k0_off10 i t k) (k0_off9_inb i t h k) (k0_off10_inb i t h k) 1
  elementwise hR V (Scalar.addi t (Scalar.muli 2#32 (Scf.iv 0#32 1#32 k))) 0
  products V (k0_off12 i t k) (k0_off12_inb i t h k) 0
  gradients V (k0_off15 i t k) (k0_off15_inb i t h k) (k0_off13 i t k) (k0_off14 i t k) (k0_off13_inb i t h k) (k0_off14_inb i t h k) 0
  elementwise hR V (Scalar.addi t (Scalar.addi (Scalar.muli 2#32 (Scf.iv 0#32 1#32 k)) 1#32)) 1

def twoSteps' (k : Fin (k0_t4_loop i t).trips) : P F R PUnit := do
  products V (k0_off16 i t k) (k0_off16_inb i t h k) 1
  gradients V (k0_off19 i t k) (k0_off19_inb i t h k) (k0_off17 i t k) (k0_off18 i t k) (k0_off17_inb i t h k) (k0_off18_inb i t h k) 1
  elementwise hR V (Scalar.addi t (Scalar.muli 2#32 (Scf.iv (k0_t4_loop i t).lb (k0_t4_loop i t).st k))) 0
  products V (k0_off20 i t k) (k0_off20_inb i t h k) 0
  gradients V (k0_off23 i t k) (k0_off23_inb i t h k) (k0_off21 i t k) (k0_off22 i t k) (k0_off21_inb i t h k) (k0_off22_inb i t h k) 0
  elementwise hR V (Scalar.addi t (Scalar.addi (Scalar.muli 2#32 (Scf.iv (k0_t4_loop i t).lb (k0_t4_loop i t).st k)) 1#32)) 1

def onlyDiagonal : P F R PUnit := do
  keptOne hR V (k0_off24 i) (k0_off24_inb i)
  gradients V (k0_off24 i) (k0_off24_inb i) (k0_off25 i) (k0_off26 i) (k0_off25_inb i) (k0_off26_inb i) 0

def lastTwo (h4 : k0_cond4 i t = 1#1) : P F R PUnit := do
  keptTwo hR V (k0_off27 i) (k0_off28 i) (k0_off27_inb i t h h4) (k0_off28_inb i) 0 1
  gradients V (k0_off27 i) (k0_off27_inb i t h h4) (k0_off29 i) (k0_off30 i) (k0_off29_inb i t h h4) (k0_off30_inb i t h h4) 0
  gradients V (k0_off28 i) (k0_off28_inb i) (k0_off31 i) (k0_off32 i) (k0_off31_inb i) (k0_off32_inb i) 1

def lastTwoOdd (h5 : k0_cond5 i t = 1#1) : P F R PUnit := do
  gradients V (k0_off35 i 2#32) (k0_off35_inb i t h h5 1) (k0_off33 i 2#32) (k0_off34 i 2#32) (k0_off33_inb i t h h5 1) (k0_off34_inb i t h h5 1) 1
  keptTwo hR V (k0_off35 i 1#32) (k0_off36 i) (k0_off35_inb i t h h5 0) (k0_off36_inb i) 0 1
  gradients V (k0_off35 i 1#32) (k0_off35_inb i t h h5 0) (k0_off33 i 1#32) (k0_off34 i 1#32) (k0_off33_inb i t h h5 0) (k0_off34_inb i t h h5 0) 0
  gradients V (k0_off36 i) (k0_off36_inb i) (k0_off37 i) (k0_off38 i) (k0_off37_inb i) (k0_off38_inb i) 1

def lastTwoEven (n : BitVec 32) (h6 : k0_cond6 i t = 1#1) : P F R PUnit := do
  products V (k0_off39 i t) (k0_off39_inb i t h h6) 1
  gradients V (k0_off42 i t) (k0_off42_inb i t h h6) (k0_off40 i t) (k0_off41 i t) (k0_off40_inb i t h h6) (k0_off41_inb i t h h6) 1
  elementwise hR V (Scalar.addi t (Scalar.subi n 2#32)) 0
  gradients V (k0_off45 i 2#32) (k0_off45_inb i t h h6 1) (k0_off43 i 2#32) (k0_off44 i 2#32) (k0_off43_inb i t h h6 1) (k0_off44_inb i t h h6 1) 0
  keptTwo hR V (k0_off45 i 1#32) (k0_off46 i) (k0_off45_inb i t h h6 0) (k0_off46_inb i) 1 0
  gradients V (k0_off45 i 1#32) (k0_off45_inb i t h h6 0) (k0_off43 i 1#32) (k0_off44 i 1#32) (k0_off43_inb i t h h6 0) (k0_off44_inb i t h h6 0) 1
  gradients V (k0_off46 i) (k0_off46_inb i) (k0_off47 i) (k0_off48 i) (k0_off47_inb i) (k0_off48_inb i) 0

/-- The condition that the diagonal block is the only live one. -/
abbrev onlyCond (n : BitVec 32) : Prop :=
  Scalar.cmpi .ne (Scalar.extui (Scalar.cmpi .eq n 0#32) : BitVec 32) 0#32 = 1#1

def part59 (n : BitVec 32) : P F R (Σ' (v153 : BitVec 1), BitVec 32) :=
  .cond (k0_cond2 i t = 1#1) inferInstance (start hR V i t h) <|
  .loop (k0_t3_loop i t) (k0_t3_ok i t h) (twoSteps hR V i t h) <|
  .loop (k0_t4_loop i t) (k0_t4_ok i t h) (twoSteps' hR V i t h) <|
  .cond (onlyCond n) inferInstance (fun _ => onlyDiagonal hR V i) <|
  .cond (k0_cond4 i t = 1#1) inferInstance (lastTwo hR V i t h) <|
  .ret ⟨Scalar.cmpi .sgt n 1#32, Scalar.select (Scalar.cmpi .eq 2#32 0#32) 1#32 2#32⟩

/-- The blocks from the threshold to the diagonal. -/
abbrev cnt : BitVec 32 := Scalar.subi (BitVec.ofNat 32 (i 1).val) t

def setRow (x : FVec F S256x128 .bf16) : P F R PUnit :=
  .ld (.row 2) (Rect.unit (s := S256x128) ![0, 0] S256x128.size inb_S256x128_S256x128_0_0) (View.loadsAt_vmem h_S256x128) fun _ =>
  .st (.row 2) (Rect.unit (s := S256x128) ![0, 0] S256x128.size inb_S256x128_S256x128_0_0) x
    (View.stores_vmem h_S256x128 ((hR (.row 2)).storeExact_slice rfl _ packedbf16_S256x128_S256x128_0_0) (fun _ => rfl)) (.ret ⟨⟩)

/-- The queries' gradient of the row block. -/
def rowOut : P F R PUnit := do
  let a ← getAcc true false
  let b ← getAcc true true
  setRow hR (truncf .bf16 (mulf (addf a b) (broadcast S256x128 (Scalar.ofBits .f32 0x3E000000#32))) bitsLt_bf16_f32)

def part60 : P F R (BitVec 1) :=
  .cond (k0_cond5 i t = 1#1) inferInstance (lastTwoOdd hR V i t h) <|
  .cond (k0_cond6 i t = 1#1) inferInstance (lastTwoEven hR V i t h (cnt i t)) do
  rowOut hR
  return Scalar.cmpi .eq (BitVec.ofNat 32 (i 1).val) 31#32

/-! ## Before the blocks -/

abbrev half0 : IVec S1x128 1 := cmpi .slt (iota .tc S1x128 32 [1] iota_S1x128_d1_w32) (broadcast S1x128 64#32)
abbrev half1 : IVec S1x128 1 := cmpi .sge (iota .tc S1x128 32 [1] iota_S1x128_d1_w32) (broadcast S1x128 64#32)
abbrev wideMask (m : IVec S1x128 1) : IVec S256x128 1 :=
  broadcastTo S256x128 (shapeCast S1x128 m shapeCasts_S1x128_S1x128) broadcasts_S1x128_S256x128

/-- A row block times a constant, the lanes of one head. -/
def masked (m : IVec S1x128 1) (c : BitVec 32) (x : FVec F S256x128 .bf16) : FVec F S256x128 .bf16 :=
  truncf .bf16 (select (wideMask m)
    (mulf (extf .f32 (shapeCast S256x128 x shapeCasts_S256x128_S256x128) bitsLt_bf16_f32) (broadcast S256x128 (Scalar.ofBits .f32 c)))
    (broadcast S256x128 (Scalar.ofBits .f32 0x00000000#32))) bitsLt_bf16_f32

/-- A block transposed. -/
def tr (x : FVec F S256x128 .bf16) : FVec F S128x256 .bf16 :=
  truncf .bf16 (transpose S128x256 [1, 0] (extf .f32 x bitsLt_bf16_f32) transposes_S256x128_p1_0_S128x256) bitsLt_bf16_f32

def vals (x y : FVec F S256x128 .bf16) : Vals F where
  q a := match a with
    | false => masked half0 0x3E000000#32 x
    | true => masked half1 0x3E000000#32 x
  o a := match a with
    | false => masked half0 0x3F800000#32 y
    | true => masked half1 0x3F800000#32 y
  qT a := match a with
    | false => tr (masked half0 0x3E000000#32 x)
    | true => tr (masked half1 0x3E000000#32 x)
  oT a := match a with
    | false => tr (masked half0 0x3F800000#32 y)
    | true => tr (masked half1 0x3F800000#32 y)
  lane := iota .tc S1x128 32 [1] iota_S1x128_d1_w32
  row := iota .tc S256x256 32 [0] iota_S256x256_d0_w32
  col := iota .tc S256x256 32 [1] iota_S256x256_d1_w32
  pre := t16 (sitofp .f32 (extui 32 (cmpi .sle (iota .tc S256x256 32 [0] iota_S256x256_d0_w32)
    (iota .tc S256x256 32 [1] iota_S256x256_d1_w32)) natLt_1_32))

/-- A block of the keys: transposed, and each head's lanes alone. -/
def prepareKeys (h1 : k0_cond1 i = 1#1) (k : Fin k0_t1_loop.trips) : P F R PUnit :=
  .ld (.all 0) (Rect.unit (s := S8192x128) (k0_off1 k) S256x128.size (k0_off1_inb i k h1)) (View.loadsAt_vmem h_S256x128) fun x =>
  .ld (.b16 false) (Rect.unit (s := S32x128x256) (k0_off2 k) S1x128x256.size (k0_off2_inb i k h1)) (View.loadsAt_vmem h_S1x128x256) fun _ =>
  .st (.b16 false) (Rect.unit (s := S32x128x256) (k0_off2 k) S1x128x256.size (k0_off2_inb i k h1))
    (shapeCast S1x128x256 (tr (shapeCast S256x128 x shapeCasts_S256x128_S256x128)) shapeCasts_S128x256_S1x128x256)
    (View.stores_vmem h_S1x128x256 ((hR (.b16 false)).storeExact_slice rfl _ (k0_off2_packedbf16 i k h1)) (fun _ => rfl)) <|
  .ld .km (Rect.unit (s := S2x8192x128) (k0_off3 k) S1x256x128.size (k0_off3_inb i k h1)) (View.loadsAt_vmem h_S1x256x128) fun _ =>
  .st .km (Rect.unit (s := S2x8192x128) (k0_off3 k) S1x256x128.size (k0_off3_inb i k h1))
    (shapeCast S1x256x128 (select (wideMask half0) (shapeCast S256x128 x shapeCasts_S256x128_S256x128)
      (broadcast S256x128 (Scalar.ofBits .bf16 0x0000#16))) shapeCasts_S256x128_S1x256x128)
    (View.stores_vmem h_S1x256x128 ((hR .km).storeExact_slice rfl _ (k0_off3_packedbf16 i k h1)) (fun _ => rfl)) <|
  .ld .km (Rect.unit (s := S2x8192x128) (k0_off4 k) S1x256x128.size (k0_off4_inb i k h1)) (View.loadsAt_vmem h_S1x256x128) fun _ =>
  .st .km (Rect.unit (s := S2x8192x128) (k0_off4 k) S1x256x128.size (k0_off4_inb i k h1))
    (shapeCast S1x256x128 (select (wideMask half1) (shapeCast S256x128 x shapeCasts_S256x128_S256x128)
      (broadcast S256x128 (Scalar.ofBits .bf16 0x0000#16))) shapeCasts_S256x128_S1x256x128)
    (View.stores_vmem h_S1x256x128 ((hR .km).storeExact_slice rfl _ (k0_off4_packedbf16 i k h1)) (fun _ => rfl)) (.ret ⟨⟩)

/-- A block of the values, transposed. -/
def prepareValues (h1 : k0_cond1 i = 1#1) (k : Fin k0_t2_loop.trips) : P F R PUnit :=
  .ld (.all 1) (Rect.unit (s := S8192x128) (k0_off5 k) S256x128.size (k0_off5_inb i k h1)) (View.loadsAt_vmem h_S256x128) fun x =>
  .ld (.b16 true) (Rect.unit (s := S32x128x256) (k0_off6 k) S1x128x256.size (k0_off6_inb i k h1)) (View.loadsAt_vmem h_S1x128x256) fun _ =>
  .st (.b16 true) (Rect.unit (s := S32x128x256) (k0_off6 k) S1x128x256.size (k0_off6_inb i k h1))
    (shapeCast S1x128x256 (tr (shapeCast S256x128 x shapeCasts_S256x128_S256x128)) shapeCasts_S128x256_S1x128x256)
    (View.stores_vmem h_S1x128x256 ((hR (.b16 true)).storeExact_slice rfl _ (k0_off6_packedbf16 i k h1)) (fun _ => rfl)) (.ret ⟨⟩)

def clear (v : Bool) : P F R PUnit :=
  .ld (.b32 v) (Rect.unit (s := S32x128x256) ![0, 0, 0] S32x128x256.size inb_S32x128x256_S32x128x256_0_0_0) (View.loadsAt_vmem h_S32x128x256) fun _ =>
  .st (.b32 v) (Rect.unit (s := S32x128x256) ![0, 0, 0] S32x128x256.size inb_S32x128x256_S32x128x256_0_0_0)
    (shapeCast S32x128x256 (broadcast S32x128x256 (Scalar.ofBits .f32 0x00000000#32)) shapeCasts_S32x128x256_S32x128x256)
    (View.stores_vmem_bits_univ h_S32x128x256 rfl) (.ret ⟨⟩)

/-- At a pair's first row block: keys and values prepared, their gradients cleared. -/
def prepare (h1 : k0_cond1 i = 1#1) : P F R PUnit :=
  .loop k0_t1_loop (k0_t1_ok i h1) (prepareKeys hR i h1) <|
  .loop k0_t2_loop (k0_t2_ok i h1) (prepareValues hR i h1) do
  clear false
  clear true

def getRow (n : Fin 3) : P F R (FVec F S256x128 .bf16) :=
  .ld (.row n) (Rect.unit (s := S256x128) ![0, 0] S256x128.size inb_S256x128_S256x128_0_0) (View.loadsAt_vmem h_S256x128) fun x => .ret x

def part56 : P F R (Σ' (arg1 : BitVec 32) (v17 : FVec F S256x128 .bf16) (v22 : FVec F S256x128 .bf16) (v27 : FVec F S256x128 .f32)
    (v37 : FVec F S256x128 .bf16) (v39 : IVec S256x128 1), FVec F S256x128 .f32) :=
  .cond (k0_cond1 i = 1#1) inferInstance (prepare hR i) do
  let x ← getRow 0
  let y ← getRow 1
  return ⟨BitVec.ofNat 32 (i 1).val, (vals x y).q false, (vals x y).q true,
    mulf (extf .f32 (shapeCast S256x128 y shapeCasts_S256x128_S256x128) bitsLt_bf16_f32) (broadcast S256x128 (Scalar.ofBits .f32 0x3F800000#32)),
    (vals x y).o false, wideMask half1, broadcast S256x128 (Scalar.ofBits .f32 0x00000000#32)⟩

theorem part56_eq : k0_part56 (F := F) i (R (.row 0)) (hR _) (R (.all 0)) (hR _) (R (.all 1)) (hR _) (R (.row 1)) (hR _) (R (.car)) (hR _) (R (.kept false)) (hR _) (R (.kept true)) (hR _) (R (.row 2)) (hR _) (R (.all 2)) (hR _) (R (.all 3)) (hR _) (R (.b16 false)) (hR _) (R (.b16 true)) (hR _) (R (.km)) (hR _) (R (.b32 false)) (hR _) (R (.b32 true)) (hR _) (R (.acc false false)) (hR _) (R (.acc false true)) (hR _) (R (.acc true false)) (hR _) (R (.acc true true)) (hR _) (R (.s32 false false)) (hR _) (R (.s32 false true)) (hR _) (R (.s32 true false)) (hR _) (R (.s32 true true)) (hR _) (R (.s16 false false)) (hR _) (R (.s16 false true)) (hR _) (R (.s16 true false)) (hR _) (R (.s16 true true)) (hR _) = (part56 hR i).run .ret := by
  rfl

def getCarRaw (a : Bool) : P F R (FVec F S1x1x256x128 .f32) :=
  .ld .car (Rect.unit (s := S2x1x256x128) ![a.toNat, 0, 0, 0] S1x1x256x128.size (carInb a)) (View.loadsAt_vmem h_S1x1x256x128) fun x =>
  .ret x

/-- The first live block of a grid point, from the rows' carries of both heads. -/
def firstLive (c0 c1 : FVec F S1x1x256x128 .f32) : BitVec 32 :=
  let lane : IVec S1x128 32 := iota .tc S1x128 32 [1] iota_S1x128_d1_w32
  let least (c : FVec F S1x1x256x128 .f32) : FVec F S1x128 .f32 := shapeCast S1x128 (multiReduction .minimumf [0] S128
    (shapeCast S256x128 c shapeCasts_S1x1x256x128_S256x128) 0x7F800000#32 reduces_S256x128_S128 (.inl rfl) rfl) shapeCasts_S128_S1x128
  let live (c : FVec F S1x1x256x128 .f32) : IVec S1x128 1 := cmpf .ole (subf (least c)
    (broadcastTo S1x128 (shapeCast S1x1 (multiReduction .maximumf [1] S1
      (select (cmpi .eq lane (broadcast S1x128 127#32)) (least c) (broadcast S1x128 (Scalar.ofBits .f32 0xFF61B1E6#32)))
      0xFF800000#32 reduces_S1x128_S1 (.inl rfl) rfl) shapeCasts_S1_S1x1) broadcasts_S1x1_S1x128))
    (broadcast S1x128 (Named.named κ "zero_weight" 0x42DC0000#32))
  extractAt ![0, 0, 0] (shapeCast S1x1x1 (multiReductionI .minsi [1, 2] S1 (shapeCast S1x1x128
    (select (andi (ori (ori (cmpi .eq lane (broadcast S1x128 (BitVec.ofNat 32 (i 1).val))) (live c0)) (live c1))
      (cmpi .sle lane (broadcast S1x128 (BitVec.ofNat 32 (i 1).val)))) lane (broadcast S1x128 (BitVec.ofNat 32 (i 1).val)))
    shapeCasts_S1x128_S1x1x128) 2147483647#32 reduces_S1x1x128_S1 rfl) shapeCasts_S1_S1x1x1) inpos_S1x1x1_p0_0_0

/-- Everything before the blocks. -/
def head : P F R (Vals F × BitVec 32) :=
  .cond (k0_cond1 i = 1#1) inferInstance (prepare hR i) do
  let x ← getRow 0
  let y ← getRow 1
  setAcc false false (broadcast S256x128 (Scalar.ofBits .f32 0x00000000#32))
  setAcc true false (broadcast S256x128 (Scalar.ofBits .f32 0x00000000#32))
  setAcc false true (broadcast S256x128 (Scalar.ofBits .f32 0x00000000#32))
  setAcc true true (broadcast S256x128 (Scalar.ofBits .f32 0x00000000#32))
  let c0 ← getCarRaw false
  let c1 ← getCarRaw true
  return (vals x y, firstLive i c0 c1)

/-! ## After the blocks -/

/-- A block of the keys' and the values' gradients written out. -/
def writeBlock (h7 : k0_cond7 i = 1#1) (k : Fin k0_t5_loop.trips) : P F R PUnit :=
  .ld (.b32 false) (Rect.unit (s := S32x128x256) (k0_off49 k) S1x128x256.size (k0_off49_inb i k h7)) (View.loadsAt_vmem h_S1x128x256) fun x =>
  .ld (.all 2) (Rect.unit (s := S8192x128) (k0_off50 k) S256x128.size (k0_off50_inb i k h7)) (View.loadsAt_vmem h_S256x128) fun _ =>
  .st (.all 2) (Rect.unit (s := S8192x128) (k0_off50 k) S256x128.size (k0_off50_inb i k h7))
    (truncf .bf16 (transpose S256x128 [1, 0] (shapeCast S128x256 x shapeCasts_S1x128x256_S128x256) transposes_S128x256_p1_0_S256x128) bitsLt_bf16_f32)
    (View.stores_vmem h_S256x128 ((hR (.all 2)).storeExact_slice rfl _ (k0_off50_packedbf16 i k h7)) (fun _ => rfl)) <|
  .ld (.b32 true) (Rect.unit (s := S32x128x256) (k0_off49 k) S1x128x256.size (k0_off49_inb i k h7)) (View.loadsAt_vmem h_S1x128x256) fun x =>
  .ld (.all 3) (Rect.unit (s := S8192x128) (k0_off50 k) S256x128.size (k0_off50_inb i k h7)) (View.loadsAt_vmem h_S256x128) fun _ =>
  .st (.all 3) (Rect.unit (s := S8192x128) (k0_off50 k) S256x128.size (k0_off50_inb i k h7))
    (truncf .bf16 (transpose S256x128 [1, 0] (shapeCast S128x256 x shapeCasts_S1x128x256_S128x256) transposes_S128x256_p1_0_S256x128) bitsLt_bf16_f32)
    (View.stores_vmem h_S256x128 ((hR (.all 3)).storeExact_slice rfl _ (k0_off50_packedbf16 i k h7)) (fun _ => rfl)) (.ret ⟨⟩)

def writeAll : P F R PUnit :=
  .cond (k0_cond7 i = 1#1) inferInstance
    (fun h7 => .loop k0_t5_loop (k0_t5_ok i h7) (writeBlock hR i h7) (.ret ⟨⟩)) (.ret ⟨⟩)

set_option maxHeartbeats 4000000 in
/-- The printed body. -/
theorem body_eq : cc0_attn_bwd (F := F) i (R (.row 0)) (hR _) (R (.all 0)) (hR _) (R (.all 1)) (hR _) (R (.row 1)) (hR _) (R (.car)) (hR _) (R (.kept false)) (hR _) (R (.kept true)) (hR _) (R (.row 2)) (hR _) (R (.all 2)) (hR _) (R (.all 3)) (hR _) (R (.b16 false)) (hR _) (R (.b16 true)) (hR _) (R (.km)) (hR _) (R (.b32 false)) (hR _) (R (.b32 true)) (hR _) (R (.acc false false)) (hR _) (R (.acc false true)) (hR _) (R (.acc true false)) (hR _) (R (.acc true true)) (hR _) (R (.s32 false false)) (hR _) (R (.s32 false true)) (hR _) (R (.s32 true false)) (hR _) (R (.s32 true true)) (hR _) (R (.s16 false false)) (hR _) (R (.s16 false true)) (hR _) (R (.s16 true false)) (hR _) (R (.s16 true true)) (hR _)
    = (head hR i).run fun z => .op (.assume (k0_chk1 i z.2) (k0_chk1.dec i z.2)) fun h =>
      ((part59 hR z.1 i z.2 h.down (cnt i z.2)).run .ret) >>= fun _ =>
      ((part60 hR z.1 i z.2 h.down).run .ret) >>= fun _ => (writeAll hR i).run .ret := by
  unfold cc0_attn_bwd
  rw [part56_eq hR i, C.run_bind]
  rfl

end Cert.AttnIdeal.Text
-- ==== Proof.AttnThreshold.lean ====
/-
  The first live block of a grid point lies at or before the row block: the side condition that the attention's
  backward body assumes. Then the body as one text.
-/
module

public import proofs.«01_k».proof.Proof.AttnText
public import Idealize.ShloMosaic.PureOps.Reduce

@[expose] public section
set_option maxRecDepth 65536
noncomputable section
open Idealize.ShloMosaic Idealize.ShloMosaic.TcCoe Idealize.SL.Sem
namespace Cert.AttnIdeal.Text
open Cert.AttnIdeal Cert.AttnIdeal.Gen Cert.BufferText
variable {F : FTy → Type} [FloatOps F] [Named F]

/-- A row block alone, as a grid point. -/
def pt (a : Fin 32) : grid0.Coords := fun | 0 => (0 : Fin 4) | 1 => a

theorem chk_pt : ∀ a t : Fin 32, t ≤ a → k0_chk1 (pt a) (BitVec.ofNat 32 t.val) := by
  decide +kernel

theorem minsi_mem (x y : BitVec 32) : IntOp.minsi x y = x ∨ IntOp.minsi x y = y := by
  unfold IntOp.minsi; split
  · exact .inl rfl
  · exact .inr rfl

/-- A least element of elements at most `n` is at most `n`. -/
theorem foldMin_le {ι : Type} (n : Nat) (hn : n < 32) (f : ι → BitVec 32) (hf : ∀ x, (f x).toNat ≤ n) (l : List ι) (r : BitVec 32)
    (h : r.toNat ≤ n ∨ (r = 2147483647#32 ∧ l ≠ [])) : (l.foldl (fun r x => IntOp.minsi r (f x)) r).toNat ≤ n := by
  induction l generalizing r with
  | nil =>
    rcases h with h | ⟨-, h⟩
    · exact h
    · exact absurd rfl h
  | cons a l ih =>
    rw [List.foldl_cons]
    apply ih
    left
    rcases h with h | ⟨rfl, -⟩
    · rcases minsi_mem r (f a) with e | e <;> rw [e]
      · exact h
      · exact hf a
    · have h1 := hf a
      have e : IntOp.minsi 2147483647#32 (f a) = f a := by
        unfold IntOp.minsi
        rw [if_neg]
        simp only [BitVec.slt, BitVec.toInt_eq_toNat_cond]
        have : (2147483647#32 : BitVec 32).toNat = 2147483647 := rfl
        simp only [this]
        norm_num
        split <;> omega
      rw [e]; exact h1

theorem select_le {s : Shape} (p : IVec s 1) (x y : IVec s 32) (n : Nat) (j : s.Idx)
    (h : p j = 1#1 → (x j).toNat ≤ n) (hy : (y j).toNat ≤ n) : (select p x y j).toNat ≤ n := by
  show (if p j = 1 then x j else y j).toNat ≤ n
  split
  · exact h ‹_›
  · exact hy

theorem le_of_sle : ∀ (l : Fin 128) (n : Fin 32), IntOp.cmpi .sle (BitVec.ofNat 32 l.val) (BitVec.ofNat 32 n.val) = 1#1 → l.val ≤ n.val := by
  decide +kernel

theorem andi_right : ∀ x y : BitVec 1, IntOp.andi x y = 1#1 → y = 1#1 := by decide

theorem picked_le (n : Nat) (hn : n < 32) (a : IVec S1x128 1) (j : S1x128.Idx) :
    BitVec.toNat (select (andi a (cmpi .sle (iota .tc S1x128 32 [1] iota_S1x128_d1_w32) (broadcast S1x128 (BitVec.ofNat 32 n))))
      (iota .tc S1x128 32 [1] iota_S1x128_d1_w32) (broadcast S1x128 (BitVec.ofNat 32 n)) j) ≤ n := by
  have hj : (j 1).val < 128 := (j 1).isLt
  have e : iota .tc S1x128 32 [1] iota_S1x128_d1_w32 j = BitVec.ofNat 32 (j 1).val := by
    show BitVec.ofNat 32 (0 * 128 + (j 1).val) = _
    rw [Nat.zero_mul, Nat.zero_add]
  apply select_le
  · intro h
    have h2 := andi_right _ _ h
    have h3 : IntOp.cmpi .sle (iota .tc S1x128 32 [1] iota_S1x128_d1_w32 j) (BitVec.ofNat 32 n) = 1#1 := h2
    rw [e] at h3 ⊢
    rw [BitVec.toNat_ofNat]
    have := le_of_sle ⟨_, hj⟩ ⟨n, hn⟩ h3
    dsimp only at this
    omega
  · show (BitVec.ofNat 32 n).toNat ≤ _
    rw [BitVec.toNat_ofNat]; omega

theorem firstLive_le (i : grid0.Coords) (c0 c1 : FVec F S1x1x256x128 .f32) : (firstLive i c0 c1).toNat ≤ (i 1).val := by
  have hi : (i 1).val < 32 := (i 1).isLt
  unfold firstLive
  dsimp only
  unfold extractAt
  show (multiReductionI .minsi [1, 2] S1 _ _ _ _ _).toNat ≤ _
  unfold multiReductionI
  dsimp only
  rw [reduceFold_eq_foldl_of_size_one _ (by intro b; fin_cases b; rfl)]
  apply foldMin_le _ hi
  · intro x
    unfold shapeCast
    exact picked_le _ hi _ _
  · right
    refine ⟨rfl, fun h => ?_⟩
    have h2 := congrArg List.length h
    rw [List.length_map, List.length_finRange] at h2
    exact absurd h2 (by decide)

theorem chk (i : grid0.Coords) (c0 c1 : FVec F S1x1x256x128 .f32) : k0_chk1 i (firstLive i c0 c1) := by
  have hi : (i 1).val < 32 := (i 1).isLt
  have h := firstLive_le i c0 c1
  have e : firstLive i c0 c1 = BitVec.ofNat 32 (firstLive i c0 c1).toNat := by simp
  have := chk_pt (i 1) ⟨(firstLive i c0 c1).toNat, by omega⟩ (by exact h)
  rw [e]
  exact this

variable {R : Refs} (hR : ∀ k, (R k).IsWhole) (i : grid0.Coords)

/-- The body as one text. -/
def afterHead (z : Vals F × BitVec 32) : P F R PUnit :=
  if h : k0_chk1 i z.2 then do
    let _ ← part59 hR z.1 i z.2 h (cnt i z.2)
    let _ ← part60 hR z.1 i z.2 h
    writeAll hR i
  else .ret ⟨⟩

def body : P F R PUnit := head hR i >>= afterHead hR i

end Cert.AttnIdeal.Text
-- ==== Proof.AttnBody.lean ====
/-
  The attention's backward body on the buffers it owns: it does to them what its text does to their contents.
-/
module

public import proofs.«01_k».proof.Proof.AttnThreshold

@[expose] public section
set_option maxRecDepth 65536
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AttnIdeal.Text
open Cert.AttnIdeal Cert.AttnIdeal.Gen Cert.BufferText
variable {F : FTy → Type} [FloatOps F] [Named F]

local notation "𝕄" => MT nD τ sig Unit (Elt F) ℕ (UR sig nD τ) ℕ

variable {R : Refs} (hR : ∀ k, (R k).IsWhole) (i : grid0.Coords)

theorem chk_head (X : St (Elt F) sh el) : k0_chk1 i ((head hR i).den X).1.2 := chk i _ _

/-- The body does what its text does. -/
theorem body_wp (c : Dev nD) (X : St (Elt F) sh el) (Q : PUnit → sProp 𝕄) :
    (Own c R X : sProp 𝕄) ⊢ iprop((Own c R ((body hR i).den X).2 -∗ Q ⟨⟩)
      -∗ wp frame (wpE (defs₀ (F := F)) Variants.none c none) Set.univ (cc0_attn_bwd (F := F) i (R (.row 0)) (hR _) (R (.all 0)) (hR _) (R (.all 1)) (hR _) (R (.row 1)) (hR _) (R (.car)) (hR _) (R (.kept false)) (hR _) (R (.kept true)) (hR _) (R (.row 2)) (hR _) (R (.all 2)) (hR _) (R (.all 3)) (hR _) (R (.b16 false)) (hR _) (R (.b16 true)) (hR _) (R (.km)) (hR _) (R (.b32 false)) (hR _) (R (.b32 true)) (hR _) (R (.acc false false)) (hR _) (R (.acc false true)) (hR _) (R (.acc true false)) (hR _) (R (.acc true true)) (hR _) (R (.s32 false false)) (hR _) (R (.s32 false true)) (hR _) (R (.s32 true false)) (hR _) (R (.s32 true true)) (hR _) (R (.s16 false false)) (hR _) (R (.s16 false true)) (hR _) (R (.s16 true false)) (hR _) (R (.s16 true true)) (hR _)) Q) := by
  have hc := chk_head hR i X
  rw [body_eq hR i, body, C.den_bind, afterHead, dif_pos hc, C.den_bind, C.den_bind]
  iintro H HQ
  iapply (sound Variants.none c none Set.univ (head hR i) X _ Q) $$ H
  iintro H
  iapply (wp_assume Variants.none (c : Thread nD τ) none Set.univ hc)
  rw [C.run_bind]
  iapply (sound Variants.none c none Set.univ (part59 hR ((head hR i).den X).1.1 i ((head hR i).den X).1.2 hc (cnt i ((head hR i).den X).1.2)) _ _ Q) $$ H
  iintro H
  rw [C.run_bind]
  iapply (sound Variants.none c none Set.univ (part60 hR ((head hR i).den X).1.1 i ((head hR i).den X).1.2 hc) _ _ Q) $$ H
  iintro H
  iapply (sound Variants.none c none Set.univ (writeAll hR i) _ _ Q) $$ H
  iintro H
  rw [wp_ret]
  imodintro
  iapply HQ $$ H

end Cert.AttnIdeal.Text
-- ==== Proof.AttnFrame.lean ====
/-
  The attention's backward call from its body's text: the windows and the scratch as the text's buffers, the body at
  a grid point, and the frame.
-/
module

public import proofs.«01_k».proof.Proof.AttnBody

@[expose] public section
set_option maxRecDepth 65536
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.AttnIdeal.Text
open Cert.AttnIdeal Cert.AttnIdeal.Gen Cert.BufferText
variable {F : FTy → Type} [FloatOps F] [Named F]

local notation "𝕄" => MT nD τ sig Unit (Elt F) ℕ (UR sig nD τ) ℕ

/-- The text's buffers at a grid point. -/
def Rt (t : Fin cfg0.N) : Refs
  | .row 0 => st0_0 t
  | .all 0 => st0_1 t
  | .all 1 => st0_2 t
  | .row 1 => st0_3 t
  | .car => st0_4 t
  | .kept false => st0_5 t
  | .kept true => st0_6 t
  | .row 2 => st0_7 t
  | .all 2 => st0_8 t
  | .all 3 => st0_9 t
  | .b16 false => Memref.whole cc0_scratch0
  | .b16 true => Memref.whole cc0_scratch1
  | .km => Memref.whole cc0_scratch2
  | .b32 false => Memref.whole cc0_scratch3
  | .b32 true => Memref.whole cc0_scratch4
  | .acc false false => Memref.whole cc0_scratch5
  | .acc false true => Memref.whole cc0_scratch6
  | .acc true false => Memref.whole cc0_scratch7
  | .acc true true => Memref.whole cc0_scratch8
  | .s32 false false => Memref.whole cc0_scratch9
  | .s32 false true => Memref.whole cc0_scratch10
  | .s32 true false => Memref.whole cc0_scratch11
  | .s32 true true => Memref.whole cc0_scratch12
  | .s16 false false => Memref.whole cc0_scratch13
  | .s16 false true => Memref.whole cc0_scratch14
  | .s16 true false => Memref.whole cc0_scratch15
  | .s16 true true => Memref.whole cc0_scratch16

theorem hRt (t : Fin cfg0.N) : ∀ k, (Rt t k).IsWhole
  | .row 0 => hstage0_0 ((cfg0.slots t 0).cast nbuf0_0)
  | .all 0 => hstage0_1 ((cfg0.slots t 1).cast nbuf0_1)
  | .all 1 => hstage0_2 ((cfg0.slots t 2).cast nbuf0_2)
  | .row 1 => hstage0_3 ((cfg0.slots t 3).cast nbuf0_3)
  | .car => hstage0_4 ((cfg0.slots t 4).cast nbuf0_4)
  | .kept false => hstage0_5 ((cfg0.slots t 5).cast nbuf0_5)
  | .kept true => hstage0_6 ((cfg0.slots t 6).cast nbuf0_6)
  | .row 2 => hstage0_7 ((cfg0.slots t 7).cast nbuf0_7)
  | .all 2 => hstage0_8 ((cfg0.slots t 8).cast nbuf0_8)
  | .all 3 => hstage0_9 ((cfg0.slots t 9).cast nbuf0_9)
  | .b16 false => Memref.isWhole_whole _
  | .b16 true => Memref.isWhole_whole _
  | .km => Memref.isWhole_whole _
  | .b32 false => Memref.isWhole_whole _
  | .b32 true => Memref.isWhole_whole _
  | .acc false false => Memref.isWhole_whole _
  | .acc false true => Memref.isWhole_whole _
  | .acc true false => Memref.isWhole_whole _
  | .acc true true => Memref.isWhole_whole _
  | .s32 false false => Memref.isWhole_whole _
  | .s32 false true => Memref.isWhole_whole _
  | .s32 true false => Memref.isWhole_whole _
  | .s32 true true => Memref.isWhole_whole _
  | .s16 false false => Memref.isWhole_whole _
  | .s16 false true => Memref.isWhole_whole _
  | .s16 true false => Memref.isWhole_whole _
  | .s16 true true => Memref.isWhole_whole _

theorem own_eq (c : Dev nD) (R : Refs) (X : St (Elt F) sh el) :
    (Own c R X : sProp 𝕄) = iprop(owns (c : Thread nD τ) (R (.row 0)) fullShare (X (.row 0)) ∗ owns (c : Thread nD τ) (R (.all 0)) fullShare (X (.all 0)) ∗ owns (c : Thread nD τ) (R (.all 1)) fullShare (X (.all 1)) ∗ owns (c : Thread nD τ) (R (.row 1)) fullShare (X (.row 1)) ∗ owns (c : Thread nD τ) (R (.car)) fullShare (X (.car)) ∗ owns (c : Thread nD τ) (R (.kept false)) fullShare (X (.kept false)) ∗ owns (c : Thread nD τ) (R (.kept true)) fullShare (X (.kept true)) ∗ owns (c : Thread nD τ) (R (.row 2)) fullShare (X (.row 2)) ∗ owns (c : Thread nD τ) (R (.all 2)) fullShare (X (.all 2)) ∗ owns (c : Thread nD τ) (R (.all 3)) fullShare (X (.all 3)) ∗ owns (c : Thread nD τ) (R (.b16 false)) fullShare (X (.b16 false)) ∗ owns (c : Thread nD τ) (R (.b16 true)) fullShare (X (.b16 true)) ∗ owns (c : Thread nD τ) (R (.km)) fullShare (X (.km)) ∗ owns (c : Thread nD τ) (R (.b32 false)) fullShare (X (.b32 false)) ∗ owns (c : Thread nD τ) (R (.b32 true)) fullShare (X (.b32 true)) ∗ owns (c : Thread nD τ) (R (.acc false false)) fullShare (X (.acc false false)) ∗ owns (c : Thread nD τ) (R (.acc false true)) fullShare (X (.acc false true)) ∗ owns (c : Thread nD τ) (R (.acc true false)) fullShare (X (.acc true false)) ∗ owns (c : Thread nD τ) (R (.acc true true)) fullShare (X (.acc true true)) ∗ owns (c : Thread nD τ) (R (.s32 false false)) fullShare (X (.s32 false false)) ∗ owns (c : Thread nD τ) (R (.s32 false true)) fullShare (X (.s32 false true)) ∗ owns (c : Thread nD τ) (R (.s32 true false)) fullShare (X (.s32 true false)) ∗ owns (c : Thread nD τ) (R (.s32 true true)) fullShare (X (.s32 true true)) ∗ owns (c : Thread nD τ) (R (.s16 false false)) fullShare (X (.s16 false false)) ∗ owns (c : Thread nD τ) (R (.s16 false true)) fullShare (X (.s16 false true)) ∗ owns (c : Thread nD τ) (R (.s16 true false)) fullShare (X (.s16 true false)) ∗ owns (c : Thread nD τ) (R (.s16 true true)) fullShare (X (.s16 true true))) :=
  bigSep_univ_eq_bigSepL ([.row 0, .all 0, .all 1, .row 1, .car, .kept false, .kept true, .row 2, .all 2, .all 3, .b16 false, .b16 true, .km, .b32 false, .b32 true, .acc false false, .acc false true, .acc true false, .acc true true, .s32 false false, .s32 false true, .s32 true false, .s32 true true, .s16 false false, .s16 false true, .s16 true false, .s16 true true] : List Fld) (by decide) (by decide) _

/-- The scratch, at the contents `X`. -/
def Scratch (c : Dev nD) (X : St (Elt F) sh el) : sProp 𝕄 :=
  iprop(owns (c : Thread nD τ) (Memref.whole cc0_scratch0) fullShare (X (.b16 false)) ∗ owns (c : Thread nD τ) (Memref.whole cc0_scratch1) fullShare (X (.b16 true)) ∗ owns (c : Thread nD τ) (Memref.whole cc0_scratch2) fullShare (X (.km)) ∗ owns (c : Thread nD τ) (Memref.whole cc0_scratch3) fullShare (X (.b32 false)) ∗ owns (c : Thread nD τ) (Memref.whole cc0_scratch4) fullShare (X (.b32 true)) ∗ owns (c : Thread nD τ) (Memref.whole cc0_scratch5) fullShare (X (.acc false false)) ∗ owns (c : Thread nD τ) (Memref.whole cc0_scratch6) fullShare (X (.acc false true)) ∗ owns (c : Thread nD τ) (Memref.whole cc0_scratch7) fullShare (X (.acc true false)) ∗ owns (c : Thread nD τ) (Memref.whole cc0_scratch8) fullShare (X (.acc true true)) ∗ owns (c : Thread nD τ) (Memref.whole cc0_scratch9) fullShare (X (.s32 false false)) ∗ owns (c : Thread nD τ) (Memref.whole cc0_scratch10) fullShare (X (.s32 false true)) ∗ owns (c : Thread nD τ) (Memref.whole cc0_scratch11) fullShare (X (.s32 true false)) ∗ owns (c : Thread nD τ) (Memref.whole cc0_scratch12) fullShare (X (.s32 true true)) ∗ owns (c : Thread nD τ) (Memref.whole cc0_scratch13) fullShare (X (.s16 false false)) ∗ owns (c : Thread nD τ) (Memref.whole cc0_scratch14) fullShare (X (.s16 false true)) ∗ owns (c : Thread nD τ) (Memref.whole cc0_scratch15) fullShare (X (.s16 true false)) ∗ owns (c : Thread nD τ) (Memref.whole cc0_scratch16) fullShare (X (.s16 true true)))

/-- The windows' contents over the scratch's. -/
def asm (x0 : (sh (.row 0)).Idx → Elt F (el (.row 0))) (x1 : (sh (.all 0)).Idx → Elt F (el (.all 0))) (x2 : (sh (.all 1)).Idx → Elt F (el (.all 1))) (x3 : (sh (.row 1)).Idx → Elt F (el (.row 1))) (x4 : (sh (.car)).Idx → Elt F (el (.car))) (x5 : (sh (.kept false)).Idx → Elt F (el (.kept false))) (x6 : (sh (.kept true)).Idx → Elt F (el (.kept true))) (x7 : (sh (.row 2)).Idx → Elt F (el (.row 2))) (x8 : (sh (.all 2)).Idx → Elt F (el (.all 2))) (x9 : (sh (.all 3)).Idx → Elt F (el (.all 3))) (Z : St (Elt F) sh el) : St (Elt F) sh el
  | .row 0 => x0
  | .all 0 => x1
  | .all 1 => x2
  | .row 1 => x3
  | .car => x4
  | .kept false => x5
  | .kept true => x6
  | .row 2 => x7
  | .all 2 => x8
  | .all 3 => x9
  | .b16 false => Z (.b16 false)
  | .b16 true => Z (.b16 true)
  | .km => Z (.km)
  | .b32 false => Z (.b32 false)
  | .b32 true => Z (.b32 true)
  | .acc false false => Z (.acc false false)
  | .acc false true => Z (.acc false true)
  | .acc true false => Z (.acc true false)
  | .acc true true => Z (.acc true true)
  | .s32 false false => Z (.s32 false false)
  | .s32 false true => Z (.s32 false true)
  | .s32 true false => Z (.s32 true false)
  | .s32 true true => Z (.s32 true true)
  | .s16 false false => Z (.s16 false false)
  | .s16 false true => Z (.s16 false true)
  | .s16 true false => Z (.s16 true false)
  | .s16 true true => Z (.s16 true true)

/-- The windows and the scratch are the text's buffers. -/
theorem own_asm (c : Dev nD) (t : Fin cfg0.N) (x0 : (sh (.row 0)).Idx → Elt F (el (.row 0))) (x1 : (sh (.all 0)).Idx → Elt F (el (.all 0))) (x2 : (sh (.all 1)).Idx → Elt F (el (.all 1))) (x3 : (sh (.row 1)).Idx → Elt F (el (.row 1))) (x4 : (sh (.car)).Idx → Elt F (el (.car))) (x5 : (sh (.kept false)).Idx → Elt F (el (.kept false))) (x6 : (sh (.kept true)).Idx → Elt F (el (.kept true))) (x7 : (sh (.row 2)).Idx → Elt F (el (.row 2))) (x8 : (sh (.all 2)).Idx → Elt F (el (.all 2))) (x9 : (sh (.all 3)).Idx → Elt F (el (.all 3))) (Z : St (Elt F) sh el) :
    (iprop((owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare x6 ∗ owns (c : Thread nD τ) (st0_7 t) fullShare x7 ∗ owns (c : Thread nD τ) (st0_8 t) fullShare x8 ∗ owns (c : Thread nD τ) (st0_9 t) fullShare x9) ∗ Scratch c Z) : sProp 𝕄) ⊢ Own c (Rt t) (asm x0 x1 x2 x3 x4 x5 x6 x7 x8 x9 Z) := by
  rw [own_eq, Scratch]
  iintro ⟨⟨H0, H1, H2, H3, H4, H5, H6, H7, H8, H9⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HS

theorem own_windows (c : Dev nD) (t : Fin cfg0.N) (X : St (Elt F) sh el) :
    (Own c (Rt t) X : sProp 𝕄) ⊢ iprop((owns (c : Thread nD τ) (st0_0 t) fullShare (X (.row 0)) ∗ owns (c : Thread nD τ) (st0_1 t) fullShare (X (.all 0)) ∗ owns (c : Thread nD τ) (st0_2 t) fullShare (X (.all 1)) ∗ owns (c : Thread nD τ) (st0_3 t) fullShare (X (.row 1)) ∗ owns (c : Thread nD τ) (st0_4 t) fullShare (X (.car)) ∗ owns (c : Thread nD τ) (st0_5 t) fullShare (X (.kept false)) ∗ owns (c : Thread nD τ) (st0_6 t) fullShare (X (.kept true)) ∗ owns (c : Thread nD τ) (st0_7 t) fullShare (X (.row 2)) ∗ owns (c : Thread nD τ) (st0_8 t) fullShare (X (.all 2)) ∗ owns (c : Thread nD τ) (st0_9 t) fullShare (X (.all 3))) ∗ Scratch c X) := by
  rw [own_eq, Scratch]
  iintro ⟨H0, H1, H2, H3, H4, H5, H6, H7, H8, H9, HS⟩
  isplitr [HS]
  swap; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- What the body at a grid point does to the contents. -/
def step (t : Fin cfg0.N) (X : St (Elt F) sh el) : St (Elt F) sh el := ((body (hRt t) (grid0.coords t)).den X).2

theorem body_at (c : Dev nD) (t : Fin cfg0.N) (X : St (Elt F) sh el) (Q : PUnit → sProp 𝕄) :
    (Own c (Rt t) X : sProp 𝕄) ⊢ iprop((Own c (Rt t) (step t X) -∗ Q ⟨⟩)
      -∗ wp frame (wpE (defs₀ (F := F)) Variants.none c none) Set.univ (bodyAt0 t) Q) :=
  body_wp (hRt t) (grid0.coords t) c X Q

/-! ## The scratch and what the launch hands over -/

def scr0 (z0 : (sh (.b16 false)).Idx → Elt F (el (.b16 false))) (z1 : (sh (.b16 true)).Idx → Elt F (el (.b16 true))) (z2 : (sh (.km)).Idx → Elt F (el (.km))) (z3 : (sh (.b32 false)).Idx → Elt F (el (.b32 false))) (z4 : (sh (.b32 true)).Idx → Elt F (el (.b32 true))) (z5 : (sh (.acc false false)).Idx → Elt F (el (.acc false false))) (z6 : (sh (.acc false true)).Idx → Elt F (el (.acc false true))) (z7 : (sh (.acc true false)).Idx → Elt F (el (.acc true false))) (z8 : (sh (.acc true true)).Idx → Elt F (el (.acc true true))) (z9 : (sh (.s32 false false)).Idx → Elt F (el (.s32 false false))) (z10 : (sh (.s32 false true)).Idx → Elt F (el (.s32 false true))) (z11 : (sh (.s32 true false)).Idx → Elt F (el (.s32 true false))) (z12 : (sh (.s32 true true)).Idx → Elt F (el (.s32 true true))) (z13 : (sh (.s16 false false)).Idx → Elt F (el (.s16 false false))) (z14 : (sh (.s16 false true)).Idx → Elt F (el (.s16 false true))) (z15 : (sh (.s16 true false)).Idx → Elt F (el (.s16 true false))) (z16 : (sh (.s16 true true)).Idx → Elt F (el (.s16 true true))) (Z : St (Elt F) sh el) : St (Elt F) sh el
  | .b16 false => z0
  | .b16 true => z1
  | .km => z2
  | .b32 false => z3
  | .b32 true => z4
  | .acc false false => z5
  | .acc false true => z6
  | .acc true false => z7
  | .acc true true => z8
  | .s32 false false => z9
  | .s32 false true => z10
  | .s32 true false => z11
  | .s32 true true => z12
  | .s16 false false => z13
  | .s16 false true => z14
  | .s16 true false => z15
  | .s16 true true => z16
  | .row 0 => Z (.row 0)
  | .all 0 => Z (.all 0)
  | .all 1 => Z (.all 1)
  | .row 1 => Z (.row 1)
  | .car => Z (.car)
  | .kept false => Z (.kept false)
  | .kept true => Z (.kept true)
  | .row 2 => Z (.row 2)
  | .all 2 => Z (.all 2)
  | .all 3 => Z (.all 3)

theorem own_of (c : Dev nD) (b : Ref sig .tc) (f : b.ty.Contents (Elt F)) :
    (((c : Thread nD τ).loc b) ↦{fullShare} f : sProp 𝕄) ⊢ owns (c : Thread nD τ) (Memref.whole b) fullShare f := by
  rw [owns_whole]

theorem of_own (c : Dev nD) (b : Ref sig .tc) (f : b.ty.Contents (Elt F)) :
    owns (c : Thread nD τ) (Memref.whole b) fullShare f ⊢ (((c : Thread nD τ).loc b) ↦{fullShare} f : sProp 𝕄) := by
  rw [owns_whole]

/-- The invariant between grid points: the scratch at contents of which `I` holds, and the generator's register. -/
def PhiI (I : St (Elt F) sh el → Prop) (c : Dev nD) : sProp 𝕄 :=
  iprop((∃ Z, ⌜I Z⌝ ∗ Scratch c Z) ∗ (∃ r, prngReg c r))

theorem phi_in [∀ e, Nonempty (Elt F e)] (c : Dev nD) : (Pipeline.ΦA spec0 c : sProp 𝕄) ⊢ PhiI (fun _ => True) c := by
  unfold Pipeline.ΦA PhiI Scratch
  rw [scopedRest0_eq]
  iintro ⟨⟨⟨%z0, H0⟩, ⟨%z1, H1⟩, ⟨%z2, H2⟩, ⟨%z3, H3⟩, ⟨%z4, H4⟩, ⟨%z5, H5⟩, ⟨%z6, H6⟩, ⟨%z7, H7⟩, ⟨%z8, H8⟩, ⟨%z9, H9⟩, ⟨%z10, H10⟩, ⟨%z11, H11⟩, ⟨%z12, H12⟩, ⟨%z13, H13⟩, ⟨%z14, H14⟩, ⟨%z15, H15⟩, ⟨%z16, H16⟩⟩, Hg⟩
  isplitr [Hg]
  swap; · iexact Hg
  iexists (scr0 z0 z1 z2 z3 z4 z5 z6 z7 z8 z9 z10 z11 z12 z13 z14 z15 z16 fun _ _ => Classical.choice inferInstance)
  isplitr
  · ipureintro; trivial
  isplitl [H0]; · iapply (own_of c cc0_scratch0 z0) $$ H0
  isplitl [H1]; · iapply (own_of c cc0_scratch1 z1) $$ H1
  isplitl [H2]; · iapply (own_of c cc0_scratch2 z2) $$ H2
  isplitl [H3]; · iapply (own_of c cc0_scratch3 z3) $$ H3
  isplitl [H4]; · iapply (own_of c cc0_scratch4 z4) $$ H4
  isplitl [H5]; · iapply (own_of c cc0_scratch5 z5) $$ H5
  isplitl [H6]; · iapply (own_of c cc0_scratch6 z6) $$ H6
  isplitl [H7]; · iapply (own_of c cc0_scratch7 z7) $$ H7
  isplitl [H8]; · iapply (own_of c cc0_scratch8 z8) $$ H8
  isplitl [H9]; · iapply (own_of c cc0_scratch9 z9) $$ H9
  isplitl [H10]; · iapply (own_of c cc0_scratch10 z10) $$ H10
  isplitl [H11]; · iapply (own_of c cc0_scratch11 z11) $$ H11
  isplitl [H12]; · iapply (own_of c cc0_scratch12 z12) $$ H12
  isplitl [H13]; · iapply (own_of c cc0_scratch13 z13) $$ H13
  isplitl [H14]; · iapply (own_of c cc0_scratch14 z14) $$ H14
  isplitl [H15]; · iapply (own_of c cc0_scratch15 z15) $$ H15
  iapply (own_of c cc0_scratch16 z16) $$ H16

theorem phi_out (I : St (Elt F) sh el → Prop) (c : Dev nD) : PhiI I c ⊢ (Pipeline.ΦA spec0 c : sProp 𝕄) := by
  unfold Pipeline.ΦA PhiI Scratch
  rw [scopedRest0_eq]
  iintro ⟨⟨%Z, %_, H0, H1, H2, H3, H4, H5, H6, H7, H8, H9, H10, H11, H12, H13, H14, H15, H16⟩, Hg⟩
  isplitr [Hg]
  swap; · iexact Hg
  isplitl [H0]; · iexists _; iapply (of_own c cc0_scratch0 _) $$ H0
  isplitl [H1]; · iexists _; iapply (of_own c cc0_scratch1 _) $$ H1
  isplitl [H2]; · iexists _; iapply (of_own c cc0_scratch2 _) $$ H2
  isplitl [H3]; · iexists _; iapply (of_own c cc0_scratch3 _) $$ H3
  isplitl [H4]; · iexists _; iapply (of_own c cc0_scratch4 _) $$ H4
  isplitl [H5]; · iexists _; iapply (of_own c cc0_scratch5 _) $$ H5
  isplitl [H6]; · iexists _; iapply (of_own c cc0_scratch6 _) $$ H6
  isplitl [H7]; · iexists _; iapply (of_own c cc0_scratch7 _) $$ H7
  isplitl [H8]; · iexists _; iapply (of_own c cc0_scratch8 _) $$ H8
  isplitl [H9]; · iexists _; iapply (of_own c cc0_scratch9 _) $$ H9
  isplitl [H10]; · iexists _; iapply (of_own c cc0_scratch10 _) $$ H10
  isplitl [H11]; · iexists _; iapply (of_own c cc0_scratch11 _) $$ H11
  isplitl [H12]; · iexists _; iapply (of_own c cc0_scratch12 _) $$ H12
  isplitl [H13]; · iexists _; iapply (of_own c cc0_scratch13 _) $$ H13
  isplitl [H14]; · iexists _; iapply (of_own c cc0_scratch14 _) $$ H14
  isplitl [H15]; · iexists _; iapply (of_own c cc0_scratch15 _) $$ H15
  iexists _; iapply (of_own c cc0_scratch16 _) $$ H16

/-! ## The frame: every window at any contents -/

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := PhiI (fun _ => True) c
  q w := Pipeline.shareOf spec0 w
  owed _ := 0

theorem A_eq (c : Dev nD) (w : Fin cfg0.W) : (dats m 0 c).A w = V m c (Pipeline.arrRef spec0 w) := by
  dsimp only [dats]

theorem sound_any (c : Dev nD) (t : Fin cfg0.N) (O : sProp 𝕄) :
    (iprop(PhiI (F := F) (fun _ => True) c ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X)) : sProp 𝕄)
      ⊢ wp frame (wpE (defs₀ (F := F)) Variants.none c none) Set.univ (bodyAt0 t) fun _ =>
        iprop(PhiI (F := F) (fun _ => True) c ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X)) := by
  unfold PhiI
  iintro ⟨⟨⟨%Z, %_, HS⟩, Hg⟩, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩⟩
  ihave HO := (own_asm c t x0 x1 x2 x3 x4 x5 x6 x7 x8 x9 Z) $$ [H0 H1 H2 H3 H4 H5 H6 H7 H8 H9 HS]
  · isplitr [HS]
    swap; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iapply (body_at c t (asm x0 x1 x2 x3 x4 x5 x6 x7 x8 x9 Z) _) $$ HO
  iintro HO
  ihave HO := (own_windows c t (step t (asm x0 x1 x2 x3 x4 x5 x6 x7 x8 x9 Z))) $$ HO
  icases HO with ⟨⟨H0, H1, H2, H3, H4, H5, H6, H7, H8, H9⟩, HS⟩
  isplitl [HS Hg]
  · isplitr [Hg]
    swap; · iexact Hg
    iexists (step t (asm x0 x1 x2 x3 x4 x5 x6 x7 x8 x9 Z))
    isplitr
    · ipureintro; trivial
    iexact HS
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

theorem defs₀_row (t : Fin cfg0.N) :
    defs₀ (F := F) .tc cfg0.body (cfg0.bodyArgs t (cfg0.slots t)) = bodyAt0 t := by
  unfold defs₀; rw [Defs.onTc_tc]

theorem obligation (c : Dev nD) :
    BodyObligationLoose (dats (F := F) m 0 c) (defs₀ (F := F)) Variants.none () Set.univ (fun _ => true) := fun t => by
  rw [bigSep_W0, defs₀_row]
  exact triple_restated (sound_any (F := F) c t ((dats m 0 c).owesAt () t.castSucc)) rfl .rfl fun _ => .rfl

variable [∀ e, Nonempty (Elt F e)]

set_option backward.isDefEq.respectTransparency.types false in
theorem run : θ_run defs (onTc (τ := τ) (main (F := F))) (s₀ m ρ) (fun r =>
    (Pipeline.RDat.FramePost cfg0 (fun c => (dats m 0 c).toRForget fun _ => true) (V m)) r ∧ r.2.sem = fun _ => 0) :=
  Pipeline.θ_run_frame_track_forget_shared (Q' := _) cfgs (dats m) (0 : Fin 1) launch₀0 defs₀ Variants.none (fun _ => true) m ρ main
    (hbody := obligation m) (hq := fun _ _ _ => rfl)
    (howed := fun _ _ => rfl) (V := V m) (hmain := hmain m Variants.none) (hA := A_eq m) (hin := phi_in) (hout := phi_out _)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run m ρ)

end Cert.AttnIdeal.Text
-- ==== Proof.AttnSteps.lean ====
/-
  What the phases of the attention's backward call do to the buffers the three gradients come from:
  the logits, the weights, the logits' gradients, and the accumulated transposed gradients.
-/
module

public import proofs.«01_k».proof.Proof.AttnThreshold
public import Idealize.ShloMosaic.Lib.Pipeline.Value

@[expose] public section

set_option maxRecDepth 16384

noncomputable section

open Idealize.ShloMosaic Idealize.ShloMosaic.TcCoe Idealize.SL.Sem

namespace Cert.AttnIdeal.Text

open Cert.AttnIdeal Cert.AttnIdeal.Gen Cert.BufferText

variable {F : FTy → Type} [FloatOps F] [Named F]

/-- The buffers' contents. -/
abbrev Sta (F : FTy → Type) : Type := St (Elt F) sh el

/-! ## A slot, a block -/

theorem rd_put_same {s : Shape} {A : Type} (r : Rect s) (w : r.shape.Idx → A) (X : s.Idx → A) :
    (fun x => put r w X (r.emb x)) = w := funext fun x => put_emb r w X x

theorem rd_put_other {s : Shape} {A : Type} (r r' : Rect s) (w : r'.shape.Idx → A) (X : s.Idx → A)
    (h : ∀ x y, r'.emb y ≠ r.emb x) : (fun x => put r' w X (r.emb x)) = fun x => X (r.emb x) :=
  funext fun x => put_of_not r' w X _ fun y => h x y

abbrev slotR (s : Fin 2) : Rect S2x256x256 := Rect.unit (s := S2x256x256) ![s.val, 0, 0] S1x256x256.size (slotInb s)

theorem slot_ne {s s' : Fin 2} (h : s' ≠ s) (x : (slotR s).shape.Idx) (y : (slotR s').shape.Idx) : (slotR s').emb y ≠ (slotR s).emb x := by
  intro e
  have := congrArg (fun z : S2x256x256.Idx => (z 0).val) e
  have hx : (x 0).val < 1 := (x 0).isLt
  have hy : (y 0).val < 1 := (y 0).isLt
  have : s'.val + 1 * (y 0).val = s.val + 1 * (x 0).val := this
  exact h (Fin.ext (by omega))

/-- Block `j`'s offset. -/
abbrev bo (j : Fin 32) : Fin 3 → Nat := ![j.val, 0, 0]

theorem boIn (j : Fin 32) : InB (bo j) := by revert j; decide

abbrev blkR (j : Fin 32) : Rect S32x128x256 := Rect.unit (s := S32x128x256) (bo j) S1x128x256.size (boIn j)

theorem blk_ne {s s' : Fin 32} (h : s' ≠ s) (x : (blkR s).shape.Idx) (y : (blkR s').shape.Idx) : (blkR s').emb y ≠ (blkR s).emb x := by
  intro e
  have := congrArg (fun z : S32x128x256.Idx => (z 0).val) e
  have hx : (x 0).val < 1 := (x 0).isLt
  have hy : (y 0).val < 1 := (y 0).isLt
  have : s'.val + 1 * (y 0).val = s.val + 1 * (x 0).val := this
  exact h (Fin.ext (by omega))

def slot {A : Type} (X : S2x256x256.Idx → A) (s : Fin 2) : S256x256.Idx → A :=
  shapeCast S256x256 (fun x : (slotR s).shape.Idx => X ((slotR s).emb x)) shapeCasts_S1x256x256_S256x256

def blk {A : Type} (X : S32x128x256.Idx → A) (j : Fin 32) : S128x256.Idx → A :=
  shapeCast S128x256 (fun x : (blkR j).shape.Idx => X ((blkR j).emb x)) shapeCasts_S1x128x256_S128x256

theorem slot_put {A : Type} (X : S2x256x256.Idx → A) (s s' : Fin 2) (w : S256x256.Idx → A) :
    slot (put (slotR s') (shapeCast S1x256x256 w shapeCasts_S256x256_S1x256x256) X) s = if s = s' then w else slot X s := by
  split
  · rename_i h; subst h
    unfold slot
    rw [rd_put_same]
    exact shapeCast_shapeCast _ _ _
  · rename_i h
    unfold slot
    rw [rd_put_other _ _ _ _ (slot_ne (Ne.symm h))]

theorem blk_put {A : Type} (X : S32x128x256.Idx → A) (s s' : Fin 32) (w : S128x256.Idx → A) :
    blk (put (blkR s') (shapeCast S1x128x256 w shapeCasts_S128x256_S1x128x256) X) s = if s = s' then w else blk X s := by
  split
  · rename_i h; subst h
    unfold blk
    rw [rd_put_same]
    exact shapeCast_shapeCast _ _ _
  · rename_i h
    unfold blk
    rw [rd_put_other _ _ _ _ (blk_ne (Ne.symm h))]

/-! ## The part of the buffers looked at -/

/-- The logits and the weights' gradients, the logits' gradients and the weights, the carries `f` and the queries'
    gradients, and the keys' and the values' gradients' blocks. -/
@[ext] structure Part (F : FTy → Type) where
  s32 : Bool → Bool → Fin 2 → FVec F S256x256 .f32
  s16 : Bool → Bool → Fin 2 → FVec F S256x256 .bf16
  acc : Bool → Bool → FVec F S256x128 .f32
  b32 : Bool → Fin 32 → FVec F S128x256 .f32

namespace Part
def set32 (A : Part F) (w a : Bool) (s : Fin 2) (x : FVec F S256x256 .f32) : Part F :=
  { A with s32 := fun w' a' s' => if w' = w ∧ a' = a ∧ s' = s then x else A.s32 w' a' s' }
def set16 (A : Part F) (w a : Bool) (s : Fin 2) (x : FVec F S256x256 .bf16) : Part F :=
  { A with s16 := fun w' a' s' => if w' = w ∧ a' = a ∧ s' = s then x else A.s16 w' a' s' }
def setAcc (A : Part F) (g a : Bool) (x : FVec F S256x128 .f32) : Part F :=
  { A with acc := fun g' a' => if g' = g ∧ a' = a then x else A.acc g' a' }
def addB (A : Part F) (v : Bool) (j : Fin 32) (y : FVec F S128x256 .f32) : Part F :=
  { A with b32 := fun v' j' => if v' = v ∧ j' = j then addf (A.b32 v j) y else A.b32 v' j' }
end Part

abbrev rowR : Rect S256x128 := Rect.unit (s := S256x128) ![0, 0] S256x128.size inb_S256x128_S256x128_0_0

def abs (X : Sta F) : Part F where
  s32 w a s := slot (A := F .f32) (X (.s32 w a)) s
  s16 w a s := slot (A := F .bf16) (X (.s16 w a)) s
  acc g a := fun x => X (.acc g a) (rowR.emb x)
  b32 v j := blk (A := F .f32) (X (.b32 v)) j

/-- The buffers no phase writes. -/
def inp : Fld → Bool
  | .row n => n != 2
  | .all _ => true
  | .car => true
  | .kept _ => true
  | .b16 _ => true
  | .km => true
  | _ => false

/-- The buffers no phase writes hold what `X₀` does. -/
def Ok (X₀ X : Sta F) : Prop := ∀ k, inp k = true → X k = X₀ k

variable {R : Refs} (hR : ∀ k, (R k).IsWhole) (X₀ : Sta F)

/-- From `A` the text goes to `B`. -/
def H {α : Type} (A : Part F) (p : P F R α) (B : Part F) : Prop :=
  ∀ X, Ok X₀ X → abs X = A → Ok X₀ (p.den X).2 ∧ abs (p.den X).2 = B

/-- From `A` the text goes to `B`, returning `x`. -/
def Hv {α : Type} (A : Part F) (p : P F R α) (x : α) (B : Part F) : Prop :=
  ∀ X, Ok X₀ X → abs X = A → Ok X₀ (p.den X).2 ∧ abs (p.den X).2 = B ∧ (p.den X).1 = x

variable {X₀}

theorem H.bind {α β : Type} {A B D : Part F} {p : P F R α} {q : α → P F R β} (hp : H X₀ A p B) (hq : ∀ x, H X₀ B (q x) D) :
    H X₀ A (p >>= q) D := fun X ok e => by
  rw [C.den_bind]
  exact hq _ _ (hp X ok e).1 (hp X ok e).2

theorem Hv.bind {α β : Type} {A B D : Part F} {x : α} {p : P F R α} {q : α → P F R β} (hp : Hv X₀ A p x B) (hq : H X₀ B (q x) D) :
    H X₀ A (p >>= q) D := fun X ok e => by
  rw [C.den_bind]
  obtain ⟨h1, h2, h3⟩ := hp X ok e
  rw [h3]
  exact hq _ h1 h2

theorem H.bindv {α β : Type} {A B D : Part F} {y : β} {p : P F R α} {q : α → P F R β} (hp : H X₀ A p B) (hq : ∀ x, Hv X₀ B (q x) y D) :
    Hv X₀ A (p >>= q) y D := fun X ok e => by
  rw [C.den_bind]
  exact hq _ _ (hp X ok e).1 (hp X ok e).2

theorem Hv.bindv {α β : Type} {A B D : Part F} {x : α} {y : β} {p : P F R α} {q : α → P F R β} (hp : Hv X₀ A p x B)
    (hq : Hv X₀ B (q x) y D) : Hv X₀ A (p >>= q) y D := fun X ok e => by
  rw [C.den_bind]
  obtain ⟨h1, h2, h3⟩ := hp X ok e
  rw [h3]
  exact hq _ h1 h2

theorem Hv.ret {α : Type} {A : Part F} (x : α) : Hv X₀ (R := R) A (pure x) x A := fun X ok e => ⟨ok, e, rfl⟩
theorem H.ret {α : Type} {A : Part F} (x : α) : H X₀ (R := R) A (pure x) A := fun X ok e => ⟨ok, e⟩

theorem ok_update {X : Sta F} (ok : Ok X₀ X) (k : Fld) (h : inp k = false) (v : (sh k).Idx → Elt F (el k)) :
    Ok X₀ (Function.update X k v) := fun k' hk' => by
  rw [Function.update_of_ne (by rintro rfl; simp [h] at hk')]
  exact ok k' hk'

/-- A buffer outside the part. -/
def off : Fld → Bool
  | .s32 _ _ => false
  | .s16 _ _ => false
  | .acc _ _ => false
  | .b32 _ => false
  | _ => true

theorem abs_update (X : Sta F) (k : Fld) (h : off k = true) (v : (sh k).Idx → Elt F (el k)) : abs (Function.update X k v) = abs X := by
  unfold abs
  congr 1
  · funext w a s; rw [Function.update_of_ne (by rintro rfl; simp [off] at h)]
  · funext w a s; rw [Function.update_of_ne (by rintro rfl; simp [off] at h)]
  · funext g a x; rw [Function.update_of_ne (by rintro rfl; simp [off] at h)]
  · funext v j; rw [Function.update_of_ne (by rintro rfl; simp [off] at h)]

/-! ## One buffer -/

theorem hv_get32 (A : Part F) (w a : Bool) (s : Fin 2) : Hv X₀ A (get32 (R := R) w a s) (A.s32 w a s) A := fun X ok e => ⟨ok, e, e ▸ rfl⟩
theorem hv_get16 (A : Part F) (w a : Bool) (s : Fin 2) : Hv X₀ A (get16 (R := R) w a s) (A.s16 w a s) A := fun X ok e => ⟨ok, e, e ▸ rfl⟩
theorem hv_getAcc (A : Part F) (g a : Bool) : Hv X₀ A (getAcc (R := R) g a) (A.acc g a) A := fun X ok e => ⟨ok, e, e ▸ rfl⟩

/-- The transposed keys' or values' block. -/
def tT (X : Sta F) (v : Bool) (j : Fin 32) : FVec F S128x256 .bf16 := blk (A := F .bf16) (X (.b16 v)) j
/-- A head's carries. -/
def carOf (X : Sta F) (a : Bool) : FVec F S256x128 .f32 :=
  shapeCast S256x128 (fun x => X .car ((Rect.unit (s := S2x1x256x128) ![a.toNat, 0, 0, 0] S1x1x256x128.size (carInb a)).emb x))
    shapeCasts_S1x1x256x128_S256x128
/-- A kept block: of the weights, of the logistic values. -/
def keptOf (X : Sta F) (b a d : Bool) : FVec F S256x256 .f32 :=
  shapeCast S256x256 (fun x => X (.kept b) ((Rect.unit (s := S2x1x256x512) ![a.toNat, 0, 0, d.toNat * 256] S1x1x256x256.size (keptInb a d)).emb x))
    shapeCasts_S1x1x256x256_S256x256

/-- A head's keys' block's offset. -/
abbrev ko (a : Bool) (j : Fin 32) : Fin 3 → Nat := ![a.toNat, 256 * j.val, 0]
theorem koIn (a : Bool) (j : Fin 32) : InK (ko a j) := by revert a j; decide
/-- A head's keys' block. -/
def kmOf (X : Sta F) (a : Bool) (j : Fin 32) : FVec F S256x128 .bf16 :=
  shapeCast S256x128 (fun x => X .km ((Rect.unit (s := S2x8192x128) (ko a j) S1x256x128.size (koIn a j)).emb x)) shapeCasts_S1x256x128_S256x128

theorem hv_getB16 (A : Part F) (v : Bool) (j : Fin 32) : Hv X₀ A (getB16 (R := R) v (bo j) (boIn j)) (tT X₀ v j) A :=
  fun X ok e => ⟨ok, e, by unfold tT; rw [← ok (.b16 v) rfl]; rfl⟩
theorem hv_getKm (A : Part F) (a : Bool) (j : Fin 32) : Hv X₀ A (getKm (R := R) (ko a j) (koIn a j)) (kmOf X₀ a j) A :=
  fun X ok e => ⟨ok, e, by unfold kmOf; rw [← ok .km rfl]; rfl⟩
theorem hv_getCar (A : Part F) (a : Bool) : Hv X₀ A (getCar (R := R) a) (carOf X₀ a) A :=
  fun X ok e => ⟨ok, e, by unfold carOf; rw [← ok .car rfl]; rfl⟩
theorem hv_getKept (A : Part F) (b a d : Bool) : Hv X₀ A (getKept (R := R) b a d) (keptOf X₀ b a d) A :=
  fun X ok e => ⟨ok, e, by unfold keptOf; rw [← ok (.kept b) rfl]; rfl⟩

theorem h_set32 (A : Part F) (w a : Bool) (s : Fin 2) (x : FVec F S256x256 .f32) : H X₀ A (set32 (R := R) w a s x) (A.set32 w a s x) := by
  rintro X ok rfl
  refine ⟨ok_update ok (.s32 w a) rfl _, ?_⟩
  show abs (Function.update X (.s32 w a) (put (slotR s) (shapeCast S1x256x256 x shapeCasts_S256x256_S1x256x256) (X (.s32 w a)))) = _
  unfold abs Part.set32
  congr 1
  funext w' a' s'
  dsimp only
  by_cases h : w' = w ∧ a' = a
  · obtain ⟨rfl, rfl⟩ := h
    rw [Function.update_self, slot_put]
    simp
  · rw [Function.update_of_ne (by simpa using h), if_neg (fun h' => h ⟨h'.1, h'.2.1⟩)]

theorem h_set16 (A : Part F) (w a : Bool) (s : Fin 2) (x : FVec F S256x256 .bf16) : H X₀ A (set16 hR w a s x) (A.set16 w a s x) := by
  rintro X ok rfl
  refine ⟨ok_update ok (.s16 w a) rfl _, ?_⟩
  show abs (Function.update X (.s16 w a) (put (slotR s) (shapeCast S1x256x256 x shapeCasts_S256x256_S1x256x256) (X (.s16 w a)))) = _
  unfold abs Part.set16
  congr 1
  funext w' a' s'
  dsimp only
  by_cases h : w' = w ∧ a' = a
  · obtain ⟨rfl, rfl⟩ := h
    rw [Function.update_self, slot_put]
    simp
  · rw [Function.update_of_ne (by simpa using h), if_neg (fun h' => h ⟨h'.1, h'.2.1⟩)]

theorem h_setAcc (A : Part F) (g a : Bool) (x : FVec F S256x128 .f32) : H X₀ A (setAcc (R := R) g a x) (A.setAcc g a x) := by
  rintro X ok rfl
  refine ⟨ok_update ok (.acc g a) rfl _, ?_⟩
  show abs (Function.update X (.acc g a) (put rowR (shapeCast S256x128 x shapeCasts_S256x128_S256x128) (X (.acc g a)))) = _
  unfold abs Part.setAcc
  congr 1
  funext g' a'
  dsimp only
  by_cases h : g' = g ∧ a' = a
  · obtain ⟨rfl, rfl⟩ := h
    rw [if_pos ⟨rfl, rfl⟩, Function.update_self]
    exact (rd_put_same rowR _ _).trans (shapeCast_self _ _)
  · rw [Function.update_of_ne (by simpa using h), if_neg h]

theorem abs_upd_b32 (X : Sta F) (v : Bool) (Y : S32x128x256.Idx → F .f32) :
    abs (Function.update X (.b32 v) Y) = { abs X with b32 := fun v' j => if v' = v then blk Y j else (abs X).b32 v' j } := by
  unfold abs
  congr 1
  funext v' j
  dsimp only
  by_cases h : v' = v
  · subst h; rw [Function.update_self, if_pos rfl]
  · rw [Function.update_of_ne (by simpa using h), if_neg h]

theorem addB32_den (v : Bool) (o : Fin 3 → Nat) (ho : InB o) (y : FVec F S128x256 .f32) (X : Sta F) :
    ((addB32 (R := R) v o ho y).den X).2 = Function.update X (.b32 v) (put (Rect.unit (s := S32x128x256) o S1x128x256.size ho)
      (shapeCast S1x128x256 (addf (shapeCast S128x256 (fun x => X (.b32 v) ((Rect.unit (s := S32x128x256) o S1x128x256.size ho).emb x))
        shapeCasts_S1x128x256_S128x256) y) shapeCasts_S128x256_S1x128x256) (X (.b32 v))) := rfl

theorem h_addB (A : Part F) (v : Bool) (j : Fin 32) (y : FVec F S128x256 .f32) : H X₀ A (addB32 (R := R) v (bo j) (boIn j) y) (A.addB v j y) := by
  rintro X ok rfl
  rw [addB32_den]
  refine ⟨ok_update ok (.b32 v) rfl _, (abs_upd_b32 X v _).trans (congrArg (fun D => { abs X with b32 := D }) ?_)⟩
  funext v' j'
  by_cases h : v' = v
  · subst h
    refine (if_pos rfl).trans ((blk_put (A := F .f32) (X (.b32 v')) j' j (addf (blk (A := F .f32) (X (.b32 v')) j) y)).trans ?_)
    by_cases h' : j' = j
    · rw [if_pos h', if_pos ⟨rfl, h'⟩]; rfl
    · rw [if_neg h', if_neg (fun e => h' e.2)]; rfl
  · rw [if_neg h, if_neg (fun e => h e.1)]

/-! ## The phases -/

variable (V : Vals F)

/-- A block's logits, and its weights' gradients, of one head. -/
def lgOf (X : Sta F) (a : Bool) (j : Fin 32) : FVec F S256x256 .f32 := dotQ (V.q a) (tT X false j)
def dwOf (X : Sta F) (a : Bool) (j : Fin 32) : FVec F S256x256 .f32 := dotQ (V.o a) (tT X true j)

theorem h_products {A : Part F} {o : Fin 3 → Nat} {ho : InB o} {s : Fin 2} (j : Fin 32) (e : o = bo j) :
    H X₀ A (products (R := R) V o ho s) ((((A.set32 false false s (lgOf V X₀ false j)).set32 true false s (dwOf V X₀ false j)).set32
      false true s (lgOf V X₀ true j)).set32 true true s (dwOf V X₀ true j)) := by
  subst e
  exact (hv_getB16 A false j).bind <| (hv_getB16 A true j).bind <| (h_set32 _ _ _ _ _).bind fun _ => (h_set32 _ _ _ _ _).bind fun _ =>
    (h_set32 _ _ _ _ _).bind fun _ => h_set32 _ _ _ _ _

/-- What a block adds to its keys' and to its values' gradient. -/
def gr (v : Bool) (y0 y1 : FVec F S256x256 .bf16) : FVec F S128x256 .f32 := match v with
  | false => addf (dotT (V.qT false) y0) (dotT (V.qT true) y1)
  | true => addf (dotT (V.oT false) y0) (dotT (V.oT true) y1)

/-- A head's part of the queries' gradients added. -/
def Part.addG (X₀ : Sta F) (A : Part F) (a : Bool) (j : Fin 32) (s : Fin 2) : Part F :=
  A.setAcc true a (addf (A.acc true a) (dotG (A.s16 false a s) (kmOf X₀ a j)))

theorem hv_gradHead (A : Part F) (a : Bool) (j : Fin 32) (s : Fin 2) : Hv X₀ A (gradHead (R := R) V a (ko a j) (koIn a j) s)
    (dotT (V.qT a) (A.s16 false a s), dotT (V.oT a) (A.s16 true a s)) (A.addG X₀ a j s) :=
  (hv_get16 A false a s).bindv <| (hv_getAcc A true a).bindv <| (hv_getKm A a j).bindv <| (h_setAcc A true a _).bindv fun _ =>
    (hv_get16 _ true a s).bindv <| Hv.ret _

theorem h_gradients {A : Part F} {o k0 k1 : Fin 3 → Nat} {ho : InB o} {h0 : InK k0} {h1 : InK k1} {s : Fin 2} (j : Fin 32) (e : o = bo j)
    (e0 : k0 = ko false j) (e1 : k1 = ko true j) :
    H X₀ A (gradients (R := R) V o ho k0 k1 h0 h1 s) ((((A.addG X₀ false j s).addG X₀ true j s).addB false j
      (gr V false (A.s16 false false s) (A.s16 false true s))).addB true j (gr V true (A.s16 true false s) (A.s16 true true s))) := by
  subst e e0 e1
  exact (hv_gradHead V A false j s).bind <| (hv_gradHead V _ true j s).bind <| (h_addB _ _ _ _).bind fun _ => h_addB _ _ _ _

/-- A block's weights, of one head, from its logits; its logistic values. -/
def wfOf (X : Sta F) (a : Bool) (j : BitVec 32) (l : FVec F S256x256 .f32) : FVec F S256x256 .f32 :=
  exp (subf (subf l (dotP (t16 (softplus l)) (suf V))) (carry V j (carOf X a)))
def btOf (l : FVec F S256x256 .f32) : FVec F S256x256 .f32 := exp (subf l (softplus l))

/-- The logits' gradients from e = w · dw, the logistic values and the carry; the carry moved on. -/
def dlOf (e b : FVec F S256x256 .f32) (f : FVec F S256x128 .f32) : FVec F S256x256 .bf16 :=
  t16 (subf e (mulf b (addf (dotP (t16 e) V.pre) (wide f))))
def fOf (e : FVec F S256x256 .f32) (f : FVec F S256x128 .f32) : FVec F S256x128 .f32 := addf f (last (dotP (t16 e) V.pre))

/-- A head's logits' gradients set, and its carry moved on. -/
def Part.logits (A : Part F) (a : Bool) (s : Fin 2) (e b : FVec F S256x256 .f32) : Part F :=
  (A.set16 false a s (dlOf V e b (A.acc false a))).setAcc false a (fOf V e (A.acc false a))

theorem h_logits (A : Part F) (a : Bool) (s : Fin 2) (e b : FVec F S256x256 .f32) :
    H X₀ A (logits hR a s e b (dotP (t16 e) V.pre)) (A.logits V a s e b) :=
  (hv_getAcc A _ _).bind <| (h_set16 hR A _ _ _ _).bind fun _ => h_setAcc _ _ _ _

theorem hv_weights (A : Part F) (a : Bool) (j : BitVec 32) (s : Fin 2) (l : FVec F S256x256 .f32) (hl : A.s32 false a s = l) :
    Hv X₀ A (weights hR V a j s (softplus l) (dotP (t16 (softplus l)) (suf V))) (mulf (wfOf V X₀ a j l) (A.s32 true a s), btOf l)
      (A.set16 true a s (t16 (wfOf V X₀ a j l))) := by
  subst hl
  exact (hv_get32 A false a s).bindv <| (hv_getCar A a).bindv <| (h_set16 hR A true a s _).bindv fun _ => (hv_get32 _ _ _ _).bindv <| Hv.ret _

theorem h_elementwise {A : Part F} {jj : BitVec 32} {s : Fin 2} (j : BitVec 32) (e : jj = j) :
    H X₀ A (elementwise hR V jj s) ((((A.set16 true false s (t16 (wfOf V X₀ false j (A.s32 false false s)))).set16 true true s
      (t16 (wfOf V X₀ true j (A.s32 false true s)))).logits V false s (mulf (wfOf V X₀ false j (A.s32 false false s)) (A.s32 true false s)) (btOf (A.s32 false false s))).logits
      V true s (mulf (wfOf V X₀ true j (A.s32 false true s)) (A.s32 true true s)) (btOf (A.s32 false true s))) := by
  subst e
  exact (hv_get32 A false false s).bind <| (hv_get32 A false true s).bind <| (hv_weights hR V A false jj s _ rfl).bind <|
    (hv_weights hR V _ true jj s _ rfl).bind <| (h_logits hR V _ _ _ _ _).bind fun _ => h_logits hR V _ _ _ _ _

theorem h_productsKept (A : Part F) (o : Fin 3 → Nat) (ho : InB o) (s : Fin 2) (j : Fin 32) (e : o = bo j) : H X₀ A (productsKept (R := R) V o ho s)
    ((A.set32 true false s (dwOf V X₀ false j)).set32 true true s (dwOf V X₀ true j)) := by
  subst e
  exact (hv_getB16 A _ _).bind <| (h_set32 A _ _ _ _).bind fun _ => h_set32 _ _ _ _ _

theorem hv_weightsKept (A : Part F) (a d : Bool) (s : Fin 2) (dw : FVec F S256x256 .f32) (h : A.s32 true a s = dw) :
    Hv X₀ A (weightsKept hR a d s) (mulf (keptOf X₀ false a d) dw) (A.set16 true a s (t16 (keptOf X₀ false a d))) := by
  subst h
  exact (hv_getKept A false a d).bindv <| (h_set16 hR A true a s _).bindv fun _ => (hv_get32 _ _ _ _).bindv <| Hv.ret _

theorem h_keptOne (A : Part F) (o : Fin 3 → Nat) (ho : InB o) (j : Fin 32) (e : o = bo j) : H X₀ A (keptOne hR V o ho)
    ((((((A.set32 true false 0 (dwOf V X₀ false j)).set32 true true 0 (dwOf V X₀ true j)).set16 true false 0 (t16 (keptOf X₀ false false true))).set16
      true true 0 (t16 (keptOf X₀ false true true))).logits V false 0 (mulf (keptOf X₀ false false true) (dwOf V X₀ false j)) (keptOf X₀ true false true)).logits
      V true 0 (mulf (keptOf X₀ false true true) (dwOf V X₀ true j)) (keptOf X₀ true true true)) :=
  (h_productsKept V A o ho 0 j e).bind fun _ => (hv_weightsKept hR _ _ _ _ _ (by simp [Part.set32])).bind <|
    (hv_weightsKept hR _ _ _ _ _ (by simp [Part.set32, Part.set16])).bind <|
    (hv_getAcc _ _ _).bind <| (hv_getKept _ _ _ _).bind <| (h_set16 hR _ _ _ _ _).bind fun _ => (h_setAcc _ _ _ _).bind fun _ =>
    (hv_getAcc _ _ _).bind <| (hv_getKept _ _ _ _).bind <| (h_set16 hR _ _ _ _ _).bind fun _ => h_setAcc _ _ _ _

/-- Both kept blocks' logits' gradients of a head set, and its carry moved on. -/
def Part.logitsTwo (X₀ : Sta F) (A : Part F) (a : Bool) (s s' : Fin 2) (e e' : FVec F S256x256 .f32) : Part F :=
  ((A.set16 false a s (dlOf V e (keptOf X₀ true a false) (A.acc false a))).set16 false a s'
    (dlOf V e' (keptOf X₀ true a true) (fOf V e (A.acc false a)))).setAcc false a (fOf V e' (fOf V e (A.acc false a)))

theorem h_logitsKept (A : Part F) (a : Bool) (s s' : Fin 2) (e e' : FVec F S256x256 .f32) : H X₀ A (logitsKept hR V a s s' e e')
    (A.logitsTwo V X₀ a s s' e e') :=
  (hv_getAcc _ _ _).bind <| (hv_getKept _ _ _ _).bind <| (h_set16 hR _ _ _ _ _).bind fun _ =>
    (hv_getKept _ _ _ _).bind <| (h_set16 hR _ _ _ _ _).bind fun _ => h_setAcc _ _ _ _

/-- The two kept blocks' weights and weights' gradients set. -/
def Part.keptW (X₀ : Sta F) (A : Part F) (j j' : Fin 32) (s s' : Fin 2) : Part F :=
  (((((((A.set32 true false s (dwOf V X₀ false j)).set32 true true s (dwOf V X₀ true j)).set32 true false s' (dwOf V X₀ false j')).set32
    true true s' (dwOf V X₀ true j')).set16 true false s (t16 (keptOf X₀ false false false))).set16 true true s (t16 (keptOf X₀ false true false))).set16
    true false s' (t16 (keptOf X₀ false false true))).set16 true true s' (t16 (keptOf X₀ false true true))

theorem h_keptTwo (A : Part F) (o o' : Fin 3 → Nat) (ho : InB o) (ho' : InB o') (s s' : Fin 2) (hs : s ≠ s') (j j' : Fin 32) (e : o = bo j) (e' : o' = bo j') :
    H X₀ A (keptTwo hR V o o' ho ho' s s') (((A.keptW V X₀ j j' s s').logitsTwo V X₀ false s s'
      (mulf (keptOf X₀ false false false) (dwOf V X₀ false j)) (mulf (keptOf X₀ false false true) (dwOf V X₀ false j'))).logitsTwo V X₀ true s s'
      (mulf (keptOf X₀ false true false) (dwOf V X₀ true j)) (mulf (keptOf X₀ false true true) (dwOf V X₀ true j'))) := by
  exact (h_productsKept V A o ho s j e).bind fun _ => (h_productsKept V _ o' ho' s' j' e').bind fun _ =>
    (hv_weightsKept hR _ _ _ _ _ (by simp [Part.set32, hs])).bind <| (hv_weightsKept hR _ _ _ _ _ (by simp [Part.set32, Part.set16, hs])).bind <|
    (hv_weightsKept hR _ _ _ _ _ (by simp [Part.set32, Part.set16])).bind <| (hv_weightsKept hR _ _ _ _ _ (by simp [Part.set32, Part.set16])).bind <|
    (h_logitsKept hR V _ _ _ _ _ _).bind fun _ => h_logitsKept hR V _ _ _ _ _ _

end Cert.AttnIdeal.Text
-- ==== Proof.AttnDots.lean ====
/-
  The attention's backward products, entry by entry.
-/
module

public import proofs.«01_k».proof.Proof.AttnSteps
public import Idealize.ShloMosaic.Lib.Pointwise

@[expose] public section

set_option maxRecDepth 16384

noncomputable section

open Idealize.ShloMosaic Idealize.ShloMosaic.TcCoe Idealize.SL.Sem

namespace Cert.AttnIdeal.Text

open Cert.AttnIdeal Cert.AttnIdeal.Gen Cert.BufferText

theorem dotT_at (l : FVec Ideal S128x256 .bf16) (r : FVec Ideal S256x256 .bf16) (x : S128x256.Idx) :
    dotT (F := Ideal) l r x = ∑ k : Fin 256, (l (ix2 (x 0) k) * r (ix2 k (x 1)) : EReal) := by
  pointwise [dotT, zT]

theorem dotG_at (l : FVec Ideal S256x256 .bf16) (r : FVec Ideal S256x128 .bf16) (x : S256x128.Idx) :
    dotG (F := Ideal) l r x = ∑ k : Fin 256, (l (ix2 (x 0) k) * r (ix2 k (x 1)) : EReal) := by
  pointwise [dotG, zq]

theorem gr_zero (V : Vals Ideal) (v : Bool) (w : FVec Ideal S256x256 .bf16) (hw : ∀ x, w x = (0 : EReal)) (x : S128x256.Idx) :
    gr V v w w x = (0 : EReal) := by
  cases v
  all_goals
    show (dotT (F := Ideal) _ _ x + dotT (F := Ideal) _ _ x : EReal) = 0
    rw [dotT_at, dotT_at]
    simp [hw]

theorem dotG_zero (w : FVec Ideal S256x256 .bf16) (r : FVec Ideal S256x128 .bf16) (hw : ∀ x, w x = (0 : EReal)) (x : S256x128.Idx) :
    dotG (F := Ideal) w r x = (0 : EReal) := by
  rw [dotG_at]
  simp [hw]

end Cert.AttnIdeal.Text
-- ==== Proof.AttnPoint.lean ====
/-
  One grid point of the attention's backward call: every block up to the diagonal adds its part to the three gradients.
-/
module

public import proofs.«01_k».proof.Proof.AttnDots

@[expose] public section

set_option maxRecDepth 16384

noncomputable section

open Idealize.ShloMosaic Idealize.ShloMosaic.TcCoe Idealize.SL.Sem

namespace Cert.AttnIdeal.Text

open Cert.AttnIdeal Cert.AttnIdeal.Gen Cert.BufferText

/-! ## The branches' conditions and offsets when every block is live -/

/-- Block `n`. -/
abbrev bN (n : ℕ) : Fin 32 := Fin.ofNat 32 n

theorem cond2_iff : ∀ a : Fin 32, k0_cond2 (pt a) 0#32 = 1#1 ↔ 2 ≤ a.val := by decide +kernel
theorem cond4_iff : ∀ a : Fin 32, k0_cond4 (pt a) 0#32 = 1#1 ↔ a.val = 1 := by decide +kernel
theorem cond5_iff : ∀ a : Fin 32, k0_cond5 (pt a) 0#32 = 1#1 ↔ 2 ≤ a.val ∧ a.val % 2 = 1 := by decide +kernel
theorem cond6_iff : ∀ a : Fin 32, k0_cond6 (pt a) 0#32 = 1#1 ↔ 2 ≤ a.val ∧ a.val % 2 = 0 := by decide +kernel
theorem only_iff : ∀ a : Fin 32, onlyCond (cnt (pt a) 0#32) ↔ a.val = 0 := by decide +kernel
theorem trips3 : ∀ a : Fin 32, (k0_t3_loop (pt a) 0#32).trips = (a.val - 1) / 2 := by decide +kernel
theorem trips4 : ∀ a : Fin 32, (k0_t4_loop (pt a) 0#32).trips = 0 := by decide +kernel

theorem off7 : k0_off7 0#32 = bo (bN 0) := by decide +kernel
theorem off8 : ∀ (a : Fin 32) (k : Fin (k0_t3_loop (pt a) 0#32).trips), k0_off8 (pt a) 0#32 k = bo (bN (2 * k.val + 1)) := by decide +kernel
theorem off11 : ∀ (a : Fin 32) (k : Fin (k0_t3_loop (pt a) 0#32).trips), k0_off11 (pt a) 0#32 k = bo (bN (2 * k.val - 1)) := by decide +kernel
theorem off12 : ∀ (a : Fin 32) (k : Fin (k0_t3_loop (pt a) 0#32).trips), k0_off12 (pt a) 0#32 k = bo (bN (2 * k.val + 2)) := by decide +kernel
theorem off15 : ∀ (a : Fin 32) (k : Fin (k0_t3_loop (pt a) 0#32).trips), k0_off15 (pt a) 0#32 k = bo (bN (2 * k.val)) := by decide +kernel
theorem lab0 : ∀ (a : Fin 32) (k : Fin (k0_t3_loop (pt a) 0#32).trips),
    Scalar.addi 0#32 (Scalar.muli 2#32 (Scf.iv 0#32 1#32 k)) = BitVec.ofNat 32 (2 * k.val) := by decide +kernel
theorem lab1 : ∀ (a : Fin 32) (k : Fin (k0_t3_loop (pt a) 0#32).trips),
    Scalar.addi 0#32 (Scalar.addi (Scalar.muli 2#32 (Scf.iv 0#32 1#32 k)) 1#32) = BitVec.ofNat 32 (2 * k.val + 1) := by decide +kernel
theorem off24 : ∀ a : Fin 32, k0_off24 (pt a) = bo (bN a.val) := by decide +kernel
theorem off27 : ∀ a : Fin 32, 1 ≤ a.val → k0_off27 (pt a) = bo (bN (a.val - 1)) := by decide +kernel
theorem off28 : ∀ a : Fin 32, k0_off28 (pt a) = bo (bN a.val) := by decide +kernel
theorem off35 : ∀ a : Fin 32, 2 ≤ a.val → k0_off35 (pt a) 2#32 = bo (bN (a.val - 2)) ∧ k0_off35 (pt a) 1#32 = bo (bN (a.val - 1)) := by decide +kernel
theorem off36 : ∀ a : Fin 32, k0_off36 (pt a) = bo (bN a.val) := by decide +kernel
theorem off42 : ∀ a : Fin 32, 2 ≤ a.val → k0_off42 (pt a) 0#32 = bo (bN (a.val - 3)) := by decide +kernel
theorem off39 : ∀ a : Fin 32, 2 ≤ a.val → k0_off39 (pt a) 0#32 = bo (bN (a.val - 1)) := by decide +kernel
theorem off45 : ∀ a : Fin 32, 2 ≤ a.val → k0_off45 (pt a) 2#32 = bo (bN (a.val - 2)) ∧ k0_off45 (pt a) 1#32 = bo (bN (a.val - 1)) := by decide +kernel
theorem off46 : ∀ a : Fin 32, k0_off46 (pt a) = bo (bN a.val) := by decide +kernel
theorem lab2 : ∀ a : Fin 32, 2 ≤ a.val → Scalar.addi 0#32 (Scalar.subi (cnt (pt a) 0#32) 2#32) = BitVec.ofNat 32 (a.val - 2) := by decide +kernel

theorem off9 : ∀ (a : Fin 32) (k : Fin (k0_t3_loop (pt a) 0#32).trips), k0_off9 (pt a) 0#32 k = ko false (bN (2 * k.val - 1)) ∧ k0_off10 (pt a) 0#32 k = ko true (bN (2 * k.val - 1)) := by decide +kernel
theorem off13 : ∀ (a : Fin 32) (k : Fin (k0_t3_loop (pt a) 0#32).trips), k0_off13 (pt a) 0#32 k = ko false (bN (2 * k.val)) ∧ k0_off14 (pt a) 0#32 k = ko true (bN (2 * k.val)) := by decide +kernel
theorem off25 : ∀ a : Fin 32, k0_off25 (pt a) = ko false (bN a.val) ∧ k0_off26 (pt a) = ko true (bN a.val) := by decide +kernel
theorem off29 : ∀ a : Fin 32, 1 ≤ a.val → k0_off29 (pt a) = ko false (bN (a.val - 1)) ∧ k0_off30 (pt a) = ko true (bN (a.val - 1)) := by decide +kernel
theorem off31 : ∀ a : Fin 32, k0_off31 (pt a) = ko false (bN a.val) ∧ k0_off32 (pt a) = ko true (bN a.val) := by decide +kernel
theorem off33 : ∀ a : Fin 32, 2 ≤ a.val → (k0_off33 (pt a) 2#32 = ko false (bN (a.val - 2)) ∧ k0_off34 (pt a) 2#32 = ko true (bN (a.val - 2)))
    ∧ k0_off33 (pt a) 1#32 = ko false (bN (a.val - 1)) ∧ k0_off34 (pt a) 1#32 = ko true (bN (a.val - 1)) := by decide +kernel
theorem off37 : ∀ a : Fin 32, k0_off37 (pt a) = ko false (bN a.val) ∧ k0_off38 (pt a) = ko true (bN a.val) := by decide +kernel
theorem off40 : ∀ a : Fin 32, 2 ≤ a.val → k0_off40 (pt a) 0#32 = ko false (bN (a.val - 3)) ∧ k0_off41 (pt a) 0#32 = ko true (bN (a.val - 3)) := by decide +kernel
theorem off43 : ∀ a : Fin 32, 2 ≤ a.val → (k0_off43 (pt a) 2#32 = ko false (bN (a.val - 2)) ∧ k0_off44 (pt a) 2#32 = ko true (bN (a.val - 2)))
    ∧ k0_off43 (pt a) 1#32 = ko false (bN (a.val - 1)) ∧ k0_off44 (pt a) 1#32 = ko true (bN (a.val - 1)) := by decide +kernel
theorem off47 : ∀ a : Fin 32, k0_off47 (pt a) = ko false (bN a.val) ∧ k0_off48 (pt a) = ko true (bN a.val) := by decide +kernel

/-! ## The sums -/

variable {R : Refs} (hR : ∀ k, (R k).IsWhole) {X₀ : Sta Ideal} (V : Vals Ideal) (a : Fin 32)

/-- Block `n`'s weights as the grid point computes them, one head: before they are cast, and after. -/
def wM (X₀ : Sta Ideal) (b : Bool) (n : ℕ) : FVec Ideal S256x256 .f32 := wfOf V X₀ b (BitVec.ofNat 32 n) (lgOf V X₀ b (bN n))
def wN (X₀ : Sta Ideal) (b : Bool) (n : ℕ) : FVec Ideal S256x256 .bf16 := t16 (wM V X₀ b n)

/-- The weights of block `n`: kept on the diagonal and before it. -/
def wF (X₀ : Sta Ideal) (b : Bool) (n : ℕ) : FVec Ideal S256x256 .f32 :=
  if n = a.val then keptOf X₀ false b true else if n + 1 = a.val then keptOf X₀ false b false else wM V X₀ b n
def wA (X₀ : Sta Ideal) (b : Bool) (n : ℕ) : FVec Ideal S256x256 .bf16 := t16 (wF V a X₀ b n)

/-- e = w · dw, and the logistic values. -/
def eA (X₀ : Sta Ideal) (b : Bool) (n : ℕ) : FVec Ideal S256x256 .f32 := mulf (wF V a X₀ b n) (dwOf V X₀ b (bN n))
def bA (X₀ : Sta Ideal) (b : Bool) (n : ℕ) : FVec Ideal S256x256 .f32 :=
  if n = a.val then keptOf X₀ true b true else if n + 1 = a.val then keptOf X₀ true b false else btOf (lgOf V X₀ b (bN n))

/-- Zero. -/
def f0 : FVec Ideal S256x128 .f32 := broadcast S256x128 (Scalar.ofBits (F := Ideal) .f32 0x00000000#32)
def w0 : FVec Ideal S256x256 .bf16 := broadcast S256x256 (Scalar.ofBits (F := Ideal) .bf16 0x0000#16)

/-- The carry into block `n`, and the block's logits' gradients. -/
def fA (X₀ : Sta Ideal) (b : Bool) : ℕ → FVec Ideal S256x128 .f32
  | 0 => f0
  | n + 1 => fOf V (eA V a X₀ b n) (fA X₀ b n)
def dA (X₀ : Sta Ideal) (b : Bool) (n : ℕ) : FVec Ideal S256x256 .bf16 := dlOf V (eA V a X₀ b n) (bA V a X₀ b n) (fA V a X₀ b n)

/-- Block `n`'s part of the keys' and of the values' gradients, and of the queries'. -/
def gN (X₀ : Sta Ideal) (v : Bool) (n : ℕ) : FVec Ideal S128x256 .f32 := match v with
  | false => gr V false (dA V a X₀ false n) (dA V a X₀ true n)
  | true => gr V true (wA V a X₀ false n) (wA V a X₀ true n)
def qN (X₀ : Sta Ideal) (b : Bool) (n : ℕ) : FVec Ideal S256x128 .f32 := dotG (dA V a X₀ b n) (kmOf X₀ b (bN n))

theorem f0_at (x : S256x128.Idx) : f0 x = (0 : EReal) := by
  show Ideal.ofBits .f32 0x00000000#32 = 0
  simp [Ideal.ofBits, Ideal.ieee]

theorem w0_at (x : S256x256.Idx) : w0 x = (0 : EReal) := by
  show Ideal.ofBits .bf16 0x0000#16 = 0
  simp [Ideal.ofBits, Ideal.ieee]

variable (A₀ : Part Ideal)

/-- The blocks before `n` have added their parts. -/
def Acc (X₀ : Sta Ideal) (n : ℕ) (A : Part Ideal) : Prop :=
  (∀ v j x, A.b32 v j x = (A₀.b32 v j x + (if j.val < n then gN V a X₀ v j.val x else 0) : EReal))
    ∧ ∀ b x, A.acc true b x = (A₀.acc true b x + ∑ i ∈ Finset.range n, qN V a X₀ b i x : EReal)

/-- The part after a block's gradients. -/
def Part.grads (X₀ : Sta Ideal) (A : Part Ideal) (j : Fin 32) (s : Fin 2) : Part Ideal :=
  (((A.addG X₀ false j s).addG X₀ true j s).addB false j (gr V false (A.s16 false false s) (A.s16 false true s))).addB true j
    (gr V true (A.s16 true false s) (A.s16 true true s))

theorem grads_b32 (A : Part Ideal) (j : Fin 32) (s : Fin 2) (v : Bool) (j' : Fin 32) : (A.grads V X₀ j s).b32 v j'
    = if j' = j then addf (A.b32 v j) (gr V v (A.s16 v false s) (A.s16 v true s)) else A.b32 v j' := by
  cases v <;> simp [Part.grads, Part.addG, Part.addB, Part.setAcc]

theorem grads_acc (A : Part Ideal) (j : Fin 32) (s : Fin 2) (b : Bool) : (A.grads V X₀ j s).acc true b
    = addf (A.acc true b) (dotG (A.s16 false b s) (kmOf X₀ b j)) := by
  cases b <;> simp [Part.grads, Part.addG, Part.addB, Part.setAcc]

theorem grads_carry (A : Part Ideal) (j : Fin 32) (s : Fin 2) (b : Bool) : (A.grads V X₀ j s).acc false b = A.acc false b := by
  cases b <;> simp [Part.grads, Part.addG, Part.addB, Part.setAcc]

variable {A₀} {V a}

theorem acc_step {n : ℕ} (hn : n < 32) {A : Part Ideal} (h : Acc V a A₀ X₀ n A) (s : Fin 2)
    (hw : ∀ b, A.s16 true b s = wA V a X₀ b n) (hd : ∀ b, A.s16 false b s = dA V a X₀ b n) : Acc V a A₀ X₀ (n + 1) (A.grads V X₀ (bN n) s) := by
  have e : (bN n).val = n := Nat.mod_eq_of_lt hn
  refine ⟨fun v j x => ?_, fun b x => ?_⟩
  · rw [grads_b32]
    by_cases hj : j = bN n
    · subst hj
      have hg : gr V v (A.s16 v false s) (A.s16 v true s) = gN V a X₀ v n := by
        cases v
        · rw [hd, hd]; rfl
        · rw [hw, hw]; rfl
      rw [if_pos rfl, hg]
      show (A.b32 v (bN n) x + gN V a X₀ v n x : EReal) = _
      rw [h.1, e, if_neg (lt_irrefl n), if_pos (Nat.lt_succ_self n), add_zero]
    · rw [if_neg hj, h.1]
      have : j.val ≠ n := fun h' => hj (Fin.ext (h'.trans e.symm))
      by_cases hl : j.val < n
      · rw [if_pos hl, if_pos (Nat.lt_succ_of_lt hl)]
      · rw [if_neg hl, if_neg (by omega)]
  · rw [grads_acc, hd]
    show (A.acc true b x + qN V a X₀ b n x : EReal) = _
    rw [h.2, Finset.sum_range_succ, add_assoc]

/-- What a slot holds before block `r`: the block's before it, or zero. -/
def wB (V : Vals Ideal) (X₀ : Sta Ideal) (b : Bool) (r : ℕ) : FVec Ideal S256x256 .bf16 := if r = 0 then w0 else wN V X₀ b (r - 1)
def dB (V : Vals Ideal) (a : Fin 32) (X₀ : Sta Ideal) (b : Bool) (r : ℕ) : FVec Ideal S256x256 .bf16 := if r = 0 then w0 else dA V a X₀ b (r - 1)

theorem wF_eq {n : ℕ} (h : n + 2 ≤ a.val) (b : Bool) : wF V a X₀ b n = wM V X₀ b n := by
  unfold wF
  rw [if_neg (by omega), if_neg (by omega)]
theorem wA_eq {n : ℕ} (h : n + 2 ≤ a.val) (b : Bool) : wA V a X₀ b n = wN V X₀ b n := congrArg t16 (wF_eq h b)
theorem bA_eq {n : ℕ} (h : n + 2 ≤ a.val) (b : Bool) : bA V a X₀ b n = btOf (lgOf V X₀ b (bN n)) := by
  unfold bA
  rw [if_neg (by omega), if_neg (by omega)]
theorem wF_diag {n : ℕ} (h : n = a.val) (b : Bool) : wF V a X₀ b n = keptOf X₀ false b true := if_pos h
theorem bA_diag {n : ℕ} (h : n = a.val) (b : Bool) : bA V a X₀ b n = keptOf X₀ true b true := if_pos h
theorem wF_prev {n : ℕ} (h : n + 1 = a.val) (b : Bool) : wF V a X₀ b n = keptOf X₀ false b false := by
  unfold wF
  rw [if_neg (by omega), if_pos h]
theorem bA_prev {n : ℕ} (h : n + 1 = a.val) (b : Bool) : bA V a X₀ b n = keptOf X₀ true b false := by
  unfold bA
  rw [if_neg (by omega), if_pos h]

theorem acc_slot {r : ℕ} (hr : r + 1 ≤ a.val) {A : Part Ideal} (h : Acc V a A₀ X₀ (r - 1) A) (s : Fin 2)
    (hw : ∀ b, A.s16 true b s = wB V X₀ b r) (hd : ∀ b, A.s16 false b s = dB V a X₀ b r) : Acc V a A₀ X₀ r (A.grads V X₀ (bN (r - 1)) s) := by
  have ha := a.isLt
  by_cases h0 : r = 0
  · subst h0
    have hy : ∀ v b, A.s16 v b s = w0 := fun v b => by cases v; exacts [hd b, hw b]
    refine ⟨fun v j x => ?_, fun b x => ?_⟩
    · have e := h.1 v j x
      simp only [Nat.zero_sub, Nat.not_lt_zero, if_false, add_zero] at e ⊢
      rw [grads_b32, hy, hy]
      by_cases hj : j = bN 0
      · subst hj
        rw [if_pos rfl]
        show (A.b32 v (bN 0) x + gr V v w0 w0 x : EReal) = _
        rw [gr_zero V v w0 w0_at, e, add_zero]
      · rw [if_neg hj, e]
    · have e := h.2 b x
      rw [grads_acc, hy]
      show (A.acc true b x + dotG w0 _ x : EReal) = _
      rw [dotG_zero _ _ w0_at, add_zero, e]
  · have e : r - 1 + 1 = r := by omega
    have := acc_step (n := r - 1) (by omega) h s (fun b => by rw [hw, wA_eq (by omega)]; unfold wB; rw [if_neg h0])
      (fun b => by rw [hd]; unfold dB; rw [if_neg h0])
    rwa [e] at this

/-- A slot's contents, of both heads: the logits, the weights' gradients, the weights, the logits' gradients. -/
@[ext] structure Slot where
  l : Bool → FVec Ideal S256x256 .f32
  dw : Bool → FVec Ideal S256x256 .f32
  w : Bool → FVec Ideal S256x256 .bf16
  d : Bool → FVec Ideal S256x256 .bf16

def slotOf (A : Part Ideal) (s : Fin 2) : Slot :=
  ⟨fun b => A.s32 false b s, fun b => A.s32 true b s, fun b => A.s16 true b s, fun b => A.s16 false b s⟩

/-- What the slots hold, that the carries have passed `k` blocks, and that the blocks before `n` have added their parts. -/
def Pre (V : Vals Ideal) (a : Fin 32) (A₀ : Part Ideal) (X₀ : Sta Ideal) (S0 S1 : Slot) (k n : ℕ) (A : Part Ideal) : Prop :=
  slotOf A 0 = S0 ∧ slotOf A 1 = S1 ∧ (∀ b, A.acc false b = fA V a X₀ b k) ∧ Acc V a A₀ X₀ n A

theorem Acc.of_eq {n : ℕ} {A B : Part Ideal} (h : Acc V a A₀ X₀ n A) (e : B.b32 = A.b32) (e' : ∀ b, B.acc true b = A.acc true b) :
    Acc V a A₀ X₀ n B := ⟨fun v j x => by rw [e]; exact h.1 v j x, fun b x => by rw [e']; exact h.2 b x⟩

/-- From contents satisfying `I` the text goes to contents satisfying `J`. -/
def T (X₀ : Sta Ideal) {α : Type} (I : Part Ideal → Prop) (p : P Ideal R α) (J : Part Ideal → Prop) : Prop :=
  ∀ X, Ok X₀ X → I (abs X) → Ok X₀ (p.den X).2 ∧ J (abs (p.den X).2)

theorem T.of_H {α : Type} {I J : Part Ideal → Prop} {p : P Ideal R α} (h : ∀ A, I A → ∃ B, H X₀ A p B ∧ J B) : T X₀ I p J := fun X ok hI => by
  obtain ⟨B, h1, h2⟩ := h _ hI
  obtain ⟨h3, h4⟩ := h1 X ok rfl
  exact ⟨h3, h4 ▸ h2⟩

theorem T.bind {α β : Type} {I J K : Part Ideal → Prop} {p : P Ideal R α} {q : α → P Ideal R β} (hp : T X₀ I p J) (hq : ∀ x, T X₀ J (q x) K) :
    T X₀ I (p >>= q) K := fun X ok hI => by
  rw [C.den_bind]
  exact hq _ _ (hp X ok hI).1 (hp X ok hI).2

theorem T.conseq {α : Type} {I I' J J' : Part Ideal → Prop} {p : P Ideal R α} (hp : T X₀ I p J) (hI : ∀ A, I' A → I A) (hJ : ∀ A, J A → J' A) :
    T X₀ I' p J' := fun X ok h => ⟨(hp X ok (hI _ h)).1, hJ _ (hp X ok (hI _ h)).2⟩

variable {S0 S1 : Slot} {k n : ℕ}
variable {o k0 k1 : Fin 3 → Nat} {ho : InB o} {h0 : InK k0} {h1 : InK k1}

/-- The logits and the weights' gradients of a block. -/
def Slot.prod (V : Vals Ideal) (X₀ : Sta Ideal) (j : Fin 32) (S : Slot) : Slot := { S with l := fun b => lgOf V X₀ b j, dw := fun b => dwOf V X₀ b j }

theorem t_products0 (j : Fin 32) (e : o = bo j) :
    T X₀ (Pre V a A₀ X₀ S0 S1 k n) (products (R := R) V o ho 0) (Pre V a A₀ X₀ (S0.prod V X₀ j) S1 k n) :=
  T.of_H fun A ⟨hs0, hs1, hf, hD⟩ => ⟨_, h_products V j e,
    by subst hs0; ext b : 2 <;> cases b <;> simp [Slot.prod, slotOf, Part.set32],
    by subst hs1; ext b : 2 <;> cases b <;> simp [slotOf, Part.set32], hf, hD.of_eq rfl fun _ => rfl⟩

theorem t_products1 (j : Fin 32) (e : o = bo j) :
    T X₀ (Pre V a A₀ X₀ S0 S1 k n) (products (R := R) V o ho 1) (Pre V a A₀ X₀ S0 (S1.prod V X₀ j) k n) :=
  T.of_H fun A ⟨hs0, hs1, hf, hD⟩ => ⟨_, h_products V j e,
    by subst hs0; ext b : 2 <;> cases b <;> simp [slotOf, Part.set32],
    by subst hs1; ext b : 2 <;> cases b <;> simp [Slot.prod, slotOf, Part.set32], hf, hD.of_eq rfl fun _ => rfl⟩

/-- The weights and the logits' gradients of block `i`. -/
def Slot.elem (V : Vals Ideal) (a : Fin 32) (X₀ : Sta Ideal) (i : ℕ) (S : Slot) : Slot := { S with w := fun b => wA V a X₀ b i, d := fun b => dA V a X₀ b i }

/-- The part after a block's elementwise work. -/
def Part.elemW (V : Vals Ideal) (X₀ : Sta Ideal) (A : Part Ideal) (s : Fin 2) (i : ℕ) : Part Ideal :=
  (((A.set16 true false s (t16 (wfOf V X₀ false (BitVec.ofNat 32 i) (A.s32 false false s)))).set16 true true s
    (t16 (wfOf V X₀ true (BitVec.ofNat 32 i) (A.s32 false true s)))).logits V false s (mulf (wfOf V X₀ false (BitVec.ofNat 32 i) (A.s32 false false s)) (A.s32 true false s)) (btOf (A.s32 false false s))).logits
    V true s (mulf (wfOf V X₀ true (BitVec.ofNat 32 i) (A.s32 false true s)) (A.s32 true true s)) (btOf (A.s32 false true s))

theorem elem_slot {A : Part Ideal} (s : Fin 2) (i : ℕ) (hi : i + 2 ≤ a.val) (hl : ∀ b, A.s32 false b s = lgOf V X₀ b (bN i))
    (hdw : ∀ b, A.s32 true b s = dwOf V X₀ b (bN i)) (hf : ∀ b, A.acc false b = fA V a X₀ b i) :
    (∀ s', slotOf (A.elemW V X₀ s i) s' = if s' = s then (slotOf A s).elem V a X₀ i else slotOf A s')
      ∧ (∀ b, (A.elemW V X₀ s i).acc false b = fA V a X₀ b (i + 1)) ∧ (A.elemW V X₀ s i).b32 = A.b32
      ∧ ∀ b, (A.elemW V X₀ s i).acc true b = A.acc true b := by
  have hw : ∀ b, t16 (wfOf V X₀ b (BitVec.ofNat 32 i) (lgOf V X₀ b (bN i))) = wA V a X₀ b i := fun b => (wA_eq hi b).symm
  have he : ∀ b, mulf (wfOf V X₀ b (BitVec.ofNat 32 i) (lgOf V X₀ b (bN i))) (dwOf V X₀ b (bN i)) = eA V a X₀ b i := fun b => by
    unfold eA; rw [wF_eq hi b]; rfl
  have hb : ∀ b, btOf (lgOf V X₀ b (bN i)) = bA V a X₀ b i := fun b => (bA_eq hi b).symm
  have hd : ∀ b, dlOf V (eA V a X₀ b i) (bA V a X₀ b i) (fA V a X₀ b i) = dA V a X₀ b i := fun _ => rfl
  have hff : ∀ b, fOf V (eA V a X₀ b i) (fA V a X₀ b i) = fA V a X₀ b (i + 1) := fun _ => rfl
  unfold Part.elemW
  simp only [hl, hdw, hw, he, hb]
  refine ⟨fun s' => ?_, fun b => ?_, rfl, fun b => ?_⟩
  · by_cases h : s' = s
    · subst h
      rw [if_pos rfl]
      ext b : 2 <;> cases b <;> simp [Slot.elem, slotOf, Part.logits, Part.set16, Part.setAcc, hf, hd]
    · rw [if_neg h]
      ext b : 2 <;> cases b <;> simp [slotOf, Part.logits, Part.set16, Part.setAcc, h]
  · cases b <;> simp [Part.logits, Part.set16, Part.setAcc, hf, hff]
  · cases b <;> simp [Part.logits, Part.set16, Part.setAcc]

theorem t_elem0 (i : ℕ) (hi : i + 2 ≤ a.val) {jj : BitVec 32} (e : jj = BitVec.ofNat 32 i) :
    T X₀ (Pre V a A₀ X₀ (S0.prod V X₀ (bN i)) S1 i n) (elementwise hR V jj 0) (Pre V a A₀ X₀ ((S0.prod V X₀ (bN i)).elem V a X₀ i) S1 (i + 1) n) :=
  T.of_H fun A ⟨hs0, hs1, hf, hD⟩ => by
    obtain ⟨e1, e2, e3, e4⟩ := elem_slot (A := A) 0 i hi (fun b => congrFun (congrArg Slot.l hs0) b) (fun b => congrFun (congrArg Slot.dw hs0) b) hf
    exact ⟨A.elemW V X₀ 0 i, h_elementwise hR V _ e, (e1 0).trans ((if_pos rfl).trans (congrArg _ hs0)), (e1 1).trans ((if_neg (by decide)).trans hs1), e2, hD.of_eq e3 e4⟩

theorem t_elem1 (i : ℕ) (hi : i + 2 ≤ a.val) {jj : BitVec 32} (e : jj = BitVec.ofNat 32 i) :
    T X₀ (Pre V a A₀ X₀ S0 (S1.prod V X₀ (bN i)) i n) (elementwise hR V jj 1) (Pre V a A₀ X₀ S0 ((S1.prod V X₀ (bN i)).elem V a X₀ i) (i + 1) n) :=
  T.of_H fun A ⟨hs0, hs1, hf, hD⟩ => by
    obtain ⟨e1, e2, e3, e4⟩ := elem_slot (A := A) 1 i hi (fun b => congrFun (congrArg Slot.l hs1) b) (fun b => congrFun (congrArg Slot.dw hs1) b) hf
    exact ⟨A.elemW V X₀ 1 i, h_elementwise hR V _ e, (e1 0).trans ((if_neg (by decide)).trans hs0), (e1 1).trans ((if_pos rfl).trans (congrArg _ hs1)), e2, hD.of_eq e3 e4⟩

theorem t_grad0 (e : o = bo (bN n)) (e0 : k0 = ko false (bN n) ∧ k1 = ko true (bN n)) (hn : n < 32) (hw : ∀ b, S0.w b = wA V a X₀ b n)
    (hd : ∀ b, S0.d b = dA V a X₀ b n) :
    T X₀ (Pre V a A₀ X₀ S0 S1 k n) (gradients (R := R) V o ho k0 k1 h0 h1 0) (Pre V a A₀ X₀ S0 S1 k (n + 1)) :=
  T.of_H fun A ⟨hs0, hs1, hf, hD⟩ => ⟨A.grads V X₀ (bN n) 0, h_gradients V _ e e0.1 e0.2, hs0, hs1, fun b => (grads_carry V A _ _ b).trans (hf b),
    acc_step hn hD 0 (fun b => (congrFun (congrArg Slot.w hs0) b).trans (hw b)) (fun b => (congrFun (congrArg Slot.d hs0) b).trans (hd b))⟩

theorem t_grad1 (e : o = bo (bN n)) (e0 : k0 = ko false (bN n) ∧ k1 = ko true (bN n)) (hn : n < 32) (hw : ∀ b, S1.w b = wA V a X₀ b n)
    (hd : ∀ b, S1.d b = dA V a X₀ b n) :
    T X₀ (Pre V a A₀ X₀ S0 S1 k n) (gradients (R := R) V o ho k0 k1 h0 h1 1) (Pre V a A₀ X₀ S0 S1 k (n + 1)) :=
  T.of_H fun A ⟨hs0, hs1, hf, hD⟩ => ⟨A.grads V X₀ (bN n) 1, h_gradients V _ e e0.1 e0.2, hs0, hs1, fun b => (grads_carry V A _ _ b).trans (hf b),
    acc_step hn hD 1 (fun b => (congrFun (congrArg Slot.w hs1) b).trans (hw b)) (fun b => (congrFun (congrArg Slot.d hs1) b).trans (hd b))⟩

theorem t_gradB {r : ℕ} (e : o = bo (bN (r - 1))) (e0 : k0 = ko false (bN (r - 1)) ∧ k1 = ko true (bN (r - 1))) (hr : r + 1 ≤ a.val)
    (hw : ∀ b, S1.w b = wB V X₀ b r) (hd : ∀ b, S1.d b = dB V a X₀ b r) :
    T X₀ (Pre V a A₀ X₀ S0 S1 k (r - 1)) (gradients (R := R) V o ho k0 k1 h0 h1 1) (Pre V a A₀ X₀ S0 S1 k r) :=
  T.of_H fun A ⟨hs0, hs1, hf, hD⟩ => ⟨A.grads V X₀ (bN (r - 1)) 1, h_gradients V _ e e0.1 e0.2, hs0, hs1, fun b => (grads_carry V A _ _ b).trans (hf b),
    acc_slot hr hD 1 (fun b => (congrFun (congrArg Slot.w hs1) b).trans (hw b)) (fun b => (congrFun (congrArg Slot.d hs1) b).trans (hd b))⟩

/-- A kept block's weights and gradients. -/
def Slot.kept (V : Vals Ideal) (a : Fin 32) (X₀ : Sta Ideal) (i : ℕ) (S : Slot) : Slot :=
  { S with dw := fun b => dwOf V X₀ b (bN i), w := fun b => wA V a X₀ b i, d := fun b => dA V a X₀ b i }

theorem t_keptOne (ha : a.val = 0) (e : o = bo (bN 0)) : T X₀ (Pre V a A₀ X₀ S0 S1 0 n) (keptOne hR V o ho) (Pre V a A₀ X₀ (S0.kept V a X₀ 0) S1 1 n) :=
  T.of_H fun A ⟨hs0, hs1, hf, hD⟩ => by
    have hw : ∀ b, t16 (keptOf X₀ false b true) = wA V a X₀ b 0 := fun b => congrArg t16 (wF_diag ha.symm b).symm
    have he : ∀ b, mulf (keptOf X₀ false b true) (dwOf V X₀ b (bN 0)) = eA V a X₀ b 0 := fun b => by unfold eA; rw [wF_diag ha.symm b]
    have hb : ∀ b, keptOf X₀ true b true = bA V a X₀ b 0 := fun b => (bA_diag ha.symm b).symm
    have hd : ∀ b, dlOf V (eA V a X₀ b 0) (bA V a X₀ b 0) (fA V a X₀ b 0) = dA V a X₀ b 0 := fun _ => rfl
    have hff : ∀ b, fOf V (eA V a X₀ b 0) (fA V a X₀ b 0) = fA V a X₀ b 1 := fun _ => rfl
    refine ⟨_, h_keptOne hR V A o ho (bN 0) e, ?_, ?_, fun b => ?_, hD.of_eq rfl fun b => ?_⟩
    · simp only [hw, he, hb]; subst hs0
      ext b : 2 <;> cases b <;> simp [Slot.kept, slotOf, Part.logits, Part.set16, Part.set32, Part.setAcc, hf, hd]
    · subst hs1
      ext b : 2 <;> cases b <;> simp [slotOf, Part.logits, Part.set16, Part.set32, Part.setAcc]
    · simp only [hw, he, hb]
      cases b <;> simp [Part.logits, Part.set16, Part.set32, Part.setAcc, hf, hff]
    · cases b <;> simp [Part.logits, Part.set16, Part.set32, Part.setAcc]

theorem kept_slot {A : Part Ideal} (s s' : Fin 2) (hs : s ≠ s') (i : ℕ) (hi : i + 1 = a.val) (hf : ∀ b, A.acc false b = fA V a X₀ b i) (B : Part Ideal)
    (hB : B = ((A.keptW V X₀ (bN i) (bN (i + 1)) s s').logitsTwo V X₀ false s s'
      (mulf (keptOf X₀ false false false) (dwOf V X₀ false (bN i))) (mulf (keptOf X₀ false false true) (dwOf V X₀ false (bN (i + 1))))).logitsTwo V X₀ true s s'
      (mulf (keptOf X₀ false true false) (dwOf V X₀ true (bN i))) (mulf (keptOf X₀ false true true) (dwOf V X₀ true (bN (i + 1))))) :
    slotOf B s = (slotOf A s).kept V a X₀ i ∧ slotOf B s' = (slotOf A s').kept V a X₀ (i + 1) ∧ (∀ b, B.acc false b = fA V a X₀ b (i + 1 + 1))
      ∧ B.b32 = A.b32 ∧ ∀ b, B.acc true b = A.acc true b := by
  have hw : ∀ b, t16 (keptOf X₀ false b true) = wA V a X₀ b (i + 1) := fun b => congrArg t16 (wF_diag hi b).symm
  have he : ∀ b, mulf (keptOf X₀ false b true) (dwOf V X₀ b (bN (i + 1))) = eA V a X₀ b (i + 1) := fun b => by unfold eA; rw [wF_diag hi b]
  have hb : ∀ b, keptOf X₀ true b true = bA V a X₀ b (i + 1) := fun b => (bA_diag hi b).symm
  have hw' : ∀ b, t16 (keptOf X₀ false b false) = wA V a X₀ b i := fun b => congrArg t16 (wF_prev hi b).symm
  have he' : ∀ b, mulf (keptOf X₀ false b false) (dwOf V X₀ b (bN i)) = eA V a X₀ b i := fun b => by unfold eA; rw [wF_prev hi b]
  have hb' : ∀ b, keptOf X₀ true b false = bA V a X₀ b i := fun b => (bA_prev hi b).symm
  have hd : ∀ b i, dlOf V (eA V a X₀ b i) (bA V a X₀ b i) (fA V a X₀ b i) = dA V a X₀ b i := fun _ _ => rfl
  have hff : ∀ b i, fOf V (eA V a X₀ b i) (fA V a X₀ b i) = fA V a X₀ b (i + 1) := fun _ _ => rfl
  subst hB
  unfold Part.logitsTwo Part.keptW
  simp only [hw, he, hb, hw', he', hb']
  refine ⟨?_, ?_, fun b => ?_, rfl, fun b => ?_⟩
  · ext b : 2 <;> cases b <;> simp [Slot.kept, slotOf, Part.set16, Part.set32, Part.setAcc, hf, hd, hs]
  · ext b : 2 <;> cases b <;> simp [Slot.kept, slotOf, Part.set16, Part.set32, Part.setAcc, hf, hff, hd, hs.symm]
  · cases b <;> simp [Part.set16, Part.set32, Part.setAcc, hf, hff]
  · cases b <;> simp [Part.set16, Part.set32, Part.setAcc]

theorem t_keptTwo01 {o' : Fin 3 → Nat} {ho' : InB o'} (i : ℕ) (hi : i + 1 = a.val) (e : o = bo (bN i)) (e' : o' = bo (bN (i + 1))) :
    T X₀ (Pre V a A₀ X₀ S0 S1 i n) (keptTwo hR V o o' ho ho' 0 1) (Pre V a A₀ X₀ (S0.kept V a X₀ i) (S1.kept V a X₀ (i + 1)) (i + 1 + 1) n) :=
  T.of_H fun A ⟨hs0, hs1, hf, hD⟩ => by
    obtain ⟨e1, e2, e3, e4, e5⟩ := kept_slot (A := A) 0 1 (by decide) i hi hf _ rfl
    exact ⟨_, h_keptTwo hR V A o o' ho ho' 0 1 (by decide) _ _ e e', e1.trans (congrArg _ hs0), e2.trans (congrArg _ hs1), e3, hD.of_eq e4 e5⟩

theorem t_keptTwo10 {o' : Fin 3 → Nat} {ho' : InB o'} (i : ℕ) (hi : i + 1 = a.val) (e : o = bo (bN i)) (e' : o' = bo (bN (i + 1))) :
    T X₀ (Pre V a A₀ X₀ S0 S1 i n) (keptTwo hR V o o' ho ho' 1 0) (Pre V a A₀ X₀ (S0.kept V a X₀ (i + 1)) (S1.kept V a X₀ i) (i + 1 + 1) n) :=
  T.of_H fun A ⟨hs0, hs1, hf, hD⟩ => by
    obtain ⟨e1, e2, e3, e4, e5⟩ := kept_slot (A := A) 1 0 (by decide) i hi hf _ rfl
    exact ⟨_, h_keptTwo hR V A o o' ho ho' 1 0 (by decide) _ _ e e', e2.trans (congrArg _ hs0), e1.trans (congrArg _ hs1), e3, hD.of_eq e4 e5⟩

/-! ## The branches -/

/-- What holds before the loop's step `k`. -/
def Inv (V : Vals Ideal) (a : Fin 32) (A₀ : Part Ideal) (X₀ : Sta Ideal) (k : ℕ) (A : Part Ideal) : Prop :=
  ∃ S0 S1 : Slot, (∀ b, S1.w b = wB V X₀ b (2 * k)) ∧ (∀ b, S1.d b = dB V a X₀ b (2 * k))
    ∧ Pre V a A₀ X₀ (S0.prod V X₀ (bN (2 * k))) S1 (2 * k) (2 * k - 1) A

theorem wB_succ (b : Bool) (r : ℕ) : wB V X₀ b (r + 1) = wN V X₀ b r := by
  unfold wB; rw [if_neg (by omega)]; rfl
theorem dB_succ (b : Bool) (r : ℕ) : dB V a X₀ b (r + 1) = dA V a X₀ b r := by
  unfold dB; rw [if_neg (by omega)]; rfl

theorem two_steps (h : k0_chk1 (pt a) 0#32) (k : Fin (k0_t3_loop (pt a) 0#32).trips) :
    T X₀ (Inv V a A₀ X₀ k.val) (twoSteps hR V (pt a) 0#32 h k) (Inv V a A₀ X₀ (k.val + 1)) := by
  have hk : k.val < (a.val - 1) / 2 := (trips3 a) ▸ k.isLt
  have ha := a.isLt
  intro X ok ⟨S0, S1, hw, hd, hp⟩
  have : Ok X₀ (C.den (twoSteps hR V (pt a) 0#32 h k) X).2 ∧ Pre V a A₀ X₀ _ _ _ _ (abs (C.den (twoSteps hR V (pt a) 0#32 h k) X).2) :=
   ((t_products1 (bN (2 * k.val + 1)) (off8 a k)).bind fun _ => (t_gradB (S1 := S1.prod V X₀ (bN (2 * k.val + 1))) (off11 a k) (off9 a k) (by omega) hw hd).bind fun _ =>
    (t_elem0 hR (2 * k.val) (by omega) (lab0 a k)).bind fun _ =>
    (t_products0 (bN (2 * k.val + 2)) (off12 a k)).bind fun _ => (t_grad0 (off15 a k) (off13 a k) (by omega) (fun _ => rfl) (fun _ => rfl)).bind fun _ =>
    t_elem1 hR (a := a) (2 * k.val + 1) (by omega) (lab1 a k)) X ok hp
  have e : 2 * (k.val + 1) = 2 * k.val + 1 + 1 := by omega
  refine ⟨this.1, _, (S1.prod V X₀ (bN (2 * k.val + 1))).elem V a X₀ (2 * k.val + 1), fun b => ?_, fun b => ?_, this.2⟩
  · rw [e, wB_succ]
    exact wA_eq (by omega) b
  · rw [e, dB_succ]
    rfl

theorem only_diagonal (ha : a.val = 0) : T X₀ (Pre V a A₀ X₀ S0 S1 0 0) (onlyDiagonal hR V (pt a)) (Acc V a A₀ X₀ (a.val + 1)) := by
  have e1 : k0_off24 (pt a) = bo (bN 0) := by rw [off24 a, ha]
  have e2 := off25 a
  rw [ha] at e2
  refine T.conseq ((t_keptOne hR ha e1).bind fun _ => t_grad0 e1 e2 (by omega) (fun b => rfl) fun b => rfl) (fun A h => h) ?_
  intro A h
  rw [ha]
  exact h.2.2.2

theorem last_two (ha : a.val = 1) (h : k0_chk1 (pt a) 0#32) (h4 : k0_cond4 (pt a) 0#32 = 1#1) :
    T X₀ (Pre V a A₀ X₀ S0 S1 0 0) (lastTwo hR V (pt a) 0#32 h h4) (Acc V a A₀ X₀ (a.val + 1)) := by
  have e1 : k0_off27 (pt a) = bo (bN 0) := by rw [off27 a (by omega), ha]
  have e2 : k0_off28 (pt a) = bo (bN 1) := by rw [off28 a, ha]
  have e3 := off29 a (by omega)
  have e4 := off31 a
  rw [ha] at e3 e4
  refine T.conseq ((t_keptTwo01 hR 0 (by omega) e1 e2).bind fun _ => (t_grad0 e1 e3 (by omega) (fun b => rfl) fun b => rfl).bind fun _ =>
    t_grad1 e2 e4 (by omega) (fun b => rfl) fun b => rfl) (fun A h => h) ?_
  intro A h
  rw [ha]
  exact h.2.2.2

theorem last_odd (ha : 2 ≤ a.val) (hm : a.val % 2 = 1) (h : k0_chk1 (pt a) 0#32) (h5 : k0_cond5 (pt a) 0#32 = 1#1) :
    T X₀ (Inv V a A₀ X₀ ((a.val - 1) / 2)) (lastTwoOdd hR V (pt a) 0#32 h h5) (Acc V a A₀ X₀ (a.val + 1)) := by
  obtain ⟨m, hm⟩ : ∃ m, a.val = m + 3 := ⟨a.val - 3, by omega⟩
  have hl := a.isLt
  have e : 2 * ((a.val - 1) / 2) = m + 1 + 1 := by omega
  have e1 : k0_off35 (pt a) 2#32 = bo (bN (m + 1)) := by rw [(off35 a ha).1, hm]; rfl
  have e2 : k0_off35 (pt a) 1#32 = bo (bN (m + 1 + 1)) := by rw [(off35 a ha).2, hm]; rfl
  have e3 : k0_off36 (pt a) = bo (bN (m + 1 + 1 + 1)) := by rw [off36 a, hm]
  obtain ⟨g1, g2⟩ := off33 a ha
  have g3 := off37 a
  rw [show a.val - 2 = m + 1 by omega] at g1
  rw [show a.val - 1 = m + 1 + 1 by omega] at g2
  rw [hm] at g3
  intro X ok ⟨S0, S1, hw, hd, hp⟩
  rw [e] at hp hw hd
  simp only [wB_succ, dB_succ, Nat.add_sub_cancel] at hp hw hd
  have : Ok X₀ (C.den (lastTwoOdd hR V (pt a) 0#32 h h5) X).2 ∧ Pre V a A₀ X₀ _ _ _ _ (abs (C.den (lastTwoOdd hR V (pt a) 0#32 h h5) X).2) :=
   ((t_grad1 e1 g1 (by omega) (fun b => (hw b).trans (wA_eq (by omega) b).symm) hd).bind fun _ =>
    (t_keptTwo01 hR (m + 1 + 1) (by omega) e2 e3).bind fun _ => (t_grad0 e2 g2 (by omega) (fun b => rfl) fun b => rfl).bind fun _ =>
    t_grad1 e3 g3 (by omega) (fun b => rfl) fun b => rfl) X ok hp
  refine ⟨this.1, ?_⟩
  rw [hm]
  exact this.2.2.2.2

theorem last_even (ha : 2 ≤ a.val) (hm : a.val % 2 = 0) (h : k0_chk1 (pt a) 0#32) (h6 : k0_cond6 (pt a) 0#32 = 1#1) :
    T X₀ (Inv V a A₀ X₀ ((a.val - 1) / 2)) (lastTwoEven hR V (pt a) 0#32 h (cnt (pt a) 0#32) h6) (Acc V a A₀ X₀ (a.val + 1)) := by
  obtain ⟨m, hm⟩ : ∃ m, a.val = m + 2 := ⟨a.val - 2, by omega⟩
  have hl := a.isLt
  have e : 2 * ((a.val - 1) / 2) = m := by omega
  have e0 : k0_off42 (pt a) 0#32 = bo (bN (m - 1)) := by
    rw [off42 a ha, hm]
    exact congrArg (fun n => bo (bN n)) (by omega)
  have e1 : k0_off45 (pt a) 2#32 = bo (bN m) := by rw [(off45 a ha).1, hm]; rfl
  have e2 : k0_off45 (pt a) 1#32 = bo (bN (m + 1)) := by rw [(off45 a ha).2, hm]; rfl
  have e3 : k0_off46 (pt a) = bo (bN (m + 1 + 1)) := by rw [off46 a, hm]
  have e4 : Scalar.addi 0#32 (Scalar.subi (cnt (pt a) 0#32) 2#32) = BitVec.ofNat 32 m := by rw [lab2 a ha, hm]; rfl
  have e5 : k0_off39 (pt a) 0#32 = bo (bN (m + 1)) := by rw [off39 a ha, hm]; rfl
  have g0 := off40 a ha
  obtain ⟨g1, g2⟩ := off43 a ha
  have g3 := off47 a
  rw [show a.val - 3 = m - 1 by omega] at g0
  rw [show a.val - 2 = m by omega] at g1
  rw [show a.val - 1 = m + 1 by omega] at g2
  rw [hm] at g3
  intro X ok ⟨S0, S1, hw, hd, hp⟩
  rw [e] at hp hw hd
  have : Ok X₀ (C.den (lastTwoEven hR V (pt a) 0#32 h (cnt (pt a) 0#32) h6) X).2 ∧
      Pre V a A₀ X₀ _ _ _ _ (abs (C.den (lastTwoEven hR V (pt a) 0#32 h (cnt (pt a) 0#32) h6) X).2) :=
   ((t_products1 (bN (m + 1)) e5).bind fun _ => (t_gradB (S1 := S1.prod V X₀ (bN (m + 1))) e0 g0 (by omega) hw hd).bind fun _ =>
    (t_elem0 hR m (by omega) e4).bind fun _ =>
    (t_grad0 e1 g1 (by omega) (fun b => rfl) fun b => rfl).bind fun _ =>
    (t_keptTwo10 hR (m + 1) (by omega) e2 e3).bind fun _ => (t_grad1 e2 g2 (by omega) (fun b => rfl) fun b => rfl).bind fun _ =>
    t_grad0 e3 g3 (by omega) (fun b => rfl) fun b => rfl) X ok hp
  refine ⟨this.1, ?_⟩
  rw [hm]
  exact this.2.2.2.2

theorem t_start (h : k0_chk1 (pt a) 0#32) (h2 : k0_cond2 (pt a) 0#32 = 1#1) :
    T X₀ (fun A => (∀ b, A.acc false b = f0) ∧ Acc V a A₀ X₀ 0 A) (start hR V (pt a) 0#32 h h2) (Inv V a A₀ X₀ 0) :=
  T.of_H fun A ⟨hf, hA⟩ => ⟨_, (h_set16 hR A false false 1 _).bind fun _ => (h_set16 hR _ true false 1 _).bind fun _ => (h_set16 hR _ false true 1 _).bind fun _ =>
    (h_set16 hR _ true true 1 _).bind fun _ => h_products V (bN 0) off7,
    { slotOf A 0 with l := fun b => lgOf V X₀ b (bN 0), dw := fun b => dwOf V X₀ b (bN 0) }, { slotOf A 1 with w := fun _ => w0, d := fun _ => w0 },
    fun b => rfl, fun b => rfl,
    by ext b : 2 <;> cases b <;> simp [Slot.prod, slotOf, Part.set32, Part.set16],
    by ext b : 2 <;> cases b <;> simp [slotOf, Part.set32, Part.set16, w0], hf, hA.of_eq rfl fun _ => rfl⟩

theorem fold_inv {n : ℕ} (f : Fin n → P Ideal R PUnit) (I : ℕ → Part Ideal → Prop) (hf : ∀ k, T X₀ (I k.val) (f k) (I (k.val + 1)))
    (X : Sta Ideal) (ok : Ok X₀ X) (h : I 0 (abs X)) :
    Ok X₀ ((List.finRange n).foldl (fun X k => ((f k).den X).2) X) ∧ I n (abs ((List.finRange n).foldl (fun X k => ((f k).den X).2) X)) := by
  have key : ∀ m, m ≤ n → Ok X₀ (((List.finRange n).take m).foldl (fun X k => ((f k).den X).2) X)
      ∧ I m (abs (((List.finRange n).take m).foldl (fun X k => ((f k).den X).2) X)) := by
    intro m
    induction m with
    | zero => intro _; exact ⟨ok, h⟩
    | succ m ih =>
      intro hm
      obtain ⟨h1, h2⟩ := ih (by omega)
      have e : (List.finRange n).take (m + 1) = (List.finRange n).take m ++ [⟨m, hm⟩] := by
        rw [List.take_succ, List.getElem?_eq_getElem (by simpa using hm)]; simp
      rw [e, List.foldl_append]
      exact hf ⟨m, hm⟩ _ h1 h2
  have := key n le_rfl
  rwa [List.take_of_length_le (by simp)] at this

theorem fold_none {n : ℕ} (hn : n = 0) (f : Fin n → P Ideal R PUnit) (X : Sta Ideal) :
    (List.finRange n).foldl (fun X k => ((f k).den X).2) X = X := by subst hn; rfl

/-- The queries' gradients as they are written out. -/
def rowT (A : Part Ideal) : FVec Ideal S256x128 .bf16 :=
  truncf .bf16 (mulf (addf (A.acc true false) (A.acc true true)) (broadcast S256x128 (Scalar.ofBits .f32 0x3E000000#32))) bitsLt_bf16_f32

theorem row_emb (y : S256x128.Idx) : rowR.emb y = y := by
  funext d
  apply Fin.ext
  match d with
  | 0 => show 0 + 1 * (y 0).val = (y 0).val; omega
  | 1 => show 0 + 1 * (y 1).val = (y 1).val; omega

theorem row_put {A : Type} (w X : S256x128.Idx → A) : put rowR w X = w := by
  funext y
  have := put_emb rowR w X y
  rwa [row_emb] at this

theorem row_den (X : Sta Ideal) : ((rowOut hR).den X).2 = Function.update X (.row 2) (rowT (abs X)) := by
  have h : ((rowOut hR).den X).2 = Function.update X (.row 2) (put (A := Ideal .bf16) rowR (rowT (abs X)) (X (.row 2))) := rfl
  rw [h]
  exact congrArg (Function.update X (.row 2)) (row_put (A := Ideal .bf16) _ _)

theorem row_out (X : Sta Ideal) (ok : Ok X₀ X) : Ok X₀ ((rowOut hR).den X).2 ∧ abs ((rowOut hR).den X).2 = abs X
    ∧ ((rowOut hR).den X).2 (.row 2) = rowT (abs X) := by
  rw [row_den]
  exact ⟨ok_update ok _ rfl _, abs_update X _ rfl _, Function.update_self (Fld.row 2) _ _⟩

/-- Every block up to the diagonal adds its part. -/
theorem blocks (h : k0_chk1 (pt a) 0#32) (X : Sta Ideal) (ok : Ok X₀ X) (hf : ∀ b, (abs X).acc false b = f0) :
    Ok X₀ ((part60 hR V (pt a) 0#32 h).den ((part59 hR V (pt a) 0#32 h (cnt (pt a) 0#32)).den X).2).2
      ∧ Acc V a (abs X) X₀ (a.val + 1) (abs ((part60 hR V (pt a) 0#32 h).den ((part59 hR V (pt a) 0#32 h (cnt (pt a) 0#32)).den X).2).2)
      ∧ ((part60 hR V (pt a) 0#32 h).den ((part59 hR V (pt a) 0#32 h (cnt (pt a) 0#32)).den X).2).2 (.row 2)
        = rowT (abs ((part60 hR V (pt a) 0#32 h).den ((part59 hR V (pt a) 0#32 h (cnt (pt a) 0#32)).den X).2).2) := by
  have hA : Acc V a (abs X) X₀ 0 (abs X) := ⟨fun v j x => by rw [if_neg (Nat.not_lt_zero _), add_zero], fun b x => by rw [Finset.range_zero, Finset.sum_empty, add_zero]⟩
  have hP : Pre V a (abs X) X₀ (slotOf (abs X) 0) (slotOf (abs X) 1) 0 0 (abs X) := ⟨rfl, rfl, hf, hA⟩
  have e60 : ∀ Y : Sta Ideal, ((part60 hR V (pt a) 0#32 h).den Y).2 = ((rowOut hR).den
      (if h6 : k0_cond6 (pt a) 0#32 = 1#1 then ((lastTwoEven hR V (pt a) 0#32 h (cnt (pt a) 0#32) h6).den
        (if h5 : k0_cond5 (pt a) 0#32 = 1#1 then ((lastTwoOdd hR V (pt a) 0#32 h h5).den Y).2 else Y)).2
      else (if h5 : k0_cond5 (pt a) 0#32 = 1#1 then ((lastTwoOdd hR V (pt a) 0#32 h h5).den Y).2 else Y))).2 := fun Y => rfl
  have e59 : ((part59 hR V (pt a) 0#32 h (cnt (pt a) 0#32)).den X).2 =
      (fun Z : Sta Ideal => if h4 : k0_cond4 (pt a) 0#32 = 1#1 then ((lastTwo hR V (pt a) 0#32 h h4).den Z).2 else Z)
      ((fun Z : Sta Ideal => if h3 : onlyCond (cnt (pt a) 0#32) then ((onlyDiagonal hR V (pt a)).den Z).2 else Z)
      ((List.finRange (k0_t4_loop (pt a) 0#32).trips).foldl (fun X k => ((twoSteps' hR V (pt a) 0#32 h k).den X).2)
      ((List.finRange (k0_t3_loop (pt a) 0#32).trips).foldl (fun X k => ((twoSteps hR V (pt a) 0#32 h k).den X).2)
      (if h2 : k0_cond2 (pt a) 0#32 = 1#1 then ((start hR V (pt a) 0#32 h h2).den X).2 else X)))) := rfl
  rw [e60, e59]
  dsimp only
  rw [fold_none (trips4 a)]
  have key : ∀ W, (∃ Y, Ok X₀ Y ∧ Acc V a (abs X) X₀ (a.val + 1) (abs Y) ∧ W = Y) →
      Ok X₀ ((rowOut hR).den W).2 ∧ Acc V a (abs X) X₀ (a.val + 1) (abs ((rowOut hR).den W).2)
        ∧ ((rowOut hR).den W).2 (.row 2) = rowT (abs ((rowOut hR).den W).2) := by
    rintro W ⟨Y, h1, h2, rfl⟩
    obtain ⟨r1, r2, r3⟩ := row_out hR W h1
    rw [r2]
    exact ⟨r1, h2, r3⟩
  refine key _ ?_
  by_cases h2 : 2 ≤ a.val
  · rw [dif_neg (show ¬ k0_cond4 (pt a) 0#32 = 1#1 from fun h' => by have := (cond4_iff a).mp h'; omega), dif_neg (show ¬ onlyCond (cnt (pt a) 0#32) from fun h' => by have := (only_iff a).mp h'; omega),
      dif_pos ((cond2_iff a).mpr h2)]
    obtain ⟨o1, i1⟩ := t_start hR h ((cond2_iff a).mpr h2) X ok ⟨hf, hA⟩
    obtain ⟨o2, i2⟩ := fold_inv (twoSteps hR V (pt a) 0#32 h) _ (two_steps hR h) _ o1 i1
    generalize List.foldl (fun X k => ((twoSteps hR V (pt a) 0#32 h k).den X).2) _ _ = Z at o2 i2 ⊢
    rw [trips3 a] at i2
    by_cases hm : a.val % 2 = 1
    · rw [dif_neg (show ¬ k0_cond6 (pt a) 0#32 = 1#1 from fun h' => by have := (cond6_iff a).mp h'; omega), dif_pos ((cond5_iff a).mpr ⟨h2, hm⟩)]
      obtain ⟨o3, i3⟩ := last_odd hR h2 hm h ((cond5_iff a).mpr ⟨h2, hm⟩) _ o2 i2
      exact ⟨_, o3, i3, rfl⟩
    · rw [dif_pos ((cond6_iff a).mpr ⟨h2, by omega⟩), dif_neg (show ¬ k0_cond5 (pt a) 0#32 = 1#1 from fun h' => by have := (cond5_iff a).mp h'; omega)]
      obtain ⟨o3, i3⟩ := last_even hR h2 (by omega) h ((cond6_iff a).mpr ⟨h2, by omega⟩) _ o2 i2
      exact ⟨_, o3, i3, rfl⟩
  · rw [dif_neg (show ¬ k0_cond6 (pt a) 0#32 = 1#1 from fun h' => by have := (cond6_iff a).mp h'; omega), dif_neg (show ¬ k0_cond5 (pt a) 0#32 = 1#1 from fun h' => by have := (cond5_iff a).mp h'; omega),
      dif_neg (show ¬ k0_cond2 (pt a) 0#32 = 1#1 from fun h' => h2 ((cond2_iff a).mp h')), fold_none ((trips3 a).trans (by omega))]
    by_cases h1 : a.val = 1
    · rw [dif_pos ((cond4_iff a).mpr h1), dif_neg (show ¬ onlyCond (cnt (pt a) 0#32) from fun h' => by have := (only_iff a).mp h'; omega)]
      obtain ⟨o3, i3⟩ := last_two hR h1 h ((cond4_iff a).mpr h1) X ok hP
      exact ⟨_, o3, i3, rfl⟩
    · rw [dif_neg (show ¬ k0_cond4 (pt a) 0#32 = 1#1 from fun h' => h1 ((cond4_iff a).mp h')), dif_pos ((only_iff a).mpr (by omega))]
      obtain ⟨o3, i3⟩ := only_diagonal hR (by omega) X ok hP
      exact ⟨_, o3, i3, rfl⟩

end Cert.AttnIdeal.Text
-- ==== Proof.AttnEnds.lean ====
/-
  The two ends of a grid point of the attention's backward call: the keys and values prepared and the sums cleared at a
  pair's first row block, and the keys' and the values' gradients written out at its last.
-/
module

public import proofs.«01_k».proof.Proof.AttnPoint
public import Idealize.ShloMosaic.Lib.WordArith

@[expose] public section

set_option maxRecDepth 16384

noncomputable section

open Idealize.ShloMosaic Idealize.ShloMosaic.TcCoe Idealize.SL.Sem

namespace Cert.AttnIdeal.Text

open Cert.AttnIdeal Cert.AttnIdeal.Gen Cert.BufferText

theorem off1 : ∀ k : Fin k0_t1_loop.trips, k0_off1 k = ![256 * k.val, 0] := by decide +kernel
theorem off2 : ∀ k : Fin k0_t1_loop.trips, k0_off2 k = bo (bN k.val) := by decide +kernel
theorem off3 : ∀ k : Fin k0_t1_loop.trips, k0_off3 k = ko false (bN k.val) := by decide +kernel
theorem off4 : ∀ k : Fin k0_t1_loop.trips, k0_off4 k = ko true (bN k.val) := by decide +kernel
theorem off5 : ∀ k : Fin k0_t2_loop.trips, k0_off5 k = ![256 * k.val, 0] := by decide +kernel
theorem off6 : ∀ k : Fin k0_t2_loop.trips, k0_off6 k = bo (bN k.val) := by decide +kernel
theorem trips2 : k0_t2_loop.trips = 32 := by decide +kernel
theorem off49 : ∀ k : Fin k0_t5_loop.trips, k0_off49 k = bo (bN k.val) := by decide +kernel
theorem off50 : ∀ k : Fin k0_t5_loop.trips, k0_off50 k = ![256 * k.val, 0] := by decide +kernel
theorem trips1 : k0_t1_loop.trips = 32 := by decide +kernel
theorem trips5 : k0_t5_loop.trips = 32 := by decide +kernel
theorem cond1_iff : ∀ a : Fin 32, k0_cond1 (pt a) = 1#1 ↔ a.val = 0 := by decide +kernel
theorem cond7_iff : ∀ a : Fin 32, k0_cond7 (pt a) = 1#1 ↔ a.val = 31 := by decide +kernel

theorem fold_prop {S : Type} {n : ℕ} (f : S → Fin n → S) (I : ℕ → S → Prop) (hf : ∀ (k : Fin n) X, I k.val X → I (k.val + 1) (f X k))
    (X : S) (h : I 0 X) : I n ((List.finRange n).foldl f X) := by
  have key : ∀ m, m ≤ n → I m (((List.finRange n).take m).foldl f X) := by
    intro m
    induction m with
    | zero => intro _; exact h
    | succ m ih =>
      intro hm
      have e : (List.finRange n).take (m + 1) = (List.finRange n).take m ++ [⟨m, hm⟩] := by
        rw [List.take_succ, List.getElem?_eq_getElem (by simpa using hm)]; simp
      rw [e, List.foldl_append]
      exact hf ⟨m, hm⟩ _ (ih (by omega))
  have := key n le_rfl
  rwa [List.take_of_length_le (by simp)] at this

variable {R : Refs} (hR : ∀ k, (R k).IsWhole) (a : Fin 32)

theorem blk_put_off {A : Type} {o : Fin 3 → Nat} (ho : InB o) (s' : Fin 32) (e : o = bo s') (X : S32x128x256.Idx → A) (s : Fin 32)
    (w : S128x256.Idx → A) :
    blk (put (Rect.unit (s := S32x128x256) o S1x128x256.size ho) (shapeCast S1x128x256 w shapeCasts_S128x256_S1x128x256) X) s
      = if s = s' then w else blk X s := by
  subst e; exact blk_put _ _ _ _

theorem blk_rd_off {A : Type} {o : Fin 3 → Nat} (ho : InB o) (s : Fin 32) (e : o = bo s) (X : S32x128x256.Idx → A) :
    shapeCast S128x256 (fun x => X ((Rect.unit (s := S32x128x256) o S1x128x256.size ho).emb x)) shapeCasts_S1x128x256_S128x256 = blk X s := by
  subst e; rfl

/-- Block `k` of rows. -/
theorem rowsInb (k : Fin 32) : ∀ d, (![256 * k.val, 0] : Fin 2 → Nat) d + S256x128.size d ≤ S8192x128.size d := by revert k; decide
abbrev rowsR (k : Fin 32) : Rect S8192x128 := Rect.unit (s := S8192x128) ![256 * k.val, 0] S256x128.size (rowsInb k)

/-! ## The keys -/

/-- A block transposed, at an entry. -/
theorem tr_at (x : FVec Ideal S256x128 .bf16) (y : S128x256.Idx) : tr (F := Ideal) x y = x (ix2 (y 1) (y 0)) := by
  pointwise [tr]

/-- A block of keys with one head's lanes kept. -/
def kmT (b : Bool) (x : FVec Ideal S256x128 .bf16) : FVec Ideal S256x128 .bf16 :=
  select (wideMask (match b with | false => half0 | true => half1)) x (broadcast S256x128 (Scalar.ofBits .bf16 0x0000#16))

abbrev kmR (b : Bool) (j : Fin 32) : Rect S2x8192x128 := Rect.unit (s := S2x8192x128) (ko b j) S1x256x128.size (koIn b j)

/-- A head's block of the keys kept row by row. -/
def kmS {A : Type} (X : S2x8192x128.Idx → A) (b : Bool) (j : Fin 32) : S256x128.Idx → A :=
  shapeCast S256x128 (fun x : (kmR b j).shape.Idx => X ((kmR b j).emb x)) shapeCasts_S1x256x128_S256x128

theorem km_ne {b b' : Bool} {j j' : Fin 32} (h : ¬ (b = b' ∧ j = j')) (x : (kmR b j).shape.Idx) (y : (kmR b' j').shape.Idx) :
    (kmR b' j').emb y ≠ (kmR b j).emb x := by
  intro e
  have e0 : b'.toNat + 1 * (y 0).val = b.toNat + 1 * (x 0).val := congrArg (fun z : S2x8192x128.Idx => (z 0).val) e
  have e1 : 256 * j'.val + 1 * (y 1).val = 256 * j.val + 1 * (x 1).val := congrArg (fun z : S2x8192x128.Idx => (z 1).val) e
  have x0 : (x 0).val < 1 := (x 0).isLt
  have y0 : (y 0).val < 1 := (y 0).isLt
  have x1 : (x 1).val < 256 := (x 1).isLt
  have y1 : (y 1).val < 256 := (y 1).isLt
  have hb : b.toNat = b'.toNat := by omega
  refine h ⟨?_, Fin.ext (by omega)⟩
  revert hb; cases b <;> cases b' <;> simp

theorem km_put {A : Type} {o : Fin 3 → Nat} (ho : InK o) (b' : Bool) (j' : Fin 32) (e : o = ko b' j') (X : S2x8192x128.Idx → A) (b : Bool) (j : Fin 32)
    (w : S256x128.Idx → A) :
    kmS (put (Rect.unit (s := S2x8192x128) o S1x256x128.size ho) (shapeCast S1x256x128 w shapeCasts_S256x128_S1x256x128) X) b j
      = if b = b' ∧ j = j' then w else kmS X b j := by
  subst e
  split
  · rename_i h
    obtain ⟨rfl, rfl⟩ := h
    unfold kmS
    rw [rd_put_same]
    exact shapeCast_shapeCast _ _ _
  · rename_i h
    unfold kmS
    rw [rd_put_other _ _ _ _ (km_ne h)]

/-- What the buffers hold after the pair's keys are prepared up to block `n`. -/
def Keys (X₀ : Sta Ideal) (n : ℕ) (X : Sta Ideal) : Prop :=
  (∀ k, (∀ v, k ≠ .b16 v) → k ≠ .km → (∀ v, k ≠ .b32 v) → X k = X₀ k)
    ∧ ∀ j : Fin 32, j.val < n → tT X false j = tr (fun x => X₀ (.all 0) ((rowsR j).emb x))
      ∧ ∀ b, kmOf X b j = kmT b (fun x => X₀ (.all 0) ((rowsR j).emb x))

theorem upd3 (X : Sta Ideal) (k k' : Fld) (h : k ≠ k') (A : (sh k).Idx → Elt Ideal (el k)) (B C : (sh k').Idx → Elt Ideal (el k')) :
    Function.update (Function.update (Function.update X k A) k' B) k' C k = A := by
  rw [Function.update_of_ne h, Function.update_of_ne h, Function.update_self]

/-- A block of keys as the kernel stores it. -/
def keyBlock (h1 : k0_cond1 (pt a) = 1#1) (k : Fin k0_t1_loop.trips) (X : Sta Ideal) : S32x128x256.Idx → Ideal .bf16 :=
  put (A := Ideal .bf16) (Rect.unit (s := S32x128x256) (k0_off2 k) S1x128x256.size (k0_off2_inb (pt a) k h1))
      (shapeCast S1x128x256 (tr (F := Ideal) (shapeCast S256x128 (fun x => X (.all 0) ((Rect.unit (s := S8192x128) (k0_off1 k) S256x128.size (k0_off1_inb (pt a) k h1)).emb x))
        shapeCasts_S256x128_S256x128)) shapeCasts_S128x256_S1x128x256) (X (.b16 false))

/-- A head's block of keys as the kernel stores it. -/
def kmBlock (h1 : k0_cond1 (pt a) = 1#1) (k : Fin k0_t1_loop.trips) (X : Sta Ideal) : S2x8192x128.Idx → Ideal .bf16 :=
  put (A := Ideal .bf16) (Rect.unit (s := S2x8192x128) (k0_off4 k) S1x256x128.size (k0_off4_inb (pt a) k h1))
    (shapeCast S1x256x128 (kmT true (shapeCast S256x128 (fun x => X (.all 0) ((Rect.unit (s := S8192x128) (k0_off1 k) S256x128.size (k0_off1_inb (pt a) k h1)).emb x))
        shapeCasts_S256x128_S256x128)) shapeCasts_S256x128_S1x256x128)
    (put (A := Ideal .bf16) (Rect.unit (s := S2x8192x128) (k0_off3 k) S1x256x128.size (k0_off3_inb (pt a) k h1))
      (shapeCast S1x256x128 (kmT false (shapeCast S256x128 (fun x => X (.all 0) ((Rect.unit (s := S8192x128) (k0_off1 k) S256x128.size (k0_off1_inb (pt a) k h1)).emb x))
        shapeCasts_S256x128_S256x128)) shapeCasts_S256x128_S1x256x128) (X .km))

theorem updKm (X : Sta Ideal) (A : (sh (.b16 false)).Idx → Elt Ideal (el (.b16 false))) (Q Q' : ((sh .km).Idx → Elt Ideal (el .km)) → (sh .km).Idx → Elt Ideal (el .km))
    (Y Z : Sta Ideal) (hY : Y = Function.update X (.b16 false) A) (hZ : Z = Function.update Y .km (Q (Y .km))) :
    Function.update Z .km (Q' (Z .km)) .km = Q' (Q (X .km)) := by
  rw [Function.update_self, hZ, Function.update_self, hY, Function.update_of_ne (by simp)]

theorem prepareKeys_put (h1 : k0_cond1 (pt a) = 1#1) (k : Fin k0_t1_loop.trips) (X : Sta Ideal) :
    ∃ B C, ((prepareKeys hR (pt a) h1 k).den X).2
      = Function.update (Function.update (Function.update X (.b16 false) (keyBlock a h1 k X)) .km B) .km C := ⟨_, _, rfl⟩

/-- Storing a head's block of keys. -/
def kmStore (o : Fin 3 → Nat) (ho : InK o) (b : Bool) (w : FVec Ideal S256x128 .bf16) (Y : Sta Ideal) : Sta Ideal :=
  Function.update Y .km (put (A := Ideal .bf16) (Rect.unit (s := S2x8192x128) o S1x256x128.size ho) (shapeCast S1x256x128 (kmT b w) shapeCasts_S256x128_S1x256x128) (Y .km))

theorem prepareKeys_two (h1 : k0_cond1 (pt a) = 1#1) (k : Fin k0_t1_loop.trips) (X : Sta Ideal) (w : FVec Ideal S256x128 .bf16)
    (hw : w = shapeCast S256x128 (fun x => X (.all 0) ((Rect.unit (s := S8192x128) (k0_off1 k) S256x128.size (k0_off1_inb (pt a) k h1)).emb x)) shapeCasts_S256x128_S256x128) :
    ((prepareKeys hR (pt a) h1 k).den X).2
      = kmStore (k0_off4 k) (k0_off4_inb (pt a) k h1) true w (kmStore (k0_off3 k) (k0_off3_inb (pt a) k h1) false w (Function.update X (.b16 false) (keyBlock a h1 k X))) := by
  subst hw
  rfl

theorem prepareKeys_km (h1 : k0_cond1 (pt a) = 1#1) (k : Fin k0_t1_loop.trips) (X : Sta Ideal) :
    ((prepareKeys hR (pt a) h1 k).den X).2 .km = kmBlock a h1 k X := by
  rw [prepareKeys_two hR a h1 k X _ rfl]
  exact updKm X (keyBlock a h1 k X) (fun Y => put (A := Ideal .bf16) (Rect.unit (s := S2x8192x128) (k0_off3 k) S1x256x128.size (k0_off3_inb (pt a) k h1)) _ Y)
    (fun Y => put (A := Ideal .bf16) (Rect.unit (s := S2x8192x128) (k0_off4 k) S1x256x128.size (k0_off4_inb (pt a) k h1)) _ Y)
    (Function.update X (.b16 false) (keyBlock a h1 k X)) (kmStore (k0_off3 k) (k0_off3_inb (pt a) k h1) false _ (Function.update X (.b16 false) (keyBlock a h1 k X))) rfl rfl

theorem prepareKeys_den (h1 : k0_cond1 (pt a) = 1#1) (k : Fin k0_t1_loop.trips) (X : Sta Ideal) :
    (∀ k', (∀ v, k' ≠ .b16 v) → k' ≠ .km → ((prepareKeys hR (pt a) h1 k).den X).2 k' = X k')
    ∧ ((prepareKeys hR (pt a) h1 k).den X).2 (.b16 false) = keyBlock a h1 k X := by
  obtain ⟨B, C, e⟩ := prepareKeys_put hR a h1 k X
  rw [e]
  refine ⟨fun k' h h' => ?_, upd3 X (.b16 false) .km (by simp) _ _ _⟩
  rw [Function.update_of_ne h', Function.update_of_ne h', Function.update_of_ne (h false)]

/-- A block of rows, by its offset. -/
theorem rows_rd {A B : Type} (T : (S256x128.Idx → A) → B) (X : S8192x128.Idx → A) (j : Fin 32) (o : Fin 2 → Nat) (ho : ∀ d, o d + S256x128.size d ≤ S8192x128.size d)
    (e : o = ![256 * j.val, 0]) : T (shapeCast S256x128 (fun x => X ((Rect.unit (s := S8192x128) o S256x128.size ho).emb x)) shapeCasts_S256x128_S256x128)
      = T fun x => X ((rowsR j).emb x) := by
  subst e
  exact congrArg T (shapeCast_self _ _)

theorem keys_step (h1 : k0_cond1 (pt a) = 1#1) (X₀ : Sta Ideal) (k : Fin k0_t1_loop.trips) (X : Sta Ideal) (h : Keys X₀ k.val X) :
    Keys X₀ (k.val + 1) ((prepareKeys hR (pt a) h1 k).den X).2 := by
  obtain ⟨e1, e2⟩ := prepareKeys_den hR a h1 k X
  have e3 := prepareKeys_km hR a h1 k X
  have hk : k.val < 32 := lt_of_lt_of_eq k.isLt trips1
  have e0 : X (.all 0) = X₀ (.all 0) := h.1 (.all 0) (by simp) (by simp) (by simp)
  refine ⟨fun k' h2 h3 h4 => (e1 k' h2 h3).trans (h.1 k' h2 h3 h4), fun j hj => ?_⟩
  by_cases hjk : j = bN k.val
  · have e : j.val = k.val := (congrArg Fin.val hjk).trans (Nat.mod_eq_of_lt hk)
    have eo : k0_off1 k = ![256 * j.val, 0] := by rw [off1, e]
    refine ⟨?_, fun b => ?_⟩
    · unfold tT
      rw [e2]
      unfold keyBlock
      rw [blk_put_off (A := Ideal .bf16) _ _ (off2 k), if_pos hjk, e0]
      exact rows_rd (A := Ideal .bf16) (tr (F := Ideal)) (X₀ (.all 0)) j _ _ eo
    · show kmS (A := Ideal .bf16) (((prepareKeys hR (pt a) h1 k).den X).2 .km) b j = _
      rw [e3]
      unfold kmBlock
      rw [km_put (A := Ideal .bf16) _ _ _ (off4 k), km_put (A := Ideal .bf16) _ _ _ (off3 k), e0]
      cases b
      · rw [if_neg (by simp), if_pos ⟨rfl, hjk⟩]
        exact rows_rd (A := Ideal .bf16) (kmT false) (X₀ (.all 0)) j _ _ eo
      · rw [if_pos ⟨rfl, hjk⟩]
        exact rows_rd (A := Ideal .bf16) (kmT true) (X₀ (.all 0)) j _ _ eo
  · have : j.val ≠ k.val := fun h' => hjk (Fin.ext (h'.trans (Nat.mod_eq_of_lt hk).symm))
    obtain ⟨g1, g2⟩ := h.2 j (by omega)
    refine ⟨?_, fun b => ?_⟩
    · rw [← g1]
      unfold tT
      rw [e2]
      unfold keyBlock
      rw [blk_put_off (A := Ideal .bf16) _ _ (off2 k), if_neg hjk]
    · rw [← g2 b]
      show kmS (A := Ideal .bf16) (((prepareKeys hR (pt a) h1 k).den X).2 .km) b j = kmS (A := Ideal .bf16) (X .km) b j
      rw [e3]
      unfold kmBlock
      rw [km_put (A := Ideal .bf16) _ _ _ (off4 k), km_put (A := Ideal .bf16) _ _ _ (off3 k), if_neg (fun h => hjk h.2), if_neg (fun h => hjk h.2)]

/-! ## The values -/

def Values (X₀ : Sta Ideal) (n : ℕ) (X : Sta Ideal) : Prop :=
  (∀ k, k ≠ .b16 true → X k = X₀ k) ∧ ∀ j : Fin 32, j.val < n → tT X true j = tr (fun x => X₀ (.all 1) ((rowsR j).emb x))

/-- A block of values as the kernel stores it. -/
def valueBlock (h1 : k0_cond1 (pt a) = 1#1) (k : Fin k0_t2_loop.trips) (X : Sta Ideal) : S32x128x256.Idx → Ideal .bf16 :=
  put (A := Ideal .bf16) (Rect.unit (s := S32x128x256) (k0_off6 k) S1x128x256.size (k0_off6_inb (pt a) k h1))
      (shapeCast S1x128x256 (tr (F := Ideal) (shapeCast S256x128 (fun x => X (.all 1) ((Rect.unit (s := S8192x128) (k0_off5 k) S256x128.size (k0_off5_inb (pt a) k h1)).emb x))
        shapeCasts_S256x128_S256x128)) shapeCasts_S128x256_S1x128x256) (X (.b16 true))

theorem prepareValues_put (h1 : k0_cond1 (pt a) = 1#1) (k : Fin k0_t2_loop.trips) (X : Sta Ideal) :
    ((prepareValues hR (pt a) h1 k).den X).2 = Function.update X (.b16 true) (valueBlock a h1 k X) := rfl

theorem values_step (h1 : k0_cond1 (pt a) = 1#1) (X₀ : Sta Ideal) (k : Fin k0_t2_loop.trips) (X : Sta Ideal) (h : Values X₀ k.val X) :
    Values X₀ (k.val + 1) ((prepareValues hR (pt a) h1 k).den X).2 := by
  have hk : k.val < 32 := lt_of_lt_of_eq k.isLt trips2
  have e0 : X (.all 1) = X₀ (.all 1) := h.1 (.all 1) (by simp)
  rw [prepareValues_put]
  refine ⟨fun k' h' => (Function.update_of_ne h' _ _).trans (h.1 k' h'), fun j hj => ?_⟩
  have e2 : tT (Function.update X (.b16 true) (valueBlock a h1 k X)) true j = blk (A := Ideal .bf16) (valueBlock a h1 k X) j := by
    unfold tT
    rw [Function.update_self]
  rw [e2]
  unfold valueBlock
  rw [blk_put_off (A := Ideal .bf16) _ _ (off6 k)]
  by_cases hjk : j = bN k.val
  · have e : j.val = k.val := (congrArg Fin.val hjk).trans (Nat.mod_eq_of_lt hk)
    have eo : k0_off5 k = ![256 * j.val, 0] := by rw [off5, e]
    rw [if_pos hjk, e0]
    exact rows_rd (A := Ideal .bf16) (tr (F := Ideal)) (X₀ (.all 1)) j _ _ eo
  · have : j.val ≠ k.val := fun h' => hjk (Fin.ext (h'.trans (Nat.mod_eq_of_lt hk).symm))
    rw [if_neg hjk]
    exact h.2 j (by omega)

theorem whole3 {A : Type} (w : (Rect.unit (s := S32x128x256) ![0, 0, 0] S32x128x256.size inb_S32x128x256_S32x128x256_0_0_0).shape.Idx → A) (X : S32x128x256.Idx → A) :
    put (Rect.unit (s := S32x128x256) ![0, 0, 0] S32x128x256.size inb_S32x128x256_S32x128x256_0_0_0) w X = w := by
  funext y
  have e : (Rect.unit (s := S32x128x256) ![0, 0, 0] S32x128x256.size inb_S32x128x256_S32x128x256_0_0_0).emb y = y := by
    funext d
    apply Fin.ext
    match d with
    | 0 => show 0 + 1 * (y 0).val = (y 0).val; omega
    | 1 => show 0 + 1 * (y 1).val = (y 1).val; omega
    | 2 => show 0 + 1 * (y 2).val = (y 2).val; omega
  have := put_emb (Rect.unit (s := S32x128x256) ![0, 0, 0] S32x128x256.size inb_S32x128x256_S32x128x256_0_0_0) w X y
  rwa [e] at this

theorem whole2 {A : Type} (X : S256x128.Idx → A) :
    (fun x => X ((Rect.unit (s := S256x128) ![0, 0] S256x128.size inb_S256x128_S256x128_0_0).emb x)) = X := by
  funext y
  refine congrArg X ?_
  funext d
  apply Fin.ext
  match d with
  | 0 => show 0 + 1 * (y 0).val = (y 0).val; omega
  | 1 => show 0 + 1 * (y 1).val = (y 1).val; omega

theorem clear_den (v : Bool) (X : Sta Ideal) : ((clear (R := R) v).den X).2 = Function.update X (.b32 v) (fun _ => (0 : EReal)) := by
  have h : ((clear (R := R) v).den X).2 = Function.update X (.b32 v) (put (A := Ideal .f32)
      (Rect.unit (s := S32x128x256) ![0, 0, 0] S32x128x256.size inb_S32x128x256_S32x128x256_0_0_0)
      (shapeCast S32x128x256 (broadcast S32x128x256 (Scalar.ofBits (F := Ideal) .f32 0x00000000#32)) shapeCasts_S32x128x256_S32x128x256)
      (X (.b32 v))) := rfl
  rw [h, whole3]
  refine congrArg (Function.update X (.b32 v)) (funext fun y => ?_)
  show Ideal.ofBits .f32 0x00000000#32 = 0
  simp [Ideal.ofBits, Ideal.ieee]

theorem prepare_eq (h1 : k0_cond1 (pt a) = 1#1) (X : Sta Ideal) : (prepare hR (pt a) h1).den X = ((clear (R := R) false) >>= fun _ => clear (R := R) true).den
      ((List.finRange k0_t2_loop.trips).foldl (fun X k => ((prepareValues hR (pt a) h1 k).den X).2)
        ((List.finRange k0_t1_loop.trips).foldl (fun X k => ((prepareKeys hR (pt a) h1 k).den X).2) X)) := rfl

theorem b32_update (Z : Sta Ideal) (v v' : Bool) (W : S32x128x256.Idx → Ideal .f32) (j : Fin 32) : (abs (Function.update Z (.b32 v) W)).b32 v' j
    = if v' = v then blk W j else (abs Z).b32 v' j := by
  unfold abs
  dsimp only
  split
  · rename_i h; subst h
    rw [Function.update_self]
  · rename_i h
    rw [Function.update_of_ne (by simpa using h)]

/-- A pair's keys or values, whole. -/
def kv (X : Sta Ideal) (v : Bool) : S8192x128.Idx → Ideal .bf16 := match v with
  | false => X (.all 0)
  | true => X (.all 1)

/-- A pair's first row block: its keys and values prepared, the sums at zero. -/
theorem prepare_den (h1 : k0_cond1 (pt a) = 1#1) (X : Sta Ideal) :
    (∀ k, (∀ v, k ≠ .b16 v) → k ≠ .km → (∀ v, k ≠ .b32 v) → ((prepare hR (pt a) h1).den X).2 k = X k)
    ∧ (∀ v j, tT ((prepare hR (pt a) h1).den X).2 v j = tr (fun x => kv X v ((rowsR j).emb x)))
    ∧ (∀ b j, kmOf ((prepare hR (pt a) h1).den X).2 b j = kmT b (fun x => X (.all 0) ((rowsR j).emb x)))
    ∧ ∀ v j x, (abs ((prepare hR (pt a) h1).den X).2).b32 v j x = (0 : EReal) := by
  have hK := fold_prop (fun X k => ((prepareKeys hR (pt a) h1 k).den X).2) (Keys X) (keys_step hR a h1 X) X ⟨fun _ _ _ _ => rfl, fun j hj => absurd hj (Nat.not_lt_zero _)⟩
  rw [prepare_eq, C.den_bind, clear_den, clear_den]
  generalize (List.finRange k0_t1_loop.trips).foldl (fun X k => ((prepareKeys hR (pt a) h1 k).den X).2) X = Y at hK ⊢
  have hV := fold_prop (fun X k => ((prepareValues hR (pt a) h1 k).den X).2) (Values Y) (values_step hR a h1 Y) Y ⟨fun _ _ => rfl, fun j hj => absurd hj (Nat.not_lt_zero _)⟩
  generalize (List.finRange k0_t2_loop.trips).foldl (fun X k => ((prepareValues hR (pt a) h1 k).den X).2) Y = Z at hV ⊢
  have hZ : ∀ k : Fld, (∀ v, k ≠ .b32 v) → Function.update (Function.update Z (.b32 false) (fun _ => (0 : EReal))) (.b32 true) (fun _ => (0 : EReal)) k = Z k := fun k h => by
    rw [Function.update_of_ne (h true), Function.update_of_ne (h false)]
  refine ⟨fun k h h' h'' => ?_, fun v j => ?_, fun b j => ?_, fun v j x => ?_⟩
  · refine (hZ k h'').trans ?_
    rw [hV.1 k (h true), hK.1 k h h' h'']
  · unfold tT
    refine (congrArg (fun w => blk (A := Ideal .bf16) w j) (hZ (.b16 v) (by simp))).trans ?_
    cases v
    · rw [hV.1 _ (by simp)]
      exact (hK.2 j (lt_of_lt_of_eq j.isLt trips1.symm)).1
    · refine (hV.2 j (lt_of_lt_of_eq j.isLt trips2.symm)).trans ?_
      rw [hK.1 (.all 1) (by simp) (by simp) (by simp)]
      rfl
  · rw [← (hK.2 j (lt_of_lt_of_eq j.isLt trips1.symm)).2 b, ]
    unfold kmOf
    show kmS (A := Ideal .bf16) (Function.update (Function.update Z (.b32 false) (fun _ => (0 : EReal))) (.b32 true) (fun _ => (0 : EReal)) .km) b j = kmS (A := Ideal .bf16) (Y .km) b j
    rw [hZ .km (by simp), hV.1 _ (by simp)]
  · refine (congrFun (b32_update _ true v (fun _ => (0 : EReal)) j) x).trans ?_
    cases v
    · exact congrFun (b32_update Z false false (fun _ => (0 : EReal)) j) x
    · rfl

/-! ## The writing out -/

/-- The keys' and the values' gradients' whole buffers. -/
def ov (X : Sta Ideal) (v : Bool) : S8192x128.Idx → Ideal .bf16 := match v with
  | false => X (.all 2)
  | true => X (.all 3)

def Out (X₀ : Sta Ideal) (n : ℕ) (X : Sta Ideal) : Prop :=
  (∀ k, k ≠ .all 2 → k ≠ .all 3 → X k = X₀ k)
    ∧ ∀ v (y : S8192x128.Idx), (y 0).val < 256 * n →
      ov X v y = blk (A := Ideal .f32) (X₀ (.b32 v)) (Fin.ofNat 32 ((y 0).val / 256)) (ix2 (y 1) (Fin.ofNat 256 ((y 0).val % 256)))

/-- A block as it is written out. -/
def outT (x : FVec Ideal S128x256 .f32) : FVec Ideal S256x128 .bf16 :=
  truncf .bf16 (transpose S256x128 [1, 0] x transposes_S128x256_p1_0_S256x128) bitsLt_bf16_f32

theorem outT_at (x : FVec Ideal S128x256 .f32) (y : S256x128.Idx) : outT x y = x (ix2 (y 1) (y 0)) := by
  pointwise [outT]

/-- The keys' gradients' block as it is written out. -/
def outBlock (h7 : k0_cond7 (pt a) = 1#1) (k : Fin k0_t5_loop.trips) (X : Sta Ideal) : S8192x128.Idx → Ideal .bf16 :=
  put (A := Ideal .bf16) (Rect.unit (s := S8192x128) (k0_off50 k) S256x128.size (k0_off50_inb (pt a) k h7))
    (outT (shapeCast S128x256 (fun x => X (.b32 false) ((Rect.unit (s := S32x128x256) (k0_off49 k) S1x128x256.size (k0_off49_inb (pt a) k h7)).emb x))
      shapeCasts_S1x128x256_S128x256)) (X (.all 2))

theorem writeBlock_first (h7 : k0_cond7 (pt a) = 1#1) (k : Fin k0_t5_loop.trips) (X : Sta Ideal) :
    ∃ B, ((writeBlock hR (pt a) h7 k).den X).2 = Function.update (Function.update X (.all 2) (outBlock a h7 k X)) (.all 3) B := ⟨_, rfl⟩

theorem writeBlock_den (h7 : k0_cond7 (pt a) = 1#1) (k : Fin k0_t5_loop.trips) (X : Sta Ideal) :
    (∀ k', k' ≠ .all 2 → k' ≠ .all 3 → ((writeBlock hR (pt a) h7 k).den X).2 k' = X k')
    ∧ ∀ v, ov ((writeBlock hR (pt a) h7 k).den X).2 v = put (A := Ideal .bf16) (Rect.unit (s := S8192x128) (k0_off50 k) S256x128.size (k0_off50_inb (pt a) k h7))
        (outT (shapeCast S128x256 (fun x => X (.b32 v) ((Rect.unit (s := S32x128x256) (k0_off49 k) S1x128x256.size (k0_off49_inb (pt a) k h7)).emb x))
          shapeCasts_S1x128x256_S128x256)) (ov X v) := by
  refine ⟨fun k' h h' => ?_, fun v => ?_⟩
  · show Function.update (Function.update X (.all 2) _) (.all 3) _ k' = X k'
    rw [Function.update_of_ne h', Function.update_of_ne h]
  cases v
  · obtain ⟨B, e⟩ := writeBlock_first hR a h7 k X
    unfold ov
    dsimp only
    rw [e, Function.update_of_ne (show Fld.all 2 ≠ Fld.all 3 by simp), Function.update_self]
    rfl
  · have e : ∀ (A : S8192x128.Idx → Ideal .bf16) (r : Rect S8192x128) (w : r.shape.Idx → Ideal .bf16) (Y : Sta Ideal), Function.update Y (.all 3) (put (A := Ideal .bf16) r w (Y (.all 3))) (.all 3) = put (A := Ideal .bf16) r w (Y (.all 3)) :=
      fun A r w Y => Function.update_self (Fld.all 3) _ _
    refine (e (X (.all 3)) _ _ _).trans ?_
    exact congrArg (put (A := Ideal .bf16) _ _) (Function.update_of_ne (show Fld.all 3 ≠ Fld.all 2 by simp) _ X)

theorem put_rows {A : Type} (k : Fin 32) (o : Fin 2 → Nat) (ho : ∀ d, o d + S256x128.size d ≤ S8192x128.size d) (e : o = ![256 * k.val, 0])
    (w : S256x128.Idx → A) (X : S8192x128.Idx → A) (y : S8192x128.Idx) :
    put (Rect.unit (s := S8192x128) o S256x128.size ho) w X y
      = if (y 0).val / 256 = k.val then w (ix2 (Fin.ofNat 256 ((y 0).val % 256)) (y 1)) else X y := by
  subst e
  split
  · rename_i h
    have hy : y = (rowsR k).emb (ix2 (Fin.ofNat 256 ((y 0).val % 256)) (y 1)) := by
      funext d
      apply Fin.ext
      match d with
      | 0 => show (y 0).val = 256 * k.val + 1 * ((y 0).val % 256 % 256); omega
      | 1 => show (y 1).val = 0 + 1 * (y 1).val; omega
    conv_lhs => rw [hy]
    exact put_emb (rowsR k) w X _
  · rename_i h
    refine put_of_not (rowsR k) w X y (fun x hx => ?_)
    have h0 : 256 * k.val + 1 * (x 0).val = (y 0).val := congrArg (fun z : S8192x128.Idx => (z 0).val) hx
    have h1 : (x 0).val < 256 := (x 0).isLt
    omega

theorem out_step (h7 : k0_cond7 (pt a) = 1#1) (X₀ : Sta Ideal) (k : Fin k0_t5_loop.trips) (X : Sta Ideal) (h : Out X₀ k.val X) :
    Out X₀ (k.val + 1) ((writeBlock hR (pt a) h7 k).den X).2 := by
  obtain ⟨e1, e2⟩ := writeBlock_den hR a h7 k X
  have hk : k.val < 32 := lt_of_lt_of_eq k.isLt trips5
  refine ⟨fun k' h' h'' => (e1 k' h' h'').trans (h.1 k' h' h''), fun v y hy => ?_⟩
  rw [e2 v, put_rows (A := Ideal .bf16) ⟨k.val, hk⟩ _ _ (off50 k)]
  split
  · rename_i hjk
    rw [outT_at, blk_rd_off (A := Ideal .f32) _ _ (off49 k), h.1 _ (by simp) (by simp)]
    have e : bN k.val = Fin.ofNat 32 ((y 0).val / 256) := by rw [hjk]
    rw [e]
    rfl
  · rename_i hjk
    refine h.2 v y ?_
    have h1 : (y 0).val / 256 ≠ k.val := hjk
    have h2 : (y 0).val < 256 * (k.val + 1) := hy
    omega

/-- A pair's last row block writes the gradients out; the others write nothing. -/
theorem writeAll_den (X : Sta Ideal) :
    (∀ k, k ≠ .all 2 → k ≠ .all 3 → ((writeAll hR (pt a)).den X).2 k = X k)
    ∧ (a.val = 31 → ∀ v (y : S8192x128.Idx), ov ((writeAll hR (pt a)).den X).2 v y
      = blk (A := Ideal .f32) (X (.b32 v)) (Fin.ofNat 32 ((y 0).val / 256)) (ix2 (y 1) (Fin.ofNat 256 ((y 0).val % 256))))
    ∧ (a.val ≠ 31 → ((writeAll hR (pt a)).den X).2 = X) := by
  have hE : ((writeAll hR (pt a)).den X).2 = if h7 : k0_cond7 (pt a) = 1#1 then
      (List.finRange k0_t5_loop.trips).foldl (fun X k => ((writeBlock hR (pt a) h7 k).den X).2) X else X := rfl
  rw [hE]
  by_cases h7 : k0_cond7 (pt a) = 1#1
  · rw [dif_pos h7]
    have hO := fold_prop (fun X k => ((writeBlock hR (pt a) h7 k).den X).2) (Out X) (out_step hR a h7 X) X
      ⟨fun _ _ _ => rfl, fun v y hy => absurd hy (Nat.not_lt_zero _)⟩
    refine ⟨hO.1, fun _ v y => hO.2 v y ?_, fun h => absurd ((cond7_iff a).1 h7) h⟩
    have : (y 0).val < 8192 := (y 0).isLt
    rw [trips5]; omega
  · rw [dif_neg h7]
    exact ⟨fun _ _ _ => rfl, fun h => absurd ((cond7_iff a).2 h) h7, fun _ => rfl⟩

/-! ## The head -/

theorem getRow_den (n : Fin 3) (X : Sta Ideal) : (getRow (R := R) n).den X = (X (.row n), X) := by
  have h : (getRow (R := R) n).den X = (fun x => X (.row n) ((Rect.unit (s := S256x128) ![0, 0] S256x128.size inb_S256x128_S256x128_0_0).emb x), X) := rfl
  rw [h]
  exact congrArg (fun w => (w, X)) (whole2 (A := Ideal .bf16) (X (.row n)))

theorem setAcc_den (g b : Bool) (x : FVec Ideal S256x128 .f32) (X : Sta Ideal) (k : Fld) (h : ∀ v w, k ≠ .acc v w) :
    ((setAcc (R := R) g b x).den X).2 k = X k := by
  show Function.update X (.acc g b) _ k = X k
  rw [Function.update_of_ne (h g b)]

theorem getCarRaw_den (b : Bool) (X : Sta Ideal) : (getCarRaw (R := R) b).den X
    = (fun x => X .car ((Rect.unit (s := S2x1x256x128) ![b.toNat, 0, 0, 0] S1x1x256x128.size (carInb b)).emb x), X) := rfl

/-- After the keys. -/
def headTail (a : Fin 32) : P Ideal R (Vals Ideal × BitVec 32) := do
  let x ← getRow 0
  let y ← getRow 1
  setAcc false false (broadcast S256x128 (Scalar.ofBits .f32 0x00000000#32))
  setAcc true false (broadcast S256x128 (Scalar.ofBits .f32 0x00000000#32))
  setAcc false true (broadcast S256x128 (Scalar.ofBits .f32 0x00000000#32))
  setAcc true true (broadcast S256x128 (Scalar.ofBits .f32 0x00000000#32))
  let c0 ← getCarRaw false
  let c1 ← getCarRaw true
  return (vals x y, firstLive (pt a) c0 c1)

theorem headTail_den (X : Sta Ideal) : ∃ c0 c1 : FVec Ideal S1x1x256x128 .f32, (∀ x, ∃ y, c0 x = X .car y) ∧ (∀ x, ∃ y, c1 x = X .car y)
    ∧ ((headTail (R := R) a).den X).1 = (vals (X (.row 0)) (X (.row 1)), firstLive (pt a) c0 c1)
    ∧ (∀ k, (∀ v w, k ≠ .acc v w) → ((headTail (R := R) a).den X).2 k = X k)
    ∧ (∀ g b, (abs ((headTail (R := R) a).den X).2).acc g b = f0) ∧ (abs ((headTail (R := R) a).den X).2).b32 = (abs X).b32 := by
  have hA := ((h_setAcc (R := R) (X₀ := X) (abs X) false false f0).bind fun _ => (h_setAcc (R := R) _ true false f0).bind fun _ =>
    (h_setAcc (R := R) _ false true f0).bind fun _ => h_setAcc (R := R) _ true true f0) X (fun _ _ => rfl) rfl
  have hk : ∀ k : Fld, (∀ v w, k ≠ .acc v w) → ((setAcc (R := R) true true (broadcast S256x128 (Scalar.ofBits .f32 0x00000000#32))).den
      ((setAcc (R := R) false true (broadcast S256x128 (Scalar.ofBits .f32 0x00000000#32))).den
      ((setAcc (R := R) true false (broadcast S256x128 (Scalar.ofBits .f32 0x00000000#32))).den
      ((setAcc (R := R) false false (broadcast S256x128 (Scalar.ofBits .f32 0x00000000#32))).den X).2).2).2).2 k = X k := by
    intro k h
    rw [setAcc_den _ _ _ _ _ h, setAcc_den _ _ _ _ _ h, setAcc_den _ _ _ _ _ h, setAcc_den _ _ _ _ _ h]
  unfold headTail
  simp only [C.den_bind, getRow_den, getCarRaw_den]
  exact ⟨_, _, fun x => ⟨_, congrFun (hk .car (by simp)) _⟩, fun x => ⟨_, congrFun (hk .car (by simp)) _⟩, rfl, hk, fun g b => (congrArg (fun A : Part Ideal => A.acc g b) hA.2).trans (by
    cases g <;> cases b <;> rfl), (congrArg (fun A : Part Ideal => A.b32) hA.2).trans rfl⟩

/-- What a grid point finds once its keys are prepared. -/
def begun (X : Sta Ideal) : Sta Ideal := if h1 : k0_cond1 (pt a) = 1#1 then ((prepare hR (pt a) h1).den X).2 else X

theorem head_eq (X : Sta Ideal) : (head hR (pt a)).den X = (headTail (R := R) a).den (begun hR a X) := rfl

/-- What a grid point's keys and sums are as its blocks begin. -/
theorem begun_den (X : Sta Ideal) :
    (∀ k, (∀ v, k ≠ .b16 v) → k ≠ .km → (∀ v, k ≠ .b32 v) → begun hR a X k = X k)
    ∧ (a.val = 0 → (∀ v j, tT (begun hR a X) v j = tr (fun x => kv X v ((rowsR j).emb x)))
        ∧ (∀ b j, kmOf (begun hR a X) b j = kmT b (fun x => X (.all 0) ((rowsR j).emb x)))
        ∧ ∀ v j x, (abs (begun hR a X)).b32 v j x = (0 : EReal))
    ∧ (a.val ≠ 0 → begun hR a X = X) := by
  unfold begun
  by_cases h1 : k0_cond1 (pt a) = 1#1
  · rw [dif_pos h1]
    obtain ⟨e1, e2, e3, e4⟩ := prepare_den hR a h1 X
    exact ⟨e1, fun _ => ⟨e2, e3, e4⟩, fun h => absurd ((cond1_iff a).1 h1) h⟩
  · rw [dif_neg h1]
    exact ⟨fun _ _ _ _ => rfl, fun h => absurd ((cond1_iff a).2 h) h1, fun _ => rfl⟩

/-! ## The first live block

  With the threshold at infinity every block up to the row block's own is live. -/

theorem foldMin_all {ι : Type} (n : Nat) (hn : n < 2147483648) (f : ι → BitVec 32) (hf : ∀ x, (f x).toNat ≤ n) (l : List ι) (r : BitVec 32)
    (hr : r.toNat < 2147483648) : (l.foldl (fun r x => IntOp.minsi r (f x)) r).toNat ≤ r.toNat
      ∧ ∀ y ∈ l, (l.foldl (fun r x => IntOp.minsi r (f x)) r).toNat ≤ (f y).toNat := by
  induction l generalizing r with
  | nil => exact ⟨le_rfl, fun y hy => absurd hy (List.not_mem_nil)⟩
  | cons b l ih =>
    rw [List.foldl_cons]
    have e := WordArith.toNat_minsi_of_lt r (f b) (by omega) (by have := hf b; omega)
    obtain ⟨h1, h2⟩ := ih (IntOp.minsi r (f b)) (by rw [e]; omega)
    rw [e] at h1
    refine ⟨by omega, fun y hy => ?_⟩
    rcases List.mem_cons.1 hy with rfl | hy
    · omega
    · exact h2 y hy

theorem live_always (x : EReal) (p q : BitVec 1) : IntOp.ori (IntOp.ori p (Ideal.cmp .ole x ⊤)) q = 1#1 := by
  have e : Ideal.cmp .ole x ⊤ = 1#1 := by
    show BitVec.ofBool (decide (x ≤ ⊤)) = 1#1
    simp
  rw [e]; revert p q; decide

theorem zero_sle : ∀ n : Fin 32, IntOp.cmpi .sle (BitVec.ofNat 32 0) (BitVec.ofNat 32 n.val) = 1#1 := by decide +kernel

theorem picked_zero (n : Fin 32) (q : IVec S1x128 1) (j : S1x128.Idx) (hj : (j 1).val = 0) (hq : q j = 1#1) :
    select (andi q (cmpi .sle (iota .tc S1x128 32 [1] iota_S1x128_d1_w32) (broadcast S1x128 (BitVec.ofNat 32 n.val))))
      (iota .tc S1x128 32 [1] iota_S1x128_d1_w32) (broadcast S1x128 (BitVec.ofNat 32 n.val)) j = 0#32 := by
  have e : iota .tc S1x128 32 [1] iota_S1x128_d1_w32 j = 0#32 := by
    show BitVec.ofNat 32 (0 * 128 + (j 1).val) = _
    rw [hj]
  show (if IntOp.andi (q j) (IntOp.cmpi .sle (iota .tc S1x128 32 [1] iota_S1x128_d1_w32 j) (BitVec.ofNat 32 n.val)) = 1 then
    iota .tc S1x128 32 [1] iota_S1x128_d1_w32 j else _) = _
  rw [e, hq, zero_sle n, if_pos (by decide)]

theorem firstLive_zero (c0 c1 : FVec Ideal S1x1x256x128 .f32) : firstLive (F := Ideal) (pt a) c0 c1 = 0#32 := by
  have hi : a.val < 32 := a.isLt
  refine BitVec.eq_of_toNat_eq ?_
  unfold firstLive
  dsimp only
  unfold extractAt
  show (multiReductionI .minsi [1, 2] S1 _ _ _ _ _).toNat = 0
  unfold multiReductionI
  dsimp only
  rw [reduceFold_eq_foldl_of_size_one _ (by intro b; fin_cases b; rfl)]
  refine Nat.le_zero.1 (le_trans ((foldMin_all a.val (by omega) _ ?_ _ _ (by decide)).2 (ix3 0 0 0) ?_) (le_of_eq ?_))
  · intro x
    unfold shapeCast
    exact picked_le _ hi _ _
  · exact List.mem_map.2 ⟨S1x1x128.rowMajor (ix3 0 0 0), List.mem_finRange _, Equiv.symm_apply_apply _ _⟩
  · have e : ∀ v : IVec S1x128 32, shapeCast S1x1x128 v shapeCasts_S1x128_S1x1x128 (ix3 0 0 0) = v (ix2 0 0) := by
      intro v; pointwise
    rw [e]
    refine congrArg BitVec.toNat (picked_zero a _ _ rfl ?_)
    have hn : (Named.named κ "zero_weight" 0x42DC0000#32 : Ideal .f32) = (⊤ : EReal) := rfl
    rw [hn]
    generalize subf (F := Ideal) (s := S1x128) (φ := .f32) _ _ = u
    exact live_always (u _) _ _

/-! ## A grid point's whole step -/

/-- The parts of a block depend on the transposed keys and values, the keys, the carries and what is kept only. -/
theorem same_parts {Y Z : Sta Ideal} (V : Vals Ideal) (h1 : ∀ b, carOf Y b = carOf Z b) (h2 : ∀ v b d, keptOf Y v b d = keptOf Z v b d)
    (h3 : ∀ v j, tT Y v j = tT Z v j) (h4 : ∀ b j, kmOf Y b j = kmOf Z b j) : gN V a Y = gN V a Z ∧ qN V a Y = qN V a Z := by
  have hm : wM V Y = wM V Z := by
    funext b n
    unfold wM wfOf lgOf
    simp only [h1, h3]
  have hw : wF V a Y = wF V a Z := by
    funext b n
    unfold wF
    simp only [h2, hm]
  have he : eA V a Y = eA V a Z := by
    funext b n
    unfold eA dwOf
    simp only [h3, hw]
  have hb : bA V a Y = bA V a Z := by
    funext b n
    unfold bA lgOf
    simp only [h2, h3]
  have hf : ∀ b n, fA V a Y b n = fA V a Z b n := by
    intro b n
    induction n with
    | zero => rfl
    | succ n ih => show fOf V _ _ = fOf V _ _; rw [he, ih]
  have hd : dA V a Y = dA V a Z := by
    funext b n
    unfold dA
    rw [he, hb, hf]
  constructor
  · funext v n
    unfold gN wA
    rw [hd, hw]
  · funext b n
    unfold qN
    rw [hd, h4]

theorem rowT_at (A : Part Ideal) (x : S256x128.Idx) :
    rowT A x = ((A.acc true false x + A.acc true true x) * Ideal.ofBits .f32 0x3E000000#32 : EReal) := rfl

/-- What one grid point does, of the keys and values, the sums, and the three gradients. -/
theorem point_den (X : Sta Ideal) (TT : Bool → Fin 32 → S128x256.Idx → Ideal .bf16) (KM : Bool → Fin 32 → S256x128.Idx → Ideal .bf16)
    (D₀ : Bool → Fin 32 → S128x256.Idx → EReal)
    (hK : a.val = 0 → ∀ v j, TT v j = tr (fun x => kv X v ((rowsR j).emb x))) (hK' : a.val ≠ 0 → ∀ v j, TT v j = tT X v j)
    (hM : a.val = 0 → ∀ b j, KM b j = kmT b (fun x => X (.all 0) ((rowsR j).emb x))) (hM' : a.val ≠ 0 → ∀ b j, KM b j = kmOf X b j)
    (hD : a.val = 0 → ∀ v j x, D₀ v j x = 0) (hD' : a.val ≠ 0 → ∀ v j x, D₀ v j x = (abs X).b32 v j x)
    (Xc : Sta Ideal) (hc : ∀ v j, tT Xc v j = TT v j) (hm : ∀ b j, kmOf Xc b j = KM b j) (hcar : Xc .car = X .car) (hkept : ∀ v, Xc (.kept v) = X (.kept v)) :
    ((∀ v j, tT ((body hR (pt a)).den X).2 v j = TT v j) ∧ ∀ b j, kmOf ((body hR (pt a)).den X).2 b j = KM b j)
    ∧ (∀ v j x, (abs ((body hR (pt a)).den X).2).b32 v j x = D₀ v j x + (if j.val < a.val + 1 then gN (vals (X (.row 0)) (X (.row 1))) a Xc v j.val x else 0))
    ∧ (∀ x : S256x128.Idx, ((body hR (pt a)).den X).2 (.row 2) x = ((∑ i ∈ Finset.range (a.val + 1), qN (vals (X (.row 0)) (X (.row 1))) a Xc false i x
        + ∑ i ∈ Finset.range (a.val + 1), qN (vals (X (.row 0)) (X (.row 1))) a Xc true i x) * Ideal.ofBits .f32 0x3E000000#32 : EReal))
    ∧ (a.val = 31 → ∀ v (y : S8192x128.Idx), ov ((body hR (pt a)).den X).2 v y
        = (abs ((body hR (pt a)).den X).2).b32 v (Fin.ofNat 32 ((y 0).val / 256)) (ix2 (y 1) (Fin.ofNat 256 ((y 0).val % 256))))
    ∧ (a.val ≠ 31 → ∀ v, ov ((body hR (pt a)).den X).2 v = ov X v)
    ∧ ∀ k, (k = .row 0 ∨ k = .row 1 ∨ k = .all 0 ∨ k = .all 1 ∨ k = .car ∨ (∃ v, k = .kept v)) → ((body hR (pt a)).den X).2 k = X k := by
  obtain ⟨b1, b2, b3⟩ := begun_den hR a X
  obtain ⟨c0, c1, -, -, hz, hk, hac, hb32⟩ := headTail_den (R := R) a (begun hR a X)
  rw [b1 (.row 0) (by simp) (by simp) (by simp), b1 (.row 1) (by simp) (by simp) (by simp), firstLive_zero] at hz
  have hB : ((body hR (pt a)).den X).2 = ((afterHead hR (pt a) (vals (X (.row 0)) (X (.row 1)), 0#32)).den ((headTail (R := R) a).den (begun hR a X)).2).2 := by
    unfold body
    rw [C.den_bind, head_eq, hz]
  rw [hB]
  generalize ((headTail (R := R) a).den (begun hR a X)).2 = Y at hk hac hb32 ⊢
  have h0 : k0_chk1 (pt a) 0#32 := chk_pt a 0 (Fin.zero_le a)
  have hA : ((afterHead hR (pt a) (vals (X (.row 0)) (X (.row 1)), 0#32)).den Y).2 = ((writeAll hR (pt a)).den
      ((part60 hR (vals (X (.row 0)) (X (.row 1))) (pt a) 0#32 h0).den ((part59 hR (vals (X (.row 0)) (X (.row 1))) (pt a) 0#32 h0 (cnt (pt a) 0#32)).den Y).2).2).2 := by
    unfold afterHead
    rw [dif_pos h0]
    simp only [C.den_bind]
  rw [hA]
  obtain ⟨ok, acc, hrow⟩ := blocks (X₀ := Y) (V := vals (X (.row 0)) (X (.row 1))) hR h0 Y (fun _ _ => rfl) (hac false)
  generalize ((part60 hR (vals (X (.row 0)) (X (.row 1))) (pt a) 0#32 h0).den ((part59 hR (vals (X (.row 0)) (X (.row 1))) (pt a) 0#32 h0 (cnt (pt a) 0#32)).den Y).2).2 = Z at ok acc hrow ⊢
  obtain ⟨w1, w2, w3⟩ := writeAll_den hR a Z
  have hkT : ∀ v j, tT Y v j = TT v j := by
    intro v j
    unfold tT
    rw [hk (.b16 v) (by simp)]
    by_cases h : a.val = 0
    · rw [hK h]; exact (b2 h).1 v j
    · rw [hK' h, b3 h]; rfl
  have hkM : ∀ b j, kmOf Y b j = KM b j := by
    intro b j
    unfold kmOf
    rw [hk .km (by simp)]
    by_cases h : a.val = 0
    · rw [hM h]; exact (b2 h).2.1 b j
    · rw [hM' h, b3 h]; rfl
  have hYo : ∀ v, ov Y v = ov X v := by
    intro v
    cases v
    · show Y (.all 2) = X (.all 2)
      rw [hk (.all 2) (by simp), b1 (.all 2) (by simp) (by simp) (by simp)]
    · show Y (.all 3) = X (.all 3)
      rw [hk (.all 3) (by simp), b1 (.all 3) (by simp) (by simp) (by simp)]
  have hZo : ∀ v, ov Z v = ov Y v := by
    intro v
    cases v
    · exact ok (.all 2) rfl
    · exact ok (.all 3) rfl
  have hYc : Y .car = Xc .car := by rw [hk .car (by simp), b1 .car (by simp) (by simp) (by simp), hcar]
  have hYk : ∀ v, Y (.kept v) = Xc (.kept v) := fun v => by rw [hk (.kept v) (by simp), b1 (.kept v) (by simp) (by simp) (by simp), hkept]
  have hYD : ∀ v j x, (abs Y).b32 v j x = D₀ v j x := by
    intro v j x
    rw [hb32]
    by_cases h : a.val = 0
    · rw [hD h]; exact (b2 h).2.2 v j x
    · rw [hD' h, b3 h]
  have hWD : (abs ((writeAll hR (pt a)).den Z).2).b32 = (abs Z).b32 := by
    funext v j; unfold abs; dsimp only; rw [w1 (.b32 v) (by simp) (by simp)]
  obtain ⟨hg, hq⟩ := same_parts a (Y := Y) (Z := Xc) (vals (X (.row 0)) (X (.row 1))) (fun b => by unfold carOf; rw [hYc]) (fun v b d => by unfold keptOf; rw [hYk])
    (fun v j => (hkT v j).trans (hc v j).symm) (fun b j => (hkM b j).trans (hm b j).symm)
  refine ⟨⟨fun v j => ?_, fun b j => ?_⟩, fun v j x => ?_, fun x => ?_, fun h v y => ?_, fun h v => ?_, fun k h => ?_⟩
  · unfold tT
    rw [w1 (.b16 v) (by simp) (by simp), ok (.b16 v) rfl]
    exact hkT v j
  · unfold kmOf
    rw [w1 .km (by simp) (by simp), ok .km rfl]
    exact hkM b j
  · rw [hWD, acc.1 v j x, hYD, hg]
  · rw [w1 (.row 2) (by simp) (by simp), hrow, rowT_at, acc.2, acc.2, hac, hac, f0_at, zero_add, zero_add, hq]
  · rw [w2 h, hWD]; rfl
  · rw [w3 h, hZo, hYo]
  · have e : inp k = true ∧ k ≠ .all 2 ∧ k ≠ .all 3 ∧ (∀ v w, k ≠ .acc v w) ∧ (∀ v, k ≠ .b16 v) ∧ k ≠ .km ∧ (∀ v, k ≠ .b32 v) := by
      rcases h with rfl | rfl | rfl | rfl | rfl | ⟨v, rfl⟩ <;> simp [inp]
    obtain ⟨e1, e2, e3, e4, e5, e6, e7⟩ := e
    rw [w1 k e2 e3, ok k e1, hk k e4, b1 k e5 e6 e7]

end Cert.AttnIdeal.Text
-- ==== Proof.AttnRun.lean ====
/-
  The attention's backward call from point to point: the keys and values, the sums of their gradients over the row
  blocks so far, and the three gradients' arrays after the run.
-/
module

public import proofs.«01_k».proof.Proof.AttnFrame
public import proofs.«01_k».proof.Proof.AttnEnds
public import Idealize.ShloMosaic.Lib.Pipeline.ValueKit

@[expose] public section
set_option maxRecDepth 65536
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.AttnIdeal.Run
open Cert.AttnIdeal Cert.AttnIdeal.Gen Cert.AttnIdeal.Text Cert.BufferText

local notation "𝕄" => MT nD τ sig Unit (Elt Ideal) ℕ (UR sig nD τ) ℕ

variable (m : (ℓ : Loc nD τ sig) → Buf (Elt Ideal) ℓ) (ρ : Dev nD → PrngReg)

/-- The windows' block indices: pair `t / 32`, row block `t % 32`. -/
theorem idx : ∀ t : Fin cfg0.N, win0_0.index t = ![t.val % 32, t.val / 32] ∧ win0_1.index t = ![0, 4 + t.val / 32]
    ∧ win0_3.index t = ![t.val % 32, t.val / 32] ∧ win0_4.index t = ![t.val / 32, t.val % 32, 0, 0]
    ∧ win0_5.index t = ![t.val / 32, t.val % 32, 0, 0] ∧ win0_9.index t = ![0, t.val / 32]
    ∧ win0_2.index t = ![0, 8 + t.val / 32] ∧ win0_6.index t = ![t.val / 32, t.val % 32, 0, 0]
    ∧ win0_7.index t = ![t.val % 32, t.val / 32] ∧ win0_8.index t = ![0, t.val / 32] :=
  (by decide +kernel : ∀ t : Fin grid0.N, _)

theorem coord : ∀ t : Fin cfg0.N, ((grid0.coords t) 1).val = t.val % 32 := (by decide +kernel : ∀ t : Fin grid0.N, _)

theorem point_lt (t : Fin cfg0.N) : t.val < 128 := lt_of_lt_of_eq t.isLt N_0

/-! ## What each point finds and adds -/

/-- The keys or the values of a point's pair. -/
def rows (c : Dev nD) (t : Fin cfg0.N) (v : Bool) : S8192x128.Idx → Ideal .bf16 := match v with
  | false => iblk m c 1 t
  | true => iblk m c 2 t

/-- A block of them, transposed; and a block of the keys with one head's lanes kept. -/
def keys (c : Dev nD) (t : Fin cfg0.N) (v : Bool) (j : Fin 32) : S128x256.Idx → Ideal .bf16 :=
  tr (F := Ideal) (fun x => rows m c t v ((rowsR j).emb x))
def kms (c : Dev nD) (t : Fin cfg0.N) (b : Bool) (j : Fin 32) : S256x128.Idx → Ideal .bf16 :=
  kmT b (fun x => rows m c t false ((rowsR j).emb x))

/-- The buffers of the prepared keys and values, given block by block. -/
def ofBlocks (K : Bool → Fin 32 → S128x256.Idx → Ideal .bf16) (M : Bool → Fin 32 → S256x128.Idx → Ideal .bf16) : Sta Ideal := fun k => match k with
  | .b16 v => fun y : S32x128x256.Idx => K v (y 0) (ix2 (y 1) (y 2))
  | .km => fun y : S2x8192x128.Idx => M (decide ((y 0).val = 1)) (Fin.ofNat 32 ((y 1).val / 256)) (ix2 (Fin.ofNat 256 ((y 1).val % 256)) (y 2))
  | _ => fun _ => Classical.choice inferInstance

/-- The keys and values, the carries and what is kept, as a point finds them. -/
def found (c : Dev nD) (t : Fin cfg0.N) : Sta Ideal :=
  asm (iblk m c 0 t) (iblk m c 1 t) (iblk m c 2 t) (iblk m c 3 t) (iblk m c 4 t) (iblk m c 5 t) (iblk m c 6 t)
    (fun _ => (0 : EReal)) (fun _ => (0 : EReal)) (fun _ => (0 : EReal)) (ofBlocks (keys m c t) (kms m c t))

theorem cast_block {A : Type} (v : S1x128x256.Idx → A) (x : S128x256.Idx) :
    shapeCast S128x256 v shapeCasts_S1x128x256_S128x256 x = v (ix3 0 (x 0) (x 1)) := by
  pointwise

/-- A block of a buffer given block by block. -/
theorem blk_of {A : Type} (K : Fin 32 → S128x256.Idx → A) (j : Fin 32) :
    blk (fun y => K (y 0) (ix2 (y 1) (y 2))) j = K j := by
  funext x
  refine (cast_block (fun z : S1x128x256.Idx => K ((blkR j).emb z 0) (ix2 ((blkR j).emb z 1) ((blkR j).emb z 2))) x).trans ?_
  have e0 : (blkR j).emb (ix3 0 (x 0) (x 1)) 0 = j := Fin.ext (by simp [Rect.emb, Rect.unit, bo]; try rfl)
  have e1 : (blkR j).emb (ix3 0 (x 0) (x 1)) 1 = x 0 := Fin.ext (by simp [Rect.emb, Rect.unit, bo]; try rfl)
  have e2 : (blkR j).emb (ix3 0 (x 0) (x 1)) 2 = x 1 := Fin.ext (by simp [Rect.emb, Rect.unit, bo]; try rfl)
  rw [e0, e1, e2]
  exact congrArg (K j) (by idx_vars x)

theorem tT_found (c : Dev nD) (t : Fin cfg0.N) (v : Bool) (j : Fin 32) : tT (found m c t) v j = keys m c t v j := by
  have h : found m c t (.b16 v) = fun y : S32x128x256.Idx => keys m c t v (y 0) (ix2 (y 1) (y 2)) := by cases v <;> rfl
  unfold tT
  rw [h]
  exact blk_of (A := Ideal .bf16) (keys m c t v) j

theorem cast_km {A : Type} (v : S1x256x128.Idx → A) (x : S256x128.Idx) :
    shapeCast S256x128 v shapeCasts_S1x256x128_S256x128 x = v (ix3 0 (x 0) (x 1)) := by
  pointwise

/-- A head's block of a buffer given block by block. -/
theorem kms_of {A : Type} (M : Bool → Fin 32 → S256x128.Idx → A) (b : Bool) (j : Fin 32) :
    kmS (fun y => M (decide ((y 0).val = 1)) (Fin.ofNat 32 ((y 1).val / 256)) (ix2 (Fin.ofNat 256 ((y 1).val % 256)) (y 2))) b j = M b j := by
  funext x
  unfold kmS
  rw [cast_km]
  have e0 : ((kmR b j).emb (ix3 0 (x 0) (x 1)) 0).val = b.toNat := by show b.toNat + 1 * 0 = _; omega
  have e1 : ((kmR b j).emb (ix3 0 (x 0) (x 1)) 1).val = 256 * j.val + (x 0).val := by show 256 * j.val + 1 * (x 0).val = _; omega
  have e2 : (kmR b j).emb (ix3 0 (x 0) (x 1)) 2 = x 1 := Fin.ext (by show 0 + 1 * (x 1).val = _; omega)
  have hx : (x 0).val < 256 := (x 0).isLt
  have b0 : decide (b.toNat = 1) = b := by cases b <;> rfl
  have b1 : Fin.ofNat 32 ((256 * j.val + (x 0).val) / 256) = j := Fin.ext (by show (256 * j.val + (x 0).val) / 256 % 32 = j.val; omega)
  have b2 : (Fin.ofNat 256 ((256 * j.val + (x 0).val) % 256)) = x 0 := Fin.ext (by show (256 * j.val + (x 0).val) % 256 % 256 = (x 0).val; omega)
  dsimp only
  rw [e0, e1, e2, b0, b1, b2]
  exact congrArg (M b j) (by idx_vars x)

theorem km_found (c : Dev nD) (t : Fin cfg0.N) (b : Bool) (j : Fin 32) : kmOf (found m c t) b j = kms m c t b j :=
  kms_of (A := Ideal .bf16) (kms m c t) b j

/-- What a point adds to block `j` of the keys' and of the values' gradients. -/
def con (c : Dev nD) (t : Fin cfg0.N) (v : Bool) (j : Fin 32) (x : S128x256.Idx) : EReal :=
  if j.val < ((grid0.coords t) 1).val + 1 then gN (vals (iblk m c 0 t) (iblk m c 3 t)) ((grid0.coords t) 1) (found m c t) v j.val x else 0

def conN (c : Dev nD) (n : ℕ) (v : Bool) (j : Fin 32) (x : S128x256.Idx) : EReal := if h : n < cfg0.N then con m c ⟨n, h⟩ v j x else 0

/-- The first `k` row blocks of the pair of point `n`. -/
def part (c : Dev nD) (n k : ℕ) (v : Bool) (j : Fin 32) (x : S128x256.Idx) : EReal := ∑ i ∈ Finset.range k, conN m c (32 * (n / 32) + i) v j x

/-- What the buffers hold before point `n`. -/
def Inv (c : Dev nD) (n : ℕ) (Z : Sta Ideal) : Prop :=
  n % 32 ≠ 0 → (∀ t : Fin cfg0.N, t.val + 1 = n → (∀ v j, tT Z v j = keys m c t v j) ∧ ∀ b j, kmOf Z b j = kms m c t b j)
    ∧ ∀ v j x, (abs Z).b32 v j x = part m c n (n % 32) v j x

/-- The pair's keys' and values' gradients, and the row block's queries' gradients. -/
def dv (c : Dev nD) (t : Fin cfg0.N) (v : Bool) (y : S8192x128.Idx) : EReal :=
  part m c t.val 32 v (Fin.ofNat 32 ((y 0).val / 256)) (ix2 (y 1) (Fin.ofNat 256 ((y 0).val % 256)))
def dq (c : Dev nD) (t : Fin cfg0.N) (x : S256x128.Idx) : EReal :=
  (∑ i ∈ Finset.range (((grid0.coords t) 1).val + 1), qN (vals (iblk m c 0 t) (iblk m c 3 t)) ((grid0.coords t) 1) (found m c t) false i x
    + ∑ i ∈ Finset.range (((grid0.coords t) 1).val + 1), qN (vals (iblk m c 0 t) (iblk m c 3 t)) ((grid0.coords t) 1) (found m c t) true i x)
    * Ideal.ofBits .f32 0x3E000000#32

/-- An entry of a point's keys. -/
theorem key_at (c : Dev nD) (t : Fin cfg0.N) (x : S8192x128.Idx) : iblk m c 1 t x
    = (V m c main_v77 : S8192x1536.Idx → Ideal .bf16) (ix2 (x 0) ⟨128 * (4 + t.val / 32) + (x 1).val, by have := point_lt t; have : (x 1).val < 128 := (x 1).isLt; omega⟩) := by
  blk_simp [iblk, idx t]; blk_ext [idx t]

theorem value_at (c : Dev nD) (t : Fin cfg0.N) (x : S8192x128.Idx) : iblk m c 2 t x
    = (V m c main_v77 : S8192x1536.Idx → Ideal .bf16) (ix2 (x 0) ⟨128 * (8 + t.val / 32) + (x 1).val, by have := point_lt t; have : (x 1).val < 128 := (x 1).isLt; omega⟩) := by
  blk_simp [iblk, idx t]; blk_ext [idx t]

theorem rows_prev (c : Dev nD) (t t' : Fin cfg0.N) (h : t'.val + 1 = t.val) (h0 : t.val % 32 ≠ 0) (v : Bool) : rows m c t' v = rows m c t v := by
  have hi : t'.val / 32 = t.val / 32 := by omega
  funext x
  cases v
  · show iblk m c 1 t' x = iblk m c 1 t x
    rw [key_at, key_at]
    exact congrArg (fun z => (V m c main_v77 : S8192x1536.Idx → Ideal .bf16) (ix2 _ z)) (Fin.ext (by
      show 128 * (4 + t'.val / 32) + _ = 128 * (4 + t.val / 32) + _
      rw [hi]))
  · show iblk m c 2 t' x = iblk m c 2 t x
    rw [value_at, value_at]
    exact congrArg (fun z => (V m c main_v77 : S8192x1536.Idx → Ideal .bf16) (ix2 _ z)) (Fin.ext (by
      show 128 * (8 + t'.val / 32) + _ = 128 * (8 + t.val / 32) + _
      rw [hi]))

theorem keys_prev (c : Dev nD) (t t' : Fin cfg0.N) (h : t'.val + 1 = t.val) (h0 : t.val % 32 ≠ 0) (v : Bool) (j : Fin 32) :
    keys m c t' v j = keys m c t v j := by
  unfold keys; rw [rows_prev m c t t' h h0]

theorem kms_prev (c : Dev nD) (t t' : Fin cfg0.N) (h : t'.val + 1 = t.val) (h0 : t.val % 32 ≠ 0) (b : Bool) (j : Fin 32) :
    kms m c t' b j = kms m c t b j := by
  unfold kms; rw [rows_prev m c t t' h h0]

/-- One point. -/
theorem step_inv (c : Dev nD) (t : Fin cfg0.N) (x7 x8 x9) (Z : Sta Ideal) (hZ : Inv m c t.val Z) (X : Sta Ideal)
    (hX : X = asm (iblk m c 0 t) (iblk m c 1 t) (iblk m c 2 t) (iblk m c 3 t) (iblk m c 4 t) (iblk m c 5 t) (iblk m c 6 t) x7 x8 x9 Z) :
    Inv m c (t.val + 1) (step t X) ∧ step t X (.row 2) = dq m c t ∧ (t.val % 32 = 31 → step t X (.all 2) = dv m c t false)
    ∧ (t.val % 32 ≠ 31 → step t X (.all 2) = x8) ∧ (t.val % 32 = 31 → step t X (.all 3) = dv m c t true) ∧ (t.val % 32 ≠ 31 → step t X (.all 3) = x9)
    ∧ ∀ k, (k = .row 0 ∨ k = .row 1 ∨ k = .all 0 ∨ k = .all 1 ∨ k = .car ∨ (∃ v, k = .kept v)) → step t X k = X k := by
  have hb : step t X = ((body (hRt t) (pt ((grid0.coords t) 1))).den X).2 := rfl
  have hc := coord t
  have hlt : t.val < cfg0.N := t.isLt
  have hct : con m c t = conN m c t.val := by funext v j x; unfold conN; rw [dif_pos hlt]
  rw [hb]
  obtain ⟨⟨p1, pm⟩, p2, pq, p3, p4, p5⟩ := point_den (hRt t) ((grid0.coords t) 1) X (keys m c t) (kms m c t) (part m c t.val (t.val % 32))
    (fun h v j => by subst hX; cases v <;> rfl)
    (fun h v j => by
      rw [hc] at h
      have h1 : 0 < t.val := by omega
      subst hX
      refine (keys_prev m c t ⟨t.val - 1, by omega⟩ (by simp; omega) h v j).symm.trans ?_
      refine (((hZ h).1 ⟨t.val - 1, by omega⟩ (by simp; omega)).1 v j).symm.trans ?_
      cases v <;> rfl)
    (fun h b j => by subst hX; rfl)
    (fun h b j => by
      rw [hc] at h
      have h1 : 0 < t.val := by omega
      subst hX
      refine (kms_prev m c t ⟨t.val - 1, by omega⟩ (by simp; omega) h b j).symm.trans ?_
      exact (((hZ h).1 ⟨t.val - 1, by omega⟩ (by simp; omega)).2 b j).symm)
    (fun h v j x => by rw [hc] at h; rw [h]; simp [part])
    (fun h v j x => by rw [hc] at h; subst hX; refine ((hZ h).2 v j x).symm.trans ?_; cases v <;> rfl)
    (found m c t) (tT_found m c t) (km_found m c t) (by subst hX; rfl) (fun v => by subst hX; cases v <;> rfl)
  have e0 : X (.row 0) = iblk m c 0 t := by subst hX; rfl
  have e3 : X (.row 1) = iblk m c 3 t := by subst hX; rfl
  have e8 : X (.all 2) = x8 := by subst hX; rfl
  have e9 : X (.all 3) = x9 := by subst hX; rfl
  rw [e0, e3] at p2 pq
  have hD : ∀ v j x, (abs ((body (hRt t) (pt ((grid0.coords t) 1))).den X).2).b32 v j x = part m c t.val (t.val % 32 + 1) v j x := by
    intro v j x
    rw [p2 v j x]
    unfold part
    rw [Finset.sum_range_succ]
    have : 32 * (t.val / 32) + t.val % 32 = t.val := Nat.div_add_mod t.val 32
    rw [this, ← hct]
    rfl
  have ho : t.val % 32 = 31 → ∀ v, ov ((body (hRt t) (pt ((grid0.coords t) 1))).den X).2 v = dv m c t v := by
    intro h v
    funext y
    rw [p3 (hc.trans h) v y, hD, h]
    rfl
  refine ⟨fun hn => ⟨fun t' ht' => ?_, fun v j x => ?_⟩, funext pq, fun h => ho h false, fun h => ?_, fun h => ho h true, fun h => ?_, p5⟩
  · have : t' = t := Fin.ext (by omega)
    rw [this]; exact ⟨p1, pm⟩
  · rw [hD]
    have h1 : (t.val + 1) % 32 = t.val % 32 + 1 := by omega
    have h2 : (t.val + 1) / 32 = t.val / 32 := by omega
    unfold part
    rw [h1, h2]
  · exact (p4 (by rw [hc]; exact h) false).trans e8
  · exact (p4 (by rw [hc]; exact h) true).trans e9

/-! ## The run -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dq m c t
    | ⟨8, _⟩ => dv m c t false
    | ⟨9, _⟩ => dv m c t true
  Φ n := PhiI (Inv m c n.val) c
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => rfl) t d
theorem after_0 (c : Dev nD) (t : Fin cfg0.N) : (dats m 0 c).after 0 t = iblk m c 0 t := by
  dsimp only [dats]
theorem before_1 (c : Dev nD) (t : Fin cfg0.N) (d) : (dats m 0 c).before 1 t d = iblk m c 1 t :=
  before0_1_of m (dats m 0 c) (A_eq m c 1) (fun _ => rfl) t d
theorem after_1 (c : Dev nD) (t : Fin cfg0.N) : (dats m 0 c).after 1 t = iblk m c 1 t := by
  dsimp only [dats]
theorem before_2 (c : Dev nD) (t : Fin cfg0.N) (d) : (dats m 0 c).before 2 t d = iblk m c 2 t :=
  before0_2_of m (dats m 0 c) (A_eq m c 2) (fun _ => rfl) t d
theorem after_2 (c : Dev nD) (t : Fin cfg0.N) : (dats m 0 c).after 2 t = iblk m c 2 t := by
  dsimp only [dats]
theorem before_3 (c : Dev nD) (t : Fin cfg0.N) (d) : (dats m 0 c).before 3 t d = iblk m c 3 t :=
  before0_3_of m (dats m 0 c) (A_eq m c 3) (fun _ => rfl) t d
theorem after_3 (c : Dev nD) (t : Fin cfg0.N) : (dats m 0 c).after 3 t = iblk m c 3 t := by
  dsimp only [dats]
theorem before_4 (c : Dev nD) (t : Fin cfg0.N) (d) : (dats m 0 c).before 4 t d = iblk m c 4 t :=
  before0_4_of m (dats m 0 c) (A_eq m c 4) (fun _ => rfl) t d
theorem after_4 (c : Dev nD) (t : Fin cfg0.N) : (dats m 0 c).after 4 t = iblk m c 4 t := by
  dsimp only [dats]
theorem before_5 (c : Dev nD) (t : Fin cfg0.N) (d) : (dats m 0 c).before 5 t d = iblk m c 5 t :=
  before0_5_of m (dats m 0 c) (A_eq m c 5) (fun _ => rfl) t d
theorem after_5 (c : Dev nD) (t : Fin cfg0.N) : (dats m 0 c).after 5 t = iblk m c 5 t := by
  dsimp only [dats]
theorem before_6 (c : Dev nD) (t : Fin cfg0.N) (d) : (dats m 0 c).before 6 t d = iblk m c 6 t :=
  before0_6_of m (dats m 0 c) (A_eq m c 6) (fun _ => rfl) t d
theorem after_6 (c : Dev nD) (t : Fin cfg0.N) : (dats m 0 c).after 6 t = iblk m c 6 t := by
  dsimp only [dats]
theorem after_7 (c : Dev nD) (t : Fin cfg0.N) : (dats m 0 c).after 7 t = dq m c t := by
  dsimp only [dats]
theorem after_8 (c : Dev nD) (t : Fin cfg0.N) : (dats m 0 c).after 8 t = dv m c t false := by
  dsimp only [dats]
theorem after_9 (c : Dev nD) (t : Fin cfg0.N) : (dats m 0 c).after 9 t = dv m c t true := by
  dsimp only [dats]

/-- Every window's contents are followed. -/
def fgt : Fin cfg0.W → Bool := fun _ => false

/-- What a point leaves in the keys' gradients' window. -/
def Left8 (c : Dev nD) (t : Fin cfg0.N) : sProp 𝕄 :=
  match cfg0.idle 8 (cfg0.grid.coords t) with
  | true => match (cfg0.win 8).flush t with
    | false => iprop(∃ d, owns (c : Thread nD τ) (st0_8 t) fullShare ((dats m 0 c).before 8 t d))
    | true => owns (c : Thread nD τ) (st0_8 t) fullShare ((dats m 0 c).after 8 t)
  | false => owns (c : Thread nD τ) (st0_8 t) fullShare ((dats m 0 c).after 8 t)

/-- What a point leaves in the values' gradients' window. -/
def Left9 (c : Dev nD) (t : Fin cfg0.N) : sProp 𝕄 :=
  match cfg0.idle 9 (cfg0.grid.coords t) with
  | true => match (cfg0.win 9).flush t with
    | false => iprop(∃ d, owns (c : Thread nD τ) (st0_9 t) fullShare ((dats m 0 c).before 9 t d))
    | true => owns (c : Thread nD τ) (st0_9 t) fullShare ((dats m 0 c).after 9 t)
  | false => owns (c : Thread nD τ) (st0_9 t) fullShare ((dats m 0 c).after 9 t)

theorem idle8 : ∀ t : Fin cfg0.N, cfg0.idle 8 (cfg0.grid.coords t) = !decide (t.val % 32 = 31) := (by decide +kernel : ∀ t : Fin grid0.N, _)
theorem idle9 : ∀ t : Fin cfg0.N, cfg0.idle 9 (cfg0.grid.coords t) = !decide (t.val % 32 = 31) := (by decide +kernel : ∀ t : Fin grid0.N, _)

theorem left8 (c : Dev nD) (t : Fin cfg0.N) (d) (Y : S8192x128.Idx → Ideal .bf16) (h : t.val % 32 = 31 → Y = dv m c t false)
    (h' : t.val % 32 ≠ 31 → Y = (dats m 0 c).before 8 t d) : (owns (c : Thread nD τ) (st0_8 t) fullShare Y : sProp 𝕄) ⊢ Left8 m c t := by
  unfold Left8
  by_cases h1 : t.val % 32 = 31
  · rw [idle8, decide_eq_true h1, h h1, ← after_8 m c t]
    exact .rfl
  · have hf : (cfg0.win 8).flush t = false := by
      rw [Bool.eq_false_iff]; exact fun hf => h1 ((flush0_8 t).1 hf)
    rw [idle8, decide_eq_false h1, hf, h' h1]
    change _ ⊢ iprop(∃ d, owns (c : Thread nD τ) (st0_8 t) fullShare ((dats m 0 c).before 8 t d))
    iintro H; iexists d; iexact H

theorem left9 (c : Dev nD) (t : Fin cfg0.N) (d) (Y : S8192x128.Idx → Ideal .bf16) (h : t.val % 32 = 31 → Y = dv m c t true)
    (h' : t.val % 32 ≠ 31 → Y = (dats m 0 c).before 9 t d) : (owns (c : Thread nD τ) (st0_9 t) fullShare Y : sProp 𝕄) ⊢ Left9 m c t := by
  unfold Left9
  by_cases h1 : t.val % 32 = 31
  · rw [idle9, decide_eq_true h1, h h1, ← after_9 m c t]
    exact .rfl
  · have hf : (cfg0.win 9).flush t = false := by
      rw [Bool.eq_false_iff]; exact fun hf => h1 ((flush0_9 t).1 hf)
    rw [idle9, decide_eq_false h1, hf, h' h1]
    change _ ⊢ iprop(∃ d, owns (c : Thread nD τ) (st0_9 t) fullShare ((dats m 0 c).before 9 t d))
    iintro H; iexists d; iexact H

def Before (c : Dev nD) (t : Fin cfg0.N) : sProp 𝕄 := iprop((∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def After (c : Dev nD) (t : Fin cfg0.N) : sProp 𝕄 := iprop(owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ Left8 m c t ∗ Left9 m c t)

theorem sound (c : Dev nD) (t : Fin cfg0.N) (O : sProp 𝕄) :
    (iprop(PhiI (Inv m c t.val) c ∗ O ∗ Before m c t) : sProp 𝕄)
      ⊢ wp frame (wpE (defs₀ (F := Ideal)) Variants.none c none) Set.univ (bodyAt0 t) fun _ =>
        iprop(PhiI (Inv m c (t.val + 1)) c ∗ O ∗ After m c t) := by
  unfold Before After
  simp only [before_0, before_1, before_2, before_3, before_4, before_5, before_6]
  rw [after_0, after_1, after_2, after_3, after_4, after_5, after_6, after_7]
  unfold PhiI
  iintro ⟨⟨⟨%Z, %hZ, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨s1, sq, sk, sk', s2, s3, s4⟩ := step_inv m c t ((dats m 0 c).before 7 t d7) ((dats m 0 c).before 8 t d8) ((dats m 0 c).before 9 t d9) Z hZ _ rfl
  ihave HO := (own_asm c t (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) Z) $$ [H0 H1 H2 H3 H4 H5 H6 H7 H8 H9 HS]
  · isplitr [HS]
    swap; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  generalize hX : asm (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) Z = X at s1 sq sk sk' s2 s3 s4 ⊢
  have e0 : step t X (.row 0) = iblk m c 0 t := (s4 _ (by simp)).trans (by subst hX; rfl)
  have e1 : step t X (.all 0) = iblk m c 1 t := (s4 _ (by simp)).trans (by subst hX; rfl)
  have e2 : step t X (.all 1) = iblk m c 2 t := (s4 _ (by simp)).trans (by subst hX; rfl)
  have e3 : step t X (.row 1) = iblk m c 3 t := (s4 _ (by simp)).trans (by subst hX; rfl)
  have e4 : step t X .car = iblk m c 4 t := (s4 _ (by simp)).trans (by subst hX; rfl)
  have e5 : step t X (.kept false) = iblk m c 5 t := (s4 _ (by simp)).trans (by subst hX; rfl)
  have e6 : step t X (.kept true) = iblk m c 6 t := (s4 _ (by simp)).trans (by subst hX; rfl)
  iapply (body_at c t X _) $$ HO
  iintro HO
  ihave HO := (own_windows c t (step t X)) $$ HO
  icases HO with ⟨⟨H0, H1, H2, H3, H4, H5, H6, H7, H8, H9⟩, HS⟩
  rw [e0, e1, e2, e3, e4, e5, e6, sq]
  isplitl [HS Hg]
  · isplitr [Hg]
    swap; · iexact Hg
    iexists (step t X)
    isplitr
    · ipureintro; exact s1
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (left8 m c t d8 _ sk sk') $$ H8
  iapply (left9 m c t d9 _ s2 s3) $$ H9

set_option maxHeartbeats 4000000 in
theorem obligation (c : Dev nD) :
    BodyObligationLoose (dats m 0 c) (defs₀ (F := Ideal)) Variants.none () Set.univ fgt := fun t => by
  rw [bigSep_W0, bigSep_W0, defs₀_row]
  exact triple_restated (sound m c t ((dats m 0 c).owesAt () t.castSucc)) rfl .rfl fun _ => .rfl

theorem phi_start (c : Dev nD) : (Pipeline.ΦA spec0 c : sProp 𝕄) ⊢ PhiI (Inv m c 0) c := by
  refine (phi_in (F := Ideal) c).trans ?_
  unfold PhiI
  iintro ⟨⟨%Z, %_, HS⟩, Hg⟩
  isplitr [Hg]
  swap; · iexact Hg
  iexists Z
  isplitr
  · ipureintro; exact fun h => absurd rfl h
  iexact HS

set_option backward.isDefEq.respectTransparency.types false in
theorem run : θ_run defs (onTc (τ := τ) (main (F := Ideal))) (s₀ m ρ) (fun r =>
    (Pipeline.RDat.FramePost cfg0 (fun c => (dats m 0 c).toRForget fgt) (V m)) r ∧ r.2.sem = fun _ => 0) :=
  Pipeline.θ_run_frame_track_forget_shared (Q' := _) cfgs (dats m) (0 : Fin 1) launch₀0 defs₀ Variants.none fgt m ρ main
    (hbody := obligation m) (hq := fun _ _ _ => rfl)
    (howed := fun _ _ => rfl) (V := V m) (hmain := hmain m Variants.none) (hA := A_eq m) (hin := phi_start m) (hout := fun c => phi_out _ c)

/-- The arrays of the keys' and of the values' gradients: pair `i 1 / 128`. -/
def dvArr (c : Dev nD) (v : Bool) (i : S8192x512.Idx) : EReal :=
  dv m c ⟨32 * ((i 1).val / 128), by have : (i 1).val < 512 := (i 1).isLt; exact lt_of_lt_of_eq (by omega) N_0.symm⟩ v (ix2 (i 0) (Fin.ofNat 128 ((i 1).val % 128)))

/-- The array of the queries' gradients: pair `i 1 / 128`, row block `i 0 / 256`. -/
def dqArr (c : Dev nD) (i : S8192x512.Idx) : EReal :=
  dq m c ⟨32 * ((i 1).val / 128) + (i 0).val / 256, by
    have : (i 1).val < 512 := (i 1).isLt; have : (i 0).val < 8192 := (i 0).isLt; exact lt_of_lt_of_eq (by omega) N_0.symm⟩
    (ix2 (Fin.ofNat 256 ((i 0).val % 256)) (Fin.ofNat 128 ((i 1).val % 128)))

theorem part_pair (c : Dev nD) {n n' : ℕ} (h : n / 32 = n' / 32) (k : ℕ) : part m c n k = part m c n' k := by
  unfold part; rw [h]

theorem dvArr_emb (c : Dev nD) (v : Bool) (t : Fin cfg0.N) (y : S8192x128.Idx) (i : S8192x512.Idx) (h0 : (i 0).val = (y 0).val)
    (h1 : (i 1).val = 128 * (t.val / 32) + (y 1).val) : dvArr m c v i = dv m c t v y := by
  have hN := point_lt t
  have hy : (y 1).val < 128 := (y 1).isLt
  unfold dvArr dv
  rw [part_pair m c (n' := t.val) (by simp only [h1]; omega)]
  refine congrArg₂ (part m c t.val 32 v) (Fin.ext ?_) ?_
  · show (i 0).val / 256 % 32 = (y 0).val / 256 % 32
    rw [h0]
  · refine congrArg₂ ix2 (Fin.ext ?_) (Fin.ext ?_)
    · show (i 1).val % 128 % 128 = (y 1).val
      omega
    · show (i 0).val % 256 % 256 = (y 0).val % 256 % 256
      rw [h0]

theorem arr8 (c : Dev nD) : (dats m 0 c).arrAt 8 cfg0.N = dvArr m c false := by
  refine (dats m 0 c).arrAt_eq_of_covers 8 _ (by decide +kernel) fun t hf y => ?_
  have h0 : (((cfg0.win 8).blk t).view.emb y 0).val = (y 0).val := by blk_simp [idx t]
  have h1 : (((cfg0.win 8).blk t).view.emb y 1).val = 128 * (t.val / 32) + (y 1).val := by blk_simp [idx t]; omega
  rw [dvArr_emb m c false t y _ h0 h1]
  blk_simp
  rw [after_8]

theorem arr9 (c : Dev nD) : (dats m 0 c).arrAt 9 cfg0.N = dvArr m c true := by
  refine (dats m 0 c).arrAt_eq_of_covers 9 _ (by decide +kernel) fun t hf y => ?_
  have h0 : (((cfg0.win 9).blk t).view.emb y 0).val = (y 0).val := by blk_simp [idx t]
  have h1 : (((cfg0.win 9).blk t).view.emb y 1).val = 128 * (t.val / 32) + (y 1).val := by blk_simp [idx t]; omega
  rw [dvArr_emb m c true t y _ h0 h1]
  blk_simp
  rw [after_9]

theorem dqArr_emb (c : Dev nD) (t : Fin cfg0.N) (y : S256x128.Idx) (i : S8192x512.Idx) (h0 : (i 0).val = 256 * (t.val % 32) + (y 0).val)
    (h1 : (i 1).val = 128 * (t.val / 32) + (y 1).val) : dqArr m c i = dq m c t y := by
  have hN := point_lt t
  have hy : (y 1).val < 128 := (y 1).isLt
  have hx : (y 0).val < 256 := (y 0).isLt
  unfold dqArr
  refine congrArg₂ (dq m c) (Fin.ext ?_) ?_
  · show 32 * ((i 1).val / 128) + (i 0).val / 256 = t.val
    omega
  · refine Eq.trans (congrArg₂ ix2 (Fin.ext ?_) (Fin.ext ?_)) (eq_ix2 y).symm
    · show (i 0).val % 256 % 256 = (y 0).val
      omega
    · show (i 1).val % 128 % 128 = (y 1).val
      omega

theorem arr7 (c : Dev nD) : (dats m 0 c).arrAt 7 cfg0.N = dqArr m c := by
  refine (dats m 0 c).arrAt_eq_of_covers 7 _ (by decide +kernel) fun t hf y => ?_
  have h0 : (((cfg0.win 7).blk t).view.emb y 0).val = 256 * (t.val % 32) + (y 0).val := by blk_simp [idx t]; omega
  have h1 : (((cfg0.win 7).blk t).view.emb y 1).val = 128 * (t.val / 32) + (y 1).val := by blk_simp [idx t]; omega
  rw [dqArr_emb m c t y _ h0 h1]
  blk_simp
  rw [after_7]

end Cert.AttnIdeal.Run
-- ==== Proof.AttnWeights.lean ====
/-
  The stick-breaking weights: the host lines that both the attention's backward call and its reference begin with,
  the reference's lines after them, and their entries for finite arguments.
-/
module

public import proofs.«01_k».proof.Defs
public import proofs.«01_k».proof.Proof.Gen.AttnRefIdeal.Run
public import proofs.«01_k».proof.Proof.Reals
public import proofs.«01_k».proof.Proof.Window
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.AttnWeights

open Cert.AttnRefIdeal Cert.AttnRefIdeal.Gen Cert.Reals

/-! ## Running sums from the end, along the last axis -/

theorem last3 {N A B : ℕ} {hi : ℕ} (x : FVec Ideal ⟨3, ![A, B, N]⟩ .f32) (init : FVec Ideal ⟨0, ![]⟩ .f32)
    (h : (⟨3, ![A, B, N]⟩ : Shape).ReduceWindows ![1, 1, N] ![1, 1, 1] ![0, 0, 0] ![0, 0, hi] ⟨3, ![A, B, N]⟩)
    (hu : 0 < (⟨0, ![]⟩ : Shape).numel) (hi0 : init (Shape.Idx.first hu) = 0) (f : ℕ → EReal) (k : Fin A) (l : Fin B)
    (hf : ∀ i : Fin N, x (ix3 k l i) = f i.val) (r : Fin N) :
    Host.reduceWindowAdd ![1, 1, N] ![1, 1, 1] ![0, 0, 0] ![0, 0, hi] x init h hu (ix3 k l r)
      = ∑ i ∈ Finset.range (N - r.val), f (r.val + i) := by
  have e : Host.reduceWindowAdd ![1, 1, N] ![1, 1, 1] ![0, 0, 0] ![0, 0, hi] x init h hu (ix3 k l r)
      = Host.reduceWindow (· + ·) ![1, 1, N] ![1, 1, 1] ![0, 0, 0] ![0, 0, hi] x init h hu (ix3 k l r) := rfl
  rw [e]
  unfold Host.reduceWindow
  simp only [hi0]
  rw [foldl_add, zero_add, ← Fin.sum_univ_def]
  let F : (⟨3, ![1, 1, N]⟩ : Shape).Idx → EReal := fun w =>
    if hin : ∀ a : Fin 3, (![0, 0, 0] : Fin 3 → ℕ) a ≤ (ix3 k l r a).val * (![1, 1, 1] : Fin 3 → ℕ) a + (w a).val
        ∧ (ix3 k l r a).val * (![1, 1, 1] : Fin 3 → ℕ) a + (w a).val - (![0, 0, 0] : Fin 3 → ℕ) a < (![A, B, N] : Fin 3 → ℕ) a
      then x (fun a => ⟨_, (hin a).2⟩) else 0
  refine (Equiv.sum_comp (⟨3, ![1, 1, N]⟩ : Shape).rowMajor.symm F).trans ?_
  rw [sum_idx3, Fintype.sum_unique, Fintype.sum_unique]
  have e2 : ∀ w : Fin N, F (ix3 (default : Fin 1) (default : Fin 1) w) = if w.val < N - r.val then f (r.val + w.val) else 0 := by
    intro w
    by_cases hw : w.val < N - r.val
    · rw [if_pos hw]
      have hin : ∀ a : Fin 3, (![0, 0, 0] : Fin 3 → ℕ) a ≤ (ix3 k l r a).val * (![1, 1, 1] : Fin 3 → ℕ) a + (ix3 (0 : Fin 1) (0 : Fin 1) w a).val
          ∧ (ix3 k l r a).val * (![1, 1, 1] : Fin 3 → ℕ) a + (ix3 (0 : Fin 1) (0 : Fin 1) w a).val - (![0, 0, 0] : Fin 3 → ℕ) a < (![A, B, N] : Fin 3 → ℕ) a := by
        intro a
        fin_cases a
        · simp
        · simp
        · simp; omega
      refine ((dif_pos hin).trans (congrArg x ?_)).trans (hf ⟨r.val + w.val, by omega⟩)
      funext a
      fin_cases a
      · exact Fin.ext (by simp)
      · exact Fin.ext (by simp)
      · exact Fin.ext (by simp)
    · rw [if_neg hw]
      exact dif_neg fun hin => hw (by have := hin 2; simp at this; omega)
  rw [Finset.sum_congr rfl fun w _ => e2 w, Fin.sum_univ_eq_sum_range (fun w => if w < N - r.val then f (r.val + w) else 0),
    ← Finset.sum_filter]
  refine Finset.sum_congr ?_ fun _ _ => rfl
  ext i
  simp only [Finset.mem_filter, Finset.mem_range]
  omega

theorem last4 {N A B C : ℕ} {hi : ℕ} (x : FVec Ideal ⟨4, ![A, B, C, N]⟩ .f32) (init : FVec Ideal ⟨0, ![]⟩ .f32)
    (h : (⟨4, ![A, B, C, N]⟩ : Shape).ReduceWindows ![1, 1, 1, N] ![1, 1, 1, 1] ![0, 0, 0, 0] ![0, 0, 0, hi] ⟨4, ![A, B, C, N]⟩)
    (hu : 0 < (⟨0, ![]⟩ : Shape).numel) (hi0 : init (Shape.Idx.first hu) = 0) (f : ℕ → EReal) (k : Fin A) (l : Fin B) (j : Fin C)
    (hf : ∀ i : Fin N, x (ix4 k l j i) = f i.val) (r : Fin N) :
    Host.reduceWindowAdd ![1, 1, 1, N] ![1, 1, 1, 1] ![0, 0, 0, 0] ![0, 0, 0, hi] x init h hu (ix4 k l j r)
      = ∑ i ∈ Finset.range (N - r.val), f (r.val + i) := by
  have e : Host.reduceWindowAdd ![1, 1, 1, N] ![1, 1, 1, 1] ![0, 0, 0, 0] ![0, 0, 0, hi] x init h hu (ix4 k l j r)
      = Host.reduceWindow (· + ·) ![1, 1, 1, N] ![1, 1, 1, 1] ![0, 0, 0, 0] ![0, 0, 0, hi] x init h hu (ix4 k l j r) := rfl
  rw [e]
  unfold Host.reduceWindow
  simp only [hi0]
  rw [foldl_add, zero_add, ← Fin.sum_univ_def]
  let F : (⟨4, ![1, 1, 1, N]⟩ : Shape).Idx → EReal := fun w =>
    if hin : ∀ a : Fin 4, (![0, 0, 0, 0] : Fin 4 → ℕ) a ≤ (ix4 k l j r a).val * (![1, 1, 1, 1] : Fin 4 → ℕ) a + (w a).val
        ∧ (ix4 k l j r a).val * (![1, 1, 1, 1] : Fin 4 → ℕ) a + (w a).val - (![0, 0, 0, 0] : Fin 4 → ℕ) a < (![A, B, C, N] : Fin 4 → ℕ) a
      then x (fun a => ⟨_, (hin a).2⟩) else 0
  refine (Equiv.sum_comp (⟨4, ![1, 1, 1, N]⟩ : Shape).rowMajor.symm F).trans ?_
  rw [sum_idx4, Fintype.sum_unique, Fintype.sum_unique, Fintype.sum_unique]
  have e2 : ∀ w : Fin N, F (ix4 (default : Fin 1) (default : Fin 1) (default : Fin 1) w) = if w.val < N - r.val then f (r.val + w.val) else 0 := by
    intro w
    by_cases hw : w.val < N - r.val
    · rw [if_pos hw]
      have hin : ∀ a : Fin 4, (![0, 0, 0, 0] : Fin 4 → ℕ) a ≤ (ix4 k l j r a).val * (![1, 1, 1, 1] : Fin 4 → ℕ) a + (ix4 (0 : Fin 1) (0 : Fin 1) (0 : Fin 1) w a).val
          ∧ (ix4 k l j r a).val * (![1, 1, 1, 1] : Fin 4 → ℕ) a + (ix4 (0 : Fin 1) (0 : Fin 1) (0 : Fin 1) w a).val - (![0, 0, 0, 0] : Fin 4 → ℕ) a < (![A, B, C, N] : Fin 4 → ℕ) a := by
        intro a
        fin_cases a
        · simp
        · simp
        · simp
        · simp; omega
      refine ((dif_pos hin).trans (congrArg x ?_)).trans (hf ⟨r.val + w.val, by omega⟩)
      funext a
      fin_cases a
      · exact Fin.ext (by simp)
      · exact Fin.ext (by simp)
      · exact Fin.ext (by simp)
      · exact Fin.ext (by simp)
    · rw [if_neg hw]
      exact dif_neg fun hin => hw (by have := hin 3; simp at this; omega)
  rw [Finset.sum_congr rfl fun w _ => e2 w, Fin.sum_univ_eq_sum_range (fun w => if w < N - r.val then f (r.val + w) else 0),
    ← Finset.sum_filter]
  refine Finset.sum_congr ?_ fun _ _ => rfl
  ext i
  simp only [Finset.mem_filter, Finset.mem_range]
  omega

/-- Running sums from the start, along the last axis. -/
theorem first3 {N A B : ℕ} {lo : ℕ} (hlo : lo + 1 = N) (x : FVec Ideal ⟨3, ![A, B, N]⟩ .f32) (init : FVec Ideal ⟨0, ![]⟩ .f32)
    (h : (⟨3, ![A, B, N]⟩ : Shape).ReduceWindows ![1, 1, N] ![1, 1, 1] ![0, 0, lo] ![0, 0, 0] ⟨3, ![A, B, N]⟩)
    (hu : 0 < (⟨0, ![]⟩ : Shape).numel) (hi0 : init (Shape.Idx.first hu) = 0) (f : ℕ → EReal) (k : Fin A) (l : Fin B)
    (hf : ∀ i : Fin N, x (ix3 k l i) = f i.val) (r : Fin N) :
    Host.reduceWindowAdd ![1, 1, N] ![1, 1, 1] ![0, 0, lo] ![0, 0, 0] x init h hu (ix3 k l r) = ∑ i ∈ Finset.range (r.val + 1), f i := by
  have e : Host.reduceWindowAdd ![1, 1, N] ![1, 1, 1] ![0, 0, lo] ![0, 0, 0] x init h hu (ix3 k l r)
      = Host.reduceWindow (· + ·) ![1, 1, N] ![1, 1, 1] ![0, 0, lo] ![0, 0, 0] x init h hu (ix3 k l r) := rfl
  rw [e]
  unfold Host.reduceWindow
  simp only [hi0]
  rw [foldl_add, zero_add, ← Fin.sum_univ_def]
  let F : (⟨3, ![1, 1, N]⟩ : Shape).Idx → EReal := fun w =>
    if hin : ∀ a : Fin 3, (![0, 0, lo] : Fin 3 → ℕ) a ≤ (ix3 k l r a).val * (![1, 1, 1] : Fin 3 → ℕ) a + (w a).val
        ∧ (ix3 k l r a).val * (![1, 1, 1] : Fin 3 → ℕ) a + (w a).val - (![0, 0, lo] : Fin 3 → ℕ) a < (![A, B, N] : Fin 3 → ℕ) a
      then x (fun a => ⟨_, (hin a).2⟩) else 0
  refine (Equiv.sum_comp (⟨3, ![1, 1, N]⟩ : Shape).rowMajor.symm F).trans ?_
  rw [sum_idx3, Fintype.sum_unique, Fintype.sum_unique]
  have e2 : ∀ w : Fin N, F (ix3 (default : Fin 1) (default : Fin 1) w) = if lo ≤ r.val + w.val then f (r.val + w.val - lo) else 0 := by
    intro w
    by_cases hw : lo ≤ r.val + w.val
    · rw [if_pos hw]
      have hin : ∀ a : Fin 3, (![0, 0, lo] : Fin 3 → ℕ) a ≤ (ix3 k l r a).val * (![1, 1, 1] : Fin 3 → ℕ) a + (ix3 (0 : Fin 1) (0 : Fin 1) w a).val
          ∧ (ix3 k l r a).val * (![1, 1, 1] : Fin 3 → ℕ) a + (ix3 (0 : Fin 1) (0 : Fin 1) w a).val - (![0, 0, lo] : Fin 3 → ℕ) a < (![A, B, N] : Fin 3 → ℕ) a := by
        intro a
        fin_cases a
        · simp
        · simp
        · simp; omega
      refine ((dif_pos hin).trans (congrArg x ?_)).trans (hf ⟨r.val + w.val - lo, by omega⟩)
      funext a
      fin_cases a
      · exact Fin.ext (by simp)
      · exact Fin.ext (by simp)
      · exact Fin.ext (by simp)
    · rw [if_neg hw]
      exact dif_neg fun hin => hw (by have := hin 2; simp at this; omega)
  have e3 : Finset.range N = Finset.range ((lo - r.val) + (r.val + 1)) := congrArg _ (by omega)
  rw [Finset.sum_congr rfl fun w _ => e2 w, Fin.sum_univ_eq_sum_range (fun w => if lo ≤ r.val + w then f (r.val + w - lo) else 0), e3,
    Finset.sum_range_add, Finset.sum_eq_zero (fun i hi => if_neg (by simp only [Finset.mem_range] at hi; omega)), zero_add]
  refine Finset.sum_congr rfl fun i hi => ?_
  rw [if_pos (by omega)]
  exact congrArg f (by omega)

/-! ## The host lines -/

/-- The logits. -/
def lgT (P : FVec Ideal S8192x5120 .f32) : FVec Ideal S8x8192x8192 .f32 :=
  mulf (Host.dotGeneral dot_S8192x8x64_S8192x8x64_S8x8192x8192_2_2_0_0_1_1 none
      (shapeCast _ (extractStridedSlice S8192x512 ![0, 1024] P slices_S8192x5120_S8192x512_0_1024) shapeCasts_S8192x512_S8192x8x64)
      (shapeCast _ (extractStridedSlice S8192x512 ![0, 1536] P slices_S8192x5120_S8192x512_0_1536) shapeCasts_S8192x512_S8192x8x64))
    (broadcastInDim S8x8192x8192 ![] bcast_S_S8x8192x8192 (constant S_ .f32 0x3E000000#32))

/-- `log (1 + exp x)`, and the logistic function. -/
def spT (x : FVec Ideal S8x8192x8192 .f32) : FVec Ideal S8x8192x8192 .f32 :=
  select
    (cmpf .une (subf x (broadcastInDim S8x8192x8192 ![] bcast_S_S8x8192x8192 (constant S_ .f32 0x00000000#32)))
      (subf x (broadcastInDim S8x8192x8192 ![] bcast_S_S8x8192x8192 (constant S_ .f32 0x00000000#32))))
    (addf x (broadcastInDim S8x8192x8192 ![] bcast_S_S8x8192x8192 (constant S_ .f32 0x00000000#32)))
    (addf (maximumf x (broadcastInDim S8x8192x8192 ![] bcast_S_S8x8192x8192 (constant S_ .f32 0x00000000#32)))
      (Host.log1p (Host.exp (Host.negf (absf (subf x (broadcastInDim S8x8192x8192 ![] bcast_S_S8x8192x8192 (constant S_ .f32 0x00000000#32))))))))
/-- Zero where infinite. -/
def finT (x : FVec Ideal S8x8192x8192 .f32) : FVec Ideal S8x8192x8192 .f32 :=
  select (cmpf .oeq x (broadcastInDim S8x8192x8192 ![] bcast_S_S8x8192x8192 (constant S_ .f32 0x7F800000#32)))
    (broadcastInDim S8x8192x8192 ![] bcast_S_S8x8192x8192 (constant S_ .f32 0x00000000#32)) x
def sgT (x : FVec Ideal S8x8192x8192 .f32) : FVec Ideal S8x8192x8192 .f32 := Host.exp (subf (finT x) (finT (spT x)))

/-- The logarithm of the logistic function. -/
def lsT (x : FVec Ideal S8x8192x8192 .f32) : FVec Ideal S8x8192x8192 .f32 := Host.negf (spT (Host.negf x))

/-- Whether a query comes after a key. -/
def maskT : IVec S1x8192x8192 1 :=
  broadcastInDim S1x8192x8192 ![1, 2] bcast_S8192x8192_S1x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- Zero off the mask. -/
def whT (x : FVec Ideal S8x8192x8192 .f32) : FVec Ideal S8x8192x8192 .f32 :=
  select (broadcastInDim S8x8192x8192 ![0, 1, 2] bcast_S1x8192x8192_S8x8192x8192_0_1_2 maskT) x
    (broadcastInDim S8x8192x8192 ![] bcast_S_S8x8192x8192 (constant S_ .f32 0x00000000#32))

/-- The sums from a key on. -/
def cumT (x : FVec Ideal S8x8192x8192 .f32) : FVec Ideal S8x8192x8192 .f32 :=
  Host.reduceWindowAdd ![1, 1, 8192] ![1, 1, 1] ![0, 0, 0] ![0, 0, 8191] x (broadcastInDim S_ ![] bcast_S_S_ (constant S_ .f32 0x00000000#32))
    reduceWindows_S8x8192x8192_S8x8192x8192_w1s1p0_0_w1s1p0_0_w8192s1p0_8191 h_S_

/-- The logarithms of the sticks' remainders. -/
def lbT (P : FVec Ideal S8192x5120 .f32) : FVec Ideal S8x8192x8192 .f32 := whT (lsT (Host.negf (lgT P)))

/-- The weights, before the mask and after it. -/
def wuT (P : FVec Ideal S8192x5120 .f32) : FVec Ideal S8x8192x8192 .f32 :=
  Host.exp (addf (lsT (lgT P)) (subf (cumT (lbT P)) (lbT P)))
def wtT (P : FVec Ideal S8192x5120 .f32) : FVec Ideal S8x8192x8192 .f32 := whT (wuT P)

/-- The values' gradients of the reference. -/
def dvT (P : FVec Ideal S8192x5120 .f32) (D : FVec Ideal S8192x512 .f32) : FVec Ideal S8192x512 .bf16 :=
  truncf .bf16 (shapeCast _ (transpose S8192x8x64 [2, 0, 1] (Host.dotGeneral dot_S8x64x8192_S8x8192x8192_S8x64x8192_2_1_1_2_0_0 none
    (transpose S8x64x8192 [1, 2, 0] (shapeCast _ D shapeCasts_S8192x512_S8192x8x64) transposes_S8192x8x64_S8x64x8192_1_2_0) (wtT P))
    transposes_S8x64x8192_S8192x8x64_2_0_1) shapeCasts_S8192x8x64_S8192x512) bitsLt_bf16_f32

/-- The weights' gradients, and the weights times them. -/
def dwT (P : FVec Ideal S8192x5120 .f32) (D : FVec Ideal S8192x512 .f32) : FVec Ideal S8x8192x8192 .f32 :=
  Host.dotGeneral dot_S8x64x8192_S8192x8x64_S8x8192x8192_1_2_2_0_0_1 none
    (transpose S8x64x8192 [1, 2, 0] (shapeCast _ D shapeCasts_S8192x512_S8192x8x64) transposes_S8192x8x64_S8x64x8192_1_2_0)
    (shapeCast _ (extractStridedSlice S8192x512 ![0, 2048] P slices_S8192x5120_S8192x512_0_2048) shapeCasts_S8192x512_S8192x8x64)
def eT (P : FVec Ideal S8192x5120 .f32) (D : FVec Ideal S8192x512 .f32) : FVec Ideal S8x8192x8192 .f32 := mulf (whT (dwT P D)) (wuT P)

/-- The sums up to a key. -/
def preT (x : FVec Ideal S8x8192x8192 .f32) : FVec Ideal S8x8192x8192 .f32 :=
  Host.reduceWindowAdd ![1, 1, 8192] ![1, 1, 1] ![0, 0, 8191] ![0, 0, 0] x (broadcastInDim S_ ![] bcast_S_S_ (constant S_ .f32 0x00000000#32))
    reduceWindows_S8x8192x8192_S8x8192x8192_w1s1p0_0_w1s1p0_0_w8192s1p8191_0 h_S_

/-- The logits' gradients from e = w · dw and the logits, times 1/8. -/
def dlT (e l : FVec Ideal S8x8192x8192 .f32) : FVec Ideal S8x8192x8192 .f32 :=
  mulf (addf (Host.negf (Host.negf (mulf (Host.negf (whT (addf (Host.negf e) (preT e)))) (sgT (Host.negf (Host.negf l))))))
      (Host.negf (mulf (Host.negf e) (sgT (Host.negf l)))))
    (broadcastInDim S8x8192x8192 ![] bcast_S_S8x8192x8192 (constant S_ .f32 0x3E000000#32))

/-- The queries' and the keys' gradients of the reference. -/
def dqT (P : FVec Ideal S8192x5120 .f32) (D : FVec Ideal S8192x512 .f32) : FVec Ideal S8192x512 .bf16 :=
  truncf .bf16 (shapeCast _ (transpose S8192x8x64 [1, 0, 2] (Host.dotGeneral dot_S8x8192x8192_S8192x8x64_S8x8192x64_2_0_1_2_0_1 none (dlT (eT P D) (lgT P))
    (shapeCast _ (extractStridedSlice S8192x512 ![0, 1536] P slices_S8192x5120_S8192x512_0_1536) shapeCasts_S8192x512_S8192x8x64))
    transposes_S8x8192x64_S8192x8x64_1_0_2) shapeCasts_S8192x8x64_S8192x512) bitsLt_bf16_f32
def dkT (P : FVec Ideal S8192x5120 .f32) (D : FVec Ideal S8192x512 .f32) : FVec Ideal S8192x512 .bf16 :=
  truncf .bf16 (shapeCast _ (transpose S8192x8x64 [1, 0, 2] (Host.dotGeneral dot_S8x8192x8192_S8192x8x64_S8x8192x64_1_0_2_2_0_1 none (dlT (eT P D) (lgT P))
    (shapeCast _ (extractStridedSlice S8192x512 ![0, 1024] P slices_S8192x5120_S8192x512_0_1024) shapeCasts_S8192x512_S8192x8x64))
    transposes_S8x8192x64_S8192x8x64_1_0_2) shapeCasts_S8192x8x64_S8192x512) bitsLt_bf16_f32

theorem res_eq (m : (ℓ : Loc nD τ sig) → Buf (Elt Ideal) ℓ) (c : Dev nD) :
    Cert.AttnRefIdeal.Value.res_out0 m c = dqT (m ((c.tc : Thread nD τ).loc main_arg0)) (m ((c.tc : Thread nD τ).loc main_arg1))
    ∧ Cert.AttnRefIdeal.Value.res_out1 m c = dkT (m ((c.tc : Thread nD τ).loc main_arg0)) (m ((c.tc : Thread nD τ).loc main_arg1))
    ∧ Cert.AttnRefIdeal.Value.res_out2 m c = dvT (m ((c.tc : Thread nD τ).loc main_arg0)) (m ((c.tc : Thread nD τ).loc main_arg1)) := by
  refine ⟨?_, ?_, ?_⟩
  · unfold Cert.AttnRefIdeal.Value.res_out0 Cert.AttnRefIdeal.Value.res_main_v56; rfl
  · unfold Cert.AttnRefIdeal.Value.res_out1 Cert.AttnRefIdeal.Value.res_main_v57; rfl
  · unfold Cert.AttnRefIdeal.Value.res_out2 Cert.AttnRefIdeal.Value.res_main_v58; rfl

/-! ## Entries for finite arguments -/

/-- `log (1 + exp x)`. -/
def sp (x : ℝ) : ℝ := max x 0 + Real.log (1 + Real.exp (-|x|))

theorem sp_sub (x : ℝ) : sp x - sp (-x) = x := by
  unfold sp
  rw [abs_neg]
  rcases le_total 0 x with h | h
  · rw [max_eq_left h, max_eq_right (by linarith)]; ring
  · rw [max_eq_right h, max_eq_left (by linarith)]; ring

theorem exp_sp (x : ℝ) : Real.exp (sp x) = 1 + Real.exp x := by
  unfold sp
  have hp : 0 < 1 + Real.exp (-|x|) := by have := Real.exp_pos (-|x|); linarith
  rw [Real.exp_add, Real.exp_log hp]
  rcases le_total 0 x with h | h
  · rw [max_eq_left h, abs_of_nonneg h, mul_add, ← Real.exp_add, add_neg_cancel, Real.exp_zero]; ring
  · rw [max_eq_right h, abs_of_nonpos h, neg_neg, Real.exp_zero, one_mul]

/-- The logistic function. -/
def sg (x : ℝ) : ℝ := Real.exp (x - sp x)

theorem sg_eq (x : ℝ) : sg x = 1 / (1 + Real.exp (-x)) := by
  unfold sg
  have h := Real.exp_pos x
  rw [Real.exp_sub, exp_sp, Real.exp_neg]
  field_simp
  ring

theorem sg_neg (x : ℝ) : sg (-x) = 1 - sg x := by
  have h := Real.exp_pos x
  rw [sg_eq, sg_eq, neg_neg, Real.exp_neg]
  field_simp
  ring

variable (p : Fin 8192 → Fin 5120 → ℝ) (o : Fin 8192 → Fin 512 → ℝ)

/-- The columns of the queries, of the keys and of the values of a head. -/
def qi (h : Fin 8) (d : Fin 64) : Fin 5120 := ⟨1024 + (h.val * 64 + d.val), by omega⟩
def ki (h : Fin 8) (d : Fin 64) : Fin 5120 := ⟨1536 + (h.val * 64 + d.val), by omega⟩
def vi (h : Fin 8) (d : Fin 64) : Fin 5120 := ⟨2048 + (h.val * 64 + d.val), by omega⟩
def oi (h : Fin 8) (d : Fin 64) : Fin 512 := ⟨h.val * 64 + d.val, by omega⟩

/-- A logit. -/
def L (h : Fin 8) (q k : Fin 8192) : ℝ := (∑ d : Fin 64, p q (qi h d) * p k (ki h d)) * (1 / 8)
/-- The logarithm of what key `i` leaves of a query's stick. -/
def FF (h : Fin 8) (q : Fin 8192) (i : ℕ) : ℝ := if hi : i < 8192 then if i < q.val then -sp (L p h q ⟨i, hi⟩) else 0 else 0
/-- Its sum over the keys before `n`. -/
def SS (h : Fin 8) (q : Fin 8192) (n : ℕ) : ℝ := ∑ i ∈ Finset.range n, FF p h q i
/-- A weight. -/
def W (h : Fin 8) (q k : Fin 8192) : ℝ := if k.val < q.val then Real.exp (L p h q k + SS p h q 8192 - SS p h q k.val) else 0

/-- A weight's gradient, and the weight times it. -/
def DW (h : Fin 8) (q k : Fin 8192) : ℝ := ∑ d : Fin 64, o q (oi h d) * p k (vi h d)
def E (h : Fin 8) (q k : Fin 8192) : ℝ := W p h q k * DW p o h q k
def EN (h : Fin 8) (q : Fin 8192) (i : ℕ) : ℝ := if hi : i < 8192 then E p o h q ⟨i, hi⟩ else 0
/-- Its sum over the keys before `n`. -/
def ES (h : Fin 8) (q : Fin 8192) (n : ℕ) : ℝ := ∑ i ∈ Finset.range n, EN p o h q i
/-- A logit's gradient. -/
def G (h : Fin 8) (q k : Fin 8192) : ℝ := if k.val < q.val then E p o h q k - sg (L p h q k) * ES p o h q (k.val + 1) else 0

variable {p o} {P : FVec Ideal S8192x5120 .f32} (hP : ∀ r (c : Fin 5120), 1024 ≤ c.val → c.val < 2560 → P (ix2 r c) = (p r c : EReal))

include hP in
theorem lgT_at (h : Fin 8) (q k : Fin 8192) : lgT P (ix3 h q k) = (L p h q k : EReal) := by
  unfold lgT
  pointwise
  have e : Ideal.ofBits FTy.f32 1040187392#32 = ((1 / 8 : ℝ) : EReal) := by
    simp [Ideal.ofBits, Ideal.ieee]
    rw [← EReal.coe_mul]
    norm_num
  rw [e]
  unfold L
  rw [EReal.coe_mul, coe_sum]
  refine congrArg (· * ((1 / 8 : ℝ) : EReal)) (Finset.sum_congr rfl fun d _ => ?_)
  rw [EReal.coe_mul]
  exact congrArg₂ (· * ·) (hP _ _ (by simp only [qi]; omega) (by simp only [qi]; omega)) (hP _ _ (by simp only [ki]; omega) (by simp only [ki]; omega))

theorem coe_max (x y : ℝ) : ((max x y : ℝ) : EReal) = max (x : EReal) (y : EReal) := EReal.coe_strictMono.monotone.map_max

/-- `log (1 + exp x)` as it is computed. -/
theorem sp_coe (x : ℝ) : max (x : EReal) 0 + Ideal.log1p (Ideal.exp (-FloatOps.absf (F := Ideal) (φ := .f32) (x : EReal))) = (sp x : EReal) := by
  have e : FloatOps.absf (F := Ideal) (φ := .f32) (x : EReal) = ((|x| : ℝ) : EReal) := by
    show max (x : EReal) (-(x : EReal)) = _
    rw [← EReal.coe_neg, ← coe_max]
    rfl
  have hp : ¬ 1 + Real.exp (-|x|) ≤ 0 := by have := Real.exp_pos (-|x|); linarith
  rw [e, ← EReal.coe_neg, Ideal.exp_coe]
  unfold Ideal.log1p sp
  rw [← EReal.coe_one, ← EReal.coe_add, Ideal.log_coe, if_neg hp, ← EReal.coe_zero, ← coe_max, ← EReal.coe_add]

theorem spT_at (x : FVec Ideal S8x8192x8192 .f32) (h : Fin 8) (q k : Fin 8192) (r : ℝ) (hx : x (ix3 h q k) = (r : EReal)) :
    spT x (ix3 h q k) = ((sp r : ℝ) : EReal) := by
  unfold spT
  pointwise
  rw [hx, if_neg (fun h => h rfl), sp_coe]

theorem finT_at (x : FVec Ideal S8x8192x8192 .f32) (h : Fin 8) (q k : Fin 8192) (r : ℝ) (hx : x (ix3 h q k) = (r : EReal)) :
    finT x (ix3 h q k) = (r : EReal) := by
  have e : Ideal.ofBits FTy.f32 2139095040#32 = ⊤ := by simp [Ideal.ofBits, Ideal.ieee]
  unfold finT
  pointwise
  rw [hx, e, if_neg (EReal.coe_ne_top r)]

theorem sgT_at (x : FVec Ideal S8x8192x8192 .f32) (h : Fin 8) (q k : Fin 8192) (r : ℝ) (hx : x (ix3 h q k) = (r : EReal)) :
    sgT x (ix3 h q k) = ((sg r : ℝ) : EReal) := by
  unfold sgT
  show Ideal.exp (finT x (ix3 h q k) - finT (spT x) (ix3 h q k)) = _
  rw [finT_at _ h q k r hx, finT_at _ h q k _ (spT_at x h q k r hx), ← EReal.coe_sub, Ideal.exp_coe]
  rfl

theorem lsT_at (x : FVec Ideal S8x8192x8192 .f32) (h : Fin 8) (q k : Fin 8192) (r : ℝ) (hx : x (ix3 h q k) = (r : EReal)) :
    lsT x (ix3 h q k) = ((-sp (-r) : ℝ) : EReal) := by
  unfold lsT
  show -(spT (Host.negf x) (ix3 h q k)) = _
  rw [spT_at _ h q k (-r) (by show -(x (ix3 h q k)) = _; rw [hx, EReal.coe_neg]), EReal.coe_neg]

theorem toInt_small (a : ℕ) (ha : a < 2147483648) : (BitVec.ofNat 32 a).toInt = a := by
  rw [BitVec.toInt_eq_toNat_cond, BitVec.toNat_ofNat, Nat.mod_eq_of_lt (by omega), if_pos (by omega)]

theorem slt_small (a b : ℕ) (ha : a < 2147483648) (hb : b < 2147483648) :
    IntOp.cmpi CmpIPredicate.slt (BitVec.ofNat 32 a) (BitVec.ofNat 32 b) = BitVec.ofBool (decide (a < b)) := by
  show BitVec.ofBool (BitVec.slt _ _) = _
  rw [BitVec.slt, toInt_small a ha, toInt_small b hb]
  simp

theorem sle_small (a b : ℕ) (ha : a < 2147483648) (hb : b < 2147483648) :
    IntOp.cmpi CmpIPredicate.sle (BitVec.ofNat 32 a) (BitVec.ofNat 32 b) = BitVec.ofBool (decide (a ≤ b)) := by
  show BitVec.ofBool (BitVec.sle _ _) = _
  rw [BitVec.sle, toInt_small a ha, toInt_small b hb]
  simp

theorem maskT_at (q k : Fin 8192) : maskT (ix3 0 q k) = BitVec.ofBool (decide (k.val < q.val)) := by
  unfold maskT
  pointwise
  exact slt_small _ _ (by omega) (by omega)

theorem whT_at (x : FVec Ideal S8x8192x8192 .f32) (h : Fin 8) (q k : Fin 8192) :
    whT x (ix3 h q k) = if k.val < q.val then x (ix3 h q k) else (0 : EReal) := by
  unfold whT
  pointwise [maskT_at]

theorem FF_lt (h : Fin 8) (q i : Fin 8192) : FF p h q i.val = if i.val < q.val then -sp (L p h q i) else 0 := by
  unfold FF; rw [dif_pos i.isLt]

include hP in
theorem lbT_at (h : Fin 8) (q k : Fin 8192) : lbT P (ix3 h q k) = (FF p h q k.val : EReal) := by
  unfold lbT
  rw [whT_at, FF_lt]
  split
  · rw [lsT_at _ h q k (-L p h q k) (by
      show -(lgT P (ix3 h q k)) = _
      rw [lgT_at hP, EReal.coe_neg]), neg_neg]
  · rfl

theorem SS_add (h : Fin 8) (q : Fin 8192) (n k : ℕ) : SS p h q (n + k) = SS p h q n + ∑ i ∈ Finset.range k, FF p h q (n + i) := Finset.sum_range_add _ _ _

include hP in
theorem cumT_at (h : Fin 8) (q k : Fin 8192) : cumT (lbT P) (ix3 h q k) = ((SS p h q 8192 - SS p h q k.val : ℝ) : EReal) := by
  have e : SS p h q 8192 = SS p h q k.val + ∑ i ∈ Finset.range (8192 - k.val), FF p h q (k.val + i) := by
    rw [← SS_add]; exact congrArg _ (by omega)
  rw [e, add_sub_cancel_left, coe_sum]
  unfold cumT
  exact last3 (hi := 8191) (N := 8192) _ _ _ _ (by pointwise) (fun i => (FF p h q i : EReal)) h q (fun i => lbT_at hP h q i) k

include hP in
theorem wuT_at (h : Fin 8) (q k : Fin 8192) (hk : k.val < q.val) : wuT P (ix3 h q k) = (W p h q k : EReal) := by
  unfold wuT W
  rw [if_pos hk]
  show Ideal.exp (lsT (lgT P) (ix3 h q k) + (cumT (lbT P) (ix3 h q k) - lbT P (ix3 h q k))) = _
  rw [lsT_at _ h q k _ (lgT_at hP h q k), cumT_at hP, lbT_at hP, ← EReal.coe_sub, ← EReal.coe_add, Ideal.exp_coe, FF_lt, if_pos hk]
  refine congrArg (fun x => ((Real.exp x : ℝ) : EReal)) ?_
  have := sp_sub (L p h q k)
  linarith

theorem W_off (h : Fin 8) (q k : Fin 8192) (hk : ¬ k.val < q.val) : W p h q k = 0 := if_neg hk

include hP in
theorem wtT_at (h : Fin 8) (q k : Fin 8192) : wtT P (ix3 h q k) = (W p h q k : EReal) := by
  unfold wtT
  rw [whT_at]
  split
  · rename_i hk; exact wuT_at hP h q k hk
  · rename_i hk; rw [W_off h q k hk]; rfl

include hP in
/-- An entry of the reference's third result. -/
theorem dvT_at (D : FVec Ideal S8192x512 .f32) (k : Fin 8192) (j : Fin 512) : dvT P D (ix2 k j)
    = ∑ q : Fin 8192, D (ix2 q j) * (W p ⟨j.val / 64, by omega⟩ q k : EReal) := by
  unfold dvT
  pointwise
  exact Finset.sum_congr rfl fun q _ => congrArg (D (ix2 q j) * ·) (wtT_at hP _ q k)

variable {D : FVec Ideal S8192x512 .f32} (hD : ∀ r (c : Fin 512), D (ix2 r c) = (o r c : EReal))

include hP hD in
theorem dwT_at (h : Fin 8) (q k : Fin 8192) : dwT P D (ix3 h q k) = (DW p o h q k : EReal) := by
  unfold dwT
  pointwise
  unfold DW
  rw [coe_sum]
  refine Finset.sum_congr rfl fun d _ => ?_
  rw [EReal.coe_mul]
  exact congrArg₂ (· * ·) (hD _ _) (hP _ _ (by simp only [vi]; omega) (by simp only [vi]; omega))

include hP hD in
theorem eT_at (h : Fin 8) (q k : Fin 8192) : eT P D (ix3 h q k) = (E p o h q k : EReal) := by
  show whT (dwT P D) (ix3 h q k) * wuT P (ix3 h q k) = _
  unfold E
  rw [whT_at]
  split
  · rename_i hk
    rw [dwT_at hP hD, wuT_at hP h q k hk, ← EReal.coe_mul, mul_comm]
  · rename_i hk
    rw [W_off h q k hk, zero_mul, zero_mul]; rfl

theorem EN_fin (h : Fin 8) (q k : Fin 8192) : EN p o h q k.val = E p o h q k := dif_pos k.isLt

theorem ES_add (h : Fin 8) (q : Fin 8192) (n k : ℕ) : ES p o h q (n + k) = ES p o h q n + ∑ i ∈ Finset.range k, EN p o h q (n + i) := Finset.sum_range_add _ _ _

include hP hD in
theorem preT_at (h : Fin 8) (q k : Fin 8192) : preT (eT P D) (ix3 h q k) = (ES p o h q (k.val + 1) : EReal) := by
  unfold ES preT
  rw [coe_sum]
  exact first3 (lo := 8191) (N := 8192) rfl _ _ _ _ (by pointwise) (fun i => (EN p o h q i : EReal)) h q
    (fun i => (eT_at hP hD h q i).trans (by rw [EN_fin])) k

theorem E_off (h : Fin 8) (q k : Fin 8192) (hk : ¬ k.val < q.val) : E p o h q k = 0 := by unfold E; rw [W_off h q k hk, zero_mul]

include hP hD in
theorem dlT_at (h : Fin 8) (q k : Fin 8192) : dlT (eT P D) (lgT P) (ix3 h q k) = ((G p o h q k * (1 / 8) : ℝ) : EReal) := by
  have hl : Host.negf (lgT P) (ix3 h q k) = ((-L p h q k : ℝ) : EReal) := by
    show -(lgT P (ix3 h q k)) = _
    rw [lgT_at hP, EReal.coe_neg]
  have hl2 : Host.negf (Host.negf (lgT P)) (ix3 h q k) = ((L p h q k : ℝ) : EReal) := by
    show -(Host.negf (lgT P) (ix3 h q k)) = _
    rw [hl, ← EReal.coe_neg, neg_neg]
  have hs := sgT_at _ h q k _ hl
  have hs2 := sgT_at _ h q k _ hl2
  have he := eT_at hP hD h q k
  have hp := preT_at hP hD h q k
  have e8 : Ideal.ofBits FTy.f32 0x3E000000#32 = ((1 / 8 : ℝ) : EReal) := by
    simp [Ideal.ofBits, Ideal.ieee]
    rw [← EReal.coe_mul]
    norm_num
  have hw : whT (addf (Host.negf (eT P D)) (preT (eT P D))) (ix3 h q k)
      = ((if k.val < q.val then -E p o h q k + ES p o h q (k.val + 1) else 0 : ℝ) : EReal) := by
    rw [whT_at]
    split
    · show -(eT P D (ix3 h q k)) + preT (eT P D) (ix3 h q k) = _
      rw [he, hp, ← EReal.coe_neg, ← EReal.coe_add]
    · rfl
  show (-(-(-(whT (addf (Host.negf (eT P D)) (preT (eT P D))) (ix3 h q k)) * sgT (Host.negf (Host.negf (lgT P))) (ix3 h q k)))
    + -(-(eT P D (ix3 h q k)) * sgT (Host.negf (lgT P)) (ix3 h q k))) * Ideal.ofBits FTy.f32 0x3E000000#32 = _
  rw [hw, hs, hs2, he, e8]
  simp only [← EReal.coe_neg, ← EReal.coe_mul, ← EReal.coe_add]
  refine congrArg (fun x : ℝ => (x : EReal)) ?_
  unfold G
  rw [sg_neg]
  split
  · ring
  · rename_i hk
    rw [E_off h q k hk]; ring

/-- The head of a column, and a column of the queries and of the keys. -/
def hd (j : Fin 512) : Fin 8 := ⟨j.val / 64, by omega⟩
def cq (j : Fin 512) : Fin 5120 := ⟨1024 + j.val, by omega⟩
def ck (j : Fin 512) : Fin 5120 := ⟨1536 + j.val, by omega⟩

include hP hD in
/-- An entry of the reference's second result. -/
theorem dkT_at (k : Fin 8192) (j : Fin 512) : dkT P D (ix2 k j)
    = ((∑ q : Fin 8192, G p o (hd j) q k * (1 / 8) * p q (cq j) : ℝ) : EReal) := by
  have hl := dlT_at hP hD
  rw [coe_sum]
  unfold dkT
  generalize dlT (eT P D) (lgT P) = A at hl ⊢
  pointwise
  refine Finset.sum_congr rfl fun q _ => ?_
  rw [EReal.coe_mul]
  exact congrArg₂ (· * ·) (hl _ q k) (hP q (cq j) (by simp only [cq]; omega) (by simp only [cq]; omega))

include hP hD in
/-- An entry of the reference's first result. -/
theorem dqT_at (q : Fin 8192) (j : Fin 512) : dqT P D (ix2 q j)
    = ((∑ k : Fin 8192, G p o (hd j) q k * (1 / 8) * p k (ck j) : ℝ) : EReal) := by
  have hl := dlT_at hP hD
  rw [coe_sum]
  unfold dqT
  generalize dlT (eT P D) (lgT P) = A at hl ⊢
  pointwise
  refine Finset.sum_congr rfl fun k _ => ?_
  rw [EReal.coe_mul]
  exact congrArg₂ (· * ·) (hl _ q k) (hP k (ck j) (by simp only [ck]; omega) (by simp only [ck]; omega))

end Cert.AttnWeights
-- ==== Proof.AttnHost.lean ====
/-
  The arrays the attention's backward call is given, as functions of the arguments.
-/
module

public import proofs.«01_k».proof.Proof.Gen.AttnIdeal.Frame
public import proofs.«01_k».proof.Proof.AttnWeights
public import Idealize.ShloMosaic.Lib.Pipeline.ValueKit

@[expose] public section
set_option maxRecDepth 65536
noncomputable section
open Idealize.ShloMosaic Idealize.ShloMosaic.TcCoe Idealize.ShloMosaic.Tactic Idealize.SL.Sem

namespace Cert.AttnIdeal.Host

open Cert.AttnIdeal Cert.AttnIdeal.Gen Cert.AttnWeights Cert.Reals

variable (m : (ℓ : Loc nD τ sig) → Buf (Elt Ideal) ℓ) (c : Dev nD)

abbrev P : FVec Ideal S8192x5120 .f32 := m ((c : Thread nD τ).loc main_arg0)
abbrev D : FVec Ideal S8192x512 .f32 := m ((c : Thread nD τ).loc main_arg1)

/-- A column of one, at one tile of each row block. -/
def pickT (M : IVec S32x32 1) (w : FVec Ideal S8x8192x8192 .f32) : FVec Ideal S8x32x256x256 .f32 :=
  Host.reduceAdd (select (broadcastInDim S8x32x256x32x256 ![0, 1, 2, 3, 4] bcast_S1x32x1x32x1_S8x32x256x32x256_0_1_2_3_4
      (broadcastInDim S1x32x1x32x1 ![1, 3] bcast_S32x32_S1x32x1x32x1_1_3 M))
    (shapeCast S8x32x256x32x256 w shapeCasts_S8x8192x8192_S8x32x256x32x256)
    (broadcastInDim S8x32x256x32x256 ![] bcast_S_S8x32x256x32x256 (constant (F := Ideal) S_ .f32 0x00000000#32)))
    (constant (F := Ideal) S_ .f32 0x00000000#32) reducesTo_S8x32x256x32x256_S8x32x256x256_d3 h_S_

def onT : IVec S32x32 1 := cmpi .eq (iotaInDim S32x32 32 0) (iotaInDim S32x32 32 1)
def offT : IVec S32x32 1 := cmpi .eq (iotaInDim S32x32 32 0) (addi (iotaInDim S32x32 32 1) (broadcastInDim S32x32 ![] bcast_S_S32x32 (constantI S_ 32 1#32)))

/-- The tiles' sums of what the keys leave. -/
def sumsT (x : FVec Ideal S8x8192x8192 .f32) : FVec Ideal S8x32x256x32 .f32 :=
  Host.negf (Host.reduceAdd (shapeCast S8x32x256x32x256 x shapeCasts_S8x8192x8192_S8x32x256x32x256)
    (constant (F := Ideal) S_ .f32 0x00000000#32) reducesTo_S8x32x256x32x256_S8x32x256x32_d4 h_S_)

/-- The carries: the sums over the tiles after one. -/
def carT (s : FVec Ideal S8x32x256x32 .f32) : FVec Ideal S8x32x256x32 .f32 :=
  select (broadcastInDim S8x32x256x32 ![0, 1, 2, 3] bcast_S1x32x1x32_S8x32x256x32_0_1_2_3
      (broadcastInDim S1x32x1x32 ![1, 3] bcast_S32x32_S1x32x1x32_1_3 (cmpi .sle (iotaInDim S32x32 32 1) (iotaInDim S32x32 32 0))))
    (subf (Host.reduceWindowAdd ![1, 1, 1, 32] ![1, 1, 1, 1] ![0, 0, 0, 0] ![0, 0, 0, 31] s
      (broadcastInDim S_ ![] bcast_S_S_ (constant (F := Ideal) S_ .f32 0x00000000#32))
      reduceWindows_S8x32x256x32_S8x32x256x32_w1s1p0_0_w1s1p0_0_w1s1p0_0_w32s1p0_31 h_S_) s)
    (broadcastInDim S8x32x256x32 ![] bcast_S_S8x32x256x32 (constant (F := Ideal) S_ .f32 0x7F61B1E6#32))

set_option maxHeartbeats 4000000 in
theorem V_v85 : V m c main_v85 = concatenate S8x32x256x512 3 [⟨S8x32x256x256, pickT offT (wtT (P m c))⟩, ⟨S8x32x256x256, pickT onT (wtT (P m c))⟩]
    concatenates_S8x32x256x256_S8x32x256x256_S8x32x256x512_d3 := by
  unfold V
  after_reads_simp
  refine congrArg₂ (fun x y => concatenate S8x32x256x512 3 [⟨S8x32x256x256, x⟩, ⟨S8x32x256x256, y⟩]
    concatenates_S8x32x256x256_S8x32x256x256_S8x32x256x512_d3) ?_ ?_
  · after_reads_simp
    all_goals try simp -implicitDefEqProofs only [StableHlo.TRef.toBuf, StableHlo.TRef.ofBuf, cast_cast, cast_eq]
    rfl
  · after_reads_simp
    all_goals try simp -implicitDefEqProofs only [StableHlo.TRef.toBuf, StableHlo.TRef.ofBuf, cast_cast, cast_eq]
    rfl

/-- The logistic values that are kept. -/
def btT (P : FVec Ideal S8192x5120 .f32) : FVec Ideal S8x8192x8192 .f32 :=
  whT (Host.divf (broadcastInDim S8x8192x8192 ![] bcast_S_S8x8192x8192 (constant (F := Ideal) S_ .f32 0x3F800000#32))
    (addf (broadcastInDim S8x8192x8192 ![] bcast_S_S8x8192x8192 (constant (F := Ideal) S_ .f32 0x3F800000#32)) (Host.exp (Host.negf (lgT P)))))

set_option maxHeartbeats 4000000 in
theorem V_v92 : V m c main_v92 = concatenate S8x32x256x512 3 [⟨S8x32x256x256, pickT offT (btT (P m c))⟩, ⟨S8x32x256x256, pickT onT (btT (P m c))⟩]
    concatenates_S8x32x256x256_S8x32x256x256_S8x32x256x512_d3 := by
  unfold V
  after_reads_simp
  refine congrArg₂ (fun x y => concatenate S8x32x256x512 3 [⟨S8x32x256x256, x⟩, ⟨S8x32x256x256, y⟩]
    concatenates_S8x32x256x256_S8x32x256x256_S8x32x256x512_d3) ?_ ?_
  · after_reads_simp
    all_goals try simp -implicitDefEqProofs only [StableHlo.TRef.toBuf, StableHlo.TRef.ofBuf, cast_cast, cast_eq]
    rfl
  · after_reads_simp
    all_goals try simp -implicitDefEqProofs only [StableHlo.TRef.toBuf, StableHlo.TRef.ofBuf, cast_cast, cast_eq]
    rfl

set_option maxHeartbeats 4000000 in
theorem V_v75 : ∃ y z, V m c main_v75 = concatenate S8x32x256x128 3 [⟨S8x32x256x32, carT (sumsT (lbT (P m c)))⟩, ⟨S8x32x256x95, y⟩, ⟨S8x32x256x1, z⟩]
    concatenates_S8x32x256x32_S8x32x256x95_S8x32x256x1_S8x32x256x128_d3 := by
  unfold V
  after_reads_simp
  refine ⟨_, _, congrArg (fun x : FVec Ideal S8x32x256x32 .f32 => concatenate S8x32x256x128 3 [⟨S8x32x256x32, x⟩, ⟨S8x32x256x95, _⟩, ⟨S8x32x256x1, _⟩]
    concatenates_S8x32x256x32_S8x32x256x95_S8x32x256x1_S8x32x256x128_d3) ?_⟩
  change StableHlo.upto _ _ 136 (Proc.tc.devRef main_v57) = _
  after_reads_simp
  all_goals try simp -implicitDefEqProofs only [StableHlo.TRef.toBuf, StableHlo.TRef.ofBuf, cast_cast, cast_eq]
  rfl

set_option maxHeartbeats 4000000 in
theorem V_v77 : V m c main_v77 = truncf .bf16 (extractStridedSlice S8192x1536 ![0, 1024] (P m c) slices_S8192x5120_S8192x1536_0_1024) bitsLt_bf16_f32 := by
  unfold V
  after_reads_simp

set_option maxHeartbeats 4000000 in
theorem V_v78 : V m c main_v78 = truncf .bf16 (D m c) bitsLt_bf16_f32 := by
  unfold V
  after_reads_simp

/-! ## Entries -/

theorem tile_row (a : Fin 32) (r : Fin 256) : (⟨a.val * 256 + r.val, by omega⟩ : Fin 8192) = ⟨256 * a.val + r.val, by omega⟩ :=
  Fin.ext (by show a.val * 256 + r.val = 256 * a.val + r.val; omega)

theorem pickT_at (M : IVec S32x32 1) (w : FVec Ideal S8x8192x8192 .f32) (h : Fin 8) (a : Fin 32) (r k : Fin 256) :
    pickT M w (ix4 h a r k) = ∑ j : Fin 32, if M (ix2 a j) = 1#1 then w (ix3 h ⟨256 * a.val + r.val, by omega⟩ ⟨256 * j.val + k.val, by omega⟩) else (0 : EReal) := by
  unfold pickT
  pointwise
  refine Finset.sum_congr rfl fun j _ => ?_
  rw [tile_row a r, tile_row j k]
  rfl

theorem sumsT_at (x : FVec Ideal S8x8192x8192 .f32) (h : Fin 8) (a : Fin 32) (r : Fin 256) (j : Fin 32) :
    sumsT x (ix4 h a r j) = -∑ k : Fin 256, (x (ix3 h ⟨256 * a.val + r.val, by omega⟩ ⟨256 * j.val + k.val, by omega⟩) : EReal) := by
  unfold sumsT
  pointwise
  exact congrArg (fun z : EReal => -z) (Finset.sum_congr rfl fun k _ => congrArg x (congrArg₂ (ix3 h) (tile_row a r) (tile_row j k)))

theorem onT_at (a j : Fin 32) : onT (ix2 a j) = BitVec.ofBool (decide (a = j)) := by
  revert a j; decide +kernel

theorem offT_at (a j : Fin 32) : offT (ix2 a j) = BitVec.ofBool (decide (a.val = j.val + 1)) := by
  revert a j; decide +kernel

theorem pick_own (w : FVec Ideal S8x8192x8192 .f32) (h : Fin 8) (a : Fin 32) (r k : Fin 256) : pickT onT w (ix4 h a r k)
    = w (ix3 h ⟨256 * a.val + r.val, by omega⟩ ⟨256 * a.val + k.val, by omega⟩) := by
  rw [pickT_at, Finset.sum_eq_single a]
  · rw [onT_at, decide_eq_true rfl]; rfl
  · intro j _ hj
    rw [onT_at, decide_eq_false (fun h => hj h.symm)]; rfl
  · exact fun h => absurd (Finset.mem_univ _) h

theorem pick_before (w : FVec Ideal S8x8192x8192 .f32) (h : Fin 8) (a j : Fin 32) (ha : a.val = j.val + 1) (r k : Fin 256) : pickT offT w (ix4 h a r k)
    = w (ix3 h ⟨256 * a.val + r.val, by omega⟩ ⟨256 * j.val + k.val, by omega⟩) := by
  rw [pickT_at, Finset.sum_eq_single j]
  · rw [offT_at, decide_eq_true ha]; rfl
  · intro j' _ hj
    rw [offT_at, decide_eq_false (fun h => hj (Fin.ext (by omega)))]; rfl
  · exact fun h => absurd (Finset.mem_univ _) h

variable {m c} {p : Fin 8192 → Fin 5120 → ℝ} (hP : ∀ r (k : Fin 5120), 1024 ≤ k.val → k.val < 2560 → P m c (ix2 r k) = (p r k : EReal))

include hP in
theorem btT_at (h : Fin 8) (q k : Fin 8192) : btT (P m c) (ix3 h q k) = ((if k.val < q.val then sg (L p h q k) else 0 : ℝ) : EReal) := by
  have e1 : Ideal.ofBits FTy.f32 0x3F800000#32 = ((1 : ℝ) : EReal) := by
    simp [Ideal.ofBits, Ideal.ieee]
    rw [← EReal.coe_mul]
    norm_num
  unfold btT
  rw [whT_at]
  split
  · show Ideal.div (Ideal.ofBits FTy.f32 0x3F800000#32) (Ideal.ofBits FTy.f32 0x3F800000#32 + Ideal.exp (-(lgT (P m c) (ix3 h q k)))) = _
    have hp := Real.exp_pos (-L p h q k)
    rw [lgT_at hP, e1, ← EReal.coe_neg, Ideal.exp_coe, ← EReal.coe_add, div_coe_coe _ _ (by linarith), sg_eq]
  · rfl

include hP in
theorem sums_at (h : Fin 8) (a : Fin 32) (r : Fin 256) (j : Fin 32) (q : Fin 8192) (hq : q.val = 256 * a.val + r.val) :
    sumsT (lbT (P m c)) (ix4 h a r j) = ((SS p h q (256 * j.val) - SS p h q (256 * (j.val + 1)) : ℝ) : EReal) := by
  have hq' : (⟨256 * a.val + r.val, by omega⟩ : Fin 8192) = q := Fin.ext hq.symm
  rw [sumsT_at]
  simp only [hq', lbT_at hP]
  rw [← coe_sum, ← EReal.coe_neg]
  refine congrArg _ ?_
  have e := SS_add (p := p) h q (256 * j.val) 256
  rw [show 256 * j.val + 256 = 256 * (j.val + 1) by ring, ← Fin.sum_univ_eq_sum_range (fun i => FF p h _ (256 * j.val + i))] at e
  linarith

include hP in
theorem car_at (h : Fin 8) (a : Fin 32) (r : Fin 256) (j : Fin 32) (hj : j.val ≤ a.val) (q : Fin 8192) (hq : q.val = 256 * a.val + r.val) :
    carT (sumsT (lbT (P m c))) (ix4 h a r j) = ((SS p h q (256 * (j.val + 1)) - SS p h q 8192 : ℝ) : EReal) := by
  have e : ∀ n k : ℕ, ∑ i ∈ Finset.range k, (SS p h q (256 * (n + i)) - SS p h q (256 * (n + i + 1))) = SS p h q (256 * n) - SS p h q (256 * (n + k)) := by
    intro n k
    induction k with
    | zero => simp
    | succ k ih => rw [Finset.sum_range_succ, ih]; simp only [← add_assoc]; ring
  have hc : Host.reduceWindowAdd ![1, 1, 1, 32] ![1, 1, 1, 1] ![0, 0, 0, 0] ![0, 0, 0, 31] (sumsT (lbT (P m c)))
      (broadcastInDim S_ ![] bcast_S_S_ (constant (F := Ideal) S_ .f32 0x00000000#32))
      reduceWindows_S8x32x256x32_S8x32x256x32_w1s1p0_0_w1s1p0_0_w1s1p0_0_w32s1p0_31 h_S_ (ix4 h a r j)
      = ((SS p h q (256 * j.val) - SS p h q 8192 : ℝ) : EReal) := by
    refine (last4 (hi := 31) (N := 32) _ _ _ _ (by pointwise) (fun i => ((SS p h q (256 * i) - SS p h q (256 * (i + 1)) : ℝ) : EReal)) h a r
      (fun i => sums_at hP h a r i q hq) j).trans ?_
    rw [← coe_sum, e, show 256 * (j.val + (32 - j.val)) = 8192 by omega]
  have hs := sums_at hP h a r j q hq
  unfold carT
  generalize Host.reduceWindowAdd ![1, 1, 1, 32] ![1, 1, 1, 1] ![0, 0, 0, 0] ![0, 0, 0, 31] (sumsT (lbT (P m c)))
      (broadcastInDim S_ ![] bcast_S_S_ (constant (F := Ideal) S_ .f32 0x00000000#32))
      reduceWindows_S8x32x256x32_S8x32x256x32_w1s1p0_0_w1s1p0_0_w1s1p0_0_w32s1p0_31 h_S_ = A at hc ⊢
  generalize sumsT (lbT (P m c)) = B at hs ⊢
  pointwise
  rw [hc, hs, sle_small _ _ (by omega) (by omega), decide_eq_true hj, ← EReal.coe_sub]
  refine congrArg (fun x : ℝ => (x : EReal)) ?_
  ring

theorem cat_own (A B : FVec Ideal S8x32x256x256 .f32) (h : Fin 8) (a : Fin 32) (r k : Fin 256) :
    concatenate S8x32x256x512 3 [⟨S8x32x256x256, B⟩, ⟨S8x32x256x256, A⟩] concatenates_S8x32x256x256_S8x32x256x256_S8x32x256x512_d3
      (ix4 h a r ⟨256 + k.val, by omega⟩) = A (ix4 h a r k) := by
  pointwise

theorem cat_before (A B : FVec Ideal S8x32x256x256 .f32) (h : Fin 8) (a : Fin 32) (r k : Fin 256) :
    concatenate S8x32x256x512 3 [⟨S8x32x256x256, B⟩, ⟨S8x32x256x256, A⟩] concatenates_S8x32x256x256_S8x32x256x256_S8x32x256x512_d3
      (ix4 h a r ⟨k.val, by omega⟩) = B (ix4 h a r k) := by
  pointwise

include hP in
theorem V_own (h : Fin 8) (a : Fin 32) (r k : Fin 256) : (V m c main_v85 : S8x32x256x512.Idx → EReal) (ix4 h a r ⟨256 + k.val, by omega⟩)
    = (W p h ⟨256 * a.val + r.val, by omega⟩ ⟨256 * a.val + k.val, by omega⟩ : EReal) := by
  rw [V_v85]
  exact (cat_own _ _ h a r k).trans ((pick_own _ h a r k).trans (wtT_at hP _ _ _))

include hP in
theorem V_before (h : Fin 8) (a j : Fin 32) (ha : a.val = j.val + 1) (r k : Fin 256) : (V m c main_v85 : S8x32x256x512.Idx → EReal) (ix4 h a r ⟨k.val, by omega⟩)
    = (W p h ⟨256 * a.val + r.val, by omega⟩ ⟨256 * j.val + k.val, by omega⟩ : EReal) := by
  rw [V_v85]
  exact (cat_before _ _ h a r k).trans ((pick_before _ h a j ha r k).trans (wtT_at hP _ _ _))

include hP in
theorem V_own' (h : Fin 8) (a : Fin 32) (r k : Fin 256) : (V m c main_v92 : S8x32x256x512.Idx → EReal) (ix4 h a r ⟨256 + k.val, by omega⟩)
    = ((if 256 * a.val + k.val < 256 * a.val + r.val then sg (L p h ⟨256 * a.val + r.val, by omega⟩ ⟨256 * a.val + k.val, by omega⟩) else 0 : ℝ) : EReal) := by
  rw [V_v92]
  exact (cat_own _ _ h a r k).trans ((pick_own _ h a r k).trans (btT_at hP _ _ _))

include hP in
theorem V_before' (h : Fin 8) (a j : Fin 32) (ha : a.val = j.val + 1) (r k : Fin 256) : (V m c main_v92 : S8x32x256x512.Idx → EReal) (ix4 h a r ⟨k.val, by omega⟩)
    = ((if 256 * j.val + k.val < 256 * a.val + r.val then sg (L p h ⟨256 * a.val + r.val, by omega⟩ ⟨256 * j.val + k.val, by omega⟩) else 0 : ℝ) : EReal) := by
  rw [V_v92]
  exact (cat_before _ _ h a r k).trans ((pick_before _ h a j ha r k).trans (btT_at hP _ _ _))

theorem V_car (h : Fin 8) (a : Fin 32) (r : Fin 256) (j : Fin 32) : (V m c main_v75 : S8x32x256x128.Idx → EReal) (ix4 h a r ⟨j.val, by omega⟩)
    = carT (sumsT (lbT (P m c))) (ix4 h a r j) := by
  obtain ⟨y, z, e⟩ := V_v75 m c
  rw [e]
  generalize carT (sumsT (lbT (P m c))) = A
  pointwise

theorem V_qkv (r : Fin 8192) (k : Fin 1536) : (V m c main_v77 : S8192x1536.Idx → EReal) (ix2 r k) = P m c (ix2 r ⟨1024 + k.val, by omega⟩) := by
  rw [V_v77]
  pointwise

theorem V_do (r : Fin 8192) (k : Fin 512) : (V m c main_v78 : S8192x512.Idx → EReal) (ix2 r k) = D m c (ix2 r k) := by
  rw [V_v78]
  rfl

end Cert.AttnIdeal.Host
-- ==== Proof.AttnEntries.lean ====
/-
  The pieces of a row block's weights, entry by entry.
-/
module

public import proofs.«01_k».proof.Proof.AttnPoint
public import proofs.«01_k».proof.Proof.AttnWeights
public import Idealize.ShloMosaic.Lib.Pipeline.ValueKit

@[expose] public section
set_option maxRecDepth 65536
noncomputable section
open Idealize.ShloMosaic Idealize.ShloMosaic.TcCoe Idealize.ShloMosaic.Tactic Idealize.SL.Sem

namespace Cert.AttnIdeal.Text

open Cert.AttnIdeal Cert.AttnIdeal.Gen Cert.BufferText Cert.AttnWeights

theorem sge_small (a b : ℕ) (ha : a < 2147483648) (hb : b < 2147483648) :
    IntOp.cmpi CmpIPredicate.sge (BitVec.ofNat 32 a) (BitVec.ofNat 32 b) = BitVec.ofBool (decide (b ≤ a)) := by
  show BitVec.ofBool (BitVec.sle _ _) = _
  rw [BitVec.sle, toInt_small a ha, toInt_small b hb]
  simp

theorem eq_small (a b : ℕ) (ha : a < 2147483648) (hb : b < 2147483648) :
    IntOp.cmpi CmpIPredicate.eq (BitVec.ofNat 32 a) (BitVec.ofNat 32 b) = BitVec.ofBool (decide (a = b)) := by
  have h : BitVec.ofNat 32 a = BitVec.ofNat 32 b ↔ a = b :=
    ⟨fun h => by have := congrArg BitVec.toNat h; simp only [BitVec.toNat_ofNat] at this; omega, fun h => by rw [h]⟩
  show BitVec.ofBool (BitVec.ofNat 32 a == BitVec.ofNat 32 b) = _
  refine congrArg BitVec.ofBool ?_
  rw [beq_eq_decide]
  exact decide_eq_decide.2 h

theorem ofBool_one (b : Bool) : (BitVec.ofBool b = 1#1) ↔ b = true := by cases b <;> simp

theorem half0_at (d : Fin 128) : half0 (ix2 0 d) = BitVec.ofBool (decide (d.val < 64)) := by
  pointwise
  exact slt_small _ _ (by omega) (by omega)

theorem half1_at (d : Fin 128) : half1 (ix2 0 d) = BitVec.ofBool (decide (64 ≤ d.val)) := by
  pointwise
  exact sge_small _ _ (by omega) (by omega)

theorem masked_at (m : IVec S1x128 1) (c : BitVec 32) (x : FVec Ideal S256x128 .bf16) (r : Fin 256) (d : Fin 128) :
    masked (F := Ideal) m c x (ix2 r d) = if m (ix2 0 d) = 1#1 then (x (ix2 r d) * Ideal.ofBits .f32 c : EReal) else 0 := by
  pointwise [masked, wideMask]
  rfl

theorem dotQ_at (l : FVec Ideal S256x128 .bf16) (r : FVec Ideal S128x256 .bf16) (x : S256x256.Idx) :
    dotQ (F := Ideal) l r x = ∑ k : Fin 128, (l (ix2 (x 0) k) * r (ix2 k (x 1)) : EReal) := by
  pointwise [dotQ, z256]

theorem dotP_at (l : FVec Ideal S256x256 .bf16) (r : FVec Ideal S256x256 .bf16) (x : S256x256.Idx) :
    dotP (F := Ideal) l r x = ∑ k : Fin 256, (l (ix2 (x 0) k) * r (ix2 k (x 1)) : EReal) := by
  pointwise [dotP, z256]

theorem softplus_at (l : FVec Ideal S256x256 .f32) (x : S256x256.Idx) (r : ℝ) (h : l x = (r : EReal)) : softplus (F := Ideal) l x = (sp r : EReal) := by
  pointwise [softplus]
  rw [h, zero_sub]
  exact sp_coe r

theorem suf_at (x y : FVec Ideal S256x128 .bf16) (k c : Fin 256) : suf (F := Ideal) (vals x y) (ix2 k c) = if c.val ≤ k.val then (1 : EReal) else 0 := by
  unfold suf vals
  pointwise
  rw [sge_small _ _ (by omega) (by omega)]
  by_cases h : c.val ≤ k.val
  · rw [if_pos h, decide_eq_true h]
    show (((BitVec.setWidth 32 (BitVec.ofBool true)).toInt : ℝ) : EReal) = 1
    rw [show (BitVec.setWidth 32 (BitVec.ofBool true)).toInt = 1 from rfl]
    simp
  · rw [if_neg h, decide_eq_false h]
    show (((BitVec.setWidth 32 (BitVec.ofBool false)).toInt : ℝ) : EReal) = 0
    rw [show (BitVec.setWidth 32 (BitVec.ofBool false)).toInt = 0 from rfl]
    simp

theorem carry_at (x y : FVec Ideal S256x128 .bf16) (j : Fin 32) (C : FVec Ideal S256x128 .f32) (z : S256x256.Idx) :
    carry (F := Ideal) (vals x y) (BitVec.ofNat 32 j.val) C z = C (ix2 (z 0) ⟨j.val, by omega⟩) := by
  unfold carry vals
  pointwise
  rw [Finset.sum_eq_single (⟨j.val, by omega⟩ : Fin 128)]
  · rw [eq_small _ _ (by simp; omega) (by omega), decide_eq_true rfl]
    rfl
  · intro d _ hd
    rw [eq_small _ _ (by omega) (by omega), decide_eq_false (fun h => hd (Fin.ext h))]
    rfl
  · exact fun h => absurd (Finset.mem_univ _) h

theorem pre_at (x y : FVec Ideal S256x128 .bf16) (k' k : Fin 256) : (vals (F := Ideal) x y).pre (ix2 k' k) = if k'.val ≤ k.val then (1 : EReal) else 0 := by
  unfold vals
  pointwise
  rw [sle_small _ _ (by omega) (by omega)]
  by_cases h : k'.val ≤ k.val
  · rw [if_pos h, decide_eq_true h]
    show (((BitVec.setWidth 32 (BitVec.ofBool true)).toInt : ℝ) : EReal) = 1
    rw [show (BitVec.setWidth 32 (BitVec.ofBool true)).toInt = 1 from rfl]
    simp
  · rw [if_neg h, decide_eq_false h]
    show (((BitVec.setWidth 32 (BitVec.ofBool false)).toInt : ℝ) : EReal) = 0
    rw [show (BitVec.setWidth 32 (BitVec.ofBool false)).toInt = 0 from rfl]
    simp

theorem last_at (P : FVec Ideal S256x256 .f32) (r : Fin 256) (l : Fin 128) : last (F := Ideal) P (ix2 r l) = P (ix2 r 255) := by
  pointwise [last]

theorem wide_lo (f : FVec Ideal S256x128 .f32) (r : Fin 256) (l : Fin 128) : wide (F := Ideal) f (ix2 r ⟨l.val, by omega⟩) = f (ix2 r l) := by
  pointwise [wide]
theorem wide_hi (f : FVec Ideal S256x128 .f32) (r : Fin 256) (l : Fin 128) : wide (F := Ideal) f (ix2 r ⟨128 + l.val, by omega⟩) = f (ix2 r l) := by
  pointwise [wide]

/-- Two copies of an array whose columns are all the same. -/
theorem wide_at (f : FVec Ideal S256x128 .f32) (r k : Fin 256) (g : EReal) (hf : ∀ l, f (ix2 r l) = g) : wide (F := Ideal) f (ix2 r k) = g := by
  by_cases h : k.val < 128
  · exact (wide_lo f r ⟨k.val, h⟩).trans (hf _)
  · have e : k = ⟨128 + (⟨k.val - 128, by omega⟩ : Fin 128).val, by simp; omega⟩ := Fin.ext (by simp; omega)
    rw [e]
    exact (wide_hi f r ⟨k.val - 128, by omega⟩).trans (hf _)

theorem btOf_at (l : FVec Ideal S256x256 .f32) (x : S256x256.Idx) (r : ℝ) (h : l x = (r : EReal)) : btOf (F := Ideal) l x = (sg r : EReal) := by
  show Ideal.exp (l x - softplus (F := Ideal) l x) = _
  rw [softplus_at l x r h, h, ← EReal.coe_sub, Ideal.exp_coe]
  rfl

end Cert.AttnIdeal.Text
-- ==== Proof.AttnValue.lean ====
/-
  The attention's backward call at the extended reals: the weights and the logits' gradients of every block are the
  reference's, and the three arrays after the run are the reference's results.
-/
module

public import proofs.«01_k».proof.Proof.AttnRun
public import proofs.«01_k».proof.Proof.AttnHost
public import proofs.«01_k».proof.Proof.AttnEntries

@[expose] public section
set_option maxRecDepth 65536
noncomputable section
open Idealize.ShloMosaic Idealize.ShloMosaic.TcCoe Idealize.ShloMosaic.Tactic Idealize.SL.Sem

namespace Cert.AttnIdeal.Value

open Cert.AttnIdeal Cert.AttnIdeal.Gen Cert.AttnIdeal.Text Cert.AttnIdeal.Run Cert.AttnIdeal.Host Cert.BufferText Cert.AttnWeights Cert.Reals

variable (m : (ℓ : Loc nD τ sig) → Buf (Elt Ideal) ℓ) (c : Dev nD) (t : Fin cfg0.N)

/-- The row, the pair and the head of a point. -/
def row (r : Fin 256) : Fin 8192 := ⟨256 * (t.val % 32) + r.val, by omega⟩
def head (b : Bool) : Fin 8 := ⟨2 * (t.val / 32) + b.toNat, by have := point_lt t; have := Bool.toNat_lt b; omega⟩
def tile : Fin 32 := ⟨t.val % 32, by omega⟩

/-- A column of the point's pair. -/
def col (d : Fin 128) : Fin 512 := ⟨128 * (t.val / 32) + d.val, by have := point_lt t; omega⟩

/-! ## The blocks a point reads -/

theorem blk0 (r : Fin 256) (d : Fin 128) : iblk m c 0 t (ix2 r d) = P m c (ix2 (row t r) ⟨1024 + (128 * (t.val / 32) + d.val), by have := point_lt t; omega⟩) := by
  refine Eq.trans ?_ (V_qkv (m := m) (c := c) (row t r) ⟨128 * (t.val / 32) + d.val, by have := point_lt t; omega⟩)
  blk_simp [iblk, idx t]; blk_ext [idx t, row]

theorem blk1 (k : Fin 8192) (d : Fin 128) : iblk m c 1 t (ix2 k d) = P m c (ix2 k ⟨1024 + (512 + 128 * (t.val / 32) + d.val), by have := point_lt t; omega⟩) := by
  refine Eq.trans ?_ (V_qkv (m := m) (c := c) k ⟨512 + 128 * (t.val / 32) + d.val, by have := point_lt t; omega⟩)
  blk_simp [iblk, idx t]; blk_ext [idx t, row]

theorem blk2 (k : Fin 8192) (d : Fin 128) : iblk m c 2 t (ix2 k d) = P m c (ix2 k ⟨1024 + (1024 + 128 * (t.val / 32) + d.val), by have := point_lt t; omega⟩) := by
  refine Eq.trans ?_ (V_qkv (m := m) (c := c) k ⟨1024 + 128 * (t.val / 32) + d.val, by have := point_lt t; omega⟩)
  blk_simp [iblk, idx t]; blk_ext [idx t, row]

theorem blk3 (r : Fin 256) (d : Fin 128) : iblk m c 3 t (ix2 r d) = D m c (ix2 (row t r) ⟨128 * (t.val / 32) + d.val, by have := point_lt t; omega⟩) := by
  refine Eq.trans ?_ (V_do (m := m) (c := c) (row t r) ⟨128 * (t.val / 32) + d.val, by have := point_lt t; omega⟩)
  blk_simp [iblk, idx t]; blk_ext [idx t, row]

theorem blk4 (b : Bool) (r : Fin 256) (l : Fin 128) : iblk m c 4 t (ix4 ⟨b.toNat, Bool.toNat_lt b⟩ 0 r l)
    = (V m c main_v75 : S8x32x256x128.Idx → EReal) (ix4 (head t b) (tile t) r l) := by
  blk_simp [iblk, idx t]; blk_ext [idx t, head, tile]

theorem blk5 (b : Bool) (r : Fin 256) (l : Fin 512) : iblk m c 5 t (ix4 ⟨b.toNat, Bool.toNat_lt b⟩ 0 r l)
    = (V m c main_v85 : S8x32x256x512.Idx → EReal) (ix4 (head t b) (tile t) r l) := by
  blk_simp [iblk, idx t]; blk_ext [idx t, head, tile]

theorem blk6 (b : Bool) (r : Fin 256) (l : Fin 512) : iblk m c 6 t (ix4 ⟨b.toNat, Bool.toNat_lt b⟩ 0 r l)
    = (V m c main_v92 : S8x32x256x512.Idx → EReal) (ix4 (head t b) (tile t) r l) := by
  blk_simp [iblk, idx t]; blk_ext [idx t, head, tile]

theorem cast4 {A : Type} (v : S1x1x256x128.Idx → A) (x : S256x128.Idx) :
    shapeCast S256x128 v shapeCasts_S1x1x256x128_S256x128 x = v (ix4 0 0 (x 0) (x 1)) := by
  pointwise

theorem cast5 {A : Type} (v : S1x1x256x256.Idx → A) (x : S256x256.Idx) :
    shapeCast S256x256 v shapeCasts_S1x1x256x256_S256x256 x = v (ix4 0 0 (x 0) (x 1)) := by
  pointwise

theorem car_found (b : Bool) (r : Fin 256) (l : Fin 128) : carOf (found m c t) b (ix2 r l)
    = (V m c main_v75 : S8x32x256x128.Idx → EReal) (ix4 (head t b) (tile t) r l) := by
  rw [← blk4]
  unfold carOf
  rw [cast4]
  refine congrArg (iblk m c 4 t) ?_
  funext d
  fin_cases d <;> exact Fin.ext (by simp [Rect.emb, Rect.unit])

theorem kept_found (b d : Bool) (r k : Fin 256) : keptOf (found m c t) false b d (ix2 r k)
    = (V m c main_v85 : S8x32x256x512.Idx → EReal) (ix4 (head t b) (tile t) r ⟨d.toNat * 256 + k.val, by have := Bool.toNat_lt d; omega⟩) := by
  rw [← blk5]
  unfold keptOf
  rw [cast5]
  refine congrArg (iblk m c 5 t) ?_
  funext d
  fin_cases d <;> exact Fin.ext (by simp [Rect.emb, Rect.unit])

theorem kept_found' (b d : Bool) (r k : Fin 256) : keptOf (found m c t) true b d (ix2 r k)
    = (V m c main_v92 : S8x32x256x512.Idx → EReal) (ix4 (head t b) (tile t) r ⟨d.toNat * 256 + k.val, by have := Bool.toNat_lt d; omega⟩) := by
  rw [← blk6]
  unfold keptOf
  rw [cast5]
  refine congrArg (iblk m c 6 t) ?_
  funext d
  fin_cases d <;> exact Fin.ext (by simp [Rect.emb, Rect.unit])

theorem key_found (j : Fin 32) (d : Fin 128) (k : Fin 256) : tT (found m c t) false j (ix2 d k)
    = P m c (ix2 ⟨256 * j.val + k.val, by omega⟩ ⟨1024 + (512 + 128 * (t.val / 32) + d.val), by have := point_lt t; omega⟩) := by
  rw [tT_found, ← blk1]
  unfold keys
  rw [tr_at]
  refine congrArg (iblk m c 1 t) ?_
  funext d
  fin_cases d <;> exact Fin.ext (by simp [Rect.emb, Rect.unit])

theorem value_found (j : Fin 32) (d : Fin 128) (k : Fin 256) : tT (found m c t) true j (ix2 d k)
    = P m c (ix2 ⟨256 * j.val + k.val, by omega⟩ ⟨1024 + (1024 + 128 * (t.val / 32) + d.val), by have := point_lt t; omega⟩) := by
  rw [tT_found, ← blk2]
  unfold keys
  rw [tr_at]
  refine congrArg (iblk m c 2 t) ?_
  funext d
  fin_cases d <;> exact Fin.ext (by simp [Rect.emb, Rect.unit])

/-! ## One head's lanes -/

theorem half_sum (b : Bool) (f : Fin 128 → EReal) : ∑ d : Fin 128, (if d.val / 64 = b.toNat then f d else 0)
    = ∑ e : Fin 64, f ⟨64 * b.toNat + e.val, by have := Bool.toNat_lt b; omega⟩ := by
  refine (Fin.sum_univ_add (a := 64) (b := 64) (fun d : Fin 128 => if d.val / 64 = b.toNat then f d else 0)).trans ?_
  cases b
  · refine (congrArg₂ (· + ·) (Finset.sum_congr rfl fun e _ => ?_) (Finset.sum_eq_zero fun e _ => ?_)).trans (add_zero _)
    · refine (if_pos (by show e.val / 64 = 0; omega)).trans (congrArg f (Fin.ext ?_))
      show e.val = 0 + e.val
      omega
    · exact if_neg (by show ¬ (64 + e.val) / 64 = 0; omega)
  · refine (congrArg₂ (· + ·) (Finset.sum_eq_zero fun e _ => ?_) (Finset.sum_congr rfl fun e _ => ?_)).trans (zero_add _)
    · exact if_neg (by show ¬ e.val / 64 = 1; omega)
    · refine (if_pos (by show (64 + e.val) / 64 = 1; omega)).trans (congrArg f (Fin.ext ?_))
      rfl

theorem half0_iff (d : Fin 128) : half0 (ix2 0 d) = 1#1 ↔ d.val / 64 = false.toNat := by
  rw [half0_at, ofBool_one, decide_eq_true_iff]
  show d.val < 64 ↔ d.val / 64 = 0
  omega

theorem half1_iff (d : Fin 128) : half1 (ix2 0 d) = 1#1 ↔ d.val / 64 = true.toNat := by
  rw [half1_at, ofBool_one, decide_eq_true_iff]
  show 64 ≤ d.val ↔ d.val / 64 = 1
  omega

theorem eighth : Ideal.ofBits FTy.f32 0x3E000000#32 = ((1 / 8 : ℝ) : EReal) := by
  simp [Ideal.ofBits, Ideal.ieee]
  rw [← EReal.coe_mul]
  norm_num
theorem unit : Ideal.ofBits FTy.f32 0x3F800000#32 = 1 := by
  simp [Ideal.ofBits, Ideal.ieee]
  rw [← EReal.coe_mul]
  norm_num

theorem q_at (x y : FVec Ideal S256x128 .bf16) (b : Bool) (r : Fin 256) (d : Fin 128) : (vals x y).q b (ix2 r d)
    = if d.val / 64 = b.toNat then (x (ix2 r d) * ((1 / 8 : ℝ) : EReal) : EReal) else 0 := by
  cases b
  · refine (masked_at half0 _ x r d).trans ?_
    rw [eighth]
    exact if_congr (half0_iff d) rfl rfl
  · refine (masked_at half1 _ x r d).trans ?_
    rw [eighth]
    exact if_congr (half1_iff d) rfl rfl

theorem o_at (x y : FVec Ideal S256x128 .bf16) (b : Bool) (r : Fin 256) (d : Fin 128) : (vals x y).o b (ix2 r d)
    = if d.val / 64 = b.toNat then (y (ix2 r d) : EReal) else 0 := by
  cases b
  · refine (masked_at half0 _ y r d).trans ?_
    rw [unit, mul_one]
    exact if_congr (half0_iff d) rfl rfl
  · refine (masked_at half1 _ y r d).trans ?_
    rw [unit, mul_one]
    exact if_congr (half1_iff d) rfl rfl

theorem qT_at (x y : FVec Ideal S256x128 .bf16) (b : Bool) (r : Fin 256) (d : Fin 128) : (vals x y).qT b (ix2 d r)
    = if d.val / 64 = b.toNat then (x (ix2 r d) * ((1 / 8 : ℝ) : EReal) : EReal) else 0 := by
  refine Eq.trans ?_ (q_at x y b r d)
  cases b <;> exact tr_at _ (ix2 d r)

theorem oT_at (x y : FVec Ideal S256x128 .bf16) (b : Bool) (r : Fin 256) (d : Fin 128) : (vals x y).oT b (ix2 d r)
    = if d.val / 64 = b.toNat then (y (ix2 r d) : EReal) else 0 := by
  refine Eq.trans ?_ (o_at x y b r d)
  cases b <;> exact tr_at _ (ix2 d r)

theorem kmT_at (b : Bool) (x : FVec Ideal S256x128 .bf16) (k : Fin 256) (d : Fin 128) : kmT b x (ix2 k d)
    = if d.val / 64 = b.toNat then (x (ix2 k d) : EReal) else 0 := by
  have e : ∀ M : IVec S1x128 1, select (wideMask M) x (broadcast S256x128 (Scalar.ofBits (F := Ideal) .bf16 0x0000#16)) (ix2 k d)
      = if M (ix2 0 d) = 1#1 then (x (ix2 k d) : EReal) else 0 := by
    intro M
    pointwise [wideMask]
    rfl
  cases b
  · exact (e half0).trans (if_congr (half0_iff d) rfl rfl)
  · exact (e half1).trans (if_congr (half1_iff d) rfl rfl)

/-! ## The weights -/

variable {m c} {p : Fin 8192 → Fin 5120 → ℝ} (hP : ∀ r (k : Fin 5120), 1024 ≤ k.val → k.val < 2560 → P m c (ix2 r k) = (p r k : EReal))

/-- The point's constants. -/
abbrev VV : Vals Ideal := vals (iblk m c 0 t) (iblk m c 3 t)

def key (j : Fin 32) (k : Fin 256) : Fin 8192 := ⟨256 * j.val + k.val, by omega⟩

include hP in
theorem lg_at (b : Bool) (j : Fin 32) (r k : Fin 256) : lgOf (VV (m := m) (c := c) t) (found m c t) b j (ix2 r k)
    = (L p (head t b) (row t r) (key j k) : EReal) := by
  unfold lgOf
  rw [dotQ_at]
  have e : ∀ d : Fin 128, ((VV (m := m) (c := c) t).q b (ix2 r d) * tT (found m c t) false j (ix2 d k) : EReal)
      = if d.val / 64 = b.toNat then ((p (row t r) ⟨1024 + (128 * (t.val / 32) + d.val), by have := point_lt t; omega⟩ * (1 / 8) *
        p (key j k) ⟨1024 + (512 + 128 * (t.val / 32) + d.val), by have := point_lt t; omega⟩ : ℝ) : EReal) else 0 := by
    intro d
    have ht := point_lt t
    rw [q_at, key_found, hP _ _ (by simp only []; omega) (by simp only []; omega), blk0, hP _ _ (by simp only []; omega) (by simp only []; omega), ite_mul, zero_mul, ← EReal.coe_mul, ← EReal.coe_mul]
    rfl
  refine (Finset.sum_congr rfl fun d _ => e d).trans ?_
  rw [half_sum b (fun d => ((p (row t r) ⟨1024 + (128 * (t.val / 32) + d.val), by have := point_lt t; omega⟩ * (1 / 8) *
        p (key j k) ⟨1024 + (512 + 128 * (t.val / 32) + d.val), by have := point_lt t; omega⟩ : ℝ) : EReal)), ← coe_sum]
  refine congrArg (fun x : ℝ => (x : EReal)) ?_
  unfold L
  rw [Finset.sum_mul]
  refine Finset.sum_congr rfl fun d _ => ?_
  have e1 : (⟨1024 + (128 * (t.val / 32) + (64 * b.toNat + d.val)), by have := point_lt t; have := Bool.toNat_lt b; omega⟩ : Fin 5120) = qi (head t b) d :=
    Fin.ext (by simp only [qi, head]; ring)
  have e2 : (⟨1024 + (512 + 128 * (t.val / 32) + (64 * b.toNat + d.val)), by have := point_lt t; have := Bool.toNat_lt b; omega⟩ : Fin 5120) = ki (head t b) d :=
    Fin.ext (by simp only [ki, head]; ring)
  simp only [e1, e2]
  ring

/-- The sums from a key on within a block that lies wholly before the query. -/
theorem suffix (h : Fin 8) (q : Fin 8192) (j : Fin 32) (k : Fin 256) (hq : 256 * (j.val + 1) ≤ q.val) :
    ∑ k' : Fin 256, (if k.val ≤ k'.val then sp (L p h q (key j k')) else 0) = SS p h q (256 * j.val + k.val) - SS p h q (256 * (j.val + 1)) := by
  have e : ∀ k' : Fin 256, (if k.val ≤ k'.val then sp (L p h q (key j k')) else 0) = if k.val ≤ k'.val then -FF p h q (256 * j.val + k'.val) else 0 := by
    intro k'
    have : FF p h q (256 * j.val + k'.val) = -sp (L p h q (key j k')) := by
      refine (FF_lt h q (key j k')).trans (if_pos ?_)
      show 256 * j.val + k'.val < q.val
      omega
    rw [this, neg_neg]
  rw [Finset.sum_congr rfl fun k' _ => e k', Fin.sum_univ_eq_sum_range (fun i => if k.val ≤ i then -FF p h q (256 * j.val + i) else 0) 256]
  have e2 := SS_add (p := p) h q (256 * j.val + k.val) (256 - k.val)
  rw [show 256 * j.val + k.val + (256 - k.val) = 256 * (j.val + 1) by omega] at e2
  have e3 : Finset.range 256 = Finset.range (k.val + (256 - k.val)) := congrArg _ (by omega)
  rw [e2, e3, Finset.sum_range_add, Finset.sum_eq_zero (fun i hi => if_neg (by simp only [Finset.mem_range] at hi; omega)), zero_add]
  have e4 : ∀ i ∈ Finset.range (256 - k.val), (if k.val ≤ k.val + i then -FF p h q (256 * j.val + (k.val + i)) else 0) = -FF p h q (256 * j.val + k.val + i) := by
    intro i _
    rw [if_pos (by omega), add_assoc]
  rw [Finset.sum_congr rfl e4, Finset.sum_neg_distrib]
  ring

include hP in
/-- A block computed anew holds the reference's weights. -/
theorem wM_at (b : Bool) (j : Fin 32) (hj : j.val + 2 ≤ t.val % 32) (r k : Fin 256) :
    wM (VV (m := m) (c := c) t) (found m c t) b j.val (ix2 r k) = (W p (head t b) (row t r) (key j k) : EReal) := by
  have hb : bN j.val = j := Fin.ext (Nat.mod_eq_of_lt j.isLt)
  have hq : 256 * (j.val + 1) ≤ (row t r).val := by show _ ≤ 256 * (t.val % 32) + r.val; omega
  unfold wM wfOf
  rw [hb]
  have hl := lg_at t hP b j
  generalize lgOf (VV (m := m) (c := c) t) (found m c t) b j = l at hl ⊢
  show Ideal.exp (l (ix2 r k) - dotP (F := Ideal) (t16 (softplus l)) (suf (VV (m := m) (c := c) t)) (ix2 r k) - carry (F := Ideal) (VV (m := m) (c := c) t) (BitVec.ofNat 32 j.val) (carOf (found m c t) b) (ix2 r k)) = _
  have e : ∀ k' : Fin 256, (t16 (softplus l) (ix2 r k') * suf (VV (m := m) (c := c) t) (ix2 k' k) : EReal)
      = ((if k.val ≤ k'.val then sp (L p (head t b) (row t r) (key j k')) else 0 : ℝ) : EReal) := by
    intro k'
    rw [suf_at]
    refine (congrArg (· * _) (softplus_at l (ix2 r k') _ (hl r k'))).trans ?_
    split <;> simp
  have hcar : carry (F := Ideal) (VV (m := m) (c := c) t) (BitVec.ofNat 32 j.val) (carOf (found m c t) b) (ix2 r k)
      = ((SS p (head t b) (row t r) (256 * (j.val + 1)) - SS p (head t b) (row t r) 8192 : ℝ) : EReal) :=
    (carry_at _ _ j _ (ix2 r k)).trans ((car_found m c t b r ⟨j.val, by omega⟩).trans ((V_car _ _ _ _).trans
      (car_at hP (head t b) (tile t) r j (by show j.val ≤ t.val % 32; omega) (row t r) rfl)))
  rw [hcar, hl, dotP_at]
  refine (congrArg (fun z : EReal => Ideal.exp (_ - z - _)) ((Finset.sum_congr rfl fun k' _ => e k').trans (coe_sum _ _).symm)).trans ?_
  rw [suffix _ _ _ _ hq]
  rw [← EReal.coe_sub, ← EReal.coe_sub, Ideal.exp_coe]
  refine congrArg (fun x : ℝ => (x : EReal)) ?_
  unfold W
  rw [if_pos (by show 256 * j.val + k.val < 256 * (t.val % 32) + r.val; omega)]
  refine congrArg Real.exp ?_
  show _ = L p (head t b) (row t r) (key j k) + SS p (head t b) (row t r) 8192 - SS p (head t b) (row t r) (256 * j.val + k.val)
  ring

include hP in
theorem kept_own (b : Bool) (r k : Fin 256) : keptOf (found m c t) false b true (ix2 r k) = (W p (head t b) (row t r) (key (tile t) k) : EReal) := by
  rw [kept_found]
  have e : (⟨true.toNat * 256 + k.val, by have := Bool.toNat_lt true; omega⟩ : Fin 512) = ⟨256 + k.val, by omega⟩ := Fin.ext (by simp)
  rw [e]
  exact V_own hP (head t b) (tile t) r k

include hP in
theorem kept_before (b : Bool) (j : Fin 32) (hj : t.val % 32 = j.val + 1) (r k : Fin 256) :
    keptOf (found m c t) false b false (ix2 r k) = (W p (head t b) (row t r) (key j k) : EReal) := by
  rw [kept_found]
  have e : (⟨false.toNat * 256 + k.val, by have := Bool.toNat_lt false; omega⟩ : Fin 512) = ⟨k.val, by omega⟩ := Fin.ext (by simp)
  rw [e]
  exact V_before hP (head t b) (tile t) j hj r k

/-- The logistic value of a logit, of the keys before the query. -/
def BT (p : Fin 8192 → Fin 5120 → ℝ) (h : Fin 8) (q k : Fin 8192) : ℝ := if k.val < q.val then sg (L p h q k) else 0

include hP in
theorem kept_own' (b : Bool) (r k : Fin 256) : keptOf (found m c t) true b true (ix2 r k) = (BT p (head t b) (row t r) (key (tile t) k) : EReal) := by
  rw [kept_found']
  have e : (⟨true.toNat * 256 + k.val, by have := Bool.toNat_lt true; omega⟩ : Fin 512) = ⟨256 + k.val, by omega⟩ := Fin.ext (by simp)
  rw [e]
  exact V_own' hP (head t b) (tile t) r k

include hP in
theorem kept_before' (b : Bool) (j : Fin 32) (hj : t.val % 32 = j.val + 1) (r k : Fin 256) :
    keptOf (found m c t) true b false (ix2 r k) = (BT p (head t b) (row t r) (key j k) : EReal) := by
  rw [kept_found']
  have e : (⟨false.toNat * 256 + k.val, by have := Bool.toNat_lt false; omega⟩ : Fin 512) = ⟨k.val, by omega⟩ := Fin.ext (by simp)
  rw [e]
  exact V_before' hP (head t b) (tile t) j hj r k

/-- A sum over the queries, row block by row block. -/
theorem rows_sum (f : Fin 8192 → EReal) : ∑ q : Fin 8192, f q = ∑ i : Fin 32, ∑ s : Fin 256, f ⟨256 * i.val + s.val, by omega⟩ := by
  rw [← Fintype.sum_prod_type' (fun (i : Fin 32) (s : Fin 256) => f ⟨256 * i.val + s.val, by omega⟩)]
  refine (Equiv.sum_comp (finProdFinEquiv (m := 32) (n := 256)) f).symm.trans ?_
  refine Finset.sum_congr rfl fun x _ => congrArg f (Fin.ext ?_)
  show x.2.val + 256 * x.1.val = 256 * x.1.val + x.2.val
  omega

variable (a : Fin 32) (ha : a.val = t.val % 32)

include hP ha in
/-- Every block holds the reference's weights. -/
theorem wF_at (b : Bool) (j : Fin 32) (hj : j.val ≤ t.val % 32) (r k : Fin 256) :
    wF (VV (m := m) (c := c) t) a (found m c t) b j.val (ix2 r k) = (W p (head t b) (row t r) (key j k) : EReal) := by
  unfold wF
  by_cases h : j.val = a.val
  · rw [if_pos h, kept_own t hP]
    exact congrArg (fun z => (W p (head t b) (row t r) (key z k) : EReal)) (Fin.ext (by show t.val % 32 = j.val; omega))
  rw [if_neg h]
  by_cases h' : j.val + 1 = a.val
  · rw [if_pos h', kept_before t hP b j (by omega)]
  · rw [if_neg h', wM_at t hP b j (by omega)]

include hP ha in
/-- And the logistic values, of the keys before the query. -/
theorem bA_at (b : Bool) (j : Fin 32) (hj : j.val ≤ t.val % 32) (r k : Fin 256) :
    bA (VV (m := m) (c := c) t) a (found m c t) b j.val (ix2 r k) = (BT p (head t b) (row t r) (key j k) : EReal) := by
  unfold bA
  by_cases h : j.val = a.val
  · rw [if_pos h, kept_own' t hP]
    exact congrArg (fun z => (BT p (head t b) (row t r) (key z k) : EReal)) (Fin.ext (by show t.val % 32 = j.val; omega))
  rw [if_neg h]
  by_cases h' : j.val + 1 = a.val
  · rw [if_pos h', kept_before' t hP b j (by omega)]
  · have hb : bN j.val = j := Fin.ext (Nat.mod_eq_of_lt j.isLt)
    rw [if_neg h', hb, btOf_at _ _ _ (lg_at t hP b j r k)]
    unfold BT
    rw [if_pos (by show 256 * j.val + k.val < 256 * (t.val % 32) + r.val; omega)]

/-! ## The logits' gradients -/

variable {o : Fin 8192 → Fin 512 → ℝ} (hD : ∀ r (k : Fin 512), D m c (ix2 r k) = (o r k : EReal))

theorem head_col (d : Fin 128) : head t (decide (64 ≤ d.val)) = hd (col t d) := Fin.ext (by
  show 2 * (t.val / 32) + (decide (64 ≤ d.val)).toNat = (128 * (t.val / 32) + d.val) / 64
  by_cases h : 64 ≤ d.val
  · rw [decide_eq_true h]; show _ + 1 = _; omega
  · rw [decide_eq_false h]; show _ + 0 = _; omega)

include hP hD in
theorem dw_at (b : Bool) (j : Fin 32) (r k : Fin 256) : dwOf (VV (m := m) (c := c) t) (found m c t) b j (ix2 r k)
    = (DW p o (head t b) (row t r) (key j k) : EReal) := by
  unfold dwOf
  rw [dotQ_at]
  have e : ∀ d : Fin 128, ((VV (m := m) (c := c) t).o b (ix2 r d) * tT (found m c t) true j (ix2 d k) : EReal)
      = if d.val / 64 = b.toNat then ((o (row t r) (col t d) *
        p (key j k) ⟨1024 + (1024 + 128 * (t.val / 32) + d.val), by have := point_lt t; omega⟩ : ℝ) : EReal) else 0 := by
    intro d
    have ht := point_lt t
    rw [o_at, value_found, hP _ _ (by simp only []; omega) (by simp only []; omega), blk3, hD, ite_mul, zero_mul, ← EReal.coe_mul]
    rfl
  refine (Finset.sum_congr rfl fun d _ => e d).trans ?_
  rw [half_sum b (fun d => ((o (row t r) (col t d) *
        p (key j k) ⟨1024 + (1024 + 128 * (t.val / 32) + d.val), by have := point_lt t; omega⟩ : ℝ) : EReal)), ← coe_sum]
  refine congrArg (fun x : ℝ => (x : EReal)) ?_
  unfold DW
  refine Finset.sum_congr rfl fun d _ => congrArg₂ (· * ·) (congrArg (o _) (Fin.ext ?_)) (congrArg (p _) (Fin.ext ?_))
  · simp only [oi, head, col]; ring
  · simp only [vi, head]; ring

include hP hD ha in
theorem eA_at (b : Bool) (j : Fin 32) (hj : j.val ≤ t.val % 32) (r k : Fin 256) :
    eA (VV (m := m) (c := c) t) a (found m c t) b j.val (ix2 r k) = (E p o (head t b) (row t r) (key j k) : EReal) := by
  have hb : bN j.val = j := Fin.ext (Nat.mod_eq_of_lt j.isLt)
  show (wF (VV (m := m) (c := c) t) a (found m c t) b j.val (ix2 r k) * dwOf (VV (m := m) (c := c) t) (found m c t) b (bN j.val) (ix2 r k) : EReal) = _
  rw [hb, wF_at t hP a ha b j hj, dw_at t hP hD]
  unfold E
  rw [EReal.coe_mul]

/-- The sums up to a key within a block. -/
theorem prefix_sum (h : Fin 8) (q : Fin 8192) (j : Fin 32) (k : Fin 256) :
    ∑ k' : Fin 256, (if k'.val ≤ k.val then E p o h q (key j k') else 0) = ES p o h q (256 * j.val + (k.val + 1)) - ES p o h q (256 * j.val) := by
  have e : ∀ k' : Fin 256, (if k'.val ≤ k.val then E p o h q (key j k') else 0) = if k'.val ≤ k.val then EN p o h q (256 * j.val + k'.val) else 0 := by
    intro k'
    rw [← EN_fin]; rfl
  rw [Finset.sum_congr rfl fun k' _ => e k', Fin.sum_univ_eq_sum_range (fun i => if i ≤ k.val then EN p o h q (256 * j.val + i) else 0) 256]
  have e3 : Finset.range 256 = Finset.range ((k.val + 1) + (255 - k.val)) := congrArg _ (by omega)
  have e4 : ∀ i ∈ Finset.range (k.val + 1), (if i ≤ k.val then EN p o h q (256 * j.val + i) else 0) = EN p o h q (256 * j.val + i) := by
    intro i hi
    simp only [Finset.mem_range] at hi
    rw [if_pos (by omega)]
  rw [ES_add, e3, Finset.sum_range_add, Finset.sum_congr rfl e4, Finset.sum_eq_zero (s := Finset.range (255 - k.val)) (fun i hi => if_neg (by omega))]
  ring

include hP hD ha in
theorem pre_sum (b : Bool) (j : Fin 32) (hj : j.val ≤ t.val % 32) (r k : Fin 256) :
    dotP (F := Ideal) (t16 (eA (VV (m := m) (c := c) t) a (found m c t) b j.val)) (VV (m := m) (c := c) t).pre (ix2 r k)
      = ((ES p o (head t b) (row t r) (256 * j.val + (k.val + 1)) - ES p o (head t b) (row t r) (256 * j.val) : ℝ) : EReal) := by
  have hl := eA_at t hP a ha hD b j hj
  rw [dotP_at, ← prefix_sum, coe_sum]
  generalize eA (VV (m := m) (c := c) t) a (found m c t) b j.val = l at hl ⊢
  refine Finset.sum_congr rfl fun k' _ => ?_
  refine (congrArg₂ (fun y z : EReal => y * z) (hl r k') (pre_at _ _ k' k)).trans ?_
  show _ * (if k'.val ≤ k.val then (1 : EReal) else 0) = _
  split <;> simp

include hP hD ha in
/-- The carry into a block. -/
theorem fA_at (b : Bool) (r : Fin 256) (l : Fin 128) (n : ℕ) (hn : n ≤ t.val % 32) :
    fA (VV (m := m) (c := c) t) a (found m c t) b n (ix2 r l) = (ES p o (head t b) (row t r) (256 * n) : EReal) := by
  induction n generalizing l with
  | zero => exact (f0_at _).trans (by simp [ES])
  | succ n ih =>
    have hs := pre_sum t hP a ha hD b ⟨n, by omega⟩ (by show n ≤ _; omega) r 255
    show (fA (VV (m := m) (c := c) t) a (found m c t) b n (ix2 r l)
      + last (F := Ideal) (dotP (F := Ideal) (t16 (eA (VV (m := m) (c := c) t) a (found m c t) b n)) (VV (m := m) (c := c) t).pre) (ix2 r l) : EReal) = _
    rw [ih l (by omega), last_at]
    refine (congrArg (_ + ·) hs).trans ?_
    rw [← EReal.coe_add]
    refine congrArg (fun x : ℝ => (x : EReal)) ?_
    show _ + (ES p o (head t b) (row t r) (256 * n + (255 + 1)) - ES p o (head t b) (row t r) (256 * n)) = _
    rw [show 256 * n + (255 + 1) = 256 * (n + 1) by ring]
    ring

include hP hD ha in
theorem dA_at (b : Bool) (j : Fin 32) (hj : j.val ≤ t.val % 32) (r k : Fin 256) :
    dA (VV (m := m) (c := c) t) a (found m c t) b j.val (ix2 r k) = (G p o (head t b) (row t r) (key j k) : EReal) := by
  have hs := pre_sum t hP a ha hD b j hj r k
  have he := eA_at t hP a ha hD b j hj r k
  have hb := bA_at t hP a ha b j hj r k
  have hw := wide_at _ r k _ (fun l => fA_at t hP a ha hD b r l j.val hj)
  show (eA (VV (m := m) (c := c) t) a (found m c t) b j.val (ix2 r k) - bA (VV (m := m) (c := c) t) a (found m c t) b j.val (ix2 r k)
    * (dotP (F := Ideal) (t16 (eA (VV (m := m) (c := c) t) a (found m c t) b j.val)) (VV (m := m) (c := c) t).pre (ix2 r k)
      + wide (F := Ideal) (fA (VV (m := m) (c := c) t) a (found m c t) b j.val) (ix2 r k)) : EReal) = _
  rw [hs, he, hb, hw]
  simp only [← EReal.coe_add, ← EReal.coe_mul, ← EReal.coe_sub]
  refine congrArg (fun x : ℝ => (x : EReal)) ?_
  unfold G BT
  rw [show (key j k).val + 1 = 256 * j.val + (k.val + 1) from rfl]
  split
  · ring
  · rename_i hk
    rw [E_off _ _ _ hk]; ring

/-! ## The sums -/

/-- Two heads' products: the head that lane `d` lies in. -/
theorem two_heads (l : Bool → FVec Ideal S128x256 .bf16) (w : Bool → FVec Ideal S256x256 .bf16) (x : Fin 256 → EReal) (g : Bool → Fin 256 → EReal)
    (d : Fin 128) (k : Fin 256) (hl : ∀ b s, l b (ix2 d s) = if d.val / 64 = b.toNat then x s else 0) (hw : ∀ b s, w b (ix2 s k) = g b s) :
    (dotT (F := Ideal) (l false) (w false) (ix2 d k) + dotT (F := Ideal) (l true) (w true) (ix2 d k) : EReal)
      = ∑ s : Fin 256, x s * g (decide (64 ≤ d.val)) s := by
  have e : ∀ b, dotT (F := Ideal) (l b) (w b) (ix2 d k) = if d.val / 64 = b.toNat then ∑ s : Fin 256, x s * g b s else 0 := by
    intro b
    refine (dotT_at _ (w b) (ix2 d k)).trans ?_
    have e1 : ∀ s : Fin 256, (l b (ix2 d s) * w b (ix2 s k) : EReal) = if d.val / 64 = b.toNat then x s * g b s else 0 := by
      intro s
      refine (congrArg₂ (fun y z : EReal => y * z) (hl b s) (hw b s)).trans ?_
      rw [ite_mul, zero_mul]
    refine (Finset.sum_congr rfl fun s _ => e1 s).trans ?_
    split
    · rfl
    · exact Finset.sum_const_zero
  rw [e, e]
  by_cases h : 64 ≤ d.val
  · rw [if_neg (by show ¬ d.val / 64 = 0; omega), if_pos (by show d.val / 64 = 1; omega), zero_add, decide_eq_true h]
  · rw [if_pos (by show d.val / 64 = 0; omega), if_neg (by show ¬ d.val / 64 = 1; omega), add_zero, decide_eq_false h]

include hP in
/-- What a point adds to block `j` of the values' gradients, at column `d` of the pair and key `k`. -/
theorem con_values (j : Fin 32) (d : Fin 128) (k : Fin 256) : con m c t true j (ix2 d k)
    = ∑ s : Fin 256, (D m c (ix2 (row t s) (col t d)) * (W p (hd (col t d)) (row t s) (key j k) : EReal) : EReal) := by
  have hc := coord t
  rw [← head_col]
  unfold con
  by_cases hj : j.val < ((grid0.coords t) 1).val + 1
  · rw [if_pos hj]
    exact two_heads (VV (m := m) (c := c) t).oT (fun b => wA (VV (m := m) (c := c) t) ((grid0.coords t) 1) (found m c t) b j.val)
      (fun s => D m c (ix2 (row t s) (col t d))) (fun b s => (W p (head t b) (row t s) (key j k) : EReal)) d k
      (fun b s => by rw [oT_at, blk3]; rfl) (fun b s => wF_at t hP _ hc b j (by omega) s k)
  · rw [if_neg hj]
    refine (Finset.sum_eq_zero fun s _ => ?_).symm
    rw [W_off _ _ _ (by show ¬ 256 * j.val + k.val < 256 * (t.val % 32) + s.val; omega), EReal.coe_zero, mul_zero]

theorem G_off (h : Fin 8) (q k : Fin 8192) (hk : ¬ k.val < q.val) : G p o h q k = 0 := if_neg hk

include hP hD in
/-- And of the keys' gradients. -/
theorem con_keys (j : Fin 32) (d : Fin 128) (k : Fin 256) : con m c t false j (ix2 d k)
    = ∑ s : Fin 256, ((p (row t s) (cq (col t d)) * (1 / 8) : ℝ) : EReal) * (G p o (hd (col t d)) (row t s) (key j k) : EReal) := by
  have hc := coord t
  rw [← head_col]
  unfold con
  by_cases hj : j.val < ((grid0.coords t) 1).val + 1
  · rw [if_pos hj]
    exact two_heads (VV (m := m) (c := c) t).qT (fun b => dA (VV (m := m) (c := c) t) ((grid0.coords t) 1) (found m c t) b j.val)
      (fun s => ((p (row t s) (cq (col t d)) * (1 / 8) : ℝ) : EReal)) (fun b s => (G p o (head t b) (row t s) (key j k) : EReal)) d k
      (fun b s => by
        have ht := point_lt t
        rw [qT_at, blk0, hP _ _ (by simp only []; omega) (by simp only []; omega), ← EReal.coe_mul]
        rfl) (fun b s => dA_at t hP _ hc hD b j (by omega) s k)
  · rw [if_neg hj]
    refine (Finset.sum_eq_zero fun s _ => ?_).symm
    rw [G_off _ _ _ (by show ¬ 256 * j.val + k.val < 256 * (t.val % 32) + s.val; omega), EReal.coe_zero, mul_zero]

theorem arr_at (v : Bool) (g : Fin 8192 → Fin 8192 → Fin 512 → EReal)
    (hg : ∀ (t : Fin cfg0.N) (j : Fin 32) (d : Fin 128) (k : Fin 256), con m c t v j (ix2 d k) = ∑ s : Fin 256, g (row t s) (key j k) (col t d))
    (k : Fin 8192) (j : Fin 512) : dvArr m c v (ix2 k j) = ∑ q : Fin 8192, g q k j := by
  rw [rows_sum]
  have h128 : ∀ i : Fin 32, 32 * (j.val / 128) + i.val < cfg0.N := fun i => lt_of_lt_of_eq (by omega) N_0.symm
  unfold dvArr dv part
  show ∑ i ∈ Finset.range 32, conN m c (32 * (32 * (j.val / 128) / 32) + i) v (Fin.ofNat 32 (k.val / 256)) (ix2 (Fin.ofNat 128 (j.val % 128)) (Fin.ofNat 256 (k.val % 256))) = _
  rw [← Fin.sum_univ_eq_sum_range (fun i => conN m c (32 * (32 * (j.val / 128) / 32) + i) v (Fin.ofNat 32 (k.val / 256)) (ix2 (Fin.ofNat 128 (j.val % 128)) (Fin.ofNat 256 (k.val % 256)))) 32]
  refine Finset.sum_congr rfl fun i _ => ?_
  have e0 : 32 * (32 * (j.val / 128) / 32) + i.val = 32 * (j.val / 128) + i.val := by omega
  rw [e0]
  unfold conN
  rw [dif_pos (h128 i), hg ⟨_, h128 i⟩]
  refine Finset.sum_congr rfl fun s _ => ?_
  have er : row ⟨32 * (j.val / 128) + i.val, h128 i⟩ s = ⟨256 * i.val + s.val, by omega⟩ := Fin.ext (by
    show 256 * ((32 * (j.val / 128) + i.val) % 32) + s.val = 256 * i.val + s.val; omega)
  have ek : key (Fin.ofNat 32 (k.val / 256)) (Fin.ofNat 256 (k.val % 256)) = k := Fin.ext (by
    show 256 * (k.val / 256 % 32) + k.val % 256 % 256 = k.val; omega)
  have ec : col ⟨32 * (j.val / 128) + i.val, h128 i⟩ (Fin.ofNat 128 (j.val % 128)) = j := Fin.ext (by
    show 128 * ((32 * (j.val / 128) + i.val) / 32) + j.val % 128 % 128 = j.val
    omega)
  rw [er, ek, ec]

include hP in
theorem dvArr_at (k : Fin 8192) (j : Fin 512) : dvArr m c true (ix2 k j)
    = ∑ q : Fin 8192, (D m c (ix2 q j) * (W p (hd j) q k : EReal) : EReal) :=
  arr_at true (fun q k j => D m c (ix2 q j) * (W p (hd j) q k : EReal)) (fun t => con_values t hP) k j

include hP hD in
theorem dkArr_at (k : Fin 8192) (j : Fin 512) : dvArr m c false (ix2 k j)
    = ((∑ q : Fin 8192, G p o (hd j) q k * (1 / 8) * p q (cq j) : ℝ) : EReal) := by
  rw [arr_at false (fun q k j => ((p q (cq j) * (1 / 8) : ℝ) : EReal) * (G p o (hd j) q k : EReal)) (fun t => con_keys t hP hD) k j, coe_sum]
  refine Finset.sum_congr rfl fun q _ => ?_
  rw [← EReal.coe_mul]
  exact congrArg (fun x : ℝ => (x : EReal)) (by ring)

/-! ## The queries' gradients -/

include hP hD ha in
theorem qN_at (b : Bool) (j : Fin 32) (hj : j.val ≤ t.val % 32) (r : Fin 256) (d : Fin 128) :
    qN (VV (m := m) (c := c) t) a (found m c t) b j.val (ix2 r d)
      = if d.val / 64 = b.toNat then ((∑ k : Fin 256, G p o (head t b) (row t r) (key j k) * p (key j k) (ck (col t d)) : ℝ) : EReal) else 0 := by
  have hb : bN j.val = j := Fin.ext (Nat.mod_eq_of_lt j.isLt)
  have hk : ∀ k : Fin 256, kmOf (found m c t) b j (ix2 k d) = if d.val / 64 = b.toNat then (p (key j k) (ck (col t d)) : EReal) else 0 := by
    intro k
    have ht := point_lt t
    rw [km_found]
    refine (kmT_at b _ k d).trans (if_congr Iff.rfl ?_ rfl)
    have e : (rowsR j).emb (ix2 k d) = ix2 (key j k) d := by
      funext x
      fin_cases x
      · exact Fin.ext (by simp [Rect.emb, Rect.unit, key])
      · exact Fin.ext (by simp [Rect.emb, Rect.unit])
    show iblk m c 1 t ((rowsR j).emb (ix2 k d)) = _
    rw [e, blk1, hP _ _ (by simp only []; omega) (by simp only []; omega)]
    exact congrArg (fun z => ((p _ z : ℝ) : EReal)) (Fin.ext (by simp only [ck, col]; ring))
  unfold qN
  rw [hb, dotG_at]
  have e1 : ∀ k : Fin 256, (dA (VV (m := m) (c := c) t) a (found m c t) b j.val (ix2 r k) * kmOf (found m c t) b j (ix2 k d) : EReal)
      = if d.val / 64 = b.toNat then ((G p o (head t b) (row t r) (key j k) * p (key j k) (ck (col t d)) : ℝ) : EReal) else 0 := by
    intro k
    refine (congrArg₂ (fun y z : EReal => y * z) (dA_at t hP a ha hD b j hj r k) (hk k)).trans ?_
    rw [mul_ite, mul_zero, ← EReal.coe_mul]
  refine (Finset.sum_congr rfl fun k _ => e1 k).trans ?_
  split
  · rw [coe_sum]
  · exact Finset.sum_const_zero

/-- A sum over the blocks up to the diagonal, of what is zero after it. -/
theorem blocks_sum (n : ℕ) (hn : n < 32) (f : ℕ → EReal) (g : Fin 32 → EReal) (h : ∀ j : Fin 32, j.val ≤ n → f j.val = g j) (h0 : ∀ j : Fin 32, n < j.val → g j = 0) :
    ∑ i ∈ Finset.range (n + 1), f i = ∑ j : Fin 32, g j := by
  have e : ∀ j : Fin 32, g j = (fun i => if i ≤ n then f i else 0) j.val := by
    intro j
    by_cases hj : j.val ≤ n
    · exact (h j hj).symm.trans (if_pos hj).symm
    · exact (h0 j (by omega)).trans (if_neg hj).symm
  have e3 : Finset.range 32 = Finset.range ((n + 1) + (31 - n)) := congrArg _ (by omega)
  rw [Finset.sum_congr rfl fun j _ => e j, Fin.sum_univ_eq_sum_range (fun i => if i ≤ n then f i else 0) 32, e3,
    Finset.sum_range_add (fun i => if i ≤ n then f i else 0), Finset.sum_eq_zero (s := Finset.range (31 - n)) (fun i _ => if_neg (by omega)), add_zero]
  exact Finset.sum_congr rfl fun i hi => (if_pos (by simp only [Finset.mem_range] at hi; omega)).symm

include hP hD in
theorem dq_at (r : Fin 256) (d : Fin 128) : dq m c t (ix2 r d)
    = ((∑ k : Fin 8192, G p o (hd (col t d)) (row t r) k * (1 / 8) * p k (ck (col t d)) : ℝ) : EReal) := by
  have hc := coord t
  have e : ∀ b, ∑ i ∈ Finset.range (((grid0.coords t) 1).val + 1), qN (VV (m := m) (c := c) t) ((grid0.coords t) 1) (found m c t) b i (ix2 r d)
      = if d.val / 64 = b.toNat then ((∑ k : Fin 8192, G p o (head t b) (row t r) k * p k (ck (col t d)) : ℝ) : EReal) else 0 := by
    intro b
    rw [coe_sum, rows_sum]
    refine (blocks_sum _ (by omega) (fun i => (qN (VV (m := m) (c := c) t) ((grid0.coords t) 1) (found m c t) b i (ix2 r d) : EReal))
      (fun j => if d.val / 64 = b.toNat then ∑ k : Fin 256, ((G p o (head t b) (row t r) (key j k) * p (key j k) (ck (col t d)) : ℝ) : EReal) else 0)
      (fun j hj => (qN_at t hP _ hc hD b j (by omega) r d).trans (by rw [coe_sum])) (fun j hj => ?_)).trans ?_
    · have h0 : ∀ k : Fin 256, ((G p o (head t b) (row t r) (key j k) * p (key j k) (ck (col t d)) : ℝ) : EReal) = 0 := by
        intro k
        rw [G_off _ _ _ (by show ¬ 256 * j.val + k.val < 256 * (t.val % 32) + r.val; omega), zero_mul]; rfl
      rw [Finset.sum_eq_zero fun k _ => h0 k, ite_self]
    · split
      · rfl
      · exact Finset.sum_const_zero
  unfold dq
  refine (congrArg₂ (fun y z : EReal => (y + z) * Ideal.ofBits .f32 0x3E000000#32) (e false) (e true)).trans ?_
  have e2 : ∀ h : Fin 8, ((∑ k : Fin 8192, G p o h (row t r) k * p k (ck (col t d)) : ℝ) : EReal) * ((1 / 8 : ℝ) : EReal)
      = ((∑ k : Fin 8192, G p o h (row t r) k * (1 / 8) * p k (ck (col t d)) : ℝ) : EReal) := by
    intro h
    rw [← EReal.coe_mul, Finset.sum_mul]
    exact congrArg (fun x : ℝ => (x : EReal)) (Finset.sum_congr rfl fun k _ => by ring)
  rw [eighth, ← head_col]
  by_cases h : 64 ≤ d.val
  · rw [if_neg (by show ¬ d.val / 64 = 0; omega), if_pos (by show d.val / 64 = 1; omega), zero_add, decide_eq_true h]
    exact e2 _
  · rw [if_pos (by show d.val / 64 = 0; omega), if_neg (by show ¬ d.val / 64 = 1; omega), add_zero, decide_eq_false h]
    exact e2 _

include hP hD in
theorem dqArr_at (q : Fin 8192) (j : Fin 512) : dqArr m c (ix2 q j)
    = ((∑ k : Fin 8192, G p o (hd j) q k * (1 / 8) * p k (ck j) : ℝ) : EReal) := by
  have ht : 32 * (j.val / 128) + q.val / 256 < cfg0.N := lt_of_lt_of_eq (by omega) N_0.symm
  unfold dqArr
  refine (dq_at ⟨32 * (j.val / 128) + q.val / 256, ht⟩ hP hD (Fin.ofNat 256 (q.val % 256)) (Fin.ofNat 128 (j.val % 128))).trans ?_
  have er : row ⟨32 * (j.val / 128) + q.val / 256, ht⟩ (Fin.ofNat 256 (q.val % 256)) = q := Fin.ext (by
    show 256 * ((32 * (j.val / 128) + q.val / 256) % 32) + q.val % 256 % 256 = q.val; omega)
  have ec : col ⟨32 * (j.val / 128) + q.val / 256, ht⟩ (Fin.ofNat 128 (j.val % 128)) = j := Fin.ext (by
    show 128 * ((32 * (j.val / 128) + q.val / 256) / 32) + j.val % 128 % 128 = j.val
    omega)
  rw [er, ec]

end Cert.AttnIdeal.Value
-- ==== Proof.AttnClaims.lean ====
/-
  The claims of the attention's backward call, of the gradients of q, k and v: frames, the idealization's ledger, and the value claim.
-/
module

public import proofs.«01_k».proof.Proof.AttnFrame
public import proofs.«01_k».proof.Proof.AttnValue
public import proofs.«01_k».proof.Proof.Gen.Attn
public import proofs.«01_k».proof.Proof.Gen.AttnRefIdeal.Run
public import proofs.«01_k».proof.Proof.Gen.Pre_attn_finite

@[expose] public section
set_option maxRecDepth 65536

noncomputable section
open Idealize.ShloMosaic Idealize.ShloMosaic.TcCoe Idealize.SL.Sem

namespace Cert.Proof.Attn

/-- A named constant read as the literal it replaces. -/
@[reducible] def literal : Named Bits where
  named _ _ {φ} b := FloatOps.ofBits φ b

set_option maxHeartbeats 40000000 in
/-- The printed body table is the idealization's, its named constant read as the literal. -/
theorem table_same : Cert.Attn.defs₀ (F := Bits) = (letI := literal; Cert.AttnIdeal.defs₀ (F := Bits)) := by
  unfold Cert.Attn.defs₀ Cert.AttnIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

set_option maxHeartbeats 40000000 in
theorem defs_same : Cert.Attn.defs (F := Bits) = (letI := literal; Cert.AttnIdeal.defs (F := Bits)) :=
  congrArg (Pipeline.defs (Cert.AttnIdeal.pcfgs (F := Bits))) table_same

theorem frame_of_table (D : Defs Cert.AttnIdeal.nD Cert.AttnIdeal.τ Cert.AttnIdeal.sig (Elt Bits)
      (Pipeline.Sig Cert.AttnIdeal.Λ₀ (Fin 1) fun p => (Cert.AttnIdeal.pcfgs (F := Bits) p).Adm))
    (h : D = (letI := literal; Cert.AttnIdeal.defs (F := Bits)))
    (m : (ℓ : Loc Cert.AttnIdeal.nD Cert.AttnIdeal.τ Cert.AttnIdeal.sig) → Buf (Elt Bits) ℓ) (ρ : Dev Cert.AttnIdeal.nD → PrngReg) :
    θ_run D (onTc (τ := Cert.AttnIdeal.τ) (Cert.AttnIdeal.main (F := Bits))) ⟨m, fun _ => 0, ρ⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)) ∧ r.2.sem = fun _ => 0) := by
  subst h
  letI := literal
  exact Cert.AttnIdeal.Text.frame (F := Bits) m ρ

set_option maxHeartbeats 40000000 in
theorem frame_p : Cert.quiescent_Attn := fun m g _ => frame_of_table (Cert.Attn.defs (F := Bits)) defs_same m g

theorem frame_pi : Cert.quiescent_AttnIdeal := fun m g _ => Cert.AttnIdeal.Text.frame (F := Ideal) m g

theorem frame_ri : Cert.quiescent_AttnRefIdeal := fun m ρ _ =>
  (θ_run Cert.AttnRefIdeal.defs _ _).mono (fun r h => ⟨fun c => (h c).2.2.2,
      Idealize.ShloMosaic.sem_eq_zero_of_no_sems (by decide) r.2⟩)
    (Cert.AttnRefIdeal.Value.run (F := Ideal) m ρ)

theorem frame_pi_pre : Cert.quiescent_AttnIdeal_pre_attn_finite := fun m ρ _ => frame_pi m ρ trivial
theorem frame_ri_pre : Cert.quiescent_AttnRefIdeal_pre_attn_finite := fun m ρ _ => frame_ri m ρ trivial

theorem preserves : Cert.preserves_Attn_AttnIdeal := IdealRules.named_const.statement _ _ _ _ _ rfl

open Cert.Reals Cert.AttnIdeal in
/-- What the precondition says: the columns of q, k and v, and the output's gradient, are real numbers. -/
theorem real_of_pre (P : FVec Ideal S8192x5120 .f32) (D : FVec Ideal S8192x512 .f32)
    (h : Cert.Pre_attn_finite.fn (F := Ideal) P D = fun _ => 1#1) :
    (∀ (r : Fin 8192) (k : Fin 5120), 1024 ≤ k.val → k.val < 2560 → P (ix2 r k) = ((P (ix2 r k)).toReal : EReal))
    ∧ ∀ (r : Fin 8192) (k : Fin 512), D (ix2 r k) = ((D (ix2 r k)).toReal : EReal) := by
  obtain ⟨h1, h2⟩ := andi_split (congrFun h ix0)
  refine ⟨fun r k k1 k2 => ?_, fun r k => ?_⟩
  · have e := all_isReal _ _ _ _ _ h1 (ix2 r (⟨k.val - 1024, by omega⟩ : Fin 1536))
    have e' : IsReal (P (ix2 r k)) := by
      revert e
      pointwise
      intro e
      have ek : (⟨1024 + (k.val - 1024), by omega⟩ : Fin 5120) = k := Fin.ext (by show 1024 + (k.val - 1024) = k.val; omega)
      rw [ek] at e
      exact e
    obtain ⟨x, hx⟩ := e'
    rw [hx, EReal.toReal_coe]
  · obtain ⟨x, hx⟩ := all_isReal D _ _ _ _ h2 (ix2 r k)
    rw [hx, EReal.toReal_coe]

section Value

variable (m : (ℓ : Loc Cert.AttnIdeal.nD Cert.AttnIdeal.τ Cert.AttnIdeal.sig) → Buf (Elt Ideal) ℓ) (c : Dev Cert.AttnIdeal.nD)
  (h : Cert.Pre_attn_finite.fn (F := Ideal) (Cert.AttnIdeal.Host.P m c) (Cert.AttnIdeal.Host.D m c) = fun _ => 1#1)

include h

/-- The gradients that the call leaves are the reference's: of q, -/
theorem value_q : Cert.AttnWeights.dqT (Cert.AttnIdeal.Host.P m c) (Cert.AttnIdeal.Host.D m c) = Cert.AttnIdeal.Run.dqArr m c := by
  obtain ⟨hP, hD⟩ := real_of_pre _ _ h
  funext i
  rw [eq_ix2 i]
  exact (Cert.AttnWeights.dqT_at (p := fun r k => (Cert.AttnIdeal.Host.P m c (ix2 r k)).toReal)
      (o := fun r k => (Cert.AttnIdeal.Host.D m c (ix2 r k)).toReal) hP hD _ _).trans
    (Cert.AttnIdeal.Value.dqArr_at (p := fun r k => (Cert.AttnIdeal.Host.P m c (ix2 r k)).toReal)
      (o := fun r k => (Cert.AttnIdeal.Host.D m c (ix2 r k)).toReal) hP hD _ _).symm

/-- of k, -/
theorem value_k : Cert.AttnWeights.dkT (Cert.AttnIdeal.Host.P m c) (Cert.AttnIdeal.Host.D m c) = Cert.AttnIdeal.Run.dvArr m c false := by
  obtain ⟨hP, hD⟩ := real_of_pre _ _ h
  funext i
  rw [eq_ix2 i]
  exact (Cert.AttnWeights.dkT_at (p := fun r k => (Cert.AttnIdeal.Host.P m c (ix2 r k)).toReal)
      (o := fun r k => (Cert.AttnIdeal.Host.D m c (ix2 r k)).toReal) hP hD _ _).trans
    (Cert.AttnIdeal.Value.dkArr_at (p := fun r k => (Cert.AttnIdeal.Host.P m c (ix2 r k)).toReal)
      (o := fun r k => (Cert.AttnIdeal.Host.D m c (ix2 r k)).toReal) hP hD _ _).symm

/-- and of v. -/
theorem value_v : Cert.AttnWeights.dvT (Cert.AttnIdeal.Host.P m c) (Cert.AttnIdeal.Host.D m c) = Cert.AttnIdeal.Run.dvArr m c true := by
  obtain ⟨hP, hD⟩ := real_of_pre _ _ h
  funext i
  rw [eq_ix2 i]
  exact (Cert.AttnWeights.dvT_at (p := fun r k => (Cert.AttnIdeal.Host.P m c (ix2 r k)).toReal) hP _ _ _).trans
    (Cert.AttnIdeal.Value.dvArr_at (p := fun r k => (Cert.AttnIdeal.Host.P m c (ix2 r k)).toReal) hP _ _).symm

end Value

theorem algebraic : Cert.algebraic_AttnIdeal_AttnRefIdeal_pre_attn_finite := by
  intro m g m' g' hpre hagree
  refine ⟨fun c => Cert.AttnIdeal.Run.dqArr m c, fun c => Cert.AttnIdeal.Run.dvArr m c false, fun c => Cert.AttnIdeal.Run.dvArr m c true, ?_, ?_⟩
  · refine θ_run_mono (θ_run_and (Cert.AttnIdeal.Run.run m g) (Cert.AttnIdeal.Text.frame (F := Ideal) m g)) fun r hr c => ⟨?_, ?_, ?_, hr.2.1 c⟩
    · exact ((Cert.AttnIdeal.Run.dats m 0 c).toRForget_arrAt_iff (w := 7) rfl _ _).1 ((hr.1.1 c).1 7) |>.trans (Cert.AttnIdeal.Run.arr7 m c)
    · exact ((Cert.AttnIdeal.Run.dats m 0 c).toRForget_arrAt_iff (w := 8) rfl _ _).1 ((hr.1.1 c).1 8) |>.trans (Cert.AttnIdeal.Run.arr8 m c)
    · exact ((Cert.AttnIdeal.Run.dats m 0 c).toRForget_arrAt_iff (w := 9) rfl _ _).1 ((hr.1.1 c).1 9) |>.trans (Cert.AttnIdeal.Run.arr9 m c)
  · refine θ_run_mono (Cert.AttnRefIdeal.Value.run (F := Ideal) m' g') fun r hr c => ⟨(hr c).1.trans ?_, (hr c).2.1.trans ?_, (hr c).2.2.1.trans ?_, (hr c).2.2.2⟩
    · refine (Cert.AttnWeights.res_eq m' c).1.trans ?_
      rw [(hagree c).1, (hagree c).2]
      exact value_q m c (hpre c)
    · refine (Cert.AttnWeights.res_eq m' c).2.1.trans ?_
      rw [(hagree c).1, (hagree c).2]
      exact value_k m c (hpre c)
    · refine (Cert.AttnWeights.res_eq m' c).2.2.trans ?_
      rw [(hagree c).1, (hagree c).2]
      exact value_v m c (hpre c)

end Cert.Proof.Attn
-- ==== Proof.InProjClaims.lean ====
/-
  The layer's norm and input projection of the forward pass: frames, the idealization's ledger, and the value claim.
-/
module

public import proofs.«01_k».proof.Proof.NormValue
public import proofs.«01_k».proof.Proof.Gen.InProj.Frame
public import proofs.«01_k».proof.Proof.Gen.InProjIdeal.Value
public import proofs.«01_k».proof.Proof.Gen.InProjRefIdeal.Run

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen Cert.Reals
open Cert.NormIdeal.Value (xr)

/-- The column of the projection that the call writes at column `e` of its first result: the pooling branch's value and
    gate, the branches' gates, the attention's gate. -/
def src (e : Fin 3584) : Fin 5120 :=
  ⟨if e.val < 1024 then e.val else if e.val < 3072 then 2048 + e.val else e.val - 512, by have := e.isLt; split_ifs <;> omega⟩

theorem src_lo (e : Fin 3584) (j : Fin 1024) (h : e.val = j.val) : src e = ⟨0 + j.val, by have := j.isLt; omega⟩ := by
  have hj := j.isLt
  exact Fin.ext (by show (if _ then _ else _) = 0 + j.val; rw [if_pos (by omega)]; omega)

theorem src_mid (e : Fin 3584) (j : Fin 2048) (h : e.val = 1024 + j.val) : src e = ⟨3072 + j.val, by have := j.isLt; omega⟩ := by
  have hj := j.isLt
  exact Fin.ext (by show (if _ then _ else _) = 3072 + j.val; rw [if_neg (by omega), if_pos (by omega)]; omega)

theorem src_hi (e : Fin 3584) (j : Fin 512) (h : e.val = 3072 + j.val) : src e = ⟨2560 + j.val, by have := j.isLt; omega⟩ := by
  have hj := j.isLt
  exact Fin.ext (by show (if _ then _ else _) = 2560 + j.val; rw [if_neg (by omega), if_neg (by omega)]; omega)

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

theorem point_lt (t : Fin cfg0.N) : t.val < 16 := lt_of_lt_of_eq t.isLt N_0

section Spec

variable (x : FVec Ideal S8192x1024 .f32) (g : FVec Ideal S1024 .f32) (w : FVec Ideal S1024x5120 .f32)

/-- The normed row. -/
def hn (i : Fin 8192) (k : Fin 1024) : EReal := xr x i k * rms (xr x i) * g (ix1 k)

/-- The projection. -/
def pr (i : Fin 8192) (e : Fin 5120) : EReal := ∑ k : Fin 1024, hn x g i k * w (ix2 k e)

/-- The first result's array: the projection's float32 columns in the call's order. -/
def projArr : FVec Ideal S8192x3584 .f32 := fun j => pr x g w (j 0) (src (j 1))

theorem projArr_at (i i' : Fin 8192) (e : Fin 3584) (e' : Fin 5120) (hi : i = i') (he : src e = e') :
    pr x g w i e' = projArr x g w (ix2 i' e) := by subst hi he; rfl

/-- The second result's array: the queries, keys and values. -/
def qkvArr : FVec Ideal S8192x1536 .bf16 := fun j => pr x g w (j 0) ⟨1024 + (j 1).val, by have : (j 1).val < 1536 := (j 1).isLt; omega⟩

/-- The third result's array: the normed rows. -/
def hArr : FVec Ideal S8192x1024 .bf16 := fun j => hn x g (j 0) (j 1)

end Spec

section Pay

variable (X : FVec Ideal S512x1024 .f32) (G : FVec Ideal S1x1024 .f32) (r : Fin 512)

theorem pay2_apply (k : Fin 1024) : k0_pay2 (F := Ideal) X G (ix2 r k)
    = X (ix2 r k) * rms (fun k => X (ix2 r k)) * G (ix2 0 k) := by
  pointwise [k0_pay2, rms, cD, cEps]

theorem pay3_apply (W : FVec Ideal S1024x1024 .bf16) (e : Fin 1024) : k0_pay3 (F := Ideal) X G W (ix2 r e)
    = ∑ k : Fin 1024, k0_pay2 (F := Ideal) X G (ix2 r k) * W (ix2 k e) := by
  pointwise [k0_pay3]

theorem pay4_apply (W : FVec Ideal S1024x1536 .bf16) (e : Fin 1536) : k0_pay4 (F := Ideal) X G W (ix2 r e)
    = ∑ k : Fin 1024, k0_pay2 (F := Ideal) X G (ix2 r k) * W (ix2 k e) := by
  pointwise [k0_pay4]

theorem pay5_apply (W : FVec Ideal S1024x2048 .bf16) (e : Fin 2048) : k0_pay5 (F := Ideal) X G W (ix2 r e)
    = ∑ k : Fin 1024, k0_pay2 (F := Ideal) X G (ix2 r k) * W (ix2 k e) := by
  pointwise [k0_pay5]

theorem pay1_apply (H : FVec Ideal S512x1024 .bf16) (W : FVec Ideal S1024x512 .bf16) (e : Fin 512) :
    k0_pay1 (F := Ideal) H W (ix2 r e) = ∑ k : Fin 1024, H (ix2 r k) * W (ix2 k e) := by
  pointwise [k0_pay1]

end Pay

/-- Row `r` of point `t`'s block, as a row of the array. -/
def row (t : Fin cfg0.N) (r : Fin 512) : Fin 8192 := ⟨t.val * 512 + r.val, by have := point_lt t; omega⟩

section Blocks

variable (c : Dev nD) (t : Fin cfg0.N) (r : Fin 512)

theorem blk0 (k : Fin 1024) : iblk m c 0 t (ix2 r k) = xr (m ((c : Thread nD τ).loc main_arg0)) (row t r) k := by
  unfold xr; blk_ext [iblk, V, idx t, row]

theorem blk1 (k : Fin 1024) : iblk m c 1 t (ix2 0 k) = (m ((c : Thread nD τ).loc main_arg1)) (ix1 k) := by
  blk_simp [iblk, idx t]; entry_read; pointwise; blk_ext [idx t]

theorem blk2 (k : Fin 1024) (e : Fin 5120) : iblk m c 2 t (ix2 k e) = (m ((c : Thread nD τ).loc main_arg2)) (ix2 k e) := by
  blk_simp [iblk, idx t]; entry_read; pointwise; blk_ext [idx t]

/-- A group of the weights' columns, as the body loads it. -/
theorem wcols (o n : ℕ) (h : o + n ≤ 5120) (hb : ∀ a, (![0, o] : Fin 2 → ℕ) a + (![1024, n] : Fin 2 → ℕ) a ≤ S1024x5120.size a)
    (k : Fin 1024) (j : Fin n) : View.ld (iblk m c 2 t) (Rect.unit (s := S1024x5120) ![0, o] ![1024, n] hb) (ix2 k j)
      = (m ((c : Thread nD τ).loc main_arg2)) (ix2 k ⟨o + j.val, by omega⟩) := by
  refine Eq.trans (congrArg (iblk m c 2 t) (?_ : (Rect.unit (s := S1024x5120) ![0, o] ![1024, n] hb).emb (ix2 k j) = ix2 k ⟨o + j.val, by omega⟩)) (blk2 m c t k _)
  blk_ext

theorem h_point (k : Fin 1024) : k0_pay2 (iblk m c 0 t) (iblk m c 1 t) (ix2 r k)
    = hn (m ((c : Thread nD τ).loc main_arg0)) (m ((c : Thread nD τ).loc main_arg1)) (row t r) k := by
  refine (pay2_apply (iblk m c 0 t) (iblk m c 1 t) r k).trans ?_
  rw [blk0, blk1, show rms (fun k => iblk m c 0 t (ix2 r k)) = _ from congrArg rms (funext fun k => blk0 m c t r k)]
  rfl

/-- A group of the projection's columns, computed from the loaded group of the weights'. -/
theorem dot_point (o n : ℕ) (h : o + n ≤ 5120) (hb : ∀ a, (![0, o] : Fin 2 → ℕ) a + (![1024, n] : Fin 2 → ℕ) a ≤ S1024x5120.size a) (e : Fin n) :
    (∑ k : Fin 1024, (k0_pay2 (iblk m c 0 t) (iblk m c 1 t) : FVec Ideal S512x1024 .bf16) (ix2 r k)
      * (View.ld (iblk m c 2 t) (Rect.unit (s := S1024x5120) ![0, o] ![1024, n] hb) (ix2 k e) : EReal) : EReal)
    = pr (m ((c : Thread nD τ).loc main_arg0)) (m ((c : Thread nD τ).loc main_arg1)) (m ((c : Thread nD τ).loc main_arg2)) (row t r) ⟨o + e.val, by omega⟩ :=
  Finset.sum_congr rfl fun k _ => congrArg₂ (fun a b : EReal => a * b) (h_point m c t r k) (wcols m c t o n h hb k e)

theorem outs3 (y : S512x3584.Idx) : (outsAt0 m c t).1 y = projArr (m ((c : Thread nD τ).loc main_arg0))
    (m ((c : Thread nD τ).loc main_arg1)) (m ((c : Thread nD τ).loc main_arg2)) (ix2 (row t (y 0)) (y 1)) := by
  unfold outsAt0
  frame_out
  canon_tiles x hx using (View.cover_of_tiledBy (s := S512x3584) _ S512x512.size (by sl_kernel_rfl) y)
  · idx_vars x
    refine Eq.trans ?_ (projArr_at _ _ _ (row t x0) (row t (y 0)) (y 1) _ (by simp only [row, hx0]) (src_hi (y 1) x1 hx1))
    exact (pay1_apply x0 _ _ x1).trans (dot_point m c t x0 2560 512 (by omega) _ x1)
  · idx_vars x
    refine Eq.trans ?_ (projArr_at _ _ _ (row t x0) (row t (y 0)) (y 1) _ (by simp only [row, hx0]) (src_mid (y 1) x1 hx1))
    exact (pay5_apply (iblk m c 0 t) (iblk m c 1 t) x0 _ x1).trans (dot_point m c t x0 3072 2048 (by omega) _ x1)
  · idx_vars x
    refine Eq.trans ?_ (projArr_at _ _ _ (row t x0) (row t (y 0)) (y 1) _ (by simp only [row, hx0]) (src_lo (y 1) x1 hx1))
    exact (pay3_apply (iblk m c 0 t) (iblk m c 1 t) x0 _ x1).trans (dot_point m c t x0 0 1024 (by omega) _ x1)

theorem outs4 (k : Fin 1536) : (outsAt0 m c t).2.1 (ix2 r k) = qkvArr (m ((c : Thread nD τ).loc main_arg0))
    (m ((c : Thread nD τ).loc main_arg1)) (m ((c : Thread nD τ).loc main_arg2)) (ix2 (row t r) k) := by
  unfold outsAt0
  frame_out
  exact (pay4_apply (iblk m c 0 t) (iblk m c 1 t) r _ k).trans (dot_point m c t r 1024 1536 (by omega) _ k)

theorem outs5 (k : Fin 1024) : (outsAt0 m c t).2.2 (ix2 r k)
    = hArr (m ((c : Thread nD τ).loc main_arg0)) (m ((c : Thread nD τ).loc main_arg1)) (ix2 (row t r) k) := by
  unfold outsAt0
  frame_out
  exact h_point m c t r k

end Blocks

theorem final3 (c : Dev nD) : (dats m 0 c).arrAt 3 cfg0.N
    = projArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (outs3 m c t _).trans ?_
  idx_vars y
  refine Eq.trans ?_ (congrArg (projArr _ _ _) (a₁ := ix2 (row t y0) y1) ?_)
  · rfl
  · blk_ext [idx t, row]

theorem final4 (c : Dev nD) : (dats m 0 c).arrAt 4 cfg0.N
    = qkvArr (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  refine (outs4 m c t y0 y1).trans ?_
  refine congrArg (qkvArr _ _ _) (a₁ := ix2 _ _) ?_
  blk_ext [idx t, row]

theorem final5 (c : Dev nD) : (dats m 0 c).arrAt 5 cfg0.N
    = hArr (m ((c : Thread nD τ).loc main_arg0)) (m ((c : Thread nD τ).loc main_arg1)) := by
  refine (dats m 0 c).arrAt_eq_of_covers 5 _ (by decide +kernel) fun t _ y => ?_
  blk_simp
  rw [after0_5]
  idx_vars y
  refine (outs5 m c t y0 y1).trans ?_
  refine congrArg (hArr _ _) (a₁ := ix2 _ _) ?_
  blk_ext [idx t, row]

end Cert.InProjIdeal.Value

namespace Cert.Proof.InProj

open Cert.InProjIdeal.Value Cert.Reals
open Cert.NormIdeal.Value (xr)

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2.2.2,
      Idealize.ShloMosaic.sem_eq_zero_of_no_sems (by decide) r.2⟩)
    (Cert.InProjRefIdeal.Value.run (F := Ideal) m ρ)

theorem preserves : Cert.preserves_InProj_InProjIdeal := trivial

theorem algebraic : Cert.algebraic_InProjIdeal_InProjRefIdeal := by
  pair_intro
  · run_from Cert.InProjIdeal.Value.run_blocks m g
  · run_from Cert.InProjRefIdeal.Value.run m' g'
    · refine Eq.trans ?_ (final3 m c).symm
      generalize m (c.tc.loc Cert.InProjIdeal.main_arg0) = x
      generalize m (c.tc.loc Cert.InProjIdeal.main_arg1) = g
      generalize hw : m (c.tc.loc Cert.InProjIdeal.main_arg2) = w
      funext i
      idx_vars i
      pointwise [projArr, pr, hn, rms, xr, cD, cEps]
      simp only [(hagree c).2.2, hw]
      split_ifs <;> refine Finset.sum_congr rfl fun k _ => congrArg₂ (fun a b : EReal => a * b) rfl (congrArg w (congrArg (ix2 k) (Fin.ext ?_)))
      all_goals first | rfl | (simp only [src]; split_ifs <;> omega) | (simp only; omega)
    · refine Eq.trans ?_ (final4 m c).symm
      generalize m (c.tc.loc Cert.InProjIdeal.main_arg0) = x
      generalize m (c.tc.loc Cert.InProjIdeal.main_arg1) = g
      generalize hw : m (c.tc.loc Cert.InProjIdeal.main_arg2) = w
      funext i
      idx_vars i
      pointwise [qkvArr, pr, hn, rms, xr, cD, cEps]
      simp only [(hagree c).2.2, hw]
      split_ifs <;> refine Finset.sum_congr rfl fun k _ => congrArg₂ (fun a b : EReal => a * b) rfl (congrArg w (congrArg (ix2 k) (Fin.ext ?_)))
      all_goals first | rfl | (simp only [src]; split_ifs <;> omega) | (simp only; omega)
    · refine Eq.trans ?_ (final5 m c).symm
      generalize m (c.tc.loc Cert.InProjIdeal.main_arg0) = x
      generalize m (c.tc.loc Cert.InProjIdeal.main_arg1) = g
      generalize hw : m (c.tc.loc Cert.InProjIdeal.main_arg2) = w
      funext i
      idx_vars i
      pointwise [hArr, hn, rms, xr, cD, cEps]

end Cert.Proof.InProj

end
-- ==== Proof.MergeFwdClaims.lean ====
/-
  The gated merge of the forward pass: frames, the idealization's ledger, and the value claim. The up-projections and the
  gates are those of the backward call.
-/
module

public import proofs.«01_k».proof.Proof.MergeValue
public import proofs.«01_k».proof.Proof.Gen.MergeFwd.Frame
public import proofs.«01_k».proof.Proof.Gen.MergeFwdIdeal.Value
public import proofs.«01_k».proof.Proof.Gen.MergeFwdRefIdeal.Run

@[expose] public section

set_option maxRecDepth 16384

noncomputable section

open Idealize.ShloMosaic Idealize.ShloMosaic.TcCoe Idealize.SL.Sem
open Idealize.ShloMosaic.Pipeline (Dat)

namespace Cert.MergeFwdIdeal.Value

open Cert.MergeFwdIdeal Cert.MergeFwdIdeal.Gen Cert.Reals
open Cert.MergeIdeal.Value (up gate sigm)

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 1] ∧ win0_5.index t = ![t.val, 2] ∧ win0_6.index t = ![0, 0]
    ∧ win0_7.index t = ![t.val, 0] :=
  (by decide +kernel : ∀ t : Fin grid0.N, _)

theorem point_lt (t : Fin cfg0.N) : t.val < 16 := lt_of_lt_of_eq t.isLt N_0

/-- The result's array: each branch's up-projection times its gate, added. -/
def mergedArr (yp ya : FVec Ideal S8192x512 .f32) (proj : FVec Ideal S8192x5120 .f32) (b : FVec Ideal S2048 .f32)
    (wp wa : FVec Ideal S512x1024 .f32) : FVec Ideal S8192x1024 .bf16 := fun i =>
  gate proj b (i 0) ⟨(i 1).val, by have : (i 1).val < 1024 := (i 1).isLt; omega⟩ * up yp wp (i 0) (i 1)
    + gate proj b (i 0) ⟨1024 + (i 1).val, by have : (i 1).val < 1024 := (i 1).isLt; omega⟩ * up ya wa (i 0) (i 1)

theorem pay_apply (Yp Ya : FVec Ideal S512x512 .bf16) (Wp Wa : FVec Ideal S512x1024 .bf16) (Z0 Z1 : FVec Ideal S512x1024 .f32)
    (B : FVec Ideal S1x2048 .f32) (r : Fin 512) (k : Fin 1024) :
    k0_pay1 (F := Ideal) (k0_pay2 Ya Wa) (k0_pay4 Z1 B) (k0_pay5 Yp Wp Z0 B) (ix2 r k)
      = sigm (Z0 (ix2 r k) + B (ix2 0 ⟨k.val, by omega⟩)) * (∑ c : Fin 512, Yp (ix2 r c) * Wp (ix2 c k))
        + sigm (Z1 (ix2 r k) + B (ix2 0 ⟨1024 + k.val, by omega⟩)) * (∑ c : Fin 512, Ya (ix2 r c) * Wa (ix2 c k)) := by
  pointwise [k0_pay1, k0_pay2, k0_pay3, k0_pay4, k0_pay5, sigm, zero_sub]

theorem blk0 (c : Dev nD) (t : Fin cfg0.N) (r : Fin 512) (k : Fin 512) (R : Fin 8192) (h : R.val = t.val * 512 + r.val) :
    iblk m c 0 t (ix2 r k) = m ((c : Thread nD τ).loc main_arg0) (ix2 R k) := by
  blk_simp [iblk, idx t]; entry_read; pointwise; blk_ext [idx t]

theorem blk1 (c : Dev nD) (t : Fin cfg0.N) (r : Fin 512) (k : Fin 512) (R : Fin 8192) (h : R.val = t.val * 512 + r.val) :
    iblk m c 1 t (ix2 r k) = m ((c : Thread nD τ).loc main_arg1) (ix2 R k) := by
  blk_simp [iblk, idx t]; entry_read; pointwise; blk_ext [idx t]

theorem blk2 (c : Dev nD) (t : Fin cfg0.N) (r : Fin 512) (k : Fin 1024) :
    iblk m c 2 t (ix2 r k) = m ((c : Thread nD τ).loc main_arg4) (ix2 r k) := by
  blk_simp [iblk, idx t]; entry_read; pointwise; blk_ext [idx t]

theorem blk3 (c : Dev nD) (t : Fin cfg0.N) (r : Fin 512) (k : Fin 1024) :
    iblk m c 3 t (ix2 r k) = m ((c : Thread nD τ).loc main_arg5) (ix2 r k) := by
  blk_simp [iblk, idx t]; entry_read; pointwise; blk_ext [idx t]

theorem blk6 (c : Dev nD) (t : Fin cfg0.N) (k : Fin 2048) :
    iblk m c 6 t (ix2 0 k) = m ((c : Thread nD τ).loc main_arg3) (ix1 k) := by
  blk_simp [iblk, idx t]; entry_read; pointwise; blk_ext [idx t]

/-- The call's own order of the projection's columns: the branches' gates stand second. -/
theorem V_v7 (c : Dev nD) (i : Fin 8192) (k : Fin 2048) : V m c main_v7 (ix2 i ⟨1024 + k.val, by omega⟩)
    = m ((c : Thread nD τ).loc main_arg2) (ix2 i ⟨3072 + k.val, by omega⟩) := by
  unfold V hostOps0
  after_reads_at
  after_reads_simp
  pointwise
  blk_ext

theorem blk4 (c : Dev nD) (t : Fin cfg0.N) (r : Fin 512) (k : Fin 1024) (R : Fin 8192) (h : R.val = t.val * 512 + r.val) :
    X0_4 m c t (ix2 r k) = m ((c : Thread nD τ).loc main_arg2) (ix2 R ⟨3072 + k.val, by omega⟩) := by
  unfold X0_4 Pipeline.Window.fill
  rw [dif_pos (moved0_4 t _)]
  refine Eq.trans (congrArg (V m c main_v7) (?_ : _ = ix2 R ⟨1024 + k.val, by omega⟩)) (V_v7 m c R ⟨k.val, by omega⟩)
  blk_ext [idx t]

theorem blk5 (c : Dev nD) (t : Fin cfg0.N) (r : Fin 512) (k : Fin 1024) (R : Fin 8192) (h : R.val = t.val * 512 + r.val) :
    X0_5 m c t (ix2 r k) = m ((c : Thread nD τ).loc main_arg2) (ix2 R ⟨3072 + (1024 + k.val), by omega⟩) := by
  unfold X0_5 Pipeline.Window.fill
  rw [dif_pos (moved0_5 t _)]
  refine Eq.trans (congrArg (V m c main_v7) (?_ : _ = ix2 R ⟨1024 + (1024 + k.val), by omega⟩)) (V_v7 m c R ⟨1024 + k.val, by omega⟩)
  blk_ext [idx t]

/-- The stored value of blocks that hold the arguments' rows at `R`. -/
theorem point_of (Yp Ya : FVec Ideal S512x512 .bf16) (Wp Wa : FVec Ideal S512x1024 .bf16) (Z0 Z1 : FVec Ideal S512x1024 .f32)
    (B : FVec Ideal S1x2048 .f32) (yp ya : FVec Ideal S8192x512 .f32) (proj : FVec Ideal S8192x5120 .f32)
    (b : FVec Ideal S2048 .f32) (wp wa : FVec Ideal S512x1024 .f32) (r : Fin 512) (k : Fin 1024) (R : Fin 8192)
    (h0 : ∀ x : Fin 512, Yp (ix2 r x) = yp (ix2 R x)) (h1 : ∀ x : Fin 512, Ya (ix2 r x) = ya (ix2 R x))
    (h2 : ∀ x : Fin 512, Wp (ix2 x k) = wp (ix2 x k)) (h3 : ∀ x : Fin 512, Wa (ix2 x k) = wa (ix2 x k))
    (h4 : Z0 (ix2 r k) = proj (ix2 R ⟨3072 + k.val, by omega⟩)) (h5 : Z1 (ix2 r k) = proj (ix2 R ⟨3072 + (1024 + k.val), by omega⟩))
    (h6 : ∀ k : Fin 2048, B (ix2 0 k) = b (ix1 k)) :
    k0_pay1 (F := Ideal) (k0_pay2 Ya Wa) (k0_pay4 Z1 B) (k0_pay5 Yp Wp Z0 B) (ix2 r k) = mergedArr yp ya proj b wp wa (ix2 R k) := by
  rw [pay_apply, h4, h5, h6, h6, Finset.sum_congr rfl fun x _ => congrArg₂ (fun a b : EReal => a * b) (h0 x) (h2 x),
    Finset.sum_congr rfl fun x _ => congrArg₂ (fun a b : EReal => a * b) (h1 x) (h3 x)]
  rfl

/-- Row `r` of point `t`'s block, as a row of the array. -/
def row (t : Fin cfg0.N) (r : Fin 512) : Fin 8192 := ⟨t.val * 512 + r.val, by have := point_lt t; omega⟩

theorem outs7 (c : Dev nD) (t : Fin cfg0.N) (r : Fin 512) (k : Fin 1024) : outsAt0 m c t (ix2 r k)
    = mergedArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (row t r) k) := by
  unfold outsAt0
  frame_out
  exact point_of (iblk m c 0 t) (iblk m c 1 t) (iblk m c 2 t) (iblk m c 3 t) (X0_4 m c t) (X0_5 m c t) (iblk m c 6 t) _ _ _ _ _ _ r k (row t r)
    (fun x => blk0 m c t r x _ rfl) (fun x => blk1 m c t r x _ rfl) (fun x => blk2 m c t x k) (fun x => blk3 m c t x k)
    (blk4 m c t r k _ rfl) (blk5 m c t r k _ rfl) (blk6 m c t)

theorem final7 (c : Dev nD) : (dats m 0 c).arrAt 7 cfg0.N
    = mergedArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  idx_vars y
  refine (outs7 m c t y0 y1).trans ?_
  refine congrArg (mergedArr _ _ _ _ _ _) (a₁ := ix2 _ _) ?_
  blk_ext [idx t, row]

end Cert.MergeFwdIdeal.Value

namespace Cert.Proof.MergeFwd

open Cert.MergeFwdIdeal.Value
open Cert.MergeIdeal.Value (up gate sigm)

theorem frame_p : Cert.quiescent_MergeFwd := fun m ρ _ => Cert.MergeFwd.Gen.frame m ρ
theorem frame_pi : Cert.quiescent_MergeFwdIdeal := fun m ρ _ => Cert.MergeFwdIdeal.Gen.frame m ρ
theorem frame_ri : Cert.quiescent_MergeFwdRefIdeal := fun m ρ _ =>
  (θ_run Cert.MergeFwdRefIdeal.defs _ _).mono (fun r h => ⟨fun c => (h c).2,
      Idealize.ShloMosaic.sem_eq_zero_of_no_sems (by decide) r.2⟩)
    (Cert.MergeFwdRefIdeal.Value.run (F := Ideal) m ρ)

theorem preserves : Cert.preserves_MergeFwd_MergeFwdIdeal := trivial

theorem algebraic : Cert.algebraic_MergeFwdIdeal_MergeFwdRefIdeal := by
  pair_intro
  · run_from Cert.MergeFwdIdeal.Value.run_blocks m g
  · run_from Cert.MergeFwdRefIdeal.Value.run m' g'
    · refine Eq.trans ?_ (final7 m c).symm
      generalize m (c.tc.loc Cert.MergeFwdIdeal.main_arg0) = yp
      generalize m (c.tc.loc Cert.MergeFwdIdeal.main_arg1) = ya
      generalize m (c.tc.loc Cert.MergeFwdIdeal.main_arg2) = p
      generalize m (c.tc.loc Cert.MergeFwdIdeal.main_arg3) = b
      generalize m (c.tc.loc Cert.MergeFwdIdeal.main_arg4) = wp
      generalize m (c.tc.loc Cert.MergeFwdIdeal.main_arg5) = wa
      funext i
      idx_vars i
      pointwise [mergedArr, gate, sigm, up]

end Cert.Proof.MergeFwd

end
-- ==== Proof.PoolFwdClaims.lean ====
/-
  The pooling branch of the forward pass: frames, the idealization's ledger, and the value claim. The pooled values, the
  groups' maps and the gate are those of the backward call.
-/
module

public import proofs.«01_k».proof.Proof.PoolRef
public import proofs.«01_k».proof.Proof.Gen.PoolFwd.Frame
public import proofs.«01_k».proof.Proof.Gen.PoolFwdIdeal.Value
public import proofs.«01_k».proof.Proof.Gen.PoolFwdRefIdeal.Run
public import proofs.«01_k».proof.Proof.Gen.Pre_pool_fwd_finite

@[expose] public section

set_option maxRecDepth 16384

noncomputable section

open Idealize.ShloMosaic Idealize.ShloMosaic.TcCoe Idealize.SL.Sem
open Idealize.ShloMosaic.Pipeline (Dat)

namespace Cert.PoolFwdIdeal.Value

open Cert.PoolFwdIdeal Cert.PoolFwdIdeal.Gen Cert.Reals
open Cert.PoolIdeal.Value (col grp lane wlen cnt vals pooled mixed zz sigm rotAdd rotAdd_back side col0 col1 col2 col3)

variable (m : (ℓ : Loc nD τ sig) → Buf (Elt Ideal) ℓ)

/-- The windows' block indices at every grid point. -/
theorem idx : ∀ t : Fin cfg0.N, win0_0.index t = ![t.val, 0] ∧ win0_1.index t = ![t.val, 1] ∧ win0_2.index t = ![0, 0, 0]
    ∧ win0_3.index t = ![0, 0] ∧ win0_4.index t = ![t.val, 0] :=
  (by decide +kernel : ∀ t : Fin grid0.N, _)

theorem coord : ∀ t : Fin cfg0.N, ((grid0.coords t) 0).val = t.val := (by decide +kernel : ∀ t : Fin grid0.N, _)

theorem point_lt (t : Fin cfg0.N) : t.val < 16 := lt_of_lt_of_eq t.isLt N_0

/-- The result's array: the pooled values through the groups' maps, scaled, times the gate's value. -/
def yArr (proj : FVec Ideal S8192x5120 .f32) (pw : FVec Ideal S4x128x128 .f32) (sc : FVec Ideal S512 .f32) : FVec Ideal S8192x512 .bf16 :=
  fun i => mixed proj pw (i 0) (grp (i 1)) (lane (i 1)) * sc (ix1 (i 1)) * (zz proj (i 0) (i 1) * sigm (zz proj (i 0) (i 1)))

/-! ## The body's values, of any blocks -/

/-- Four blocks of 128 columns side by side. -/
theorem cat4 (f : Fin 4 → Fin 128 → EReal) (r : Fin 512) {a b c d : FVec Ideal S512x128 .f32} (ha : ∀ k, a (ix2 r k) = f 0 k)
    (hb : ∀ k, b (ix2 r k) = f 1 k) (hc : ∀ k, c (ix2 r k) = f 2 k) (hd : ∀ k, d (ix2 r k) = f 3 k) (g : Fin 4) (k : Fin 128) :
    (concatenate S512x512 1 [⟨S512x128, a⟩, ⟨S512x128, b⟩, ⟨S512x128, c⟩, ⟨S512x128, d⟩]
      concatenates_S512x128_S512x128_S512x128_S512x128_S512x512_d1 : FVec Ideal S512x512 .f32) (ix2 r (col g k)) = f g k := by
  pointwise
  exact side (f := f) (a := fun k => a (ix2 r k)) (b := fun k => b (ix2 r k)) (c := fun k => c (ix2 r k)) (d := fun k => d (ix2 r k)) ha hb hc hd g k

/-- The row's number plus one, as the body computes it. -/
theorem rowno (t r : ℕ) (ht : t < 16) (hr : r < 512) :
    IntOp.addi (IntOp.addi (Scalar.muli (BitVec.ofNat 32 t) 512#32) (BitVec.ofNat 32 r)) 1#32 = BitVec.ofNat 32 (t * 512 + r + 1) := by
  refine BitVec.eq_of_toNat_eq ?_
  simp [IntOp.addi, Scalar.muli, IntOp.muli, BitVec.toNat_add, BitVec.toNat_mul]

section Pay

variable (U : FVec Ideal S512x512 .f32) (H : FVec Ideal S16x512 .f32) (X : Fin 4 → Fin 128 → ℕ → EReal)
  (hU : ∀ (r : Fin 512) g k, U (ix2 r (col g k)) = X g k (16 + r.val)) (hH : ∀ (r : Fin 16) g k, H (ix2 r (col g k)) = X g k r.val)

include hU hH

theorem pay6_at (g : Fin 4) (k : Fin 128) (x : Fin 528) (hx : 2 ≤ x.val + 1) : k0_pay6 (F := Ideal) U H (ix2 x (col g k)) = back 2 (X g k) x.val := by
  refine rotAdd_back 1#32 1 rfl (by omega) (by omega)
    (concatenate S528x512 0 [⟨S16x512, H⟩, ⟨S512x512, k0_pay4 U⟩] concatenates_S16x512_S512x512_S528x512_d0) (X g k) (col g k) (fun x _ => ?_) x hx
  rw [back_one]
  have hx := x.isLt
  pointwise [k0_pay4]
  by_cases h : x.val < 16
  · exact (dif_pos h).trans (hH ⟨x.val, h⟩ g k)
  · exact (dif_neg h).trans ((hU ⟨x.val - 16, by omega⟩ g k).trans (congrArg (X g k) (by show 16 + (x.val - 16) = x.val; omega)))

theorem pay7_at (g : Fin 4) (k : Fin 128) (x : Fin 528) (hx : 4 ≤ x.val + 1) : k0_pay7 (F := Ideal) U H (ix2 x (col g k)) = back 4 (X g k) x.val :=
  rotAdd_back 2#32 2 rfl (by omega) (by omega) (k0_pay6 U H) _ _ (pay6_at U H X hU hH g k) x hx

theorem pay8_at (g : Fin 4) (k : Fin 128) (x : Fin 528) (hx : 8 ≤ x.val + 1) : k0_pay8 (F := Ideal) U H (ix2 x (col g k)) = back 8 (X g k) x.val :=
  rotAdd_back 4#32 4 rfl (by omega) (by omega) (k0_pay7 U H) _ _ (pay7_at U H X hU hH g k) x hx

theorem pay9_at (g : Fin 4) (k : Fin 128) (x : Fin 528) (hx : 16 ≤ x.val + 1) : k0_pay9 (F := Ideal) U H (ix2 x (col g k)) = back 16 (X g k) x.val :=
  rotAdd_back 8#32 8 rfl (by omega) (by omega) (k0_pay8 U H) _ _ (pay8_at U H X hU hH g k) x hx

variable (i : grid0.Coords) (r : Fin 512) (n : Fin 8192) (hi : (i 0).val < 16) (hn : n.val = (i 0).val * 512 + r.val)

include hi hn

/-- The pooled values through the groups' maps. -/
theorem pay13_at (W : Fin 4 → Fin 128 → Fin 128 → EReal) {w0 w1 w2 w3 : FVec Ideal S1x128x128 .f32} (h0 : ∀ l k, w0 (ix3 0 l k) = W 0 l k)
    (h1 : ∀ l k, w1 (ix3 0 l k) = W 1 l k) (h2 : ∀ l k, w2 (ix3 0 l k) = W 2 l k) (h3 : ∀ l k, w3 (ix3 0 l k) = W 3 l k) (g : Fin 4) (k : Fin 128) :
    k0_pay13 (F := Ideal) (k0_pay4 U) (k0_pay5 i) (k0_pay8 U H) (k0_pay9 U H) (k0_pay10 i U H) (k0_pay11 i U H) (k0_pay12 i) 8#32 w0 w1 w2 w3 (ix2 r (col g k))
      = ∑ l, (Ideal.div (back (wlen g) (X g l) (16 + r.val)) (cnt g n) - X g l (16 + r.val)) * W g l k := by
  have e := rowno _ _ hi r.isLt
  unfold k0_pay13
  refine cat4 (fun g k => ∑ l, (Ideal.div (back (wlen g) (X g l) (16 + r.val)) (cnt g n) - X g l (16 + r.val)) * W g l k) r
    (fun k => ?_) (fun k => ?_) (fun k => ?_) (fun k => ?_) g k
  · pointwise [k0_pay10, k0_pay4, k0_pay5]
    exact Finset.sum_congr rfl fun l _ => by
      rw [e, col0, hU, h0, pay6_at U H X hU hH _ _ _ (by show 2 ≤ 16 + r.val + 1; omega)]; unfold cnt; rw [hn]; rfl
  · pointwise [k0_pay11, k0_pay4, k0_pay5]
    exact Finset.sum_congr rfl fun l _ => by
      rw [e, col1, hU, h1, pay7_at U H X hU hH _ _ _ (by show 4 ≤ 16 + r.val + 1; omega)]; unfold cnt; rw [hn]; rfl
  · pointwise [k0_pay12, k0_pay4, k0_pay5]
    exact Finset.sum_congr rfl fun l _ => by
      rw [e, col2, hU, h2, pay8_at U H X hU hH _ _ _ (by show 8 ≤ 16 + r.val + 1; omega)]; unfold cnt; rw [hn]; rfl
  · pointwise [k0_pay12, k0_pay4, k0_pay5]
    exact Finset.sum_congr rfl fun l _ => by
      rw [e, col3, hU, h3, pay9_at U H X hU hH _ _ _ (by show 16 ≤ 16 + r.val + 1; omega)]; unfold cnt; rw [hn]; rfl

end Pay

theorem pay1_at (M Z : FVec Ideal S512x512 .f32) (S : FVec Ideal S1x512 .f32) (r j : Fin 512) :
    k0_pay1 (F := Ideal) M Z S (ix2 r j) = M (ix2 r j) * S (ix2 0 j) * (Z (ix2 r j) * sigm (Z (ix2 r j))) := by
  pointwise [k0_pay1, sigm, zero_sub]

/-! ## The blocks -/

/-- Row `r` of point `t`'s block, as a row of the array. -/
def row (t : Fin cfg0.N) (r : Fin 512) : Fin 8192 := ⟨t.val * 512 + r.val, by have := point_lt t; omega⟩

abbrev aProj (c : Dev nD) : FVec Ideal S8192x5120 .f32 := m ((c : Thread nD τ).loc main_arg0)
abbrev aPw (c : Dev nD) : FVec Ideal S4x128x128 .f32 := m ((c : Thread nD τ).loc main_arg1)
abbrev aSc (c : Dev nD) : FVec Ideal S512 .f32 := m ((c : Thread nD τ).loc main_arg2)

section Blocks

variable (c : Dev nD) (t : Fin cfg0.N) (r : Fin 512)

/-- The call's own order of the projection's columns: the pooling branch's come first. -/
theorem V_v3 (i : Fin 8192) (k : Fin 1024) : V m c main_v3 (ix2 i ⟨k.val, by omega⟩) = aProj m c (ix2 i ⟨k.val, by omega⟩) := by
  unfold V hostOps0
  after_reads_at
  after_reads_simp
  pointwise
  blk_ext

theorem blk0 (g : Fin 4) (k : Fin 128) : iblk m c 0 t (ix2 r (col g k)) = vals (aProj m c) g k (t.val * 512 + r.val) := by
  have ht := point_lt t
  unfold vals
  rw [dif_pos (by omega)]
  refine Eq.trans (congrArg (V m c main_v3) (?_ : _ = ix2 (row t r) ⟨128 * g.val + k.val, by omega⟩)) (V_v3 m c _ ⟨128 * g.val + k.val, by omega⟩)
  blk_ext [idx t, row, col]

theorem blk1 (j : Fin 512) : iblk m c 1 t (ix2 r j) = zz (aProj m c) (row t r) j := by
  unfold zz
  refine Eq.trans (congrArg (V m c main_v3) (?_ : _ = ix2 (row t r) ⟨512 + j.val, by omega⟩)) (V_v3 m c _ ⟨512 + j.val, by omega⟩)
  blk_ext [idx t, row]

theorem blk2 (g : Fin 4) (k l : Fin 128) : iblk m c 2 t (ix3 g k l) = aPw m c (ix3 g k l) := by
  blk_ext [iblk, V, idx t]

theorem blk3 (j : Fin 512) : iblk m c 3 t (ix2 0 j) = aSc m c (ix1 j) := by
  blk_simp [iblk, idx t]; entry_read; pointwise; blk_ext [idx t]

/-- The values that are pooled from sixteen rows above the block on, zero above the array. -/
def ext (g : Fin 4) (k : Fin 128) (x : ℕ) : EReal :=
  if t.val * 512 + x < 16 then 0 else vals (aProj m c) g k (t.val * 512 + x - 16)

theorem back_ext (n : ℕ) (hn : n ≤ 16) (g : Fin 4) (k : Fin 128) :
    back n (ext m c t g k) (16 + r.val) = window n (vals (aProj m c) g k) (row t r).val := by
  unfold back window
  refine Finset.sum_congr rfl fun s hs => ?_
  have hs := Finset.mem_range.mp hs
  unfold ext row
  by_cases h : s ≤ t.val * 512 + r.val
  · rw [if_neg (by omega), if_pos h]
    exact congrArg _ (by show t.val * 512 + (16 + r.val - s) - 16 = t.val * 512 + r.val - s; omega)
  · rw [if_pos (by omega), if_neg h]

theorem ext_own (g : Fin 4) (k : Fin 128) : vals (aProj m c) g k (t.val * 512 + r.val) = ext m c t g k (16 + r.val) := by
  unfold ext
  rw [if_neg (by omega)]
  exact congrArg _ (by omega)

/-- What a point stores, over a scratch that holds the rows above its block. -/
theorem out_at (H : FVec Ideal S16x512 .f32) (hH : ∀ (r : Fin 16) g k, H (ix2 r (col g k)) = ext m c t g k r.val) (j : Fin 512) :
    k0_pay1 (F := Ideal) (k0_pay13 (k0_pay4 (iblk m c 0 t)) (k0_pay5 (grid0.coords t)) (k0_pay8 (iblk m c 0 t) H) (k0_pay9 (iblk m c 0 t) H)
      (k0_pay10 (grid0.coords t) (iblk m c 0 t) H) (k0_pay11 (grid0.coords t) (iblk m c 0 t) H) (k0_pay12 (grid0.coords t)) 8#32
      (View.ld (iblk m c 2 t) (Rect.unit ![0, 0, 0] ![1, 128, 128] inb_S4x128x128_S1x128x128_0_0_0))
      (View.ld (iblk m c 2 t) (Rect.unit ![1, 0, 0] ![1, 128, 128] inb_S4x128x128_S1x128x128_1_0_0))
      (View.ld (iblk m c 2 t) (Rect.unit ![2, 0, 0] ![1, 128, 128] inb_S4x128x128_S1x128x128_2_0_0))
      (View.ld (iblk m c 2 t) (Rect.unit ![3, 0, 0] ![1, 128, 128] inb_S4x128x128_S1x128x128_3_0_0))) (iblk m c 1 t) (iblk m c 3 t) (ix2 r j)
    = yArr (aProj m c) (aPw m c) (aSc m c) (ix2 (row t r) j) := by
  obtain ⟨g, k, rfl⟩ : ∃ g k, j = col g k := ⟨grp j, lane j, (Cert.PoolIdeal.Value.col_grp_lane j).symm⟩
  refine (pay1_at _ (iblk m c 1 t) (iblk m c 3 t) r (col g k)).trans ?_
  rw [blk1, blk3, pay13_at (iblk m c 0 t) H (ext m c t) (fun r g k => (blk0 m c t r g k).trans (ext_own m c t r g k)) hH (grid0.coords t) r (row t r)
    (by rw [coord]; exact point_lt t) (by rw [coord]; rfl) (fun g l k => aPw m c (ix3 g l k)) (fun l k => by pointwise; exact blk2 m c t 0 l k)
    (fun l k => by pointwise; exact blk2 m c t 1 l k) (fun l k => by pointwise; exact blk2 m c t 2 l k) (fun l k => by pointwise; exact blk2 m c t 3 l k) g k]
  have key : ∀ l, Ideal.div (back (wlen g) (ext m c t g l) (16 + r.val)) (cnt g (row t r)) - ext m c t g l (16 + r.val) = pooled (aProj m c) (row t r) g l := by
    intro l
    rw [back_ext m c t r (wlen g) (by revert g; decide), ← ext_own]
    unfold pooled
    exact congrArg (Ideal.div _ _ - ·) (dif_pos (row t r).isLt)
  simp only [key]
  show _ = mixed _ _ _ (grp (col g k)) (lane (col g k)) * _ * _
  rw [Cert.PoolIdeal.Value.grp_col, Cert.PoolIdeal.Value.lane_col]
  rfl

/-- The last sixteen rows of a point's block, which it leaves in the scratch. -/
theorem halo_at (r : Fin 16) (g : Fin 4) (k : Fin 128) : (outsAt0 m c t.val t.isLt).2 (ix2 r (col g k)) = vals (aProj m c) g k (t.val * 512 + (496 + r.val)) := by
  have key : k0_pay2 (F := Ideal) (k0_pay4 (iblk m c 0 t)) (ix2 r (col g k)) = vals (aProj m c) g k (t.val * 512 + (496 + r.val)) := by
    refine Eq.trans ?_ (blk0 m c t ⟨496 + r.val, by omega⟩ g k)
    pointwise [k0_pay2, k0_pay4]
  by_cases h : t.val % 16 = 0
  · rw [outsAt0_A m c t h]; frame_out; exact key
  · rw [outsAt0_B m c t h]; frame_out; exact key

theorem outs4 (j : Fin 512) : (outsAt0 m c t.val t.isLt).1 (ix2 r j) = yArr (aProj m c) (aPw m c) (aSc m c) (ix2 (row t r) j) := by
  have ht := point_lt t
  by_cases h : t.val % 16 = 0
  · rw [outsAt0_A m c t h]; frame_out
    refine out_at m c t r k0_pay3 (fun r g k => ?_) j
    unfold ext
    rw [if_pos (by omega)]
    pointwise [k0_pay3]
  · rw [outsAt0_B m c t h]; frame_out
    refine out_at m c t r _ (fun r g k => ?_) j
    rw [read_unread_whole]
    refine (halo_at m c ⟨t.val - 1, lt_of_le_of_lt (Nat.sub_le _ _) t.isLt⟩ r g k).trans ?_
    unfold ext
    rw [if_neg (by omega)]
    exact congrArg _ (by show (t.val - 1) * 512 + (496 + r.val) = _; omega)

end Blocks

theorem array4 (c : Dev nD) : (dats m 0 c).arrAt 4 cfg0.N = yArr (aProj m c) (aPw m c) (aSc m c) := by
  refine (dats m 0 c).arrAt_eq_of_covers 4 _ (by decide +kernel) fun t _ y => ?_
  blk_simp
  rw [after0_4]
  idx_vars y
  refine (outs4 m c t y0 y1).trans ?_
  refine congrArg (yArr _ _ _) (a₁ := ix2 _ _) ?_
  blk_ext [idx t, row]

end Cert.PoolFwdIdeal.Value

namespace Cert.PoolFwdRefIdeal.Value

open Cert.PoolFwdRefIdeal Cert.PoolFwdRefIdeal.Gen Cert.Reals
open Cert.PoolIdeal.Value (col grp lane vals)
open Cert.PoolRefIdeal.Value (bProj bPw bSc)

/-- Contents of the backward reference's buffers with given arguments. -/
theorem exists_args (p : FVec Ideal S8192x5120 .f32) (w : FVec Ideal S4x128x128 .f32) (s : FVec Ideal S512 .f32) :
    ∃ V0 : Valuation Cert.PoolRefIdeal.τ Cert.PoolRefIdeal.sig (Elt Ideal), bProj V0 = p ∧ bPw V0 = w ∧ bSc V0 = s := by
  refine ⟨Function.update (Function.update (Function.update (fun _ _ => default) (Proc.devRef .tc Cert.PoolRefIdeal.main_arg0) p)
    (Proc.devRef .tc Cert.PoolRefIdeal.main_arg1) w) (Proc.devRef .tc Cert.PoolRefIdeal.main_arg2) s, ?_, ?_, ?_⟩
  · unfold bProj; rw [Function.update_of_ne (by decide), Function.update_of_ne (by decide), Function.update_self]
  · unfold bPw; rw [Function.update_of_ne (by decide), Function.update_self]
  · unfold bSc; rw [Function.update_self]

/-- The forward reference's result is the part of the backward reference that recomputes it. -/
theorem res_eq (m : (ℓ : Loc nD τ sig) → Buf (Elt Ideal) ℓ) (c : Dev nD) (V0 : Valuation Cert.PoolRefIdeal.τ Cert.PoolRefIdeal.sig (Elt Ideal))
    (e0 : bProj V0 = m (c.tc.loc main_arg0)) (e1 : bPw V0 = m (c.tc.loc main_arg1)) (e2 : bSc V0 = m (c.tc.loc main_arg2)) :
    res_main_v80 m c = truncf .bf16 (mulf (PoolRefIdeal.Value.res_main_v81 V0) (PoolRefIdeal.Value.res_main_v82_0 V0)) Facts₀.bitsLt_bf16_f32 := by
  unfold res_main_v80
  rw [← e0, ← e1, ← e2]
  rfl

theorem res_at (V0 : Valuation Cert.PoolRefIdeal.τ Cert.PoolRefIdeal.sig (Elt Ideal)) (hp : ∀ n g k, IsReal (vals (bProj V0) g k n)) :
    truncf .bf16 (mulf (PoolRefIdeal.Value.res_main_v81 V0) (PoolRefIdeal.Value.res_main_v82_0 V0)) Facts₀.bitsLt_bf16_f32
      = Cert.PoolFwdIdeal.Value.yArr (bProj V0) (bPw V0) (bSc V0) := by
  funext i
  idx_vars i
  obtain ⟨g, k, rfl⟩ : ∃ g k, i1 = col g k := ⟨grp i1, lane i1, (Cert.PoolIdeal.Value.col_grp_lane i1).symm⟩
  unfold PoolRefIdeal.Value.res_main_v81 PoolRefIdeal.Value.res_main_v82_0 PoolRefIdeal.Value.res_main_v79
  pointwise [PoolRefIdeal.Value.v78_at V0 hp, PoolRefIdeal.Value.v1_at V0, PoolRefIdeal.Value.v822_at V0]
  show _ = Cert.PoolIdeal.Value.mixed _ _ _ (grp (col g k)) (lane (col g k)) * _ * _
  rw [Cert.PoolIdeal.Value.grp_col, Cert.PoolIdeal.Value.lane_col]
  rfl

end Cert.PoolFwdRefIdeal.Value

namespace Cert.Proof.PoolFwd

open Cert.Reals Cert.PoolFwdIdeal Cert.PoolFwdIdeal.Value
open Cert.PoolIdeal.Value (vals)

theorem frame_p : Cert.quiescent_PoolFwd := fun m ρ _ => Cert.PoolFwd.Gen.frame m ρ
theorem frame_pi : Cert.quiescent_PoolFwdIdeal := fun m ρ _ => Cert.PoolFwdIdeal.Gen.frame m ρ
theorem frame_pi_pre : Cert.quiescent_PoolFwdIdeal_pre_pool_fwd_finite := fun m ρ _ => Cert.PoolFwdIdeal.Gen.frame m ρ
theorem frame_ri : Cert.quiescent_PoolFwdRefIdeal := fun m ρ _ =>
  (θ_run Cert.PoolFwdRefIdeal.defs _ _).mono (fun r h => ⟨fun c => (h c).2,
      Idealize.ShloMosaic.sem_eq_zero_of_no_sems (by decide) r.2⟩)
    (Cert.PoolFwdRefIdeal.Value.run (F := Ideal) m ρ)
theorem frame_ri_pre : Cert.quiescent_PoolFwdRefIdeal_pre_pool_fwd_finite := fun m ρ _ => frame_ri m ρ trivial

theorem preserves : Cert.preserves_PoolFwd_PoolFwdIdeal := trivial

/-- What the precondition says of the values that are pooled. -/
theorem real_of_pre (x : FVec Ideal S8192x5120 .f32) (pw : FVec Ideal S4x128x128 .f32) (sc : FVec Ideal S512 .f32)
    (h : Cert.Pre_pool_fwd_finite.fn (F := Ideal) x pw sc = fun _ => 1#1) (n : ℕ) (g : Fin 4) (k : Fin 128) : IsReal (vals x g k n) := by
  unfold vals
  split_ifs with hn
  · have e := all_isReal _ _ _ _ _ (congrFun h ix0) (ix2 ⟨n, hn⟩ ⟨128 * g.val + k.val, by omega⟩)
    revert e
    pointwise
    intro e
    exact e
  · exact isReal_zero

theorem algebraic : Cert.algebraic_PoolFwdIdeal_PoolFwdRefIdeal_pre_pool_fwd_finite := by
  pair_intro
  · run_from Cert.PoolFwdIdeal.Value.run_blocks m g
  · run_from Cert.PoolFwdRefIdeal.Value.run m' g'
    · obtain ⟨h0, h1, h2⟩ := hagree c
      obtain ⟨V0, e0, e1, e2⟩ := Cert.PoolFwdRefIdeal.Value.exists_args (aProj m c) (aPw m c) (aSc m c)
      refine (Cert.PoolFwdRefIdeal.Value.res_eq m' c V0 (e0.trans h0.symm) (e1.trans h1.symm) (e2.trans h2.symm)).trans ?_
      refine (Cert.PoolFwdRefIdeal.Value.res_at V0 (by rw [e0]; exact real_of_pre _ _ _ (hpre c))).trans ?_
      rw [array4, e0, e1, e2]

end Cert.Proof.PoolFwd

end
-- ==== Proof.lean ====
module

public import proofs.«01_k».proof.Defs
public import proofs.«01_k».proof.Proof.Gen.AttnGate
public import proofs.«01_k».proof.Proof.Gen.AttnGate.Skeleton
public import proofs.«01_k».proof.Proof.Gen.AttnGate.Launch
public import proofs.«01_k».proof.Proof.Gen.AttnGate.Points
public import proofs.«01_k».proof.Proof.Gen.AttnGate.Frame
public import proofs.«01_k».proof.Proof.Gen.AttnGateIdeal
public import proofs.«01_k».proof.Proof.Gen.AttnGateIdeal.Skeleton
public import proofs.«01_k».proof.Proof.Gen.AttnGateIdeal.Launch
public import proofs.«01_k».proof.Proof.Gen.AttnGateIdeal.Points
public import proofs.«01_k».proof.Proof.Gen.AttnGateIdeal.Frame
public import proofs.«01_k».proof.Proof.Gen.AttnGateIdeal.Value
public import proofs.«01_k».proof.Proof.Gen.AttnGateRefIdeal
public import proofs.«01_k».proof.Proof.Gen.AttnGateRefIdeal.Run
public import proofs.«01_k».proof.Proof.Gen.Pre_attn_gate_finite
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Pre_loss_finite
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Pre_norm_finite
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.Pre_pool_finite
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Pre_attn_finite
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.Pre_pool_fwd_finite
public import proofs.«01_k».proof.Proof.AttnGateClaims
public import proofs.«01_k».proof.Proof.MergeClaims
public import proofs.«01_k».proof.Proof.LossClaims
public import proofs.«01_k».proof.Proof.NormClaims
public import proofs.«01_k».proof.Proof.PoolClaims
public import proofs.«01_k».proof.Proof.AttnClaims
public import proofs.«01_k».proof.Proof.InProjClaims
public import proofs.«01_k».proof.Proof.MergeFwdClaims
public import proofs.«01_k».proof.Proof.PoolFwdClaims
public import Idealize.ShloMosaic.Adequacy
public import Idealize.ShloMosaic.Init

@[expose] public section

noncomputable section

namespace Cert.Proof

theorem claim : Cert.Claim := ⟨Cert.AttnGate.Gen.facts, Cert.AttnGateIdeal.Gen.facts, Cert.AttnGateRefIdeal.Gen.facts, Cert.Merge.Gen.facts,
  Cert.MergeIdeal.Gen.facts, Cert.MergeRefIdeal.Gen.facts, Cert.Loss.Gen.facts, Cert.LossIdeal.Gen.facts,
  Cert.LossRefIdeal.Gen.facts, Cert.Norm.Gen.facts, Cert.NormIdeal.Gen.facts, Cert.NormRefIdeal.Gen.facts,
  Cert.Pool.Gen.facts, Cert.PoolIdeal.Gen.facts, Cert.PoolRefIdeal.Gen.facts, Cert.Attn.Gen.facts,
  Cert.AttnIdeal.Gen.facts, Cert.AttnRefIdeal.Gen.facts, Cert.InProj.Gen.facts, Cert.InProjIdeal.Gen.facts,
  Cert.InProjRefIdeal.Gen.facts, Cert.MergeFwd.Gen.facts, Cert.MergeFwdIdeal.Gen.facts,
  Cert.MergeFwdRefIdeal.Gen.facts, Cert.PoolFwd.Gen.facts, Cert.PoolFwdIdeal.Gen.facts,
  Cert.PoolFwdRefIdeal.Gen.facts, Cert.Pre_attn_gate_finite.Gen.facts, Cert.Pre_loss_finite.Gen.facts,
  Cert.Pre_norm_finite.Gen.facts, Cert.Pre_pool_finite.Gen.facts, Cert.Pre_attn_finite.Gen.facts,
  Cert.Pre_pool_fwd_finite.Gen.facts,
  AttnGate.frame_p, AttnGate.frame_pi, AttnGate.frame_pi_pre, AttnGate.frame_ri, AttnGate.frame_ri_pre, Merge.frame_p,
  Merge.frame_pi, Merge.frame_ri, Loss.frame_p, Loss.frame_pi, Loss.frame_pi_pre, Loss.frame_ri, Loss.frame_ri_pre,
  Norm.frame_p, Norm.frame_pi, Norm.frame_pi_pre, Norm.frame_ri, Norm.frame_ri_pre, Pool.frame_p, Pool.frame_pi,
  Pool.frame_pi_pre, Pool.frame_ri, Pool.frame_ri_pre, Attn.frame_p, Attn.frame_pi, Attn.frame_pi_pre, Attn.frame_ri,
  Attn.frame_ri_pre, InProj.frame_p, InProj.frame_pi, InProj.frame_ri, MergeFwd.frame_p, MergeFwd.frame_pi,
  MergeFwd.frame_ri, PoolFwd.frame_p, PoolFwd.frame_pi, PoolFwd.frame_pi_pre, PoolFwd.frame_ri, PoolFwd.frame_ri_pre,
  AttnGate.preserves, AttnGate.algebraic, Merge.preserves, Merge.algebraic, Loss.preserves, Loss.algebraic,
  Norm.preserves, Norm.algebraic, Pool.preserves, Pool.algebraic, Attn.preserves, Attn.algebraic, InProj.preserves,
  InProj.algebraic, MergeFwd.preserves, MergeFwd.algebraic, PoolFwd.preserves, PoolFwd.algebraic⟩

end Cert.Proof

end
